-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_finite_proj [hPre_finite_proj : Cert.Pre_finite_proj.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10))) = (fun _ => 1#1)

def Pre_XaBwd (m : (ℓ : Loc Cert.XaBwd.nD Cert.XaBwd.τ Cert.XaBwd.sig) → Buf (Elt Bits) ℓ) : Prop :=
  True

def Pre_XaBwdIdeal (m : (ℓ : Loc Cert.XaBwdIdeal.nD Cert.XaBwdIdeal.τ Cert.XaBwdIdeal.sig) → Buf (Elt Ideal) ℓ) : Prop :=
  True

def Pre_XaBwdIdeal_finite_xa [hPre_finite_xa : Cert.Pre_finite_xa.Facts] (m : (ℓ : Loc Cert.XaBwdIdeal.nD Cert.XaBwdIdeal.τ Cert.XaBwdIdeal.sig) → Buf (Elt Ideal) ℓ) : Prop :=
  ∀ c : Dev Cert.XaBwdIdeal.nD,
    (Cert.Pre_finite_xa.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3)) (m ((c.tc : Thread Cert.XaBwdIdeal.nD Cert.XaBwdIdeal.τ).loc Cert.XaBwdIdeal.main_arg4)) (m ((c.tc : Thread Cert.XaBwdIdeal.nD Cert.XaBwdIdeal.τ).loc Cert.XaBwdIdeal.main_arg5)) (m ((c.tc : Thread Cert.XaBwdIdeal.nD Cert.XaBwdIdeal.τ).loc Cert.XaBwdIdeal.main_arg6))) = (fun _ => 1#1)

def Pre_XaRefIdeal (m : (ℓ : Loc Cert.XaRefIdeal.nD Cert.XaRefIdeal.τ Cert.XaRefIdeal.sig) → Buf (Elt Ideal) ℓ) : Prop :=
  True

def Pre_XaRefIdeal_finite_xa [hPre_finite_xa : Cert.Pre_finite_xa.Facts] (m : (ℓ : Loc Cert.XaRefIdeal.nD Cert.XaRefIdeal.τ Cert.XaRefIdeal.sig) → Buf (Elt Ideal) ℓ) : Prop :=
  ∀ c : Dev Cert.XaRefIdeal.nD,
    (Cert.Pre_finite_xa.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3)) (m ((c.tc : Thread Cert.XaRefIdeal.nD Cert.XaRefIdeal.τ).loc Cert.XaRefIdeal.main_arg4)) (m ((c.tc : Thread Cert.XaRefIdeal.nD Cert.XaRefIdeal.τ).loc Cert.XaRefIdeal.main_arg5)) (m ((c.tc : Thread Cert.XaRefIdeal.nD Cert.XaRefIdeal.τ).loc Cert.XaRefIdeal.main_arg6))) = (fun _ => 1#1)

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_JointDw (m : (ℓ : Loc Cert.JointDw.nD Cert.JointDw.τ Cert.JointDw.sig) → Buf (Elt Bits) ℓ) : Prop :=
  True

def Pre_JointDwIdeal (m : (ℓ : Loc Cert.JointDwIdeal.nD Cert.JointDwIdeal.τ Cert.JointDwIdeal.sig) → Buf (Elt Ideal) ℓ) : Prop :=
  True

def Pre_JointRefIdeal (m : (ℓ : Loc Cert.JointRefIdeal.nD Cert.JointRefIdeal.τ Cert.JointRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_SquareTRefIdeal (m : (ℓ : Loc Cert.SquareTRefIdeal.nD Cert.SquareTRefIdeal.τ Cert.SquareTRefIdeal.sig) → Buf (Elt Ideal) ℓ) : Prop :=
  True

def Pre_GatesDw (m : (ℓ : Loc Cert.GatesDw.nD Cert.GatesDw.τ Cert.GatesDw.sig) → Buf (Elt Bits) ℓ) : Prop :=
  True

def Pre_GatesDwIdeal (m : (ℓ : Loc Cert.GatesDwIdeal.nD Cert.GatesDwIdeal.τ Cert.GatesDwIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_ForgetDw (m : (ℓ : Loc Cert.ForgetDw.nD Cert.ForgetDw.τ Cert.ForgetDw.sig) → Buf (Elt Bits) ℓ) : Prop :=
  True

def Pre_ForgetDwIdeal (m : (ℓ : Loc Cert.ForgetDwIdeal.nD Cert.ForgetDwIdeal.τ Cert.ForgetDwIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_BranchDwA (m : (ℓ : Loc Cert.BranchDwA.nD Cert.BranchDwA.τ Cert.BranchDwA.sig) → Buf (Elt Bits) ℓ) : Prop :=
  True

def Pre_BranchDwAIdeal (m : (ℓ : Loc Cert.BranchDwAIdeal.nD Cert.BranchDwAIdeal.τ Cert.BranchDwAIdeal.sig) → Buf (Elt Ideal) ℓ) : Prop :=
  True

def Pre_BranchRefAIdeal (m : (ℓ : Loc Cert.BranchRefAIdeal.nD Cert.BranchRefAIdeal.τ Cert.BranchRefAIdeal.sig) → Buf (Elt Ideal) ℓ) : Prop :=
  True

def Pre_BranchDwB (m : (ℓ : Loc Cert.BranchDwB.nD Cert.BranchDwB.τ Cert.BranchDwB.sig) → Buf (Elt Bits) ℓ) : Prop :=
  True

def Pre_BranchDwBIdeal (m : (ℓ : Loc Cert.BranchDwBIdeal.nD Cert.BranchDwBIdeal.τ Cert.BranchDwBIdeal.sig) → Buf (Elt Ideal) ℓ) : Prop :=
  True

def Pre_BranchRefBIdeal (m : (ℓ : Loc Cert.BranchRefBIdeal.nD Cert.BranchRefBIdeal.τ Cert.BranchRefBIdeal.sig) → Buf (Elt Ideal) ℓ) : Prop :=
  True

def Pre_BranchDwC (m : (ℓ : Loc Cert.BranchDwC.nD Cert.BranchDwC.τ Cert.BranchDwC.sig) → Buf (Elt Bits) ℓ) : Prop :=
  True

def Pre_BranchDwCIdeal (m : (ℓ : Loc Cert.BranchDwCIdeal.nD Cert.BranchDwCIdeal.τ Cert.BranchDwCIdeal.sig) → Buf (Elt Ideal) ℓ) : Prop :=
  True

def Pre_BranchRefCIdeal (m : (ℓ : Loc Cert.BranchRefCIdeal.nD Cert.BranchRefCIdeal.τ Cert.BranchRefCIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdIdeal_finite_mb [hPre_finite_mb : Cert.Pre_finite_mb.Facts] (m : (ℓ : Loc Cert.MergeBwdIdeal.nD Cert.MergeBwdIdeal.τ Cert.MergeBwdIdeal.sig) → Buf (Elt Ideal) ℓ) : Prop :=
  ∀ c : Dev Cert.MergeBwdIdeal.nD,
    (Cert.Pre_finite_mb.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6))) = (fun _ => 1#1)

def Pre_MergeBwdRefIdeal (m : (ℓ : Loc Cert.MergeBwdRefIdeal.nD Cert.MergeBwdRefIdeal.τ Cert.MergeBwdRefIdeal.sig) → Buf (Elt Ideal) ℓ) : Prop :=
  True

def Pre_MergeBwdRefIdeal_finite_mb [hPre_finite_mb : Cert.Pre_finite_mb.Facts] (m : (ℓ : Loc Cert.MergeBwdRefIdeal.nD Cert.MergeBwdRefIdeal.τ Cert.MergeBwdRefIdeal.sig) → Buf (Elt Ideal) ℓ) : Prop :=
  ∀ c : Dev Cert.MergeBwdRefIdeal.nD,
    (Cert.Pre_finite_mb.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6))) = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_XaFwd (m : (ℓ : Loc Cert.XaFwd.nD Cert.XaFwd.τ Cert.XaFwd.sig) → Buf (Elt Bits) ℓ) : Prop :=
  True

def Pre_XaFwdIdeal (m : (ℓ : Loc Cert.XaFwdIdeal.nD Cert.XaFwdIdeal.τ Cert.XaFwdIdeal.sig) → Buf (Elt Ideal) ℓ) : Prop :=
  True

def Pre_XaFwdRefIdeal (m : (ℓ : Loc Cert.XaFwdRefIdeal.nD Cert.XaFwdRefIdeal.τ Cert.XaFwdRefIdeal.sig) → Buf (Elt Ideal) ℓ) : Prop :=
  True

def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdRefIdeal (m : (ℓ : Loc Cert.MemBwdRefIdeal.nD Cert.MemBwdRefIdeal.τ Cert.MemBwdRefIdeal.sig) → Buf (Elt Ideal) ℓ) : Prop :=
  True

def Pre_MemDw (m : (ℓ : Loc Cert.MemDw.nD Cert.MemDw.τ Cert.MemDw.sig) → Buf (Elt Bits) ℓ) : Prop :=
  True

def Pre_MemDwIdeal (m : (ℓ : Loc Cert.MemDwIdeal.nD Cert.MemDwIdeal.τ Cert.MemDwIdeal.sig) → Buf (Elt Ideal) ℓ) : Prop :=
  True

def Pre_MemDwRefIdeal (m : (ℓ : Loc Cert.MemDwRefIdeal.nD Cert.MemDwRefIdeal.τ Cert.MemDwRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6)
      ∧ r.2.mem ((c.tc : Thread Cert.ProjBwd.nD Cert.ProjBwd.τ).loc Cert.ProjBwd.main_arg7) = m ((c.tc : Thread Cert.ProjBwd.nD Cert.ProjBwd.τ).loc Cert.ProjBwd.main_arg7)
      ∧ r.2.mem ((c.tc : Thread Cert.ProjBwd.nD Cert.ProjBwd.τ).loc Cert.ProjBwd.main_arg8) = m ((c.tc : Thread Cert.ProjBwd.nD Cert.ProjBwd.τ).loc Cert.ProjBwd.main_arg8)
      ∧ r.2.mem ((c.tc : Thread Cert.ProjBwd.nD Cert.ProjBwd.τ).loc Cert.ProjBwd.main_arg9) = m ((c.tc : Thread Cert.ProjBwd.nD Cert.ProjBwd.τ).loc Cert.ProjBwd.main_arg9)
      ∧ r.2.mem ((c.tc : Thread Cert.ProjBwd.nD Cert.ProjBwd.τ).loc Cert.ProjBwd.main_arg10) = m ((c.tc : Thread Cert.ProjBwd.nD Cert.ProjBwd.τ).loc Cert.ProjBwd.main_arg10))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
      ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10))
      ∧ r.2.sem = fun _ => 0)

def quiescent_ProjBwdIdeal_pre_finite_proj [hProjBwdIdeal : Cert.ProjBwdIdeal.Facts] [hPre_finite_proj : Cert.Pre_finite_proj.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_finite_proj m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
      ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10))
      ∧ r.2.sem = fun _ => 0)

def quiescent_XaBwd [hXaBwd : Cert.XaBwd.Facts] : Prop :=
  ∀ (m : (ℓ : Loc Cert.XaBwd.nD Cert.XaBwd.τ Cert.XaBwd.sig) → Buf (Elt Bits) ℓ) (g : Dev Cert.XaBwd.nD → PrngReg), Pre_XaBwd m →
    θ_run (Cert.XaBwd.defs (F := Bits)) (onTc (τ := Cert.XaBwd.τ) (Cert.XaBwd.main (F := Bits))) ⟨m, fun _ => 0, g⟩ (fun r => (∀ c : Dev Cert.XaBwd.nD,
      r.2.mem ((c.tc : Thread Cert.XaBwd.nD Cert.XaBwd.τ).loc Cert.XaBwd.main_arg0) = m ((c.tc : Thread Cert.XaBwd.nD Cert.XaBwd.τ).loc Cert.XaBwd.main_arg0)
      ∧ r.2.mem ((c.tc : Thread Cert.XaBwd.nD Cert.XaBwd.τ).loc Cert.XaBwd.main_arg1) = m ((c.tc : Thread Cert.XaBwd.nD Cert.XaBwd.τ).loc Cert.XaBwd.main_arg1)
      ∧ r.2.mem ((c.tc : Thread Cert.XaBwd.nD Cert.XaBwd.τ).loc Cert.XaBwd.main_arg2) = m ((c.tc : Thread Cert.XaBwd.nD Cert.XaBwd.τ).loc Cert.XaBwd.main_arg2)
      ∧ r.2.mem ((c.tc : Thread Cert.XaBwd.nD Cert.XaBwd.τ).loc Cert.XaBwd.main_arg3) = m ((c.tc : Thread Cert.XaBwd.nD Cert.XaBwd.τ).loc Cert.XaBwd.main_arg3)
      ∧ r.2.mem ((c.tc : Thread Cert.XaBwd.nD Cert.XaBwd.τ).loc Cert.XaBwd.main_arg4) = m ((c.tc : Thread Cert.XaBwd.nD Cert.XaBwd.τ).loc Cert.XaBwd.main_arg4)
      ∧ r.2.mem ((c.tc : Thread Cert.XaBwd.nD Cert.XaBwd.τ).loc Cert.XaBwd.main_arg5) = m ((c.tc : Thread Cert.XaBwd.nD Cert.XaBwd.τ).loc Cert.XaBwd.main_arg5)
      ∧ r.2.mem ((c.tc : Thread Cert.XaBwd.nD Cert.XaBwd.τ).loc Cert.XaBwd.main_arg6) = m ((c.tc : Thread Cert.XaBwd.nD Cert.XaBwd.τ).loc Cert.XaBwd.main_arg6))
      ∧ r.2.sem = fun _ => 0)

def quiescent_XaBwdIdeal [hXaBwdIdeal : Cert.XaBwdIdeal.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3)
      ∧ r.2.mem ((c.tc : Thread Cert.XaBwdIdeal.nD Cert.XaBwdIdeal.τ).loc Cert.XaBwdIdeal.main_arg4) = m ((c.tc : Thread Cert.XaBwdIdeal.nD Cert.XaBwdIdeal.τ).loc Cert.XaBwdIdeal.main_arg4)
      ∧ r.2.mem ((c.tc : Thread Cert.XaBwdIdeal.nD Cert.XaBwdIdeal.τ).loc Cert.XaBwdIdeal.main_arg5) = m ((c.tc : Thread Cert.XaBwdIdeal.nD Cert.XaBwdIdeal.τ).loc Cert.XaBwdIdeal.main_arg5)
      ∧ r.2.mem ((c.tc : Thread Cert.XaBwdIdeal.nD Cert.XaBwdIdeal.τ).loc Cert.XaBwdIdeal.main_arg6) = m ((c.tc : Thread Cert.XaBwdIdeal.nD Cert.XaBwdIdeal.τ).loc Cert.XaBwdIdeal.main_arg6))
      ∧ r.2.sem = fun _ => 0)

def quiescent_XaBwdIdeal_pre_finite_xa [hXaBwdIdeal : Cert.XaBwdIdeal.Facts] [hPre_finite_xa : Cert.Pre_finite_xa.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal_finite_xa m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3)
      ∧ r.2.mem ((c.tc : Thread Cert.XaBwdIdeal.nD Cert.XaBwdIdeal.τ).loc Cert.XaBwdIdeal.main_arg4) = m ((c.tc : Thread Cert.XaBwdIdeal.nD Cert.XaBwdIdeal.τ).loc Cert.XaBwdIdeal.main_arg4)
      ∧ r.2.mem ((c.tc : Thread Cert.XaBwdIdeal.nD Cert.XaBwdIdeal.τ).loc Cert.XaBwdIdeal.main_arg5) = m ((c.tc : Thread Cert.XaBwdIdeal.nD Cert.XaBwdIdeal.τ).loc Cert.XaBwdIdeal.main_arg5)
      ∧ r.2.mem ((c.tc : Thread Cert.XaBwdIdeal.nD Cert.XaBwdIdeal.τ).loc Cert.XaBwdIdeal.main_arg6) = m ((c.tc : Thread Cert.XaBwdIdeal.nD Cert.XaBwdIdeal.τ).loc Cert.XaBwdIdeal.main_arg6))
      ∧ r.2.sem = fun _ => 0)

def quiescent_XaRefIdeal [hXaRefIdeal : Cert.XaRefIdeal.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4)
      ∧ r.2.mem ((c.tc : Thread Cert.XaRefIdeal.nD Cert.XaRefIdeal.τ).loc Cert.XaRefIdeal.main_arg5) = m ((c.tc : Thread Cert.XaRefIdeal.nD Cert.XaRefIdeal.τ).loc Cert.XaRefIdeal.main_arg5)
      ∧ r.2.mem ((c.tc : Thread Cert.XaRefIdeal.nD Cert.XaRefIdeal.τ).loc Cert.XaRefIdeal.main_arg6) = m ((c.tc : Thread Cert.XaRefIdeal.nD Cert.XaRefIdeal.τ).loc Cert.XaRefIdeal.main_arg6))
      ∧ r.2.sem = fun _ => 0)

def quiescent_XaRefIdeal_pre_finite_xa [hXaRefIdeal : Cert.XaRefIdeal.Facts] [hPre_finite_xa : Cert.Pre_finite_xa.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal_finite_xa m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4)
      ∧ r.2.mem ((c.tc : Thread Cert.XaRefIdeal.nD Cert.XaRefIdeal.τ).loc Cert.XaRefIdeal.main_arg5) = m ((c.tc : Thread Cert.XaRefIdeal.nD Cert.XaRefIdeal.τ).loc Cert.XaRefIdeal.main_arg5)
      ∧ r.2.mem ((c.tc : Thread Cert.XaRefIdeal.nD Cert.XaRefIdeal.τ).loc Cert.XaRefIdeal.main_arg6) = m ((c.tc : Thread Cert.XaRefIdeal.nD Cert.XaRefIdeal.τ).loc Cert.XaRefIdeal.main_arg6))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2))
      ∧ r.2.sem = fun _ => 0)

def quiescent_JointDw [hJointDw : Cert.JointDw.Facts] : Prop :=
  ∀ (m : (ℓ : Loc Cert.JointDw.nD Cert.JointDw.τ Cert.JointDw.sig) → Buf (Elt Bits) ℓ) (g : Dev Cert.JointDw.nD → PrngReg), Pre_JointDw m →
    θ_run (Cert.JointDw.defs (F := Bits)) (onTc (τ := Cert.JointDw.τ) (Cert.JointDw.main (F := Bits))) ⟨m, fun _ => 0, g⟩ (fun r => (∀ c : Dev Cert.JointDw.nD,
      r.2.mem ((c.tc : Thread Cert.JointDw.nD Cert.JointDw.τ).loc Cert.JointDw.main_arg0) = m ((c.tc : Thread Cert.JointDw.nD Cert.JointDw.τ).loc Cert.JointDw.main_arg0)
      ∧ r.2.mem ((c.tc : Thread Cert.JointDw.nD Cert.JointDw.τ).loc Cert.JointDw.main_arg1) = m ((c.tc : Thread Cert.JointDw.nD Cert.JointDw.τ).loc Cert.JointDw.main_arg1))
      ∧ r.2.sem = fun _ => 0)

def quiescent_JointDwIdeal [hJointDwIdeal : Cert.JointDwIdeal.Facts] : Prop :=
  ∀ (m : (ℓ : Loc Cert.JointDwIdeal.nD Cert.JointDwIdeal.τ Cert.JointDwIdeal.sig) → Buf (Elt Ideal) ℓ) (g : Dev Cert.JointDwIdeal.nD → PrngReg), Pre_JointDwIdeal m →
    θ_run (Cert.JointDwIdeal.defs (F := Ideal)) (onTc (τ := Cert.JointDwIdeal.τ) (Cert.JointDwIdeal.main (F := Ideal))) ⟨m, fun _ => 0, g⟩ (fun r => (∀ c : Dev Cert.JointDwIdeal.nD,
      r.2.mem ((c.tc : Thread Cert.JointDwIdeal.nD Cert.JointDwIdeal.τ).loc Cert.JointDwIdeal.main_arg0) = m ((c.tc : Thread Cert.JointDwIdeal.nD Cert.JointDwIdeal.τ).loc Cert.JointDwIdeal.main_arg0)
      ∧ r.2.mem ((c.tc : Thread Cert.JointDwIdeal.nD Cert.JointDwIdeal.τ).loc Cert.JointDwIdeal.main_arg1) = m ((c.tc : Thread Cert.JointDwIdeal.nD Cert.JointDwIdeal.τ).loc Cert.JointDwIdeal.main_arg1))
      ∧ r.2.sem = fun _ => 0)

def quiescent_JointRefIdeal [hJointRefIdeal : Cert.JointRefIdeal.Facts] : Prop :=
  ∀ (m : (ℓ : Loc Cert.JointRefIdeal.nD Cert.JointRefIdeal.τ Cert.JointRefIdeal.sig) → Buf (Elt Ideal) ℓ) (g : Dev Cert.JointRefIdeal.nD → PrngReg), Pre_JointRefIdeal m →
    θ_run (Cert.JointRefIdeal.defs (F := Ideal)) (onTc (τ := Cert.JointRefIdeal.τ) (Cert.JointRefIdeal.main (F := Ideal))) ⟨m, fun _ => 0, g⟩ (fun r => (∀ c : Dev Cert.JointRefIdeal.nD,
      r.2.mem ((c.tc : Thread Cert.JointRefIdeal.nD Cert.JointRefIdeal.τ).loc Cert.JointRefIdeal.main_arg0) = m ((c.tc : Thread Cert.JointRefIdeal.nD Cert.JointRefIdeal.τ).loc Cert.JointRefIdeal.main_arg0)
      ∧ r.2.mem ((c.tc : Thread Cert.JointRefIdeal.nD Cert.JointRefIdeal.τ).loc Cert.JointRefIdeal.main_arg1) = m ((c.tc : Thread Cert.JointRefIdeal.nD Cert.JointRefIdeal.τ).loc Cert.JointRefIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1))
      ∧ r.2.sem = fun _ => 0)

def quiescent_SquareTRefIdeal [hSquareTRefIdeal : Cert.SquareTRefIdeal.Facts] : Prop :=
  ∀ (m : (ℓ : Loc Cert.SquareTRefIdeal.nD Cert.SquareTRefIdeal.τ Cert.SquareTRefIdeal.sig) → Buf (Elt Ideal) ℓ) (g : Dev Cert.SquareTRefIdeal.nD → PrngReg), Pre_SquareTRefIdeal m →
    θ_run (Cert.SquareTRefIdeal.defs (F := Ideal)) (onTc (τ := Cert.SquareTRefIdeal.τ) (Cert.SquareTRefIdeal.main (F := Ideal))) ⟨m, fun _ => 0, g⟩ (fun r => (∀ c : Dev Cert.SquareTRefIdeal.nD,
      r.2.mem ((c.tc : Thread Cert.SquareTRefIdeal.nD Cert.SquareTRefIdeal.τ).loc Cert.SquareTRefIdeal.main_arg0) = m ((c.tc : Thread Cert.SquareTRefIdeal.nD Cert.SquareTRefIdeal.τ).loc Cert.SquareTRefIdeal.main_arg0)
      ∧ r.2.mem ((c.tc : Thread Cert.SquareTRefIdeal.nD Cert.SquareTRefIdeal.τ).loc Cert.SquareTRefIdeal.main_arg1) = m ((c.tc : Thread Cert.SquareTRefIdeal.nD Cert.SquareTRefIdeal.τ).loc Cert.SquareTRefIdeal.main_arg1))
      ∧ r.2.sem = fun _ => 0)

def quiescent_GatesDw [hGatesDw : Cert.GatesDw.Facts] : Prop :=
  ∀ (m : (ℓ : Loc Cert.GatesDw.nD Cert.GatesDw.τ Cert.GatesDw.sig) → Buf (Elt Bits) ℓ) (g : Dev Cert.GatesDw.nD → PrngReg), Pre_GatesDw m →
    θ_run (Cert.GatesDw.defs (F := Bits)) (onTc (τ := Cert.GatesDw.τ) (Cert.GatesDw.main (F := Bits))) ⟨m, fun _ => 0, g⟩ (fun r => (∀ c : Dev Cert.GatesDw.nD,
      r.2.mem ((c.tc : Thread Cert.GatesDw.nD Cert.GatesDw.τ).loc Cert.GatesDw.main_arg0) = m ((c.tc : Thread Cert.GatesDw.nD Cert.GatesDw.τ).loc Cert.GatesDw.main_arg0)
      ∧ r.2.mem ((c.tc : Thread Cert.GatesDw.nD Cert.GatesDw.τ).loc Cert.GatesDw.main_arg1) = m ((c.tc : Thread Cert.GatesDw.nD Cert.GatesDw.τ).loc Cert.GatesDw.main_arg1))
      ∧ r.2.sem = fun _ => 0)

def quiescent_GatesDwIdeal [hGatesDwIdeal : Cert.GatesDwIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg), Pre_GatesDwIdeal m →
    θ_run (Cert.GatesDwIdeal.defs (F := Ideal)) (onTc (τ := Cert.GatesDwIdeal.τ) (Cert.GatesDwIdeal.main (F := Ideal))) ⟨m, fun _ => 0, g⟩ (fun r => (∀ c : Dev Cert.GatesDwIdeal.nD,
      r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
      ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_ForgetDw [hForgetDw : Cert.ForgetDw.Facts] : Prop :=
  ∀ (m : (ℓ : Loc Cert.ForgetDw.nD Cert.ForgetDw.τ Cert.ForgetDw.sig) → Buf (Elt Bits) ℓ) (g : Dev Cert.ForgetDw.nD → PrngReg), Pre_ForgetDw m →
    θ_run (Cert.ForgetDw.defs (F := Bits)) (onTc (τ := Cert.ForgetDw.τ) (Cert.ForgetDw.main (F := Bits))) ⟨m, fun _ => 0, g⟩ (fun r => (∀ c : Dev Cert.ForgetDw.nD,
      r.2.mem ((c.tc : Thread Cert.ForgetDw.nD Cert.ForgetDw.τ).loc Cert.ForgetDw.main_arg0) = m ((c.tc : Thread Cert.ForgetDw.nD Cert.ForgetDw.τ).loc Cert.ForgetDw.main_arg0)
      ∧ r.2.mem ((c.tc : Thread Cert.ForgetDw.nD Cert.ForgetDw.τ).loc Cert.ForgetDw.main_arg1) = m ((c.tc : Thread Cert.ForgetDw.nD Cert.ForgetDw.τ).loc Cert.ForgetDw.main_arg1))
      ∧ r.2.sem = fun _ => 0)

def quiescent_ForgetDwIdeal [hForgetDwIdeal : Cert.ForgetDwIdeal.Facts] : Prop :=
  ∀ (m : (ℓ : Loc Cert.ForgetDwIdeal.nD Cert.ForgetDwIdeal.τ Cert.ForgetDwIdeal.sig) → Buf (Elt Ideal) ℓ) (g : Dev Cert.ForgetDwIdeal.nD → PrngReg), Pre_ForgetDwIdeal m →
    θ_run (Cert.ForgetDwIdeal.defs (F := Ideal)) (onTc (τ := Cert.ForgetDwIdeal.τ) (Cert.ForgetDwIdeal.main (F := Ideal))) ⟨m, fun _ => 0, g⟩ (fun r => (∀ c : Dev Cert.ForgetDwIdeal.nD,
      r.2.mem ((c.tc : Thread Cert.ForgetDwIdeal.nD Cert.ForgetDwIdeal.τ).loc Cert.ForgetDwIdeal.main_arg0) = m ((c.tc : Thread Cert.ForgetDwIdeal.nD Cert.ForgetDwIdeal.τ).loc Cert.ForgetDwIdeal.main_arg0)
      ∧ r.2.mem ((c.tc : Thread Cert.ForgetDwIdeal.nD Cert.ForgetDwIdeal.τ).loc Cert.ForgetDwIdeal.main_arg1) = m ((c.tc : Thread Cert.ForgetDwIdeal.nD Cert.ForgetDwIdeal.τ).loc Cert.ForgetDwIdeal.main_arg1))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1))
      ∧ r.2.sem = fun _ => 0)

def quiescent_BranchDwA [hBranchDwA : Cert.BranchDwA.Facts] : Prop :=
  ∀ (m : (ℓ : Loc Cert.BranchDwA.nD Cert.BranchDwA.τ Cert.BranchDwA.sig) → Buf (Elt Bits) ℓ) (g : Dev Cert.BranchDwA.nD → PrngReg), Pre_BranchDwA m →
    θ_run (Cert.BranchDwA.defs (F := Bits)) (onTc (τ := Cert.BranchDwA.τ) (Cert.BranchDwA.main (F := Bits))) ⟨m, fun _ => 0, g⟩ (fun r => (∀ c : Dev Cert.BranchDwA.nD,
      r.2.mem ((c.tc : Thread Cert.BranchDwA.nD Cert.BranchDwA.τ).loc Cert.BranchDwA.main_arg0) = m ((c.tc : Thread Cert.BranchDwA.nD Cert.BranchDwA.τ).loc Cert.BranchDwA.main_arg0)
      ∧ r.2.mem ((c.tc : Thread Cert.BranchDwA.nD Cert.BranchDwA.τ).loc Cert.BranchDwA.main_arg1) = m ((c.tc : Thread Cert.BranchDwA.nD Cert.BranchDwA.τ).loc Cert.BranchDwA.main_arg1))
      ∧ r.2.sem = fun _ => 0)

def quiescent_BranchDwAIdeal [hBranchDwAIdeal : Cert.BranchDwAIdeal.Facts] : Prop :=
  ∀ (m : (ℓ : Loc Cert.BranchDwAIdeal.nD Cert.BranchDwAIdeal.τ Cert.BranchDwAIdeal.sig) → Buf (Elt Ideal) ℓ) (g : Dev Cert.BranchDwAIdeal.nD → PrngReg), Pre_BranchDwAIdeal m →
    θ_run (Cert.BranchDwAIdeal.defs (F := Ideal)) (onTc (τ := Cert.BranchDwAIdeal.τ) (Cert.BranchDwAIdeal.main (F := Ideal))) ⟨m, fun _ => 0, g⟩ (fun r => (∀ c : Dev Cert.BranchDwAIdeal.nD,
      r.2.mem ((c.tc : Thread Cert.BranchDwAIdeal.nD Cert.BranchDwAIdeal.τ).loc Cert.BranchDwAIdeal.main_arg0) = m ((c.tc : Thread Cert.BranchDwAIdeal.nD Cert.BranchDwAIdeal.τ).loc Cert.BranchDwAIdeal.main_arg0)
      ∧ r.2.mem ((c.tc : Thread Cert.BranchDwAIdeal.nD Cert.BranchDwAIdeal.τ).loc Cert.BranchDwAIdeal.main_arg1) = m ((c.tc : Thread Cert.BranchDwAIdeal.nD Cert.BranchDwAIdeal.τ).loc Cert.BranchDwAIdeal.main_arg1))
      ∧ r.2.sem = fun _ => 0)

def quiescent_BranchRefAIdeal [hBranchRefAIdeal : Cert.BranchRefAIdeal.Facts] : Prop :=
  ∀ (m : (ℓ : Loc Cert.BranchRefAIdeal.nD Cert.BranchRefAIdeal.τ Cert.BranchRefAIdeal.sig) → Buf (Elt Ideal) ℓ) (g : Dev Cert.BranchRefAIdeal.nD → PrngReg), Pre_BranchRefAIdeal m →
    θ_run (Cert.BranchRefAIdeal.defs (F := Ideal)) (onTc (τ := Cert.BranchRefAIdeal.τ) (Cert.BranchRefAIdeal.main (F := Ideal))) ⟨m, fun _ => 0, g⟩ (fun r => (∀ c : Dev Cert.BranchRefAIdeal.nD,
      r.2.mem ((c.tc : Thread Cert.BranchRefAIdeal.nD Cert.BranchRefAIdeal.τ).loc Cert.BranchRefAIdeal.main_arg0) = m ((c.tc : Thread Cert.BranchRefAIdeal.nD Cert.BranchRefAIdeal.τ).loc Cert.BranchRefAIdeal.main_arg0)
      ∧ r.2.mem ((c.tc : Thread Cert.BranchRefAIdeal.nD Cert.BranchRefAIdeal.τ).loc Cert.BranchRefAIdeal.main_arg1) = m ((c.tc : Thread Cert.BranchRefAIdeal.nD Cert.BranchRefAIdeal.τ).loc Cert.BranchRefAIdeal.main_arg1))
      ∧ r.2.sem = fun _ => 0)

def quiescent_BranchDwB [hBranchDwB : Cert.BranchDwB.Facts] : Prop :=
  ∀ (m : (ℓ : Loc Cert.BranchDwB.nD Cert.BranchDwB.τ Cert.BranchDwB.sig) → Buf (Elt Bits) ℓ) (g : Dev Cert.BranchDwB.nD → PrngReg), Pre_BranchDwB m →
    θ_run (Cert.BranchDwB.defs (F := Bits)) (onTc (τ := Cert.BranchDwB.τ) (Cert.BranchDwB.main (F := Bits))) ⟨m, fun _ => 0, g⟩ (fun r => (∀ c : Dev Cert.BranchDwB.nD,
      r.2.mem ((c.tc : Thread Cert.BranchDwB.nD Cert.BranchDwB.τ).loc Cert.BranchDwB.main_arg0) = m ((c.tc : Thread Cert.BranchDwB.nD Cert.BranchDwB.τ).loc Cert.BranchDwB.main_arg0)
      ∧ r.2.mem ((c.tc : Thread Cert.BranchDwB.nD Cert.BranchDwB.τ).loc Cert.BranchDwB.main_arg1) = m ((c.tc : Thread Cert.BranchDwB.nD Cert.BranchDwB.τ).loc Cert.BranchDwB.main_arg1))
      ∧ r.2.sem = fun _ => 0)

def quiescent_BranchDwBIdeal [hBranchDwBIdeal : Cert.BranchDwBIdeal.Facts] : Prop :=
  ∀ (m : (ℓ : Loc Cert.BranchDwBIdeal.nD Cert.BranchDwBIdeal.τ Cert.BranchDwBIdeal.sig) → Buf (Elt Ideal) ℓ) (g : Dev Cert.BranchDwBIdeal.nD → PrngReg), Pre_BranchDwBIdeal m →
    θ_run (Cert.BranchDwBIdeal.defs (F := Ideal)) (onTc (τ := Cert.BranchDwBIdeal.τ) (Cert.BranchDwBIdeal.main (F := Ideal))) ⟨m, fun _ => 0, g⟩ (fun r => (∀ c : Dev Cert.BranchDwBIdeal.nD,
      r.2.mem ((c.tc : Thread Cert.BranchDwBIdeal.nD Cert.BranchDwBIdeal.τ).loc Cert.BranchDwBIdeal.main_arg0) = m ((c.tc : Thread Cert.BranchDwBIdeal.nD Cert.BranchDwBIdeal.τ).loc Cert.BranchDwBIdeal.main_arg0)
      ∧ r.2.mem ((c.tc : Thread Cert.BranchDwBIdeal.nD Cert.BranchDwBIdeal.τ).loc Cert.BranchDwBIdeal.main_arg1) = m ((c.tc : Thread Cert.BranchDwBIdeal.nD Cert.BranchDwBIdeal.τ).loc Cert.BranchDwBIdeal.main_arg1))
      ∧ r.2.sem = fun _ => 0)

def quiescent_BranchRefBIdeal [hBranchRefBIdeal : Cert.BranchRefBIdeal.Facts] : Prop :=
  ∀ (m : (ℓ : Loc Cert.BranchRefBIdeal.nD Cert.BranchRefBIdeal.τ Cert.BranchRefBIdeal.sig) → Buf (Elt Ideal) ℓ) (g : Dev Cert.BranchRefBIdeal.nD → PrngReg), Pre_BranchRefBIdeal m →
    θ_run (Cert.BranchRefBIdeal.defs (F := Ideal)) (onTc (τ := Cert.BranchRefBIdeal.τ) (Cert.BranchRefBIdeal.main (F := Ideal))) ⟨m, fun _ => 0, g⟩ (fun r => (∀ c : Dev Cert.BranchRefBIdeal.nD,
      r.2.mem ((c.tc : Thread Cert.BranchRefBIdeal.nD Cert.BranchRefBIdeal.τ).loc Cert.BranchRefBIdeal.main_arg0) = m ((c.tc : Thread Cert.BranchRefBIdeal.nD Cert.BranchRefBIdeal.τ).loc Cert.BranchRefBIdeal.main_arg0)
      ∧ r.2.mem ((c.tc : Thread Cert.BranchRefBIdeal.nD Cert.BranchRefBIdeal.τ).loc Cert.BranchRefBIdeal.main_arg1) = m ((c.tc : Thread Cert.BranchRefBIdeal.nD Cert.BranchRefBIdeal.τ).loc Cert.BranchRefBIdeal.main_arg1))
      ∧ r.2.sem = fun _ => 0)

def quiescent_BranchDwC [hBranchDwC : Cert.BranchDwC.Facts] : Prop :=
  ∀ (m : (ℓ : Loc Cert.BranchDwC.nD Cert.BranchDwC.τ Cert.BranchDwC.sig) → Buf (Elt Bits) ℓ) (g : Dev Cert.BranchDwC.nD → PrngReg), Pre_BranchDwC m →
    θ_run (Cert.BranchDwC.defs (F := Bits)) (onTc (τ := Cert.BranchDwC.τ) (Cert.BranchDwC.main (F := Bits))) ⟨m, fun _ => 0, g⟩ (fun r => (∀ c : Dev Cert.BranchDwC.nD,
      r.2.mem ((c.tc : Thread Cert.BranchDwC.nD Cert.BranchDwC.τ).loc Cert.BranchDwC.main_arg0) = m ((c.tc : Thread Cert.BranchDwC.nD Cert.BranchDwC.τ).loc Cert.BranchDwC.main_arg0)
      ∧ r.2.mem ((c.tc : Thread Cert.BranchDwC.nD Cert.BranchDwC.τ).loc Cert.BranchDwC.main_arg1) = m ((c.tc : Thread Cert.BranchDwC.nD Cert.BranchDwC.τ).loc Cert.BranchDwC.main_arg1))
      ∧ r.2.sem = fun _ => 0)

def quiescent_BranchDwCIdeal [hBranchDwCIdeal : Cert.BranchDwCIdeal.Facts] : Prop :=
  ∀ (m : (ℓ : Loc Cert.BranchDwCIdeal.nD Cert.BranchDwCIdeal.τ Cert.BranchDwCIdeal.sig) → Buf (Elt Ideal) ℓ) (g : Dev Cert.BranchDwCIdeal.nD → PrngReg), Pre_BranchDwCIdeal m →
    θ_run (Cert.BranchDwCIdeal.defs (F := Ideal)) (onTc (τ := Cert.BranchDwCIdeal.τ) (Cert.BranchDwCIdeal.main (F := Ideal))) ⟨m, fun _ => 0, g⟩ (fun r => (∀ c : Dev Cert.BranchDwCIdeal.nD,
      r.2.mem ((c.tc : Thread Cert.BranchDwCIdeal.nD Cert.BranchDwCIdeal.τ).loc Cert.BranchDwCIdeal.main_arg0) = m ((c.tc : Thread Cert.BranchDwCIdeal.nD Cert.BranchDwCIdeal.τ).loc Cert.BranchDwCIdeal.main_arg0)
      ∧ r.2.mem ((c.tc : Thread Cert.BranchDwCIdeal.nD Cert.BranchDwCIdeal.τ).loc Cert.BranchDwCIdeal.main_arg1) = m ((c.tc : Thread Cert.BranchDwCIdeal.nD Cert.BranchDwCIdeal.τ).loc Cert.BranchDwCIdeal.main_arg1))
      ∧ r.2.sem = fun _ => 0)

def quiescent_BranchRefCIdeal [hBranchRefCIdeal : Cert.BranchRefCIdeal.Facts] : Prop :=
  ∀ (m : (ℓ : Loc Cert.BranchRefCIdeal.nD Cert.BranchRefCIdeal.τ Cert.BranchRefCIdeal.sig) → Buf (Elt Ideal) ℓ) (g : Dev Cert.BranchRefCIdeal.nD → PrngReg), Pre_BranchRefCIdeal m →
    θ_run (Cert.BranchRefCIdeal.defs (F := Ideal)) (onTc (τ := Cert.BranchRefCIdeal.τ) (Cert.BranchRefCIdeal.main (F := Ideal))) ⟨m, fun _ => 0, g⟩ (fun r => (∀ c : Dev Cert.BranchRefCIdeal.nD,
      r.2.mem ((c.tc : Thread Cert.BranchRefCIdeal.nD Cert.BranchRefCIdeal.τ).loc Cert.BranchRefCIdeal.main_arg0) = m ((c.tc : Thread Cert.BranchRefCIdeal.nD Cert.BranchRefCIdeal.τ).loc Cert.BranchRefCIdeal.main_arg0)
      ∧ r.2.mem ((c.tc : Thread Cert.BranchRefCIdeal.nD Cert.BranchRefCIdeal.τ).loc Cert.BranchRefCIdeal.main_arg1) = m ((c.tc : Thread Cert.BranchRefCIdeal.nD Cert.BranchRefCIdeal.τ).loc Cert.BranchRefCIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdIdeal_pre_finite_mb [hMergeBwdIdeal : Cert.MergeBwdIdeal.Facts] [hPre_finite_mb : Cert.Pre_finite_mb.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal_finite_mb m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_MergeBwdRefIdeal_pre_finite_mb [hMergeBwdRefIdeal : Cert.MergeBwdRefIdeal.Facts] [hPre_finite_mb : Cert.Pre_finite_mb.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal_finite_mb m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_XaFwd [hXaFwd : Cert.XaFwd.Facts] : Prop :=
  ∀ (m : (ℓ : Loc Cert.XaFwd.nD Cert.XaFwd.τ Cert.XaFwd.sig) → Buf (Elt Bits) ℓ) (g : Dev Cert.XaFwd.nD → PrngReg), Pre_XaFwd m →
    θ_run (Cert.XaFwd.defs (F := Bits)) (onTc (τ := Cert.XaFwd.τ) (Cert.XaFwd.main (F := Bits))) ⟨m, fun _ => 0, g⟩ (fun r => (∀ c : Dev Cert.XaFwd.nD,
      r.2.mem ((c.tc : Thread Cert.XaFwd.nD Cert.XaFwd.τ).loc Cert.XaFwd.main_arg0) = m ((c.tc : Thread Cert.XaFwd.nD Cert.XaFwd.τ).loc Cert.XaFwd.main_arg0)
      ∧ r.2.mem ((c.tc : Thread Cert.XaFwd.nD Cert.XaFwd.τ).loc Cert.XaFwd.main_arg1) = m ((c.tc : Thread Cert.XaFwd.nD Cert.XaFwd.τ).loc Cert.XaFwd.main_arg1)
      ∧ r.2.mem ((c.tc : Thread Cert.XaFwd.nD Cert.XaFwd.τ).loc Cert.XaFwd.main_arg2) = m ((c.tc : Thread Cert.XaFwd.nD Cert.XaFwd.τ).loc Cert.XaFwd.main_arg2)
      ∧ r.2.mem ((c.tc : Thread Cert.XaFwd.nD Cert.XaFwd.τ).loc Cert.XaFwd.main_arg3) = m ((c.tc : Thread Cert.XaFwd.nD Cert.XaFwd.τ).loc Cert.XaFwd.main_arg3)
      ∧ r.2.mem ((c.tc : Thread Cert.XaFwd.nD Cert.XaFwd.τ).loc Cert.XaFwd.main_arg4) = m ((c.tc : Thread Cert.XaFwd.nD Cert.XaFwd.τ).loc Cert.XaFwd.main_arg4)
      ∧ r.2.mem ((c.tc : Thread Cert.XaFwd.nD Cert.XaFwd.τ).loc Cert.XaFwd.main_arg5) = m ((c.tc : Thread Cert.XaFwd.nD Cert.XaFwd.τ).loc Cert.XaFwd.main_arg5))
      ∧ r.2.sem = fun _ => 0)

def quiescent_XaFwdIdeal [hXaFwdIdeal : Cert.XaFwdIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg), Pre_XaFwdIdeal m →
    θ_run (Cert.XaFwdIdeal.defs (F := Ideal)) (onTc (τ := Cert.XaFwdIdeal.τ) (Cert.XaFwdIdeal.main (F := Ideal))) ⟨m, fun _ => 0, g⟩ (fun r => (∀ c : Dev Cert.XaFwdIdeal.nD,
      r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
      ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
      ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
      ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3)
      ∧ r.2.mem ((c.tc : Thread Cert.XaFwdIdeal.nD Cert.XaFwdIdeal.τ).loc Cert.XaFwdIdeal.main_arg4) = m ((c.tc : Thread Cert.XaFwdIdeal.nD Cert.XaFwdIdeal.τ).loc Cert.XaFwdIdeal.main_arg4)
      ∧ r.2.mem ((c.tc : Thread Cert.XaFwdIdeal.nD Cert.XaFwdIdeal.τ).loc Cert.XaFwdIdeal.main_arg5) = m ((c.tc : Thread Cert.XaFwdIdeal.nD Cert.XaFwdIdeal.τ).loc Cert.XaFwdIdeal.main_arg5))
      ∧ r.2.sem = fun _ => 0)

def quiescent_XaFwdRefIdeal [hXaFwdRefIdeal : Cert.XaFwdRefIdeal.Facts] : Prop :=
  ∀ (m : (ℓ : Loc Cert.XaFwdRefIdeal.nD Cert.XaFwdRefIdeal.τ Cert.XaFwdRefIdeal.sig) → Buf (Elt Ideal) ℓ) (g : Dev Cert.XaFwdRefIdeal.nD → PrngReg), Pre_XaFwdRefIdeal m →
    θ_run (Cert.XaFwdRefIdeal.defs (F := Ideal)) (onTc (τ := Cert.XaFwdRefIdeal.τ) (Cert.XaFwdRefIdeal.main (F := Ideal))) ⟨m, fun _ => 0, g⟩ (fun r => (∀ c : Dev Cert.XaFwdRefIdeal.nD,
      r.2.mem ((c.tc : Thread Cert.XaFwdRefIdeal.nD Cert.XaFwdRefIdeal.τ).loc Cert.XaFwdRefIdeal.main_arg0) = m ((c.tc : Thread Cert.XaFwdRefIdeal.nD Cert.XaFwdRefIdeal.τ).loc Cert.XaFwdRefIdeal.main_arg0)
      ∧ r.2.mem ((c.tc : Thread Cert.XaFwdRefIdeal.nD Cert.XaFwdRefIdeal.τ).loc Cert.XaFwdRefIdeal.main_arg1) = m ((c.tc : Thread Cert.XaFwdRefIdeal.nD Cert.XaFwdRefIdeal.τ).loc Cert.XaFwdRefIdeal.main_arg1)
      ∧ r.2.mem ((c.tc : Thread Cert.XaFwdRefIdeal.nD Cert.XaFwdRefIdeal.τ).loc Cert.XaFwdRefIdeal.main_arg2) = m ((c.tc : Thread Cert.XaFwdRefIdeal.nD Cert.XaFwdRefIdeal.τ).loc Cert.XaFwdRefIdeal.main_arg2)
      ∧ r.2.mem ((c.tc : Thread Cert.XaFwdRefIdeal.nD Cert.XaFwdRefIdeal.τ).loc Cert.XaFwdRefIdeal.main_arg3) = m ((c.tc : Thread Cert.XaFwdRefIdeal.nD Cert.XaFwdRefIdeal.τ).loc Cert.XaFwdRefIdeal.main_arg3)
      ∧ r.2.mem ((c.tc : Thread Cert.XaFwdRefIdeal.nD Cert.XaFwdRefIdeal.τ).loc Cert.XaFwdRefIdeal.main_arg4) = m ((c.tc : Thread Cert.XaFwdRefIdeal.nD Cert.XaFwdRefIdeal.τ).loc Cert.XaFwdRefIdeal.main_arg4)
      ∧ r.2.mem ((c.tc : Thread Cert.XaFwdRefIdeal.nD Cert.XaFwdRefIdeal.τ).loc Cert.XaFwdRefIdeal.main_arg5) = m ((c.tc : Thread Cert.XaFwdRefIdeal.nD Cert.XaFwdRefIdeal.τ).loc Cert.XaFwdRefIdeal.main_arg5))
      ∧ r.2.sem = fun _ => 0)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2)
      ∧ r.2.mem ((c.tc : Thread Cert.MemBwd.nD Cert.MemBwd.τ).loc Cert.MemBwd.main_arg3) = m ((c.tc : Thread Cert.MemBwd.nD Cert.MemBwd.τ).loc Cert.MemBwd.main_arg3)
      ∧ r.2.mem ((c.tc : Thread Cert.MemBwd.nD Cert.MemBwd.τ).loc Cert.MemBwd.main_arg4) = m ((c.tc : Thread Cert.MemBwd.nD Cert.MemBwd.τ).loc Cert.MemBwd.main_arg4)
      ∧ r.2.mem ((c.tc : Thread Cert.MemBwd.nD Cert.MemBwd.τ).loc Cert.MemBwd.main_arg5) = m ((c.tc : Thread Cert.MemBwd.nD Cert.MemBwd.τ).loc Cert.MemBwd.main_arg5))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3)
      ∧ r.2.mem ((c.tc : Thread Cert.MemBwdIdeal.nD Cert.MemBwdIdeal.τ).loc Cert.MemBwdIdeal.main_arg4) = m ((c.tc : Thread Cert.MemBwdIdeal.nD Cert.MemBwdIdeal.τ).loc Cert.MemBwdIdeal.main_arg4)
      ∧ r.2.mem ((c.tc : Thread Cert.MemBwdIdeal.nD Cert.MemBwdIdeal.τ).loc Cert.MemBwdIdeal.main_arg5) = m ((c.tc : Thread Cert.MemBwdIdeal.nD Cert.MemBwdIdeal.τ).loc Cert.MemBwdIdeal.main_arg5))
      ∧ r.2.sem = fun _ => 0)

def quiescent_MemBwdRefIdeal [hMemBwdRefIdeal : Cert.MemBwdRefIdeal.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2)
      ∧ r.2.mem ((c.tc : Thread Cert.MemBwdRefIdeal.nD Cert.MemBwdRefIdeal.τ).loc Cert.MemBwdRefIdeal.main_arg3) = m ((c.tc : Thread Cert.MemBwdRefIdeal.nD Cert.MemBwdRefIdeal.τ).loc Cert.MemBwdRefIdeal.main_arg3)
      ∧ r.2.mem ((c.tc : Thread Cert.MemBwdRefIdeal.nD Cert.MemBwdRefIdeal.τ).loc Cert.MemBwdRefIdeal.main_arg4) = m ((c.tc : Thread Cert.MemBwdRefIdeal.nD Cert.MemBwdRefIdeal.τ).loc Cert.MemBwdRefIdeal.main_arg4)
      ∧ r.2.mem ((c.tc : Thread Cert.MemBwdRefIdeal.nD Cert.MemBwdRefIdeal.τ).loc Cert.MemBwdRefIdeal.main_arg5) = m ((c.tc : Thread Cert.MemBwdRefIdeal.nD Cert.MemBwdRefIdeal.τ).loc Cert.MemBwdRefIdeal.main_arg5))
      ∧ r.2.sem = fun _ => 0)

def quiescent_MemDw [hMemDw : Cert.MemDw.Facts] : Prop :=
  ∀ (m : (ℓ : Loc Cert.MemDw.nD Cert.MemDw.τ Cert.MemDw.sig) → Buf (Elt Bits) ℓ) (g : Dev Cert.MemDw.nD → PrngReg), Pre_MemDw m →
    θ_run (Cert.MemDw.defs (F := Bits)) (onTc (τ := Cert.MemDw.τ) (Cert.MemDw.main (F := Bits))) ⟨m, fun _ => 0, g⟩ (fun r => (∀ c : Dev Cert.MemDw.nD,
      r.2.mem ((c.tc : Thread Cert.MemDw.nD Cert.MemDw.τ).loc Cert.MemDw.main_arg0) = m ((c.tc : Thread Cert.MemDw.nD Cert.MemDw.τ).loc Cert.MemDw.main_arg0)
      ∧ r.2.mem ((c.tc : Thread Cert.MemDw.nD Cert.MemDw.τ).loc Cert.MemDw.main_arg1) = m ((c.tc : Thread Cert.MemDw.nD Cert.MemDw.τ).loc Cert.MemDw.main_arg1))
      ∧ r.2.sem = fun _ => 0)

def quiescent_MemDwIdeal [hMemDwIdeal : Cert.MemDwIdeal.Facts] : Prop :=
  ∀ (m : (ℓ : Loc Cert.MemDwIdeal.nD Cert.MemDwIdeal.τ Cert.MemDwIdeal.sig) → Buf (Elt Ideal) ℓ) (g : Dev Cert.MemDwIdeal.nD → PrngReg), Pre_MemDwIdeal m →
    θ_run (Cert.MemDwIdeal.defs (F := Ideal)) (onTc (τ := Cert.MemDwIdeal.τ) (Cert.MemDwIdeal.main (F := Ideal))) ⟨m, fun _ => 0, g⟩ (fun r => (∀ c : Dev Cert.MemDwIdeal.nD,
      r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
      ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ r.2.sem = fun _ => 0)

def quiescent_MemDwRefIdeal [hMemDwRefIdeal : Cert.MemDwRefIdeal.Facts] : Prop :=
  ∀ (m : (ℓ : Loc Cert.MemDwRefIdeal.nD Cert.MemDwRefIdeal.τ Cert.MemDwRefIdeal.sig) → Buf (Elt Ideal) ℓ) (g : Dev Cert.MemDwRefIdeal.nD → PrngReg), Pre_MemDwRefIdeal m →
    θ_run (Cert.MemDwRefIdeal.defs (F := Ideal)) (onTc (τ := Cert.MemDwRefIdeal.τ) (Cert.MemDwRefIdeal.main (F := Ideal))) ⟨m, fun _ => 0, g⟩ (fun r => (∀ c : Dev Cert.MemDwRefIdeal.nD,
      r.2.mem ((c.tc : Thread Cert.MemDwRefIdeal.nD Cert.MemDwRefIdeal.τ).loc Cert.MemDwRefIdeal.main_arg0) = m ((c.tc : Thread Cert.MemDwRefIdeal.nD Cert.MemDwRefIdeal.τ).loc Cert.MemDwRefIdeal.main_arg0)
      ∧ r.2.mem ((c.tc : Thread Cert.MemDwRefIdeal.nD Cert.MemDwRefIdeal.τ).loc Cert.MemDwRefIdeal.main_arg1) = m ((c.tc : Thread Cert.MemDwRefIdeal.nD Cert.MemDwRefIdeal.τ).loc Cert.MemDwRefIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2)
      ∧ r.2.mem ((c.tc : Thread Cert.MemFwd.nD Cert.MemFwd.τ).loc Cert.MemFwd.main_arg3) = m ((c.tc : Thread Cert.MemFwd.nD Cert.MemFwd.τ).loc Cert.MemFwd.main_arg3))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
      ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2)
      ∧ r.2.mem ((c.tc : Thread Cert.MemFwdRefIdeal.nD Cert.MemFwdRefIdeal.τ).loc Cert.MemFwdRefIdeal.main_arg3) = m ((c.tc : Thread Cert.MemFwdRefIdeal.nD Cert.MemFwdRefIdeal.τ).loc Cert.MemFwdRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)) (v5 : (c : Dev Cert.KernelIdeal.nD) → Buf (Elt Ideal) ((c.tc : Thread Cert.KernelIdeal.nD Cert.KernelIdeal.τ).loc Cert.KernelIdeal.main_v21_5)) (v6 : (c : Dev Cert.KernelIdeal.nD) → Buf (Elt Ideal) ((c.tc : Thread Cert.KernelIdeal.nD Cert.KernelIdeal.τ).loc Cert.KernelIdeal.main_v21_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_v21_5) = v5 c
          ∧ r.2.mem ((c.tc : Thread Cert.KernelIdeal.nD Cert.KernelIdeal.τ).loc Cert.KernelIdeal.main_v21_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_v57) = v5 c
          ∧ r.2.mem ((c.tc : Thread Cert.ReferenceIdeal.nD Cert.ReferenceIdeal.τ).loc Cert.ReferenceIdeal.main_v35) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnDw_FfnDwIdeal : Prop :=
  True

def algebraic_FfnDwIdeal_DwRefIdeal [hFfnDwIdeal : Cert.FfnDwIdeal.Facts] [hDwRefIdeal : Cert.DwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_FfnDwIdeal m →
    (∀ c : Dev Cert.FfnDwIdeal.nD,
      m' ((c.tc : Thread Cert.DwRefIdeal.nD Cert.DwRefIdeal.τ).loc Cert.DwRefIdeal.main_arg0) = m ((c.tc : Thread Cert.FfnDwIdeal.nD Cert.FfnDwIdeal.τ).loc Cert.FfnDwIdeal.main_arg0)
      ∧ m' ((c.tc : Thread Cert.DwRefIdeal.nD Cert.DwRefIdeal.τ).loc Cert.DwRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v0)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v0) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v5) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def algebraic_FfnDwIdeal_DuRefIdeal [hFfnDwIdeal : Cert.FfnDwIdeal.Facts] [hDuRefIdeal : Cert.DuRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_FfnDwIdeal m →
    (∀ c : Dev Cert.FfnDwIdeal.nD,
      m' ((c.tc : Thread Cert.DuRefIdeal.nD Cert.DuRefIdeal.τ).loc Cert.DuRefIdeal.main_arg0) = m ((c.tc : Thread Cert.FfnDwIdeal.nD Cert.FfnDwIdeal.τ).loc Cert.FfnDwIdeal.main_arg0)
      ∧ m' ((c.tc : Thread Cert.DuRefIdeal.nD Cert.DuRefIdeal.τ).loc Cert.DuRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v0)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v0) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v6) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1))

def preserves_FfnFwd_FfnFwdIdeal : Prop :=
  True

def algebraic_FfnFwdIdeal_FwdRefIdeal [hFfnFwdIdeal : Cert.FfnFwdIdeal.Facts] [hFwdRefIdeal : Cert.FwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FfnFwdIdeal m →
    (∀ c : Dev Cert.FfnFwdIdeal.nD,
      m' ((c.tc : Thread Cert.FwdRefIdeal.nD Cert.FwdRefIdeal.τ).loc Cert.FwdRefIdeal.main_arg0) = m ((c.tc : Thread Cert.FfnFwdIdeal.nD Cert.FfnFwdIdeal.τ).loc Cert.FfnFwdIdeal.main_arg0)
      ∧ m' ((c.tc : Thread Cert.FwdRefIdeal.nD Cert.FwdRefIdeal.τ).loc Cert.FwdRefIdeal.main_arg1) = m ((c.tc : Thread Cert.FfnFwdIdeal.nD Cert.FfnFwdIdeal.τ).loc Cert.FfnFwdIdeal.main_arg1)
      ∧ m' ((c.tc : Thread Cert.FwdRefIdeal.nD Cert.FwdRefIdeal.τ).loc Cert.FwdRefIdeal.main_arg2) = m ((c.tc : Thread Cert.FfnFwdIdeal.nD Cert.FfnFwdIdeal.τ).loc Cert.FfnFwdIdeal.main_arg2)
      ∧ m' ((c.tc : Thread Cert.FwdRefIdeal.nD Cert.FwdRefIdeal.τ).loc Cert.FwdRefIdeal.main_arg3) = m ((c.tc : Thread Cert.FfnFwdIdeal.nD Cert.FfnFwdIdeal.τ).loc Cert.FfnFwdIdeal.main_arg3)
      ∧ m' ((c.tc : Thread Cert.FwdRefIdeal.nD Cert.FwdRefIdeal.τ).loc Cert.FwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)) (v2 : (c : Dev Cert.FfnFwdIdeal.nD) → Buf (Elt Ideal) ((c.tc : Thread Cert.FfnFwdIdeal.nD Cert.FfnFwdIdeal.τ).loc Cert.FfnFwdIdeal.main_v5_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_v5_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v19) = v0 c
          ∧ r.2.mem ((c.tc : Thread Cert.FwdRefIdeal.nD Cert.FwdRefIdeal.τ).loc Cert.FwdRefIdeal.main_v20) = v1 c
          ∧ r.2.mem ((c.tc : Thread Cert.FwdRefIdeal.nD Cert.FwdRefIdeal.τ).loc Cert.FwdRefIdeal.main_v21) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_ProjBwd_ProjBwdIdeal : Prop :=
  True

def algebraic_ProjBwdIdeal_ProjRefIdeal_pre_finite_proj [hProjBwdIdeal : Cert.ProjBwdIdeal.Facts] [hProjRefIdeal : Cert.ProjRefIdeal.Facts] [hPre_finite_proj : Cert.Pre_finite_proj.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjBwdIdeal_finite_proj m →
    (∀ c : Dev Cert.ProjBwdIdeal.nD,
      m' ((c.tc : Thread Cert.ProjRefIdeal.nD Cert.ProjRefIdeal.τ).loc Cert.ProjRefIdeal.main_arg0) = m ((c.tc : Thread Cert.ProjBwdIdeal.nD Cert.ProjBwdIdeal.τ).loc Cert.ProjBwdIdeal.main_arg0)
      ∧ m' ((c.tc : Thread Cert.ProjRefIdeal.nD Cert.ProjRefIdeal.τ).loc Cert.ProjRefIdeal.main_arg1) = m ((c.tc : Thread Cert.ProjBwdIdeal.nD Cert.ProjBwdIdeal.τ).loc Cert.ProjBwdIdeal.main_arg1)
      ∧ m' ((c.tc : Thread Cert.ProjRefIdeal.nD Cert.ProjRefIdeal.τ).loc Cert.ProjRefIdeal.main_arg2) = m ((c.tc : Thread Cert.ProjBwdIdeal.nD Cert.ProjBwdIdeal.τ).loc Cert.ProjBwdIdeal.main_arg2)
      ∧ m' ((c.tc : Thread Cert.ProjRefIdeal.nD Cert.ProjRefIdeal.τ).loc Cert.ProjRefIdeal.main_arg3) = m ((c.tc : Thread Cert.ProjBwdIdeal.nD Cert.ProjBwdIdeal.τ).loc Cert.ProjBwdIdeal.main_arg3)
      ∧ m' ((c.tc : Thread Cert.ProjRefIdeal.nD Cert.ProjRefIdeal.τ).loc Cert.ProjRefIdeal.main_arg4) = m ((c.tc : Thread Cert.ProjBwdIdeal.nD Cert.ProjBwdIdeal.τ).loc Cert.ProjBwdIdeal.main_arg4)
      ∧ m' ((c.tc : Thread Cert.ProjRefIdeal.nD Cert.ProjRefIdeal.τ).loc Cert.ProjRefIdeal.main_arg5) = m ((c.tc : Thread Cert.ProjBwdIdeal.nD Cert.ProjBwdIdeal.τ).loc Cert.ProjBwdIdeal.main_arg5)
      ∧ m' ((c.tc : Thread Cert.ProjRefIdeal.nD Cert.ProjRefIdeal.τ).loc Cert.ProjRefIdeal.main_arg6) = m ((c.tc : Thread Cert.ProjBwdIdeal.nD Cert.ProjBwdIdeal.τ).loc Cert.ProjBwdIdeal.main_arg6)
      ∧ m' ((c.tc : Thread Cert.ProjRefIdeal.nD Cert.ProjRefIdeal.τ).loc Cert.ProjRefIdeal.main_arg7) = m ((c.tc : Thread Cert.ProjBwdIdeal.nD Cert.ProjBwdIdeal.τ).loc Cert.ProjBwdIdeal.main_arg7)
      ∧ m' ((c.tc : Thread Cert.ProjRefIdeal.nD Cert.ProjRefIdeal.τ).loc Cert.ProjRefIdeal.main_arg8) = m ((c.tc : Thread Cert.ProjBwdIdeal.nD Cert.ProjBwdIdeal.τ).loc Cert.ProjBwdIdeal.main_arg8)
      ∧ m' ((c.tc : Thread Cert.ProjRefIdeal.nD Cert.ProjRefIdeal.τ).loc Cert.ProjRefIdeal.main_arg9) = m ((c.tc : Thread Cert.ProjBwdIdeal.nD Cert.ProjBwdIdeal.τ).loc Cert.ProjBwdIdeal.main_arg9)
      ∧ m' ((c.tc : Thread Cert.ProjRefIdeal.nD Cert.ProjRefIdeal.τ).loc Cert.ProjRefIdeal.main_arg10) = m ((c.tc : Thread Cert.ProjBwdIdeal.nD Cert.ProjBwdIdeal.τ).loc Cert.ProjBwdIdeal.main_arg10)) →
    ∃ (v0 : (c : Dev Cert.ProjBwdIdeal.nD) → Buf (Elt Ideal) ((c.tc : Thread Cert.ProjBwdIdeal.nD Cert.ProjBwdIdeal.τ).loc Cert.ProjBwdIdeal.main_v6_0)) (v1 : (c : Dev Cert.ProjBwdIdeal.nD) → Buf (Elt Ideal) ((c.tc : Thread Cert.ProjBwdIdeal.nD Cert.ProjBwdIdeal.τ).loc Cert.ProjBwdIdeal.main_v6_1)) (v2 : (c : Dev Cert.ProjBwdIdeal.nD) → Buf (Elt Ideal) ((c.tc : Thread Cert.ProjBwdIdeal.nD Cert.ProjBwdIdeal.τ).loc Cert.ProjBwdIdeal.main_v6_2)) (v3 : (c : Dev Cert.ProjBwdIdeal.nD) → Buf (Elt Ideal) ((c.tc : Thread Cert.ProjBwdIdeal.nD Cert.ProjBwdIdeal.τ).loc Cert.ProjBwdIdeal.main_v6_3)) (v4 : (c : Dev Cert.ProjBwdIdeal.nD) → Buf (Elt Ideal) ((c.tc : Thread Cert.ProjBwdIdeal.nD Cert.ProjBwdIdeal.τ).loc Cert.ProjBwdIdeal.main_v6_4)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v6_0) = v0 c
          ∧ r.2.mem ((c.tc : Thread Cert.ProjBwdIdeal.nD Cert.ProjBwdIdeal.τ).loc Cert.ProjBwdIdeal.main_v6_1) = v1 c
          ∧ r.2.mem ((c.tc : Thread Cert.ProjBwdIdeal.nD Cert.ProjBwdIdeal.τ).loc Cert.ProjBwdIdeal.main_v6_2) = v2 c
          ∧ r.2.mem ((c.tc : Thread Cert.ProjBwdIdeal.nD Cert.ProjBwdIdeal.τ).loc Cert.ProjBwdIdeal.main_v6_3) = v3 c
          ∧ r.2.mem ((c.tc : Thread Cert.ProjBwdIdeal.nD Cert.ProjBwdIdeal.τ).loc Cert.ProjBwdIdeal.main_v6_4) = v4 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
          ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
          ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
          ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
          ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v48) = v0 c
          ∧ r.2.mem ((c.tc : Thread Cert.ProjRefIdeal.nD Cert.ProjRefIdeal.τ).loc Cert.ProjRefIdeal.main_v49) = v1 c
          ∧ r.2.mem ((c.tc : Thread Cert.ProjRefIdeal.nD Cert.ProjRefIdeal.τ).loc Cert.ProjRefIdeal.main_v51) = v2 c
          ∧ r.2.mem ((c.tc : Thread Cert.ProjRefIdeal.nD Cert.ProjRefIdeal.τ).loc Cert.ProjRefIdeal.main_v52) = v3 c
          ∧ r.2.mem ((c.tc : Thread Cert.ProjRefIdeal.nD Cert.ProjRefIdeal.τ).loc Cert.ProjRefIdeal.main_v31) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10))

def preserves_XaBwd_XaBwdIdeal : Prop :=
  True

def algebraic_XaBwdIdeal_XaRefIdeal_pre_finite_xa [hXaBwdIdeal : Cert.XaBwdIdeal.Facts] [hXaRefIdeal : Cert.XaRefIdeal.Facts] [hPre_finite_xa : Cert.Pre_finite_xa.Facts] : Prop :=
  ∀ (m : (ℓ : Loc Cert.XaBwdIdeal.nD Cert.XaBwdIdeal.τ Cert.XaBwdIdeal.sig) → Buf (Elt Ideal) ℓ) (g : Dev Cert.XaBwdIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaBwdIdeal_finite_xa m →
    (∀ c : Dev Cert.XaBwdIdeal.nD,
      m' ((c.tc : Thread Cert.XaRefIdeal.nD Cert.XaRefIdeal.τ).loc Cert.XaRefIdeal.main_arg0) = m ((c.tc : Thread Cert.XaBwdIdeal.nD Cert.XaBwdIdeal.τ).loc Cert.XaBwdIdeal.main_arg0)
      ∧ m' ((c.tc : Thread Cert.XaRefIdeal.nD Cert.XaRefIdeal.τ).loc Cert.XaRefIdeal.main_arg1) = m ((c.tc : Thread Cert.XaBwdIdeal.nD Cert.XaBwdIdeal.τ).loc Cert.XaBwdIdeal.main_arg1)
      ∧ m' ((c.tc : Thread Cert.XaRefIdeal.nD Cert.XaRefIdeal.τ).loc Cert.XaRefIdeal.main_arg2) = m ((c.tc : Thread Cert.XaBwdIdeal.nD Cert.XaBwdIdeal.τ).loc Cert.XaBwdIdeal.main_arg2)
      ∧ m' ((c.tc : Thread Cert.XaRefIdeal.nD Cert.XaRefIdeal.τ).loc Cert.XaRefIdeal.main_arg3) = m ((c.tc : Thread Cert.XaBwdIdeal.nD Cert.XaBwdIdeal.τ).loc Cert.XaBwdIdeal.main_arg3)
      ∧ m' ((c.tc : Thread Cert.XaRefIdeal.nD Cert.XaRefIdeal.τ).loc Cert.XaRefIdeal.main_arg4) = m ((c.tc : Thread Cert.XaBwdIdeal.nD Cert.XaBwdIdeal.τ).loc Cert.XaBwdIdeal.main_arg4)
      ∧ m' ((c.tc : Thread Cert.XaRefIdeal.nD Cert.XaRefIdeal.τ).loc Cert.XaRefIdeal.main_arg5) = m ((c.tc : Thread Cert.XaBwdIdeal.nD Cert.XaBwdIdeal.τ).loc Cert.XaBwdIdeal.main_arg5)
      ∧ m' ((c.tc : Thread Cert.XaRefIdeal.nD Cert.XaRefIdeal.τ).loc Cert.XaRefIdeal.main_arg6) = m ((c.tc : Thread Cert.XaBwdIdeal.nD Cert.XaBwdIdeal.τ).loc Cert.XaBwdIdeal.main_arg6)) →
    ∃ (v0 : (c : Dev Cert.XaBwdIdeal.nD) → Buf (Elt Ideal) ((c.tc : Thread Cert.XaBwdIdeal.nD Cert.XaBwdIdeal.τ).loc Cert.XaBwdIdeal.main_v4_0)) (v1 : (c : Dev Cert.XaBwdIdeal.nD) → Buf (Elt Ideal) ((c.tc : Thread Cert.XaBwdIdeal.nD Cert.XaBwdIdeal.τ).loc Cert.XaBwdIdeal.main_v4_1)) (v2 : (c : Dev Cert.XaBwdIdeal.nD) → Buf (Elt Ideal) ((c.tc : Thread Cert.XaBwdIdeal.nD Cert.XaBwdIdeal.τ).loc Cert.XaBwdIdeal.main_v4_2)) (v3 : (c : Dev Cert.XaBwdIdeal.nD) → Buf (Elt Ideal) ((c.tc : Thread Cert.XaBwdIdeal.nD Cert.XaBwdIdeal.τ).loc Cert.XaBwdIdeal.main_v4_3)) (v4 : (c : Dev Cert.XaBwdIdeal.nD) → Buf (Elt Ideal) ((c.tc : Thread Cert.XaBwdIdeal.nD Cert.XaBwdIdeal.τ).loc Cert.XaBwdIdeal.main_v4_4)) (v5 : (c : Dev Cert.XaBwdIdeal.nD) → Buf (Elt Ideal) ((c.tc : Thread Cert.XaBwdIdeal.nD Cert.XaBwdIdeal.τ).loc Cert.XaBwdIdeal.main_v4_5)) (v6 : (c : Dev Cert.XaBwdIdeal.nD) → Buf (Elt Ideal) ((c.tc : Thread Cert.XaBwdIdeal.nD Cert.XaBwdIdeal.τ).loc Cert.XaBwdIdeal.main_v4_6)) (v7 : (c : Dev Cert.XaBwdIdeal.nD) → Buf (Elt Ideal) ((c.tc : Thread Cert.XaBwdIdeal.nD Cert.XaBwdIdeal.τ).loc Cert.XaBwdIdeal.main_v4_7)),
      θ_run (Cert.XaBwdIdeal.defs (F := Ideal)) (onTc (τ := Cert.XaBwdIdeal.τ) (Cert.XaBwdIdeal.main (F := Ideal))) ⟨m, fun _ => 0, g⟩ (fun r => ∀ c : Dev Cert.XaBwdIdeal.nD,
          r.2.mem ((c.tc : Thread Cert.XaBwdIdeal.nD Cert.XaBwdIdeal.τ).loc Cert.XaBwdIdeal.main_v4_0) = v0 c
          ∧ r.2.mem ((c.tc : Thread Cert.XaBwdIdeal.nD Cert.XaBwdIdeal.τ).loc Cert.XaBwdIdeal.main_v4_1) = v1 c
          ∧ r.2.mem ((c.tc : Thread Cert.XaBwdIdeal.nD Cert.XaBwdIdeal.τ).loc Cert.XaBwdIdeal.main_v4_2) = v2 c
          ∧ r.2.mem ((c.tc : Thread Cert.XaBwdIdeal.nD Cert.XaBwdIdeal.τ).loc Cert.XaBwdIdeal.main_v4_3) = v3 c
          ∧ r.2.mem ((c.tc : Thread Cert.XaBwdIdeal.nD Cert.XaBwdIdeal.τ).loc Cert.XaBwdIdeal.main_v4_4) = v4 c
          ∧ r.2.mem ((c.tc : Thread Cert.XaBwdIdeal.nD Cert.XaBwdIdeal.τ).loc Cert.XaBwdIdeal.main_v4_5) = v5 c
          ∧ r.2.mem ((c.tc : Thread Cert.XaBwdIdeal.nD Cert.XaBwdIdeal.τ).loc Cert.XaBwdIdeal.main_v4_6) = v6 c
          ∧ r.2.mem ((c.tc : Thread Cert.XaBwdIdeal.nD Cert.XaBwdIdeal.τ).loc Cert.XaBwdIdeal.main_v4_7) = v7 c
          ∧ r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
          ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
          ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
          ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3)
          ∧ r.2.mem ((c.tc : Thread Cert.XaBwdIdeal.nD Cert.XaBwdIdeal.τ).loc Cert.XaBwdIdeal.main_arg4) = m ((c.tc : Thread Cert.XaBwdIdeal.nD Cert.XaBwdIdeal.τ).loc Cert.XaBwdIdeal.main_arg4)
          ∧ r.2.mem ((c.tc : Thread Cert.XaBwdIdeal.nD Cert.XaBwdIdeal.τ).loc Cert.XaBwdIdeal.main_arg5) = m ((c.tc : Thread Cert.XaBwdIdeal.nD Cert.XaBwdIdeal.τ).loc Cert.XaBwdIdeal.main_arg5)
          ∧ r.2.mem ((c.tc : Thread Cert.XaBwdIdeal.nD Cert.XaBwdIdeal.τ).loc Cert.XaBwdIdeal.main_arg6) = m ((c.tc : Thread Cert.XaBwdIdeal.nD Cert.XaBwdIdeal.τ).loc Cert.XaBwdIdeal.main_arg6))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v103) = v0 c
          ∧ r.2.mem ((c.tc : Thread Cert.XaRefIdeal.nD Cert.XaRefIdeal.τ).loc Cert.XaRefIdeal.main_v104) = v1 c
          ∧ r.2.mem ((c.tc : Thread Cert.XaRefIdeal.nD Cert.XaRefIdeal.τ).loc Cert.XaRefIdeal.main_v105) = v2 c
          ∧ r.2.mem ((c.tc : Thread Cert.XaRefIdeal.nD Cert.XaRefIdeal.τ).loc Cert.XaRefIdeal.main_v106) = v3 c
          ∧ r.2.mem ((c.tc : Thread Cert.XaRefIdeal.nD Cert.XaRefIdeal.τ).loc Cert.XaRefIdeal.main_v107) = v4 c
          ∧ r.2.mem ((c.tc : Thread Cert.XaRefIdeal.nD Cert.XaRefIdeal.τ).loc Cert.XaRefIdeal.main_v81) = v5 c
          ∧ r.2.mem ((c.tc : Thread Cert.XaRefIdeal.nD Cert.XaRefIdeal.τ).loc Cert.XaRefIdeal.main_v62) = v6 c
          ∧ r.2.mem ((c.tc : Thread Cert.XaRefIdeal.nD Cert.XaRefIdeal.τ).loc Cert.XaRefIdeal.main_v86) = v7 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2)
          ∧ r.2.mem ((c.tc : Thread Cert.XaRefIdeal.nD Cert.XaRefIdeal.τ).loc Cert.XaRefIdeal.main_arg3) = m' ((c.tc : Thread Cert.XaRefIdeal.nD Cert.XaRefIdeal.τ).loc Cert.XaRefIdeal.main_arg3)
          ∧ r.2.mem ((c.tc : Thread Cert.XaRefIdeal.nD Cert.XaRefIdeal.τ).loc Cert.XaRefIdeal.main_arg4) = m' ((c.tc : Thread Cert.XaRefIdeal.nD Cert.XaRefIdeal.τ).loc Cert.XaRefIdeal.main_arg4)
          ∧ r.2.mem ((c.tc : Thread Cert.XaRefIdeal.nD Cert.XaRefIdeal.τ).loc Cert.XaRefIdeal.main_arg5) = m' ((c.tc : Thread Cert.XaRefIdeal.nD Cert.XaRefIdeal.τ).loc Cert.XaRefIdeal.main_arg5)
          ∧ r.2.mem ((c.tc : Thread Cert.XaRefIdeal.nD Cert.XaRefIdeal.τ).loc Cert.XaRefIdeal.main_arg6) = m' ((c.tc : Thread Cert.XaRefIdeal.nD Cert.XaRefIdeal.τ).loc Cert.XaRefIdeal.main_arg6))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)) →
    ∃ (v0 : (c : Dev Cert.ProjFwdIdeal.nD) → Buf (Elt Ideal) ((c.tc : Thread Cert.ProjFwdIdeal.nD Cert.ProjFwdIdeal.τ).loc Cert.ProjFwdIdeal.main_v6_0)) (v1 : (c : Dev Cert.ProjFwdIdeal.nD) → Buf (Elt Ideal) ((c.tc : Thread Cert.ProjFwdIdeal.nD Cert.ProjFwdIdeal.τ).loc Cert.ProjFwdIdeal.main_v6_1)) (v2 : (c : Dev Cert.ProjFwdIdeal.nD) → Buf (Elt Ideal) ((c.tc : Thread Cert.ProjFwdIdeal.nD Cert.ProjFwdIdeal.τ).loc Cert.ProjFwdIdeal.main_v6_2)) (v3 : (c : Dev Cert.ProjFwdIdeal.nD) → Buf (Elt Ideal) ((c.tc : Thread Cert.ProjFwdIdeal.nD Cert.ProjFwdIdeal.τ).loc Cert.ProjFwdIdeal.main_v6_3)) (v4 : (c : Dev Cert.ProjFwdIdeal.nD) → Buf (Elt Ideal) ((c.tc : Thread Cert.ProjFwdIdeal.nD Cert.ProjFwdIdeal.τ).loc Cert.ProjFwdIdeal.main_v6_4)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v6_0) = v0 c
          ∧ r.2.mem ((c.tc : Thread Cert.ProjFwdIdeal.nD Cert.ProjFwdIdeal.τ).loc Cert.ProjFwdIdeal.main_v6_1) = v1 c
          ∧ r.2.mem ((c.tc : Thread Cert.ProjFwdIdeal.nD Cert.ProjFwdIdeal.τ).loc Cert.ProjFwdIdeal.main_v6_2) = v2 c
          ∧ r.2.mem ((c.tc : Thread Cert.ProjFwdIdeal.nD Cert.ProjFwdIdeal.τ).loc Cert.ProjFwdIdeal.main_v6_3) = v3 c
          ∧ r.2.mem ((c.tc : Thread Cert.ProjFwdIdeal.nD Cert.ProjFwdIdeal.τ).loc Cert.ProjFwdIdeal.main_v6_4) = v4 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v20) = v0 c
          ∧ r.2.mem ((c.tc : Thread Cert.ProjFwdRefIdeal.nD Cert.ProjFwdRefIdeal.τ).loc Cert.ProjFwdRefIdeal.main_v21) = v1 c
          ∧ r.2.mem ((c.tc : Thread Cert.ProjFwdRefIdeal.nD Cert.ProjFwdRefIdeal.τ).loc Cert.ProjFwdRefIdeal.main_v23) = v2 c
          ∧ r.2.mem ((c.tc : Thread Cert.ProjFwdRefIdeal.nD Cert.ProjFwdRefIdeal.τ).loc Cert.ProjFwdRefIdeal.main_v24) = v3 c
          ∧ r.2.mem ((c.tc : Thread Cert.ProjFwdRefIdeal.nD Cert.ProjFwdRefIdeal.τ).loc Cert.ProjFwdRefIdeal.main_v25) = v4 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2))

def preserves_JointDw_JointDwIdeal : Prop :=
  True

def algebraic_JointDwIdeal_JointRefIdeal [hJointDwIdeal : Cert.JointDwIdeal.Facts] [hJointRefIdeal : Cert.JointRefIdeal.Facts] : Prop :=
  ∀ (m : (ℓ : Loc Cert.JointDwIdeal.nD Cert.JointDwIdeal.τ Cert.JointDwIdeal.sig) → Buf (Elt Ideal) ℓ) (g : Dev Cert.JointDwIdeal.nD → PrngReg)
    (m' : (ℓ : Loc Cert.JointRefIdeal.nD Cert.JointRefIdeal.τ Cert.JointRefIdeal.sig) → Buf (Elt Ideal) ℓ) (g' : Dev Cert.JointRefIdeal.nD → PrngReg), Pre_JointDwIdeal m →
    (∀ c : Dev Cert.JointDwIdeal.nD,
      m' ((c.tc : Thread Cert.JointRefIdeal.nD Cert.JointRefIdeal.τ).loc Cert.JointRefIdeal.main_arg0) = m ((c.tc : Thread Cert.JointDwIdeal.nD Cert.JointDwIdeal.τ).loc Cert.JointDwIdeal.main_arg0)
      ∧ m' ((c.tc : Thread Cert.JointRefIdeal.nD Cert.JointRefIdeal.τ).loc Cert.JointRefIdeal.main_arg1) = m ((c.tc : Thread Cert.JointDwIdeal.nD Cert.JointDwIdeal.τ).loc Cert.JointDwIdeal.main_arg1)) →
    ∃ (v0 : (c : Dev Cert.JointDwIdeal.nD) → Buf (Elt Ideal) ((c.tc : Thread Cert.JointDwIdeal.nD Cert.JointDwIdeal.τ).loc Cert.JointDwIdeal.main_v0)),
      θ_run (Cert.JointDwIdeal.defs (F := Ideal)) (onTc (τ := Cert.JointDwIdeal.τ) (Cert.JointDwIdeal.main (F := Ideal))) ⟨m, fun _ => 0, g⟩ (fun r => ∀ c : Dev Cert.JointDwIdeal.nD,
          r.2.mem ((c.tc : Thread Cert.JointDwIdeal.nD Cert.JointDwIdeal.τ).loc Cert.JointDwIdeal.main_v0) = v0 c
          ∧ r.2.mem ((c.tc : Thread Cert.JointDwIdeal.nD Cert.JointDwIdeal.τ).loc Cert.JointDwIdeal.main_arg0) = m ((c.tc : Thread Cert.JointDwIdeal.nD Cert.JointDwIdeal.τ).loc Cert.JointDwIdeal.main_arg0)
          ∧ r.2.mem ((c.tc : Thread Cert.JointDwIdeal.nD Cert.JointDwIdeal.τ).loc Cert.JointDwIdeal.main_arg1) = m ((c.tc : Thread Cert.JointDwIdeal.nD Cert.JointDwIdeal.τ).loc Cert.JointDwIdeal.main_arg1))
      ∧ θ_run (Cert.JointRefIdeal.defs (F := Ideal)) (onTc (τ := Cert.JointRefIdeal.τ) (Cert.JointRefIdeal.main (F := Ideal))) ⟨m', fun _ => 0, g'⟩ (fun r => ∀ c : Dev Cert.JointRefIdeal.nD,
          r.2.mem ((c.tc : Thread Cert.JointRefIdeal.nD Cert.JointRefIdeal.τ).loc Cert.JointRefIdeal.main_v6) = v0 c
          ∧ r.2.mem ((c.tc : Thread Cert.JointRefIdeal.nD Cert.JointRefIdeal.τ).loc Cert.JointRefIdeal.main_arg0) = m' ((c.tc : Thread Cert.JointRefIdeal.nD Cert.JointRefIdeal.τ).loc Cert.JointRefIdeal.main_arg0)
          ∧ r.2.mem ((c.tc : Thread Cert.JointRefIdeal.nD Cert.JointRefIdeal.τ).loc Cert.JointRefIdeal.main_arg1) = m' ((c.tc : Thread Cert.JointRefIdeal.nD Cert.JointRefIdeal.τ).loc Cert.JointRefIdeal.main_arg1))

def preserves_SquareDw_SquareDwIdeal : Prop :=
  True

def algebraic_SquareDwIdeal_SquareRefIdeal [hSquareDwIdeal : Cert.SquareDwIdeal.Facts] [hSquareRefIdeal : Cert.SquareRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareDwIdeal m →
    (∀ c : Dev Cert.SquareDwIdeal.nD,
      m' ((c.tc : Thread Cert.SquareRefIdeal.nD Cert.SquareRefIdeal.τ).loc Cert.SquareRefIdeal.main_arg0) = m ((c.tc : Thread Cert.SquareDwIdeal.nD Cert.SquareDwIdeal.τ).loc Cert.SquareDwIdeal.main_arg0)
      ∧ m' ((c.tc : Thread Cert.SquareRefIdeal.nD Cert.SquareRefIdeal.τ).loc Cert.SquareRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v5) = v0 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1))

def algebraic_SquareDwIdeal_SquareTRefIdeal [hSquareDwIdeal : Cert.SquareDwIdeal.Facts] [hSquareTRefIdeal : Cert.SquareTRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareTRefIdeal.nD Cert.SquareTRefIdeal.τ Cert.SquareTRefIdeal.sig) → Buf (Elt Ideal) ℓ) (g' : Dev Cert.SquareTRefIdeal.nD → PrngReg), Pre_SquareDwIdeal m →
    (∀ c : Dev Cert.SquareDwIdeal.nD,
      m' ((c.tc : Thread Cert.SquareTRefIdeal.nD Cert.SquareTRefIdeal.τ).loc Cert.SquareTRefIdeal.main_arg0) = m ((c.tc : Thread Cert.SquareDwIdeal.nD Cert.SquareDwIdeal.τ).loc Cert.SquareDwIdeal.main_arg0)
      ∧ m' ((c.tc : Thread Cert.SquareTRefIdeal.nD Cert.SquareTRefIdeal.τ).loc Cert.SquareTRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareTRefIdeal.defs (F := Ideal)) (onTc (τ := Cert.SquareTRefIdeal.τ) (Cert.SquareTRefIdeal.main (F := Ideal))) ⟨m', fun _ => 0, g'⟩ (fun r => ∀ c : Dev Cert.SquareTRefIdeal.nD,
          r.2.mem ((c.tc : Thread Cert.SquareTRefIdeal.nD Cert.SquareTRefIdeal.τ).loc Cert.SquareTRefIdeal.main_v6) = v0 c
          ∧ r.2.mem ((c.tc : Thread Cert.SquareTRefIdeal.nD Cert.SquareTRefIdeal.τ).loc Cert.SquareTRefIdeal.main_arg0) = m' ((c.tc : Thread Cert.SquareTRefIdeal.nD Cert.SquareTRefIdeal.τ).loc Cert.SquareTRefIdeal.main_arg0)
          ∧ r.2.mem ((c.tc : Thread Cert.SquareTRefIdeal.nD Cert.SquareTRefIdeal.τ).loc Cert.SquareTRefIdeal.main_arg1) = m' ((c.tc : Thread Cert.SquareTRefIdeal.nD Cert.SquareTRefIdeal.τ).loc Cert.SquareTRefIdeal.main_arg1))

def preserves_GatesDw_GatesDwIdeal : Prop :=
  True

def algebraic_GatesDwIdeal_GatesRefIdeal [hGatesDwIdeal : Cert.GatesDwIdeal.Facts] [hGatesRefIdeal : Cert.GatesRefIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesDwIdeal m →
    (∀ c : Dev Cert.GatesDwIdeal.nD,
      m' ((c.tc : Thread Cert.GatesRefIdeal.nD Cert.GatesRefIdeal.τ).loc Cert.GatesRefIdeal.main_arg0) = m ((c.tc : Thread Cert.GatesDwIdeal.nD Cert.GatesDwIdeal.τ).loc Cert.GatesDwIdeal.main_arg0)
      ∧ m' ((c.tc : Thread Cert.GatesRefIdeal.nD Cert.GatesRefIdeal.τ).loc Cert.GatesRefIdeal.main_arg1) = m ((c.tc : Thread Cert.GatesDwIdeal.nD Cert.GatesDwIdeal.τ).loc Cert.GatesDwIdeal.main_arg1)) →
    ∃ (v0 : (c : Dev Cert.GatesDwIdeal.nD) → Buf (Elt Ideal) ((c.tc : Thread Cert.GatesDwIdeal.nD Cert.GatesDwIdeal.τ).loc Cert.GatesDwIdeal.main_v0)),
      θ_run (Cert.GatesDwIdeal.defs (F := Ideal)) (onTc (τ := Cert.GatesDwIdeal.τ) (Cert.GatesDwIdeal.main (F := Ideal))) ⟨m, fun _ => 0, g⟩ (fun r => ∀ c : Dev Cert.GatesDwIdeal.nD,
          r.2.mem ((c.tc : Thread Cert.GatesDwIdeal.nD Cert.GatesDwIdeal.τ).loc Cert.GatesDwIdeal.main_v0) = v0 c
          ∧ r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
          ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v6) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_ForgetDw_ForgetDwIdeal : Prop :=
  True

def algebraic_ForgetDwIdeal_ForgetRefIdeal [hForgetDwIdeal : Cert.ForgetDwIdeal.Facts] [hForgetRefIdeal : Cert.ForgetRefIdeal.Facts] : Prop :=
  ∀ (m : (ℓ : Loc Cert.ForgetDwIdeal.nD Cert.ForgetDwIdeal.τ Cert.ForgetDwIdeal.sig) → Buf (Elt Ideal) ℓ) (g : Dev Cert.ForgetDwIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetDwIdeal m →
    (∀ c : Dev Cert.ForgetDwIdeal.nD,
      m' ((c.tc : Thread Cert.ForgetRefIdeal.nD Cert.ForgetRefIdeal.τ).loc Cert.ForgetRefIdeal.main_arg0) = m ((c.tc : Thread Cert.ForgetDwIdeal.nD Cert.ForgetDwIdeal.τ).loc Cert.ForgetDwIdeal.main_arg0)
      ∧ m' ((c.tc : Thread Cert.ForgetRefIdeal.nD Cert.ForgetRefIdeal.τ).loc Cert.ForgetRefIdeal.main_arg1) = m ((c.tc : Thread Cert.ForgetDwIdeal.nD Cert.ForgetDwIdeal.τ).loc Cert.ForgetDwIdeal.main_arg1)) →
    ∃ (v0 : (c : Dev Cert.ForgetDwIdeal.nD) → Buf (Elt Ideal) ((c.tc : Thread Cert.ForgetDwIdeal.nD Cert.ForgetDwIdeal.τ).loc Cert.ForgetDwIdeal.main_v0)),
      θ_run (Cert.ForgetDwIdeal.defs (F := Ideal)) (onTc (τ := Cert.ForgetDwIdeal.τ) (Cert.ForgetDwIdeal.main (F := Ideal))) ⟨m, fun _ => 0, g⟩ (fun r => ∀ c : Dev Cert.ForgetDwIdeal.nD,
          r.2.mem ((c.tc : Thread Cert.ForgetDwIdeal.nD Cert.ForgetDwIdeal.τ).loc Cert.ForgetDwIdeal.main_v0) = v0 c
          ∧ r.2.mem ((c.tc : Thread Cert.ForgetDwIdeal.nD Cert.ForgetDwIdeal.τ).loc Cert.ForgetDwIdeal.main_arg0) = m ((c.tc : Thread Cert.ForgetDwIdeal.nD Cert.ForgetDwIdeal.τ).loc Cert.ForgetDwIdeal.main_arg0)
          ∧ r.2.mem ((c.tc : Thread Cert.ForgetDwIdeal.nD Cert.ForgetDwIdeal.τ).loc Cert.ForgetDwIdeal.main_arg1) = m ((c.tc : Thread Cert.ForgetDwIdeal.nD Cert.ForgetDwIdeal.τ).loc Cert.ForgetDwIdeal.main_arg1))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v6) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1))

def preserves_BranchDwA_BranchDwAIdeal : Prop :=
  True

def algebraic_BranchDwAIdeal_BranchRefAIdeal [hBranchDwAIdeal : Cert.BranchDwAIdeal.Facts] [hBranchRefAIdeal : Cert.BranchRefAIdeal.Facts] : Prop :=
  ∀ (m : (ℓ : Loc Cert.BranchDwAIdeal.nD Cert.BranchDwAIdeal.τ Cert.BranchDwAIdeal.sig) → Buf (Elt Ideal) ℓ) (g : Dev Cert.BranchDwAIdeal.nD → PrngReg)
    (m' : (ℓ : Loc Cert.BranchRefAIdeal.nD Cert.BranchRefAIdeal.τ Cert.BranchRefAIdeal.sig) → Buf (Elt Ideal) ℓ) (g' : Dev Cert.BranchRefAIdeal.nD → PrngReg), Pre_BranchDwAIdeal m →
    (∀ c : Dev Cert.BranchDwAIdeal.nD,
      m' ((c.tc : Thread Cert.BranchRefAIdeal.nD Cert.BranchRefAIdeal.τ).loc Cert.BranchRefAIdeal.main_arg0) = m ((c.tc : Thread Cert.BranchDwAIdeal.nD Cert.BranchDwAIdeal.τ).loc Cert.BranchDwAIdeal.main_arg0)
      ∧ m' ((c.tc : Thread Cert.BranchRefAIdeal.nD Cert.BranchRefAIdeal.τ).loc Cert.BranchRefAIdeal.main_arg1) = m ((c.tc : Thread Cert.BranchDwAIdeal.nD Cert.BranchDwAIdeal.τ).loc Cert.BranchDwAIdeal.main_arg1)) →
    ∃ (v0 : (c : Dev Cert.BranchDwAIdeal.nD) → Buf (Elt Ideal) ((c.tc : Thread Cert.BranchDwAIdeal.nD Cert.BranchDwAIdeal.τ).loc Cert.BranchDwAIdeal.main_v0)),
      θ_run (Cert.BranchDwAIdeal.defs (F := Ideal)) (onTc (τ := Cert.BranchDwAIdeal.τ) (Cert.BranchDwAIdeal.main (F := Ideal))) ⟨m, fun _ => 0, g⟩ (fun r => ∀ c : Dev Cert.BranchDwAIdeal.nD,
          r.2.mem ((c.tc : Thread Cert.BranchDwAIdeal.nD Cert.BranchDwAIdeal.τ).loc Cert.BranchDwAIdeal.main_v0) = v0 c
          ∧ r.2.mem ((c.tc : Thread Cert.BranchDwAIdeal.nD Cert.BranchDwAIdeal.τ).loc Cert.BranchDwAIdeal.main_arg0) = m ((c.tc : Thread Cert.BranchDwAIdeal.nD Cert.BranchDwAIdeal.τ).loc Cert.BranchDwAIdeal.main_arg0)
          ∧ r.2.mem ((c.tc : Thread Cert.BranchDwAIdeal.nD Cert.BranchDwAIdeal.τ).loc Cert.BranchDwAIdeal.main_arg1) = m ((c.tc : Thread Cert.BranchDwAIdeal.nD Cert.BranchDwAIdeal.τ).loc Cert.BranchDwAIdeal.main_arg1))
      ∧ θ_run (Cert.BranchRefAIdeal.defs (F := Ideal)) (onTc (τ := Cert.BranchRefAIdeal.τ) (Cert.BranchRefAIdeal.main (F := Ideal))) ⟨m', fun _ => 0, g'⟩ (fun r => ∀ c : Dev Cert.BranchRefAIdeal.nD,
          r.2.mem ((c.tc : Thread Cert.BranchRefAIdeal.nD Cert.BranchRefAIdeal.τ).loc Cert.BranchRefAIdeal.main_v6) = v0 c
          ∧ r.2.mem ((c.tc : Thread Cert.BranchRefAIdeal.nD Cert.BranchRefAIdeal.τ).loc Cert.BranchRefAIdeal.main_arg0) = m' ((c.tc : Thread Cert.BranchRefAIdeal.nD Cert.BranchRefAIdeal.τ).loc Cert.BranchRefAIdeal.main_arg0)
          ∧ r.2.mem ((c.tc : Thread Cert.BranchRefAIdeal.nD Cert.BranchRefAIdeal.τ).loc Cert.BranchRefAIdeal.main_arg1) = m' ((c.tc : Thread Cert.BranchRefAIdeal.nD Cert.BranchRefAIdeal.τ).loc Cert.BranchRefAIdeal.main_arg1))

def preserves_BranchDwB_BranchDwBIdeal : Prop :=
  True

def algebraic_BranchDwBIdeal_BranchRefBIdeal [hBranchDwBIdeal : Cert.BranchDwBIdeal.Facts] [hBranchRefBIdeal : Cert.BranchRefBIdeal.Facts] : Prop :=
  ∀ (m : (ℓ : Loc Cert.BranchDwBIdeal.nD Cert.BranchDwBIdeal.τ Cert.BranchDwBIdeal.sig) → Buf (Elt Ideal) ℓ) (g : Dev Cert.BranchDwBIdeal.nD → PrngReg)
    (m' : (ℓ : Loc Cert.BranchRefBIdeal.nD Cert.BranchRefBIdeal.τ Cert.BranchRefBIdeal.sig) → Buf (Elt Ideal) ℓ) (g' : Dev Cert.BranchRefBIdeal.nD → PrngReg), Pre_BranchDwBIdeal m →
    (∀ c : Dev Cert.BranchDwBIdeal.nD,
      m' ((c.tc : Thread Cert.BranchRefBIdeal.nD Cert.BranchRefBIdeal.τ).loc Cert.BranchRefBIdeal.main_arg0) = m ((c.tc : Thread Cert.BranchDwBIdeal.nD Cert.BranchDwBIdeal.τ).loc Cert.BranchDwBIdeal.main_arg0)
      ∧ m' ((c.tc : Thread Cert.BranchRefBIdeal.nD Cert.BranchRefBIdeal.τ).loc Cert.BranchRefBIdeal.main_arg1) = m ((c.tc : Thread Cert.BranchDwBIdeal.nD Cert.BranchDwBIdeal.τ).loc Cert.BranchDwBIdeal.main_arg1)) →
    ∃ (v0 : (c : Dev Cert.BranchDwBIdeal.nD) → Buf (Elt Ideal) ((c.tc : Thread Cert.BranchDwBIdeal.nD Cert.BranchDwBIdeal.τ).loc Cert.BranchDwBIdeal.main_v0)),
      θ_run (Cert.BranchDwBIdeal.defs (F := Ideal)) (onTc (τ := Cert.BranchDwBIdeal.τ) (Cert.BranchDwBIdeal.main (F := Ideal))) ⟨m, fun _ => 0, g⟩ (fun r => ∀ c : Dev Cert.BranchDwBIdeal.nD,
          r.2.mem ((c.tc : Thread Cert.BranchDwBIdeal.nD Cert.BranchDwBIdeal.τ).loc Cert.BranchDwBIdeal.main_v0) = v0 c
          ∧ r.2.mem ((c.tc : Thread Cert.BranchDwBIdeal.nD Cert.BranchDwBIdeal.τ).loc Cert.BranchDwBIdeal.main_arg0) = m ((c.tc : Thread Cert.BranchDwBIdeal.nD Cert.BranchDwBIdeal.τ).loc Cert.BranchDwBIdeal.main_arg0)
          ∧ r.2.mem ((c.tc : Thread Cert.BranchDwBIdeal.nD Cert.BranchDwBIdeal.τ).loc Cert.BranchDwBIdeal.main_arg1) = m ((c.tc : Thread Cert.BranchDwBIdeal.nD Cert.BranchDwBIdeal.τ).loc Cert.BranchDwBIdeal.main_arg1))
      ∧ θ_run (Cert.BranchRefBIdeal.defs (F := Ideal)) (onTc (τ := Cert.BranchRefBIdeal.τ) (Cert.BranchRefBIdeal.main (F := Ideal))) ⟨m', fun _ => 0, g'⟩ (fun r => ∀ c : Dev Cert.BranchRefBIdeal.nD,
          r.2.mem ((c.tc : Thread Cert.BranchRefBIdeal.nD Cert.BranchRefBIdeal.τ).loc Cert.BranchRefBIdeal.main_v6) = v0 c
          ∧ r.2.mem ((c.tc : Thread Cert.BranchRefBIdeal.nD Cert.BranchRefBIdeal.τ).loc Cert.BranchRefBIdeal.main_arg0) = m' ((c.tc : Thread Cert.BranchRefBIdeal.nD Cert.BranchRefBIdeal.τ).loc Cert.BranchRefBIdeal.main_arg0)
          ∧ r.2.mem ((c.tc : Thread Cert.BranchRefBIdeal.nD Cert.BranchRefBIdeal.τ).loc Cert.BranchRefBIdeal.main_arg1) = m' ((c.tc : Thread Cert.BranchRefBIdeal.nD Cert.BranchRefBIdeal.τ).loc Cert.BranchRefBIdeal.main_arg1))

def preserves_BranchDwC_BranchDwCIdeal : Prop :=
  True

def algebraic_BranchDwCIdeal_BranchRefCIdeal [hBranchDwCIdeal : Cert.BranchDwCIdeal.Facts] [hBranchRefCIdeal : Cert.BranchRefCIdeal.Facts] : Prop :=
  ∀ (m : (ℓ : Loc Cert.BranchDwCIdeal.nD Cert.BranchDwCIdeal.τ Cert.BranchDwCIdeal.sig) → Buf (Elt Ideal) ℓ) (g : Dev Cert.BranchDwCIdeal.nD → PrngReg)
    (m' : (ℓ : Loc Cert.BranchRefCIdeal.nD Cert.BranchRefCIdeal.τ Cert.BranchRefCIdeal.sig) → Buf (Elt Ideal) ℓ) (g' : Dev Cert.BranchRefCIdeal.nD → PrngReg), Pre_BranchDwCIdeal m →
    (∀ c : Dev Cert.BranchDwCIdeal.nD,
      m' ((c.tc : Thread Cert.BranchRefCIdeal.nD Cert.BranchRefCIdeal.τ).loc Cert.BranchRefCIdeal.main_arg0) = m ((c.tc : Thread Cert.BranchDwCIdeal.nD Cert.BranchDwCIdeal.τ).loc Cert.BranchDwCIdeal.main_arg0)
      ∧ m' ((c.tc : Thread Cert.BranchRefCIdeal.nD Cert.BranchRefCIdeal.τ).loc Cert.BranchRefCIdeal.main_arg1) = m ((c.tc : Thread Cert.BranchDwCIdeal.nD Cert.BranchDwCIdeal.τ).loc Cert.BranchDwCIdeal.main_arg1)) →
    ∃ (v0 : (c : Dev Cert.BranchDwCIdeal.nD) → Buf (Elt Ideal) ((c.tc : Thread Cert.BranchDwCIdeal.nD Cert.BranchDwCIdeal.τ).loc Cert.BranchDwCIdeal.main_v0)),
      θ_run (Cert.BranchDwCIdeal.defs (F := Ideal)) (onTc (τ := Cert.BranchDwCIdeal.τ) (Cert.BranchDwCIdeal.main (F := Ideal))) ⟨m, fun _ => 0, g⟩ (fun r => ∀ c : Dev Cert.BranchDwCIdeal.nD,
          r.2.mem ((c.tc : Thread Cert.BranchDwCIdeal.nD Cert.BranchDwCIdeal.τ).loc Cert.BranchDwCIdeal.main_v0) = v0 c
          ∧ r.2.mem ((c.tc : Thread Cert.BranchDwCIdeal.nD Cert.BranchDwCIdeal.τ).loc Cert.BranchDwCIdeal.main_arg0) = m ((c.tc : Thread Cert.BranchDwCIdeal.nD Cert.BranchDwCIdeal.τ).loc Cert.BranchDwCIdeal.main_arg0)
          ∧ r.2.mem ((c.tc : Thread Cert.BranchDwCIdeal.nD Cert.BranchDwCIdeal.τ).loc Cert.BranchDwCIdeal.main_arg1) = m ((c.tc : Thread Cert.BranchDwCIdeal.nD Cert.BranchDwCIdeal.τ).loc Cert.BranchDwCIdeal.main_arg1))
      ∧ θ_run (Cert.BranchRefCIdeal.defs (F := Ideal)) (onTc (τ := Cert.BranchRefCIdeal.τ) (Cert.BranchRefCIdeal.main (F := Ideal))) ⟨m', fun _ => 0, g'⟩ (fun r => ∀ c : Dev Cert.BranchRefCIdeal.nD,
          r.2.mem ((c.tc : Thread Cert.BranchRefCIdeal.nD Cert.BranchRefCIdeal.τ).loc Cert.BranchRefCIdeal.main_v6) = v0 c
          ∧ r.2.mem ((c.tc : Thread Cert.BranchRefCIdeal.nD Cert.BranchRefCIdeal.τ).loc Cert.BranchRefCIdeal.main_arg0) = m' ((c.tc : Thread Cert.BranchRefCIdeal.nD Cert.BranchRefCIdeal.τ).loc Cert.BranchRefCIdeal.main_arg0)
          ∧ r.2.mem ((c.tc : Thread Cert.BranchRefCIdeal.nD Cert.BranchRefCIdeal.τ).loc Cert.BranchRefCIdeal.main_arg1) = m' ((c.tc : Thread Cert.BranchRefCIdeal.nD Cert.BranchRefCIdeal.τ).loc Cert.BranchRefCIdeal.main_arg1))

def preserves_MergeBwd_MergeBwdIdeal : Prop :=
  True

def algebraic_MergeBwdIdeal_MergeBwdRefIdeal_pre_finite_mb [hMergeBwdIdeal : Cert.MergeBwdIdeal.Facts] [hMergeBwdRefIdeal : Cert.MergeBwdRefIdeal.Facts] [hPre_finite_mb : Cert.Pre_finite_mb.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal_finite_mb m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v2_0)) (v1 : (c : Dev Cert.MergeBwdIdeal.nD) → Buf (Elt Ideal) ((c.tc : Thread Cert.MergeBwdIdeal.nD Cert.MergeBwdIdeal.τ).loc Cert.MergeBwdIdeal.main_v2_1)) (v2 : (c : Dev Cert.MergeBwdIdeal.nD) → Buf (Elt Ideal) ((c.tc : Thread Cert.MergeBwdIdeal.nD Cert.MergeBwdIdeal.τ).loc Cert.MergeBwdIdeal.main_v2_2)) (v3 : (c : Dev Cert.MergeBwdIdeal.nD) → Buf (Elt Ideal) ((c.tc : Thread Cert.MergeBwdIdeal.nD Cert.MergeBwdIdeal.τ).loc Cert.MergeBwdIdeal.main_v2_3)) (v4 : (c : Dev Cert.MergeBwdIdeal.nD) → Buf (Elt Ideal) ((c.tc : Thread Cert.MergeBwdIdeal.nD Cert.MergeBwdIdeal.τ).loc Cert.MergeBwdIdeal.main_v2_4)) (v5 : (c : Dev Cert.MergeBwdIdeal.nD) → Buf (Elt Ideal) ((c.tc : Thread Cert.MergeBwdIdeal.nD Cert.MergeBwdIdeal.τ).loc Cert.MergeBwdIdeal.main_v2_5)) (v6 : (c : Dev Cert.MergeBwdIdeal.nD) → Buf (Elt Ideal) ((c.tc : Thread Cert.MergeBwdIdeal.nD Cert.MergeBwdIdeal.τ).loc Cert.MergeBwdIdeal.main_v2_6)) (v7 : (c : Dev Cert.MergeBwdIdeal.nD) → Buf (Elt Ideal) ((c.tc : Thread Cert.MergeBwdIdeal.nD Cert.MergeBwdIdeal.τ).loc Cert.MergeBwdIdeal.main_v2_7)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v2_0) = v0 c
          ∧ r.2.mem ((c.tc : Thread Cert.MergeBwdIdeal.nD Cert.MergeBwdIdeal.τ).loc Cert.MergeBwdIdeal.main_v2_1) = v1 c
          ∧ r.2.mem ((c.tc : Thread Cert.MergeBwdIdeal.nD Cert.MergeBwdIdeal.τ).loc Cert.MergeBwdIdeal.main_v2_2) = v2 c
          ∧ r.2.mem ((c.tc : Thread Cert.MergeBwdIdeal.nD Cert.MergeBwdIdeal.τ).loc Cert.MergeBwdIdeal.main_v2_3) = v3 c
          ∧ r.2.mem ((c.tc : Thread Cert.MergeBwdIdeal.nD Cert.MergeBwdIdeal.τ).loc Cert.MergeBwdIdeal.main_v2_4) = v4 c
          ∧ r.2.mem ((c.tc : Thread Cert.MergeBwdIdeal.nD Cert.MergeBwdIdeal.τ).loc Cert.MergeBwdIdeal.main_v2_5) = v5 c
          ∧ r.2.mem ((c.tc : Thread Cert.MergeBwdIdeal.nD Cert.MergeBwdIdeal.τ).loc Cert.MergeBwdIdeal.main_v2_6) = v6 c
          ∧ r.2.mem ((c.tc : Thread Cert.MergeBwdIdeal.nD Cert.MergeBwdIdeal.τ).loc Cert.MergeBwdIdeal.main_v2_7) = v7 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v41) = v0 c
          ∧ r.2.mem ((c.tc : Thread Cert.MergeBwdRefIdeal.nD Cert.MergeBwdRefIdeal.τ).loc Cert.MergeBwdRefIdeal.main_v42) = v1 c
          ∧ r.2.mem ((c.tc : Thread Cert.MergeBwdRefIdeal.nD Cert.MergeBwdRefIdeal.τ).loc Cert.MergeBwdRefIdeal.main_v43) = v2 c
          ∧ r.2.mem ((c.tc : Thread Cert.MergeBwdRefIdeal.nD Cert.MergeBwdRefIdeal.τ).loc Cert.MergeBwdRefIdeal.main_v45) = v3 c
          ∧ r.2.mem ((c.tc : Thread Cert.MergeBwdRefIdeal.nD Cert.MergeBwdRefIdeal.τ).loc Cert.MergeBwdRefIdeal.main_v46) = v4 c
          ∧ r.2.mem ((c.tc : Thread Cert.MergeBwdRefIdeal.nD Cert.MergeBwdRefIdeal.τ).loc Cert.MergeBwdRefIdeal.main_v47) = v5 c
          ∧ r.2.mem ((c.tc : Thread Cert.MergeBwdRefIdeal.nD Cert.MergeBwdRefIdeal.τ).loc Cert.MergeBwdRefIdeal.main_v48) = v6 c
          ∧ r.2.mem ((c.tc : Thread Cert.MergeBwdRefIdeal.nD Cert.MergeBwdRefIdeal.τ).loc Cert.MergeBwdRefIdeal.main_v49) = v7 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v2) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v20) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_XaFwd_XaFwdIdeal : Prop :=
  True

def algebraic_XaFwdIdeal_XaFwdRefIdeal [hXaFwdIdeal : Cert.XaFwdIdeal.Facts] [hXaFwdRefIdeal : Cert.XaFwdRefIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg)
    (m' : (ℓ : Loc Cert.XaFwdRefIdeal.nD Cert.XaFwdRefIdeal.τ Cert.XaFwdRefIdeal.sig) → Buf (Elt Ideal) ℓ) (g' : Dev Cert.XaFwdRefIdeal.nD → PrngReg), Pre_XaFwdIdeal m →
    (∀ c : Dev Cert.XaFwdIdeal.nD,
      m' ((c.tc : Thread Cert.XaFwdRefIdeal.nD Cert.XaFwdRefIdeal.τ).loc Cert.XaFwdRefIdeal.main_arg0) = m ((c.tc : Thread Cert.XaFwdIdeal.nD Cert.XaFwdIdeal.τ).loc Cert.XaFwdIdeal.main_arg0)
      ∧ m' ((c.tc : Thread Cert.XaFwdRefIdeal.nD Cert.XaFwdRefIdeal.τ).loc Cert.XaFwdRefIdeal.main_arg1) = m ((c.tc : Thread Cert.XaFwdIdeal.nD Cert.XaFwdIdeal.τ).loc Cert.XaFwdIdeal.main_arg1)
      ∧ m' ((c.tc : Thread Cert.XaFwdRefIdeal.nD Cert.XaFwdRefIdeal.τ).loc Cert.XaFwdRefIdeal.main_arg2) = m ((c.tc : Thread Cert.XaFwdIdeal.nD Cert.XaFwdIdeal.τ).loc Cert.XaFwdIdeal.main_arg2)
      ∧ m' ((c.tc : Thread Cert.XaFwdRefIdeal.nD Cert.XaFwdRefIdeal.τ).loc Cert.XaFwdRefIdeal.main_arg3) = m ((c.tc : Thread Cert.XaFwdIdeal.nD Cert.XaFwdIdeal.τ).loc Cert.XaFwdIdeal.main_arg3)
      ∧ m' ((c.tc : Thread Cert.XaFwdRefIdeal.nD Cert.XaFwdRefIdeal.τ).loc Cert.XaFwdRefIdeal.main_arg4) = m ((c.tc : Thread Cert.XaFwdIdeal.nD Cert.XaFwdIdeal.τ).loc Cert.XaFwdIdeal.main_arg4)
      ∧ m' ((c.tc : Thread Cert.XaFwdRefIdeal.nD Cert.XaFwdRefIdeal.τ).loc Cert.XaFwdRefIdeal.main_arg5) = m ((c.tc : Thread Cert.XaFwdIdeal.nD Cert.XaFwdIdeal.τ).loc Cert.XaFwdIdeal.main_arg5)) →
    ∃ (v0 : (c : Dev Cert.XaFwdIdeal.nD) → Buf (Elt Ideal) ((c.tc : Thread Cert.XaFwdIdeal.nD Cert.XaFwdIdeal.τ).loc Cert.XaFwdIdeal.main_v4)),
      θ_run (Cert.XaFwdIdeal.defs (F := Ideal)) (onTc (τ := Cert.XaFwdIdeal.τ) (Cert.XaFwdIdeal.main (F := Ideal))) ⟨m, fun _ => 0, g⟩ (fun r => ∀ c : Dev Cert.XaFwdIdeal.nD,
          r.2.mem ((c.tc : Thread Cert.XaFwdIdeal.nD Cert.XaFwdIdeal.τ).loc Cert.XaFwdIdeal.main_v4) = v0 c
          ∧ r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
          ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
          ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
          ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3)
          ∧ r.2.mem ((c.tc : Thread Cert.XaFwdIdeal.nD Cert.XaFwdIdeal.τ).loc Cert.XaFwdIdeal.main_arg4) = m ((c.tc : Thread Cert.XaFwdIdeal.nD Cert.XaFwdIdeal.τ).loc Cert.XaFwdIdeal.main_arg4)
          ∧ r.2.mem ((c.tc : Thread Cert.XaFwdIdeal.nD Cert.XaFwdIdeal.τ).loc Cert.XaFwdIdeal.main_arg5) = m ((c.tc : Thread Cert.XaFwdIdeal.nD Cert.XaFwdIdeal.τ).loc Cert.XaFwdIdeal.main_arg5))
      ∧ θ_run (Cert.XaFwdRefIdeal.defs (F := Ideal)) (onTc (τ := Cert.XaFwdRefIdeal.τ) (Cert.XaFwdRefIdeal.main (F := Ideal))) ⟨m', fun _ => 0, g'⟩ (fun r => ∀ c : Dev Cert.XaFwdRefIdeal.nD,
          r.2.mem ((c.tc : Thread Cert.XaFwdRefIdeal.nD Cert.XaFwdRefIdeal.τ).loc Cert.XaFwdRefIdeal.main_v34) = v0 c
          ∧ r.2.mem ((c.tc : Thread Cert.XaFwdRefIdeal.nD Cert.XaFwdRefIdeal.τ).loc Cert.XaFwdRefIdeal.main_arg0) = m' ((c.tc : Thread Cert.XaFwdRefIdeal.nD Cert.XaFwdRefIdeal.τ).loc Cert.XaFwdRefIdeal.main_arg0)
          ∧ r.2.mem ((c.tc : Thread Cert.XaFwdRefIdeal.nD Cert.XaFwdRefIdeal.τ).loc Cert.XaFwdRefIdeal.main_arg1) = m' ((c.tc : Thread Cert.XaFwdRefIdeal.nD Cert.XaFwdRefIdeal.τ).loc Cert.XaFwdRefIdeal.main_arg1)
          ∧ r.2.mem ((c.tc : Thread Cert.XaFwdRefIdeal.nD Cert.XaFwdRefIdeal.τ).loc Cert.XaFwdRefIdeal.main_arg2) = m' ((c.tc : Thread Cert.XaFwdRefIdeal.nD Cert.XaFwdRefIdeal.τ).loc Cert.XaFwdRefIdeal.main_arg2)
          ∧ r.2.mem ((c.tc : Thread Cert.XaFwdRefIdeal.nD Cert.XaFwdRefIdeal.τ).loc Cert.XaFwdRefIdeal.main_arg3) = m' ((c.tc : Thread Cert.XaFwdRefIdeal.nD Cert.XaFwdRefIdeal.τ).loc Cert.XaFwdRefIdeal.main_arg3)
          ∧ r.2.mem ((c.tc : Thread Cert.XaFwdRefIdeal.nD Cert.XaFwdRefIdeal.τ).loc Cert.XaFwdRefIdeal.main_arg4) = m' ((c.tc : Thread Cert.XaFwdRefIdeal.nD Cert.XaFwdRefIdeal.τ).loc Cert.XaFwdRefIdeal.main_arg4)
          ∧ r.2.mem ((c.tc : Thread Cert.XaFwdRefIdeal.nD Cert.XaFwdRefIdeal.τ).loc Cert.XaFwdRefIdeal.main_arg5) = m' ((c.tc : Thread Cert.XaFwdRefIdeal.nD Cert.XaFwdRefIdeal.τ).loc Cert.XaFwdRefIdeal.main_arg5))

def preserves_MemBwd_MemBwdIdeal : Prop :=
  True

def algebraic_MemBwdIdeal_MemBwdRefIdeal [hMemBwdIdeal : Cert.MemBwdIdeal.Facts] [hMemBwdRefIdeal : Cert.MemBwdRefIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemBwdRefIdeal.nD Cert.MemBwdRefIdeal.τ Cert.MemBwdRefIdeal.sig) → Buf (Elt Ideal) ℓ) (g' : Dev Cert.MemBwdRefIdeal.nD → PrngReg), Pre_MemBwdIdeal m →
    (∀ c : Dev Cert.MemBwdIdeal.nD,
      m' ((c.tc : Thread Cert.MemBwdRefIdeal.nD Cert.MemBwdRefIdeal.τ).loc Cert.MemBwdRefIdeal.main_arg0) = m ((c.tc : Thread Cert.MemBwdIdeal.nD Cert.MemBwdIdeal.τ).loc Cert.MemBwdIdeal.main_arg0)
      ∧ m' ((c.tc : Thread Cert.MemBwdRefIdeal.nD Cert.MemBwdRefIdeal.τ).loc Cert.MemBwdRefIdeal.main_arg1) = m ((c.tc : Thread Cert.MemBwdIdeal.nD Cert.MemBwdIdeal.τ).loc Cert.MemBwdIdeal.main_arg1)
      ∧ m' ((c.tc : Thread Cert.MemBwdRefIdeal.nD Cert.MemBwdRefIdeal.τ).loc Cert.MemBwdRefIdeal.main_arg2) = m ((c.tc : Thread Cert.MemBwdIdeal.nD Cert.MemBwdIdeal.τ).loc Cert.MemBwdIdeal.main_arg2)
      ∧ m' ((c.tc : Thread Cert.MemBwdRefIdeal.nD Cert.MemBwdRefIdeal.τ).loc Cert.MemBwdRefIdeal.main_arg3) = m ((c.tc : Thread Cert.MemBwdIdeal.nD Cert.MemBwdIdeal.τ).loc Cert.MemBwdIdeal.main_arg3)
      ∧ m' ((c.tc : Thread Cert.MemBwdRefIdeal.nD Cert.MemBwdRefIdeal.τ).loc Cert.MemBwdRefIdeal.main_arg4) = m ((c.tc : Thread Cert.MemBwdIdeal.nD Cert.MemBwdIdeal.τ).loc Cert.MemBwdIdeal.main_arg4)
      ∧ m' ((c.tc : Thread Cert.MemBwdRefIdeal.nD Cert.MemBwdRefIdeal.τ).loc Cert.MemBwdRefIdeal.main_arg5) = m ((c.tc : Thread Cert.MemBwdIdeal.nD Cert.MemBwdIdeal.τ).loc Cert.MemBwdIdeal.main_arg5)) →
    ∃ (v0 : (c : Dev Cert.MemBwdIdeal.nD) → Buf (Elt Ideal) ((c.tc : Thread Cert.MemBwdIdeal.nD Cert.MemBwdIdeal.τ).loc Cert.MemBwdIdeal.main_v2_0)) (v1 : (c : Dev Cert.MemBwdIdeal.nD) → Buf (Elt Ideal) ((c.tc : Thread Cert.MemBwdIdeal.nD Cert.MemBwdIdeal.τ).loc Cert.MemBwdIdeal.main_v2_1)) (v2 : (c : Dev Cert.MemBwdIdeal.nD) → Buf (Elt Ideal) ((c.tc : Thread Cert.MemBwdIdeal.nD Cert.MemBwdIdeal.τ).loc Cert.MemBwdIdeal.main_v2_2)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v2_0) = v0 c
          ∧ r.2.mem ((c.tc : Thread Cert.MemBwdIdeal.nD Cert.MemBwdIdeal.τ).loc Cert.MemBwdIdeal.main_v2_1) = v1 c
          ∧ r.2.mem ((c.tc : Thread Cert.MemBwdIdeal.nD Cert.MemBwdIdeal.τ).loc Cert.MemBwdIdeal.main_v2_2) = v2 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
          ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3)
          ∧ r.2.mem ((c.tc : Thread Cert.MemBwdIdeal.nD Cert.MemBwdIdeal.τ).loc Cert.MemBwdIdeal.main_arg4) = m ((c.tc : Thread Cert.MemBwdIdeal.nD Cert.MemBwdIdeal.τ).loc Cert.MemBwdIdeal.main_arg4)
          ∧ r.2.mem ((c.tc : Thread Cert.MemBwdIdeal.nD Cert.MemBwdIdeal.τ).loc Cert.MemBwdIdeal.main_arg5) = m ((c.tc : Thread Cert.MemBwdIdeal.nD Cert.MemBwdIdeal.τ).loc Cert.MemBwdIdeal.main_arg5))
      ∧ θ_run (Cert.MemBwdRefIdeal.defs (F := Ideal)) (onTc (τ := Cert.MemBwdRefIdeal.τ) (Cert.MemBwdRefIdeal.main (F := Ideal))) ⟨m', fun _ => 0, g'⟩ (fun r => ∀ c : Dev Cert.MemBwdRefIdeal.nD,
          r.2.mem ((c.tc : Thread Cert.MemBwdRefIdeal.nD Cert.MemBwdRefIdeal.τ).loc Cert.MemBwdRefIdeal.main_v20) = v0 c
          ∧ r.2.mem ((c.tc : Thread Cert.MemBwdRefIdeal.nD Cert.MemBwdRefIdeal.τ).loc Cert.MemBwdRefIdeal.main_v21) = v1 c
          ∧ r.2.mem ((c.tc : Thread Cert.MemBwdRefIdeal.nD Cert.MemBwdRefIdeal.τ).loc Cert.MemBwdRefIdeal.main_v19) = v2 c
          ∧ r.2.mem ((c.tc : Thread Cert.MemBwdRefIdeal.nD Cert.MemBwdRefIdeal.τ).loc Cert.MemBwdRefIdeal.main_arg0) = m' ((c.tc : Thread Cert.MemBwdRefIdeal.nD Cert.MemBwdRefIdeal.τ).loc Cert.MemBwdRefIdeal.main_arg0)
          ∧ r.2.mem ((c.tc : Thread Cert.MemBwdRefIdeal.nD Cert.MemBwdRefIdeal.τ).loc Cert.MemBwdRefIdeal.main_arg1) = m' ((c.tc : Thread Cert.MemBwdRefIdeal.nD Cert.MemBwdRefIdeal.τ).loc Cert.MemBwdRefIdeal.main_arg1)
          ∧ r.2.mem ((c.tc : Thread Cert.MemBwdRefIdeal.nD Cert.MemBwdRefIdeal.τ).loc Cert.MemBwdRefIdeal.main_arg2) = m' ((c.tc : Thread Cert.MemBwdRefIdeal.nD Cert.MemBwdRefIdeal.τ).loc Cert.MemBwdRefIdeal.main_arg2)
          ∧ r.2.mem ((c.tc : Thread Cert.MemBwdRefIdeal.nD Cert.MemBwdRefIdeal.τ).loc Cert.MemBwdRefIdeal.main_arg3) = m' ((c.tc : Thread Cert.MemBwdRefIdeal.nD Cert.MemBwdRefIdeal.τ).loc Cert.MemBwdRefIdeal.main_arg3)
          ∧ r.2.mem ((c.tc : Thread Cert.MemBwdRefIdeal.nD Cert.MemBwdRefIdeal.τ).loc Cert.MemBwdRefIdeal.main_arg4) = m' ((c.tc : Thread Cert.MemBwdRefIdeal.nD Cert.MemBwdRefIdeal.τ).loc Cert.MemBwdRefIdeal.main_arg4)
          ∧ r.2.mem ((c.tc : Thread Cert.MemBwdRefIdeal.nD Cert.MemBwdRefIdeal.τ).loc Cert.MemBwdRefIdeal.main_arg5) = m' ((c.tc : Thread Cert.MemBwdRefIdeal.nD Cert.MemBwdRefIdeal.τ).loc Cert.MemBwdRefIdeal.main_arg5))

def preserves_MemDw_MemDwIdeal : Prop :=
  True

def algebraic_MemDwIdeal_MemDwRefIdeal [hMemDwIdeal : Cert.MemDwIdeal.Facts] [hMemDwRefIdeal : Cert.MemDwRefIdeal.Facts] : Prop :=
  ∀ (m : (ℓ : Loc Cert.MemDwIdeal.nD Cert.MemDwIdeal.τ Cert.MemDwIdeal.sig) → Buf (Elt Ideal) ℓ) (g : Dev Cert.MemDwIdeal.nD → PrngReg)
    (m' : (ℓ : Loc Cert.MemDwRefIdeal.nD Cert.MemDwRefIdeal.τ Cert.MemDwRefIdeal.sig) → Buf (Elt Ideal) ℓ) (g' : Dev Cert.MemDwRefIdeal.nD → PrngReg), Pre_MemDwIdeal m →
    (∀ c : Dev Cert.MemDwIdeal.nD,
      m' ((c.tc : Thread Cert.MemDwRefIdeal.nD Cert.MemDwRefIdeal.τ).loc Cert.MemDwRefIdeal.main_arg0) = m ((c.tc : Thread Cert.MemDwIdeal.nD Cert.MemDwIdeal.τ).loc Cert.MemDwIdeal.main_arg0)
      ∧ m' ((c.tc : Thread Cert.MemDwRefIdeal.nD Cert.MemDwRefIdeal.τ).loc Cert.MemDwRefIdeal.main_arg1) = m ((c.tc : Thread Cert.MemDwIdeal.nD Cert.MemDwIdeal.τ).loc Cert.MemDwIdeal.main_arg1)) →
    ∃ (v0 : (c : Dev Cert.MemDwIdeal.nD) → Buf (Elt Ideal) ((c.tc : Thread Cert.MemDwIdeal.nD Cert.MemDwIdeal.τ).loc Cert.MemDwIdeal.main_v0)),
      θ_run (Cert.MemDwIdeal.defs (F := Ideal)) (onTc (τ := Cert.MemDwIdeal.τ) (Cert.MemDwIdeal.main (F := Ideal))) ⟨m, fun _ => 0, g⟩ (fun r => ∀ c : Dev Cert.MemDwIdeal.nD,
          r.2.mem ((c.tc : Thread Cert.MemDwIdeal.nD Cert.MemDwIdeal.τ).loc Cert.MemDwIdeal.main_v0) = v0 c
          ∧ r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
          ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ θ_run (Cert.MemDwRefIdeal.defs (F := Ideal)) (onTc (τ := Cert.MemDwRefIdeal.τ) (Cert.MemDwRefIdeal.main (F := Ideal))) ⟨m', fun _ => 0, g'⟩ (fun r => ∀ c : Dev Cert.MemDwRefIdeal.nD,
          r.2.mem ((c.tc : Thread Cert.MemDwRefIdeal.nD Cert.MemDwRefIdeal.τ).loc Cert.MemDwRefIdeal.main_v5) = v0 c
          ∧ r.2.mem ((c.tc : Thread Cert.MemDwRefIdeal.nD Cert.MemDwRefIdeal.τ).loc Cert.MemDwRefIdeal.main_arg0) = m' ((c.tc : Thread Cert.MemDwRefIdeal.nD Cert.MemDwRefIdeal.τ).loc Cert.MemDwRefIdeal.main_arg0)
          ∧ r.2.mem ((c.tc : Thread Cert.MemDwRefIdeal.nD Cert.MemDwRefIdeal.τ).loc Cert.MemDwRefIdeal.main_arg1) = m' ((c.tc : Thread Cert.MemDwRefIdeal.nD Cert.MemDwRefIdeal.τ).loc Cert.MemDwRefIdeal.main_arg1))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)
      ∧ m' ((c.tc : Thread Cert.MemFwdRefIdeal.nD Cert.MemFwdRefIdeal.τ).loc Cert.MemFwdRefIdeal.main_arg2) = m ((c.tc : Thread Cert.MemFwdIdeal.nD Cert.MemFwdIdeal.τ).loc Cert.MemFwdIdeal.main_arg2)
      ∧ m' ((c.tc : Thread Cert.MemFwdRefIdeal.nD Cert.MemFwdRefIdeal.τ).loc Cert.MemFwdRefIdeal.main_arg3) = m ((c.tc : Thread Cert.MemFwdIdeal.nD Cert.MemFwdIdeal.τ).loc Cert.MemFwdIdeal.main_arg3)) →
    ∃ (v0 : (c : Dev Cert.MemFwdIdeal.nD) → Buf (Elt Ideal) ((c.tc : Thread Cert.MemFwdIdeal.nD Cert.MemFwdIdeal.τ).loc Cert.MemFwdIdeal.main_v2_0)) (v1 : (c : Dev Cert.MemFwdIdeal.nD) → Buf (Elt Ideal) ((c.tc : Thread Cert.MemFwdIdeal.nD Cert.MemFwdIdeal.τ).loc Cert.MemFwdIdeal.main_v2_1)) (v2 : (c : Dev Cert.MemFwdIdeal.nD) → Buf (Elt Ideal) ((c.tc : Thread Cert.MemFwdIdeal.nD Cert.MemFwdIdeal.τ).loc Cert.MemFwdIdeal.main_v2_2)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v2_0) = v0 c
          ∧ r.2.mem ((c.tc : Thread Cert.MemFwdIdeal.nD Cert.MemFwdIdeal.τ).loc Cert.MemFwdIdeal.main_v2_1) = v1 c
          ∧ r.2.mem ((c.tc : Thread Cert.MemFwdIdeal.nD Cert.MemFwdIdeal.τ).loc Cert.MemFwdIdeal.main_v2_2) = v2 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
          ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v12) = v0 c
          ∧ r.2.mem ((c.tc : Thread Cert.MemFwdRefIdeal.nD Cert.MemFwdRefIdeal.τ).loc Cert.MemFwdRefIdeal.main_v14) = v1 c
          ∧ r.2.mem ((c.tc : Thread Cert.MemFwdRefIdeal.nD Cert.MemFwdRefIdeal.τ).loc Cert.MemFwdRefIdeal.main_v16) = v2 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1)
          ∧ r.2.mem ((c.tc : Thread Cert.MemFwdRefIdeal.nD Cert.MemFwdRefIdeal.τ).loc Cert.MemFwdRefIdeal.main_arg2) = m' ((c.tc : Thread Cert.MemFwdRefIdeal.nD Cert.MemFwdRefIdeal.τ).loc Cert.MemFwdRefIdeal.main_arg2)
          ∧ r.2.mem ((c.tc : Thread Cert.MemFwdRefIdeal.nD Cert.MemFwdRefIdeal.τ).loc Cert.MemFwdRefIdeal.main_arg3) = m' ((c.tc : Thread Cert.MemFwdRefIdeal.nD Cert.MemFwdRefIdeal.τ).loc Cert.MemFwdRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v23) = v0 c
          ∧ r.2.mem ((c.tc : Thread Cert.AdamBranchRefIdeal.nD Cert.AdamBranchRefIdeal.τ).loc Cert.AdamBranchRefIdeal.main_v4) = v1 c
          ∧ r.2.mem ((c.tc : Thread Cert.AdamBranchRefIdeal.nD Cert.AdamBranchRefIdeal.τ).loc Cert.AdamBranchRefIdeal.main_v10) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v23) = v0 c
          ∧ r.2.mem ((c.tc : Thread Cert.AdamSquareRefIdeal.nD Cert.AdamSquareRefIdeal.τ).loc Cert.AdamSquareRefIdeal.main_v4) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hFfnDw : Cert.FfnDw.Facts) (hFfnDwIdeal : Cert.FfnDwIdeal.Facts) (hDwRefIdeal : Cert.DwRefIdeal.Facts) (hDuRefIdeal : Cert.DuRefIdeal.Facts) (hFfnFwd : Cert.FfnFwd.Facts) (hFfnFwdIdeal : Cert.FfnFwdIdeal.Facts) (hFwdRefIdeal : Cert.FwdRefIdeal.Facts) (hProjBwd : Cert.ProjBwd.Facts) (hProjBwdIdeal : Cert.ProjBwdIdeal.Facts) (hProjRefIdeal : Cert.ProjRefIdeal.Facts) (hXaBwd : Cert.XaBwd.Facts) (hXaBwdIdeal : Cert.XaBwdIdeal.Facts) (hXaRefIdeal : Cert.XaRefIdeal.Facts) (hProjFwd : Cert.ProjFwd.Facts) (hProjFwdIdeal : Cert.ProjFwdIdeal.Facts) (hProjFwdRefIdeal : Cert.ProjFwdRefIdeal.Facts) (hJointDw : Cert.JointDw.Facts) (hJointDwIdeal : Cert.JointDwIdeal.Facts) (hJointRefIdeal : Cert.JointRefIdeal.Facts) (hSquareDw : Cert.SquareDw.Facts) (hSquareDwIdeal : Cert.SquareDwIdeal.Facts) (hSquareRefIdeal : Cert.SquareRefIdeal.Facts) (hSquareTRefIdeal : Cert.SquareTRefIdeal.Facts) (hGatesDw : Cert.GatesDw.Facts) (hGatesDwIdeal : Cert.GatesDwIdeal.Facts) (hGatesRefIdeal : Cert.GatesRefIdeal.Facts) (hForgetDw : Cert.ForgetDw.Facts) (hForgetDwIdeal : Cert.ForgetDwIdeal.Facts) (hForgetRefIdeal : Cert.ForgetRefIdeal.Facts) (hBranchDwA : Cert.BranchDwA.Facts) (hBranchDwAIdeal : Cert.BranchDwAIdeal.Facts) (hBranchRefAIdeal : Cert.BranchRefAIdeal.Facts) (hBranchDwB : Cert.BranchDwB.Facts) (hBranchDwBIdeal : Cert.BranchDwBIdeal.Facts) (hBranchRefBIdeal : Cert.BranchRefBIdeal.Facts) (hBranchDwC : Cert.BranchDwC.Facts) (hBranchDwCIdeal : Cert.BranchDwCIdeal.Facts) (hBranchRefCIdeal : Cert.BranchRefCIdeal.Facts) (hMergeBwd : Cert.MergeBwd.Facts) (hMergeBwdIdeal : Cert.MergeBwdIdeal.Facts) (hMergeBwdRefIdeal : Cert.MergeBwdRefIdeal.Facts) (hMergeFwd : Cert.MergeFwd.Facts) (hMergeFwdIdeal : Cert.MergeFwdIdeal.Facts) (hMergeFwdRefIdeal : Cert.MergeFwdRefIdeal.Facts) (hXaFwd : Cert.XaFwd.Facts) (hXaFwdIdeal : Cert.XaFwdIdeal.Facts) (hXaFwdRefIdeal : Cert.XaFwdRefIdeal.Facts) (hMemBwd : Cert.MemBwd.Facts) (hMemBwdIdeal : Cert.MemBwdIdeal.Facts) (hMemBwdRefIdeal : Cert.MemBwdRefIdeal.Facts) (hMemDw : Cert.MemDw.Facts) (hMemDwIdeal : Cert.MemDwIdeal.Facts) (hMemDwRefIdeal : Cert.MemDwRefIdeal.Facts) (hMemFwd : Cert.MemFwd.Facts) (hMemFwdIdeal : Cert.MemFwdIdeal.Facts) (hMemFwdRefIdeal : Cert.MemFwdRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamBranch : Cert.AdamBranch.Facts) (hAdamBranchIdeal : Cert.AdamBranchIdeal.Facts) (hAdamBranchRefIdeal : Cert.AdamBranchRefIdeal.Facts) (hAdamSquare : Cert.AdamSquare.Facts) (hAdamSquareIdeal : Cert.AdamSquareIdeal.Facts) (hAdamSquareRefIdeal : Cert.AdamSquareRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_finite_proj : Cert.Pre_finite_proj.Facts) (hPre_finite_xa : Cert.Pre_finite_xa.Facts) (hPre_finite_mb : Cert.Pre_finite_mb.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnDw (hFfnDw := hFfnDw)
    ∧ quiescent_FfnDwIdeal (hFfnDwIdeal := hFfnDwIdeal)
    ∧ quiescent_DwRefIdeal (hDwRefIdeal := hDwRefIdeal)
    ∧ quiescent_DuRefIdeal (hDuRefIdeal := hDuRefIdeal)
    ∧ quiescent_FfnFwd (hFfnFwd := hFfnFwd)
    ∧ quiescent_FfnFwdIdeal (hFfnFwdIdeal := hFfnFwdIdeal)
    ∧ quiescent_FwdRefIdeal (hFwdRefIdeal := hFwdRefIdeal)
    ∧ quiescent_ProjBwd (hProjBwd := hProjBwd)
    ∧ quiescent_ProjBwdIdeal (hProjBwdIdeal := hProjBwdIdeal)
    ∧ quiescent_ProjBwdIdeal_pre_finite_proj (hProjBwdIdeal := hProjBwdIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ quiescent_XaBwd (hXaBwd := hXaBwd)
    ∧ quiescent_XaBwdIdeal (hXaBwdIdeal := hXaBwdIdeal)
    ∧ quiescent_XaBwdIdeal_pre_finite_xa (hXaBwdIdeal := hXaBwdIdeal) (hPre_finite_xa := hPre_finite_xa)
    ∧ quiescent_XaRefIdeal (hXaRefIdeal := hXaRefIdeal)
    ∧ quiescent_XaRefIdeal_pre_finite_xa (hXaRefIdeal := hXaRefIdeal) (hPre_finite_xa := hPre_finite_xa)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_JointDw (hJointDw := hJointDw)
    ∧ quiescent_JointDwIdeal (hJointDwIdeal := hJointDwIdeal)
    ∧ quiescent_JointRefIdeal (hJointRefIdeal := hJointRefIdeal)
    ∧ quiescent_SquareDw (hSquareDw := hSquareDw)
    ∧ quiescent_SquareDwIdeal (hSquareDwIdeal := hSquareDwIdeal)
    ∧ quiescent_SquareRefIdeal (hSquareRefIdeal := hSquareRefIdeal)
    ∧ quiescent_SquareTRefIdeal (hSquareTRefIdeal := hSquareTRefIdeal)
    ∧ quiescent_GatesDw (hGatesDw := hGatesDw)
    ∧ quiescent_GatesDwIdeal (hGatesDwIdeal := hGatesDwIdeal)
    ∧ quiescent_GatesRefIdeal (hGatesRefIdeal := hGatesRefIdeal)
    ∧ quiescent_ForgetDw (hForgetDw := hForgetDw)
    ∧ quiescent_ForgetDwIdeal (hForgetDwIdeal := hForgetDwIdeal)
    ∧ quiescent_ForgetRefIdeal (hForgetRefIdeal := hForgetRefIdeal)
    ∧ quiescent_BranchDwA (hBranchDwA := hBranchDwA)
    ∧ quiescent_BranchDwAIdeal (hBranchDwAIdeal := hBranchDwAIdeal)
    ∧ quiescent_BranchRefAIdeal (hBranchRefAIdeal := hBranchRefAIdeal)
    ∧ quiescent_BranchDwB (hBranchDwB := hBranchDwB)
    ∧ quiescent_BranchDwBIdeal (hBranchDwBIdeal := hBranchDwBIdeal)
    ∧ quiescent_BranchRefBIdeal (hBranchRefBIdeal := hBranchRefBIdeal)
    ∧ quiescent_BranchDwC (hBranchDwC := hBranchDwC)
    ∧ quiescent_BranchDwCIdeal (hBranchDwCIdeal := hBranchDwCIdeal)
    ∧ quiescent_BranchRefCIdeal (hBranchRefCIdeal := hBranchRefCIdeal)
    ∧ quiescent_MergeBwd (hMergeBwd := hMergeBwd)
    ∧ quiescent_MergeBwdIdeal (hMergeBwdIdeal := hMergeBwdIdeal)
    ∧ quiescent_MergeBwdIdeal_pre_finite_mb (hMergeBwdIdeal := hMergeBwdIdeal) (hPre_finite_mb := hPre_finite_mb)
    ∧ quiescent_MergeBwdRefIdeal (hMergeBwdRefIdeal := hMergeBwdRefIdeal)
    ∧ quiescent_MergeBwdRefIdeal_pre_finite_mb (hMergeBwdRefIdeal := hMergeBwdRefIdeal) (hPre_finite_mb := hPre_finite_mb)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_XaFwd (hXaFwd := hXaFwd)
    ∧ quiescent_XaFwdIdeal (hXaFwdIdeal := hXaFwdIdeal)
    ∧ quiescent_XaFwdRefIdeal (hXaFwdRefIdeal := hXaFwdRefIdeal)
    ∧ quiescent_MemBwd (hMemBwd := hMemBwd)
    ∧ quiescent_MemBwdIdeal (hMemBwdIdeal := hMemBwdIdeal)
    ∧ quiescent_MemBwdRefIdeal (hMemBwdRefIdeal := hMemBwdRefIdeal)
    ∧ quiescent_MemDw (hMemDw := hMemDw)
    ∧ quiescent_MemDwIdeal (hMemDwIdeal := hMemDwIdeal)
    ∧ quiescent_MemDwRefIdeal (hMemDwRefIdeal := hMemDwRefIdeal)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnDw_FfnDwIdeal
    ∧ algebraic_FfnDwIdeal_DwRefIdeal (hFfnDwIdeal := hFfnDwIdeal) (hDwRefIdeal := hDwRefIdeal)
    ∧ algebraic_FfnDwIdeal_DuRefIdeal (hFfnDwIdeal := hFfnDwIdeal) (hDuRefIdeal := hDuRefIdeal)
    ∧ preserves_FfnFwd_FfnFwdIdeal
    ∧ algebraic_FfnFwdIdeal_FwdRefIdeal (hFfnFwdIdeal := hFfnFwdIdeal) (hFwdRefIdeal := hFwdRefIdeal)
    ∧ preserves_ProjBwd_ProjBwdIdeal
    ∧ algebraic_ProjBwdIdeal_ProjRefIdeal_pre_finite_proj (hProjBwdIdeal := hProjBwdIdeal) (hProjRefIdeal := hProjRefIdeal) (hPre_finite_proj := hPre_finite_proj)
    ∧ preserves_XaBwd_XaBwdIdeal
    ∧ algebraic_XaBwdIdeal_XaRefIdeal_pre_finite_xa (hXaBwdIdeal := hXaBwdIdeal) (hXaRefIdeal := hXaRefIdeal) (hPre_finite_xa := hPre_finite_xa)
    ∧ preserves_ProjFwd_ProjFwdIdeal
    ∧ algebraic_ProjFwdIdeal_ProjFwdRefIdeal (hProjFwdIdeal := hProjFwdIdeal) (hProjFwdRefIdeal := hProjFwdRefIdeal)
    ∧ preserves_JointDw_JointDwIdeal
    ∧ algebraic_JointDwIdeal_JointRefIdeal (hJointDwIdeal := hJointDwIdeal) (hJointRefIdeal := hJointRefIdeal)
    ∧ preserves_SquareDw_SquareDwIdeal
    ∧ algebraic_SquareDwIdeal_SquareRefIdeal (hSquareDwIdeal := hSquareDwIdeal) (hSquareRefIdeal := hSquareRefIdeal)
    ∧ algebraic_SquareDwIdeal_SquareTRefIdeal (hSquareDwIdeal := hSquareDwIdeal) (hSquareTRefIdeal := hSquareTRefIdeal)
    ∧ preserves_GatesDw_GatesDwIdeal
    ∧ algebraic_GatesDwIdeal_GatesRefIdeal (hGatesDwIdeal := hGatesDwIdeal) (hGatesRefIdeal := hGatesRefIdeal)
    ∧ preserves_ForgetDw_ForgetDwIdeal
    ∧ algebraic_ForgetDwIdeal_ForgetRefIdeal (hForgetDwIdeal := hForgetDwIdeal) (hForgetRefIdeal := hForgetRefIdeal)
    ∧ preserves_BranchDwA_BranchDwAIdeal
    ∧ algebraic_BranchDwAIdeal_BranchRefAIdeal (hBranchDwAIdeal := hBranchDwAIdeal) (hBranchRefAIdeal := hBranchRefAIdeal)
    ∧ preserves_BranchDwB_BranchDwBIdeal
    ∧ algebraic_BranchDwBIdeal_BranchRefBIdeal (hBranchDwBIdeal := hBranchDwBIdeal) (hBranchRefBIdeal := hBranchRefBIdeal)
    ∧ preserves_BranchDwC_BranchDwCIdeal
    ∧ algebraic_BranchDwCIdeal_BranchRefCIdeal (hBranchDwCIdeal := hBranchDwCIdeal) (hBranchRefCIdeal := hBranchRefCIdeal)
    ∧ preserves_MergeBwd_MergeBwdIdeal
    ∧ algebraic_MergeBwdIdeal_MergeBwdRefIdeal_pre_finite_mb (hMergeBwdIdeal := hMergeBwdIdeal) (hMergeBwdRefIdeal := hMergeBwdRefIdeal) (hPre_finite_mb := hPre_finite_mb)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_XaFwd_XaFwdIdeal
    ∧ algebraic_XaFwdIdeal_XaFwdRefIdeal (hXaFwdIdeal := hXaFwdIdeal) (hXaFwdRefIdeal := hXaFwdRefIdeal)
    ∧ preserves_MemBwd_MemBwdIdeal
    ∧ algebraic_MemBwdIdeal_MemBwdRefIdeal (hMemBwdIdeal := hMemBwdIdeal) (hMemBwdRefIdeal := hMemBwdRefIdeal)
    ∧ preserves_MemDw_MemDwIdeal
    ∧ algebraic_MemDwIdeal_MemDwRefIdeal (hMemDwIdeal := hMemDwIdeal) (hMemDwRefIdeal := hMemDwRefIdeal)
    ∧ preserves_MemFwd_MemFwdIdeal
    ∧ algebraic_MemFwdIdeal_MemFwdRefIdeal (hMemFwdIdeal := hMemFwdIdeal) (hMemFwdRefIdeal := hMemFwdRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S16384x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S1x1024 .f32) (main_arg2 : FVec F S1024x2816 .f32) (main_arg3 : FVec F S1024x2816 .f32) (main_arg4 : FVec F S2816x1024 .f32) (main_arg5 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_mb.lean ====
abbrev S16384x1024 : Shape := ⟨2, ![16384, 1024]⟩
abbrev S16384x512 : Shape := ⟨2, ![16384, 512]⟩
abbrev S16384x3072 : Shape := ⟨2, ![16384, 3072]⟩
abbrev S3x512x1024 : Shape := ⟨3, ![3, 512, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  bcast_S_S16384x3072 : S_.BroadcastsInDim S16384x3072 (![] : Fin 0 → Fin S16384x3072.rank)
  reducesTo_S16384x3072_S_d0_1 : S16384x3072.ReducesTo [0, 1] S_
  bcast_S_S3x512x1024 : S_.BroadcastsInDim S3x512x1024 (![] : Fin 0 → Fin S3x512x1024.rank)
  reducesTo_S3x512x1024_S_d0_1_2 : S3x512x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v32 : IVec S_ 1) (main_v33 : FVec F S1024x1024 .f32) (main_v34 : FVec F S1024x1024 .f32) : IVec S_ 1 :=
  let main_v35 : IVec S1024x1024 1 := cmpf .olt main_v33 main_v34
  let main_c_11 : IVec S_ 1 := constantI S_ 1 1#1
  let main_v36 : IVec S_ 1 := (fun x v => Host.reduce IntOp.andi x v reducesTo_S1024x1024_S_d0_1 h_S_) main_v35 main_c_11
  let main_v37 : IVec S_ 1 := andi main_v32 main_v36
  main_v37

def fn_part1 {F : FTy → Type} [FloatOps F] (main_arg4 : FVec F S16384x3072 .bf16) (main_arg5 : FVec F S3x512x1024 .f32) (main_arg6 : FVec F S1024x1024 .f32) (main_v15 : IVec S_ 1) (main_v17 : FVec F S16384x512 .f32) : IVec S_ 1 :=
  let main_cst_4 : FVec F S_ .f32 := constant S_ .f32 0x7F800000#32
  let main_v18 : FVec F S16384x512 .f32 := broadcastInDim S16384x512 ![] bcast_S_S16384x512 main_cst_4
  let main_v19 : IVec S16384x512 1 := cmpf .olt main_v17 main_v18
  let main_c_5 : IVec S_ 1 := constantI S_ 1 1#1
  let main_v20 : IVec S_ 1 := (fun x v => Host.reduce IntOp.andi x v reducesTo_S16384x512_S_d0_1 h_S_) main_v19 main_c_5
  let main_v21 : IVec S_ 1 := andi main_v15 main_v20
  let main_v22 : FVec F S16384x3072 .f32 := (extf .f32 · bitsLt_bf16_f32) main_arg4
  let main_v23 : FVec F S16384x3072 .f32 := Host.absf main_v22
  let main_cst_6 : FVec F S_ .f32 := constant S_ .f32 0x7F800000#32
  let main_v24 : FVec F S16384x3072 .f32 := broadcastInDim S16384x3072 ![] bcast_S_S16384x3072 main_cst_6
  let main_v25 : IVec S16384x3072 1 := cmpf .olt main_v23 main_v24
  let main_c_7 : IVec S_ 1 := constantI S_ 1 1#1
  let main_v26 : IVec S_ 1 := (fun x v => Host.reduce IntOp.andi x v reducesTo_S16384x3072_S_d0_1 h_S_) main_v25 main_c_7
  let main_v27 : IVec S_ 1 := andi main_v21 main_v26
  let main_v28 : FVec F S3x512x1024 .f32 := Host.absf main_arg5
  let main_cst_8 : FVec F S_ .f32 := constant S_ .f32 0x7F800000#32
  let main_v29 : FVec F S3x512x1024 .f32 := broadcastInDim S3x512x1024 ![] bcast_S_S3x512x1024 main_cst_8
  let main_v30 : IVec S3x512x1024 1 := cmpf .olt main_v28 main_v29
  let main_c_9 : IVec S_ 1 := constantI S_ 1 1#1
  let main_v31 : IVec S_ 1 := (fun x v => Host.reduce IntOp.andi x v reducesTo_S3x512x1024_S_d0_1_2 h_S_) main_v30 main_c_9
  let main_v32 : IVec S_ 1 := andi main_v27 main_v31
  let main_v33 : FVec F S1024x1024 .f32 := Host.absf main_arg6
  let main_cst_10 : FVec F S_ .f32 := constant S_ .f32 0x7F800000#32
  let main_v34 : FVec F S1024x1024 .f32 := broadcastInDim S1024x1024 ![] bcast_S_S1024x1024 main_cst_10
  fn_part2 (F := F) main_v32 main_v33 main_v34

def fn {F : FTy → Type} [FloatOps F] (main_arg0 : FVec F S16384x1024 .f32) (main_arg1 : FVec F S16384x512 .bf16) (main_arg2 : FVec F S16384x512 .bf16) (main_arg3 : FVec F S16384x512 .bf16) (main_arg4 : FVec F S16384x3072 .bf16) (main_arg5 : FVec F S3x512x1024 .f32) (main_arg6 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_c_1 : IVec S_ 1 := constantI S_ 1 1#1
  let main_v8 : IVec S_ 1 := (fun x v => Host.reduce IntOp.andi x v reducesTo_S16384x512_S_d0_1 h_S_) main_v7 main_c_1
  let main_v9 : IVec S_ 1 := andi main_v3 main_v8
  let main_v10 : FVec F S16384x512 .f32 := (extf .f32 · bitsLt_bf16_f32) main_arg2
  let main_v11 : FVec F S16384x512 .f32 := Host.absf main_v10
  let main_cst_2 : FVec F S_ .f32 := constant S_ .f32 0x7F800000#32
  let main_v12 : FVec F S16384x512 .f32 := broadcastInDim S16384x512 ![] bcast_S_S16384x512 main_cst_2
  let main_v13 : IVec S16384x512 1 := cmpf .olt main_v11 main_v12
  let main_c_3 : IVec S_ 1 := constantI S_ 1 1#1
  let main_v14 : IVec S_ 1 := (fun x v => Host.reduce IntOp.andi x v reducesTo_S16384x512_S_d0_1 h_S_) main_v13 main_c_3
  let main_v15 : IVec S_ 1 := andi main_v9 main_v14
  let main_v16 : FVec F S16384x512 .f32 := (extf .f32 · bitsLt_bf16_f32) main_arg3
  let main_v17 : FVec F S16384x512 .f32 := Host.absf main_v16
  fn_part1 (F := F) main_arg4 main_arg5 main_arg6 main_v15 main_v17
-- ==== Pre_finite_proj.lean ====
abbrev S16384x1024 : Shape := ⟨2, ![16384, 1024]⟩
abbrev S16384x1536 : Shape := ⟨2, ![16384, 1536]⟩
abbrev S16384x512 : Shape := ⟨2, ![16384, 512]⟩
abbrev S16384x128 : Shape := ⟨2, ![16384, 128]⟩
abbrev S16384x3072 : Shape := ⟨2, ![16384, 3072]⟩
abbrev S1x1024 : Shape := ⟨2, ![1, 1024]⟩
abbrev S1024x7176 : Shape := ⟨2, ![1024, 7176]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  bcast_S_S16384x512 : S_.BroadcastsInDim S16384x512 (![] : Fin 0 → Fin S16384x512.rank)
  reducesTo_S16384x512_S_d0_1 : S16384x512.ReducesTo [0, 1] S_
  bcast_S_S16384x128 : S_.BroadcastsInDim S16384x128 (![] : Fin 0 → Fin S16384x128.rank)
  reducesTo_S16384x128_S_d0_1 : S16384x128.ReducesTo [0, 1] S_
  bcast_S_S16384x3072 : S_.BroadcastsInDim S16384x3072 (![] : Fin 0 → Fin S16384x3072.rank)
  reducesTo_S16384x3072_S_d0_1 : S16384x3072.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x7176 : S_.BroadcastsInDim S1024x7176 (![] : Fin 0 → Fin S1024x7176.rank)
  reducesTo_S1024x7176_S_d0_1 : S1024x7176.ReducesTo [0, 1] S_

variable [Facts]

def fn_part3 {F : FTy → Type} [FloatOps F] (main_arg10 : FVec F S1024x7176 .f32) (main_v51 : IVec S_ 1) : IVec S_ 1 :=
  let main_v52 : FVec F S1024x7176 .f32 := Host.absf main_arg10
  let main_cst_18 : FVec F S_ .f32 := constant S_ .f32 0x7F800000#32
  let main_v53 : FVec F S1024x7176 .f32 := broadcastInDim S1024x7176 ![] bcast_S_S1024x7176 main_cst_18
  let main_v54 : IVec S1024x7176 1 := cmpf .olt main_v52 main_v53
  let main_c_19 : IVec S_ 1 := constantI S_ 1 1#1
  let main_v55 : IVec S_ 1 := (fun x v => Host.reduce IntOp.andi x v reducesTo_S1024x7176_S_d0_1 h_S_) main_v54 main_c_19
  let main_v56 : IVec S_ 1 := andi main_v51 main_v55
  main_v56

def fn_part2 {F : FTy → Type} [FloatOps F] (main_arg7 : FVec F S16384x128 .f32) (main_arg8 : FVec F S16384x3072 .bf16) (main_arg9 : FVec F S1x1024 .f32) (main_arg10 : FVec F S1024x7176 .f32) (main_v30 : IVec S_ 1) (main_v33 : IVec S16384x512 1) (main_c_11 : IVec S_ 1) : IVec S_ 1 :=
  let main_v34 : IVec S_ 1 := (fun x v => Host.reduce IntOp.andi x v reducesTo_S16384x512_S_d0_1 h_S_) main_v33 main_c_11
  let main_v35 : IVec S_ 1 := andi main_v30 main_v34
  let main_v36 : FVec F S16384x128 .f32 := Host.absf main_arg7
  let main_cst_12 : FVec F S_ .f32 := constant S_ .f32 0x7F800000#32
  let main_v37 : FVec F S16384x128 .f32 := broadcastInDim S16384x128 ![] bcast_S_S16384x128 main_cst_12
  let main_v38 : IVec S16384x128 1 := cmpf .olt main_v36 main_v37
  let main_c_13 : IVec S_ 1 := constantI S_ 1 1#1
  let main_v39 : IVec S_ 1 := (fun x v => Host.reduce IntOp.andi x v reducesTo_S16384x128_S_d0_1 h_S_) main_v38 main_c_13
  let main_v40 : IVec S_ 1 := andi main_v35 main_v39
  let main_v41 : FVec F S16384x3072 .f32 := (extf .f32 · bitsLt_bf16_f32) main_arg8
  let main_v42 : FVec F S16384x3072 .f32 := Host.absf main_v41
  let main_cst_14 : FVec F S_ .f32 := constant S_ .f32 0x7F800000#32
  let main_v43 : FVec F S16384x3072 .f32 := broadcastInDim S16384x3072 ![] bcast_S_S16384x3072 main_cst_14
  let main_v44 : IVec S16384x3072 1 := cmpf .olt main_v42 main_v43
  let main_c_15 : IVec S_ 1 := constantI S_ 1 1#1
  let main_v45 : IVec S_ 1 := (fun x v => Host.reduce IntOp.andi x v reducesTo_S16384x3072_S_d0_1 h_S_) main_v44 main_c_15
  let main_v46 : IVec S_ 1 := andi main_v40 main_v45
  let main_v47 : FVec F S1x1024 .f32 := Host.absf main_arg9
  let main_cst_16 : FVec F S_ .f32 := constant S_ .f32 0x7F800000#32
  let main_v48 : FVec F S1x1024 .f32 := broadcastInDim S1x1024 ![] bcast_S_S1x1024 main_cst_16
  let main_v49 : IVec S1x1024 1 := cmpf .olt main_v47 main_v48
  let main_c_17 : IVec S_ 1 := constantI S_ 1 1#1
  let main_v50 : IVec S_ 1 := (fun x v => Host.reduce IntOp.andi x v reducesTo_S1x1024_S_d0_1 h_S_) main_v49 main_c_17
  let main_v51 : IVec S_ 1 := andi main_v46 main_v50
  fn_part3 (F := F) main_arg10 main_v51

def fn_part1 {F : FTy → Type} [FloatOps F] (main_arg4 : FVec F S16384x512 .f32) (main_arg5 : FVec F S16384x512 .f32) (main_arg6 : FVec F S16384x512 .f32) (main_arg7 : FVec F S16384x128 .f32) (main_arg8 : FVec F S16384x3072 .bf16) (main_arg9 : FVec F S1x1024 .f32) (main_arg10 : FVec F S1024x7176 .f32) (main_v14 : IVec S_ 1) (main_v16 : FVec F S16384x1024 .f32) (main_cst_4 : FVec F S_ .f32) : IVec S_ 1 :=
  let main_v17 : FVec F S16384x1024 .f32 := broadcastInDim S16384x1024 ![] bcast_S_S16384x1024 main_cst_4
  let main_v18 : IVec S16384x1024 1 := cmpf .olt main_v16 main_v17
  let main_c_5 : IVec S_ 1 := constantI S_ 1 1#1
  let main_v19 : IVec S_ 1 := (fun x v => Host.reduce IntOp.andi x v reducesTo_S16384x1024_S_d0_1 h_S_) main_v18 main_c_5
  let main_v20 : IVec S_ 1 := andi main_v14 main_v19
  let main_v21 : FVec F S16384x512 .f32 := Host.absf main_arg4
  let main_cst_6 : FVec F S_ .f32 := constant S_ .f32 0x7F800000#32
  let main_v22 : FVec F S16384x512 .f32 := broadcastInDim S16384x512 ![] bcast_S_S16384x512 main_cst_6
  let main_v23 : IVec S16384x512 1 := cmpf .olt main_v21 main_v22
  let main_c_7 : IVec S_ 1 := constantI S_ 1 1#1
  let main_v24 : IVec S_ 1 := (fun x v => Host.reduce IntOp.andi x v reducesTo_S16384x512_S_d0_1 h_S_) main_v23 main_c_7
  let main_v25 : IVec S_ 1 := andi main_v20 main_v24
  let main_v26 : FVec F S16384x512 .f32 := Host.absf main_arg5
  let main_cst_8 : FVec F S_ .f32 := constant S_ .f32 0x7F800000#32
  let main_v27 : FVec F S16384x512 .f32 := broadcastInDim S16384x512 ![] bcast_S_S16384x512 main_cst_8
  let main_v28 : IVec S16384x512 1 := cmpf .olt main_v26 main_v27
  let main_c_9 : IVec S_ 1 := constantI S_ 1 1#1
  let main_v29 : IVec S_ 1 := (fun x v => Host.reduce IntOp.andi x v reducesTo_S16384x512_S_d0_1 h_S_) main_v28 main_c_9
  let main_v30 : IVec S_ 1 := andi main_v25 main_v29
  let main_v31 : FVec F S16384x512 .f32 := Host.absf main_arg6
  let main_cst_10 : FVec F S_ .f32 := constant S_ .f32 0x7F800000#32
  let main_v32 : FVec F S16384x512 .f32 := broadcastInDim S16384x512 ![] bcast_S_S16384x512 main_cst_10
  let main_v33 : IVec S16384x512 1 := cmpf .olt main_v31 main_v32
  let main_c_11 : IVec S_ 1 := constantI S_ 1 1#1
  fn_part2 (F := F) main_arg7 main_arg8 main_arg9 main_arg10 main_v30 main_v33 main_c_11

def fn {F : FTy → Type} [FloatOps F] (main_arg0 : FVec F S16384x1024 .f32) (main_arg1 : FVec F S16384x1024 .f32) (main_arg2 : FVec F S16384x1536 .bf16) (main_arg3 : FVec F S16384x1024 .bf16) (main_arg4 : FVec F S16384x512 .f32) (main_arg5 : FVec F S16384x512 .f32) (main_arg6 : FVec F S16384x512 .f32) (main_arg7 : FVec F S16384x128 .f32) (main_arg8 : FVec F S16384x3072 .bf16) (main_arg9 : FVec F S1x1024 .f32) (main_arg10 : FVec F S1024x7176 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1536 .f32 := (extf .f32 · bitsLt_bf16_f32) main_arg2
  let main_v10 : FVec F S16384x1536 .f32 := Host.absf main_v9
  let main_cst_2 : FVec F S_ .f32 := constant S_ .f32 0x7F800000#32
  let main_v11 : FVec F S16384x1536 .f32 := broadcastInDim S16384x1536 ![] bcast_S_S16384x1536 main_cst_2
  let main_v12 : IVec S16384x1536 1 := cmpf .olt main_v10 main_v11
  let main_c_3 : IVec S_ 1 := constantI S_ 1 1#1
  let main_v13 : IVec S_ 1 := (fun x v => Host.reduce IntOp.andi x v reducesTo_S16384x1536_S_d0_1 h_S_) main_v12 main_c_3
  let main_v14 : IVec S_ 1 := andi main_v8 main_v13
  let main_v15 : FVec F S16384x1024 .f32 := (extf .f32 · bitsLt_bf16_f32) main_arg3
  let main_v16 : FVec F S16384x1024 .f32 := Host.absf main_v15
  let main_cst_4 : FVec F S_ .f32 := constant S_ .f32 0x7F800000#32
  fn_part1 (F := F) main_arg4 main_arg5 main_arg6 main_arg7 main_arg8 main_arg9 main_arg10 main_v14 main_v16 main_cst_4
-- ==== Pre_finite_xa.lean ====
abbrev S16384x1024 : Shape := ⟨2, ![16384, 1024]⟩
abbrev S1x1024 : Shape := ⟨2, ![1, 1024]⟩
abbrev S256x1024 : Shape := ⟨2, ![256, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S256x1024 .f32) (main_arg5 : FVec F S1024x1024 .f32) (main_arg6 : FVec F S1024x1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S1x1024 .f32) (main_arg3 : FVec F S256x1024 .f32) (main_arg4 : FVec F S256x1024 .f32) (main_arg5 : FVec F S1024x1024 .f32) (main_arg6 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_v13 main_v16
-- ==== Kernel.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1024 : Shape := ⟨1, ![1024]⟩

abbrev nBuf : Space → Nat
  | .hbm => 37
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .bf16⟩
  | .hbm, ⟨23, _⟩ => ⟨S16384x2816, .f32⟩
  | .hbm, ⟨24, _⟩ => ⟨S16384x2816, .bf16⟩
  | .hbm, ⟨25, _⟩ => ⟨S2816x1024, .bf16⟩
  | .hbm, ⟨26, _⟩ => ⟨S1024x2816, .bf16⟩
  | .hbm, ⟨27, _⟩ => ⟨S2816x1024, .bf16⟩
  | .hbm, ⟨28, _⟩ => ⟨S1024x2816, .bf16⟩
  | .hbm, ⟨29, _⟩ => ⟨S2816x1024, .bf16⟩
  | .hbm, ⟨30, _⟩ => ⟨S16384x1024, .f32⟩
  | .hbm, ⟨31, _⟩ => ⟨S16384x2816, .bf16⟩
  | .hbm, ⟨32, _⟩ => ⟨S16384x2816, .bf16⟩
  | .hbm, ⟨33, _⟩ => ⟨S16384x2816, .bf16⟩
  | .hbm, ⟨34, _⟩ => ⟨S16384x1024, .bf16⟩
  | .hbm, ⟨35, _⟩ => ⟨S16384x1024, .bf16⟩
  | .hbm, ⟨36, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S2816x1024, .bf16⟩
  | .local _ .vmem, ⟨23, _⟩ => ⟨S2816x1024, .bf16⟩
  | .local _ .vmem, ⟨24, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev main_v21_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x2816, .bf16⟩
  | .hbm, ⟨85, _⟩ => ⟨S16384x2816, .bf16⟩
  | .hbm, ⟨86, _⟩ => ⟨S16384x2816, .bf16⟩
  | .hbm, ⟨87, _⟩ => ⟨S16384x1024, .bf16⟩
  | .hbm, ⟨88, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]
-- ==== FfnDw.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DuRefIdeal.lean ====
abbrev S16384x2816 : Shape := ⟨2, ![16384, 2816]⟩
abbrev S16384x1024 : Shape := ⟨2, ![16384, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnFwd.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S16384x2816 : Shape := ⟨2, ![16384, 2816]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S1408x1024 : Shape := ⟨2, ![1408, 1024]⟩
abbrev S512x1408 : Shape := ⟨2, ![512, 1408]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S2816x1024, .bf16⟩
  | .hbm, ⟨7, _⟩ => ⟨S1024x2816, .bf16⟩
  | .hbm, ⟨8, _⟩ => ⟨S2816x1024, .bf16⟩
  | .hbm, ⟨9, _⟩ => ⟨S2816x1024, .bf16⟩
  | .hbm, ⟨10, _⟩ => ⟨S16384x1024, .f32⟩
  | .hbm, ⟨11, _⟩ => ⟨S16384x2816, .bf16⟩
  | .hbm, ⟨12, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdRefIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x2816, .bf16⟩
  | .hbm, ⟨38, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== ProjBwd.lean ====
abbrev S16384x1024 : Shape := ⟨2, ![16384, 1024]⟩
abbrev S16384x1536 : Shape := ⟨2, ![16384, 1536]⟩
abbrev S16384x512 : Shape := ⟨2, ![16384, 512]⟩
abbrev S16384x128 : Shape := ⟨2, ![16384, 128]⟩
abbrev S16384x3072 : Shape := ⟨2, ![16384, 3072]⟩
abbrev S1x1024 : Shape := ⟨2, ![1, 1024]⟩
abbrev S1024x7176 : Shape := ⟨2, ![1024, 7176]⟩
abbrev S7176x1024 : Shape := ⟨2, ![7176, 1024]⟩
abbrev S8x1024 : Shape := ⟨2, ![8, 1024]⟩
abbrev S_ : Shape := ⟨0, ![]⟩
abbrev S128x1024 : Shape := ⟨2, ![128, 1024]⟩
abbrev S4096x1024 : Shape := ⟨2, ![4096, 1024]⟩
abbrev S3072x1024 : Shape := ⟨2, ![3072, 1024]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512x3072 : Shape := ⟨2, ![512, 3072]⟩
abbrev S3 : Shape := ⟨1, ![3]⟩
abbrev S1 : Shape := ⟨1, ![1]⟩
abbrev S512 : Shape := ⟨1, ![512]⟩
abbrev S512x1 : Shape := ⟨2, ![512, 1]⟩
abbrev S1536x1024 : Shape := ⟨2, ![1536, 1024]⟩
abbrev S1024x1024 : Shape := ⟨2, ![1024, 1024]⟩
abbrev S1024 : Shape := ⟨1, ![1024]⟩

abbrev nBuf : Space → Nat
  | .hbm => 24
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1536, .bf16⟩
  | .hbm, ⟨3, _⟩ => ⟨S16384x1024, .bf16⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x128, .f32⟩
  | .hbm, ⟨8, _⟩ => ⟨S16384x3072, .bf16⟩
  | .hbm, ⟨9, _⟩ => ⟨S1x1024, .f32⟩
  | .hbm, ⟨10, _⟩ => ⟨S1024x7176, .f32⟩
  | .hbm, ⟨11, _⟩ => ⟨S1024x7176, .bf16⟩
  | .hbm, ⟨12, _⟩ => ⟨S7176x1024, .bf16⟩
  | .hbm, ⟨13, _⟩ => ⟨S8x1024, .bf16⟩
  | .hbm, ⟨14, _⟩ => ⟨S_, .i32⟩
  | .hbm, ⟨15, _⟩ => ⟨S_, .bf16⟩
  | .hbm, ⟨16, _⟩ => ⟨S128x1024, .bf16⟩
  | .hbm, ⟨17, _⟩ => ⟨S4096x1024, .bf16⟩
  | .hbm, ⟨18, _⟩ => ⟨S3072x1024, .bf16⟩
  | .hbm, ⟨19, _⟩ => ⟨S16384x1024, .f32⟩
  | .hbm, ⟨20, _⟩ => ⟨S16384x1024, .bf16⟩
  | .hbm, ⟨21, _⟩ => ⟨S16384x1536, .bf16⟩
  | .hbm, ⟨22, _⟩ => ⟨S16384x128, .bf16⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1536, .bf16⟩
  | .local _ .vmem, ⟨5, _⟩ => ⟨S512x1536, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S512x3072, .bf16⟩
  | .local _ .vmem, ⟨17, _⟩ => ⟨S512x3072, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1536, .bf16⟩
  | .local _ .vmem, ⟨24, _⟩ => ⟨S512x1536, .bf16⟩
  | .local _ .vmem, ⟨25, _⟩ => ⟨S512x128, .bf16⟩
  | .local _ .vmem, ⟨26, _⟩ => ⟨S512x128, .bf16⟩
  | .local _ .vmem, ⟨27, _⟩ => ⟨S1x1024, .f32⟩
  | .local _ .vmem, ⟨28, _⟩ => ⟨S4096x1024, .bf16⟩
  | .local _ .vmem, ⟨29, _⟩ => ⟨S128x1024, .bf16⟩
  | .local _ .vmem, ⟨30, _⟩ => ⟨S3072x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ProjRefIdeal.lean ====
abbrev S16384x1024 : Shape := ⟨2, ![16384, 1024]⟩
abbrev S16384x1536 : Shape := ⟨2, ![16384, 1536]⟩
abbrev S16384x512 : Shape := ⟨2, ![16384, 512]⟩
abbrev S16384x128 : Shape := ⟨2, ![16384, 128]⟩
abbrev S16384x3072 : Shape := ⟨2, ![16384, 3072]⟩
abbrev S1x1024 : Shape := ⟨2, ![1, 1024]⟩
abbrev S1024x7176 : Shape := ⟨2, ![1024, 7176]⟩
abbrev S_ : Shape := ⟨0, ![]⟩
abbrev S16384 : Shape := ⟨1, ![16384]⟩
abbrev S16384x1 : Shape := ⟨2, ![16384, 1]⟩
abbrev S16384x7176 : Shape := ⟨2, ![16384, 7176]⟩
abbrev S16384x8 : Shape := ⟨2, ![16384, 8]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1536, .bf16⟩
  | .hbm, ⟨3, _⟩ => ⟨S16384x1024, .bf16⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x128, .f32⟩
  | .hbm, ⟨8, _⟩ => ⟨S16384x3072, .bf16⟩
  | .hbm, ⟨9, _⟩ => ⟨S1x1024, .f32⟩
  | .hbm, ⟨10, _⟩ => ⟨S1024x7176, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x7176, .f32⟩
  | .hbm, ⟨31, _⟩ => ⟨S16384x1536, .f32⟩
  | .hbm, ⟨32, _⟩ => ⟨S16384x1024, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x8, .f32⟩
  | .hbm, ⟨37, _⟩ => ⟨S16384x3072, .f32⟩
  | .hbm, ⟨38, _⟩ => ⟨S16384x1536, .f32⟩
  | .hbm, ⟨39, _⟩ => ⟨S16384x1024, .f32⟩
  | .hbm, ⟨40, _⟩ => ⟨S16384x8, .f32⟩
  | .hbm, ⟨41, _⟩ => ⟨S16384x3072, .f32⟩
  | .hbm, ⟨42, _⟩ => ⟨S16384x7176, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .bf16⟩
  | .hbm, ⟨69, _⟩ => ⟨S16384x1536, .f32⟩
  | .hbm, ⟨70, _⟩ => ⟨S16384x1536, .bf16⟩
  | .hbm, ⟨71, _⟩ => ⟨S16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== XaBwd.lean ====
abbrev S16384x1024 : Shape := ⟨2, ![16384, 1024]⟩
abbrev S1x1024 : Shape := ⟨2, ![1, 1024]⟩
abbrev S256x1024 : Shape := ⟨2, ![256, 1024]⟩
abbrev S1024x1024 : Shape := ⟨2, ![1024, 1024]⟩
abbrev S512x1024 : Shape := ⟨2, ![512, 1024]⟩
abbrev S2 : Shape := ⟨1, ![2]⟩
abbrev S1 : Shape := ⟨1, ![1]⟩
abbrev S_ : Shape := ⟨0, ![]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S1024 : Shape := ⟨1, ![1024]⟩

abbrev nBuf : Space → Nat
  | .hbm => 19
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1024x1024, .f32⟩
  | .hbm, ⟨7, _⟩ => ⟨S256x1024, .bf16⟩
  | .hbm, ⟨8, _⟩ => ⟨S256x1024, .bf16⟩
  | .hbm, ⟨9, _⟩ => ⟨S1024x1024, .bf16⟩
  | .hbm, ⟨10, _⟩ => ⟨S1024x1024, .bf16⟩
  | .hbm, ⟨11, _⟩ => ⟨S16384x1024, .f32⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S16384x1024, .bf16⟩
  | .hbm, ⟨16, _⟩ => ⟨S256x1024, .f32⟩
  | .hbm, ⟨17, _⟩ => ⟨S256x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1024x1024, .bf16⟩
  | .local _ .vmem, ⟨21, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_v4_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== XaRefIdeal.lean ====
abbrev S16384x1024 : Shape := ⟨2, ![16384, 1024]⟩
abbrev S1x1024 : Shape := ⟨2, ![1, 1024]⟩
abbrev S256x1024 : Shape := ⟨2, ![256, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩
abbrev S4x256x256 : Shape := ⟨3, ![4, 256, 256]⟩
abbrev S1024 : Shape := ⟨1, ![1024]⟩

abbrev nBuf : Space → Nat
  | .hbm => 137
  | .vmem => 0
  | .smem => 0
  | _ => 0

abbrev hbmTy0_0 (i : Nat) : BufTy := match i % 128 with
  | 0 => ⟨S16384x1024, .f32⟩
  | 1 => ⟨S16384x1024, .f32⟩
  | 2 => ⟨S1x1024, .f32⟩
  | 3 => ⟨S256x1024, .f32⟩
  | 4 => ⟨S256x1024, .f32⟩
  | 5 => ⟨S1024x1024, .f32⟩
  | 6 => ⟨S1024x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1024, .f32⟩
  | 23 => ⟨S16384x1024, .f32⟩
  | 24 => ⟨S16384x1024, .f32⟩
  | 25 => ⟨S16384x1024, .f32⟩
  | 26 => ⟨S16384x1024, .f32⟩
  | 27 => ⟨S16384x4x256, .f32⟩
  | 28 => ⟨S256x4x256, .f32⟩
  | 29 => ⟨S4x16384x256, .f32⟩
  | 30 => ⟨S_, .f32⟩
  | 31 => ⟨S4x16384x256, .f32⟩
  | 32 => ⟨S4x16384x256, .f32⟩
  | 33 => ⟨S_, .f32⟩
  | 34 => ⟨S4x16384, .f32⟩
  | 35 => ⟨S4x16384x1, .f32⟩
  | 36 => ⟨S4x16384x256, .f32⟩
  | 37 => ⟨S4x16384x256, .i1⟩
  | 38 => ⟨S4x16384x256, .f32⟩
  | 39 => ⟨S_, .f32⟩
  | 40 => ⟨S4x16384, .f32⟩
  | 41 => ⟨S_, .f32⟩
  | 42 => ⟨S4x16384, .f32⟩
  | 43 => ⟨S4x16384, .f32⟩
  | 44 => ⟨S_, .f32⟩
  | 45 => ⟨S4x16384, .f32⟩
  | 46 => ⟨S4x16384, .i1⟩
  | 47 => ⟨S_, .f32⟩
  | 48 => ⟨S4x16384, .f32⟩
  | 49 => ⟨S4x16384, .i1⟩
  | 50 => ⟨S_, .f32⟩
  | 51 => ⟨S4x16384, .f32⟩
  | 52 => ⟨S_, .f32⟩
  | 53 => ⟨S4x16384, .f32⟩
  | 54 => ⟨S_, .f32⟩
  | 55 => ⟨S4x16384, .f32⟩
  | 56 => ⟨S4x16384, .f32⟩
  | 57 => ⟨S4x16384, .f32⟩
  | 58 => ⟨S4x16384x1, .f32⟩
  | 59 => ⟨S4x16384x256, .f32⟩
  | 60 => ⟨S4x16384x256, .f32⟩
  | 61 => ⟨S4x16384x256, .f32⟩
  | 62 => ⟨S_, .f32⟩
  | 63 => ⟨S4x16384, .f32⟩
  | 64 => ⟨S4x16384x1, .f32⟩
  | 65 => ⟨S4x16384x256, .f32⟩
  | 66 => ⟨S4x16384x256, .f32⟩
  | 67 => ⟨S4x16384x1, .f32⟩
  | 68 => ⟨S_, .f32⟩
  | 69 => ⟨S4x16384x1, .f32⟩
  | 70 => ⟨S4x16384x1, .f32⟩
  | 71 => ⟨S256x4x256, .f32⟩
  | 72 => ⟨S4x256x16384, .f32⟩
  | 73 => ⟨S16384x4x256, .f32⟩
  | 74 => ⟨S16384x1024, .f32⟩
  | 75 => ⟨S16384x1024, .f32⟩
  | 76 => ⟨S16384x1024, .f32⟩
  | 77 => ⟨S16384x1024, .f32⟩
  | 78 => ⟨S16384x1024, .f32⟩
  | 79 => ⟨S16384x4x256, .f32⟩
  | 80 => ⟨S4x256x16384, .f32⟩
  | 81 => ⟨S4x16384x256, .f32⟩
  | 82 => ⟨S4x256x256, .f32⟩
  | 83 => ⟨S256x4x256, .f32⟩
  | 84 => ⟨S256x1024, .f32⟩
  | 85 => ⟨S4x16384x256, .f32⟩
  | 86 => ⟨S4x16384x256, .f32⟩
  | 87 => ⟨S4x16384x256, .f32⟩
  | 88 => ⟨S_, .f32⟩
  | 89 => ⟨S4x16384, .f32⟩
  | 90 => ⟨S4x16384x1, .f32⟩
  | 91 => ⟨S4x16384x1, .f32⟩
  | 92 => ⟨S4x16384x256, .f32⟩
  | 93 => ⟨S4x16384x256, .f32⟩
  | 94 => ⟨S_, .f32⟩
  | 95 => ⟨S4x16384, .f32⟩
  | 96 => ⟨S4x16384x256, .f32⟩
  | 97 => ⟨S4x16384x256, .f32⟩
  | 98 => ⟨S4x16384x256, .f32⟩
  | 99 => ⟨S_, .f32⟩
  | 100 => ⟨S4x16384x256, .f32⟩
  | 101 => ⟨S4x16384x256, .f32⟩
  | 102 => ⟨S4x256x256, .f32⟩
  | 103 => ⟨S256x4x256, .f32⟩
  | 104 => ⟨S4x16384x256, .f32⟩
  | 105 => ⟨S16384x4x256, .f32⟩
  | 106 => ⟨S256x1024, .f32⟩
  | 107 => ⟨S16384x1024, .f32⟩
  | 108 => ⟨S16384x1024, .f32⟩
  | 109 => ⟨S16384x1024, .f32⟩
  | 110 => ⟨S_, .f32⟩
  | 111 => ⟨S1024, .f32⟩
  | 112 => ⟨S1x1024, .f32⟩
  | 113 => ⟨S16384x1024, .f32⟩
  | 114 => ⟨S16384x1024, .f32⟩
  | 115 => ⟨S16384x1024, .f32⟩
  | 116 => ⟨S_, .f32⟩
  | 117 => ⟨S16384, .f32⟩
  | 118 => ⟨S16384x1, .f32⟩
  | 119 => ⟨S16384x1024, .f32⟩
  | 120 => ⟨S16384x1024, .f32⟩
  | 121 => ⟨S16384x1, .f32⟩
  | 122 => ⟨S_, .f32⟩
  | 123 => ⟨S16384x1, .f32⟩
  | 124 => ⟨S16384x1, .f32⟩
  | 125 => ⟨S_, .f32⟩
  | 126 => ⟨S16384, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S16384x1024, .f32⟩
  | 5 => ⟨S16384x1024, .bf16⟩
  | 6 => ⟨S16384x1024, .bf16⟩
  | 7 => ⟨S16384x1024, .bf16⟩
  | 8 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_18 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_19 : Ref sig .tc := ⟨.hbm, 122, rfl⟩
abbrev main_v95 : Ref sig .tc := ⟨.hbm, 123, rfl⟩
abbrev main_v96 : Ref sig .tc := ⟨.hbm, 124, rfl⟩
abbrev main_cst_20 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩

abbrev nD : Nat := 1
abbrev τ : Topo := Topo.v7x

variable {F : FTy → Type} [FloatOps F]
-- ==== ProjFwd.lean ====
abbrev S16384x1024 : Shape := ⟨2, ![16384, 1024]⟩
abbrev S1x1024 : Shape := ⟨2, ![1, 1024]⟩
abbrev S1024x7176 : Shape := ⟨2, ![1024, 7176]⟩
abbrev S7176x1024 : Shape := ⟨2, ![7176, 1024]⟩
abbrev S8x1024 : Shape := ⟨2, ![8, 1024]⟩
abbrev S_ : Shape := ⟨0, ![]⟩
abbrev S128x1024 : Shape := ⟨2, ![128, 1024]⟩
abbrev S4096x1024 : Shape := ⟨2, ![4096, 1024]⟩
abbrev S3072x1024 : Shape := ⟨2, ![3072, 1024]⟩
abbrev S16384x1536 : Shape := ⟨2, ![16384, 1536]⟩
abbrev S16384x128 : Shape := ⟨2, ![16384, 128]⟩
abbrev S16384x3072 : Shape := ⟨2, ![16384, 3072]⟩
abbrev S512x1024 : Shape := ⟨2, ![512, 1024]⟩
abbrev S512x1536 : Shape := ⟨2, ![512, 1536]⟩
abbrev S512x128 : Shape := ⟨2, ![512, 128]⟩
abbrev S512x3072 : Shape := ⟨2, ![512, 3072]⟩
abbrev S3 : Shape := ⟨1, ![3]⟩
abbrev S1 : Shape := ⟨1, ![1]⟩
abbrev S512 : Shape := ⟨1, ![512]⟩
abbrev S512x1 : Shape := ⟨2, ![512, 1]⟩
abbrev S1536x1024 : Shape := ⟨2, ![1536, 1024]⟩
abbrev S1024x1024 : Shape := ⟨2, ![1024, 1024]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7176, .f32⟩
  | .hbm, ⟨3, _⟩ => ⟨S1024x7176, .bf16⟩
  | .hbm, ⟨4, _⟩ => ⟨S7176x1024, .bf16⟩
  | .hbm, ⟨5, _⟩ => ⟨S8x1024, .bf16⟩
  | .hbm, ⟨6, _⟩ => ⟨S_, .i32⟩
  | .hbm, ⟨7, _⟩ => ⟨S_, .bf16⟩
  | .hbm, ⟨8, _⟩ => ⟨S128x1024, .bf16⟩
  | .hbm, ⟨9, _⟩ => ⟨S4096x1024, .bf16⟩
  | .hbm, ⟨10, _⟩ => ⟨S3072x1024, .bf16⟩
  | .hbm, ⟨11, _⟩ => ⟨S16384x1536, .bf16⟩
  | .hbm, ⟨12, _⟩ => ⟨S16384x1024, .bf16⟩
  | .hbm, ⟨13, _⟩ => ⟨S16384x1536, .bf16⟩
  | .hbm, ⟨14, _⟩ => ⟨S16384x128, .f32⟩
  | .hbm, ⟨15, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1536, .bf16⟩
  | .local _ .vmem, ⟨4, _⟩ => ⟨S512x1536, .bf16⟩
  | .local _ .vmem, ⟨5, _⟩ => ⟨S512x1024, .bf16⟩
  | .local _ .vmem, ⟨6, _⟩ => ⟨S512x1024, .bf16⟩
  | .local _ .vmem, ⟨7, _⟩ => ⟨S512x1536, .bf16⟩
  | .local _ .vmem, ⟨8, _⟩ => ⟨S512x1536, .bf16⟩
  | .local _ .vmem, ⟨9, _⟩ => ⟨S512x128, .f32⟩
  | .local _ .vmem, ⟨10, _⟩ => ⟨S512x128, .f32⟩
  | .local _ .vmem, ⟨11, _⟩ => ⟨S512x3072, .bf16⟩
  | .local _ .vmem, ⟨12, _⟩ => ⟨S512x3072, .bf16⟩
  | .local _ .vmem, ⟨13, _⟩ => ⟨S4096x1024, .bf16⟩
  | .local _ .vmem, ⟨14, _⟩ => ⟨S128x1024, .bf16⟩
  | .local _ .vmem, ⟨15, _⟩ => ⟨S3072x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjFwdRefIdeal.lean ====
abbrev S16384x1024 : Shape := ⟨2, ![16384, 1024]⟩
abbrev S1x1024 : Shape := ⟨2, ![1, 1024]⟩
abbrev S1024x7176 : Shape := ⟨2, ![1024, 7176]⟩
abbrev S_ : Shape := ⟨0, ![]⟩
abbrev S16384 : Shape := ⟨1, ![16384]⟩
abbrev S16384x1 : Shape := ⟨2, ![16384, 1]⟩
abbrev S16384x7176 : Shape := ⟨2, ![16384, 7176]⟩
abbrev S16384x1536 : Shape := ⟨2, ![16384, 1536]⟩
abbrev S16384x512 : Shape := ⟨2, ![16384, 512]⟩
abbrev S16384x8 : Shape := ⟨2, ![16384, 8]⟩
abbrev S16384x3072 : Shape := ⟨2, ![16384, 3072]⟩
abbrev S16384x128 : Shape := ⟨2, ![16384, 128]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7176, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x7176, .f32⟩
  | .hbm, ⟨19, _⟩ => ⟨S16384x1536, .f32⟩
  | .hbm, ⟨20, _⟩ => ⟨S16384x1024, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x8, .f32⟩
  | .hbm, ⟨25, _⟩ => ⟨S16384x3072, .f32⟩
  | .hbm, ⟨26, _⟩ => ⟨S16384x1536, .bf16⟩
  | .hbm, ⟨27, _⟩ => ⟨S16384x1024, .bf16⟩
  | .hbm, ⟨28, _⟩ => ⟨S16384x1536, .f32⟩
  | .hbm, ⟨29, _⟩ => ⟨S16384x1536, .bf16⟩
  | .hbm, ⟨30, _⟩ => ⟨S_, .i32⟩
  | .hbm, ⟨31, _⟩ => ⟨S_, .f32⟩
  | .hbm, ⟨32, _⟩ => ⟨S16384x128, .f32⟩
  | .hbm, ⟨33, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== JointDw.lean ====
abbrev S16384x1536 : Shape := ⟨2, ![16384, 1536]⟩
abbrev S16384x1024 : Shape := ⟨2, ![16384, 1024]⟩
abbrev S1536x1024 : Shape := ⟨2, ![1536, 1024]⟩
abbrev S2048x1536 : Shape := ⟨2, ![2048, 1536]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .bf16⟩
  | .hbm, ⟨2, _⟩ => ⟨S1536x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== JointRefIdeal.lean ====
abbrev S16384x1536 : Shape := ⟨2, ![16384, 1536]⟩
abbrev S16384x1024 : Shape := ⟨2, ![16384, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .bf16⟩
  | .hbm, ⟨2, _⟩ => ⟨S_, .f32⟩
  | .hbm, ⟨3, _⟩ => ⟨S1024x1536, .f32⟩
  | .hbm, ⟨4, _⟩ => ⟨S16384x1024, .f32⟩
  | .hbm, ⟨5, _⟩ => ⟨S16384x1536, .f32⟩
  | .hbm, ⟨6, _⟩ => ⟨S16384x1536, .f32⟩
  | .hbm, ⟨7, _⟩ => ⟨S1536x1024, .f32⟩
  | .hbm, ⟨8, _⟩ => ⟨S1024x1536, .f32⟩
  | .hbm, ⟨9, _⟩ => ⟨S1536x1024, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SquareDw.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SquareTRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GatesDw.lean ====
abbrev S16384x3072 : Shape := ⟨2, ![16384, 3072]⟩
abbrev S16384x1024 : Shape := ⟨2, ![16384, 1024]⟩
abbrev S3072x1024 : Shape := ⟨2, ![3072, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S3072x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .f32⟩
  | .local _ .vmem, ⟨5, _⟩ => ⟨S1536x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesRefIdeal.lean ====
abbrev S16384x3072 : Shape := ⟨2, ![16384, 3072]⟩
abbrev S16384x1024 : Shape := ⟨2, ![16384, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S_, .f32⟩
  | .hbm, ⟨3, _⟩ => ⟨S1024x3072, .f32⟩
  | .hbm, ⟨4, _⟩ => ⟨S16384x1024, .f32⟩
  | .hbm, ⟨5, _⟩ => ⟨S16384x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S3072x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ForgetDw.lean ====
abbrev S16384x128 : Shape := ⟨2, ![16384, 128]⟩
abbrev S16384x1024 : Shape := ⟨2, ![16384, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x128, .bf16⟩
  | .hbm, ⟨1, _⟩ => ⟨S16384x1024, .bf16⟩
  | .hbm, ⟨2, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | _, _ => ⟨S16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ForgetRefIdeal.lean ====
abbrev S16384x128 : Shape := ⟨2, ![16384, 128]⟩
abbrev S16384x1024 : Shape := ⟨2, ![16384, 1024]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x128, .bf16⟩
  | .hbm, ⟨1, _⟩ => ⟨S16384x1024, .bf16⟩
  | .hbm, ⟨2, _⟩ => ⟨S_, .f32⟩
  | .hbm, ⟨3, _⟩ => ⟨S1024x128, .f32⟩
  | .hbm, ⟨4, _⟩ => ⟨S16384x1024, .f32⟩
  | .hbm, ⟨5, _⟩ => ⟨S16384x128, .f32⟩
  | .hbm, ⟨6, _⟩ => ⟨S16384x128, .f32⟩
  | .hbm, ⟨7, _⟩ => ⟨S128x1024, .f32⟩
  | .hbm, ⟨8, _⟩ => ⟨S1024x128, .f32⟩
  | .hbm, ⟨9, _⟩ => ⟨S128x1024, .f32⟩
  | _, _ => ⟨S16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchDwA.lean ====
abbrev S16384x512 : Shape := ⟨2, ![16384, 512]⟩
abbrev S16384x3072 : Shape := ⟨2, ![16384, 3072]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S16384x3072, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchRefAIdeal.lean ====
abbrev S16384x512 : Shape := ⟨2, ![16384, 512]⟩
abbrev S16384x3072 : Shape := ⟨2, ![16384, 3072]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x3072, .bf16⟩
  | .hbm, ⟨2, _⟩ => ⟨S16384x1024, .bf16⟩
  | .hbm, ⟨3, _⟩ => ⟨S_, .f32⟩
  | .hbm, ⟨4, _⟩ => ⟨S512x1024, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S1024x512, .f32⟩
  | .hbm, ⟨9, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchDwB.lean ====
abbrev S16384x512 : Shape := ⟨2, ![16384, 512]⟩
abbrev S16384x3072 : Shape := ⟨2, ![16384, 3072]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S16384x3072, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchRefBIdeal.lean ====
abbrev S16384x512 : Shape := ⟨2, ![16384, 512]⟩
abbrev S16384x3072 : Shape := ⟨2, ![16384, 3072]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x3072, .bf16⟩
  | .hbm, ⟨2, _⟩ => ⟨S16384x1024, .bf16⟩
  | .hbm, ⟨3, _⟩ => ⟨S_, .f32⟩
  | .hbm, ⟨4, _⟩ => ⟨S512x1024, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S1024x512, .f32⟩
  | .hbm, ⟨9, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchDwC.lean ====
abbrev S16384x512 : Shape := ⟨2, ![16384, 512]⟩
abbrev S16384x3072 : Shape := ⟨2, ![16384, 3072]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S16384x3072, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchRefCIdeal.lean ====
abbrev S16384x512 : Shape := ⟨2, ![16384, 512]⟩
abbrev S16384x3072 : Shape := ⟨2, ![16384, 3072]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x3072, .bf16⟩
  | .hbm, ⟨2, _⟩ => ⟨S16384x1024, .bf16⟩
  | .hbm, ⟨3, _⟩ => ⟨S_, .f32⟩
  | .hbm, ⟨4, _⟩ => ⟨S512x1024, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S1024x512, .f32⟩
  | .hbm, ⟨9, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MergeBwd.lean ====
abbrev S16384x1024 : Shape := ⟨2, ![16384, 1024]⟩
abbrev S16384x512 : Shape := ⟨2, ![16384, 512]⟩
abbrev S16384x3072 : Shape := ⟨2, ![16384, 3072]⟩
abbrev S3x512x1024 : Shape := ⟨3, ![3, 512, 1024]⟩
abbrev S1024x1024 : Shape := ⟨2, ![1024, 1024]⟩
abbrev S16384x128 : Shape := ⟨2, ![16384, 128]⟩
abbrev S512x1024 : Shape := ⟨2, ![512, 1024]⟩
abbrev S512x512 : Shape := ⟨2, ![512, 512]⟩
abbrev S512x3072 : Shape := ⟨2, ![512, 3072]⟩
abbrev S512x128 : Shape := ⟨2, ![512, 128]⟩
abbrev S2 : Shape := ⟨1, ![2]⟩
abbrev S1 : Shape := ⟨1, ![1]⟩
abbrev S_ : Shape := ⟨0, ![]⟩
abbrev S1x512x1024 : Shape := ⟨3, ![1, 512, 1024]⟩

abbrev nBuf : Space → Nat
  | .hbm => 17
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S16384x1024, .bf16⟩
  | .hbm, ⟨10, _⟩ => ⟨S16384x1024, .bf16⟩
  | .hbm, ⟨11, _⟩ => ⟨S16384x3072, .bf16⟩
  | .hbm, ⟨12, _⟩ => ⟨S16384x3072, .bf16⟩
  | .hbm, ⟨13, _⟩ => ⟨S16384x512, .bf16⟩
  | .hbm, ⟨14, _⟩ => ⟨S16384x512, .bf16⟩
  | .hbm, ⟨15, _⟩ => ⟨S16384x512, .bf16⟩
  | .hbm, ⟨16, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x3072, .bf16⟩
  | .local _ .vmem, ⟨15, _⟩ => ⟨S512x3072, .bf16⟩
  | .local _ .vmem, ⟨16, _⟩ => ⟨S512x3072, .bf16⟩
  | .local _ .vmem, ⟨17, _⟩ => ⟨S512x3072, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x128, .f32⟩
  | .local _ .vmem, ⟨25, _⟩ => ⟨S512x128, .f32⟩
  | .local _ .vmem, ⟨26, _⟩ => ⟨S3x512x1024, .bf16⟩
  | .local _ .vmem, ⟨27, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeBwdRefIdeal.lean ====
abbrev S16384x1024 : Shape := ⟨2, ![16384, 1024]⟩
abbrev S16384x512 : Shape := ⟨2, ![16384, 512]⟩
abbrev S16384x3072 : Shape := ⟨2, ![16384, 3072]⟩
abbrev S3x512x1024 : Shape := ⟨3, ![3, 512, 1024]⟩
abbrev S1024x1024 : Shape := ⟨2, ![1024, 1024]⟩
abbrev S16384x1x512 : Shape := ⟨3, ![16384, 1, 512]⟩
abbrev S16384x3x512 : Shape := ⟨3, ![16384, 3, 512]⟩
abbrev S3x1024x16384 : Shape := ⟨3, ![3, 1024, 16384]⟩
abbrev S16384x3x1024 : Shape := ⟨3, ![16384, 3, 1024]⟩
abbrev S_ : Shape := ⟨0, ![]⟩
abbrev S3x16384x512 : Shape := ⟨3, ![3, 16384, 512]⟩
abbrev S16384x8x64 : Shape := ⟨3, ![16384, 8, 64]⟩
abbrev S16384x8 : Shape := ⟨2, ![16384, 8]⟩
abbrev S16384x128 : Shape := ⟨2, ![16384, 128]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S3x512x1024, .f32⟩
  | .hbm, ⟨6, _⟩ => ⟨S1024x1024, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x3072, .f32⟩
  | .hbm, ⟨11, _⟩ => ⟨S16384x1x512, .f32⟩
  | .hbm, ⟨12, _⟩ => ⟨S16384x1x512, .f32⟩
  | .hbm, ⟨13, _⟩ => ⟨S16384x1x512, .f32⟩
  | .hbm, ⟨14, _⟩ => ⟨S16384x3x512, .f32⟩
  | .hbm, ⟨15, _⟩ => ⟨S3x1024x16384, .f32⟩
  | .hbm, ⟨16, _⟩ => ⟨S16384x3x1024, .f32⟩
  | .hbm, ⟨17, _⟩ => ⟨S16384x3x1024, .f32⟩
  | .hbm, ⟨18, _⟩ => ⟨S16384x3x1024, .f32⟩
  | .hbm, ⟨19, _⟩ => ⟨S16384x3x1024, .f32⟩
  | .hbm, ⟨20, _⟩ => ⟨S_, .f32⟩
  | .hbm, ⟨21, _⟩ => ⟨S16384x3x1024, .f32⟩
  | .hbm, ⟨22, _⟩ => ⟨S16384x3x1024, .f32⟩
  | .hbm, ⟨23, _⟩ => ⟨S_, .f32⟩
  | .hbm, ⟨24, _⟩ => ⟨S16384x3x1024, .f32⟩
  | .hbm, ⟨25, _⟩ => ⟨S16384x3x1024, .f32⟩
  | .hbm, ⟨26, _⟩ => ⟨S_, .f32⟩
  | .hbm, ⟨27, _⟩ => ⟨S16384x3x1024, .f32⟩
  | .hbm, ⟨28, _⟩ => ⟨S16384x3x1024, .f32⟩
  | .hbm, ⟨29, _⟩ => ⟨S16384x3x1024, .f32⟩
  | .hbm, ⟨30, _⟩ => ⟨S16384x3x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x3x1024, .f32⟩
  | .hbm, ⟨36, _⟩ => ⟨S16384x3x1024, .f32⟩
  | .hbm, ⟨37, _⟩ => ⟨S16384x3x1024, .f32⟩
  | .hbm, ⟨38, _⟩ => ⟨S3x1024x16384, .f32⟩
  | .hbm, ⟨39, _⟩ => ⟨S3x16384x512, .f32⟩
  | .hbm, ⟨40, _⟩ => ⟨S16384x3x512, .f32⟩
  | .hbm, ⟨41, _⟩ => ⟨S16384x1x512, .f32⟩
  | .hbm, ⟨42, _⟩ => ⟨S16384x512, .f32⟩
  | .hbm, ⟨43, _⟩ => ⟨S16384x1x512, .f32⟩
  | .hbm, ⟨44, _⟩ => ⟨S16384x512, .f32⟩
  | .hbm, ⟨45, _⟩ => ⟨S16384x1x512, .f32⟩
  | .hbm, ⟨46, _⟩ => ⟨S16384x512, .f32⟩
  | .hbm, ⟨47, _⟩ => ⟨S16384x3x1024, .f32⟩
  | .hbm, ⟨48, _⟩ => ⟨S16384x3072, .f32⟩
  | .hbm, ⟨49, _⟩ => ⟨S16384x512, .f32⟩
  | .hbm, ⟨50, _⟩ => ⟨S16384x8x64, .f32⟩
  | .hbm, ⟨51, _⟩ => ⟨S_, .f32⟩
  | .hbm, ⟨52, _⟩ => ⟨S16384x8, .f32⟩
  | .hbm, ⟨53, _⟩ => ⟨S16384x1024, .bf16⟩
  | .hbm, ⟨54, _⟩ => ⟨S16384x1024, .bf16⟩
  | .hbm, ⟨55, _⟩ => ⟨S16384x3072, .bf16⟩
  | .hbm, ⟨56, _⟩ => ⟨S16384x3072, .f32⟩
  | .hbm, ⟨57, _⟩ => ⟨S16384x3072, .bf16⟩
  | .hbm, ⟨58, _⟩ => ⟨S16384x512, .bf16⟩
  | .hbm, ⟨59, _⟩ => ⟨S16384x512, .bf16⟩
  | .hbm, ⟨60, _⟩ => ⟨S16384x512, .bf16⟩
  | .hbm, ⟨61, _⟩ => ⟨S_, .i32⟩
  | .hbm, ⟨62, _⟩ => ⟨S_, .f32⟩
  | .hbm, ⟨63, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c : Ref sig .tc := ⟨.hbm, 61, rfl⟩
abbrev main_call0_v0 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== MergeFwd.lean ====
abbrev S16384x1024 : Shape := ⟨2, ![16384, 1024]⟩
abbrev S16384x512 : Shape := ⟨2, ![16384, 512]⟩
abbrev S16384x3072 : Shape := ⟨2, ![16384, 3072]⟩
abbrev S3x512x1024 : Shape := ⟨3, ![3, 512, 1024]⟩
abbrev S1024x1024 : Shape := ⟨2, ![1024, 1024]⟩
abbrev S512x1024 : Shape := ⟨2, ![512, 1024]⟩
abbrev S512x512 : Shape := ⟨2, ![512, 512]⟩
abbrev S512x3072 : Shape := ⟨2, ![512, 3072]⟩
abbrev S2 : Shape := ⟨1, ![2]⟩
abbrev S1 : Shape := ⟨1, ![1]⟩
abbrev S_ : Shape := ⟨0, ![]⟩
abbrev S1x512x1024 : Shape := ⟨3, ![1, 512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .f32⟩
  | .local _ .vmem, ⟨11, _⟩ => ⟨S512x1024, .f32⟩
  | .local _ .vmem, ⟨12, _⟩ => ⟨S3x512x1024, .bf16⟩
  | .local _ .vmem, ⟨13, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeFwdRefIdeal.lean ====
abbrev S16384x1024 : Shape := ⟨2, ![16384, 1024]⟩
abbrev S16384x512 : Shape := ⟨2, ![16384, 512]⟩
abbrev S16384x3072 : Shape := ⟨2, ![16384, 3072]⟩
abbrev S3x512x1024 : Shape := ⟨3, ![3, 512, 1024]⟩
abbrev S1024x1024 : Shape := ⟨2, ![1024, 1024]⟩
abbrev S16384x3x1024 : Shape := ⟨3, ![16384, 3, 1024]⟩
abbrev S_ : Shape := ⟨0, ![]⟩
abbrev S16384x1x512 : Shape := ⟨3, ![16384, 1, 512]⟩
abbrev S16384x3x512 : Shape := ⟨3, ![16384, 3, 512]⟩
abbrev S3x1024x16384 : Shape := ⟨3, ![3, 1024, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S3x512x1024, .f32⟩
  | .hbm, ⟨6, _⟩ => ⟨S1024x1024, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x3072, .f32⟩
  | .hbm, ⟨11, _⟩ => ⟨S16384x3x1024, .f32⟩
  | .hbm, ⟨12, _⟩ => ⟨S16384x3x1024, .f32⟩
  | .hbm, ⟨13, _⟩ => ⟨S16384x3x1024, .f32⟩
  | .hbm, ⟨14, _⟩ => ⟨S_, .f32⟩
  | .hbm, ⟨15, _⟩ => ⟨S16384x3x1024, .f32⟩
  | .hbm, ⟨16, _⟩ => ⟨S16384x3x1024, .f32⟩
  | .hbm, ⟨17, _⟩ => ⟨S_, .f32⟩
  | .hbm, ⟨18, _⟩ => ⟨S16384x3x1024, .f32⟩
  | .hbm, ⟨19, _⟩ => ⟨S16384x3x1024, .f32⟩
  | .hbm, ⟨20, _⟩ => ⟨S16384x1x512, .f32⟩
  | .hbm, ⟨21, _⟩ => ⟨S16384x1x512, .f32⟩
  | .hbm, ⟨22, _⟩ => ⟨S16384x1x512, .f32⟩
  | .hbm, ⟨23, _⟩ => ⟨S16384x3x512, .f32⟩
  | .hbm, ⟨24, _⟩ => ⟨S3x1024x16384, .f32⟩
  | .hbm, ⟨25, _⟩ => ⟨S16384x3x1024, .f32⟩
  | .hbm, ⟨26, _⟩ => ⟨S16384x3x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== XaFwd.lean ====
abbrev S16384x1024 : Shape := ⟨2, ![16384, 1024]⟩
abbrev S1x1024 : Shape := ⟨2, ![1, 1024]⟩
abbrev S256x1024 : Shape := ⟨2, ![256, 1024]⟩
abbrev S1024x1024 : Shape := ⟨2, ![1024, 1024]⟩
abbrev S512x1024 : Shape := ⟨2, ![512, 1024]⟩
abbrev S2 : Shape := ⟨1, ![2]⟩
abbrev S1 : Shape := ⟨1, ![1]⟩
abbrev S_ : Shape := ⟨0, ![]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 11
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S256x1024, .bf16⟩
  | .hbm, ⟨7, _⟩ => ⟨S256x1024, .bf16⟩
  | .hbm, ⟨8, _⟩ => ⟨S1024x1024, .bf16⟩
  | .hbm, ⟨9, _⟩ => ⟨S1024x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XaFwdRefIdeal.lean ====
abbrev S16384x1024 : Shape := ⟨2, ![16384, 1024]⟩
abbrev S1x1024 : Shape := ⟨2, ![1, 1024]⟩
abbrev S256x1024 : Shape := ⟨2, ![256, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x4x256, .f32⟩
  | .hbm, ⟨23, _⟩ => ⟨S256x4x256, .f32⟩
  | .hbm, ⟨24, _⟩ => ⟨S4x16384x256, .f32⟩
  | .hbm, ⟨25, _⟩ => ⟨S_, .f32⟩
  | .hbm, ⟨26, _⟩ => ⟨S4x16384x256, .f32⟩
  | .hbm, ⟨27, _⟩ => ⟨S4x16384x256, .f32⟩
  | .hbm, ⟨28, _⟩ => ⟨S_, .f32⟩
  | .hbm, ⟨29, _⟩ => ⟨S4x16384, .f32⟩
  | .hbm, ⟨30, _⟩ => ⟨S_, .f32⟩
  | .hbm, ⟨31, _⟩ => ⟨S4x16384, .f32⟩
  | .hbm, ⟨32, _⟩ => ⟨S4x16384, .f32⟩
  | .hbm, ⟨33, _⟩ => ⟨S4x16384x1, .f32⟩
  | .hbm, ⟨34, _⟩ => ⟨S4x16384x256, .f32⟩
  | .hbm, ⟨35, _⟩ => ⟨S4x16384x256, .f32⟩
  | .hbm, ⟨36, _⟩ => ⟨S4x16384x256, .f32⟩
  | .hbm, ⟨37, _⟩ => ⟨S_, .f32⟩
  | .hbm, ⟨38, _⟩ => ⟨S4x16384, .f32⟩
  | .hbm, ⟨39, _⟩ => ⟨S4x16384x1, .f32⟩
  | .hbm, ⟨40, _⟩ => ⟨S4x16384x256, .f32⟩
  | .hbm, ⟨41, _⟩ => ⟨S4x16384x256, .f32⟩
  | .hbm, ⟨42, _⟩ => ⟨S256x4x256, .f32⟩
  | .hbm, ⟨43, _⟩ => ⟨S4x256x16384, .f32⟩
  | .hbm, ⟨44, _⟩ => ⟨S16384x4x256, .f32⟩
  | .hbm, ⟨45, _⟩ => ⟨S16384x1024, .f32⟩
  | .hbm, ⟨46, _⟩ => ⟨S16384x1024, .f32⟩
  | .hbm, ⟨47, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== MemBwd.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S256x1024, .bf16⟩
  | .hbm, ⟨9, _⟩ => ⟨S256x1024, .bf16⟩
  | .hbm, ⟨10, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MemBwdRefIdeal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S256x1024, .bf16⟩
  | .hbm, ⟨31, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== MemDw.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemDwRefIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemFwd.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 9
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S256x1024, .bf16⟩
  | .hbm, ⟨7, _⟩ => ⟨S256x1024, .bf16⟩
  | .hbm, ⟨8, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemFwdRefIdeal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x1024, .f32⟩
  | .hbm, ⟨21, _⟩ => ⟨S256x1024, .bf16⟩
  | .hbm, ⟨22, _⟩ => ⟨S256x1024, .f32⟩
  | .hbm, ⟨23, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== AdamUp.lean ====
abbrev S2048x704 : Shape := ⟨2, ![2048, 704]⟩
abbrev S128x704 : Shape := ⟨2, ![128, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S128x704, .f32⟩
  | .local _ .vmem, ⟨1, _⟩ => ⟨S128x704, .f32⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S2048x704 : Shape := ⟨2, ![2048, 704]⟩
abbrev S128x704 : Shape := ⟨2, ![128, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S128x704, .f32⟩
  | .local _ .vmem, ⟨1, _⟩ => ⟨S128x704, .f32⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x1794 : Shape := ⟨2, ![2048, 1794]⟩
abbrev S128x1794 : Shape := ⟨2, ![128, 1794]⟩

abbrev nBuf : Space → Nat
  | .hbm => 7
  | .vmem => 14
  | .smem => 0
  | _ => 0

abbrev bufTy : (tb : Table) → Fin (tcTables nBuf tb) → BufTy
  | .hbm, ⟨0, _⟩ => ⟨S2048x1794, .f32⟩
  | .hbm, ⟨1, _⟩ => ⟨S2048x1794, .f32⟩
  | .hbm, ⟨2, _⟩ => ⟨S2048x1794, .f32⟩
  | .hbm, ⟨3, _⟩ => ⟨S2048x1794, .f32⟩
  | .hbm, ⟨4, _⟩ => ⟨S2048x1794, .f32⟩
  | .hbm, ⟨5, _⟩ => ⟨S2048x1794, .f32⟩
  | .hbm, ⟨6, _⟩ => ⟨S2048x1794, .f32⟩
  | .local _ .vmem, ⟨0, _⟩ => ⟨S128x1794, .f32⟩
  | .local _ .vmem, ⟨1, _⟩ => ⟨S128x1794, .f32⟩
  | .local _ .vmem, ⟨2, _⟩ => ⟨S128x1794, .f32⟩
  | .local _ .vmem, ⟨3, _⟩ => ⟨S128x1794, .f32⟩
  | .local _ .vmem, ⟨4, _⟩ => ⟨S128x1794, .f32⟩
  | .local _ .vmem, ⟨5, _⟩ => ⟨S128x1794, .f32⟩
  | .local _ .vmem, ⟨6, _⟩ => ⟨S128x1794, .f32⟩
  | .local _ .vmem, ⟨7, _⟩ => ⟨S128x1794, .f32⟩
  | .local _ .vmem, ⟨8, _⟩ => ⟨S128x1794, .f32⟩
  | .local _ .vmem, ⟨9, _⟩ => ⟨S128x1794, .f32⟩
  | .local _ .vmem, ⟨10, _⟩ => ⟨S128x1794, .f32⟩
  | .local _ .vmem, ⟨11, _⟩ => ⟨S128x1794, .f32⟩
  | .local _ .vmem, ⟨12, _⟩ => ⟨S128x1794, .f32⟩
  | .local _ .vmem, ⟨13, _⟩ => ⟨S128x1794, .f32⟩
  | _, _ => ⟨S2048x1794, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1794 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1794 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1794 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1794 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1794 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1794 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1794 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2048x1794 : Shape := ⟨2, ![2048, 1794]⟩
abbrev S128x1794 : Shape := ⟨2, ![128, 1794]⟩

abbrev nBuf : Space → Nat
  | .hbm => 7
  | .vmem => 14
  | .smem => 0
  | _ => 0

abbrev bufTy : (tb : Table) → Fin (tcTables nBuf tb) → BufTy
  | .hbm, ⟨0, _⟩ => ⟨S2048x1794, .f32⟩
  | .hbm, ⟨1, _⟩ => ⟨S2048x1794, .f32⟩
  | .hbm, ⟨2, _⟩ => ⟨S2048x1794, .f32⟩
  | .hbm, ⟨3, _⟩ => ⟨S2048x1794, .f32⟩
  | .hbm, ⟨4, _⟩ => ⟨S2048x1794, .f32⟩
  | .hbm, ⟨5, _⟩ => ⟨S2048x1794, .f32⟩
  | .hbm, ⟨6, _⟩ => ⟨S2048x1794, .f32⟩
  | .local _ .vmem, ⟨0, _⟩ => ⟨S128x1794, .f32⟩
  | .local _ .vmem, ⟨1, _⟩ => ⟨S128x1794, .f32⟩
  | .local _ .vmem, ⟨2, _⟩ => ⟨S128x1794, .f32⟩
  | .local _ .vmem, ⟨3, _⟩ => ⟨S128x1794, .f32⟩
  | .local _ .vmem, ⟨4, _⟩ => ⟨S128x1794, .f32⟩
  | .local _ .vmem, ⟨5, _⟩ => ⟨S128x1794, .f32⟩
  | .local _ .vmem, ⟨6, _⟩ => ⟨S128x1794, .f32⟩
  | .local _ .vmem, ⟨7, _⟩ => ⟨S128x1794, .f32⟩
  | .local _ .vmem, ⟨8, _⟩ => ⟨S128x1794, .f32⟩
  | .local _ .vmem, ⟨9, _⟩ => ⟨S128x1794, .f32⟩
  | .local _ .vmem, ⟨10, _⟩ => ⟨S128x1794, .f32⟩
  | .local _ .vmem, ⟨11, _⟩ => ⟨S128x1794, .f32⟩
  | .local _ .vmem, ⟨12, _⟩ => ⟨S128x1794, .f32⟩
  | .local _ .vmem, ⟨13, _⟩ => ⟨S128x1794, .f32⟩
  | _, _ => ⟨S2048x1794, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1794 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1794 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1794 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1794 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1794 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1794 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1794 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x1794 : Shape := ⟨2, ![2048, 1794]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1794, .f32⟩
  | .hbm, ⟨1, _⟩ => ⟨S2048x1794, .f32⟩
  | .hbm, ⟨2, _⟩ => ⟨S2048x1794, .f32⟩
  | .hbm, ⟨3, _⟩ => ⟨S2048x1794, .f32⟩
  | .hbm, ⟨4, _⟩ => ⟨S_, .f32⟩
  | .hbm, ⟨5, _⟩ => ⟨S2048x1794, .f32⟩
  | .hbm, ⟨6, _⟩ => ⟨S2048x1794, .f32⟩
  | .hbm, ⟨7, _⟩ => ⟨S_, .f32⟩
  | .hbm, ⟨8, _⟩ => ⟨S2048x1794, .f32⟩
  | .hbm, ⟨9, _⟩ => ⟨S2048x1794, .f32⟩
  | .hbm, ⟨10, _⟩ => ⟨S2048x1794, .f32⟩
  | .hbm, ⟨11, _⟩ => ⟨S_, .f32⟩
  | .hbm, ⟨12, _⟩ => ⟨S2048x1794, .f32⟩
  | .hbm, ⟨13, _⟩ => ⟨S2048x1794, .f32⟩
  | .hbm, ⟨14, _⟩ => ⟨S2048x1794, .f32⟩
  | .hbm, ⟨15, _⟩ => ⟨S_, .f32⟩
  | .hbm, ⟨16, _⟩ => ⟨S2048x1794, .f32⟩
  | .hbm, ⟨17, _⟩ => ⟨S2048x1794, .f32⟩
  | .hbm, ⟨18, _⟩ => ⟨S2048x1794, .f32⟩
  | .hbm, ⟨19, _⟩ => ⟨S_, .f32⟩
  | .hbm, ⟨20, _⟩ => ⟨S2048x1794, .f32⟩
  | .hbm, ⟨21, _⟩ => ⟨S2048x1794, .f32⟩
  | .hbm, ⟨22, _⟩ => ⟨S_, .f32⟩
  | .hbm, ⟨23, _⟩ => ⟨S2048x1794, .f32⟩
  | .hbm, ⟨24, _⟩ => ⟨S2048x1794, .f32⟩
  | .hbm, ⟨25, _⟩ => ⟨S2048x1794, .f32⟩
  | .hbm, ⟨26, _⟩ => ⟨S_, .f32⟩
  | .hbm, ⟨27, _⟩ => ⟨S2048x1794, .f32⟩
  | .hbm, ⟨28, _⟩ => ⟨S2048x1794, .f32⟩
  | .hbm, ⟨29, _⟩ => ⟨S2048x1794, .f32⟩
  | .hbm, ⟨30, _⟩ => ⟨S_, .f32⟩
  | .hbm, ⟨31, _⟩ => ⟨S2048x1794, .f32⟩
  | .hbm, ⟨32, _⟩ => ⟨S2048x1794, .f32⟩
  | .hbm, ⟨33, _⟩ => ⟨S2048x1794, .f32⟩
  | .hbm, ⟨34, _⟩ => ⟨S_, .f32⟩
  | .hbm, ⟨35, _⟩ => ⟨S2048x1794, .f32⟩
  | .hbm, ⟨36, _⟩ => ⟨S2048x1794, .f32⟩
  | _, _ => ⟨S2048x1794, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S3072x256 : Shape := ⟨2, ![3072, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S3072x256, .f32⟩
  | .hbm, ⟨1, _⟩ => ⟨S3072x256, .f32⟩
  | .hbm, ⟨2, _⟩ => ⟨S3072x256, .f32⟩
  | .hbm, ⟨3, _⟩ => ⟨S3072x256, .f32⟩
  | .hbm, ⟨4, _⟩ => ⟨S3072x256, .f32⟩
  | .hbm, ⟨5, _⟩ => ⟨S3072x256, .f32⟩
  | .hbm, ⟨6, _⟩ => ⟨S3072x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S3072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchIdeal.lean ====
abbrev S3072x256 : Shape := ⟨2, ![3072, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S3072x256, .f32⟩
  | .hbm, ⟨1, _⟩ => ⟨S3072x256, .f32⟩
  | .hbm, ⟨2, _⟩ => ⟨S3072x256, .f32⟩
  | .hbm, ⟨3, _⟩ => ⟨S3072x256, .f32⟩
  | .hbm, ⟨4, _⟩ => ⟨S3072x256, .f32⟩
  | .hbm, ⟨5, _⟩ => ⟨S3072x256, .f32⟩
  | .hbm, ⟨6, _⟩ => ⟨S3072x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S3072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchRefIdeal.lean ====
abbrev S3072x256 : Shape := ⟨2, ![3072, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3072x256, .f32⟩
  | .hbm, ⟨1, _⟩ => ⟨S3072x256, .f32⟩
  | .hbm, ⟨2, _⟩ => ⟨S3072x256, .f32⟩
  | .hbm, ⟨3, _⟩ => ⟨S3072x256, .f32⟩
  | .hbm, ⟨4, _⟩ => ⟨S_, .f32⟩
  | .hbm, ⟨5, _⟩ => ⟨S3072x256, .f32⟩
  | .hbm, ⟨6, _⟩ => ⟨S3072x256, .f32⟩
  | .hbm, ⟨7, _⟩ => ⟨S_, .f32⟩
  | .hbm, ⟨8, _⟩ => ⟨S3072x256, .f32⟩
  | .hbm, ⟨9, _⟩ => ⟨S3072x256, .f32⟩
  | .hbm, ⟨10, _⟩ => ⟨S3072x256, .f32⟩
  | .hbm, ⟨11, _⟩ => ⟨S_, .f32⟩
  | .hbm, ⟨12, _⟩ => ⟨S3072x256, .f32⟩
  | .hbm, ⟨13, _⟩ => ⟨S3072x256, .f32⟩
  | .hbm, ⟨14, _⟩ => ⟨S3072x256, .f32⟩
  | .hbm, ⟨15, _⟩ => ⟨S_, .f32⟩
  | .hbm, ⟨16, _⟩ => ⟨S3072x256, .f32⟩
  | .hbm, ⟨17, _⟩ => ⟨S3072x256, .f32⟩
  | .hbm, ⟨18, _⟩ => ⟨S3072x256, .f32⟩
  | .hbm, ⟨19, _⟩ => ⟨S_, .f32⟩
  | .hbm, ⟨20, _⟩ => ⟨S3072x256, .f32⟩
  | .hbm, ⟨21, _⟩ => ⟨S3072x256, .f32⟩
  | .hbm, ⟨22, _⟩ => ⟨S_, .f32⟩
  | .hbm, ⟨23, _⟩ => ⟨S3072x256, .f32⟩
  | .hbm, ⟨24, _⟩ => ⟨S3072x256, .f32⟩
  | .hbm, ⟨25, _⟩ => ⟨S3072x256, .f32⟩
  | .hbm, ⟨26, _⟩ => ⟨S_, .f32⟩
  | .hbm, ⟨27, _⟩ => ⟨S3072x256, .f32⟩
  | .hbm, ⟨28, _⟩ => ⟨S3072x256, .f32⟩
  | .hbm, ⟨29, _⟩ => ⟨S3072x256, .f32⟩
  | .hbm, ⟨30, _⟩ => ⟨S_, .f32⟩
  | .hbm, ⟨31, _⟩ => ⟨S3072x256, .f32⟩
  | .hbm, ⟨32, _⟩ => ⟨S3072x256, .f32⟩
  | .hbm, ⟨33, _⟩ => ⟨S3072x256, .f32⟩
  | .hbm, ⟨34, _⟩ => ⟨S_, .f32⟩
  | .hbm, ⟨35, _⟩ => ⟨S3072x256, .f32⟩
  | .hbm, ⟨36, _⟩ => ⟨S3072x256, .f32⟩
  | _, _ => ⟨S3072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareIdeal.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1136x128 : Shape := ⟨2, ![1136, 128]⟩

abbrev nBuf : Space → Nat
  | .hbm => 7
  | .vmem => 7
  | .smem => 0
  | _ => 0

abbrev bufTy : (tb : Table) → Fin (tcTables nBuf tb) → BufTy
  | .hbm, ⟨0, _⟩ => ⟨S1136x128, .f32⟩
  | .hbm, ⟨1, _⟩ => ⟨S1136x128, .f32⟩
  | .hbm, ⟨2, _⟩ => ⟨S1136x128, .f32⟩
  | .hbm, ⟨3, _⟩ => ⟨S1136x128, .f32⟩
  | .hbm, ⟨4, _⟩ => ⟨S1136x128, .f32⟩
  | .hbm, ⟨5, _⟩ => ⟨S1136x128, .f32⟩
  | .hbm, ⟨6, _⟩ => ⟨S1136x128, .f32⟩
  | .local _ .vmem, ⟨0, _⟩ => ⟨S1136x128, .f32⟩
  | .local _ .vmem, ⟨1, _⟩ => ⟨S1136x128, .f32⟩
  | .local _ .vmem, ⟨2, _⟩ => ⟨S1136x128, .f32⟩
  | .local _ .vmem, ⟨3, _⟩ => ⟨S1136x128, .f32⟩
  | .local _ .vmem, ⟨4, _⟩ => ⟨S1136x128, .f32⟩
  | .local _ .vmem, ⟨5, _⟩ => ⟨S1136x128, .f32⟩
  | .local _ .vmem, ⟨6, _⟩ => ⟨S1136x128, .f32⟩
  | _, _ => ⟨S1136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S1136x128 : Shape := ⟨2, ![1136, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1136x128, .f32⟩
  | .hbm, ⟨1, _⟩ => ⟨S1136x128, .f32⟩
  | .hbm, ⟨2, _⟩ => ⟨S1136x128, .f32⟩
  | .hbm, ⟨3, _⟩ => ⟨S1136x128, .f32⟩
  | .hbm, ⟨4, _⟩ => ⟨S_, .f32⟩
  | .hbm, ⟨5, _⟩ => ⟨S1136x128, .f32⟩
  | .hbm, ⟨6, _⟩ => ⟨S1136x128, .f32⟩
  | .hbm, ⟨7, _⟩ => ⟨S_, .f32⟩
  | .hbm, ⟨8, _⟩ => ⟨S1136x128, .f32⟩
  | .hbm, ⟨9, _⟩ => ⟨S1136x128, .f32⟩
  | .hbm, ⟨10, _⟩ => ⟨S1136x128, .f32⟩
  | .hbm, ⟨11, _⟩ => ⟨S_, .f32⟩
  | .hbm, ⟨12, _⟩ => ⟨S1136x128, .f32⟩
  | .hbm, ⟨13, _⟩ => ⟨S1136x128, .f32⟩
  | .hbm, ⟨14, _⟩ => ⟨S1136x128, .f32⟩
  | .hbm, ⟨15, _⟩ => ⟨S_, .f32⟩
  | .hbm, ⟨16, _⟩ => ⟨S1136x128, .f32⟩
  | .hbm, ⟨17, _⟩ => ⟨S1136x128, .f32⟩
  | .hbm, ⟨18, _⟩ => ⟨S1136x128, .f32⟩
  | .hbm, ⟨19, _⟩ => ⟨S_, .f32⟩
  | .hbm, ⟨20, _⟩ => ⟨S1136x128, .f32⟩
  | .hbm, ⟨21, _⟩ => ⟨S1136x128, .f32⟩
  | .hbm, ⟨22, _⟩ => ⟨S_, .f32⟩
  | .hbm, ⟨23, _⟩ => ⟨S1136x128, .f32⟩
  | .hbm, ⟨24, _⟩ => ⟨S1136x128, .f32⟩
  | .hbm, ⟨25, _⟩ => ⟨S1136x128, .f32⟩
  | .hbm, ⟨26, _⟩ => ⟨S_, .f32⟩
  | .hbm, ⟨27, _⟩ => ⟨S1136x128, .f32⟩
  | .hbm, ⟨28, _⟩ => ⟨S1136x128, .f32⟩
  | .hbm, ⟨29, _⟩ => ⟨S1136x128, .f32⟩
  | .hbm, ⟨30, _⟩ => ⟨S_, .f32⟩
  | .hbm, ⟨31, _⟩ => ⟨S1136x128, .f32⟩
  | .hbm, ⟨32, _⟩ => ⟨S1136x128, .f32⟩
  | .hbm, ⟨33, _⟩ => ⟨S1136x128, .f32⟩
  | .hbm, ⟨34, _⟩ => ⟨S_, .f32⟩
  | .hbm, ⟨35, _⟩ => ⟨S1136x128, .f32⟩
  | .hbm, ⟨36, _⟩ => ⟨S1136x128, .f32⟩
  | _, _ => ⟨S1136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Kit.lean ====
/- Arrays whose entries are all finite, and the operations on them: over the extended reals an operation on
   finite entries is the operation on the reals. The value proofs bring both programs to arrays of reals and
   compare them there, where the reals' field laws hold. -/
module

public import Idealize.ShloMosaic.Lib.Claim
public import Idealize.ShloMosaic.Lib.Pointwise
public import Idealize.ShloMosaic.Lib.Pipeline.ValueKit
public import Idealize.ShloMosaic.Lib.IdealHost
public import Idealize.ShloMosaic.Lib.ReduceAll
public import Mathlib.Tactic.Ring
public import Mathlib.Tactic.FieldSimp
public import Mathlib.Tactic.Positivity
public import Mathlib.Tactic.Linarith

@[expose] public section

set_option maxRecDepth 16384

noncomputable section

namespace Cert.Proof

open Idealize.ShloMosaic Idealize.ShloMosaic.TcCoe Idealize.SL.Sem

/-- What a memory holds at a name of a device. -/
abbrev rd {nD : ℕ} {τ : Topo} {sig : RefSig} (m : (ℓ : Loc nD τ sig) → Buf (Elt Ideal) ℓ) (c : Dev nD) (r : Ref sig .tc) := m ((c.tc : Thread nD τ).loc r)

/-! ### Reals as extended reals -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem div_real {a b : ℝ} (h : b ≠ 0) : Ideal.div (a : EReal) (b : EReal) = ((a / b : ℝ) : EReal) := by
  rw [Ideal.div_coe h, ← EReal.coe_mul, mul_one_div]

theorem exp_real (a : ℝ) : Ideal.exp (a : EReal) = ((Real.exp a : ℝ) : EReal) := rfl

theorem tanh_real (a : ℝ) : Ideal.tanh (a : EReal) = ((Real.tanh a : ℝ) : EReal) := rfl

theorem rsqrt_real {a : ℝ} (h : 0 < a) : Ideal.rsqrt (a : EReal) = (((Real.sqrt a)⁻¹ : ℝ) : EReal) := by
  show (if a < 0 then (⊥ : EReal) else if a = 0 then ⊤ else _) = _
  rw [if_neg (not_lt.mpr h.le), if_neg h.ne']

theorem max_real (a b : ℝ) : max (a : EReal) (b : EReal) = ((max a b : ℝ) : EReal) :=
  (EReal.coe_strictMono.monotone.map_max).symm

/-! ### The constants -/

theorem lit_half : Ideal.ofBits .f32 0x3F000000#32 = (((1 : ℝ) / 2 : ℝ) : EReal) := by
  simp [Ideal.ofBits, Ideal.ieee, -EReal.coe_mul]; norm_num

theorem lit_neg_half : Ideal.ofBits .f32 0xBF000000#32 = ((-((1 : ℝ) / 2) : ℝ) : EReal) := by
  simp [Ideal.ofBits, Ideal.ieee, -EReal.coe_mul, -EReal.coe_neg]; norm_num

theorem lit_1024 : Ideal.ofBits .f32 0x44800000#32 = ((1024 : ℝ) : EReal) := by
  simp [Ideal.ofBits, Ideal.ieee, -EReal.coe_mul]; norm_num

theorem lit_one : (1 : EReal) = ((1 : ℝ) : EReal) := EReal.coe_one.symm

theorem lit_zero : (0 : EReal) = ((0 : ℝ) : EReal) := EReal.coe_zero.symm

/-- The number the norm adds below its root, as its float word spells it. -/
def eps : ℝ := (8388608 + 407485 : ℕ) * (2 : ℝ) ^ (-43 : ℤ)

theorem eps_pos : 0 < eps := by unfold eps; positivity

theorem lit_eps : Ideal.ofBits .f32 0x358637BD#32 = ((eps : ℝ) : EReal) := by
  unfold eps
  simp [Ideal.ofBits, Ideal.ieee, -EReal.coe_mul]

/-! ### Arrays of reals -/

/-- An array of rank one with real entries. -/
def up1 {n : ℕ} (x : Fin n → ℝ) : (⟨1, ![n]⟩ : Shape).Idx → EReal := fun q => ((x (q 0) : ℝ) : EReal)

/-- An array of rank two with real entries. -/
def up2 {n k : ℕ} (x : Fin n → Fin k → ℝ) : (⟨2, ![n, k]⟩ : Shape).Idx → EReal := fun q => ((x (q 0) (q 1) : ℝ) : EReal)

/-- An array of rank three with real entries. -/
def up3 {n k l : ℕ} (x : Fin n → Fin k → Fin l → ℝ) : (⟨3, ![n, k, l]⟩ : Shape).Idx → EReal :=
  fun q => ((x (q 0) (q 1) (q 2) : ℝ) : EReal)

@[simp] theorem up1_ix {n : ℕ} (x : Fin n → ℝ) (i : Fin n) : up1 x (ix1 i) = ((x i : ℝ) : EReal) := rfl

@[simp] theorem up2_ix {n k : ℕ} (x : Fin n → Fin k → ℝ) (i : Fin n) (j : Fin k) : up2 x (ix2 i j) = ((x i j : ℝ) : EReal) := rfl

@[simp] theorem up3_ix {n k l : ℕ} (x : Fin n → Fin k → Fin l → ℝ) (i : Fin n) (j : Fin k) (u : Fin l) :
    up3 x (ix3 i j u) = ((x i j u : ℝ) : EReal) := rfl

/-- The real entries of an array of rank one. -/
def down1 {n : ℕ} (X : (⟨1, ![n]⟩ : Shape).Idx → EReal) : Fin n → ℝ := fun i => (X (ix1 i)).toReal

/-- The real entries of an array of rank two. -/
def down2 {n k : ℕ} (X : (⟨2, ![n, k]⟩ : Shape).Idx → EReal) : Fin n → Fin k → ℝ := fun i j => (X (ix2 i j)).toReal

/-- The real entries of an array of rank three. -/
def down3 {n k l : ℕ} (X : (⟨3, ![n, k, l]⟩ : Shape).Idx → EReal) : Fin n → Fin k → Fin l → ℝ :=
  fun i j u => (X (ix3 i j u)).toReal

/-- The bound the precondition states of an entry makes it a real. -/
theorem toReal_of_abs_lt {e : EReal} (h : max e (-e) < ⊤) : ((e.toReal : ℝ) : EReal) = e := by
  refine EReal.coe_toReal ?_ ?_
  · rintro rfl; simp at h
  · rintro rfl; simp at h

theorem up_down1 {n : ℕ} (X : (⟨1, ![n]⟩ : Shape).Idx → EReal) (h : ∀ i, max (X i) (-(X i)) < ⊤) : up1 (down1 X) = X := by
  funext q; obtain ⟨i, rfl⟩ : ∃ i, q = ix1 i := ⟨q 0, eq_ix1 q⟩
  exact toReal_of_abs_lt (h _)

theorem up_down2 {n k : ℕ} (X : (⟨2, ![n, k]⟩ : Shape).Idx → EReal) (h : ∀ i, max (X i) (-(X i)) < ⊤) : up2 (down2 X) = X := by
  funext q; obtain ⟨i, j, rfl⟩ : ∃ i j, q = ix2 i j := ⟨q 0, q 1, eq_ix2 q⟩
  exact toReal_of_abs_lt (h _)

theorem up_down3 {n k l : ℕ} (X : (⟨3, ![n, k, l]⟩ : Shape).Idx → EReal) (h : ∀ i, max (X i) (-(X i)) < ⊤) : up3 (down3 X) = X := by
  funext q; obtain ⟨i, j, u, rfl⟩ : ∃ i j u, q = ix3 i j u := ⟨q 0, q 1, q 2, eq_ix3 q⟩
  exact toReal_of_abs_lt (h _)

/-- The word of the infinity that the precondition compares with. -/
theorem lit_top : Ideal.ofBits .f32 0x7F800000#32 = ⊤ := by
  simp [Ideal.ofBits, Ideal.ieee]

/-- A comparison's bit is set where the comparison holds. -/
theorem lt_of_bit {a b : EReal} (h : Ideal.cmp .olt a b = 1#1) : a < b := by
  by_contra hn
  simp [Ideal.cmp, hn] at h

end Cert.Proof

end
-- ==== Proof.DwKer.lean ====
module
public import proofs.«01_k».proof.Proof.Gen.FfnDwIdeal.Frame
public import proofs.«01_k».proof.Proof.Kit
public import Idealize.ShloMosaic.Lib.Pipeline.ReadBack
public import Idealize.ShloMosaic.Lib.Pipeline.ValueKit
public import Idealize.ShloMosaic.Adequacy
@[expose] public section
set_option maxRecDepth 16384
noncomputable section
/-! The product over the tokens: each output block adds up eight blocks of tokens, which make the sum over all. -/
namespace Cert.Proof.DwKer
open Cert.FfnDwIdeal Cert.FfnDwIdeal.Gen Idealize.ShloMosaic Idealize.ShloMosaic.TcCoe Idealize.SL.Sem

/-- One block's step: the block's product added to what the output held. -/
theorem pay2_at (o : FVec Ideal S1408x1024 .f32) (x : FVec Ideal S2048x1408 .bf16) (y : FVec Ideal S2048x1024 .bf16) (i : Fin 1408) (j : Fin 1024) :
    k0_pay2 (F := Ideal) o x y (ix2 i j) = (o (ix2 i j) : EReal) + ∑ p : Fin 2048, (x (ix2 p i) : EReal) * (y (ix2 p j) : EReal) := by
  unfold k0_pay2
  pointwise
  try simp only [zero_add]

theorem pay1_at (q : S1408x1024.Idx) : k0_pay1 (F := Ideal) q = (0 : EReal) := by
  unfold k0_pay1
  idx_vars q
  pointwise

variable (m : (ℓ : Loc nD τ sig) → Buf (Elt Ideal) ℓ) (c : Dev nD)

/-- The two arguments. -/
def aX : (⟨2, ![16384, 2816]⟩ : Shape).Idx → EReal := rd m c main_arg0
def aY : (⟨2, ![16384, 1024]⟩ : Shape).Idx → EReal := rd m c main_arg1

theorem nt (t : Fin cfg0.N) : t.val < 16 := lt_of_lt_of_eq t.isLt (show cfg0.N = 16 from N_0)
def row (t : Fin cfg0.N) (p : Fin 2048) : Fin 16384 := ⟨t.val % 8 * 2048 + p.val, by omega⟩
def col (t : Fin cfg0.N) (i : Fin 1408) : Fin 2816 := ⟨t.val / 8 * 1408 + i.val, by have := nt t; omega⟩

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem b0 (t : Fin cfg0.N) (p : Fin 2048) (i : Fin 1408) :
    iblk m c 0 t (ix2 p i : S2048x1408.Idx) = aX m c (ix2 (row t p) (col t i)) := by
  refine Eq.trans (b := V m c main_arg0 (ix2 (row t p) (col t i))) ?_ (by entry_read; rfl)
  blk_ext [iblk, idx t, row, col]

theorem b1 (t : Fin cfg0.N) (p : Fin 2048) (q1 : Fin 1024) :
    iblk m c 1 t (ix2 p q1 : S2048x1024.Idx) = aY m c (ix2 (row t p) q1) := by
  refine Eq.trans (b := V m c main_arg1 (ix2 (row t p) q1)) ?_ (by entry_read; rfl)
  blk_ext [iblk, idx t, row, col]

/-- The product of two columns, over the tokens. -/
def G (X : (⟨2, ![16384, 2816]⟩ : Shape).Idx → EReal) (Y : (⟨2, ![16384, 1024]⟩ : Shape).Idx → EReal) (k : Fin 2816) (j : Fin 1024) : EReal :=
  ∑ s : Fin 16384, X (ix2 s k) * Y (ix2 s j)

def part (t : Fin cfg0.N) (i : Fin 1408) (j : Fin 1024) : EReal :=
  ∑ p : Fin 2048, aX m c (ix2 (row t p) (col t i)) * aY m c (ix2 (row t p) j)

theorem oA (t : Fin cfg0.N) (h0 : t.val % 8 = 0) (q : S1408x1024.Idx) :
    outsAt0 m c t.val t.isLt q = 0 + part m c t (q 0) (q 1) := by
  rw [outsAt0_A m c t h0]
  idx_vars q
  frame_out
  try simp only [read_unread_whole]
  try simp only [View.read_whole, ReadAs.apply_same]
  refine (pay2_at _ _ _ _ _).trans ?_
  refine congrArg₂ (fun u v : EReal => u + v) ?_ (Finset.sum_congr rfl fun p _ => congrArg₂ (fun u v : EReal => u * v) (b0 m c t p q0) (b1 m c t p q1))
  exact pay1_at _

theorem oB (t : Fin cfg0.N) (h0 : ¬ t.val % 8 = 0) (q : S1408x1024.Idx) :
    outsAt0 m c t.val t.isLt q = outsAt0 m c (t.val - 1) (Nat.lt_of_le_of_lt (Nat.sub_le _ _) t.isLt) q + part m c t (q 0) (q 1) := by
  rw [outsAt0_B m c t h0]
  idx_vars q
  frame_out
  try simp only [read_unread_whole]
  try simp only [View.read_whole, ReadAs.apply_same]
  refine (pay2_at _ _ _ _ _).trans ?_
  exact congrArg₂ (fun u v : EReal => u + v) rfl (Finset.sum_congr rfl fun p _ => congrArg₂ (fun u v : EReal => u * v) (b0 m c t p q0) (b1 m c t p q1))

/-- A sum over the token rows, block of rows by block of rows. -/
theorem sum_rows (F : Fin 16384 → EReal) : ∑ s : Fin 8, ∑ p : Fin 2048, F ⟨s.val * 2048 + p.val, by omega⟩ = ∑ i, F i :=
  Fin.sum_mul_add_congr fun s k hl => rfl

theorem whole (t : Fin cfg0.N) (i : Fin 1408) (j : Fin 1024) :
    ∑ s : Fin 8, part m c ⟨8 * (t.val / 8) + s.val, by have := nt t; have := (show cfg0.N = 16 from N_0); omega⟩ i j = G (aX m c) (aY m c) (col t i) j := by
  unfold G
  rw [← sum_rows]
  refine Finset.sum_congr rfl fun s _ => Finset.sum_congr rfl fun p _ => ?_
  have h : ∀ (t' : Fin cfg0.N), t'.val = 8 * (t.val / 8) + s.val → row t' p = ⟨s.val * 2048 + p.val, by omega⟩ ∧ col t' i = col t i := by
    intro t' e
    refine ⟨Fin.ext ?_, Fin.ext ?_⟩
    · show t'.val % 8 * 2048 + p.val = s.val * 2048 + p.val
      rw [e]; omega
    · show t'.val / 8 * 1408 + i.val = t.val / 8 * 1408 + i.val
      rw [e]; omega
  obtain ⟨h1, h2⟩ := h ⟨8 * (t.val / 8) + s.val, by have := nt t; have := (show cfg0.N = 16 from N_0); omega⟩ rfl
  rw [h1, h2]

theorem fin : (dats m 0 c).arrAt 2 cfg0.N = (fun q => G (aX m c) (aY m c) (q 0) (q 1) : FVec Ideal S2816x1024 .f32) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (fun t q => part m c t (q 0) (q 1))
    (fun t h0 q => oA m c t h0 q) (fun t h0 q => oB m c t h0 q) t ((flush0_2 t).mp hf) _, zero_add]
  refine (whole m c t (y 0) (y 1)).trans (congrArg₂ (G (aX m c) (aY m c)) (Fin.ext ?_) (Fin.ext ?_)) <;> blk_simp [idx t, col]

theorem run (ρ : Dev nD → PrngReg) : θ_run (defs (F := Ideal)) (onTc (τ := τ) (main (F := Ideal))) ⟨m, fun _ => 0, ρ⟩ (fun r => ∀ c : Dev nD,
      rd r.2.mem c main_v0 = (fun q => G (aX m c) (aY m c) (q 0) (q 1) : FVec Ideal S2816x1024 .f32)
      ∧ rd r.2.mem c main_arg0 = rd m c main_arg0
      ∧ rd r.2.mem c main_arg1 = rd m c main_arg1) := by
  refine (θ_run defs _ _).mono (fun r h c => ?_) (θ_run_and (run_main m ρ) (unchanged m ρ))
  exact ⟨((h.1 c).1 2).trans (fin m c), h.2 c⟩
end Cert.Proof.DwKer
-- ==== Proof.DwRef.lean ====
module
public import proofs.«01_k».proof.Proof.DwKer
public import proofs.«01_k».proof.Proof.Gen.DwRefIdeal.Run
public import proofs.«01_k».proof.Proof.Gen.DuRefIdeal.Run
@[expose] public section
noncomputable section
/-! The two references of a product over the tokens: a linear map's gradient in its weight, and that of its transpose. -/
namespace Cert.Proof.DwRef
open Idealize.ShloMosaic Idealize.ShloMosaic.TcCoe Idealize.SL.Sem
open Cert.Proof.DwKer (G)

section
open Cert.DwRefIdeal
variable (m : (ℓ : Loc nD τ sig) → Buf (Elt Ideal) ℓ) (ρ : Dev nD → PrngReg)

theorem quietW : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.DwRefIdeal.Value.run m ρ)

theorem runW : θ_run (defs (F := Ideal)) (onTc (τ := τ) (main (F := Ideal))) ⟨m, fun _ => 0, ρ⟩ (fun r => ∀ c : Dev nD,
      rd r.2.mem c main_v5 = (fun q => G (rd m c main_arg0) (rd m c main_arg1) (q 0) (q 1) : FVec Ideal S2816x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.DwRefIdeal.Value.run m ρ)
  funext q
  idx_vars q
  pointwise
  exact Finset.sum_congr rfl fun s _ => mul_comm (G := EReal) _ _
end

section
open Cert.DuRefIdeal
variable (m : (ℓ : Loc nD τ sig) → Buf (Elt Ideal) ℓ) (ρ : Dev nD → PrngReg)

theorem quietU : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.DuRefIdeal.Value.run m ρ)

theorem runU : θ_run (defs (F := Ideal)) (onTc (τ := τ) (main (F := Ideal))) ⟨m, fun _ => 0, ρ⟩ (fun r => ∀ c : Dev nD,
      rd r.2.mem c main_v6 = (fun q => G (rd m c main_arg0) (rd m c main_arg1) (q 0) (q 1) : FVec Ideal S2816x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.DuRefIdeal.Value.run m ρ)
  funext q
  idx_vars q
  pointwise
  rfl
end
end Cert.Proof.DwRef
-- ==== Proof.EKit.lean ====
/- Arrays of extended reals given by a formula in their coordinates, for the claims that need no bound on the entries. -/
module
public import proofs.«01_k».proof.Proof.Kit
@[expose] public section
noncomputable section
namespace Cert.Proof
open Idealize.ShloMosaic Idealize.ShloMosaic.TcCoe Idealize.SL.Sem

/-- The array of rank two whose entry at a place is the formula's value there. -/
def ea {n k : ℕ} (x : Fin n → Fin k → EReal) : (⟨2, ![n, k]⟩ : Shape).Idx → EReal := fun q => x (q 0) (q 1)

@[simp] theorem ea_ix {n k : ℕ} (x : Fin n → Fin k → EReal) (i : Fin n) (j : Fin k) : ea x (ix2 i j) = x i j := rfl

/-- The entries of an array, as a formula in the coordinates. -/
def un {n k : ℕ} (X : (⟨2, ![n, k]⟩ : Shape).Idx → EReal) : Fin n → Fin k → EReal := fun i j => X (ix2 i j)

theorem ea_un {n k : ℕ} (X : (⟨2, ![n, k]⟩ : Shape).Idx → EReal) : ea (un X) = X := by
  funext q; obtain ⟨i, j, rfl⟩ : ∃ i j, q = ix2 i j := ⟨q 0, q 1, eq_ix2 q⟩
  rfl

theorem ea_at {n k n' k' : ℕ} (F : Fin n → Fin k → EReal) (F' : Fin n' → Fin k' → EReal) (q : (⟨2, ![n, k]⟩ : Shape).Idx) (q' : (⟨2, ![n', k']⟩ : Shape).Idx)
    (h : F (q 0) (q 1) = F' (q' 0) (q' 1)) : ea F q = ea F' q' := h

/-- The factor of the norm for a row: one over the root of its mean square with the constant added. -/
def nrm (x : Fin 1024 → EReal) : EReal := Ideal.rsqrt (Ideal.div (∑ k : Fin 1024, x k * x k) (Ideal.ofBits .f32 0x44800000#32) + Ideal.ofBits .f32 0x358637BD#32)

/-- A row of the product of the normalised rows with a weight. -/
def upE {n : ℕ} (x : Fin n → Fin 1024 → EReal) (g : Fin 1 → Fin 1024 → EReal) (w : Fin 2816 → Fin 1024 → EReal) (i : Fin n) (f : Fin 2816) : EReal :=
  ∑ k : Fin 1024, x i k * nrm (x i) * g 0 k * w f k

/-- The gated product. -/
def actE (a b : EReal) : EReal := a * Ideal.logistic a * b

/-- The block's result: the input plus half the product back down. -/
def ffnE {n : ℕ} (x : Fin n → Fin 1024 → EReal) (g : Fin 1 → Fin 1024 → EReal) (wg wu wd : Fin 2816 → Fin 1024 → EReal) (i : Fin n) (l : Fin 1024) : EReal :=
  x i l + Ideal.ofBits .f32 0x3F000000#32 * ∑ f : Fin 2816, actE (upE x g wg i f) (upE x g wu i f) * wd f l
end Cert.Proof
end
-- ==== Proof.FwdKer.lean ====
/- The values the feed-forward kernel's body computes at a grid point, as formulas in the entries of its blocks. -/
module
public import proofs.«01_k».proof.Proof.Gen.FfnFwdIdeal.Skeleton
public import proofs.«01_k».proof.Proof.EKit
@[expose] public section
set_option maxRecDepth 16384
noncomputable section
namespace Cert.Proof.FwdKer
open Cert.FfnFwdIdeal Cert.FfnFwdIdeal.Gen Idealize.ShloMosaic Idealize.ShloMosaic.TcCoe Idealize.SL.Sem

theorem h_pay6 (x : Fin 512 → Fin 1024 → EReal) (g : Fin 1 → Fin 1024 → EReal) : k0_pay6 (F := Ideal) (ea x) (ea g) = ea (fun i l => x i l * nrm (x i) * g 0 l) := by
  unfold k0_pay6
  funext q; idx_vars q
  pointwise
  try simp only [zero_add, add_zero, ea_ix]
  try rfl

theorem h_pay7  : k0_pay7 (F := Ideal)  = ea (fun _ _ => 0) := by
  unfold k0_pay7
  funext q; idx_vars q
  pointwise
  try simp only [zero_add, add_zero, ea_ix]
  try rfl

theorem h_pay8 (x : Fin 512 → Fin 1024 → EReal) (g : Fin 1 → Fin 1024 → EReal) (w : Fin 1408 → Fin 1024 → EReal) : k0_pay8 (F := Ideal) (ea x) (ea g) (ea w) = ea (fun i f => ∑ k : Fin 1024, x i k * nrm (x i) * g 0 k * w f k) := by
  unfold k0_pay8
  simp only [h_pay6]
  funext q; idx_vars q
  pointwise
  try simp only [zero_add, add_zero, ea_ix]
  try rfl

theorem h_pay9 (x : Fin 512 → Fin 1024 → EReal) (g : Fin 1 → Fin 1024 → EReal) (w : Fin 1408 → Fin 1024 → EReal) : k0_pay9 (F := Ideal) (ea x) (ea g) (ea w) = ea (fun i f => ∑ k : Fin 1024, x i k * nrm (x i) * g 0 k * w f k) := by
  unfold k0_pay9
  simp only [h_pay6]
  funext q; idx_vars q
  pointwise
  try simp only [zero_add, add_zero, ea_ix]
  try rfl

theorem h_pay10 (x : Fin 512 → Fin 1024 → EReal) (g : Fin 1 → Fin 1024 → EReal) (w : Fin 1408 → Fin 1024 → EReal) : k0_pay10 (F := Ideal) (ea x) (ea g) (ea w) = ea (fun i f => ∑ k : Fin 1024, x i k * nrm (x i) * g 0 k * w f k) := by
  unfold k0_pay10
  simp only [h_pay8]
  funext q; idx_vars q
  pointwise
  try simp only [zero_add, add_zero, ea_ix]
  try rfl

theorem h_pay11 (x : Fin 512 → Fin 1024 → EReal) (g : Fin 1 → Fin 1024 → EReal) (w : Fin 1408 → Fin 1024 → EReal) : k0_pay11 (F := Ideal) (ea x) (ea g) (ea w) = ea (fun i f => ∑ k : Fin 1024, x i k * nrm (x i) * g 0 k * w f k) := by
  unfold k0_pay11
  simp only [h_pay9]
  funext q; idx_vars q
  pointwise
  try simp only [zero_add, add_zero, ea_ix]
  try rfl

theorem h_pay12 (x : Fin 512 → Fin 1024 → EReal) (g : Fin 1 → Fin 1024 → EReal) (w : Fin 1408 → Fin 1024 → EReal) (u : Fin 1408 → Fin 1024 → EReal) (d : Fin 1408 → Fin 1024 → EReal) : k0_pay12 (F := Ideal) (ea x) (ea g) (ea w) (ea u) (ea d) = ea (fun i l => ∑ f : Fin 1408, actE (∑ k : Fin 1024, x i k * nrm (x i) * g 0 k * w f k) (∑ k : Fin 1024, x i k * nrm (x i) * g 0 k * u f k) * d f l) := by
  unfold k0_pay12
  simp only [h_pay8, h_pay9]
  funext q; idx_vars q
  pointwise
  try simp only [zero_add, add_zero, ea_ix]
  try rfl

theorem h_pay1 (h : Fin 512 → Fin 1024 → EReal) (w : Fin 1408 → Fin 1024 → EReal) : k0_pay1 (F := Ideal) (ea h) (ea w) = ea (fun i f => ∑ k : Fin 1024, h i k * w f k) := by
  unfold k0_pay1
  funext q; idx_vars q
  pointwise
  try simp only [zero_add, add_zero, ea_ix]
  try rfl

theorem h_pay2 (h : Fin 512 → Fin 1024 → EReal) (w : Fin 1408 → Fin 1024 → EReal) : k0_pay2 (F := Ideal) (ea h) (ea w) = ea (fun i f => ∑ k : Fin 1024, h i k * w f k) := by
  unfold k0_pay2
  funext q; idx_vars q
  pointwise
  try simp only [zero_add, add_zero, ea_ix]
  try rfl

theorem h_pay3 (h : Fin 512 → Fin 1024 → EReal) (w : Fin 1408 → Fin 1024 → EReal) : k0_pay3 (F := Ideal) (ea h) (ea w) = ea (fun i f => ∑ k : Fin 1024, h i k * w f k) := by
  unfold k0_pay3
  simp only [h_pay1]
  funext q; idx_vars q
  pointwise
  try simp only [zero_add, add_zero, ea_ix]
  try rfl

theorem h_pay4 (h : Fin 512 → Fin 1024 → EReal) (w : Fin 1408 → Fin 1024 → EReal) : k0_pay4 (F := Ideal) (ea h) (ea w) = ea (fun i f => ∑ k : Fin 1024, h i k * w f k) := by
  unfold k0_pay4
  simp only [h_pay2]
  funext q; idx_vars q
  pointwise
  try simp only [zero_add, add_zero, ea_ix]
  try rfl

theorem h_pay5 (x : Fin 512 → Fin 1024 → EReal) (h : Fin 512 → Fin 1024 → EReal) (z : Fin 512 → Fin 1024 → EReal) (y : Fin 512 → Fin 1024 → EReal) (w : Fin 1408 → Fin 1024 → EReal) (u : Fin 1408 → Fin 1024 → EReal) (d : Fin 1408 → Fin 1024 → EReal) : k0_pay5 (F := Ideal) (ea x) (ea h) (ea z) (ea y) (ea w) (ea u) (ea d) = ea (fun i l => x i l + Ideal.ofBits .f32 0x3F000000#32 * (z i l + y i l + ∑ f : Fin 1408, actE (∑ k : Fin 1024, h i k * w f k) (∑ k : Fin 1024, h i k * u f k) * d f l)) := by
  unfold k0_pay5
  simp only [h_pay1, h_pay2]
  funext q; idx_vars q
  pointwise
  try simp only [zero_add, add_zero, ea_ix]
  try rfl
end Cert.Proof.FwdKer
end
-- ==== Proof.FwdBlk.lean ====
/- The blocks the feed-forward kernel reads and leaves at each grid point, the arrays it ends with, and its run. -/
module
public import proofs.«01_k».proof.Proof.Gen.FfnFwdIdeal.Frame
public import proofs.«01_k».proof.Proof.FwdKer
public import Idealize.ShloMosaic.Lib.Pipeline.ReadBack
public import Idealize.ShloMosaic.Lib.Pipeline.ValueKit
@[expose] public section
set_option maxRecDepth 16384
noncomputable section
namespace Cert.Proof.FwdBlk
open Cert.FfnFwdIdeal Cert.FfnFwdIdeal.Gen Idealize.ShloMosaic Idealize.ShloMosaic.TcCoe Idealize.SL.Sem FwdKer
variable (m : (ℓ : Loc nD τ sig) → Buf (Elt Ideal) ℓ)
def lo (j : Fin 1408) : Fin 2816 := ⟨j.val, by omega⟩
def hi (j : Fin 1408) : Fin 2816 := ⟨1408 + j.val, by omega⟩

theorem canon_halves (F : Fin 512 → Fin 2816 → EReal) (q : S512x2816.Idx) :
    View.canon (Val := Elt Ideal) (e := .bf16) [⟨Rect.unit (s := S512x2816) ![0, 1408] ![512, 1408] inb_S512x2816_S512x1408_0_1408, (ea (fun i j => F i (hi j)) : FVec Ideal S512x1408 .bf16)⟩,
      ⟨Rect.unit (s := S512x2816) ![0, 0] ![512, 1408] inb_S512x2816_S512x1408_0_0, (ea (fun i j => F i (lo j)) : FVec Ideal S512x1408 .bf16)⟩] q = ea F q := by
  canon_tiles q h
  · refine ea_at _ _ _ _ (congrArg₂ F ?_ ?_)
    · exact Fin.ext h0.symm
    · exact Fin.ext h1.symm
  · refine ea_at _ _ _ _ (congrArg₂ F ?_ ?_)
    · exact Fin.ext h0.symm
    · exact Fin.ext h1.symm
theorem ldw_hi (a : Fin 2816 → Fin 1024 → EReal) : View.ld (Val := Elt Ideal) (e' := .bf16) (S := S2816x1024) (ea a) (Rect.unit (s := S2816x1024) ![1408, 0] ![1408, 1024] inb_S2816x1024_S1408x1024_1408_0) = ea (fun i j => a (hi i) j) := by
  funext q; idx_vars q
  pointwise
  rfl
theorem ldw_lo (a : Fin 2816 → Fin 1024 → EReal) : View.ld (Val := Elt Ideal) (e' := .bf16) (S := S2816x1024) (ea a) (Rect.unit (s := S2816x1024) ![0, 0] ![1408, 1024] inb_S2816x1024_S1408x1024_0_0) = ea (fun i j => a (lo i) j) := by
  funext q; idx_vars q
  pointwise
  rfl
theorem canon_fill (X : FVec Ideal S2816x1024 .bf16) : View.canon (Val := Elt Ideal) (e := .bf16) [⟨Rect.whole S2816x1024, X⟩] = X := by
  funext q
  canon_tiles q h
  refine congrArg X ?_
  funext a
  fin_cases a
  · exact Fin.ext h0.symm
  · exact Fin.ext h1.symm
theorem cov_whole (v : View sig .tc .vmem S2816x1024 .bf16) (X : FVec Ideal S2816x1024 .bf16) (r : Rect S2816x1024) :
    v.readCov (Val := Elt Ideal) [⟨Rect.whole S2816x1024, X⟩] r.toLoadRect = View.ld X r := by
  rw [View.readCov_eq_canon_ld]
  · rw [canon_fill]
  · intro y; exact ⟨_, List.mem_singleton_self _, by rw [Rect.set_whole]; exact Finset.mem_univ y⟩

theorem sc0 (c : Dev nD) (n : ℕ) : ∀ hn : n < cfg0.N, (outsAt0 m c n hn).2.2.2.1 = V m c main_v1 := by
  induction n with
  | zero =>
    intro hn
    rw [outsAt0_A m c ⟨0, hn⟩ rfl]
    funext q
    frame_out
    exact congrFun (canon_fill (V m c main_v1)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.1 = V m c main_v1 := by rintro k hk rfl; exact ih hk
    rw [outsAt0_B m c ⟨n + 1, hn⟩ h0]
    funext q
    frame_out
    unfold sout0_B_0
    exact congrFun (e _ _ rfl) q

theorem sc1 (c : Dev nD) (n : ℕ) : ∀ hn : n < cfg0.N, (outsAt0 m c n hn).2.2.2.2.1 = V m c main_v3 := by
  induction n with
  | zero =>
    intro hn
    rw [outsAt0_A m c ⟨0, hn⟩ rfl]
    funext q
    frame_out
    exact congrFun (canon_fill (V m c main_v3)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.1 = V m c main_v3 := by rintro k hk rfl; exact ih hk
    rw [outsAt0_B m c ⟨n + 1, hn⟩ h0]
    funext q
    frame_out
    unfold sout0_B_1
    exact congrFun (e _ _ rfl) q

theorem sc2 (c : Dev nD) (n : ℕ) : ∀ hn : n < cfg0.N, (outsAt0 m c n hn).2.2.2.2.2 = V m c main_v4 := by
  induction n with
  | zero =>
    intro hn
    rw [outsAt0_A m c ⟨0, hn⟩ rfl]
    funext q
    frame_out
    exact congrFun (canon_fill (V m c main_v4)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2 = V m c main_v4 := by rintro k hk rfl; exact ih hk
    rw [outsAt0_B m c ⟨n + 1, hn⟩ h0]
    funext q
    frame_out
    unfold sout0_B_2
    exact congrFun (e _ _ rfl) q

theorem idx : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

def row (t : Fin cfg0.N) (p : Fin 512) : Fin 16384 := ⟨t.val * 512 + p.val, by have := lt_of_lt_of_eq t.isLt (show cfg0.N = 32 from N_0); omega⟩

theorem b0 (c : Dev nD) (t : Fin cfg0.N) (x : Fin 16384 → Fin 1024 → EReal) (h : V m c main_arg0 = (ea x : FVec Ideal S16384x1024 .f32)) :
    iblk m c 0 t = (ea (fun p l => x (row t p) l) : FVec Ideal S512x1024 .f32) := by
  funext q
  idx_vars q
  refine Eq.trans (b := V m c main_arg0 (ix2 (row t q0) q1)) ?_ (by rw [h]; rfl)
  blk_ext [iblk, idx t]
  rfl

theorem b1 (c : Dev nD) (t : Fin cfg0.N) (x : Fin 1 → Fin 1024 → EReal) (h : V m c main_arg1 = (ea x : FVec Ideal S1x1024 .f32)) :
    iblk m c 1 t = (ea x : FVec Ideal S1x1024 .f32) := by
  funext q
  idx_vars q
  refine Eq.trans (b := V m c main_arg1 (ix2 q0 q1)) ?_ (by rw [h])
  blk_ext [iblk, idx t]

theorem sum_halves (F : Fin 2816 → EReal) : ∑ f, F f = (∑ j, F (lo j)) + ∑ j, F (hi j) := Fin.sum_univ_two_halves 1408 1408 rfl F

structure Entry (c : Dev nD) (x : Fin 16384 → Fin 1024 → EReal) (g : Fin 1 → Fin 1024 → EReal) (wg wu wd : Fin 2816 → Fin 1024 → EReal) : Prop where
  x : V m c main_arg0 = (ea x : FVec Ideal S16384x1024 .f32)
  g : V m c main_arg1 = (ea g : FVec Ideal S1x1024 .f32)
  wg : V m c main_v1 = (ea wg : FVec Ideal S2816x1024 .bf16)
  wu : V m c main_v3 = (ea wu : FVec Ideal S2816x1024 .bf16)
  wd : V m c main_v4 = (ea wd : FVec Ideal S2816x1024 .bf16)

variable {m} {c : Dev nD} {x : Fin 16384 → Fin 1024 → EReal} {g : Fin 1 → Fin 1024 → EReal} {wg wu wd : Fin 2816 → Fin 1024 → EReal}
  (h : Entry m c x g wg wu wd) (t : Fin cfg0.N)
include h

theorem o2 : (outsAt0 m c t.val t.isLt).1 = (ea (fun p l => ffnE x g wg wu wd (row t p) l) : FVec Ideal S512x1024 .f32) := by
  funext q
  by_cases h0 : t.val % 32 = 0 <;> [rw [outsAt0_A m c t h0]; rw [outsAt0_B m c t h0]]
  all_goals
    frame_out
    try simp only [read_unread_whole]
    simp only [b0 m c t x h.x, b1 m c t g h.g, View.read_whole, ReadAs.apply_same, cov_whole, sc0, sc1, sc2, h.wg, h.wu, h.wd,
      ldw_lo, ldw_hi, h_pay1, h_pay2, h_pay3, h_pay4, h_pay5, h_pay6, h_pay7, h_pay8, h_pay9, h_pay10, h_pay11, h_pay12]
    simp only [zero_add]
    show _ = ffnE x g wg wu wd (row t (q 0)) (q 1)
    unfold ffnE
    rw [sum_halves]
    rfl

theorem o3 : (outsAt0 m c t.val t.isLt).2.1 = (ea (fun p l => upE x g wg (row t p) l) : FVec Ideal S512x2816 .bf16) := by
  funext q
  by_cases h0 : t.val % 32 = 0 <;> [rw [outsAt0_A m c t h0]; rw [outsAt0_B m c t h0]]
  all_goals
    frame_out
    try simp only [read_unread_whole]
    simp only [b0 m c t x h.x, b1 m c t g h.g, View.read_whole, ReadAs.apply_same, cov_whole, sc0, sc1, sc2, h.wg, h.wu, h.wd,
      ldw_lo, ldw_hi, h_pay1, h_pay2, h_pay3, h_pay4, h_pay5, h_pay6, h_pay7, h_pay8, h_pay9, h_pay10, h_pay11, h_pay12]
    exact canon_halves (fun p l => upE x g wg (row t p) l) q

theorem o4 : (outsAt0 m c t.val t.isLt).2.2.1 = (ea (fun p l => upE x g wu (row t p) l) : FVec Ideal S512x2816 .bf16) := by
  funext q
  by_cases h0 : t.val % 32 = 0 <;> [rw [outsAt0_A m c t h0]; rw [outsAt0_B m c t h0]]
  all_goals
    frame_out
    try simp only [read_unread_whole]
    simp only [b0 m c t x h.x, b1 m c t g h.g, View.read_whole, ReadAs.apply_same, cov_whole, sc0, sc1, sc2, h.wg, h.wu, h.wd,
      ldw_lo, ldw_hi, h_pay1, h_pay2, h_pay3, h_pay4, h_pay5, h_pay6, h_pay7, h_pay8, h_pay9, h_pay10, h_pay11, h_pay12]
    exact canon_halves (fun p l => upE x g wu (row t p) l) q

omit t

theorem f2 : (dats m 0 c).arrAt 2 cfg0.N = (ea (ffnE x g wg wu wd) : FVec Ideal S16384x1024 .f32) := by
  refine (dats m 0 c).arrAt_eq_of_covers 2 _ (by decide +kernel) fun t hf y => ?_
  blk_simp
  rw [after0_2]
  refine (congrFun (o2 h t) _).trans ?_
  refine ea_at _ _ _ _ (congrArg₂ (ffnE x g wg wu wd) (Fin.ext ?_) (Fin.ext ?_)) <;> blk_simp [idx t, row]

theorem f3 : (dats m 0 c).arrAt 3 cfg0.N = (ea (upE x g wg) : FVec Ideal S16384x2816 .bf16) := by
  refine (dats m 0 c).arrAt_eq_of_covers 3 _ (by decide +kernel) fun t hf y => ?_
  blk_simp
  rw [after0_3]
  refine (congrFun (o3 h t) _).trans ?_
  refine ea_at _ _ _ _ (congrArg₂ (upE x g wg) (Fin.ext ?_) (Fin.ext ?_)) <;> blk_simp [idx t, row]

theorem f4 : (dats m 0 c).arrAt 4 cfg0.N = (ea (upE x g wu) : FVec Ideal S16384x2816 .bf16) := by
  refine (dats m 0 c).arrAt_eq_of_covers 4 _ (by decide +kernel) fun t hf y => ?_
  blk_simp
  rw [after0_4]
  refine (congrFun (o4 h t) _).trans ?_
  refine ea_at _ _ _ _ (congrArg₂ (upE x g wu) (Fin.ext ?_) (Fin.ext ?_)) <;> blk_simp [idx t, row]
omit h
theorem entry (m : (ℓ : Loc nD τ sig) → Buf (Elt Ideal) ℓ) (c : Dev nD) :
    Entry m c (un (rd m c main_arg0)) (un (rd m c main_arg1))
      (fun f k => un (rd m c main_arg2) k f) (fun f k => un (rd m c main_arg3) k f) (un (rd m c main_arg4)) := by
  constructor
  · entry_read; exact (ea_un _).symm
  · entry_read; exact (ea_un _).symm
  · entry_read
    funext q; idx_vars q
    pointwise
    rfl
  · entry_read
    funext q; idx_vars q
    pointwise
    rfl
  · entry_read
    funext q; idx_vars q
    pointwise
    rfl

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      rd r.2.mem c main_v5_0 = (ea (ffnE (un (rd m c main_arg0)) (un (rd m c main_arg1)) (fun f k => un (rd m c main_arg2) k f) (fun f k => un (rd m c main_arg3) k f) (un (rd m c main_arg4))) : FVec Ideal S16384x1024 .f32)
      ∧ rd r.2.mem c main_v5_1 = (ea (upE (un (rd m c main_arg0)) (un (rd m c main_arg1)) (fun f k => un (rd m c main_arg2) k f)) : FVec Ideal S16384x2816 .bf16)
      ∧ rd r.2.mem c main_v5_2 = (ea (upE (un (rd m c main_arg0)) (un (rd m c main_arg1)) (fun f k => un (rd m c main_arg3) k f)) : FVec Ideal S16384x2816 .bf16)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4) := by
  refine (θ_run defs _ _).mono (fun r h c => ?_) (θ_run_and (run_main m ρ) (unchanged m ρ))
  have E := entry m c
  exact ⟨((h.1 c).1 2).trans (f2 E), ((h.1 c).1 3).trans (f3 E), ((h.1 c).1 4).trans (f4 E), h.2 c⟩
end Cert.Proof.FwdBlk
end
-- ==== Proof.FwdRef.lean ====
module
public import proofs.«01_k».proof.Proof.EKit
public import proofs.«01_k».proof.Proof.Gen.FwdRefIdeal.Run
public import Idealize.ShloMosaic.Adequacy
@[expose] public section
noncomputable section
/-! The feed-forward block's reference: what it ends holding, by formulas in the arguments' entries. -/
namespace Cert.Proof.FwdRef
open Cert.FwdRefIdeal Idealize.ShloMosaic Idealize.ShloMosaic.TcCoe Idealize.SL.Sem
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
       rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4) ∧ r.2.sem = fun _ => 0) :=
  (θ_run defs _ _).mono (fun r h => ⟨fun c => (h c).2.2.2, sem_eq_zero_of_no_sems (by decide) r.2⟩) (Cert.FwdRefIdeal.Value.run m ρ)

theorem run : θ_run (defs (F := Ideal)) (onTc (τ := τ) (main (F := Ideal))) ⟨m, fun _ => 0, ρ⟩ (fun r => ∀ c : Dev nD,
      rd r.2.mem c main_v19 = (ea (ffnE (un (rd m c main_arg0)) (un (rd m c main_arg1)) (fun f k => un (rd m c main_arg2) k f) (fun f k => un (rd m c main_arg3) k f) (un (rd m c main_arg4))) : FVec Ideal S16384x1024 .f32)
      ∧ rd r.2.mem c main_v20 = (ea (upE (un (rd m c main_arg0)) (un (rd m c main_arg1)) (fun f k => un (rd m c main_arg2) k f)) : FVec Ideal S16384x2816 .bf16)
      ∧ rd r.2.mem c main_v21 = (ea (upE (un (rd m c main_arg0)) (un (rd m c main_arg1)) (fun f k => un (rd m c main_arg3) k f)) : FVec Ideal S16384x2816 .bf16)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4) := by
  refine (θ_run defs _ _).mono (fun r h c => ⟨(h c).1.trans ?_, (h c).2.1.trans ?_, (h c).2.2.1.trans ?_, (h c).2.2.2⟩) (Cert.FwdRefIdeal.Value.run m ρ)
  · funext q; idx_vars q
    pointwise
    try simp only [zero_add]
    rfl
  · funext q; idx_vars q
    pointwise
    try simp only [zero_add]
    rfl
  · funext q; idx_vars q
    pointwise
    try simp only [zero_add]
    rfl
end Cert.Proof.FwdRef
end
-- ==== Proof.FfnKer.lean ====
/- The values the feed-forward gradient kernel's body computes at a grid point, on blocks of real entries: each named
   value of the body is an array of reals given by a formula. -/
module

public import proofs.«01_k».proof.Proof.Gen.KernelIdeal.Skeleton
public import proofs.«01_k».proof.Proof.Kit

@[expose] public section

set_option maxRecDepth 16384

noncomputable section

namespace Cert.Proof.FfnKer

open Cert.KernelIdeal Cert.KernelIdeal.Gen Idealize.ShloMosaic Idealize.ShloMosaic.TcCoe Idealize.SL.Sem

/-- The mean square of a row, with the norm's constant added. -/
def msq (x : Fin 1024 → ℝ) : ℝ := (∑ k : Fin 1024, x k * x k) / 1024 + eps

theorem msq_pos (x : Fin 1024 → ℝ) : 0 < msq x := by
  unfold msq
  exact add_pos_of_nonneg_of_pos (div_nonneg (Finset.sum_nonneg fun k _ => mul_self_nonneg _) (by norm_num)) eps_pos

/-- One over the root of a row's mean square. -/
def rinv (x : Fin 1024 → ℝ) : ℝ := (Real.sqrt (msq x))⁻¹

/-- The sigmoid. -/
def sg (a : ℝ) : ℝ := 1 / (1 + Real.exp (-a))

theorem logistic_real (a : ℝ) : Ideal.logistic (a : EReal) = ((sg a : ℝ) : EReal) := by
  show Ideal.div 1 (1 + Ideal.exp (-(a : EReal))) = _
  have h : (1 : ℝ) + Real.exp (-a) ≠ 0 := by positivity
  rw [← EReal.coe_neg, exp_real, lit_one, ← EReal.coe_add, div_real h]; rfl

/-- The gate's derivative times the incoming gradient. -/
def daK (s a b : ℝ) : ℝ := s * b * (sg a * (1 + a * (1 - sg a)))

theorem h_pay3 (x : Fin 256 → Fin 1024 → ℝ) : k0_pay3 (F := Ideal) (up2 x) = up2 (fun i (_ : Fin 1) => rinv (x i)) := by
  unfold k0_pay3
  funext q; idx_vars q
  pointwise
  simp only [up2_ix, zero_add, lit_1024, lit_eps, ← EReal.coe_mul, ← coe_sum, div_real (by norm_num : (1024 : ℝ) ≠ 0), ← EReal.coe_add]
  exact rsqrt_real (msq_pos _)
  try simp only [zero_add, add_zero, up2_ix, lit_one, lit_half, lit_1024, lit_eps, logistic_real, ← EReal.coe_mul, ← EReal.coe_add, ← EReal.coe_sub, ← coe_sum]
  try rfl

theorem h_pay4 (x : Fin 256 → Fin 1024 → ℝ) : k0_pay4 (F := Ideal) (up2 x) = up2 (fun i j => x i j * rinv (x i)) := by
  unfold k0_pay4
  simp only [h_pay3]
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay5 (g : Fin 1 → Fin 1024 → ℝ) (x : Fin 256 → Fin 1024 → ℝ) : k0_pay5 (F := Ideal) (up2 g) (up2 x) = up2 (fun i j => x i j * rinv (x i) * g 0 j) := by
  unfold k0_pay5
  simp only [h_pay4]
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay6 (d : Fin 256 → Fin 1024 → ℝ) : k0_pay6 (F := Ideal) (up2 d) = up2 (fun i j => 1 / 2 * d i j) := by
  unfold k0_pay6
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay7  : k0_pay7 (F := Ideal) = up2 (fun _ _ => 0) := by
  unfold k0_pay7
  funext q; idx_vars q
  pointwise
  try simp only [zero_add, add_zero, up2_ix, lit_one, lit_half, lit_1024, lit_eps, logistic_real, ← EReal.coe_mul, ← EReal.coe_add, ← EReal.coe_sub, ← coe_sum]
  try exact lit_zero

theorem h_pay8 (a : Fin 256 → Fin 1408 → ℝ) : k0_pay8 (F := Ideal) (up2 a) = up2 a := by
  unfold k0_pay8
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay9 (a : Fin 256 → Fin 1408 → ℝ) : k0_pay9 (F := Ideal) (up2 a) = up2 a := by
  unfold k0_pay9
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay17 (a : Fin 256 → Fin 1408 → ℝ) : k0_pay17 (F := Ideal) (up2 a) = up2 a := by
  unfold k0_pay17
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay18 (a : Fin 256 → Fin 1408 → ℝ) : k0_pay18 (F := Ideal) (up2 a) = up2 a := by
  unfold k0_pay18
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay10 (e : Fin 256 → Fin 1024 → ℝ) (w : Fin 1408 → Fin 1024 → ℝ) : k0_pay10 (F := Ideal) (up2 e) (up2 w) (constant S256x1408 .f32 0x00000000#32) = up2 (fun i f => ∑ k : Fin 1024, e i k * w f k) := by
  unfold k0_pay10
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay19 (e : Fin 256 → Fin 1024 → ℝ) (w : Fin 1408 → Fin 1024 → ℝ) : k0_pay19 (F := Ideal) (up2 e) (up2 w) = up2 (fun i f => ∑ k : Fin 1024, e i k * w f k) := by
  unfold k0_pay19
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay11 (a : Fin 256 → Fin 1408 → ℝ) : k0_pay11 (F := Ideal) (up2 a) = up2 (fun i j => sg (a i j)) := by
  unfold k0_pay11
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay20 (a : Fin 256 → Fin 1408 → ℝ) : k0_pay20 (F := Ideal) (up2 a) = up2 (fun i j => sg (a i j)) := by
  unfold k0_pay20
  simp only [h_pay17]
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay12 (a : Fin 256 → Fin 1408 → ℝ) : k0_pay12 (F := Ideal) (up2 a) = up2 (fun i j => a i j * sg (a i j)) := by
  unfold k0_pay12
  simp only [h_pay11]
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay21 (a : Fin 256 → Fin 1408 → ℝ) : k0_pay21 (F := Ideal) (up2 a) = up2 (fun i j => a i j * sg (a i j)) := by
  unfold k0_pay21
  simp only [h_pay17, h_pay20]
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay13 (a b : Fin 256 → Fin 1408 → ℝ) : k0_pay13 (F := Ideal) (up2 a) (up2 b) = up2 (fun i j => a i j * sg (a i j) * b i j) := by
  unfold k0_pay13
  simp only [h_pay12]
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay22 (a b : Fin 256 → Fin 1408 → ℝ) : k0_pay22 (F := Ideal) (up2 a) (up2 b) = up2 (fun i j => a i j * sg (a i j) * b i j) := by
  unfold k0_pay22
  simp only [h_pay21, h_pay18]
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay23 (a : Fin 256 → Fin 1408 → ℝ) : k0_pay23 (F := Ideal) (up2 a) = up2 a := by
  unfold k0_pay23
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay14 (e : Fin 256 → Fin 1024 → ℝ) (a b : Fin 256 → Fin 1408 → ℝ) (w : Fin 1408 → Fin 1024 → ℝ) : k0_pay14 (F := Ideal) (up2 e) (up2 a) (up2 b) (up2 w) (constant S256x1408 .f32 0x00000000#32) = up2 (fun i f => daK (∑ k : Fin 1024, e i k * w f k) (a i f) (b i f)) := by
  unfold k0_pay14
  simp only [h_pay10, h_pay11]
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay24 (a b s : Fin 256 → Fin 1408 → ℝ) : k0_pay24 (F := Ideal) (up2 a) (up2 b) (up2 s) (up2 (fun i j => sg (a i j))) = up2 (fun i f => daK (s i f) (a i f) (b i f)) := by
  unfold k0_pay24
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay15 (e : Fin 256 → Fin 1024 → ℝ) (a : Fin 256 → Fin 1408 → ℝ) (w : Fin 1408 → Fin 1024 → ℝ) : k0_pay15 (F := Ideal) (up2 e) (up2 a) (up2 w) (constant S256x1408 .f32 0x00000000#32) = up2 (fun i f => (∑ k : Fin 1024, e i k * w f k) * (a i f * sg (a i f))) := by
  unfold k0_pay15
  simp only [h_pay10, h_pay12]
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay25 (s t : Fin 256 → Fin 1408 → ℝ) : k0_pay25 (F := Ideal) (up2 s) (up2 t) = up2 (fun i f => s i f * t i f) := by
  unfold k0_pay25
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay16 (e z : Fin 256 → Fin 1024 → ℝ) (a b : Fin 256 → Fin 1408 → ℝ) (w w2 w3 : Fin 1408 → Fin 1024 → ℝ) : k0_pay16 (F := Ideal) (up2 e) (up2 z) (up2 a) (up2 b) (up2 w) (constant S256x1408 .f32 0x00000000#32) (up2 w2) (up2 w3) = up2 (fun i l => z i l + (∑ f : Fin 1408, daK (∑ k : Fin 1024, e i k * w f k) (a i f) (b i f) * w2 f l) + ∑ f : Fin 1408, (∑ k : Fin 1024, e i k * w f k) * (a i f * sg (a i f)) * w3 f l) := by
  unfold k0_pay16
  simp only [h_pay14, h_pay15]
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay26 (z : Fin 256 → Fin 1024 → ℝ) (a b s t : Fin 256 → Fin 1408 → ℝ) (w2 w3 : Fin 1408 → Fin 1024 → ℝ) : k0_pay26 (F := Ideal) (up2 z) (up2 a) (up2 b) (up2 s) (up2 (fun i j => sg (a i j))) (up2 t) (up2 w2) (up2 w3) = up2 (fun i l => z i l + (∑ f : Fin 1408, daK (s i f) (a i f) (b i f) * w2 f l) + ∑ f : Fin 1408, s i f * t i f * w3 f l) := by
  unfold k0_pay26
  simp only [h_pay24, h_pay25]
  funext q; idx_vars q
  pointwise
  try simp only [zero_add, add_zero, up2_ix, lit_one, lit_half, lit_1024, lit_eps, logistic_real, ← EReal.coe_mul, ← EReal.coe_add, ← EReal.coe_sub, ← coe_sum]
  try rfl

/-- The gradient of the normalised row: what the first half of the hidden width left, and the second half's two products. -/
def dhK (z : Fin 256 → Fin 1024 → ℝ) (a b s t : Fin 256 → Fin 1408 → ℝ) (w2 w3 : Fin 1408 → Fin 1024 → ℝ) (i : Fin 256) (l : Fin 1024) : ℝ :=
  z i l + (∑ f : Fin 1408, daK (s i f) (a i f) (b i f) * w2 f l) + ∑ f : Fin 1408, s i f * t i f * w3 f l

theorem h_pay26' (z : Fin 256 → Fin 1024 → ℝ) (a b s t : Fin 256 → Fin 1408 → ℝ) (w2 w3 : Fin 1408 → Fin 1024 → ℝ) : k0_pay26 (F := Ideal) (up2 z) (up2 a) (up2 b) (up2 s) (up2 (fun i j => sg (a i j))) (up2 t) (up2 w2) (up2 w3) = up2 (dhK z a b s t w2 w3) := h_pay26 z a b s t w2 w3

theorem h_pay27 (u : Fin 256 → Fin 1024 → ℝ) (z : Fin 256 → Fin 1024 → ℝ) (a b s t : Fin 256 → Fin 1408 → ℝ) (w2 w3 : Fin 1408 → Fin 1024 → ℝ) : k0_pay27 (F := Ideal) (up2 u) (up2 z) (up2 a) (up2 b) (up2 s) (up2 (fun i j => sg (a i j))) (up2 t) (up2 w2) (up2 w3) = up2 (fun (_ : Fin 1) l => ∑ i : Fin 256, dhK z a b s t w2 w3 i l * u i l) := by
  unfold k0_pay27
  simp only [h_pay26']
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay28 (g : Fin 1 → Fin 1024 → ℝ) (r : Fin 256 → ℝ) (u d : Fin 256 → Fin 1024 → ℝ) (z : Fin 256 → Fin 1024 → ℝ) (a b s t : Fin 256 → Fin 1408 → ℝ) (w2 w3 : Fin 1408 → Fin 1024 → ℝ) : k0_pay28 (F := Ideal) (up2 g) (up2 (fun i (_ : Fin 1) => r i)) (up2 u) (up2 d) (up2 z) (up2 a) (up2 b) (up2 s) (up2 (fun i j => sg (a i j))) (up2 t) (up2 w2) (up2 w3) = up2 (fun i l => d i l + r i * (dhK z a b s t w2 w3 i l * g 0 l - u i l * ((∑ k : Fin 1024, dhK z a b s t w2 w3 i k * g 0 k * u i k) / 1024))) := by
  unfold k0_pay28
  simp only [h_pay26']
  funext q; idx_vars q
  pointwise
  simp only [up2_ix, zero_add, lit_1024, ← EReal.coe_mul, ← coe_sum, div_real (by norm_num : (1024 : ℝ) ≠ 0)]
  try simp only [zero_add, add_zero, up2_ix, lit_one, lit_half, lit_1024, lit_eps, logistic_real, ← EReal.coe_mul, ← EReal.coe_add, ← EReal.coe_sub, ← coe_sum]
  try rfl

theorem h_pay1 (u v : Fin 1 → Fin 1024 → ℝ) : k0_pay1 (F := Ideal) (up2 u) (up2 v) = up2 (fun i l => v i l + u i l) := by
  unfold k0_pay1
  funext q; idx_vars q
  pointwise
  try simp only [zero_add, add_zero, up2_ix, lit_one, lit_half, lit_1024, lit_eps, logistic_real, ← EReal.coe_mul, ← EReal.coe_add, ← EReal.coe_sub, ← coe_sum]
  try rfl

theorem h_pay2  : k0_pay2 (F := Ideal) = up2 (fun _ _ => 0) := by
  unfold k0_pay2
  funext q; idx_vars q
  pointwise
  try simp only [zero_add, add_zero, up2_ix, lit_one, lit_half, lit_1024, lit_eps, logistic_real, ← EReal.coe_mul, ← EReal.coe_add, ← EReal.coe_sub, ← coe_sum]
  try exact lit_zero

end Cert.Proof.FfnKer

end
-- ==== Proof.NormBwd.lean ====
/- The gradient of the norm on a row of reals, as the kernels compute it and as differentiation gives it. -/
module
public import proofs.«01_k».proof.Proof.FfnKer
@[expose] public section
noncomputable section
namespace Cert.Proof.NormBwd
open FfnKer

/-- The gradient in the input of the norm, added to what came in beside it. -/
def nb {n : ℕ} (x d : Fin n → Fin 1024 → ℝ) (g : Fin 1 → Fin 1024 → ℝ) (dh : Fin n → Fin 1024 → ℝ) (i : Fin n) (l : Fin 1024) : ℝ :=
  d i l + rinv (x i) * (dh i l * g 0 l - x i l * rinv (x i) * ((∑ k, dh i k * g 0 k * (x i k * rinv (x i))) / 1024))

/-- The gradient in the gain. -/
def ng {n : ℕ} (x dh : Fin n → Fin 1024 → ℝ) (_ : Fin 1) (l : Fin 1024) : ℝ := ∑ i, dh i l * (x i l * rinv (x i))

theorem up2_at {n k n' k' : ℕ} (F : Fin n → Fin k → ℝ) (F' : Fin n' → Fin k' → ℝ) (q : (⟨2, ![n, k]⟩ : Idealize.ShloMosaic.Shape).Idx) (q' : (⟨2, ![n', k']⟩ : Idealize.ShloMosaic.Shape).Idx)
    (h : F (q 0) (q 1) = F' (q' 0) (q' 1)) : up2 F q = up2 F' q' := congrArg _ h

theorem cube (x : Fin 1024 → ℝ) : rinv x / msq x = rinv x * rinv x * rinv x := by
  have h := Real.mul_self_sqrt (msq_pos x).le
  have h0 := (Real.sqrt_pos.2 (msq_pos x)).ne'
  show (Real.sqrt (msq x))⁻¹ / msq x = (Real.sqrt (msq x))⁻¹ * (Real.sqrt (msq x))⁻¹ * (Real.sqrt (msq x))⁻¹
  rw [div_eq_mul_inv, mul_assoc, ← mul_inv (Real.sqrt (msq x)) (Real.sqrt (msq x)), h]

/-- Differentiation's form of the same gradient. -/
theorem nb_eq {n : ℕ} (x d : Fin n → Fin 1024 → ℝ) (g : Fin 1 → Fin 1024 → ℝ) (dh : Fin n → Fin 1024 → ℝ) (i : Fin n) (l : Fin 1024) (s : ℝ)
    (hs : s = (∑ k, x i k * (dh i k * g 0 k)) * (-(1 / 2) * (rinv (x i) / msq (x i))) / 1024) :
    d i l + ((dh i l * g 0 l * rinv (x i) + x i l * s) + s * x i l) = nb x d g dh i l := by
  rw [hs, cube]
  unfold nb
  have h : (∑ k, dh i k * g 0 k * (x i k * rinv (x i))) = (∑ k, x i k * (dh i k * g 0 k)) * rinv (x i) := by
    rw [Finset.sum_mul]
    exact Finset.sum_congr rfl fun k _ => by ring
  rw [h]
  ring
end Cert.Proof.NormBwd
end
-- ==== Proof.ProjKer.lean ====
/- The values the projection's gradient kernel computes at a grid point, on blocks of real entries. -/
module
public import proofs.«01_k».proof.Proof.Gen.ProjBwdIdeal.Skeleton
public import proofs.«01_k».proof.Proof.NormBwd
@[expose] public section
set_option maxRecDepth 16384
noncomputable section
namespace Cert.Proof.ProjKer
open Cert.ProjBwdIdeal Cert.ProjBwdIdeal.Gen Idealize.ShloMosaic Idealize.ShloMosaic.TcCoe Idealize.SL.Sem FfnKer NormBwd

/-- The gradient of the normalised rows: the seven pieces' products with their rows of the weight, in the order they are added. -/
def dhP {n : ℕ} (s : Fin n → Fin 1024 → ℝ) (q k v : Fin n → Fin 512 → ℝ) (f : Fin n → Fin 128 → ℝ) (e : Fin n → Fin 3072 → ℝ)
    (wq wk wv : Fin 512 → Fin 1024 → ℝ) (wf : Fin 128 → Fin 1024 → ℝ) (we : Fin 3072 → Fin 1024 → ℝ) (i : Fin n) (l : Fin 1024) : ℝ :=
  s i l + (∑ j, q i j * wq j l) + (∑ j, k i j * wk j l) + (∑ j, v i j * wv j l) + (∑ j, f i j * wf j l) + (∑ j, e i j * we j l)
def dhQ {n : ℕ} (c : Fin n → Fin 1536 → ℝ) (s : Fin n → Fin 1024 → ℝ) (wc : Fin 1536 → Fin 1024 → ℝ) (ws : Fin 1024 → Fin 1024 → ℝ) (i : Fin n) (l : Fin 1024) : ℝ :=
  (∑ j, c i j * wc j l) + (∑ j, s i j * ws j l)

theorem h_pay4 (x : Fin 512 → Fin 1024 → ℝ) : k0_pay4 (F := Ideal) (up2 x) = up2 (fun i (_ : Fin 1) => rinv (x i)) := by
  unfold k0_pay4
  funext q; idx_vars q
  pointwise
  simp only [up2_ix, zero_add, lit_1024, lit_eps, ← EReal.coe_mul, ← coe_sum, div_real (by norm_num : (1024 : ℝ) ≠ 0), ← EReal.coe_add]
  exact rsqrt_real (msq_pos _)
  try simp only [zero_add, add_zero, up2_ix, lit_one, lit_half, lit_1024, lit_eps, ← EReal.coe_mul, ← EReal.coe_add, ← EReal.coe_sub, ← coe_sum]
  try rfl

theorem h_pay5 (x : Fin 512 → Fin 1024 → ℝ) : k0_pay5 (F := Ideal) (up2 x) = up2 (fun i j => x i j * rinv (x i)) := by
  unfold k0_pay5
  simp only [h_pay4]
  funext q; idx_vars q
  pointwise
  try simp only [zero_add, add_zero, up2_ix, lit_one, lit_half, lit_1024, lit_eps, ← EReal.coe_mul, ← EReal.coe_add, ← EReal.coe_sub, ← coe_sum]
  try rfl

theorem h_pay6 (g : Fin 1 → Fin 1024 → ℝ) (x : Fin 512 → Fin 1024 → ℝ) : k0_pay6 (F := Ideal) (up2 g) (up2 x) = up2 (fun i j => x i j * rinv (x i) * g 0 j) := by
  unfold k0_pay6
  simp only [h_pay5]
  funext q; idx_vars q
  pointwise
  try simp only [zero_add, add_zero, up2_ix, lit_one, lit_half, lit_1024, lit_eps, ← EReal.coe_mul, ← EReal.coe_add, ← EReal.coe_sub, ← coe_sum]
  try rfl

theorem h_pay7 (x : Fin 512 → Fin 128 → ℝ) : k0_pay7 (F := Ideal) (up2 x) = up2 x := by
  unfold k0_pay7
  funext q; idx_vars q
  pointwise
  try simp only [zero_add, add_zero, up2_ix, lit_one, lit_half, lit_1024, lit_eps, ← EReal.coe_mul, ← EReal.coe_add, ← EReal.coe_sub, ← coe_sum]
  try rfl

theorem h_pay8 (c : Fin 512 → Fin 1536 → ℝ)(w : Fin 1536 → Fin 1024 → ℝ)(s : Fin 512 → Fin 1024 → ℝ)(u : Fin 1024 → Fin 1024 → ℝ) : k0_pay8 (F := Ideal) (up2 c) (up2 w) (up2 s) (up2 u) = up2 (dhQ c s w u) := by
  unfold k0_pay8
  funext q; idx_vars q
  pointwise
  try simp only [zero_add, add_zero, up2_ix, lit_one, lit_half, lit_1024, lit_eps, ← EReal.coe_mul, ← EReal.coe_add, ← EReal.coe_sub, ← coe_sum]
  try rfl

theorem h_pay9 (x : Fin 512 → Fin 512 → ℝ) : k0_pay9 (F := Ideal) (up2 x) = up2 x := by
  unfold k0_pay9
  funext q; idx_vars q
  pointwise
  try simp only [zero_add, add_zero, up2_ix, lit_one, lit_half, lit_1024, lit_eps, ← EReal.coe_mul, ← EReal.coe_add, ← EReal.coe_sub, ← coe_sum]
  try rfl

theorem h_pay10 (x : Fin 512 → Fin 512 → ℝ) : k0_pay10 (F := Ideal) (up2 x) = up2 x := by
  unfold k0_pay10
  funext q; idx_vars q
  pointwise
  try simp only [zero_add, add_zero, up2_ix, lit_one, lit_half, lit_1024, lit_eps, ← EReal.coe_mul, ← EReal.coe_add, ← EReal.coe_sub, ← coe_sum]
  try rfl

theorem h_pay11 (x : Fin 512 → Fin 512 → ℝ) : k0_pay11 (F := Ideal) (up2 x) = up2 x := by
  unfold k0_pay11
  funext q; idx_vars q
  pointwise
  try simp only [zero_add, add_zero, up2_ix, lit_one, lit_half, lit_1024, lit_eps, ← EReal.coe_mul, ← EReal.coe_add, ← EReal.coe_sub, ← coe_sum]
  try rfl

theorem h_pay12 (f : Fin 512 → Fin 128 → ℝ)(s : Fin 512 → Fin 1024 → ℝ)(q : Fin 512 → Fin 512 → ℝ)(wq : Fin 512 → Fin 1024 → ℝ)(k : Fin 512 → Fin 512 → ℝ)(wk : Fin 512 → Fin 1024 → ℝ)(v : Fin 512 → Fin 512 → ℝ)(wv : Fin 512 → Fin 1024 → ℝ)(wf : Fin 128 → Fin 1024 → ℝ)(e : Fin 512 → Fin 3072 → ℝ)(we : Fin 3072 → Fin 1024 → ℝ) : k0_pay12 (F := Ideal) (up2 f) (up2 s) (up2 q) (up2 wq) (up2 k) (up2 wk) (up2 v) (up2 wv) (up2 wf) (up2 e) (up2 we) = up2 (dhP s q k v f e wq wk wv wf we) := by
  unfold k0_pay12
  simp only [h_pay9, h_pay10, h_pay11]
  funext q; idx_vars q
  pointwise
  try simp only [zero_add, add_zero, up2_ix, lit_one, lit_half, lit_1024, lit_eps, ← EReal.coe_mul, ← EReal.coe_add, ← EReal.coe_sub, ← coe_sum]
  try rfl

theorem h_pay13 (u : Fin 512 → Fin 1024 → ℝ)(f : Fin 512 → Fin 128 → ℝ)(s : Fin 512 → Fin 1024 → ℝ)(q : Fin 512 → Fin 512 → ℝ)(wq : Fin 512 → Fin 1024 → ℝ)(k : Fin 512 → Fin 512 → ℝ)(wk : Fin 512 → Fin 1024 → ℝ)(v : Fin 512 → Fin 512 → ℝ)(wv : Fin 512 → Fin 1024 → ℝ)(wf : Fin 128 → Fin 1024 → ℝ)(e : Fin 512 → Fin 3072 → ℝ)(we : Fin 3072 → Fin 1024 → ℝ) : k0_pay13 (F := Ideal) (up2 u) (up2 f) (up2 s) (up2 q) (up2 wq) (up2 k) (up2 wk) (up2 v) (up2 wv) (up2 wf) (up2 e) (up2 we) = up2 (fun (_ : Fin 1) l => ∑ i, dhP s q k v f e wq wk wv wf we i l * u i l) := by
  unfold k0_pay13
  simp only [h_pay12]
  funext q; idx_vars q
  pointwise
  try simp only [zero_add, add_zero, up2_ix, lit_one, lit_half, lit_1024, lit_eps, ← EReal.coe_mul, ← EReal.coe_add, ← EReal.coe_sub, ← coe_sum]
  try rfl

theorem h_pay14 (g : Fin 1 → Fin 1024 → ℝ) : k0_pay14 (F := Ideal) (up2 g) = up2 (fun (_ : Fin 512) l => g 0 l) := by
  unfold k0_pay14
  funext q; idx_vars q
  pointwise
  try simp only [zero_add, add_zero, up2_ix, lit_one, lit_half, lit_1024, lit_eps, ← EReal.coe_mul, ← EReal.coe_add, ← EReal.coe_sub, ← coe_sum]
  try rfl

theorem h_pay1 (r : Fin 512 → ℝ)(u : Fin 512 → Fin 1024 → ℝ)(h : Fin 512 → Fin 1024 → ℝ)(g : Fin 1 → Fin 1024 → ℝ)(d : Fin 512 → Fin 1024 → ℝ) : k0_pay1 (F := Ideal) (up2 (fun i (_ : Fin 1) => r i)) (up2 u) (up2 h) (up2 (fun (_ : Fin 512) l => g 0 l)) (up2 d) = up2 (fun i l => d i l + r i * (h i l * g 0 l - u i l * ((∑ k, h i k * g 0 k * u i k) / 1024))) := by
  unfold k0_pay1
  funext q; idx_vars q
  pointwise
  simp only [up2_ix, zero_add, lit_1024, ← EReal.coe_mul, ← coe_sum, div_real (by norm_num : (1024 : ℝ) ≠ 0)]
  try simp only [zero_add, add_zero, up2_ix, lit_one, lit_half, lit_1024, lit_eps, ← EReal.coe_mul, ← EReal.coe_add, ← EReal.coe_sub, ← coe_sum]
  try rfl

theorem h_pay2 (u : Fin 1 → Fin 1024 → ℝ)(v : Fin 1 → Fin 1024 → ℝ) : k0_pay2 (F := Ideal) (up2 u) (up2 v) = up2 (fun i l => v i l + u i l) := by
  unfold k0_pay2
  funext q; idx_vars q
  pointwise
  try simp only [zero_add, add_zero, up2_ix, lit_one, lit_half, lit_1024, lit_eps, ← EReal.coe_mul, ← EReal.coe_add, ← EReal.coe_sub, ← coe_sum]
  try rfl

theorem h_pay3  : k0_pay3 (F := Ideal)  = up2 (fun _ _ => 0) := by
  unfold k0_pay3
  funext q; idx_vars q
  pointwise
  try simp only [zero_add, add_zero, up2_ix, lit_one, lit_half, lit_1024, lit_eps, ← EReal.coe_mul, ← EReal.coe_add, ← EReal.coe_sub, ← coe_sum]
  try exact lit_zero
end Cert.Proof.ProjKer
end
-- ==== Proof.ProjEq.lean ====
/- The gradient of the merged projection over the reals: its inputs, the pieces of its weight, and what it gives. -/
module
public import proofs.«01_k».proof.Proof.ProjKer
@[expose] public section
noncomputable section
namespace Cert.Proof.ProjEq
open FfnKer NormBwd ProjKer

/-- The real inputs: the rows and what flows in beside them, the gradients of the seven pieces, the gain and the weight. -/
structure In where
  x : Fin 16384 → Fin 1024 → ℝ
  d : Fin 16384 → Fin 1024 → ℝ
  c : Fin 16384 → Fin 1536 → ℝ
  s : Fin 16384 → Fin 1024 → ℝ
  q : Fin 16384 → Fin 512 → ℝ
  k : Fin 16384 → Fin 512 → ℝ
  v : Fin 16384 → Fin 512 → ℝ
  f : Fin 16384 → Fin 128 → ℝ
  e : Fin 16384 → Fin 3072 → ℝ
  g : Fin 1 → Fin 1024 → ℝ
  w : Fin 1024 → Fin 7176 → ℝ

namespace In
variable (I : In)
def w1 (r : Fin 4096) (l : Fin 1024) : ℝ := I.w l ⟨r.val, by omega⟩
def wc (j : Fin 1536) (l : Fin 1024) : ℝ := I.w1 ⟨j.val, by omega⟩ l
def ws (j : Fin 1024) (l : Fin 1024) : ℝ := I.w1 ⟨1536 + j.val, by omega⟩ l
def wq (j : Fin 512) (l : Fin 1024) : ℝ := I.w1 ⟨2560 + j.val, by omega⟩ l
def wk (j : Fin 512) (l : Fin 1024) : ℝ := I.w1 ⟨3072 + j.val, by omega⟩ l
def wv (j : Fin 512) (l : Fin 1024) : ℝ := I.w1 ⟨3584 + j.val, by omega⟩ l
/-- The eight forget rows, padded with zeros to a full lane tile. -/
def wf (j : Fin 128) (l : Fin 1024) : ℝ := if h : j.val < 8 then I.w l ⟨4096 + j.val, by omega⟩ else 0
def we (j : Fin 3072) (l : Fin 1024) : ℝ := I.w l ⟨4104 + j.val, by omega⟩
def dh : Fin 16384 → Fin 1024 → ℝ := dhP (dhQ I.c I.s I.wc I.ws) I.q I.k I.v I.f I.e I.wq I.wk I.wv I.wf I.we
def dx : Fin 16384 → Fin 1024 → ℝ := nb I.x I.d I.g I.dh
def h (i : Fin 16384) (l : Fin 1024) : ℝ := I.x i l * rinv (I.x i) * I.g 0 l
/-- The three gradients side by side. -/
def qkv (i : Fin 16384) (l : Fin 1536) : ℝ :=
  if h : l.val < 512 then I.q i ⟨l.val, h⟩ else if h' : l.val - 512 < 512 then I.k i ⟨l.val - 512, by omega⟩ else I.v i ⟨l.val - 512 - 512, by omega⟩
end In
end Cert.Proof.ProjEq
end
-- ==== Proof.ProjBlk.lean ====
/- The blocks the projection's gradient kernel reads and leaves at each grid point, the arrays it ends with, and its run. -/
module
public import proofs.«01_k».proof.Proof.Gen.ProjBwdIdeal.Frame
public import proofs.«01_k».proof.Proof.ProjEq
public import Idealize.ShloMosaic.Lib.Pipeline.ReadBack
public import Idealize.ShloMosaic.Lib.Pipeline.ValueKit
@[expose] public section
set_option maxRecDepth 16384
set_option maxHeartbeats 4000000
noncomputable section
namespace Cert.Proof.ProjBlk
open Cert.ProjBwdIdeal Cert.ProjBwdIdeal.Gen Idealize.ShloMosaic Idealize.ShloMosaic.TcCoe Idealize.SL.Sem NormBwd ProjKer ProjEq
open FfnKer (msq rinv msq_pos)
variable (m : (ℓ : Loc nD τ sig) → Buf (Elt Ideal) ℓ)

theorem canon_thirds (a b d : Fin 512 → Fin 512 → ℝ) (F : Fin 512 → Fin 1536 → ℝ) (ha : ∀ i j, F i ⟨j.val, by omega⟩ = a i j) (hb : ∀ i j, F i ⟨512 + j.val, by omega⟩ = b i j) (hd : ∀ i j, F i ⟨1024 + j.val, by omega⟩ = d i j) (q : S512x1536.Idx) :
    View.canon (Val := Elt Ideal) (e := .bf16) [⟨Rect.unit (s := S512x1536) ![0, 1024] ![512, 512] inb_S512x1536_S512x512_0_1024, (up2 d : FVec Ideal S512x512 .bf16)⟩,
      ⟨Rect.unit (s := S512x1536) ![0, 512] ![512, 512] inb_S512x1536_S512x512_0_512, (up2 b : FVec Ideal S512x512 .bf16)⟩,
      ⟨Rect.unit (s := S512x1536) ![0, 0] ![512, 512] inb_S512x1536_S512x512_0_0, (up2 a : FVec Ideal S512x512 .bf16)⟩] q = up2 F q := by
  have e : d = fun i j => F i ⟨1024 + j.val, by omega⟩ := by funext i j; exact (hd i j).symm
  have e' : b = fun i j => F i ⟨512 + j.val, by omega⟩ := by funext i j; exact (hb i j).symm
  have e'' : a = fun i j => F i ⟨j.val, by omega⟩ := by funext i j; exact (ha i j).symm
  subst e e' e''
  canon_tiles q h
  all_goals
    refine up2_at _ _ _ _ (congrArg₂ F ?_ ?_)
    · exact Fin.ext h0.symm
    · exact Fin.ext h1.symm
theorem ld_c (a : Fin 4096 → Fin 1024 → ℝ) : View.ld (Val := Elt Ideal) (e' := .bf16) (S := S4096x1024) (up2 a) (Rect.unit (s := S4096x1024) ![0, 0] ![1536, 1024] inb_S4096x1024_S1536x1024_0_0) = up2 (fun i j => a ⟨i.val, by omega⟩ j) := by
  funext q; idx_vars q
  pointwise
  try rfl
theorem ld_s (a : Fin 4096 → Fin 1024 → ℝ) : View.ld (Val := Elt Ideal) (e' := .bf16) (S := S4096x1024) (up2 a) (Rect.unit (s := S4096x1024) ![1536, 0] ![1024, 1024] inb_S4096x1024_S1024x1024_1536_0) = up2 (fun i j => a ⟨1536 + i.val, by omega⟩ j) := by
  funext q; idx_vars q
  pointwise
  try rfl
theorem ld_q (a : Fin 4096 → Fin 1024 → ℝ) : View.ld (Val := Elt Ideal) (e' := .bf16) (S := S4096x1024) (up2 a) (Rect.unit (s := S4096x1024) ![2560, 0] ![512, 1024] inb_S4096x1024_S512x1024_2560_0) = up2 (fun i j => a ⟨2560 + i.val, by omega⟩ j) := by
  funext q; idx_vars q
  pointwise
  try rfl
theorem ld_k (a : Fin 4096 → Fin 1024 → ℝ) : View.ld (Val := Elt Ideal) (e' := .bf16) (S := S4096x1024) (up2 a) (Rect.unit (s := S4096x1024) ![3072, 0] ![512, 1024] inb_S4096x1024_S512x1024_3072_0) = up2 (fun i j => a ⟨3072 + i.val, by omega⟩ j) := by
  funext q; idx_vars q
  pointwise
  try rfl
theorem ld_v (a : Fin 4096 → Fin 1024 → ℝ) : View.ld (Val := Elt Ideal) (e' := .bf16) (S := S4096x1024) (up2 a) (Rect.unit (s := S4096x1024) ![3584, 0] ![512, 1024] inb_S4096x1024_S512x1024_3584_0) = up2 (fun i j => a ⟨3584 + i.val, by omega⟩ j) := by
  funext q; idx_vars q
  pointwise
  try rfl
theorem ld_f (a : Fin 128 → Fin 1024 → ℝ) : View.ld (Val := Elt Ideal) (e' := .bf16) (S := S128x1024) (up2 a) (Rect.unit (s := S128x1024) ![0, 0] ![128, 1024] inb_S128x1024_S128x1024_0_0) = up2 (fun i j => a i j) := by
  funext q; idx_vars q
  pointwise
  try rfl
theorem ld_e (a : Fin 3072 → Fin 1024 → ℝ) : View.ld (Val := Elt Ideal) (e' := .bf16) (S := S3072x1024) (up2 a) (Rect.unit (s := S3072x1024) ![0, 0] ![3072, 1024] inb_S3072x1024_S3072x1024_0_0) = up2 (fun i j => a i j) := by
  funext q; idx_vars q
  pointwise
  try rfl
theorem canon_fill4096 (X : FVec Ideal S4096x1024 .bf16) : View.canon (Val := Elt Ideal) (e := .bf16) [⟨Rect.whole S4096x1024, X⟩] = X := by
  funext q
  canon_tiles q h
  refine congrArg X ?_
  funext a
  fin_cases a
  · exact Fin.ext h0.symm
  · exact Fin.ext h1.symm
theorem cov_whole4096 (v : View sig .tc .vmem S4096x1024 .bf16) (X : FVec Ideal S4096x1024 .bf16) (r : Rect S4096x1024) :
    v.readCov (Val := Elt Ideal) [⟨Rect.whole S4096x1024, X⟩] r.toLoadRect = View.ld X r := by
  rw [View.readCov_eq_canon_ld]
  · rw [canon_fill4096]
  · intro y; exact ⟨_, List.mem_singleton_self _, by rw [Rect.set_whole]; exact Finset.mem_univ y⟩
theorem canon_fill128 (X : FVec Ideal S128x1024 .bf16) : View.canon (Val := Elt Ideal) (e := .bf16) [⟨Rect.whole S128x1024, X⟩] = X := by
  funext q
  canon_tiles q h
  refine congrArg X ?_
  funext a
  fin_cases a
  · exact Fin.ext h0.symm
  · exact Fin.ext h1.symm
theorem cov_whole128 (v : View sig .tc .vmem S128x1024 .bf16) (X : FVec Ideal S128x1024 .bf16) (r : Rect S128x1024) :
    v.readCov (Val := Elt Ideal) [⟨Rect.whole S128x1024, X⟩] r.toLoadRect = View.ld X r := by
  rw [View.readCov_eq_canon_ld]
  · rw [canon_fill128]
  · intro y; exact ⟨_, List.mem_singleton_self _, by rw [Rect.set_whole]; exact Finset.mem_univ y⟩
theorem canon_fill3072 (X : FVec Ideal S3072x1024 .bf16) : View.canon (Val := Elt Ideal) (e := .bf16) [⟨Rect.whole S3072x1024, X⟩] = X := by
  funext q
  canon_tiles q h
  refine congrArg X ?_
  funext a
  fin_cases a
  · exact Fin.ext h0.symm
  · exact Fin.ext h1.symm
theorem cov_whole3072 (v : View sig .tc .vmem S3072x1024 .bf16) (X : FVec Ideal S3072x1024 .bf16) (r : Rect S3072x1024) :
    v.readCov (Val := Elt Ideal) [⟨Rect.whole S3072x1024, X⟩] r.toLoadRect = View.ld X r := by
  rw [View.readCov_eq_canon_ld]
  · rw [canon_fill3072]
  · intro y; exact ⟨_, List.mem_singleton_self _, by rw [Rect.set_whole]; exact Finset.mem_univ y⟩

theorem sc0 (c : Dev nD) (n : ℕ) : ∀ hn : n < cfg0.N, (outsAt0 m c n hn).2.2.2.2.2.1 = V m c main_v4 := by
  induction n with
  | zero =>
    intro hn
    rw [outsAt0_A m c ⟨0, hn⟩ rfl]
    funext q
    frame_out
    exact congrFun (canon_fill4096 (V m c main_v4)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2.1 = V m c main_v4 := by rintro k hk rfl; exact ih hk
    rw [outsAt0_B m c ⟨n + 1, hn⟩ h0]
    funext q
    frame_out
    unfold sout0_B_0
    exact congrFun (e _ _ rfl) q

theorem sc1 (c : Dev nD) (n : ℕ) : ∀ hn : n < cfg0.N, (outsAt0 m c n hn).2.2.2.2.2.2.1 = V m c main_v3 := by
  induction n with
  | zero =>
    intro hn
    rw [outsAt0_A m c ⟨0, hn⟩ rfl]
    funext q
    frame_out
    exact congrFun (canon_fill128 (V m c main_v3)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2.2.1 = V m c main_v3 := by rintro k hk rfl; exact ih hk
    rw [outsAt0_B m c ⟨n + 1, hn⟩ h0]
    funext q
    frame_out
    unfold sout0_B_1
    exact congrFun (e _ _ rfl) q

theorem sc2 (c : Dev nD) (n : ℕ) : ∀ hn : n < cfg0.N, (outsAt0 m c n hn).2.2.2.2.2.2.2 = V m c main_v5 := by
  induction n with
  | zero =>
    intro hn
    rw [outsAt0_A m c ⟨0, hn⟩ rfl]
    funext q
    frame_out
    exact congrFun (canon_fill3072 (V m c main_v5)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2.2.2 = V m c main_v5 := by rintro k hk rfl; exact ih hk
    rw [outsAt0_B m c ⟨n + 1, hn⟩ h0]
    funext q
    frame_out
    unfold sout0_B_2
    exact congrFun (e _ _ rfl) q

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![t.val, 0] ∧ win0_11.index t = ![t.val, 0] ∧ win0_12.index t = ![t.val, 0] ∧ win0_13.index t = ![t.val, 0] ∧ win0_14.index t = ![0, 0] :=
  (by decide +kernel : ∀ t : Fin grid0.N, _)

def row (t : Fin cfg0.N) (p : Fin 512) : Fin 16384 := ⟨t.val * 512 + p.val, by have := lt_of_lt_of_eq t.isLt (show cfg0.N = 32 from N_0); omega⟩

theorem b0 (c : Dev nD) (t : Fin cfg0.N) (x : Fin 16384 → Fin 1024 → ℝ) (h : V m c main_arg0 = (up2 x : FVec Ideal S16384x1024 .f32)) :
    iblk m c 0 t = (up2 (fun p l => x (row t p) l) : FVec Ideal S512x1024 .f32) := by
  funext q
  idx_vars q
  refine Eq.trans (b := V m c main_arg0 (ix2 (row t q0) q1)) ?_ (by rw [h]; rfl)
  blk_ext [iblk, idx t]
  rfl

theorem b1 (c : Dev nD) (t : Fin cfg0.N) (x : Fin 16384 → Fin 1024 → ℝ) (h : V m c main_arg1 = (up2 x : FVec Ideal S16384x1024 .f32)) :
    iblk m c 1 t = (up2 (fun p l => x (row t p) l) : FVec Ideal S512x1024 .f32) := by
  funext q
  idx_vars q
  refine Eq.trans (b := V m c main_arg1 (ix2 (row t q0) q1)) ?_ (by rw [h]; rfl)
  blk_ext [iblk, idx t]
  rfl

theorem b2 (c : Dev nD) (t : Fin cfg0.N) (x : Fin 16384 → Fin 1536 → ℝ) (h : V m c main_arg2 = (up2 x : FVec Ideal S16384x1536 .bf16)) :
    iblk m c 2 t = (up2 (fun p l => x (row t p) l) : FVec Ideal S512x1536 .bf16) := by
  funext q
  idx_vars q
  refine Eq.trans (b := V m c main_arg2 (ix2 (row t q0) q1)) ?_ (by rw [h]; rfl)
  blk_ext [iblk, idx t]
  rfl

theorem b3 (c : Dev nD) (t : Fin cfg0.N) (x : Fin 16384 → Fin 1024 → ℝ) (h : V m c main_arg3 = (up2 x : FVec Ideal S16384x1024 .bf16)) :
    iblk m c 3 t = (up2 (fun p l => x (row t p) l) : FVec Ideal S512x1024 .bf16) := by
  funext q
  idx_vars q
  refine Eq.trans (b := V m c main_arg3 (ix2 (row t q0) q1)) ?_ (by rw [h]; rfl)
  blk_ext [iblk, idx t]
  rfl

theorem b4 (c : Dev nD) (t : Fin cfg0.N) (x : Fin 16384 → Fin 512 → ℝ) (h : V m c main_arg4 = (up2 x : FVec Ideal S16384x512 .f32)) :
    iblk m c 4 t = (up2 (fun p l => x (row t p) l) : FVec Ideal S512x512 .f32) := by
  funext q
  idx_vars q
  refine Eq.trans (b := V m c main_arg4 (ix2 (row t q0) q1)) ?_ (by rw [h]; rfl)
  blk_ext [iblk, idx t]
  rfl

theorem b5 (c : Dev nD) (t : Fin cfg0.N) (x : Fin 16384 → Fin 512 → ℝ) (h : V m c main_arg5 = (up2 x : FVec Ideal S16384x512 .f32)) :
    iblk m c 5 t = (up2 (fun p l => x (row t p) l) : FVec Ideal S512x512 .f32) := by
  funext q
  idx_vars q
  refine Eq.trans (b := V m c main_arg5 (ix2 (row t q0) q1)) ?_ (by rw [h]; rfl)
  blk_ext [iblk, idx t]
  rfl

theorem b6 (c : Dev nD) (t : Fin cfg0.N) (x : Fin 16384 → Fin 512 → ℝ) (h : V m c main_arg6 = (up2 x : FVec Ideal S16384x512 .f32)) :
    iblk m c 6 t = (up2 (fun p l => x (row t p) l) : FVec Ideal S512x512 .f32) := by
  funext q
  idx_vars q
  refine Eq.trans (b := V m c main_arg6 (ix2 (row t q0) q1)) ?_ (by rw [h]; rfl)
  blk_ext [iblk, idx t]
  rfl

theorem b7 (c : Dev nD) (t : Fin cfg0.N) (x : Fin 16384 → Fin 128 → ℝ) (h : V m c main_arg7 = (up2 x : FVec Ideal S16384x128 .f32)) :
    iblk m c 7 t = (up2 (fun p l => x (row t p) l) : FVec Ideal S512x128 .f32) := by
  funext q
  idx_vars q
  refine Eq.trans (b := V m c main_arg7 (ix2 (row t q0) q1)) ?_ (by rw [h]; rfl)
  blk_ext [iblk, idx t]
  rfl

theorem b8 (c : Dev nD) (t : Fin cfg0.N) (x : Fin 16384 → Fin 3072 → ℝ) (h : V m c main_arg8 = (up2 x : FVec Ideal S16384x3072 .bf16)) :
    iblk m c 8 t = (up2 (fun p l => x (row t p) l) : FVec Ideal S512x3072 .bf16) := by
  funext q
  idx_vars q
  refine Eq.trans (b := V m c main_arg8 (ix2 (row t q0) q1)) ?_ (by rw [h]; rfl)
  blk_ext [iblk, idx t]
  rfl

theorem b9 (c : Dev nD) (t : Fin cfg0.N) (x : Fin 1 → Fin 1024 → ℝ) (h : V m c main_arg9 = (up2 x : FVec Ideal S1x1024 .f32)) :
    iblk m c 9 t = (up2 x : FVec Ideal S1x1024 .f32) := by
  funext q
  idx_vars q
  refine Eq.trans (b := V m c main_arg9 (ix2 q0 q1)) ?_ (by rw [h])
  blk_ext [iblk, idx t]

structure Entry (dv : Dev nD) (I : In) : Prop where
  x : V m dv main_arg0 = (up2 I.x : FVec Ideal S16384x1024 .f32)
  d : V m dv main_arg1 = (up2 I.d : FVec Ideal S16384x1024 .f32)
  c : V m dv main_arg2 = (up2 I.c : FVec Ideal S16384x1536 .bf16)
  s : V m dv main_arg3 = (up2 I.s : FVec Ideal S16384x1024 .bf16)
  q : V m dv main_arg4 = (up2 I.q : FVec Ideal S16384x512 .f32)
  k : V m dv main_arg5 = (up2 I.k : FVec Ideal S16384x512 .f32)
  v : V m dv main_arg6 = (up2 I.v : FVec Ideal S16384x512 .f32)
  f : V m dv main_arg7 = (up2 I.f : FVec Ideal S16384x128 .f32)
  e : V m dv main_arg8 = (up2 I.e : FVec Ideal S16384x3072 .bf16)
  g : V m dv main_arg9 = (up2 I.g : FVec Ideal S1x1024 .f32)
  w1 : V m dv main_v4 = (up2 I.w1 : FVec Ideal S4096x1024 .bf16)
  wf : V m dv main_v3 = (up2 I.wf : FVec Ideal S128x1024 .bf16)
  we : V m dv main_v5 = (up2 I.we : FVec Ideal S3072x1024 .bf16)

theorem pay2_at (u v : FVec Ideal S1x1024 .f32) (q : S1x1024.Idx) : k0_pay2 (F := Ideal) u v q = v q + u q := by
  unfold k0_pay2
  idx_vars q
  pointwise

theorem pay3_at (q : S1x1024.Idx) : k0_pay3 (F := Ideal) q = (0 : EReal) := by
  rw [h_pay3]
  exact EReal.coe_zero

theorem sum_rows (F : Fin 16384 → ℝ) : ∑ s : Fin 32, ∑ p : Fin 512, F ⟨s.val * 512 + p.val, by omega⟩ = ∑ i, F i :=
  Fin.sum_mul_add_congr fun s k hl => rfl

theorem sum_blocks (F : Fin 16384 → ℝ) (r : Fin 32 → Fin 512 → Fin 16384) (hr : ∀ s p, (r s p).val = s.val * 512 + p.val) :
    ∑ s, (((∑ p, F (r s p) : ℝ)) : EReal) = ((∑ i, F i : ℝ) : EReal) := by
  rw [← coe_sum, ← sum_rows]
  refine congrArg _ (Finset.sum_congr rfl fun s _ => Finset.sum_congr rfl fun p _ => congrArg F (Fin.ext (hr s p)))

variable {m} {c : Dev nD} {I : In} (h : Entry m c I) (t : Fin cfg0.N)
include h

theorem o10 : (outsAt0 m c t.val t.isLt).1 = (up2 (fun p l => I.dx (row t p) l) : FVec Ideal S512x1024 .f32) := by
  funext q
  by_cases h0 : t.val % 32 = 0 <;> [rw [outsAt0_A m c t h0]; rw [outsAt0_B m c t h0]]
  all_goals
    frame_out
    try simp only [read_unread_whole]
    simp only [b0 m c t I.x h.x, b1 m c t I.d h.d, b2 m c t I.c h.c, b3 m c t I.s h.s, b4 m c t I.q h.q, b5 m c t I.k h.k, b6 m c t I.v h.v, b7 m c t I.f h.f, b8 m c t I.e h.e, b9 m c t I.g h.g, View.read_whole, ReadAs.apply_same, cov_whole4096, cov_whole128, cov_whole3072, sc0, sc1, sc2, h.w1, h.wf, h.we,
      ld_c, ld_s, ld_q, ld_k, ld_v, ld_f, ld_e, h_pay4, h_pay5, h_pay6, h_pay7, h_pay8, h_pay9, h_pay10, h_pay11, h_pay12, h_pay13, h_pay14, h_pay1]
    try rfl

theorem o11 : (outsAt0 m c t.val t.isLt).2.1 = (up2 (fun p l => I.h (row t p) l) : FVec Ideal S512x1024 .bf16) := by
  funext q
  by_cases h0 : t.val % 32 = 0 <;> [rw [outsAt0_A m c t h0]; rw [outsAt0_B m c t h0]]
  all_goals
    frame_out
    try simp only [read_unread_whole]
    simp only [b0 m c t I.x h.x, b1 m c t I.d h.d, b2 m c t I.c h.c, b3 m c t I.s h.s, b4 m c t I.q h.q, b5 m c t I.k h.k, b6 m c t I.v h.v, b7 m c t I.f h.f, b8 m c t I.e h.e, b9 m c t I.g h.g, View.read_whole, ReadAs.apply_same, cov_whole4096, cov_whole128, cov_whole3072, sc0, sc1, sc2, h.w1, h.wf, h.we,
      ld_c, ld_s, ld_q, ld_k, ld_v, ld_f, ld_e, h_pay4, h_pay5, h_pay6, h_pay7, h_pay8, h_pay9, h_pay10, h_pay11, h_pay12, h_pay13, h_pay14, h_pay1]
    try rfl

theorem o12 : (outsAt0 m c t.val t.isLt).2.2.1 = (up2 (fun p l => I.qkv (row t p) l) : FVec Ideal S512x1536 .bf16) := by
  funext q
  by_cases h0 : t.val % 32 = 0 <;> [rw [outsAt0_A m c t h0]; rw [outsAt0_B m c t h0]]
  all_goals
    frame_out
    try simp only [read_unread_whole]
    simp only [b0 m c t I.x h.x, b1 m c t I.d h.d, b2 m c t I.c h.c, b3 m c t I.s h.s, b4 m c t I.q h.q, b5 m c t I.k h.k, b6 m c t I.v h.v, b7 m c t I.f h.f, b8 m c t I.e h.e, b9 m c t I.g h.g, View.read_whole, ReadAs.apply_same, cov_whole4096, cov_whole128, cov_whole3072, sc0, sc1, sc2, h.w1, h.wf, h.we,
      ld_c, ld_s, ld_q, ld_k, ld_v, ld_f, ld_e, h_pay4, h_pay5, h_pay6, h_pay7, h_pay8, h_pay9, h_pay10, h_pay11, h_pay12, h_pay13, h_pay14, h_pay1]
    refine canon_thirds _ _ _ (fun p l => I.qkv (row t p) l) (fun i j => ?_) (fun i j => ?_) (fun i j => ?_) q
    · exact dif_pos j.isLt
    · unfold In.qkv
      rw [dif_neg (by dsimp only; omega), dif_pos (by dsimp only; omega)]
      exact congrArg _ (Fin.ext (by dsimp only; omega))
    · unfold In.qkv
      rw [dif_neg (by dsimp only; omega), dif_neg (by dsimp only; omega)]
      exact congrArg _ (Fin.ext (by dsimp only; omega))

theorem o13 : (outsAt0 m c t.val t.isLt).2.2.2.1 = (up2 (fun p l => I.f (row t p) l) : FVec Ideal S512x128 .bf16) := by
  funext q
  by_cases h0 : t.val % 32 = 0 <;> [rw [outsAt0_A m c t h0]; rw [outsAt0_B m c t h0]]
  all_goals
    frame_out
    try simp only [read_unread_whole]
    simp only [b0 m c t I.x h.x, b1 m c t I.d h.d, b2 m c t I.c h.c, b3 m c t I.s h.s, b4 m c t I.q h.q, b5 m c t I.k h.k, b6 m c t I.v h.v, b7 m c t I.f h.f, b8 m c t I.e h.e, b9 m c t I.g h.g, View.read_whole, ReadAs.apply_same, cov_whole4096, cov_whole128, cov_whole3072, sc0, sc1, sc2, h.w1, h.wf, h.we,
      ld_c, ld_s, ld_q, ld_k, ld_v, ld_f, ld_e, h_pay4, h_pay5, h_pay6, h_pay7, h_pay8, h_pay9, h_pay10, h_pay11, h_pay12, h_pay13, h_pay14, h_pay1]
    try rfl

theorem o14A (h0 : t.val % 32 = 0) (q : S1x1024.Idx) : (outsAt0 m c t.val t.isLt).2.2.2.2.1 q
    = k0_pay2 (F := Ideal) (up2 (fun (_ : Fin 1) l => ∑ p, I.dh (row t p) l * (I.x (row t p) l * rinv (I.x (row t p))))) (k0_pay3 (F := Ideal)) q := by
  rw [outsAt0_A m c t h0]
  frame_out
  try simp only [read_unread_whole]
  simp only [b0 m c t I.x h.x, b1 m c t I.d h.d, b2 m c t I.c h.c, b3 m c t I.s h.s, b4 m c t I.q h.q, b5 m c t I.k h.k, b6 m c t I.v h.v, b7 m c t I.f h.f, b8 m c t I.e h.e, b9 m c t I.g h.g, View.read_whole, ReadAs.apply_same, cov_whole4096, cov_whole128, cov_whole3072, sc0, sc1, sc2, h.w1, h.wf, h.we,
    ld_c, ld_s, ld_q, ld_k, ld_v, ld_f, ld_e, h_pay4, h_pay5, h_pay6, h_pay7, h_pay8, h_pay9, h_pay10, h_pay11, h_pay12, h_pay13, h_pay14]
  rfl

theorem o14B (h0 : ¬ t.val % 32 = 0) (q : S1x1024.Idx) : (outsAt0 m c t.val t.isLt).2.2.2.2.1 q
    = k0_pay2 (F := Ideal) (up2 (fun (_ : Fin 1) l => ∑ p, I.dh (row t p) l * (I.x (row t p) l * rinv (I.x (row t p))))) ((outsAt0 m c (t.val - 1) (by have := t.isLt; omega)).2.2.2.2.1) q := by
  rw [outsAt0_B m c t h0]
  frame_out
  try simp only [read_unread_whole]
  simp only [b0 m c t I.x h.x, b1 m c t I.d h.d, b2 m c t I.c h.c, b3 m c t I.s h.s, b4 m c t I.q h.q, b5 m c t I.k h.k, b6 m c t I.v h.v, b7 m c t I.f h.f, b8 m c t I.e h.e, b9 m c t I.g h.g, View.read_whole, ReadAs.apply_same, cov_whole4096, cov_whole128, cov_whole3072, sc0, sc1, sc2, h.w1, h.wf, h.we,
    ld_c, ld_s, ld_q, ld_k, ld_v, ld_f, ld_e, h_pay4, h_pay5, h_pay6, h_pay7, h_pay8, h_pay9, h_pay10, h_pay11, h_pay12, h_pay13, h_pay14]
  rfl

omit t

theorem f10 : (dats m 0 c).arrAt 10 cfg0.N = (up2 (I.dx) : FVec Ideal S16384x1024 .f32) := by
  refine (dats m 0 c).arrAt_eq_of_covers 10 _ (by decide +kernel) fun t hf y => ?_
  blk_simp
  rw [after0_10]
  refine (congrFun (o10 h t) _).trans ?_
  refine up2_at _ _ _ _ (congrArg₂ (I.dx) (Fin.ext ?_) (Fin.ext ?_)) <;> blk_simp [idx t, row]

theorem f11 : (dats m 0 c).arrAt 11 cfg0.N = (up2 (I.h) : FVec Ideal S16384x1024 .bf16) := by
  refine (dats m 0 c).arrAt_eq_of_covers 11 _ (by decide +kernel) fun t hf y => ?_
  blk_simp
  rw [after0_11]
  refine (congrFun (o11 h t) _).trans ?_
  refine up2_at _ _ _ _ (congrArg₂ (I.h) (Fin.ext ?_) (Fin.ext ?_)) <;> blk_simp [idx t, row]

theorem f12 : (dats m 0 c).arrAt 12 cfg0.N = (up2 (I.qkv) : FVec Ideal S16384x1536 .bf16) := by
  refine (dats m 0 c).arrAt_eq_of_covers 12 _ (by decide +kernel) fun t hf y => ?_
  blk_simp
  rw [after0_12]
  refine (congrFun (o12 h t) _).trans ?_
  refine up2_at _ _ _ _ (congrArg₂ (I.qkv) (Fin.ext ?_) (Fin.ext ?_)) <;> blk_simp [idx t, row]

theorem f13 : (dats m 0 c).arrAt 13 cfg0.N = (up2 (I.f) : FVec Ideal S16384x128 .bf16) := by
  refine (dats m 0 c).arrAt_eq_of_covers 13 _ (by decide +kernel) fun t hf y => ?_
  blk_simp
  rw [after0_13]
  refine (congrFun (o13 h t) _).trans ?_
  refine up2_at _ _ _ _ (congrArg₂ (I.f) (Fin.ext ?_) (Fin.ext ?_)) <;> blk_simp [idx t, row]

theorem f14 : (dats m 0 c).arrAt 14 cfg0.N = (up2 (ng I.x I.dh) : FVec Ideal S1x1024 .f32) := by
  refine (dats m 0 c).arrAt_eq_of_covers 14 _ (by decide +kernel) fun t hf y => ?_
  blk_simp
  rw [after0_14, Pipeline.eq_sum_fin_of_reset_step_apply_of_flush (fun n h => (outsAt0 m c n h).2.2.2.2.1) 32 (fun _ => 0)
    (fun t q => ((up2 (fun (_ : Fin 1) l => ∑ p, I.dh (row t p) l * (I.x (row t p) l * rinv (I.x (row t p))))) : FVec Ideal S1x1024 .f32) q)
    (fun t h0 q => by rw [o14A h t h0, pay2_at, pay3_at]) (fun t h0 q => by rw [o14B h t h0, pay2_at]) t ((flush0_14 t).mp hf) _, zero_add]
  have ht : t.val < 32 := lt_of_lt_of_eq t.isLt (show cfg0.N = 32 from N_0)
  have hy : (y 1 : Fin 1024) = ((win0_14.blk t).view.emb y 1 : Fin 1024) := by
    refine Fin.ext ?_
    blk_simp [idx t]
  refine Eq.trans (sum_blocks (fun i => I.dh i (y 1) * (I.x i (y 1) * rinv (I.x i)))
    (fun s p => row ⟨32 * (t.val / 32) + s.val, by have := (show cfg0.N = 32 from N_0); omega⟩ p)
    (fun s p => by show (32 * (t.val / 32) + s.val) * 512 + p.val = s.val * 512 + p.val; omega)) ?_
  unfold up2
  rw [← hy]
  rfl
omit h

structure Is (m : (ℓ : Loc nD τ sig) → Buf (Elt Ideal) ℓ) (dv : Dev nD) (I : In) : Prop where
  x : m ((dv.tc : Thread nD τ).loc main_arg0) = (up2 I.x : FVec Ideal S16384x1024 .f32)
  d : m ((dv.tc : Thread nD τ).loc main_arg1) = (up2 I.d : FVec Ideal S16384x1024 .f32)
  c : m ((dv.tc : Thread nD τ).loc main_arg2) = (up2 I.c : FVec Ideal S16384x1536 .bf16)
  s : m ((dv.tc : Thread nD τ).loc main_arg3) = (up2 I.s : FVec Ideal S16384x1024 .bf16)
  q : m ((dv.tc : Thread nD τ).loc main_arg4) = (up2 I.q : FVec Ideal S16384x512 .f32)
  k : m ((dv.tc : Thread nD τ).loc main_arg5) = (up2 I.k : FVec Ideal S16384x512 .f32)
  v : m ((dv.tc : Thread nD τ).loc main_arg6) = (up2 I.v : FVec Ideal S16384x512 .f32)
  f : m ((dv.tc : Thread nD τ).loc main_arg7) = (up2 I.f : FVec Ideal S16384x128 .f32)
  e : m ((dv.tc : Thread nD τ).loc main_arg8) = (up2 I.e : FVec Ideal S16384x3072 .bf16)
  g : m ((dv.tc : Thread nD τ).loc main_arg9) = (up2 I.g : FVec Ideal S1x1024 .f32)
  w : m ((dv.tc : Thread nD τ).loc main_arg10) = (up2 I.w : FVec Ideal S1024x7176 .f32)

theorem ent_w1 (m : (ℓ : Loc nD τ sig) → Buf (Elt Ideal) ℓ) (c : Dev nD) : V m c main_v4 = (extractStridedSlice S4096x1024 ![0, 0] (transpose S7176x1024 [1, 0] (truncf .bf16 (m ((c.tc : Thread nD τ).loc main_arg10)) bitsLt_bf16_f32) transposes_S1024x7176_S7176x1024_1_0) slices_S7176x1024_S4096x1024_0_0 : FVec Ideal S4096x1024 .bf16) := by
  show StableHlo.after (hostOps0 ++ (hostOps0_1 ++ hostOps0_2)) _ _ = _
  simp only [hostOps0, hostOps0_1, hostOps0_2, List.cons_append, List.nil_append]
  after_results_simp
  try rfl
theorem ent_wf (m : (ℓ : Loc nD τ sig) → Buf (Elt Ideal) ℓ) (c : Dev nD) : V m c main_v3 = (pad S128x1024 ![0, 0] ![120, 0] ![0, 0] (extractStridedSlice S8x1024 ![4096, 0] (transpose S7176x1024 [1, 0] (truncf .bf16 (m ((c.tc : Thread nD τ).loc main_arg10)) bitsLt_bf16_f32) transposes_S1024x7176_S7176x1024_1_0) slices_S7176x1024_S8x1024_4096_0) (sitofp (F := Ideal) .bf16 (constantI S_ 32 0#32)) pads_S8x1024_S128x1024_01200_000 h_S_ : FVec Ideal S128x1024 .bf16) := by
  show StableHlo.after (hostOps0 ++ (hostOps0_1 ++ hostOps0_2)) _ _ = _
  simp only [hostOps0, hostOps0_1, hostOps0_2, List.cons_append, List.nil_append]
  after_results_simp
  try rfl
theorem ent_we (m : (ℓ : Loc nD τ sig) → Buf (Elt Ideal) ℓ) (c : Dev nD) : V m c main_v5 = (extractStridedSlice S3072x1024 ![4104, 0] (transpose S7176x1024 [1, 0] (truncf .bf16 (m ((c.tc : Thread nD τ).loc main_arg10)) bitsLt_bf16_f32) transposes_S1024x7176_S7176x1024_1_0) slices_S7176x1024_S3072x1024_4104_0 : FVec Ideal S3072x1024 .bf16) := by
  show StableHlo.after (hostOps0 ++ (hostOps0_1 ++ hostOps0_2)) _ _ = _
  simp only [hostOps0, hostOps0_1, hostOps0_2, List.cons_append, List.nil_append]
  after_results_simp
  try rfl

theorem entry (m : (ℓ : Loc nD τ sig) → Buf (Elt Ideal) ℓ) (c : Dev nD) (I : In) (h : Is m c I) : Entry m c I := by
  constructor
  · entry_read; exact h.x
  · entry_read; exact h.d
  · entry_read; exact h.c
  · entry_read; exact h.s
  · entry_read; exact h.q
  · entry_read; exact h.k
  · entry_read; exact h.v
  · entry_read; exact h.f
  · entry_read; exact h.e
  · entry_read; exact h.g
  · rw [ent_w1, h.w]
    funext q; idx_vars q
    pointwise
    try rfl
  · rw [ent_wf, h.w]
    funext q; idx_vars q
    pointwise
    rw [show (up2 I.wf : FVec Ideal S128x1024 .bf16) (ix2 q0 q1) = ((I.wf q0 q1 : ℝ) : EReal) from rfl]
    unfold In.wf
    split_ifs with h8
    · rfl
    · simp [FloatOps.sitofp]
  · rw [ent_we, h.w]
    funext q; idx_vars q
    pointwise
    try rfl

theorem run (m : (ℓ : Loc nD τ sig) → Buf (Elt Ideal) ℓ) (ρ : Dev nD → PrngReg) (I : Dev nD → In) (h : ∀ c, Is m c (I c)) :
    θ_run (defs (F := Ideal)) (onTc (τ := τ) (main (F := Ideal))) ⟨m, fun _ => 0, ρ⟩ (fun r => ∀ c : Dev nD,
      r.2.mem ((c.tc : Thread nD τ).loc main_v6_0) = (up2 ((I c).dx) : FVec Ideal S16384x1024 .f32)
      ∧       r.2.mem ((c.tc : Thread nD τ).loc main_v6_1) = (up2 ((I c).h) : FVec Ideal S16384x1024 .bf16)
      ∧       r.2.mem ((c.tc : Thread nD τ).loc main_v6_2) = (up2 ((I c).qkv) : FVec Ideal S16384x1536 .bf16)
      ∧       r.2.mem ((c.tc : Thread nD τ).loc main_v6_3) = (up2 ((I c).f) : FVec Ideal S16384x128 .bf16)
      ∧ r.2.mem ((c.tc : Thread nD τ).loc main_v6_4) = (up2 (ng (I c).x (I c).dh) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r k c => ?_) (θ_run_and (run_main m ρ) (unchanged m ρ))
  have E := entry m c (I c) (h c)
  exact ⟨((k.1 c).1 10).trans (f10 E), ((k.1 c).1 11).trans (f11 E), ((k.1 c).1 12).trans (f12 E), ((k.1 c).1 13).trans (f13 E), ((k.1 c).1 14).trans (f14 E), k.2 c⟩
end Cert.Proof.ProjBlk
end
-- ==== Proof.ProjRef.lean ====
/- The reference read operation by operation: each value that the next ones read more than once, or that sums or
   divides, has a name (`v_…`), and on arrays of reals it is an array of reals, given by a formula (`r_…`). -/
module

public import proofs.«01_k».proof.Proof.Gen.ProjRefIdeal.Run
public import proofs.«01_k».proof.Proof.ProjEq
public import Idealize.ShloMosaic.Adequacy

@[expose] public section

set_option maxRecDepth 16384

noncomputable section

namespace Cert.Proof.ProjRef

open Cert.ProjRefIdeal Cert.ProjRefIdeal.Gen Idealize.ShloMosaic Idealize.ShloMosaic.TcCoe Idealize.SL.Sem FfnKer NormBwd ProjKer ProjEq

def v_v1 (X : FVec Ideal S16384x1024 .f32) : FVec Ideal S16384 .f32 :=
  (Host.reduceAdd (mulf X X) (constant S_ .f32 0x00000000#32) reducesTo_S16384x1024_S16384_d1 h_S_)

def r_v1 (x : Fin 16384 → Fin 1024 → ℝ) (i : Fin 16384) : ℝ :=
  (∑ k1 : Fin 1024, (x i k1 * x i k1))

theorem h_v1 (x : Fin 16384 → Fin 1024 → ℝ) : v_v1 (up2 x) = up1 (r_v1 x) := by
  unfold v_v1
  funext q; idx_vars q
  pointwise
  simp only [zero_add, up2_ix, ← EReal.coe_mul, ← coe_sum]
  rfl

def v_v4 (X : FVec Ideal S16384x1024 .f32) : FVec Ideal S16384x1 .f32 :=
  (Host.divf (broadcastInDim S16384x1 ![0] bcast_S16384_S16384x1_0 (v_v1 X)) (broadcastInDim S16384x1 ![] bcast_S_S16384x1 (constant S_ .f32 0x44800000#32)))

def r_v4 (x : Fin 16384 → Fin 1024 → ℝ) (i : Fin 16384) (j : Fin 1) : ℝ :=
  ((r_v1 x i) / 1024)

theorem h_v4 (x : Fin 16384 → Fin 1024 → ℝ) : v_v4 (up2 x) = up2 (r_v4 x) := by
  unfold v_v4
  simp only [h_v1]
  funext q; idx_vars q
  pointwise
  simp only [lit_1024, up1_ix, up2_ix, div_real (show (1024 : ℝ) ≠ 0 by norm_num)]
  rfl

def v_v6 (X : FVec Ideal S16384x1024 .f32) : FVec Ideal S16384x1 .f32 :=
  (addf (v_v4 X) (broadcastInDim S16384x1 ![] bcast_S_S16384x1 (constant S_ .f32 0x358637BD#32)))

def r_v6 (x : Fin 16384 → Fin 1024 → ℝ) (i : Fin 16384) (j : Fin 1) : ℝ :=
  ((r_v4 x i j) + eps)

theorem pos_v6 (x : Fin 16384 → Fin 1024 → ℝ) (i : Fin 16384) (j : Fin 1) : 0 < r_v6 x i j := by
  unfold r_v6 r_v4 r_v1
  exact add_pos_of_nonneg_of_pos (div_nonneg (Finset.sum_nonneg fun k _ => mul_self_nonneg _) (by norm_num)) eps_pos

theorem h_v6 (x : Fin 16384 → Fin 1024 → ℝ) : v_v6 (up2 x) = up2 (r_v6 x) := by
  unfold v_v6
  simp only [h_v4]
  funext q; idx_vars q
  pointwise
  simp only [lit_eps, up2_ix, ← EReal.coe_add]
  rfl

def v_v7 (X : FVec Ideal S16384x1024 .f32) : FVec Ideal S16384x1 .f32 :=
  (Host.rsqrt (v_v6 X))

def r_v7 (x : Fin 16384 → Fin 1024 → ℝ) (i : Fin 16384) (j : Fin 1) : ℝ :=
  ((Real.sqrt ((r_v6 x i j)))⁻¹)

theorem h_v7 (x : Fin 16384 → Fin 1024 → ℝ) : v_v7 (up2 x) = up2 (r_v7 x) := by
  unfold v_v7
  simp only [h_v6]
  funext q; idx_vars q
  pointwise
  simp only [up2_ix, rsqrt_real (pos_v6 _ _ _)]
  rfl

def v_v8 (X : FVec Ideal S16384x1024 .f32) : FVec Ideal S16384x1 .f32 :=
  (Host.divf (v_v7 X) (v_v6 X))

def r_v8 (x : Fin 16384 → Fin 1024 → ℝ) (i : Fin 16384) (j : Fin 1) : ℝ :=
  ((r_v7 x i j) / (r_v6 x i j))

theorem h_v8 (x : Fin 16384 → Fin 1024 → ℝ) : v_v8 (up2 x) = up2 (r_v8 x) := by
  unfold v_v8
  simp only [h_v7, h_v6]
  funext q; idx_vars q
  pointwise
  simp only [up2_ix, div_real (pos_v6 _ _ _).ne']
  rfl

def v_v12 (X : FVec Ideal S16384x1024 .f32) : FVec Ideal S16384x1024 .f32 :=
  (mulf X (broadcastInDim S16384x1024 ![0, 1] bcast_S16384x1_S16384x1024_0_1 (v_v7 X)))

def r_v12 (x : Fin 16384 → Fin 1024 → ℝ) (i : Fin 16384) (j : Fin 1024) : ℝ :=
  (x i j * (r_v7 x i 0))

theorem h_v12 (x : Fin 16384 → Fin 1024 → ℝ) : v_v12 (up2 x) = up2 (r_v12 x) := by
  unfold v_v12
  simp only [h_v7]
  funext q; idx_vars q
  pointwise
  simp only [up2_ix, ← EReal.coe_mul]
  rfl

def v_v30 (X : FVec Ideal S16384x1024 .f32) (H : FVec Ideal S16384x1024 .f32) : FVec Ideal S1024 .f32 :=
  (Host.reduceAdd (mulf (v_v12 X) H) (constant S_ .f32 0x00000000#32) reducesTo_S16384x1024_S1024_d0 h_S_)

def r_v30 (x : Fin 16384 → Fin 1024 → ℝ) (h : Fin 16384 → Fin 1024 → ℝ) (i : Fin 1024) : ℝ :=
  (∑ k1 : Fin 16384, ((r_v12 x k1 i) * h k1 i))

theorem h_v30 (x : Fin 16384 → Fin 1024 → ℝ) (h : Fin 16384 → Fin 1024 → ℝ) : v_v30 (up2 x) (up2 h) = up1 (r_v30 x h) := by
  unfold v_v30
  simp only [h_v12]
  funext q; idx_vars q
  pointwise
  simp only [zero_add, up2_ix, ← EReal.coe_mul, ← coe_sum]
  rfl

def v_v31 (X : FVec Ideal S16384x1024 .f32) (H : FVec Ideal S16384x1024 .f32) : FVec Ideal S1x1024 .f32 :=
  (shapeCast S1x1024 (v_v30 X H) shapeCasts_S1024_S1x1024)

def r_v31 (x : Fin 16384 → Fin 1024 → ℝ) (h : Fin 16384 → Fin 1024 → ℝ) (i : Fin 1) (j : Fin 1024) : ℝ :=
  (r_v30 x h j)

theorem h_v31 (x : Fin 16384 → Fin 1024 → ℝ) (h : Fin 16384 → Fin 1024 → ℝ) : v_v31 (up2 x) (up2 h) = up2 (r_v31 x h) := by
  unfold v_v31
  simp only [h_v30]
  funext q; idx_vars q
  pointwise
  simp only [up1_ix, up2_ix]
  rfl

def v_v33 (G : FVec Ideal S1x1024 .f32) (H : FVec Ideal S16384x1024 .f32) : FVec Ideal S16384x1024 .f32 :=
  (mulf H (broadcastInDim S16384x1024 ![0, 1] bcast_S1x1024_S16384x1024_0_1 G))

def r_v33 (g : Fin 1 → Fin 1024 → ℝ) (h : Fin 16384 → Fin 1024 → ℝ) (i : Fin 16384) (j : Fin 1024) : ℝ :=
  (h i j * g 0 j)

theorem h_v33 (g : Fin 1 → Fin 1024 → ℝ) (h : Fin 16384 → Fin 1024 → ℝ) : v_v33 (up2 g) (up2 h) = up2 (r_v33 g h) := by
  unfold v_v33
  funext q; idx_vars q
  pointwise
  simp only [up2_ix, ← EReal.coe_mul]
  rfl

def v_v35 (X : FVec Ideal S16384x1024 .f32) (G : FVec Ideal S1x1024 .f32) (H : FVec Ideal S16384x1024 .f32) : FVec Ideal S16384 .f32 :=
  (Host.reduceAdd (mulf X (v_v33 G H)) (constant S_ .f32 0x00000000#32) reducesTo_S16384x1024_S16384_d1 h_S_)

def r_v35 (x : Fin 16384 → Fin 1024 → ℝ) (g : Fin 1 → Fin 1024 → ℝ) (h : Fin 16384 → Fin 1024 → ℝ) (i : Fin 16384) : ℝ :=
  (∑ k1 : Fin 1024, (x i k1 * (r_v33 g h i k1)))

theorem h_v35 (x : Fin 16384 → Fin 1024 → ℝ) (g : Fin 1 → Fin 1024 → ℝ) (h : Fin 16384 → Fin 1024 → ℝ) : v_v35 (up2 x) (up2 g) (up2 h) = up1 (r_v35 x g h) := by
  unfold v_v35
  simp only [h_v33]
  funext q; idx_vars q
  pointwise
  simp only [zero_add, up2_ix, ← EReal.coe_mul, ← coe_sum]
  rfl

def v_v41 (X : FVec Ideal S16384x1024 .f32) (G : FVec Ideal S1x1024 .f32) (H : FVec Ideal S16384x1024 .f32) : FVec Ideal S16384x1 .f32 :=
  (Host.divf (mulf (shapeCast S16384x1 (v_v35 X G H) shapeCasts_S16384_S16384x1) (mulf (broadcastInDim S16384x1 ![] bcast_S_S16384x1 (constant S_ .f32 0xBF000000#32)) (v_v8 X))) (broadcastInDim S16384x1 ![] bcast_S_S16384x1 (constant S_ .f32 0x44800000#32)))

def r_v41 (x : Fin 16384 → Fin 1024 → ℝ) (g : Fin 1 → Fin 1024 → ℝ) (h : Fin 16384 → Fin 1024 → ℝ) (i : Fin 16384) (j : Fin 1) : ℝ :=
  (((r_v35 x g h i) * ((-(1/2)) * (r_v8 x i j))) / 1024)

theorem h_v41 (x : Fin 16384 → Fin 1024 → ℝ) (g : Fin 1 → Fin 1024 → ℝ) (h : Fin 16384 → Fin 1024 → ℝ) : v_v41 (up2 x) (up2 g) (up2 h) = up2 (r_v41 x g h) := by
  unfold v_v41
  simp only [h_v35, h_v8]
  funext q; idx_vars q
  pointwise
  simp only [lit_1024, lit_neg_half, up1_ix, up2_ix, ← EReal.coe_mul, ← EReal.coe_neg, div_real (show (1024 : ℝ) ≠ 0 by norm_num)]
  rfl

def v_v42 (X : FVec Ideal S16384x1024 .f32) (G : FVec Ideal S1x1024 .f32) (H : FVec Ideal S16384x1024 .f32) : FVec Ideal S16384 .f32 :=
  (Host.reduceAdd (v_v41 X G H) (constant S_ .f32 0x00000000#32) reducesTo_S16384x1_S16384_d1 h_S_)

def r_v42 (x : Fin 16384 → Fin 1024 → ℝ) (g : Fin 1 → Fin 1024 → ℝ) (h : Fin 16384 → Fin 1024 → ℝ) (i : Fin 16384) : ℝ :=
  (∑ k1 : Fin 1, (r_v41 x g h i k1))

theorem h_v42 (x : Fin 16384 → Fin 1024 → ℝ) (g : Fin 1 → Fin 1024 → ℝ) (h : Fin 16384 → Fin 1024 → ℝ) : v_v42 (up2 x) (up2 g) (up2 h) = up1 (r_v42 x g h) := by
  unfold v_v42
  simp only [h_v41]
  funext q; idx_vars q
  pointwise
  simp only [zero_add, up2_ix, ← coe_sum]
  rfl

def v_v48 (X : FVec Ideal S16384x1024 .f32) (D : FVec Ideal S16384x1024 .f32) (G : FVec Ideal S1x1024 .f32) (H : FVec Ideal S16384x1024 .f32) : FVec Ideal S16384x1024 .f32 :=
  (addf D (addf (addf (mulf (v_v33 G H) (broadcastInDim S16384x1024 ![0, 1] bcast_S16384x1_S16384x1024_0_1 (v_v7 X))) (mulf X (broadcastInDim S16384x1024 ![0] bcast_S16384_S16384x1024_0 (v_v42 X G H)))) (mulf (broadcastInDim S16384x1024 ![0] bcast_S16384_S16384x1024_0 (v_v42 X G H)) X)))

def r_v48 (x : Fin 16384 → Fin 1024 → ℝ) (d : Fin 16384 → Fin 1024 → ℝ) (g : Fin 1 → Fin 1024 → ℝ) (h : Fin 16384 → Fin 1024 → ℝ) (i : Fin 16384) (j : Fin 1024) : ℝ :=
  (d i j + ((((r_v33 g h i j) * (r_v7 x i 0)) + (x i j * (r_v42 x g h i))) + ((r_v42 x g h i) * x i j)))

theorem h_v48 (x : Fin 16384 → Fin 1024 → ℝ) (d : Fin 16384 → Fin 1024 → ℝ) (g : Fin 1 → Fin 1024 → ℝ) (h : Fin 16384 → Fin 1024 → ℝ) : v_v48 (up2 x) (up2 d) (up2 g) (up2 h) = up2 (r_v48 x d g h) := by
  unfold v_v48
  simp only [h_v33, h_v7, h_v42]
  funext q; idx_vars q
  pointwise
  simp only [up1_ix, up2_ix, ← EReal.coe_mul, ← EReal.coe_add]
  rfl

def v_v49 (X : FVec Ideal S16384x1024 .f32) (G : FVec Ideal S1x1024 .f32) : FVec Ideal S16384x1024 .bf16 :=
  (truncf .bf16 (mulf (v_v12 X) (broadcastInDim S16384x1024 ![0, 1] bcast_S1x1024_S16384x1024_0_1 G)) bitsLt_bf16_f32)

def r_v49 (x : Fin 16384 → Fin 1024 → ℝ) (g : Fin 1 → Fin 1024 → ℝ) (i : Fin 16384) (j : Fin 1024) : ℝ :=
  ((r_v12 x i j) * g 0 j)

theorem h_v49 (x : Fin 16384 → Fin 1024 → ℝ) (g : Fin 1 → Fin 1024 → ℝ) : v_v49 (up2 x) (up2 g) = up2 (r_v49 x g) := by
  unfold v_v49
  simp only [h_v12]
  funext q; idx_vars q
  pointwise
  simp only [up2_ix, ← EReal.coe_mul]
  rfl

def v_v51 (QKV : FVec Ideal S16384x1536 .f32) : FVec Ideal S16384x1536 .bf16 :=
  (truncf .bf16 QKV bitsLt_bf16_f32)

def r_v51 (qkv : Fin 16384 → Fin 1536 → ℝ) (i : Fin 16384) (j : Fin 1536) : ℝ :=
  qkv i j

theorem h_v51 (qkv : Fin 16384 → Fin 1536 → ℝ) : v_v51 (up2 qkv) = up2 (r_v51 qkv) := by
  unfold v_v51
  funext q; idx_vars q
  pointwise
  simp only [up2_ix]
  rfl

def v_v52 (F : FVec Ideal S16384x128 .f32) : FVec Ideal S16384x128 .bf16 :=
  (truncf .bf16 F bitsLt_bf16_f32)

def r_v52 (f : Fin 16384 → Fin 128 → ℝ) (i : Fin 16384) (j : Fin 128) : ℝ :=
  f i j

theorem h_v52 (f : Fin 16384 → Fin 128 → ℝ) : v_v52 (up2 f) = up2 (r_v52 f) := by
  unfold v_v52
  funext q; idx_vars q
  pointwise
  simp only [up2_ix]
  rfl

def v_v27 (C : FVec Ideal S16384x1536 .bf16) (S : FVec Ideal S16384x1024 .bf16) (Q K V : FVec Ideal S16384x512 .f32) (F : FVec Ideal S16384x128 .f32) (E : FVec Ideal S16384x3072 .bf16) : FVec Ideal S16384x7176 .f32 :=
  concatenate S16384x7176 1 [⟨S16384x1536, extf .f32 C bitsLt_bf16_f32⟩, ⟨S16384x1024, extf .f32 S bitsLt_bf16_f32⟩, ⟨S16384x512, Q⟩, ⟨S16384x512, K⟩, ⟨S16384x512, V⟩, ⟨S16384x8, extractStridedSlice S16384x8 ![0, 0] F slices_S16384x128_S16384x8_0_0⟩, ⟨S16384x3072, extf .f32 E bitsLt_bf16_f32⟩] concatenates_S16384x1536_S16384x1024_S16384x512_S16384x512_S16384x512_S16384x8_S16384x3072_S16384x7176_d1

/-- The seven pieces side by side. -/
def cat (I : In) (i : Fin 16384) (j : Fin 7176) : ℝ :=
  if h : j.val < 1536 then I.c i ⟨j.val, by omega⟩
  else if h : j.val - 1536 < 1024 then I.s i ⟨j.val - 1536, by omega⟩
  else if h : j.val - 1536 - 1024 < 512 then I.q i ⟨j.val - 1536 - 1024, by omega⟩
  else if h : j.val - 1536 - 1024 - 512 < 512 then I.k i ⟨j.val - 1536 - 1024 - 512, by omega⟩
  else if h : j.val - 1536 - 1024 - 512 - 512 < 512 then I.v i ⟨j.val - 1536 - 1024 - 512 - 512, by omega⟩
  else if h : j.val - 1536 - 1024 - 512 - 512 - 512 < 8 then I.f i ⟨j.val - 1536 - 1024 - 512 - 512 - 512, by omega⟩
  else I.e i ⟨j.val - 1536 - 1024 - 512 - 512 - 512 - 8, by omega⟩

theorem up2_ent {n k : ℕ} (F : Fin n → Fin k → ℝ) (i : Fin n) (a b : Fin k) (h : a.val = b.val) : ((F i a : ℝ) : EReal) = ((F i b : ℝ) : EReal) := by rw [Fin.ext h]

theorem h_v27 (I : In) : v_v27 (up2 I.c) (up2 I.s) (up2 I.q) (up2 I.k) (up2 I.v) (up2 I.f) (up2 I.e) = up2 (cat I) := by
  unfold v_v27
  funext q; idx_vars q
  pointwise
  simp only [up2_ix]
  unfold cat
  split_ifs
  all_goals first | rfl | (exfalso; omega) | (refine up2_ent _ _ _ _ ?_; dsimp only; omega) | skip

def v_v28 (C : FVec Ideal S16384x1536 .bf16) (S : FVec Ideal S16384x1024 .bf16) (Q K V : FVec Ideal S16384x512 .f32) (F : FVec Ideal S16384x128 .f32) (E : FVec Ideal S16384x3072 .bf16) (W : FVec Ideal S1024x7176 .f32) : FVec Ideal S16384x1024 .f32 :=
  Host.dotGeneral dot_S16384x7176_S1024x7176_S16384x1024_1_1_0_0_n_n none (v_v27 C S Q K V F E) W

theorem cut {n : ℕ} (a b : ℕ) (h : n = a + b) (F : Fin n → ℝ) : ∑ i, F i = (∑ i : Fin a, F ⟨i.val, by omega⟩) + ∑ i : Fin b, F ⟨a + i.val, by omega⟩ := by
  subst h
  exact Fin.sum_univ_add F

theorem sum_wf (I : In) (i : Fin 16384) (l : Fin 1024) : (∑ j, I.f i j * I.wf j l) = ∑ j : Fin 8, I.f i ⟨j.val, by omega⟩ * I.w l ⟨4096 + j.val, by omega⟩ := by
  rw [cut 8 120 rfl (fun j => I.f i j * I.wf j l)]
  have h : ∑ j : Fin 120, I.f i ⟨8 + j.val, by omega⟩ * I.wf ⟨8 + j.val, by omega⟩ l = 0 := by
    refine Finset.sum_eq_zero fun j _ => ?_
    have e : I.wf ⟨8 + j.val, by omega⟩ l = 0 := dif_neg (by dsimp only; omega)
    rw [e, mul_zero]
  rw [h, add_zero]
  refine Finset.sum_congr rfl fun j _ => ?_
  have e : I.wf ⟨j.val, by omega⟩ l = I.w l ⟨4096 + j.val, by omega⟩ := dif_pos (by dsimp only; omega)
  rw [e]

theorem sum_cat (I : In) (i : Fin 16384) (l : Fin 1024) : ∑ j, cat I i j * I.w l j = I.dh i l := by
  have ec : ∀ j : Fin 1536, cat I i ⟨j.val, by omega⟩ * I.w l ⟨j.val, by omega⟩ = I.c i j * I.wc j l := by
    intro j
    refine congrArg₂ (· * ·) ?_ rfl
    unfold cat
    rw [dif_pos (by dsimp only; omega)]
    try exact congrArg _ (Fin.ext (by dsimp only; omega))
  have es : ∀ j : Fin 1024, cat I i ⟨1536 + j.val, by omega⟩ * I.w l ⟨1536 + j.val, by omega⟩ = I.s i j * I.ws j l := by
    intro j
    refine congrArg₂ (· * ·) ?_ rfl
    unfold cat
    rw [dif_neg (by dsimp only; omega), dif_pos (by dsimp only; omega)]
    try exact congrArg _ (Fin.ext (by dsimp only; omega))
  have eq : ∀ j : Fin 512, cat I i ⟨2560 + j.val, by omega⟩ * I.w l ⟨2560 + j.val, by omega⟩ = I.q i j * I.wq j l := by
    intro j
    refine congrArg₂ (· * ·) ?_ rfl
    unfold cat
    rw [dif_neg (by dsimp only; omega), dif_neg (by dsimp only; omega), dif_pos (by dsimp only; omega)]
    try exact congrArg _ (Fin.ext (by dsimp only; omega))
  have ek : ∀ j : Fin 512, cat I i ⟨3072 + j.val, by omega⟩ * I.w l ⟨3072 + j.val, by omega⟩ = I.k i j * I.wk j l := by
    intro j
    refine congrArg₂ (· * ·) ?_ rfl
    unfold cat
    rw [dif_neg (by dsimp only; omega), dif_neg (by dsimp only; omega), dif_neg (by dsimp only; omega), dif_pos (by dsimp only; omega)]
    try exact congrArg _ (Fin.ext (by dsimp only; omega))
  have ev : ∀ j : Fin 512, cat I i ⟨3584 + j.val, by omega⟩ * I.w l ⟨3584 + j.val, by omega⟩ = I.v i j * I.wv j l := by
    intro j
    refine congrArg₂ (· * ·) ?_ rfl
    unfold cat
    rw [dif_neg (by dsimp only; omega), dif_neg (by dsimp only; omega), dif_neg (by dsimp only; omega), dif_neg (by dsimp only; omega), dif_pos (by dsimp only; omega)]
    try exact congrArg _ (Fin.ext (by dsimp only; omega))
  have ef : ∀ j : Fin 8, cat I i ⟨4096 + j.val, by omega⟩ * I.w l ⟨4096 + j.val, by omega⟩ = I.f i ⟨j.val, by omega⟩ * I.w l ⟨4096 + j.val, by omega⟩ := by
    intro j
    refine congrArg₂ (· * ·) ?_ rfl
    unfold cat
    rw [dif_neg (by dsimp only; omega), dif_neg (by dsimp only; omega), dif_neg (by dsimp only; omega), dif_neg (by dsimp only; omega), dif_neg (by dsimp only; omega), dif_pos (by dsimp only; omega)]
    try exact congrArg _ (Fin.ext (by dsimp only; omega))
  have ee : ∀ j : Fin 3072, cat I i ⟨4104 + j.val, by omega⟩ * I.w l ⟨4104 + j.val, by omega⟩ = I.e i j * I.we j l := by
    intro j
    refine congrArg₂ (· * ·) ?_ rfl
    unfold cat
    rw [dif_neg (by dsimp only; omega), dif_neg (by dsimp only; omega), dif_neg (by dsimp only; omega), dif_neg (by dsimp only; omega), dif_neg (by dsimp only; omega), dif_neg (by dsimp only; omega)]
    try exact congrArg _ (Fin.ext (by dsimp only; omega))
  rw [cut 1536 5640 rfl, cut 1024 4616 rfl, cut 512 4104 rfl, cut 512 3592 rfl, cut 512 3080 rfl, cut 8 3072 rfl]
  have hc := Finset.sum_congr rfl fun j (_ : j ∈ Finset.univ) => ec j
  have hs := Finset.sum_congr rfl fun j (_ : j ∈ Finset.univ) => es j
  have hq := Finset.sum_congr rfl fun j (_ : j ∈ Finset.univ) => eq j
  have hk := Finset.sum_congr rfl fun j (_ : j ∈ Finset.univ) => ek j
  have hv := Finset.sum_congr rfl fun j (_ : j ∈ Finset.univ) => ev j
  have hf := Finset.sum_congr rfl fun j (_ : j ∈ Finset.univ) => ef j
  have he := Finset.sum_congr rfl fun j (_ : j ∈ Finset.univ) => ee j
  simp only [← Nat.add_assoc, Nat.reduceAdd]
  rw [hc, hs, hq, hk, hv, hf, he, ← sum_wf]
  unfold In.dh dhP dhQ
  ring

theorem h_v28 (I : In) : v_v28 (up2 I.c) (up2 I.s) (up2 I.q) (up2 I.k) (up2 I.v) (up2 I.f) (up2 I.e) (up2 I.w) = up2 I.dh := by
  unfold v_v28
  rw [h_v27]
  funext q; idx_vars q
  pointwise
  simp only [zero_add, up2_ix, ← EReal.coe_mul, ← coe_sum]
  exact congrArg _ (sum_cat I q0 q1)

def v_v50 (Q K V : FVec Ideal S16384x512 .f32) : FVec Ideal S16384x1536 .f32 :=
  concatenate S16384x1536 1 [⟨S16384x512, Q⟩, ⟨S16384x512, K⟩, ⟨S16384x512, V⟩] concatenates_S16384x512_S16384x512_S16384x512_S16384x1536_d1

theorem h_v50 (I : In) : v_v50 (up2 I.q) (up2 I.k) (up2 I.v) = up2 I.qkv := by
  unfold v_v50
  funext q; idx_vars q
  pointwise
  simp only [up2_ix]
  unfold In.qkv
  split_ifs
  all_goals first | rfl | (exfalso; omega) | (refine up2_ent _ _ _ _ ?_; dsimp only; omega) | skip

theorem e48 (I : In) : r_v48 I.x I.d I.g I.dh = I.dx := by
  funext i l
  refine nb_eq I.x I.d I.g I.dh i l (r_v42 I.x I.g I.dh i) ?_
  show (∑ k : Fin 1, r_v41 I.x I.g I.dh i k) = _
  rw [Fin.sum_univ_one]
  rfl
theorem e49 (I : In) : r_v49 I.x I.g = I.h := rfl
theorem e31 (I : In) : r_v31 I.x I.dh = ng I.x I.dh := by
  funext _ l
  show (∑ i, I.x i l * rinv (I.x i) * I.dh i l) = ∑ i, I.dh i l * (I.x i l * rinv (I.x i))
  exact Finset.sum_congr rfl fun i _ => mul_comm _ _

structure Is (m : (ℓ : Loc nD τ sig) → Buf (Elt Ideal) ℓ) (dv : Dev nD) (I : In) : Prop where
  x : m ((dv.tc : Thread nD τ).loc main_arg0) = (up2 I.x : FVec Ideal S16384x1024 .f32)
  d : m ((dv.tc : Thread nD τ).loc main_arg1) = (up2 I.d : FVec Ideal S16384x1024 .f32)
  c : m ((dv.tc : Thread nD τ).loc main_arg2) = (up2 I.c : FVec Ideal S16384x1536 .bf16)
  s : m ((dv.tc : Thread nD τ).loc main_arg3) = (up2 I.s : FVec Ideal S16384x1024 .bf16)
  q : m ((dv.tc : Thread nD τ).loc main_arg4) = (up2 I.q : FVec Ideal S16384x512 .f32)
  k : m ((dv.tc : Thread nD τ).loc main_arg5) = (up2 I.k : FVec Ideal S16384x512 .f32)
  v : m ((dv.tc : Thread nD τ).loc main_arg6) = (up2 I.v : FVec Ideal S16384x512 .f32)
  f : m ((dv.tc : Thread nD τ).loc main_arg7) = (up2 I.f : FVec Ideal S16384x128 .f32)
  e : m ((dv.tc : Thread nD τ).loc main_arg8) = (up2 I.e : FVec Ideal S16384x3072 .bf16)
  g : m ((dv.tc : Thread nD τ).loc main_arg9) = (up2 I.g : FVec Ideal S1x1024 .f32)
  w : m ((dv.tc : Thread nD τ).loc main_arg10) = (up2 I.w : FVec Ideal S1024x7176 .f32)

variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6
      ∧ rd r.2.mem c main_arg7 = rd m c main_arg7
      ∧ rd r.2.mem c main_arg8 = rd m c main_arg8
      ∧ rd r.2.mem c main_arg9 = rd m c main_arg9
      ∧ rd r.2.mem c main_arg10 = rd m c main_arg10) ∧ r.2.sem = fun _ => 0) :=
  (θ_run defs _ _).mono (fun r h => ⟨fun c => (h c).2.2.2.2.2, sem_eq_zero_of_no_sems (by decide) r.2⟩) (Cert.ProjRefIdeal.Value.run m ρ)

theorem q_main_v48 (c : Dev nD) (I : In) (h : Is m c I) : v_v48 (rd m c main_arg0) (rd m c main_arg1) (rd m c main_arg9) (v_v28 (rd m c main_arg2) (rd m c main_arg3) (rd m c main_arg4) (rd m c main_arg5) (rd m c main_arg6) (rd m c main_arg7) (rd m c main_arg8) (rd m c main_arg10)) = (up2 I.dx : FVec Ideal S16384x1024 .f32) := by
  dsimp only [rd]; rw [h.x, h.d, h.g, h.c, h.s, h.q, h.k, h.v, h.f, h.e, h.w, h_v28, h_v48, e48]
  try rfl
theorem q_main_v49 (c : Dev nD) (I : In) (h : Is m c I) : v_v49 (rd m c main_arg0) (rd m c main_arg9) = (up2 I.h : FVec Ideal S16384x1024 .bf16) := by
  dsimp only [rd]; rw [h.x, h.g, h_v49, e49]
  try rfl
theorem q_main_v51 (c : Dev nD) (I : In) (h : Is m c I) : v_v51 (v_v50 (rd m c main_arg4) (rd m c main_arg5) (rd m c main_arg6)) = (up2 I.qkv : FVec Ideal S16384x1536 .bf16) := by
  dsimp only [rd]; rw [h.q, h.k, h.v, h_v50, h_v51]
  try rfl
theorem q_main_v52 (c : Dev nD) (I : In) (h : Is m c I) : v_v52 (rd m c main_arg7) = (up2 I.f : FVec Ideal S16384x128 .bf16) := by
  dsimp only [rd]; rw [h.f, h_v52]
  try rfl
theorem q_main_v31 (c : Dev nD) (I : In) (h : Is m c I) : v_v31 (rd m c main_arg0) (v_v28 (rd m c main_arg2) (rd m c main_arg3) (rd m c main_arg4) (rd m c main_arg5) (rd m c main_arg6) (rd m c main_arg7) (rd m c main_arg8) (rd m c main_arg10)) = (up2 (ng I.x I.dh) : FVec Ideal S1x1024 .f32) := by
  dsimp only [rd]; rw [h.x, h.c, h.s, h.q, h.k, h.v, h.f, h.e, h.w, h_v28, h_v31, e31]
  try rfl

theorem run (I : Dev nD → In) (h : ∀ c, Is m c (I c)) :
    θ_run (defs (F := Ideal)) (onTc (τ := τ) (main (F := Ideal))) ⟨m, fun _ => 0, ρ⟩ (fun r => ∀ c : Dev nD,
      rd r.2.mem c main_v48 = (up2 (I c).dx : FVec Ideal S16384x1024 .f32)
      ∧ rd r.2.mem c main_v49 = (up2 (I c).h : FVec Ideal S16384x1024 .bf16)
      ∧ rd r.2.mem c main_v51 = (up2 (I c).qkv : FVec Ideal S16384x1536 .bf16)
      ∧ rd r.2.mem c main_v52 = (up2 (I c).f : FVec Ideal S16384x128 .bf16)
      ∧ rd r.2.mem c main_v31 = (up2 (ng (I c).x (I c).dh) : FVec Ideal S1x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6
      ∧ rd r.2.mem c main_arg7 = rd m c main_arg7
      ∧ rd r.2.mem c main_arg8 = rd m c main_arg8
      ∧ rd r.2.mem c main_arg9 = rd m c main_arg9
      ∧ rd r.2.mem c main_arg10 = rd m c main_arg10) := by
  refine (θ_run defs _ _).mono (fun r k c => ?_) (Cert.ProjRefIdeal.Value.run m ρ)
  obtain ⟨h0, h1, h2, h3, h4, ha⟩ := k c
  have p0 := h0.trans ((show _ = v_v48 (rd m c main_arg0) (rd m c main_arg1) (rd m c main_arg9) (v_v28 (rd m c main_arg2) (rd m c main_arg3) (rd m c main_arg4) (rd m c main_arg5) (rd m c main_arg6) (rd m c main_arg7) (rd m c main_arg8) (rd m c main_arg10)) from rfl).trans (q_main_v48 m c (I c) (h c)))
  have p1 := h1.trans ((show _ = v_v49 (rd m c main_arg0) (rd m c main_arg9) from rfl).trans (q_main_v49 m c (I c) (h c)))
  have p2 := h2.trans ((show _ = v_v51 (v_v50 (rd m c main_arg4) (rd m c main_arg5) (rd m c main_arg6)) from rfl).trans (q_main_v51 m c (I c) (h c)))
  have p3 := h3.trans ((show _ = v_v52 (rd m c main_arg7) from rfl).trans (q_main_v52 m c (I c) (h c)))
  have p4 := h4.trans ((show _ = v_v31 (rd m c main_arg0) (v_v28 (rd m c main_arg2) (rd m c main_arg3) (rd m c main_arg4) (rd m c main_arg5) (rd m c main_arg6) (rd m c main_arg7) (rd m c main_arg8) (rd m c main_arg10)) from rfl).trans (q_main_v31 m c (I c) (h c)))
  exact ⟨p0, p1, p2, p3, p4, ha⟩
end Cert.Proof.ProjRef
end
-- ==== Proof.ProjPre.lean ====
/- The precondition of the projection's gradient: every entry of every argument is a real number. -/
module
public import proofs.«01_k».proof.Proof.Gen.Pre_finite_proj
public import proofs.«01_k».proof.Proof.ProjEq
public import Idealize.ShloMosaic.Lib.ReduceAll
@[expose] public section
noncomputable section
namespace Cert.Proof.ProjPre
open Cert.Pre_finite_proj Cert.Pre_finite_proj.Gen Idealize.ShloMosaic ProjEq

structure Fin11 (I : In) (A0 : FVec Ideal S16384x1024 .f32) (A1 : FVec Ideal S16384x1024 .f32) (A2 : FVec Ideal S16384x1536 .bf16) (A3 : FVec Ideal S16384x1024 .bf16) (A4 : FVec Ideal S16384x512 .f32) (A5 : FVec Ideal S16384x512 .f32) (A6 : FVec Ideal S16384x512 .f32) (A7 : FVec Ideal S16384x128 .f32) (A8 : FVec Ideal S16384x3072 .bf16) (A9 : FVec Ideal S1x1024 .f32) (A10 : FVec Ideal S1024x7176 .f32) : Prop where
  x : A0 = up2 I.x
  d : A1 = up2 I.d
  c : A2 = up2 I.c
  s : A3 = up2 I.s
  q : A4 = up2 I.q
  k : A5 = up2 I.k
  v : A6 = up2 I.v
  f : A7 = up2 I.f
  e : A8 = up2 I.e
  g : A9 = up2 I.g
  w : A10 = up2 I.w

theorem finite_of (A0 : FVec Ideal S16384x1024 .f32) (A1 : FVec Ideal S16384x1024 .f32) (A2 : FVec Ideal S16384x1536 .bf16) (A3 : FVec Ideal S16384x1024 .bf16) (A4 : FVec Ideal S16384x512 .f32) (A5 : FVec Ideal S16384x512 .f32) (A6 : FVec Ideal S16384x512 .f32) (A7 : FVec Ideal S16384x128 .f32) (A8 : FVec Ideal S16384x3072 .bf16) (A9 : FVec Ideal S1x1024 .f32) (A10 : FVec Ideal S1024x7176 .f32)
    (h : Cert.Pre_finite_proj.fn (F := Ideal) A0 A1 A2 A3 A4 A5 A6 A7 A8 A9 A10 = fun _ => 1#1) :
    Fin11 ⟨down2 A0, down2 A1, down2 A2, down2 A3, down2 A4, down2 A5, down2 A6, down2 A7, down2 A8, down2 A9, down2 A10⟩ A0 A1 A2 A3 A4 A5 A6 A7 A8 A9 A10 := by
  have h := congrFun h ix0
  dsimp only [fn, fn_part1, fn_part2, fn_part3] at h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  constructor
  · refine (up_down2 _ fun i => ?_).symm; rw [← lit_top]; exact lt_of_bit (Host.reduce_andi_all _ _ _ _ _ h0 i)
  · refine (up_down2 _ fun i => ?_).symm; rw [← lit_top]; exact lt_of_bit (Host.reduce_andi_all _ _ _ _ _ h1 i)
  · refine (up_down2 _ fun i => ?_).symm; rw [← lit_top]; exact lt_of_bit (Host.reduce_andi_all _ _ _ _ _ h2 i)
  · refine (up_down2 _ fun i => ?_).symm; rw [← lit_top]; exact lt_of_bit (Host.reduce_andi_all _ _ _ _ _ h3 i)
  · refine (up_down2 _ fun i => ?_).symm; rw [← lit_top]; exact lt_of_bit (Host.reduce_andi_all _ _ _ _ _ h4 i)
  · refine (up_down2 _ fun i => ?_).symm; rw [← lit_top]; exact lt_of_bit (Host.reduce_andi_all _ _ _ _ _ h5 i)
  · refine (up_down2 _ fun i => ?_).symm; rw [← lit_top]; exact lt_of_bit (Host.reduce_andi_all _ _ _ _ _ h6 i)
  · refine (up_down2 _ fun i => ?_).symm; rw [← lit_top]; exact lt_of_bit (Host.reduce_andi_all _ _ _ _ _ h7 i)
  · refine (up_down2 _ fun i => ?_).symm; rw [← lit_top]; exact lt_of_bit (Host.reduce_andi_all _ _ _ _ _ h8 i)
  · refine (up_down2 _ fun i => ?_).symm; rw [← lit_top]; exact lt_of_bit (Host.reduce_andi_all _ _ _ _ _ h9 i)
  · refine (up_down2 _ fun i => ?_).symm; rw [← lit_top]; exact lt_of_bit (Host.reduce_andi_all _ _ _ _ _ h10 i)
end Cert.Proof.ProjPre
end
-- ==== Proof.XaQuiet.lean ====
/- The frame of the cross-attention gradient's reference. -/
module
public import proofs.«01_k».proof.Proof.Gen.XaRefIdeal.Run
public import proofs.«01_k».proof.Proof.Kit
public import Idealize.ShloMosaic.Adequacy
@[expose] public section
noncomputable section
namespace Cert.Proof.XaQuiet
open Cert.XaRefIdeal Idealize.ShloMosaic Idealize.ShloMosaic.TcCoe Idealize.SL.Sem
variable (m : (ℓ : Loc nD τ sig) → Buf (Elt Ideal) ℓ) (ρ : Dev nD → PrngReg)
theorem quiet : θ_run (defs (F := Ideal)) (onTc (τ := τ) (main (F := Ideal))) ⟨m, fun _ => 0, ρ⟩ (fun r => (∀ c : Dev nD, rd r.2.mem c main_arg0 = rd m c main_arg0 ∧ rd r.2.mem c main_arg1 = rd m c main_arg1 ∧ rd r.2.mem c main_arg2 = rd m c main_arg2 ∧ rd r.2.mem c main_arg3 = rd m c main_arg3 ∧ rd r.2.mem c main_arg4 = rd m c main_arg4 ∧ rd r.2.mem c main_arg5 = rd m c main_arg5 ∧ rd r.2.mem c main_arg6 = rd m c main_arg6) ∧ r.2.sem = fun _ => 0) :=
  (θ_run defs _ _).mono (fun r h => ⟨fun c => (h c).2.2.2.2.2.2.2.2, sem_eq_zero_of_no_sems (by decide) r.2⟩) (Cert.XaRefIdeal.Value.run m ρ)
end Cert.Proof.XaQuiet
end
-- ==== Proof.MmJointDw.lean ====
module
public import proofs.«01_k».proof.Proof.Gen.JointDwIdeal.Frame
public import proofs.«01_k».proof.Proof.Kit
public import Idealize.ShloMosaic.Lib.Pipeline.ReadBack
public import Idealize.ShloMosaic.Lib.Pipeline.ValueKit
public import Idealize.ShloMosaic.Adequacy
public import proofs.«01_k».proof.Proof.Gen.JointRefIdeal.Run
@[expose] public section
set_option maxRecDepth 16384
noncomputable section
/-! The product over the tokens: each output block adds up eight blocks of tokens, which make the sum over all. -/
namespace Cert.Proof.MmJointDw
open Cert.JointDwIdeal Cert.JointDwIdeal.Gen Idealize.ShloMosaic Idealize.ShloMosaic.TcCoe Idealize.SL.Sem

/-- One block's step: the block's product added to what the output held. -/
theorem pay2_at (o : FVec Ideal S1536x1024 .f32) (x : FVec Ideal S2048x1536 .bf16) (y : FVec Ideal S2048x1024 .bf16) (i : Fin 1536) (j : Fin 1024) :
    k0_pay2 (F := Ideal) o x y (ix2 i j) = (o (ix2 i j) : EReal) + ∑ p : Fin 2048, (x (ix2 p i) : EReal) * (y (ix2 p j) : EReal) := by
  unfold k0_pay2
  pointwise
  try simp only [zero_add]

theorem pay1_at (q : S1536x1024.Idx) : k0_pay1 (F := Ideal) q = (0 : EReal) := by
  unfold k0_pay1
  idx_vars q
  pointwise

variable (m : (ℓ : Loc nD τ sig) → Buf (Elt Ideal) ℓ) (c : Dev nD)

/-- The two arguments. -/
def aX : (⟨2, ![16384, 1536]⟩ : Shape).Idx → EReal := rd m c main_arg0
def aY : (⟨2, ![16384, 1024]⟩ : Shape).Idx → EReal := rd m c main_arg1

theorem nt (t : Fin cfg0.N) : t.val < 8 := lt_of_lt_of_eq t.isLt (show cfg0.N = 8 from N_0)
def row (t : Fin cfg0.N) (p : Fin 2048) : Fin 16384 := ⟨t.val % 8 * 2048 + p.val, by omega⟩
def col (t : Fin cfg0.N) (i : Fin 1536) : Fin 1536 := ⟨t.val / 8 * 1536 + i.val, by have := nt t; omega⟩

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem b0 (t : Fin cfg0.N) (p : Fin 2048) (i : Fin 1536) :
    iblk m c 0 t (ix2 p i : S2048x1536.Idx) = aX m c (ix2 (row t p) (col t i)) := by
  refine Eq.trans (b := V m c main_arg0 (ix2 (row t p) (col t i))) ?_ (by entry_read; rfl)
  blk_ext [iblk, idx t, row, col]

theorem b1 (t : Fin cfg0.N) (p : Fin 2048) (q1 : Fin 1024) :
    iblk m c 1 t (ix2 p q1 : S2048x1024.Idx) = aY m c (ix2 (row t p) q1) := by
  refine Eq.trans (b := V m c main_arg1 (ix2 (row t p) q1)) ?_ (by entry_read; rfl)
  blk_ext [iblk, idx t, row, col]

/-- The product of two columns, over the tokens. -/
def G (X : (⟨2, ![16384, 1536]⟩ : Shape).Idx → EReal) (Y : (⟨2, ![16384, 1024]⟩ : Shape).Idx → EReal) (k : Fin 1536) (j : Fin 1024) : EReal :=
  ∑ s : Fin 16384, X (ix2 s k) * Y (ix2 s j)

def part (t : Fin cfg0.N) (i : Fin 1536) (j : Fin 1024) : EReal :=
  ∑ p : Fin 2048, aX m c (ix2 (row t p) (col t i)) * aY m c (ix2 (row t p) j)

theorem oA (t : Fin cfg0.N) (h0 : t.val % 8 = 0) (q : S1536x1024.Idx) :
    outsAt0 m c t.val t.isLt q = 0 + part m c t (q 0) (q 1) := by
  rw [outsAt0_A m c t h0]
  idx_vars q
  frame_out
  try simp only [read_unread_whole]
  try simp only [View.read_whole, ReadAs.apply_same]
  refine (pay2_at _ _ _ _ _).trans ?_
  refine congrArg₂ (fun u v : EReal => u + v) ?_ (Finset.sum_congr rfl fun p _ => congrArg₂ (fun u v : EReal => u * v) (b0 m c t p q0) (b1 m c t p q1))
  exact pay1_at _

theorem oB (t : Fin cfg0.N) (h0 : ¬ t.val % 8 = 0) (q : S1536x1024.Idx) :
    outsAt0 m c t.val t.isLt q = outsAt0 m c (t.val - 1) (Nat.lt_of_le_of_lt (Nat.sub_le _ _) t.isLt) q + part m c t (q 0) (q 1) := by
  rw [outsAt0_B m c t h0]
  idx_vars q
  frame_out
  try simp only [read_unread_whole]
  try simp only [View.read_whole, ReadAs.apply_same]
  refine (pay2_at _ _ _ _ _).trans ?_
  exact congrArg₂ (fun u v : EReal => u + v) rfl (Finset.sum_congr rfl fun p _ => congrArg₂ (fun u v : EReal => u * v) (b0 m c t p q0) (b1 m c t p q1))

/-- A sum over the token rows, block of rows by block of rows. -/
theorem sum_rows (F : Fin 16384 → EReal) : ∑ s : Fin 8, ∑ p : Fin 2048, F ⟨s.val * 2048 + p.val, by omega⟩ = ∑ i, F i :=
  Fin.sum_mul_add_congr fun s k hl => rfl

theorem whole (t : Fin cfg0.N) (i : Fin 1536) (j : Fin 1024) :
    ∑ s : Fin 8, part m c ⟨8 * (t.val / 8) + s.val, by have := nt t; have := (show cfg0.N = 8 from N_0); omega⟩ i j = G (aX m c) (aY m c) (col t i) j := by
  unfold G
  rw [← sum_rows]
  refine Finset.sum_congr rfl fun s _ => Finset.sum_congr rfl fun p _ => ?_
  have h : ∀ (t' : Fin cfg0.N), t'.val = 8 * (t.val / 8) + s.val → row t' p = ⟨s.val * 2048 + p.val, by omega⟩ ∧ col t' i = col t i := by
    intro t' e
    refine ⟨Fin.ext ?_, Fin.ext ?_⟩
    · show t'.val % 8 * 2048 + p.val = s.val * 2048 + p.val
      rw [e]; omega
    · show t'.val / 8 * 1536 + i.val = t.val / 8 * 1536 + i.val
      rw [e]; omega
  obtain ⟨h1, h2⟩ := h ⟨8 * (t.val / 8) + s.val, by have := nt t; have := (show cfg0.N = 8 from N_0); omega⟩ rfl
  rw [h1, h2]

theorem fin : (dats m 0 c).arrAt 2 cfg0.N = (fun q => G (aX m c) (aY m c) (q 0) (q 1) : FVec Ideal S1536x1024 .f32) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (fun t q => part m c t (q 0) (q 1))
    (fun t h0 q => oA m c t h0 q) (fun t h0 q => oB m c t h0 q) t ((flush0_2 t).mp hf) _, zero_add]
  refine (whole m c t (y 0) (y 1)).trans (congrArg₂ (G (aX m c) (aY m c)) (Fin.ext ?_) (Fin.ext ?_)) <;> blk_simp [idx t, col]

theorem run (ρ : Dev nD → PrngReg) : θ_run (defs (F := Ideal)) (onTc (τ := τ) (main (F := Ideal))) ⟨m, fun _ => 0, ρ⟩ (fun r => ∀ c : Dev nD,
      rd r.2.mem c main_v0 = (fun q => G (aX m c) (aY m c) (q 0) (q 1) : FVec Ideal S1536x1024 .f32)
      ∧ rd r.2.mem c main_arg0 = rd m c main_arg0
      ∧ rd r.2.mem c main_arg1 = rd m c main_arg1) := by
  refine (θ_run defs _ _).mono (fun r h c => ?_) (θ_run_and (run_main m ρ) (unchanged m ρ))
  exact ⟨((h.1 c).1 2).trans (fin m c), h.2 c⟩
end Cert.Proof.MmJointDw

namespace Cert.Proof.MmJointDw.JointRef
open Cert.JointRefIdeal Idealize.ShloMosaic Idealize.ShloMosaic.TcCoe Idealize.SL.Sem
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.JointRefIdeal.Value.run m ρ)

theorem run : θ_run (defs (F := Ideal)) (onTc (τ := τ) (main (F := Ideal))) ⟨m, fun _ => 0, ρ⟩ (fun r => ∀ c : Dev nD,
      rd r.2.mem c main_v6 = (fun q => G (rd m c main_arg0) (rd m c main_arg1) (q 0) (q 1) : FVec Ideal S1536x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.JointRefIdeal.Value.run m ρ)
  funext q
  idx_vars q
  pointwise
  rfl
end Cert.Proof.MmJointDw.JointRef
-- ==== Proof.MmSquareDw.lean ====
module
public import proofs.«01_k».proof.Proof.Gen.SquareDwIdeal.Frame
public import proofs.«01_k».proof.Proof.Kit
public import Idealize.ShloMosaic.Lib.Pipeline.ReadBack
public import Idealize.ShloMosaic.Lib.Pipeline.ValueKit
public import Idealize.ShloMosaic.Adequacy
public import proofs.«01_k».proof.Proof.Gen.SquareRefIdeal.Run
public import proofs.«01_k».proof.Proof.Gen.SquareTRefIdeal.Run
@[expose] public section
set_option maxRecDepth 16384
noncomputable section
/-! The product over the tokens: each output block adds up eight blocks of tokens, which make the sum over all. -/
namespace Cert.Proof.MmSquareDw
open Cert.SquareDwIdeal Cert.SquareDwIdeal.Gen Idealize.ShloMosaic Idealize.ShloMosaic.TcCoe Idealize.SL.Sem

/-- One block's step: the block's product added to what the output held. -/
theorem pay2_at (o : FVec Ideal S1024x1024 .f32) (x : FVec Ideal S2048x1024 .bf16) (y : FVec Ideal S2048x1024 .bf16) (i : Fin 1024) (j : Fin 1024) :
    k0_pay2 (F := Ideal) o x y (ix2 i j) = (o (ix2 i j) : EReal) + ∑ p : Fin 2048, (x (ix2 p i) : EReal) * (y (ix2 p j) : EReal) := by
  unfold k0_pay2
  pointwise
  try simp only [zero_add]

theorem pay1_at (q : S1024x1024.Idx) : k0_pay1 (F := Ideal) q = (0 : EReal) := by
  unfold k0_pay1
  idx_vars q
  pointwise

variable (m : (ℓ : Loc nD τ sig) → Buf (Elt Ideal) ℓ) (c : Dev nD)

/-- The two arguments. -/
def aX : (⟨2, ![16384, 1024]⟩ : Shape).Idx → EReal := rd m c main_arg0
def aY : (⟨2, ![16384, 1024]⟩ : Shape).Idx → EReal := rd m c main_arg1

theorem nt (t : Fin cfg0.N) : t.val < 8 := lt_of_lt_of_eq t.isLt (show cfg0.N = 8 from N_0)
def row (t : Fin cfg0.N) (p : Fin 2048) : Fin 16384 := ⟨t.val % 8 * 2048 + p.val, by omega⟩
def col (t : Fin cfg0.N) (i : Fin 1024) : Fin 1024 := ⟨t.val / 8 * 1024 + i.val, by have := nt t; omega⟩

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem b0 (t : Fin cfg0.N) (p : Fin 2048) (i : Fin 1024) :
    iblk m c 0 t (ix2 p i : S2048x1024.Idx) = aX m c (ix2 (row t p) (col t i)) := by
  refine Eq.trans (b := V m c main_arg0 (ix2 (row t p) (col t i))) ?_ (by entry_read; rfl)
  blk_ext [iblk, idx t, row, col]

theorem b1 (t : Fin cfg0.N) (p : Fin 2048) (q1 : Fin 1024) :
    iblk m c 1 t (ix2 p q1 : S2048x1024.Idx) = aY m c (ix2 (row t p) q1) := by
  refine Eq.trans (b := V m c main_arg1 (ix2 (row t p) q1)) ?_ (by entry_read; rfl)
  blk_ext [iblk, idx t, row, col]

/-- The product of two columns, over the tokens. -/
def G (X : (⟨2, ![16384, 1024]⟩ : Shape).Idx → EReal) (Y : (⟨2, ![16384, 1024]⟩ : Shape).Idx → EReal) (k : Fin 1024) (j : Fin 1024) : EReal :=
  ∑ s : Fin 16384, X (ix2 s k) * Y (ix2 s j)

def part (t : Fin cfg0.N) (i : Fin 1024) (j : Fin 1024) : EReal :=
  ∑ p : Fin 2048, aX m c (ix2 (row t p) (col t i)) * aY m c (ix2 (row t p) j)

theorem oA (t : Fin cfg0.N) (h0 : t.val % 8 = 0) (q : S1024x1024.Idx) :
    outsAt0 m c t.val t.isLt q = 0 + part m c t (q 0) (q 1) := by
  rw [outsAt0_A m c t h0]
  idx_vars q
  frame_out
  try simp only [read_unread_whole]
  try simp only [View.read_whole, ReadAs.apply_same]
  refine (pay2_at _ _ _ _ _).trans ?_
  refine congrArg₂ (fun u v : EReal => u + v) ?_ (Finset.sum_congr rfl fun p _ => congrArg₂ (fun u v : EReal => u * v) (b0 m c t p q0) (b1 m c t p q1))
  exact pay1_at _

theorem oB (t : Fin cfg0.N) (h0 : ¬ t.val % 8 = 0) (q : S1024x1024.Idx) :
    outsAt0 m c t.val t.isLt q = outsAt0 m c (t.val - 1) (Nat.lt_of_le_of_lt (Nat.sub_le _ _) t.isLt) q + part m c t (q 0) (q 1) := by
  rw [outsAt0_B m c t h0]
  idx_vars q
  frame_out
  try simp only [read_unread_whole]
  try simp only [View.read_whole, ReadAs.apply_same]
  refine (pay2_at _ _ _ _ _).trans ?_
  exact congrArg₂ (fun u v : EReal => u + v) rfl (Finset.sum_congr rfl fun p _ => congrArg₂ (fun u v : EReal => u * v) (b0 m c t p q0) (b1 m c t p q1))

/-- A sum over the token rows, block of rows by block of rows. -/
theorem sum_rows (F : Fin 16384 → EReal) : ∑ s : Fin 8, ∑ p : Fin 2048, F ⟨s.val * 2048 + p.val, by omega⟩ = ∑ i, F i :=
  Fin.sum_mul_add_congr fun s k hl => rfl

theorem whole (t : Fin cfg0.N) (i : Fin 1024) (j : Fin 1024) :
    ∑ s : Fin 8, part m c ⟨8 * (t.val / 8) + s.val, by have := nt t; have := (show cfg0.N = 8 from N_0); omega⟩ i j = G (aX m c) (aY m c) (col t i) j := by
  unfold G
  rw [← sum_rows]
  refine Finset.sum_congr rfl fun s _ => Finset.sum_congr rfl fun p _ => ?_
  have h : ∀ (t' : Fin cfg0.N), t'.val = 8 * (t.val / 8) + s.val → row t' p = ⟨s.val * 2048 + p.val, by omega⟩ ∧ col t' i = col t i := by
    intro t' e
    refine ⟨Fin.ext ?_, Fin.ext ?_⟩
    · show t'.val % 8 * 2048 + p.val = s.val * 2048 + p.val
      rw [e]; omega
    · show t'.val / 8 * 1024 + i.val = t.val / 8 * 1024 + i.val
      rw [e]; omega
  obtain ⟨h1, h2⟩ := h ⟨8 * (t.val / 8) + s.val, by have := nt t; have := (show cfg0.N = 8 from N_0); omega⟩ rfl
  rw [h1, h2]

theorem fin : (dats m 0 c).arrAt 2 cfg0.N = (fun q => G (aX m c) (aY m c) (q 0) (q 1) : FVec Ideal S1024x1024 .f32) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (fun t q => part m c t (q 0) (q 1))
    (fun t h0 q => oA m c t h0 q) (fun t h0 q => oB m c t h0 q) t ((flush0_2 t).mp hf) _, zero_add]
  refine (whole m c t (y 0) (y 1)).trans (congrArg₂ (G (aX m c) (aY m c)) (Fin.ext ?_) (Fin.ext ?_)) <;> blk_simp [idx t, col]

theorem run (ρ : Dev nD → PrngReg) : θ_run (defs (F := Ideal)) (onTc (τ := τ) (main (F := Ideal))) ⟨m, fun _ => 0, ρ⟩ (fun r => ∀ c : Dev nD,
      rd r.2.mem c main_v0 = (fun q => G (aX m c) (aY m c) (q 0) (q 1) : FVec Ideal S1024x1024 .f32)
      ∧ rd r.2.mem c main_arg0 = rd m c main_arg0
      ∧ rd r.2.mem c main_arg1 = rd m c main_arg1) := by
  refine (θ_run defs _ _).mono (fun r h c => ?_) (θ_run_and (run_main m ρ) (unchanged m ρ))
  exact ⟨((h.1 c).1 2).trans (fin m c), h.2 c⟩
end Cert.Proof.MmSquareDw

namespace Cert.Proof.MmSquareDw.SquareRef
open Cert.SquareRefIdeal Idealize.ShloMosaic Idealize.ShloMosaic.TcCoe Idealize.SL.Sem
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.SquareRefIdeal.Value.run m ρ)

theorem run : θ_run (defs (F := Ideal)) (onTc (τ := τ) (main (F := Ideal))) ⟨m, fun _ => 0, ρ⟩ (fun r => ∀ c : Dev nD,
      rd r.2.mem c main_v5 = (fun q => G (rd m c main_arg0) (rd m c main_arg1) (q 0) (q 1) : FVec Ideal S1024x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.SquareRefIdeal.Value.run m ρ)
  funext q
  idx_vars q
  pointwise
  exact Finset.sum_congr rfl fun s _ => mul_comm (G := EReal) _ _
end Cert.Proof.MmSquareDw.SquareRef

namespace Cert.Proof.MmSquareDw.SquareTRef
open Cert.SquareTRefIdeal Idealize.ShloMosaic Idealize.ShloMosaic.TcCoe Idealize.SL.Sem
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.SquareTRefIdeal.Value.run m ρ)

theorem run : θ_run (defs (F := Ideal)) (onTc (τ := τ) (main (F := Ideal))) ⟨m, fun _ => 0, ρ⟩ (fun r => ∀ c : Dev nD,
      rd r.2.mem c main_v6 = (fun q => G (rd m c main_arg0) (rd m c main_arg1) (q 0) (q 1) : FVec Ideal S1024x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.SquareTRefIdeal.Value.run m ρ)
  funext q
  idx_vars q
  pointwise
  rfl
end Cert.Proof.MmSquareDw.SquareTRef
-- ==== Proof.MmGatesDw.lean ====
module
public import proofs.«01_k».proof.Proof.Gen.GatesDwIdeal.Frame
public import proofs.«01_k».proof.Proof.Kit
public import Idealize.ShloMosaic.Lib.Pipeline.ReadBack
public import Idealize.ShloMosaic.Lib.Pipeline.ValueKit
public import Idealize.ShloMosaic.Adequacy
public import proofs.«01_k».proof.Proof.Gen.GatesRefIdeal.Run
@[expose] public section
set_option maxRecDepth 16384
noncomputable section
/-! The product over the tokens: each output block adds up eight blocks of tokens, which make the sum over all. -/
namespace Cert.Proof.MmGatesDw
open Cert.GatesDwIdeal Cert.GatesDwIdeal.Gen Idealize.ShloMosaic Idealize.ShloMosaic.TcCoe Idealize.SL.Sem

/-- One block's step: the block's product added to what the output held. -/
theorem pay2_at (o : FVec Ideal S1536x1024 .f32) (x : FVec Ideal S2048x1536 .bf16) (y : FVec Ideal S2048x1024 .bf16) (i : Fin 1536) (j : Fin 1024) :
    k0_pay2 (F := Ideal) o x y (ix2 i j) = (o (ix2 i j) : EReal) + ∑ p : Fin 2048, (x (ix2 p i) : EReal) * (y (ix2 p j) : EReal) := by
  unfold k0_pay2
  pointwise
  try simp only [zero_add]

theorem pay1_at (q : S1536x1024.Idx) : k0_pay1 (F := Ideal) q = (0 : EReal) := by
  unfold k0_pay1
  idx_vars q
  pointwise

variable (m : (ℓ : Loc nD τ sig) → Buf (Elt Ideal) ℓ) (c : Dev nD)

/-- The two arguments. -/
def aX : (⟨2, ![16384, 3072]⟩ : Shape).Idx → EReal := rd m c main_arg0
def aY : (⟨2, ![16384, 1024]⟩ : Shape).Idx → EReal := rd m c main_arg1

theorem nt (t : Fin cfg0.N) : t.val < 16 := lt_of_lt_of_eq t.isLt (show cfg0.N = 16 from N_0)
def row (t : Fin cfg0.N) (p : Fin 2048) : Fin 16384 := ⟨t.val % 8 * 2048 + p.val, by omega⟩
def col (t : Fin cfg0.N) (i : Fin 1536) : Fin 3072 := ⟨t.val / 8 * 1536 + i.val, by have := nt t; omega⟩

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem b0 (t : Fin cfg0.N) (p : Fin 2048) (i : Fin 1536) :
    iblk m c 0 t (ix2 p i : S2048x1536.Idx) = aX m c (ix2 (row t p) (col t i)) := by
  refine Eq.trans (b := V m c main_arg0 (ix2 (row t p) (col t i))) ?_ (by entry_read; rfl)
  blk_ext [iblk, idx t, row, col]

theorem b1 (t : Fin cfg0.N) (p : Fin 2048) (q1 : Fin 1024) :
    iblk m c 1 t (ix2 p q1 : S2048x1024.Idx) = aY m c (ix2 (row t p) q1) := by
  refine Eq.trans (b := V m c main_arg1 (ix2 (row t p) q1)) ?_ (by entry_read; rfl)
  blk_ext [iblk, idx t, row, col]

/-- The product of two columns, over the tokens. -/
def G (X : (⟨2, ![16384, 3072]⟩ : Shape).Idx → EReal) (Y : (⟨2, ![16384, 1024]⟩ : Shape).Idx → EReal) (k : Fin 3072) (j : Fin 1024) : EReal :=
  ∑ s : Fin 16384, X (ix2 s k) * Y (ix2 s j)

def part (t : Fin cfg0.N) (i : Fin 1536) (j : Fin 1024) : EReal :=
  ∑ p : Fin 2048, aX m c (ix2 (row t p) (col t i)) * aY m c (ix2 (row t p) j)

theorem oA (t : Fin cfg0.N) (h0 : t.val % 8 = 0) (q : S1536x1024.Idx) :
    outsAt0 m c t.val t.isLt q = 0 + part m c t (q 0) (q 1) := by
  rw [outsAt0_A m c t h0]
  idx_vars q
  frame_out
  try simp only [read_unread_whole]
  try simp only [View.read_whole, ReadAs.apply_same]
  refine (pay2_at _ _ _ _ _).trans ?_
  refine congrArg₂ (fun u v : EReal => u + v) ?_ (Finset.sum_congr rfl fun p _ => congrArg₂ (fun u v : EReal => u * v) (b0 m c t p q0) (b1 m c t p q1))
  exact pay1_at _

theorem oB (t : Fin cfg0.N) (h0 : ¬ t.val % 8 = 0) (q : S1536x1024.Idx) :
    outsAt0 m c t.val t.isLt q = outsAt0 m c (t.val - 1) (Nat.lt_of_le_of_lt (Nat.sub_le _ _) t.isLt) q + part m c t (q 0) (q 1) := by
  rw [outsAt0_B m c t h0]
  idx_vars q
  frame_out
  try simp only [read_unread_whole]
  try simp only [View.read_whole, ReadAs.apply_same]
  refine (pay2_at _ _ _ _ _).trans ?_
  exact congrArg₂ (fun u v : EReal => u + v) rfl (Finset.sum_congr rfl fun p _ => congrArg₂ (fun u v : EReal => u * v) (b0 m c t p q0) (b1 m c t p q1))

/-- A sum over the token rows, block of rows by block of rows. -/
theorem sum_rows (F : Fin 16384 → EReal) : ∑ s : Fin 8, ∑ p : Fin 2048, F ⟨s.val * 2048 + p.val, by omega⟩ = ∑ i, F i :=
  Fin.sum_mul_add_congr fun s k hl => rfl

theorem whole (t : Fin cfg0.N) (i : Fin 1536) (j : Fin 1024) :
    ∑ s : Fin 8, part m c ⟨8 * (t.val / 8) + s.val, by have := nt t; have := (show cfg0.N = 16 from N_0); omega⟩ i j = G (aX m c) (aY m c) (col t i) j := by
  unfold G
  rw [← sum_rows]
  refine Finset.sum_congr rfl fun s _ => Finset.sum_congr rfl fun p _ => ?_
  have h : ∀ (t' : Fin cfg0.N), t'.val = 8 * (t.val / 8) + s.val → row t' p = ⟨s.val * 2048 + p.val, by omega⟩ ∧ col t' i = col t i := by
    intro t' e
    refine ⟨Fin.ext ?_, Fin.ext ?_⟩
    · show t'.val % 8 * 2048 + p.val = s.val * 2048 + p.val
      rw [e]; omega
    · show t'.val / 8 * 1536 + i.val = t.val / 8 * 1536 + i.val
      rw [e]; omega
  obtain ⟨h1, h2⟩ := h ⟨8 * (t.val / 8) + s.val, by have := nt t; have := (show cfg0.N = 16 from N_0); omega⟩ rfl
  rw [h1, h2]

theorem fin : (dats m 0 c).arrAt 2 cfg0.N = (fun q => G (aX m c) (aY m c) (q 0) (q 1) : FVec Ideal S3072x1024 .f32) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (fun t q => part m c t (q 0) (q 1))
    (fun t h0 q => oA m c t h0 q) (fun t h0 q => oB m c t h0 q) t ((flush0_2 t).mp hf) _, zero_add]
  refine (whole m c t (y 0) (y 1)).trans (congrArg₂ (G (aX m c) (aY m c)) (Fin.ext ?_) (Fin.ext ?_)) <;> blk_simp [idx t, col]

theorem run (ρ : Dev nD → PrngReg) : θ_run (defs (F := Ideal)) (onTc (τ := τ) (main (F := Ideal))) ⟨m, fun _ => 0, ρ⟩ (fun r => ∀ c : Dev nD,
      rd r.2.mem c main_v0 = (fun q => G (aX m c) (aY m c) (q 0) (q 1) : FVec Ideal S3072x1024 .f32)
      ∧ rd r.2.mem c main_arg0 = rd m c main_arg0
      ∧ rd r.2.mem c main_arg1 = rd m c main_arg1) := by
  refine (θ_run defs _ _).mono (fun r h c => ?_) (θ_run_and (run_main m ρ) (unchanged m ρ))
  exact ⟨((h.1 c).1 2).trans (fin m c), h.2 c⟩
end Cert.Proof.MmGatesDw

namespace Cert.Proof.MmGatesDw.GatesRef
open Cert.GatesRefIdeal Idealize.ShloMosaic Idealize.ShloMosaic.TcCoe Idealize.SL.Sem
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.GatesRefIdeal.Value.run m ρ)

theorem run : θ_run (defs (F := Ideal)) (onTc (τ := τ) (main (F := Ideal))) ⟨m, fun _ => 0, ρ⟩ (fun r => ∀ c : Dev nD,
      rd r.2.mem c main_v6 = (fun q => G (rd m c main_arg0) (rd m c main_arg1) (q 0) (q 1) : FVec Ideal S3072x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.GatesRefIdeal.Value.run m ρ)
  funext q
  idx_vars q
  pointwise
  rfl
end Cert.Proof.MmGatesDw.GatesRef
-- ==== Proof.MmForgetDw.lean ====
module
public import proofs.«01_k».proof.Proof.Gen.ForgetDwIdeal.Frame
public import proofs.«01_k».proof.Proof.Kit
public import Idealize.ShloMosaic.Lib.Pipeline.ReadBack
public import Idealize.ShloMosaic.Lib.Pipeline.ValueKit
public import Idealize.ShloMosaic.Adequacy
public import proofs.«01_k».proof.Proof.Gen.ForgetRefIdeal.Run
@[expose] public section
set_option maxRecDepth 16384
noncomputable section
/-! The product over the tokens: each output block adds up eight blocks of tokens, which make the sum over all. -/
namespace Cert.Proof.MmForgetDw
open Cert.ForgetDwIdeal Cert.ForgetDwIdeal.Gen Idealize.ShloMosaic Idealize.ShloMosaic.TcCoe Idealize.SL.Sem

/-- One block's step: the block's product added to what the output held. -/
theorem pay2_at (o : FVec Ideal S128x1024 .f32) (x : FVec Ideal S2048x128 .bf16) (y : FVec Ideal S2048x1024 .bf16) (i : Fin 128) (j : Fin 1024) :
    k0_pay2 (F := Ideal) o x y (ix2 i j) = (o (ix2 i j) : EReal) + ∑ p : Fin 2048, (x (ix2 p i) : EReal) * (y (ix2 p j) : EReal) := by
  unfold k0_pay2
  pointwise
  try simp only [zero_add]

theorem pay1_at (q : S128x1024.Idx) : k0_pay1 (F := Ideal) q = (0 : EReal) := by
  unfold k0_pay1
  idx_vars q
  pointwise

variable (m : (ℓ : Loc nD τ sig) → Buf (Elt Ideal) ℓ) (c : Dev nD)

/-- The two arguments. -/
def aX : (⟨2, ![16384, 128]⟩ : Shape).Idx → EReal := rd m c main_arg0
def aY : (⟨2, ![16384, 1024]⟩ : Shape).Idx → EReal := rd m c main_arg1

theorem nt (t : Fin cfg0.N) : t.val < 8 := lt_of_lt_of_eq t.isLt (show cfg0.N = 8 from N_0)
def row (t : Fin cfg0.N) (p : Fin 2048) : Fin 16384 := ⟨t.val % 8 * 2048 + p.val, by omega⟩
def col (t : Fin cfg0.N) (i : Fin 128) : Fin 128 := ⟨t.val / 8 * 128 + i.val, by have := nt t; omega⟩

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem b0 (t : Fin cfg0.N) (p : Fin 2048) (i : Fin 128) :
    iblk m c 0 t (ix2 p i : S2048x128.Idx) = aX m c (ix2 (row t p) (col t i)) := by
  refine Eq.trans (b := V m c main_arg0 (ix2 (row t p) (col t i))) ?_ (by entry_read; rfl)
  blk_ext [iblk, idx t, row, col]

theorem b1 (t : Fin cfg0.N) (p : Fin 2048) (q1 : Fin 1024) :
    iblk m c 1 t (ix2 p q1 : S2048x1024.Idx) = aY m c (ix2 (row t p) q1) := by
  refine Eq.trans (b := V m c main_arg1 (ix2 (row t p) q1)) ?_ (by entry_read; rfl)
  blk_ext [iblk, idx t, row, col]

/-- The product of two columns, over the tokens. -/
def G (X : (⟨2, ![16384, 128]⟩ : Shape).Idx → EReal) (Y : (⟨2, ![16384, 1024]⟩ : Shape).Idx → EReal) (k : Fin 128) (j : Fin 1024) : EReal :=
  ∑ s : Fin 16384, X (ix2 s k) * Y (ix2 s j)

def part (t : Fin cfg0.N) (i : Fin 128) (j : Fin 1024) : EReal :=
  ∑ p : Fin 2048, aX m c (ix2 (row t p) (col t i)) * aY m c (ix2 (row t p) j)

theorem oA (t : Fin cfg0.N) (h0 : t.val % 8 = 0) (q : S128x1024.Idx) :
    outsAt0 m c t.val t.isLt q = 0 + part m c t (q 0) (q 1) := by
  rw [outsAt0_A m c t h0]
  idx_vars q
  frame_out
  try simp only [read_unread_whole]
  try simp only [View.read_whole, ReadAs.apply_same]
  refine (pay2_at _ _ _ _ _).trans ?_
  refine congrArg₂ (fun u v : EReal => u + v) ?_ (Finset.sum_congr rfl fun p _ => congrArg₂ (fun u v : EReal => u * v) (b0 m c t p q0) (b1 m c t p q1))
  exact pay1_at _

theorem oB (t : Fin cfg0.N) (h0 : ¬ t.val % 8 = 0) (q : S128x1024.Idx) :
    outsAt0 m c t.val t.isLt q = outsAt0 m c (t.val - 1) (Nat.lt_of_le_of_lt (Nat.sub_le _ _) t.isLt) q + part m c t (q 0) (q 1) := by
  rw [outsAt0_B m c t h0]
  idx_vars q
  frame_out
  try simp only [read_unread_whole]
  try simp only [View.read_whole, ReadAs.apply_same]
  refine (pay2_at _ _ _ _ _).trans ?_
  exact congrArg₂ (fun u v : EReal => u + v) rfl (Finset.sum_congr rfl fun p _ => congrArg₂ (fun u v : EReal => u * v) (b0 m c t p q0) (b1 m c t p q1))

/-- A sum over the token rows, block of rows by block of rows. -/
theorem sum_rows (F : Fin 16384 → EReal) : ∑ s : Fin 8, ∑ p : Fin 2048, F ⟨s.val * 2048 + p.val, by omega⟩ = ∑ i, F i :=
  Fin.sum_mul_add_congr fun s k hl => rfl

theorem whole (t : Fin cfg0.N) (i : Fin 128) (j : Fin 1024) :
    ∑ s : Fin 8, part m c ⟨8 * (t.val / 8) + s.val, by have := nt t; have := (show cfg0.N = 8 from N_0); omega⟩ i j = G (aX m c) (aY m c) (col t i) j := by
  unfold G
  rw [← sum_rows]
  refine Finset.sum_congr rfl fun s _ => Finset.sum_congr rfl fun p _ => ?_
  have h : ∀ (t' : Fin cfg0.N), t'.val = 8 * (t.val / 8) + s.val → row t' p = ⟨s.val * 2048 + p.val, by omega⟩ ∧ col t' i = col t i := by
    intro t' e
    refine ⟨Fin.ext ?_, Fin.ext ?_⟩
    · show t'.val % 8 * 2048 + p.val = s.val * 2048 + p.val
      rw [e]; omega
    · show t'.val / 8 * 128 + i.val = t.val / 8 * 128 + i.val
      rw [e]; omega
  obtain ⟨h1, h2⟩ := h ⟨8 * (t.val / 8) + s.val, by have := nt t; have := (show cfg0.N = 8 from N_0); omega⟩ rfl
  rw [h1, h2]

theorem fin : (dats m 0 c).arrAt 2 cfg0.N = (fun q => G (aX m c) (aY m c) (q 0) (q 1) : FVec Ideal S128x1024 .f32) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (fun t q => part m c t (q 0) (q 1))
    (fun t h0 q => oA m c t h0 q) (fun t h0 q => oB m c t h0 q) t ((flush0_2 t).mp hf) _, zero_add]
  refine (whole m c t (y 0) (y 1)).trans (congrArg₂ (G (aX m c) (aY m c)) (Fin.ext ?_) (Fin.ext ?_)) <;> blk_simp [idx t, col]

theorem run (ρ : Dev nD → PrngReg) : θ_run (defs (F := Ideal)) (onTc (τ := τ) (main (F := Ideal))) ⟨m, fun _ => 0, ρ⟩ (fun r => ∀ c : Dev nD,
      rd r.2.mem c main_v0 = (fun q => G (aX m c) (aY m c) (q 0) (q 1) : FVec Ideal S128x1024 .f32)
      ∧ rd r.2.mem c main_arg0 = rd m c main_arg0
      ∧ rd r.2.mem c main_arg1 = rd m c main_arg1) := by
  refine (θ_run defs _ _).mono (fun r h c => ?_) (θ_run_and (run_main m ρ) (unchanged m ρ))
  exact ⟨((h.1 c).1 2).trans (fin m c), h.2 c⟩
end Cert.Proof.MmForgetDw

namespace Cert.Proof.MmForgetDw.ForgetRef
open Cert.ForgetRefIdeal Idealize.ShloMosaic Idealize.ShloMosaic.TcCoe Idealize.SL.Sem
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.ForgetRefIdeal.Value.run m ρ)

theorem run : θ_run (defs (F := Ideal)) (onTc (τ := τ) (main (F := Ideal))) ⟨m, fun _ => 0, ρ⟩ (fun r => ∀ c : Dev nD,
      rd r.2.mem c main_v6 = (fun q => G (rd m c main_arg0) (rd m c main_arg1) (q 0) (q 1) : FVec Ideal S128x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.ForgetRefIdeal.Value.run m ρ)
  funext q
  idx_vars q
  pointwise
  rfl
end Cert.Proof.MmForgetDw.ForgetRef
-- ==== Proof.MmBranchDwA.lean ====
module
public import proofs.«01_k».proof.Proof.Gen.BranchDwAIdeal.Frame
public import proofs.«01_k».proof.Proof.Kit
public import Idealize.ShloMosaic.Lib.Pipeline.ReadBack
public import Idealize.ShloMosaic.Lib.Pipeline.ValueKit
public import Idealize.ShloMosaic.Adequacy
public import proofs.«01_k».proof.Proof.Gen.BranchRefAIdeal.Run
@[expose] public section
set_option maxRecDepth 16384
noncomputable section
/-! The product over the tokens: each output block adds up eight blocks of tokens, which make the sum over all. -/
namespace Cert.Proof.MmBranchDwA
open Cert.BranchDwAIdeal Cert.BranchDwAIdeal.Gen Idealize.ShloMosaic Idealize.ShloMosaic.TcCoe Idealize.SL.Sem

/-- One block's step: the block's product added to what the output held. -/
theorem pay2_at (o : FVec Ideal S512x1024 .f32) (x : FVec Ideal S2048x512 .bf16) (y : FVec Ideal S2048x1024 .bf16) (i : Fin 512) (j : Fin 1024) :
    k0_pay2 (F := Ideal) o x y (ix2 i j) = (o (ix2 i j) : EReal) + ∑ p : Fin 2048, (x (ix2 p i) : EReal) * (y (ix2 p j) : EReal) := by
  unfold k0_pay2
  pointwise
  try simp only [zero_add]

theorem pay1_at (q : S512x1024.Idx) : k0_pay1 (F := Ideal) q = (0 : EReal) := by
  unfold k0_pay1
  idx_vars q
  pointwise

variable (m : (ℓ : Loc nD τ sig) → Buf (Elt Ideal) ℓ) (c : Dev nD)

/-- The two arguments. -/
def aX : (⟨2, ![16384, 512]⟩ : Shape).Idx → EReal := rd m c main_arg0
def aY : (⟨2, ![16384, 3072]⟩ : Shape).Idx → EReal := rd m c main_arg1

theorem nt (t : Fin cfg0.N) : t.val < 8 := lt_of_lt_of_eq t.isLt (show cfg0.N = 8 from N_0)
def row (t : Fin cfg0.N) (p : Fin 2048) : Fin 16384 := ⟨t.val % 8 * 2048 + p.val, by omega⟩
def col (t : Fin cfg0.N) (i : Fin 512) : Fin 512 := ⟨t.val / 8 * 512 + i.val, by have := nt t; omega⟩
def cy (j : Fin 1024) : Fin 3072 := ⟨j.val, by omega⟩

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem b0 (t : Fin cfg0.N) (p : Fin 2048) (i : Fin 512) :
    iblk m c 0 t (ix2 p i : S2048x512.Idx) = aX m c (ix2 (row t p) (col t i)) := by
  refine Eq.trans (b := V m c main_arg0 (ix2 (row t p) (col t i))) ?_ (by entry_read; rfl)
  blk_ext [iblk, idx t, row, col]

theorem b1 (t : Fin cfg0.N) (p : Fin 2048) (q1 : Fin 1024) :
    iblk m c 1 t (ix2 p q1 : S2048x1024.Idx) = aY m c (ix2 (row t p) (cy q1)) := by
  refine Eq.trans (b := V m c main_arg1 (ix2 (row t p) (cy q1))) ?_ (by entry_read; rfl)
  blk_ext [iblk, idx t, row, col, cy]

/-- The product of two columns, over the tokens. -/
def G (X : (⟨2, ![16384, 512]⟩ : Shape).Idx → EReal) (Y : (⟨2, ![16384, 3072]⟩ : Shape).Idx → EReal) (k : Fin 512) (j : Fin 1024) : EReal :=
  ∑ s : Fin 16384, X (ix2 s k) * Y (ix2 s (cy j))

def part (t : Fin cfg0.N) (i : Fin 512) (j : Fin 1024) : EReal :=
  ∑ p : Fin 2048, aX m c (ix2 (row t p) (col t i)) * aY m c (ix2 (row t p) (cy j))

theorem oA (t : Fin cfg0.N) (h0 : t.val % 8 = 0) (q : S512x1024.Idx) :
    outsAt0 m c t.val t.isLt q = 0 + part m c t (q 0) (q 1) := by
  rw [outsAt0_A m c t h0]
  idx_vars q
  frame_out
  try simp only [read_unread_whole]
  try simp only [View.read_whole, ReadAs.apply_same]
  refine (pay2_at _ _ _ _ _).trans ?_
  refine congrArg₂ (fun u v : EReal => u + v) ?_ (Finset.sum_congr rfl fun p _ => congrArg₂ (fun u v : EReal => u * v) (b0 m c t p q0) (b1 m c t p q1))
  exact pay1_at _

theorem oB (t : Fin cfg0.N) (h0 : ¬ t.val % 8 = 0) (q : S512x1024.Idx) :
    outsAt0 m c t.val t.isLt q = outsAt0 m c (t.val - 1) (Nat.lt_of_le_of_lt (Nat.sub_le _ _) t.isLt) q + part m c t (q 0) (q 1) := by
  rw [outsAt0_B m c t h0]
  idx_vars q
  frame_out
  try simp only [read_unread_whole]
  try simp only [View.read_whole, ReadAs.apply_same]
  refine (pay2_at _ _ _ _ _).trans ?_
  exact congrArg₂ (fun u v : EReal => u + v) rfl (Finset.sum_congr rfl fun p _ => congrArg₂ (fun u v : EReal => u * v) (b0 m c t p q0) (b1 m c t p q1))

/-- A sum over the token rows, block of rows by block of rows. -/
theorem sum_rows (F : Fin 16384 → EReal) : ∑ s : Fin 8, ∑ p : Fin 2048, F ⟨s.val * 2048 + p.val, by omega⟩ = ∑ i, F i :=
  Fin.sum_mul_add_congr fun s k hl => rfl

theorem whole (t : Fin cfg0.N) (i : Fin 512) (j : Fin 1024) :
    ∑ s : Fin 8, part m c ⟨8 * (t.val / 8) + s.val, by have := nt t; have := (show cfg0.N = 8 from N_0); omega⟩ i j = G (aX m c) (aY m c) (col t i) j := by
  unfold G
  rw [← sum_rows]
  refine Finset.sum_congr rfl fun s _ => Finset.sum_congr rfl fun p _ => ?_
  have h : ∀ (t' : Fin cfg0.N), t'.val = 8 * (t.val / 8) + s.val → row t' p = ⟨s.val * 2048 + p.val, by omega⟩ ∧ col t' i = col t i := by
    intro t' e
    refine ⟨Fin.ext ?_, Fin.ext ?_⟩
    · show t'.val % 8 * 2048 + p.val = s.val * 2048 + p.val
      rw [e]; omega
    · show t'.val / 8 * 512 + i.val = t.val / 8 * 512 + i.val
      rw [e]; omega
  obtain ⟨h1, h2⟩ := h ⟨8 * (t.val / 8) + s.val, by have := nt t; have := (show cfg0.N = 8 from N_0); omega⟩ rfl
  rw [h1, h2]

theorem fin : (dats m 0 c).arrAt 2 cfg0.N = (fun q => G (aX m c) (aY m c) (q 0) (q 1) : FVec Ideal S512x1024 .f32) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (fun t q => part m c t (q 0) (q 1))
    (fun t h0 q => oA m c t h0 q) (fun t h0 q => oB m c t h0 q) t ((flush0_2 t).mp hf) _, zero_add]
  refine (whole m c t (y 0) (y 1)).trans (congrArg₂ (G (aX m c) (aY m c)) (Fin.ext ?_) (Fin.ext ?_)) <;> blk_simp [idx t, col]

theorem run (ρ : Dev nD → PrngReg) : θ_run (defs (F := Ideal)) (onTc (τ := τ) (main (F := Ideal))) ⟨m, fun _ => 0, ρ⟩ (fun r => ∀ c : Dev nD,
      rd r.2.mem c main_v0 = (fun q => G (aX m c) (aY m c) (q 0) (q 1) : FVec Ideal S512x1024 .f32)
      ∧ rd r.2.mem c main_arg0 = rd m c main_arg0
      ∧ rd r.2.mem c main_arg1 = rd m c main_arg1) := by
  refine (θ_run defs _ _).mono (fun r h c => ?_) (θ_run_and (run_main m ρ) (unchanged m ρ))
  exact ⟨((h.1 c).1 2).trans (fin m c), h.2 c⟩
end Cert.Proof.MmBranchDwA

namespace Cert.Proof.MmBranchDwA.BranchRefA
open Cert.BranchRefAIdeal Idealize.ShloMosaic Idealize.ShloMosaic.TcCoe Idealize.SL.Sem
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.BranchRefAIdeal.Value.run m ρ)

theorem run : θ_run (defs (F := Ideal)) (onTc (τ := τ) (main (F := Ideal))) ⟨m, fun _ => 0, ρ⟩ (fun r => ∀ c : Dev nD,
      rd r.2.mem c main_v6 = (fun q => G (rd m c main_arg0) (rd m c main_arg1) (q 0) (q 1) : FVec Ideal S512x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.BranchRefAIdeal.Value.run m ρ)
  funext q
  idx_vars q
  pointwise
  exact Finset.sum_congr rfl fun s _ => mul_comm (G := EReal) _ _
end Cert.Proof.MmBranchDwA.BranchRefA
-- ==== Proof.MmBranchDwB.lean ====
module
public import proofs.«01_k».proof.Proof.Gen.BranchDwBIdeal.Frame
public import proofs.«01_k».proof.Proof.Kit
public import Idealize.ShloMosaic.Lib.Pipeline.ReadBack
public import Idealize.ShloMosaic.Lib.Pipeline.ValueKit
public import Idealize.ShloMosaic.Adequacy
public import proofs.«01_k».proof.Proof.Gen.BranchRefBIdeal.Run
@[expose] public section
set_option maxRecDepth 16384
noncomputable section
/-! The product over the tokens: each output block adds up eight blocks of tokens, which make the sum over all. -/
namespace Cert.Proof.MmBranchDwB
open Cert.BranchDwBIdeal Cert.BranchDwBIdeal.Gen Idealize.ShloMosaic Idealize.ShloMosaic.TcCoe Idealize.SL.Sem

/-- One block's step: the block's product added to what the output held. -/
theorem pay2_at (o : FVec Ideal S512x1024 .f32) (x : FVec Ideal S2048x512 .bf16) (y : FVec Ideal S2048x1024 .bf16) (i : Fin 512) (j : Fin 1024) :
    k0_pay2 (F := Ideal) o x y (ix2 i j) = (o (ix2 i j) : EReal) + ∑ p : Fin 2048, (x (ix2 p i) : EReal) * (y (ix2 p j) : EReal) := by
  unfold k0_pay2
  pointwise
  try simp only [zero_add]

theorem pay1_at (q : S512x1024.Idx) : k0_pay1 (F := Ideal) q = (0 : EReal) := by
  unfold k0_pay1
  idx_vars q
  pointwise

variable (m : (ℓ : Loc nD τ sig) → Buf (Elt Ideal) ℓ) (c : Dev nD)

/-- The two arguments. -/
def aX : (⟨2, ![16384, 512]⟩ : Shape).Idx → EReal := rd m c main_arg0
def aY : (⟨2, ![16384, 3072]⟩ : Shape).Idx → EReal := rd m c main_arg1

theorem nt (t : Fin cfg0.N) : t.val < 8 := lt_of_lt_of_eq t.isLt (show cfg0.N = 8 from N_0)
def row (t : Fin cfg0.N) (p : Fin 2048) : Fin 16384 := ⟨t.val % 8 * 2048 + p.val, by omega⟩
def col (t : Fin cfg0.N) (i : Fin 512) : Fin 512 := ⟨t.val / 8 * 512 + i.val, by have := nt t; omega⟩
def cy (j : Fin 1024) : Fin 3072 := ⟨1*1024 + j.val, by omega⟩

theorem idx : ∀ t : Fin cfg0.N, win0_0.index t = ![t.val % 8, t.val / 8] ∧ win0_1.index t = ![t.val % 8, 1] ∧ win0_2.index t = ![t.val / 8, 0] :=
  (by decide +kernel : ∀ t : Fin grid0.N, _)

theorem b0 (t : Fin cfg0.N) (p : Fin 2048) (i : Fin 512) :
    iblk m c 0 t (ix2 p i : S2048x512.Idx) = aX m c (ix2 (row t p) (col t i)) := by
  refine Eq.trans (b := V m c main_arg0 (ix2 (row t p) (col t i))) ?_ (by entry_read; rfl)
  blk_ext [iblk, idx t, row, col]

theorem b1 (t : Fin cfg0.N) (p : Fin 2048) (q1 : Fin 1024) :
    iblk m c 1 t (ix2 p q1 : S2048x1024.Idx) = aY m c (ix2 (row t p) (cy q1)) := by
  refine Eq.trans (b := V m c main_arg1 (ix2 (row t p) (cy q1))) ?_ (by entry_read; rfl)
  blk_ext [iblk, idx t, row, col, cy]

/-- The product of two columns, over the tokens. -/
def G (X : (⟨2, ![16384, 512]⟩ : Shape).Idx → EReal) (Y : (⟨2, ![16384, 3072]⟩ : Shape).Idx → EReal) (k : Fin 512) (j : Fin 1024) : EReal :=
  ∑ s : Fin 16384, X (ix2 s k) * Y (ix2 s (cy j))

def part (t : Fin cfg0.N) (i : Fin 512) (j : Fin 1024) : EReal :=
  ∑ p : Fin 2048, aX m c (ix2 (row t p) (col t i)) * aY m c (ix2 (row t p) (cy j))

theorem oA (t : Fin cfg0.N) (h0 : t.val % 8 = 0) (q : S512x1024.Idx) :
    outsAt0 m c t.val t.isLt q = 0 + part m c t (q 0) (q 1) := by
  rw [outsAt0_A m c t h0]
  idx_vars q
  frame_out
  try simp only [read_unread_whole]
  try simp only [View.read_whole, ReadAs.apply_same]
  refine (pay2_at _ _ _ _ _).trans ?_
  refine congrArg₂ (fun u v : EReal => u + v) ?_ (Finset.sum_congr rfl fun p _ => congrArg₂ (fun u v : EReal => u * v) (b0 m c t p q0) (b1 m c t p q1))
  exact pay1_at _

theorem oB (t : Fin cfg0.N) (h0 : ¬ t.val % 8 = 0) (q : S512x1024.Idx) :
    outsAt0 m c t.val t.isLt q = outsAt0 m c (t.val - 1) (Nat.lt_of_le_of_lt (Nat.sub_le _ _) t.isLt) q + part m c t (q 0) (q 1) := by
  rw [outsAt0_B m c t h0]
  idx_vars q
  frame_out
  try simp only [read_unread_whole]
  try simp only [View.read_whole, ReadAs.apply_same]
  refine (pay2_at _ _ _ _ _).trans ?_
  exact congrArg₂ (fun u v : EReal => u + v) rfl (Finset.sum_congr rfl fun p _ => congrArg₂ (fun u v : EReal => u * v) (b0 m c t p q0) (b1 m c t p q1))

/-- A sum over the token rows, block of rows by block of rows. -/
theorem sum_rows (F : Fin 16384 → EReal) : ∑ s : Fin 8, ∑ p : Fin 2048, F ⟨s.val * 2048 + p.val, by omega⟩ = ∑ i, F i :=
  Fin.sum_mul_add_congr fun s k hl => rfl

theorem whole (t : Fin cfg0.N) (i : Fin 512) (j : Fin 1024) :
    ∑ s : Fin 8, part m c ⟨8 * (t.val / 8) + s.val, by have := nt t; have := (show cfg0.N = 8 from N_0); omega⟩ i j = G (aX m c) (aY m c) (col t i) j := by
  unfold G
  rw [← sum_rows]
  refine Finset.sum_congr rfl fun s _ => Finset.sum_congr rfl fun p _ => ?_
  have h : ∀ (t' : Fin cfg0.N), t'.val = 8 * (t.val / 8) + s.val → row t' p = ⟨s.val * 2048 + p.val, by omega⟩ ∧ col t' i = col t i := by
    intro t' e
    refine ⟨Fin.ext ?_, Fin.ext ?_⟩
    · show t'.val % 8 * 2048 + p.val = s.val * 2048 + p.val
      rw [e]; omega
    · show t'.val / 8 * 512 + i.val = t.val / 8 * 512 + i.val
      rw [e]; omega
  obtain ⟨h1, h2⟩ := h ⟨8 * (t.val / 8) + s.val, by have := nt t; have := (show cfg0.N = 8 from N_0); omega⟩ rfl
  rw [h1, h2]

theorem fin : (dats m 0 c).arrAt 2 cfg0.N = (fun q => G (aX m c) (aY m c) (q 0) (q 1) : FVec Ideal S512x1024 .f32) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (fun t q => part m c t (q 0) (q 1))
    (fun t h0 q => oA m c t h0 q) (fun t h0 q => oB m c t h0 q) t ((flush0_2 t).mp hf) _, zero_add]
  refine (whole m c t (y 0) (y 1)).trans (congrArg₂ (G (aX m c) (aY m c)) (Fin.ext ?_) (Fin.ext ?_)) <;> blk_simp [idx t, col]

theorem run (ρ : Dev nD → PrngReg) : θ_run (defs (F := Ideal)) (onTc (τ := τ) (main (F := Ideal))) ⟨m, fun _ => 0, ρ⟩ (fun r => ∀ c : Dev nD,
      rd r.2.mem c main_v0 = (fun q => G (aX m c) (aY m c) (q 0) (q 1) : FVec Ideal S512x1024 .f32)
      ∧ rd r.2.mem c main_arg0 = rd m c main_arg0
      ∧ rd r.2.mem c main_arg1 = rd m c main_arg1) := by
  refine (θ_run defs _ _).mono (fun r h c => ?_) (θ_run_and (run_main m ρ) (unchanged m ρ))
  exact ⟨((h.1 c).1 2).trans (fin m c), h.2 c⟩
end Cert.Proof.MmBranchDwB

namespace Cert.Proof.MmBranchDwB.BranchRefB
open Cert.BranchRefBIdeal Idealize.ShloMosaic Idealize.ShloMosaic.TcCoe Idealize.SL.Sem
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.BranchRefBIdeal.Value.run m ρ)

theorem run : θ_run (defs (F := Ideal)) (onTc (τ := τ) (main (F := Ideal))) ⟨m, fun _ => 0, ρ⟩ (fun r => ∀ c : Dev nD,
      rd r.2.mem c main_v6 = (fun q => G (rd m c main_arg0) (rd m c main_arg1) (q 0) (q 1) : FVec Ideal S512x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.BranchRefBIdeal.Value.run m ρ)
  funext q
  idx_vars q
  pointwise
  exact Finset.sum_congr rfl fun s _ => mul_comm (G := EReal) _ _
end Cert.Proof.MmBranchDwB.BranchRefB
-- ==== Proof.MmBranchDwC.lean ====
module
public import proofs.«01_k».proof.Proof.Gen.BranchDwCIdeal.Frame
public import proofs.«01_k».proof.Proof.Kit
public import Idealize.ShloMosaic.Lib.Pipeline.ReadBack
public import Idealize.ShloMosaic.Lib.Pipeline.ValueKit
public import Idealize.ShloMosaic.Adequacy
public import proofs.«01_k».proof.Proof.Gen.BranchRefCIdeal.Run
@[expose] public section
set_option maxRecDepth 16384
noncomputable section
/-! The product over the tokens: each output block adds up eight blocks of tokens, which make the sum over all. -/
namespace Cert.Proof.MmBranchDwC
open Cert.BranchDwCIdeal Cert.BranchDwCIdeal.Gen Idealize.ShloMosaic Idealize.ShloMosaic.TcCoe Idealize.SL.Sem

/-- One block's step: the block's product added to what the output held. -/
theorem pay2_at (o : FVec Ideal S512x1024 .f32) (x : FVec Ideal S2048x512 .bf16) (y : FVec Ideal S2048x1024 .bf16) (i : Fin 512) (j : Fin 1024) :
    k0_pay2 (F := Ideal) o x y (ix2 i j) = (o (ix2 i j) : EReal) + ∑ p : Fin 2048, (x (ix2 p i) : EReal) * (y (ix2 p j) : EReal) := by
  unfold k0_pay2
  pointwise
  try simp only [zero_add]

theorem pay1_at (q : S512x1024.Idx) : k0_pay1 (F := Ideal) q = (0 : EReal) := by
  unfold k0_pay1
  idx_vars q
  pointwise

variable (m : (ℓ : Loc nD τ sig) → Buf (Elt Ideal) ℓ) (c : Dev nD)

/-- The two arguments. -/
def aX : (⟨2, ![16384, 512]⟩ : Shape).Idx → EReal := rd m c main_arg0
def aY : (⟨2, ![16384, 3072]⟩ : Shape).Idx → EReal := rd m c main_arg1

theorem nt (t : Fin cfg0.N) : t.val < 8 := lt_of_lt_of_eq t.isLt (show cfg0.N = 8 from N_0)
def row (t : Fin cfg0.N) (p : Fin 2048) : Fin 16384 := ⟨t.val % 8 * 2048 + p.val, by omega⟩
def col (t : Fin cfg0.N) (i : Fin 512) : Fin 512 := ⟨t.val / 8 * 512 + i.val, by have := nt t; omega⟩
def cy (j : Fin 1024) : Fin 3072 := ⟨2*1024 + j.val, by omega⟩

theorem idx : ∀ t : Fin cfg0.N, win0_0.index t = ![t.val % 8, t.val / 8] ∧ win0_1.index t = ![t.val % 8, 2] ∧ win0_2.index t = ![t.val / 8, 0] :=
  (by decide +kernel : ∀ t : Fin grid0.N, _)

theorem b0 (t : Fin cfg0.N) (p : Fin 2048) (i : Fin 512) :
    iblk m c 0 t (ix2 p i : S2048x512.Idx) = aX m c (ix2 (row t p) (col t i)) := by
  refine Eq.trans (b := V m c main_arg0 (ix2 (row t p) (col t i))) ?_ (by entry_read; rfl)
  blk_ext [iblk, idx t, row, col]

theorem b1 (t : Fin cfg0.N) (p : Fin 2048) (q1 : Fin 1024) :
    iblk m c 1 t (ix2 p q1 : S2048x1024.Idx) = aY m c (ix2 (row t p) (cy q1)) := by
  refine Eq.trans (b := V m c main_arg1 (ix2 (row t p) (cy q1))) ?_ (by entry_read; rfl)
  blk_ext [iblk, idx t, row, col, cy]

/-- The product of two columns, over the tokens. -/
def G (X : (⟨2, ![16384, 512]⟩ : Shape).Idx → EReal) (Y : (⟨2, ![16384, 3072]⟩ : Shape).Idx → EReal) (k : Fin 512) (j : Fin 1024) : EReal :=
  ∑ s : Fin 16384, X (ix2 s k) * Y (ix2 s (cy j))

def part (t : Fin cfg0.N) (i : Fin 512) (j : Fin 1024) : EReal :=
  ∑ p : Fin 2048, aX m c (ix2 (row t p) (col t i)) * aY m c (ix2 (row t p) (cy j))

theorem oA (t : Fin cfg0.N) (h0 : t.val % 8 = 0) (q : S512x1024.Idx) :
    outsAt0 m c t.val t.isLt q = 0 + part m c t (q 0) (q 1) := by
  rw [outsAt0_A m c t h0]
  idx_vars q
  frame_out
  try simp only [read_unread_whole]
  try simp only [View.read_whole, ReadAs.apply_same]
  refine (pay2_at _ _ _ _ _).trans ?_
  refine congrArg₂ (fun u v : EReal => u + v) ?_ (Finset.sum_congr rfl fun p _ => congrArg₂ (fun u v : EReal => u * v) (b0 m c t p q0) (b1 m c t p q1))
  exact pay1_at _

theorem oB (t : Fin cfg0.N) (h0 : ¬ t.val % 8 = 0) (q : S512x1024.Idx) :
    outsAt0 m c t.val t.isLt q = outsAt0 m c (t.val - 1) (Nat.lt_of_le_of_lt (Nat.sub_le _ _) t.isLt) q + part m c t (q 0) (q 1) := by
  rw [outsAt0_B m c t h0]
  idx_vars q
  frame_out
  try simp only [read_unread_whole]
  try simp only [View.read_whole, ReadAs.apply_same]
  refine (pay2_at _ _ _ _ _).trans ?_
  exact congrArg₂ (fun u v : EReal => u + v) rfl (Finset.sum_congr rfl fun p _ => congrArg₂ (fun u v : EReal => u * v) (b0 m c t p q0) (b1 m c t p q1))

/-- A sum over the token rows, block of rows by block of rows. -/
theorem sum_rows (F : Fin 16384 → EReal) : ∑ s : Fin 8, ∑ p : Fin 2048, F ⟨s.val * 2048 + p.val, by omega⟩ = ∑ i, F i :=
  Fin.sum_mul_add_congr fun s k hl => rfl

theorem whole (t : Fin cfg0.N) (i : Fin 512) (j : Fin 1024) :
    ∑ s : Fin 8, part m c ⟨8 * (t.val / 8) + s.val, by have := nt t; have := (show cfg0.N = 8 from N_0); omega⟩ i j = G (aX m c) (aY m c) (col t i) j := by
  unfold G
  rw [← sum_rows]
  refine Finset.sum_congr rfl fun s _ => Finset.sum_congr rfl fun p _ => ?_
  have h : ∀ (t' : Fin cfg0.N), t'.val = 8 * (t.val / 8) + s.val → row t' p = ⟨s.val * 2048 + p.val, by omega⟩ ∧ col t' i = col t i := by
    intro t' e
    refine ⟨Fin.ext ?_, Fin.ext ?_⟩
    · show t'.val % 8 * 2048 + p.val = s.val * 2048 + p.val
      rw [e]; omega
    · show t'.val / 8 * 512 + i.val = t.val / 8 * 512 + i.val
      rw [e]; omega
  obtain ⟨h1, h2⟩ := h ⟨8 * (t.val / 8) + s.val, by have := nt t; have := (show cfg0.N = 8 from N_0); omega⟩ rfl
  rw [h1, h2]

theorem fin : (dats m 0 c).arrAt 2 cfg0.N = (fun q => G (aX m c) (aY m c) (q 0) (q 1) : FVec Ideal S512x1024 .f32) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) (fun t q => part m c t (q 0) (q 1))
    (fun t h0 q => oA m c t h0 q) (fun t h0 q => oB m c t h0 q) t ((flush0_2 t).mp hf) _, zero_add]
  refine (whole m c t (y 0) (y 1)).trans (congrArg₂ (G (aX m c) (aY m c)) (Fin.ext ?_) (Fin.ext ?_)) <;> blk_simp [idx t, col]

theorem run (ρ : Dev nD → PrngReg) : θ_run (defs (F := Ideal)) (onTc (τ := τ) (main (F := Ideal))) ⟨m, fun _ => 0, ρ⟩ (fun r => ∀ c : Dev nD,
      rd r.2.mem c main_v0 = (fun q => G (aX m c) (aY m c) (q 0) (q 1) : FVec Ideal S512x1024 .f32)
      ∧ rd r.2.mem c main_arg0 = rd m c main_arg0
      ∧ rd r.2.mem c main_arg1 = rd m c main_arg1) := by
  refine (θ_run defs _ _).mono (fun r h c => ?_) (θ_run_and (run_main m ρ) (unchanged m ρ))
  exact ⟨((h.1 c).1 2).trans (fin m c), h.2 c⟩
end Cert.Proof.MmBranchDwC

namespace Cert.Proof.MmBranchDwC.BranchRefC
open Cert.BranchRefCIdeal Idealize.ShloMosaic Idealize.ShloMosaic.TcCoe Idealize.SL.Sem
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.BranchRefCIdeal.Value.run m ρ)

theorem run : θ_run (defs (F := Ideal)) (onTc (τ := τ) (main (F := Ideal))) ⟨m, fun _ => 0, ρ⟩ (fun r => ∀ c : Dev nD,
      rd r.2.mem c main_v6 = (fun q => G (rd m c main_arg0) (rd m c main_arg1) (q 0) (q 1) : FVec Ideal S512x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.BranchRefCIdeal.Value.run m ρ)
  funext q
  idx_vars q
  pointwise
  exact Finset.sum_congr rfl fun s _ => mul_comm (G := EReal) _ _
end Cert.Proof.MmBranchDwC.BranchRefC
-- ==== Proof.PfKer.lean ====
/- The values the joint projection's kernel computes at a grid point, as formulas in the entries of its blocks. -/
module
public import proofs.«01_k».proof.Proof.Gen.ProjFwdIdeal.Skeleton
public import proofs.«01_k».proof.Proof.EKit
@[expose] public section
set_option maxRecDepth 16384
noncomputable section
namespace Cert.Proof.PfKer
open Cert.ProjFwdIdeal Cert.ProjFwdIdeal.Gen Idealize.ShloMosaic Idealize.ShloMosaic.TcCoe Idealize.SL.Sem

/-- A row of the product of the normalised rows with the rows of a weight. -/
def pE {n p : ℕ} (x : Fin n → Fin 1024 → EReal) (g : Fin 1 → Fin 1024 → EReal) (w : Fin p → Fin 1024 → EReal) (i : Fin n) (f : Fin p) : EReal :=
  ∑ k : Fin 1024, x i k * nrm (x i) * g 0 k * w f k

theorem h_pay3 (x : Fin 512 → Fin 1024 → EReal) (g : Fin 1 → Fin 1024 → EReal) : k0_pay3 (F := Ideal) (ea x) (ea g) = ea (fun i l => x i l * nrm (x i) * g 0 l) := by
  unfold k0_pay3
  funext q; idx_vars q
  pointwise
  try simp only [zero_add, add_zero, ea_ix]
  try rfl

theorem h_pay4 (x : Fin 512 → Fin 1024 → EReal) (g : Fin 1 → Fin 1024 → EReal) (w : Fin 1536 → Fin 1024 → EReal) : k0_pay4 (F := Ideal) (ea x) (ea g) (ea w) = ea (pE x g w) := by
  unfold k0_pay4
  simp only [h_pay3]
  funext q; idx_vars q
  pointwise
  try simp only [zero_add, add_zero, ea_ix]
  try rfl

theorem h_pay5 (x : Fin 512 → Fin 1024 → EReal) (g : Fin 1 → Fin 1024 → EReal) (w : Fin 1024 → Fin 1024 → EReal) : k0_pay5 (F := Ideal) (ea x) (ea g) (ea w) = ea (pE x g w) := by
  unfold k0_pay5
  simp only [h_pay3]
  funext q; idx_vars q
  pointwise
  try simp only [zero_add, add_zero, ea_ix]
  try rfl

theorem h_pay6 (x : Fin 512 → Fin 1024 → EReal) (g : Fin 1 → Fin 1024 → EReal) (w : Fin 1536 → Fin 1024 → EReal) : k0_pay6 (F := Ideal) (ea x) (ea g) (ea w) = ea (pE x g w) := by
  unfold k0_pay6
  simp only [h_pay3]
  funext q; idx_vars q
  pointwise
  try simp only [zero_add, add_zero, ea_ix]
  try rfl

theorem h_pay1 (x : Fin 512 → Fin 1024 → EReal) (g : Fin 1 → Fin 1024 → EReal) (w : Fin 128 → Fin 1024 → EReal) : k0_pay1 (F := Ideal) (ea (fun i l => x i l * nrm (x i) * g 0 l)) (ea w) = ea (pE x g w) := by
  unfold k0_pay1
  funext q; idx_vars q
  pointwise
  try simp only [zero_add, add_zero, ea_ix]
  try rfl

theorem h_pay2 (x : Fin 512 → Fin 1024 → EReal) (g : Fin 1 → Fin 1024 → EReal) (w : Fin 3072 → Fin 1024 → EReal) : k0_pay2 (F := Ideal) (ea (fun i l => x i l * nrm (x i) * g 0 l)) (ea w) = ea (pE x g w) := by
  unfold k0_pay2
  funext q; idx_vars q
  pointwise
  try simp only [zero_add, add_zero, ea_ix]
  try rfl
end Cert.Proof.PfKer
end
-- ==== Proof.PfBlk.lean ====
/- The blocks the joint projection's kernel reads and leaves at each grid point, the arrays it ends with, and its run. -/
module
public import proofs.«01_k».proof.Proof.Gen.ProjFwdIdeal.Frame
public import proofs.«01_k».proof.Proof.PfKer
public import Idealize.ShloMosaic.Lib.Pipeline.ReadBack
public import Idealize.ShloMosaic.Lib.Pipeline.ValueKit
@[expose] public section
set_option maxRecDepth 16384
set_option maxHeartbeats 4000000
noncomputable section
namespace Cert.Proof.PfBlk
open Cert.ProjFwdIdeal Cert.ProjFwdIdeal.Gen Idealize.ShloMosaic Idealize.ShloMosaic.TcCoe Idealize.SL.Sem PfKer
variable (m : (ℓ : Loc nD τ sig) → Buf (Elt Ideal) ℓ)

def rc (j : Fin 1536) : Fin 4096 := ⟨j.val, by omega⟩
def rs (j : Fin 1024) : Fin 4096 := ⟨1536 + j.val, by omega⟩
def rq (j : Fin 1536) : Fin 4096 := ⟨2560 + j.val, by omega⟩

theorem ld_c (a : Fin 4096 → Fin 1024 → EReal) : View.ld (Val := Elt Ideal) (e' := .bf16) (S := S4096x1024) (ea a) (Rect.unit (s := S4096x1024) ![0, 0] ![1536, 1024] inb_S4096x1024_S1536x1024_0_0) = ea (fun i j => a (rc i) j) := by
  funext q; idx_vars q
  pointwise
  try rfl

theorem ld_s (a : Fin 4096 → Fin 1024 → EReal) : View.ld (Val := Elt Ideal) (e' := .bf16) (S := S4096x1024) (ea a) (Rect.unit (s := S4096x1024) ![1536, 0] ![1024, 1024] inb_S4096x1024_S1024x1024_1536_0) = ea (fun i j => a (rs i) j) := by
  funext q; idx_vars q
  pointwise
  try rfl

theorem ld_q (a : Fin 4096 → Fin 1024 → EReal) : View.ld (Val := Elt Ideal) (e' := .bf16) (S := S4096x1024) (ea a) (Rect.unit (s := S4096x1024) ![2560, 0] ![1536, 1024] inb_S4096x1024_S1536x1024_2560_0) = ea (fun i j => a (rq i) j) := by
  funext q; idx_vars q
  pointwise
  try rfl

theorem ld_f (a : Fin 128 → Fin 1024 → EReal) : View.ld (Val := Elt Ideal) (e' := .bf16) (S := S128x1024) (ea a) (Rect.unit (s := S128x1024) ![0, 0] ![128, 1024] inb_S128x1024_S128x1024_0_0) = ea a := by
  funext q; idx_vars q
  pointwise
  try rfl

theorem ld_e (a : Fin 3072 → Fin 1024 → EReal) : View.ld (Val := Elt Ideal) (e' := .bf16) (S := S3072x1024) (ea a) (Rect.unit (s := S3072x1024) ![0, 0] ![3072, 1024] inb_S3072x1024_S3072x1024_0_0) = ea a := by
  funext q; idx_vars q
  pointwise
  try rfl

theorem canon_fill4096 (X : FVec Ideal S4096x1024 .bf16) : View.canon (Val := Elt Ideal) (e := .bf16) [⟨Rect.whole S4096x1024, X⟩] = X := by
  funext q
  canon_tiles q h
  refine congrArg X ?_
  funext a
  fin_cases a
  · exact Fin.ext h0.symm
  · exact Fin.ext h1.symm
theorem cov_whole4096 (v : View sig .tc .vmem S4096x1024 .bf16) (X : FVec Ideal S4096x1024 .bf16) (r : Rect S4096x1024) :
    v.readCov (Val := Elt Ideal) [⟨Rect.whole S4096x1024, X⟩] r.toLoadRect = View.ld X r := by
  rw [View.readCov_eq_canon_ld]
  · rw [canon_fill4096]
  · intro y; exact ⟨_, List.mem_singleton_self _, by rw [Rect.set_whole]; exact Finset.mem_univ y⟩
theorem canon_fill128 (X : FVec Ideal S128x1024 .bf16) : View.canon (Val := Elt Ideal) (e := .bf16) [⟨Rect.whole S128x1024, X⟩] = X := by
  funext q
  canon_tiles q h
  refine congrArg X ?_
  funext a
  fin_cases a
  · exact Fin.ext h0.symm
  · exact Fin.ext h1.symm
theorem cov_whole128 (v : View sig .tc .vmem S128x1024 .bf16) (X : FVec Ideal S128x1024 .bf16) (r : Rect S128x1024) :
    v.readCov (Val := Elt Ideal) [⟨Rect.whole S128x1024, X⟩] r.toLoadRect = View.ld X r := by
  rw [View.readCov_eq_canon_ld]
  · rw [canon_fill128]
  · intro y; exact ⟨_, List.mem_singleton_self _, by rw [Rect.set_whole]; exact Finset.mem_univ y⟩
theorem canon_fill3072 (X : FVec Ideal S3072x1024 .bf16) : View.canon (Val := Elt Ideal) (e := .bf16) [⟨Rect.whole S3072x1024, X⟩] = X := by
  funext q
  canon_tiles q h
  refine congrArg X ?_
  funext a
  fin_cases a
  · exact Fin.ext h0.symm
  · exact Fin.ext h1.symm
theorem cov_whole3072 (v : View sig .tc .vmem S3072x1024 .bf16) (X : FVec Ideal S3072x1024 .bf16) (r : Rect S3072x1024) :
    v.readCov (Val := Elt Ideal) [⟨Rect.whole S3072x1024, X⟩] r.toLoadRect = View.ld X r := by
  rw [View.readCov_eq_canon_ld]
  · rw [canon_fill3072]
  · intro y; exact ⟨_, List.mem_singleton_self _, by rw [Rect.set_whole]; exact Finset.mem_univ y⟩

theorem sc0 (c : Dev nD) (n : ℕ) : ∀ hn : n < cfg0.N, (outsAt0 m c n hn).2.2.2.2.2.1 = V m c main_v4 := by
  induction n with
  | zero =>
    intro hn
    rw [outsAt0_A m c ⟨0, hn⟩ rfl]
    funext q
    frame_out
    exact congrFun (canon_fill4096 (V m c main_v4)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2.1 = V m c main_v4 := by rintro k hk rfl; exact ih hk
    rw [outsAt0_B m c ⟨n + 1, hn⟩ h0]
    funext q
    frame_out
    unfold sout0_B_0
    exact congrFun (e _ _ rfl) q

theorem sc1 (c : Dev nD) (n : ℕ) : ∀ hn : n < cfg0.N, (outsAt0 m c n hn).2.2.2.2.2.2.1 = V m c main_v3 := by
  induction n with
  | zero =>
    intro hn
    rw [outsAt0_A m c ⟨0, hn⟩ rfl]
    funext q
    frame_out
    exact congrFun (canon_fill128 (V m c main_v3)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2.2.1 = V m c main_v3 := by rintro k hk rfl; exact ih hk
    rw [outsAt0_B m c ⟨n + 1, hn⟩ h0]
    funext q
    frame_out
    unfold sout0_B_1
    exact congrFun (e _ _ rfl) q

theorem sc2 (c : Dev nD) (n : ℕ) : ∀ hn : n < cfg0.N, (outsAt0 m c n hn).2.2.2.2.2.2.2 = V m c main_v5 := by
  induction n with
  | zero =>
    intro hn
    rw [outsAt0_A m c ⟨0, hn⟩ rfl]
    funext q
    frame_out
    exact congrFun (canon_fill3072 (V m c main_v5)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2.2.2 = V m c main_v5 := by rintro k hk rfl; exact ih hk
    rw [outsAt0_B m c ⟨n + 1, hn⟩ h0]
    funext q
    frame_out
    unfold sout0_B_2
    exact congrFun (e _ _ rfl) q

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

def row (t : Fin cfg0.N) (p : Fin 512) : Fin 16384 := ⟨t.val * 512 + p.val, by have := lt_of_lt_of_eq t.isLt (show cfg0.N = 32 from N_0); omega⟩

theorem b0 (c : Dev nD) (t : Fin cfg0.N) (x : Fin 16384 → Fin 1024 → EReal) (h : V m c main_arg0 = (ea x : FVec Ideal S16384x1024 .f32)) :
    iblk m c 0 t = (ea (fun p l => x (row t p) l) : FVec Ideal S512x1024 .f32) := by
  funext q
  idx_vars q
  refine Eq.trans (b := V m c main_arg0 (ix2 (row t q0) q1)) ?_ (by rw [h]; rfl)
  blk_ext [iblk, idx t]
  rfl

theorem b1 (c : Dev nD) (t : Fin cfg0.N) (x : Fin 1 → Fin 1024 → EReal) (h : V m c main_arg1 = (ea x : FVec Ideal S1x1024 .f32)) :
    iblk m c 1 t = (ea x : FVec Ideal S1x1024 .f32) := by
  funext q
  idx_vars q
  refine Eq.trans (b := V m c main_arg1 (ix2 q0 q1)) ?_ (by rw [h])
  blk_ext [iblk, idx t]

structure Entry (c : Dev nD) (x : Fin 16384 → Fin 1024 → EReal) (g : Fin 1 → Fin 1024 → EReal) (w1 : Fin 4096 → Fin 1024 → EReal) (wf : Fin 128 → Fin 1024 → EReal) (we : Fin 3072 → Fin 1024 → EReal) : Prop where
  x : V m c main_arg0 = (ea x : FVec Ideal S16384x1024 .f32)
  g : V m c main_arg1 = (ea g : FVec Ideal S1x1024 .f32)
  w1 : V m c main_v4 = (ea w1 : FVec Ideal S4096x1024 .bf16)
  wf : V m c main_v3 = (ea wf : FVec Ideal S128x1024 .bf16)
  we : V m c main_v5 = (ea we : FVec Ideal S3072x1024 .bf16)

variable {m} {c : Dev nD} {x : Fin 16384 → Fin 1024 → EReal} {g : Fin 1 → Fin 1024 → EReal} {w1 : Fin 4096 → Fin 1024 → EReal} {wf : Fin 128 → Fin 1024 → EReal} {we : Fin 3072 → Fin 1024 → EReal}
  (h : Entry m c x g w1 wf we) (t : Fin cfg0.N)
include h

theorem o2 : (outsAt0 m c t.val t.isLt).1 = (ea (fun p l => pE x g (fun j => w1 (rc j)) (row t p) l) : FVec Ideal S512x1536 .bf16) := by
  funext q
  by_cases h0 : t.val % 32 = 0 <;> [rw [outsAt0_A m c t h0]; rw [outsAt0_B m c t h0]]
  all_goals
    frame_out
    try simp only [read_unread_whole]
    simp only [b0 m c t x h.x, b1 m c t g h.g, View.read_whole, ReadAs.apply_same, cov_whole4096, cov_whole128, cov_whole3072, sc0, sc1, sc2, h.w1, h.wf, h.we,
      ld_c, ld_s, ld_q, ld_f, ld_e, h_pay1, h_pay2, h_pay3, h_pay4, h_pay5, h_pay6]
    try rfl

theorem o3 : (outsAt0 m c t.val t.isLt).2.1 = (ea (fun p l => pE x g (fun j => w1 (rs j)) (row t p) l) : FVec Ideal S512x1024 .bf16) := by
  funext q
  by_cases h0 : t.val % 32 = 0 <;> [rw [outsAt0_A m c t h0]; rw [outsAt0_B m c t h0]]
  all_goals
    frame_out
    try simp only [read_unread_whole]
    simp only [b0 m c t x h.x, b1 m c t g h.g, View.read_whole, ReadAs.apply_same, cov_whole4096, cov_whole128, cov_whole3072, sc0, sc1, sc2, h.w1, h.wf, h.we,
      ld_c, ld_s, ld_q, ld_f, ld_e, h_pay1, h_pay2, h_pay3, h_pay4, h_pay5, h_pay6]
    try rfl

theorem o4 : (outsAt0 m c t.val t.isLt).2.2.1 = (ea (fun p l => pE x g (fun j => w1 (rq j)) (row t p) l) : FVec Ideal S512x1536 .bf16) := by
  funext q
  by_cases h0 : t.val % 32 = 0 <;> [rw [outsAt0_A m c t h0]; rw [outsAt0_B m c t h0]]
  all_goals
    frame_out
    try simp only [read_unread_whole]
    simp only [b0 m c t x h.x, b1 m c t g h.g, View.read_whole, ReadAs.apply_same, cov_whole4096, cov_whole128, cov_whole3072, sc0, sc1, sc2, h.w1, h.wf, h.we,
      ld_c, ld_s, ld_q, ld_f, ld_e, h_pay1, h_pay2, h_pay3, h_pay4, h_pay5, h_pay6]
    try rfl

theorem o5 : (outsAt0 m c t.val t.isLt).2.2.2.1 = (ea (fun p l => pE x g wf (row t p) l) : FVec Ideal S512x128 .f32) := by
  funext q
  by_cases h0 : t.val % 32 = 0 <;> [rw [outsAt0_A m c t h0]; rw [outsAt0_B m c t h0]]
  all_goals
    frame_out
    try simp only [read_unread_whole]
    simp only [b0 m c t x h.x, b1 m c t g h.g, View.read_whole, ReadAs.apply_same, cov_whole4096, cov_whole128, cov_whole3072, sc0, sc1, sc2, h.w1, h.wf, h.we,
      ld_c, ld_s, ld_q, ld_f, ld_e, h_pay1, h_pay2, h_pay3, h_pay4, h_pay5, h_pay6]
    try rfl

theorem o6 : (outsAt0 m c t.val t.isLt).2.2.2.2.1 = (ea (fun p l => pE x g we (row t p) l) : FVec Ideal S512x3072 .bf16) := by
  funext q
  by_cases h0 : t.val % 32 = 0 <;> [rw [outsAt0_A m c t h0]; rw [outsAt0_B m c t h0]]
  all_goals
    frame_out
    try simp only [read_unread_whole]
    simp only [b0 m c t x h.x, b1 m c t g h.g, View.read_whole, ReadAs.apply_same, cov_whole4096, cov_whole128, cov_whole3072, sc0, sc1, sc2, h.w1, h.wf, h.we,
      ld_c, ld_s, ld_q, ld_f, ld_e, h_pay1, h_pay2, h_pay3, h_pay4, h_pay5, h_pay6]
    try rfl

omit t

theorem f2 : (dats m 0 c).arrAt 2 cfg0.N = (ea (pE x g (fun j => w1 (rc j))) : FVec Ideal S16384x1536 .bf16) := by
  refine (dats m 0 c).arrAt_eq_of_covers 2 _ (by decide +kernel) fun t hf y => ?_
  blk_simp
  rw [after0_2]
  refine (congrFun (o2 h t) _).trans ?_
  refine ea_at _ _ _ _ (congrArg₂ (pE x g (fun j => w1 (rc j))) (Fin.ext ?_) (Fin.ext ?_)) <;> blk_simp [idx t, row]

theorem f3 : (dats m 0 c).arrAt 3 cfg0.N = (ea (pE x g (fun j => w1 (rs j))) : FVec Ideal S16384x1024 .bf16) := by
  refine (dats m 0 c).arrAt_eq_of_covers 3 _ (by decide +kernel) fun t hf y => ?_
  blk_simp
  rw [after0_3]
  refine (congrFun (o3 h t) _).trans ?_
  refine ea_at _ _ _ _ (congrArg₂ (pE x g (fun j => w1 (rs j))) (Fin.ext ?_) (Fin.ext ?_)) <;> blk_simp [idx t, row]

theorem f4 : (dats m 0 c).arrAt 4 cfg0.N = (ea (pE x g (fun j => w1 (rq j))) : FVec Ideal S16384x1536 .bf16) := by
  refine (dats m 0 c).arrAt_eq_of_covers 4 _ (by decide +kernel) fun t hf y => ?_
  blk_simp
  rw [after0_4]
  refine (congrFun (o4 h t) _).trans ?_
  refine ea_at _ _ _ _ (congrArg₂ (pE x g (fun j => w1 (rq j))) (Fin.ext ?_) (Fin.ext ?_)) <;> blk_simp [idx t, row]

theorem f5 : (dats m 0 c).arrAt 5 cfg0.N = (ea (pE x g wf) : FVec Ideal S16384x128 .f32) := by
  refine (dats m 0 c).arrAt_eq_of_covers 5 _ (by decide +kernel) fun t hf y => ?_
  blk_simp
  rw [after0_5]
  refine (congrFun (o5 h t) _).trans ?_
  refine ea_at _ _ _ _ (congrArg₂ (pE x g wf) (Fin.ext ?_) (Fin.ext ?_)) <;> blk_simp [idx t, row]

theorem f6 : (dats m 0 c).arrAt 6 cfg0.N = (ea (pE x g we) : FVec Ideal S16384x3072 .bf16) := by
  refine (dats m 0 c).arrAt_eq_of_covers 6 _ (by decide +kernel) fun t hf y => ?_
  blk_simp
  rw [after0_6]
  refine (congrFun (o6 h t) _).trans ?_
  refine ea_at _ _ _ _ (congrArg₂ (pE x g we) (Fin.ext ?_) (Fin.ext ?_)) <;> blk_simp [idx t, row]
omit h

/-- The pieces of the transposed weight: the first 4096 rows, the eight forget rows padded with zeros, and the gates' rows. -/
def W1 (w : Fin 1024 → Fin 7176 → EReal) (r : Fin 4096) (l : Fin 1024) : EReal := w l ⟨r.val, by omega⟩
def WF (w : Fin 1024 → Fin 7176 → EReal) (j : Fin 128) (l : Fin 1024) : EReal := if h : j.val < 8 then w l ⟨4096 + j.val, by omega⟩ else 0
def WE (w : Fin 1024 → Fin 7176 → EReal) (j : Fin 3072) (l : Fin 1024) : EReal := w l ⟨4104 + j.val, by omega⟩

theorem ent_w1 (m : (ℓ : Loc nD τ sig) → Buf (Elt Ideal) ℓ) (c : Dev nD) : V m c main_v4 = (extractStridedSlice S4096x1024 ![0, 0] (transpose S7176x1024 [1, 0] (truncf .bf16 (rd m c main_arg2) bitsLt_bf16_f32) transposes_S1024x7176_S7176x1024_1_0) slices_S7176x1024_S4096x1024_0_0 : FVec Ideal S4096x1024 .bf16) := by
  show StableHlo.after (hostOps0 ++ (hostOps0_1 ++ hostOps0_2)) _ _ = _
  simp only [hostOps0, hostOps0_1, hostOps0_2, List.cons_append, List.nil_append]
  after_results_simp
  try rfl
theorem ent_wf (m : (ℓ : Loc nD τ sig) → Buf (Elt Ideal) ℓ) (c : Dev nD) : V m c main_v3 = (pad S128x1024 ![0, 0] ![120, 0] ![0, 0] (extractStridedSlice S8x1024 ![4096, 0] (transpose S7176x1024 [1, 0] (truncf .bf16 (rd m c main_arg2) bitsLt_bf16_f32) transposes_S1024x7176_S7176x1024_1_0) slices_S7176x1024_S8x1024_4096_0) (sitofp (F := Ideal) .bf16 (constantI S_ 32 0#32)) pads_S8x1024_S128x1024_01200_000 h_S_ : FVec Ideal S128x1024 .bf16) := by
  show StableHlo.after (hostOps0 ++ (hostOps0_1 ++ hostOps0_2)) _ _ = _
  simp only [hostOps0, hostOps0_1, hostOps0_2, List.cons_append, List.nil_append]
  after_results_simp
  try rfl
theorem ent_we (m : (ℓ : Loc nD τ sig) → Buf (Elt Ideal) ℓ) (c : Dev nD) : V m c main_v5 = (extractStridedSlice S3072x1024 ![4104, 0] (transpose S7176x1024 [1, 0] (truncf .bf16 (rd m c main_arg2) bitsLt_bf16_f32) transposes_S1024x7176_S7176x1024_1_0) slices_S7176x1024_S3072x1024_4104_0 : FVec Ideal S3072x1024 .bf16) := by
  show StableHlo.after (hostOps0 ++ (hostOps0_1 ++ hostOps0_2)) _ _ = _
  simp only [hostOps0, hostOps0_1, hostOps0_2, List.cons_append, List.nil_append]
  after_results_simp
  try rfl

theorem entry (m : (ℓ : Loc nD τ sig) → Buf (Elt Ideal) ℓ) (c : Dev nD) :
    Entry m c (un (rd m c main_arg0)) (un (rd m c main_arg1)) (W1 (un (rd m c main_arg2))) (WF (un (rd m c main_arg2))) (WE (un (rd m c main_arg2))) := by
  constructor
  · entry_read; exact (ea_un _).symm
  · entry_read; exact (ea_un _).symm
  · rw [ent_w1]
    funext q; idx_vars q
    pointwise
    try rfl
  · rw [ent_wf]
    funext q; idx_vars q
    pointwise
    rw [show (ea (WF (un (rd m c main_arg2))) : FVec Ideal S128x1024 .bf16) (ix2 q0 q1) = (WF (un (rd m c main_arg2)) q0 q1) from rfl]
    unfold WF
    split_ifs with h8
    · rfl
    · simp [FloatOps.sitofp]
  · rw [ent_we]
    funext q; idx_vars q
    pointwise
    try rfl

/-- The five results, by formulas in the arguments' entries. -/
def outC (x : Fin 16384 → Fin 1024 → EReal) (g : Fin 1 → Fin 1024 → EReal) (w : Fin 1024 → Fin 7176 → EReal) : Fin 16384 → Fin 1536 → EReal := pE x g (fun j => W1 w (rc j))
def outS (x : Fin 16384 → Fin 1024 → EReal) (g : Fin 1 → Fin 1024 → EReal) (w : Fin 1024 → Fin 7176 → EReal) : Fin 16384 → Fin 1024 → EReal := pE x g (fun j => W1 w (rs j))
def outQ (x : Fin 16384 → Fin 1024 → EReal) (g : Fin 1 → Fin 1024 → EReal) (w : Fin 1024 → Fin 7176 → EReal) : Fin 16384 → Fin 1536 → EReal := pE x g (fun j => W1 w (rq j))
def outF (x : Fin 16384 → Fin 1024 → EReal) (g : Fin 1 → Fin 1024 → EReal) (w : Fin 1024 → Fin 7176 → EReal) : Fin 16384 → Fin 128 → EReal := pE x g (WF w)
def outE (x : Fin 16384 → Fin 1024 → EReal) (g : Fin 1 → Fin 1024 → EReal) (w : Fin 1024 → Fin 7176 → EReal) : Fin 16384 → Fin 3072 → EReal := pE x g (WE w)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      rd r.2.mem c main_v6_0 = (ea (outC (un (rd m c main_arg0)) (un (rd m c main_arg1)) (un (rd m c main_arg2))) : FVec Ideal S16384x1536 .bf16)
      ∧ rd r.2.mem c main_v6_1 = (ea (outS (un (rd m c main_arg0)) (un (rd m c main_arg1)) (un (rd m c main_arg2))) : FVec Ideal S16384x1024 .bf16)
      ∧ rd r.2.mem c main_v6_2 = (ea (outQ (un (rd m c main_arg0)) (un (rd m c main_arg1)) (un (rd m c main_arg2))) : FVec Ideal S16384x1536 .bf16)
      ∧ rd r.2.mem c main_v6_3 = (ea (outF (un (rd m c main_arg0)) (un (rd m c main_arg1)) (un (rd m c main_arg2))) : FVec Ideal S16384x128 .f32)
      ∧ rd r.2.mem c main_v6_4 = (ea (outE (un (rd m c main_arg0)) (un (rd m c main_arg1)) (un (rd m c main_arg2))) : FVec Ideal S16384x3072 .bf16)
      ∧ rd r.2.mem c main_arg0 = rd m c main_arg0
      ∧ rd r.2.mem c main_arg1 = rd m c main_arg1
      ∧ rd r.2.mem c main_arg2 = rd m c main_arg2) := by
  refine (θ_run defs _ _).mono (fun r h c => ?_) (θ_run_and (run_main m ρ) (unchanged m ρ))
  have E := entry m c
  exact ⟨((h.1 c).1 2).trans (f2 E), ((h.1 c).1 3).trans (f3 E), ((h.1 c).1 4).trans (f4 E), ((h.1 c).1 5).trans (f5 E), ((h.1 c).1 6).trans (f6 E), h.2 c⟩
end Cert.Proof.PfBlk
end
-- ==== Proof.PfRef.lean ====
/- The joint projection's reference: what it ends holding, by formulas in the arguments' entries. -/
module
public import proofs.«01_k».proof.Proof.PfBlk
public import proofs.«01_k».proof.Proof.Gen.ProjFwdRefIdeal.Run
public import Idealize.ShloMosaic.Adequacy
@[expose] public section
set_option maxRecDepth 16384
noncomputable section
namespace Cert.Proof.PfRef
open Cert.ProjFwdRefIdeal Idealize.ShloMosaic Idealize.ShloMosaic.TcCoe Idealize.SL.Sem PfKer
open PfBlk (W1 WF WE rc rs rq outC outS outQ outF outE)
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1
      ∧ rd r.2.mem c main_arg2 = rd m c main_arg2) ∧ r.2.sem = fun _ => 0) :=
  (θ_run defs _ _).mono (fun r h => ⟨fun c => (h c).2.2.2.2.2, sem_eq_zero_of_no_sems (by decide) r.2⟩) (Cert.ProjFwdRefIdeal.Value.run m ρ)

theorem run :
    θ_run (defs (F := Ideal)) (onTc (τ := τ) (main (F := Ideal))) ⟨m, fun _ => 0, ρ⟩ (fun r => ∀ c : Dev nD,
      rd r.2.mem c main_v20 = (ea (outC (un (rd m c main_arg0)) (un (rd m c main_arg1)) (un (rd m c main_arg2))) : FVec Ideal S16384x1536 .bf16)
      ∧ rd r.2.mem c main_v21 = (ea (outS (un (rd m c main_arg0)) (un (rd m c main_arg1)) (un (rd m c main_arg2))) : FVec Ideal S16384x1024 .bf16)
      ∧ rd r.2.mem c main_v23 = (ea (outQ (un (rd m c main_arg0)) (un (rd m c main_arg1)) (un (rd m c main_arg2))) : FVec Ideal S16384x1536 .bf16)
      ∧ rd r.2.mem c main_v24 = (ea (outF (un (rd m c main_arg0)) (un (rd m c main_arg1)) (un (rd m c main_arg2))) : FVec Ideal S16384x128 .f32)
      ∧ rd r.2.mem c main_v25 = (ea (outE (un (rd m c main_arg0)) (un (rd m c main_arg1)) (un (rd m c main_arg2))) : FVec Ideal S16384x3072 .bf16)
      ∧ rd r.2.mem c main_arg0 = rd m c main_arg0
      ∧ rd r.2.mem c main_arg1 = rd m c main_arg1
      ∧ rd r.2.mem c main_arg2 = rd m c main_arg2) := by
  refine (θ_run defs _ _).mono (fun r h c => ⟨(h c).1.trans ?_, (h c).2.1.trans ?_, (h c).2.2.1.trans ?_, (h c).2.2.2.1.trans ?_, (h c).2.2.2.2.1.trans ?_, (h c).2.2.2.2.2⟩) (Cert.ProjFwdRefIdeal.Value.run m ρ)
  · funext q; idx_vars q
    pointwise
    try simp only [zero_add]
    rfl
  · funext q; idx_vars q
    pointwise
    try simp only [zero_add]
    rfl
  · funext q; idx_vars q
    pointwise
    try simp only [zero_add]
    change _ = pE (un (rd m c main_arg0)) (un (rd m c main_arg1)) (fun j => W1 (un (rd m c main_arg2)) (rq j)) q0 q1
    unfold pE W1 rq
    split_ifs
    all_goals first
      | (exfalso; contradiction)
      | exact absurd rfl ‹_›
      | exact Finset.sum_congr rfl fun k _ => congrArg₂ (fun a b : EReal => a * b) rfl (congrArg (rd m c main_arg2) (congrArg (ix2 k) (Fin.ext rfl)))
      | exact Finset.sum_congr rfl fun k _ => congrArg₂ (fun a b : EReal => a * b) rfl (congrArg (rd m c main_arg2) (congrArg (ix2 k) (Fin.ext (by simp only []; omega))))
  · funext q; idx_vars q
    pointwise
    try simp only [zero_add]
    change _ = pE (un (rd m c main_arg0)) (un (rd m c main_arg1)) (WF (un (rd m c main_arg2))) q0 q1
    unfold pE WF
    split_ifs with h1
    · rfl
    · refine Eq.trans ?_ (Finset.sum_eq_zero fun k _ => mul_zero (M₀ := EReal) _).symm
      simp [FloatOps.sitofp]
  · funext q; idx_vars q
    pointwise
    try simp only [zero_add]
    rfl
end Cert.Proof.PfRef
end
-- ==== Proof.FfnBlk.lean ====
module
public import proofs.«01_k».proof.Proof.Gen.KernelIdeal.Frame
public import proofs.«01_k».proof.Proof.FfnKer
public import Idealize.ShloMosaic.Lib.Pipeline.ReadBack
public import Idealize.ShloMosaic.Lib.Pipeline.ValueKit
@[expose] public section
set_option maxRecDepth 16384
noncomputable section
namespace Cert.Proof.FfnBlk
open Cert.KernelIdeal Cert.KernelIdeal.Gen Idealize.ShloMosaic Idealize.ShloMosaic.TcCoe Idealize.SL.Sem FfnKer
variable (m : (ℓ : Loc nD τ sig) → Buf (Elt Ideal) ℓ)
def lo (j : Fin 1408) : Fin 2816 := ⟨j.val, by omega⟩
def hi (j : Fin 1408) : Fin 2816 := ⟨1408 + j.val, by omega⟩

theorem up2_at {n k n' k' : ℕ} (F : Fin n → Fin k → ℝ) (F' : Fin n' → Fin k' → ℝ) (q : (⟨2, ![n, k]⟩ : Shape).Idx) (q' : (⟨2, ![n', k']⟩ : Shape).Idx)
    (h : F (q 0) (q 1) = F' (q' 0) (q' 1)) : up2 F q = up2 F' q' := congrArg _ h

theorem canon_halves (F : Fin 256 → Fin 2816 → ℝ) (q : S256x2816.Idx) :
    View.canon (Val := Elt Ideal) (e := .bf16) [⟨Rect.unit (s := S256x2816) ![0, 1408] ![256, 1408] inb_S256x2816_S256x1408_0_1408, (up2 (fun i j => F i (hi j)) : FVec Ideal S256x1408 .bf16)⟩,
      ⟨Rect.unit (s := S256x2816) ![0, 0] ![256, 1408] inb_S256x2816_S256x1408_0_0, (up2 (fun i j => F i (lo j)) : FVec Ideal S256x1408 .bf16)⟩] q = up2 F q := by
  canon_tiles q h
  · refine up2_at _ _ _ _ (congrArg₂ F ?_ ?_)
    · exact Fin.ext h0.symm
    · exact Fin.ext h1.symm
  · refine up2_at _ _ _ _ (congrArg₂ F ?_ ?_)
    · exact Fin.ext h0.symm
    · exact Fin.ext h1.symm

theorem ld_hi (a : Fin 256 → Fin 2816 → ℝ) : View.ld (Val := Elt Ideal) (e' := .bf16) (S := S256x2816) (up2 a) (Rect.unit (s := S256x2816) ![0, 1408] ![256, 1408] inb_S256x2816_S256x1408_0_1408) = up2 (fun i j => a i (hi j)) := by
  funext q; idx_vars q
  pointwise
  rfl
theorem ld_lo (a : Fin 256 → Fin 2816 → ℝ) : View.ld (Val := Elt Ideal) (e' := .bf16) (S := S256x2816) (up2 a) (Rect.unit (s := S256x2816) ![0, 0] ![256, 1408] inb_S256x2816_S256x1408_0_0) = up2 (fun i j => a i (lo j)) := by
  funext q; idx_vars q
  pointwise
  rfl
theorem ldw_hi (a : Fin 2816 → Fin 1024 → ℝ) : View.ld (Val := Elt Ideal) (e' := .bf16) (S := S2816x1024) (up2 a) (Rect.unit (s := S2816x1024) ![1408, 0] ![1408, 1024] inb_S2816x1024_S1408x1024_1408_0) = up2 (fun i j => a (hi i) j) := by
  funext q; idx_vars q
  pointwise
  rfl
theorem ldw_lo (a : Fin 2816 → Fin 1024 → ℝ) : View.ld (Val := Elt Ideal) (e' := .bf16) (S := S2816x1024) (up2 a) (Rect.unit (s := S2816x1024) ![0, 0] ![1408, 1024] inb_S2816x1024_S1408x1024_0_0) = up2 (fun i j => a (lo i) j) := by
  funext q; idx_vars q
  pointwise
  rfl
theorem canon_fill (X : FVec Ideal S2816x1024 .bf16) : View.canon (Val := Elt Ideal) (e := .bf16) [⟨Rect.whole S2816x1024, X⟩] = X := by
  funext q
  canon_tiles q h
  refine congrArg X ?_
  funext a
  fin_cases a
  · exact Fin.ext h0.symm
  · exact Fin.ext h1.symm
theorem cov_whole (v : View sig .tc .vmem S2816x1024 .bf16) (X : FVec Ideal S2816x1024 .bf16) (r : Rect S2816x1024) :
    v.readCov (Val := Elt Ideal) [⟨Rect.whole S2816x1024, X⟩] r.toLoadRect = View.ld X r := by
  rw [View.readCov_eq_canon_ld]
  · rw [canon_fill]
  · intro y; exact ⟨_, List.mem_singleton_self _, by rw [Rect.set_whole]; exact Finset.mem_univ y⟩

theorem sc0 (c : Dev nD) (n : ℕ) : ∀ hn : n < cfg0.N, (outsAt0 m c n hn).2.2.2.2.2.2.2.1 = V m c main_v16 := by
  induction n with
  | zero =>
    intro hn
    rw [outsAt0_A m c ⟨0, hn⟩ rfl]
    funext q
    frame_out
    exact congrFun (canon_fill (V m c main_v16)) q
  | succ n ih =>
    intro hn
    have h0 : ¬ (n + 1) % 64 = 0 := by have := lt_of_lt_of_eq hn (show cfg0.N = 64 from N_0); omega
    have e : ∀ k (hk : k < cfg0.N), k = n → (outsAt0 m c k hk).2.2.2.2.2.2.2.1 = V m c main_v16 := by rintro k hk rfl; exact ih hk
    rw [outsAt0_B m c ⟨n + 1, hn⟩ h0]
    funext q
    frame_out
    unfold sout0_B_0
    exact congrFun (e _ _ rfl) q

theorem sc1 (c : Dev nD) (n : ℕ) : ∀ hn : n < cfg0.N, (outsAt0 m c n hn).2.2.2.2.2.2.2.2.1 = V m c main_v18 := by
  induction n with
  | zero =>
    intro hn
    rw [outsAt0_A m c ⟨0, hn⟩ rfl]
    funext q
    frame_out
    exact congrFun (canon_fill (V m c main_v18)) q
  | succ n ih =>
    intro hn
    have h0 : ¬ (n + 1) % 64 = 0 := by have := lt_of_lt_of_eq hn (show cfg0.N = 64 from N_0); omega
    have e : ∀ k (hk : k < cfg0.N), k = n → (outsAt0 m c k hk).2.2.2.2.2.2.2.2.1 = V m c main_v18 := by rintro k hk rfl; exact ih hk
    rw [outsAt0_B m c ⟨n + 1, hn⟩ h0]
    funext q
    frame_out
    unfold sout0_B_1
    exact congrFun (e _ _ rfl) q

theorem sc2 (c : Dev nD) (n : ℕ) : ∀ hn : n < cfg0.N, (outsAt0 m c n hn).2.2.2.2.2.2.2.2.2 = V m c main_v20 := by
  induction n with
  | zero =>
    intro hn
    rw [outsAt0_A m c ⟨0, hn⟩ rfl]
    funext q
    frame_out
    exact congrFun (canon_fill (V m c main_v20)) q
  | succ n ih =>
    intro hn
    have h0 : ¬ (n + 1) % 64 = 0 := by have := lt_of_lt_of_eq hn (show cfg0.N = 64 from N_0); omega
    have e : ∀ k (hk : k < cfg0.N), k = n → (outsAt0 m c k hk).2.2.2.2.2.2.2.2.2 = V m c main_v20 := by rintro k hk rfl; exact ih hk
    rw [outsAt0_B m c ⟨n + 1, hn⟩ h0]
    funext q
    frame_out
    unfold sout0_B_2
    exact congrFun (e _ _ rfl) q

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧
    win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![0, 0] :=
  (by decide +kernel : ∀ t : Fin grid0.N, _)

def row (t : Fin cfg0.N) (p : Fin 256) : Fin 16384 := ⟨t.val * 256 + p.val, by have := lt_of_lt_of_eq t.isLt (show cfg0.N = 64 from N_0); omega⟩

theorem b0 (c : Dev nD) (t : Fin cfg0.N) (x : Fin 16384 → Fin 1024 → ℝ) (h : V m c main_arg0 = (up2 x : FVec Ideal S16384x1024 .f32)) :
    iblk m c 0 t = (up2 (fun p l => x (row t p) l) : FVec Ideal S256x1024 .f32) := by
  funext q
  idx_vars q
  refine Eq.trans (b := V m c main_arg0 (ix2 (row t q0) q1)) ?_ (by rw [h]; rfl)
  blk_ext [iblk, idx t]
  rfl

theorem b1 (c : Dev nD) (t : Fin cfg0.N) (x : Fin 16384 → Fin 1024 → ℝ) (h : V m c main_arg5 = (up2 x : FVec Ideal S16384x1024 .f32)) :
    iblk m c 1 t = (up2 (fun p l => x (row t p) l) : FVec Ideal S256x1024 .f32) := by
  funext q
  idx_vars q
  refine Eq.trans (b := V m c main_arg5 (ix2 (row t q0) q1)) ?_ (by rw [h]; rfl)
  blk_ext [iblk, idx t]
  rfl

theorem b2 (c : Dev nD) (t : Fin cfg0.N) (x : Fin 16384 → Fin 2816 → ℝ) (h : V m c main_v13 = (up2 x : FVec Ideal S16384x2816 .bf16)) :
    iblk m c 2 t = (up2 (fun p l => x (row t p) l) : FVec Ideal S256x2816 .bf16) := by
  funext q
  idx_vars q
  refine Eq.trans (b := V m c main_v13 (ix2 (row t q0) q1)) ?_ (by rw [h]; rfl)
  blk_ext [iblk, idx t]
  rfl

theorem b3 (c : Dev nD) (t : Fin cfg0.N) (x : Fin 16384 → Fin 2816 → ℝ) (h : V m c main_v15 = (up2 x : FVec Ideal S16384x2816 .bf16)) :
    iblk m c 3 t = (up2 (fun p l => x (row t p) l) : FVec Ideal S256x2816 .bf16) := by
  funext q
  idx_vars q
  refine Eq.trans (b := V m c main_v15 (ix2 (row t q0) q1)) ?_ (by rw [h]; rfl)
  blk_ext [iblk, idx t]
  rfl

theorem b4 (c : Dev nD) (t : Fin cfg0.N) (x : Fin 1 → Fin 1024 → ℝ) (h : V m c main_arg1 = (up2 x : FVec Ideal S1x1024 .f32)) :
    iblk m c 4 t = (up2 x : FVec Ideal S1x1024 .f32) := by
  funext q
  idx_vars q
  refine Eq.trans (b := V m c main_arg1 (ix2 q0 q1)) ?_ (by rw [h])
  blk_ext [iblk, idx t]

/-- The rows of the gradient entering the two up projections. -/
def dsR {n : ℕ} (d : Fin n → Fin 1024 → ℝ) (wd : Fin 2816 → Fin 1024 → ℝ) (i : Fin n) (f : Fin 2816) : ℝ := ∑ k : Fin 1024, 1 / 2 * d i k * wd f k
def daR {n : ℕ} (d : Fin n → Fin 1024 → ℝ) (a b : Fin n → Fin 2816 → ℝ) (wd : Fin 2816 → Fin 1024 → ℝ) (i : Fin n) (f : Fin 2816) : ℝ :=
  daK (dsR d wd i f) (a i f) (b i f)
def dbR {n : ℕ} (d : Fin n → Fin 1024 → ℝ) (a : Fin n → Fin 2816 → ℝ) (wd : Fin 2816 → Fin 1024 → ℝ) (i : Fin n) (f : Fin 2816) : ℝ :=
  dsR d wd i f * (a i f * sg (a i f))
def dhR {n : ℕ} (d : Fin n → Fin 1024 → ℝ) (a b : Fin n → Fin 2816 → ℝ) (wd wg wu : Fin 2816 → Fin 1024 → ℝ) (i : Fin n) (l : Fin 1024) : ℝ :=
  (∑ f, daR d a b wd i f * wg f l) + ∑ f, dbR d a wd i f * wu f l
def dxR {n : ℕ} (x d : Fin n → Fin 1024 → ℝ) (g : Fin 1 → Fin 1024 → ℝ) (a b : Fin n → Fin 2816 → ℝ) (wd wg wu : Fin 2816 → Fin 1024 → ℝ) (i : Fin n) (l : Fin 1024) : ℝ :=
  d i l + rinv (x i) * (dhR d a b wd wg wu i l * g 0 l - x i l * rinv (x i) * ((∑ k, dhR d a b wd wg wu i k * g 0 k * (x i k * rinv (x i))) / 1024))

theorem sum_halves (F : Fin 2816 → ℝ) : ∑ f, F f = (∑ j, F (lo j)) + ∑ j, F (hi j) := Fin.sum_univ_two_halves 1408 1408 rfl F

theorem dhK_split (d : Fin 256 → Fin 1024 → ℝ) (a b : Fin 256 → Fin 2816 → ℝ) (wd wg wu : Fin 2816 → Fin 1024 → ℝ) :
    dhK (fun i l => 0 + (∑ f : Fin 1408, daK (∑ k : Fin 1024, 1 / 2 * d i k * wd (lo f) k) (a i (lo f)) (b i (lo f)) * wg (lo f) l)
        + ∑ f : Fin 1408, (∑ k : Fin 1024, 1 / 2 * d i k * wd (lo f) k) * (a i (lo f) * sg (a i (lo f))) * wu (lo f) l)
      (fun i f => a i (hi f)) (fun i f => b i (hi f)) (fun i f => ∑ k : Fin 1024, 1 / 2 * d i k * wd (hi f) k) (fun i f => a i (hi f) * sg (a i (hi f)))
      (fun f l => wg (hi f) l) (fun f l => wu (hi f) l) = dhR d a b wd wg wu := by
  funext i l
  unfold dhK dhR
  rw [sum_halves, sum_halves]
  unfold daR dbR dsR
  ring

structure Entry (c : Dev nD) (x d : Fin 16384 → Fin 1024 → ℝ) (g : Fin 1 → Fin 1024 → ℝ) (a b : Fin 16384 → Fin 2816 → ℝ) (wd wg wu : Fin 2816 → Fin 1024 → ℝ) : Prop where
  x : V m c main_arg0 = (up2 x : FVec Ideal S16384x1024 .f32)
  d : V m c main_arg5 = (up2 d : FVec Ideal S16384x1024 .f32)
  g : V m c main_arg1 = (up2 g : FVec Ideal S1x1024 .f32)
  a : V m c main_v13 = (up2 a : FVec Ideal S16384x2816 .bf16)
  b : V m c main_v15 = (up2 b : FVec Ideal S16384x2816 .bf16)
  wd : V m c main_v16 = (up2 wd : FVec Ideal S2816x1024 .bf16)
  wg : V m c main_v18 = (up2 wg : FVec Ideal S2816x1024 .bf16)
  wu : V m c main_v20 = (up2 wu : FVec Ideal S2816x1024 .bf16)

variable {m} {c : Dev nD} {x d : Fin 16384 → Fin 1024 → ℝ} {g : Fin 1 → Fin 1024 → ℝ} {a b : Fin 16384 → Fin 2816 → ℝ} {wd wg wu : Fin 2816 → Fin 1024 → ℝ}
  (h : Entry m c x d g a b wd wg wu) (t : Fin cfg0.N)
include h

theorem o5 : (outsAt0 m c t.val t.isLt).1 = (up2 (fun p l => dxR x d g a b wd wg wu (row t p) l) : FVec Ideal S256x1024 .f32) := by
  funext q
  by_cases h0 : t.val % 64 = 0 <;> [rw [outsAt0_A m c t h0]; rw [outsAt0_B m c t h0]]
  all_goals
    frame_out
    try simp only [read_unread_whole]
    simp only [b0 m c t x h.x, b1 m c t d h.d, b2 m c t a h.a, b3 m c t b h.b, b4 m c t g h.g, View.read_whole, ReadAs.apply_same, cov_whole, sc0, sc1, sc2, h.wd, h.wg, h.wu,
      ld_lo, ld_hi, ldw_lo, ldw_hi, h_pay3, h_pay4, h_pay5, h_pay6, h_pay7, h_pay8, h_pay9, h_pay13, h_pay14, h_pay15, h_pay16, h_pay17, h_pay18, h_pay19, h_pay20, h_pay21, h_pay22, h_pay23, h_pay24, h_pay25, h_pay27, h_pay28]
    rw [dhK_split]
    rfl

theorem o6 : (outsAt0 m c t.val t.isLt).2.1 = (up2 (fun p l => daR d a b wd (row t p) l) : FVec Ideal S256x2816 .bf16) := by
  funext q
  by_cases h0 : t.val % 64 = 0 <;> [rw [outsAt0_A m c t h0]; rw [outsAt0_B m c t h0]]
  all_goals
    frame_out
    try simp only [read_unread_whole]
    simp only [b0 m c t x h.x, b1 m c t d h.d, b2 m c t a h.a, b3 m c t b h.b, b4 m c t g h.g, View.read_whole, ReadAs.apply_same, cov_whole, sc0, sc1, sc2, h.wd, h.wg, h.wu,
      ld_lo, ld_hi, ldw_lo, ldw_hi, h_pay3, h_pay4, h_pay5, h_pay6, h_pay7, h_pay8, h_pay9, h_pay13, h_pay14, h_pay15, h_pay16, h_pay17, h_pay18, h_pay19, h_pay20, h_pay21, h_pay22, h_pay23, h_pay24, h_pay25, h_pay27, h_pay28]
    exact canon_halves (fun p l => daR d a b wd (row t p) l) q

theorem o7 : (outsAt0 m c t.val t.isLt).2.2.1 = (up2 (fun p l => dbR d a wd (row t p) l) : FVec Ideal S256x2816 .bf16) := by
  funext q
  by_cases h0 : t.val % 64 = 0 <;> [rw [outsAt0_A m c t h0]; rw [outsAt0_B m c t h0]]
  all_goals
    frame_out
    try simp only [read_unread_whole]
    simp only [b0 m c t x h.x, b1 m c t d h.d, b2 m c t a h.a, b3 m c t b h.b, b4 m c t g h.g, View.read_whole, ReadAs.apply_same, cov_whole, sc0, sc1, sc2, h.wd, h.wg, h.wu,
      ld_lo, ld_hi, ldw_lo, ldw_hi, h_pay3, h_pay4, h_pay5, h_pay6, h_pay7, h_pay8, h_pay9, h_pay13, h_pay14, h_pay15, h_pay16, h_pay17, h_pay18, h_pay19, h_pay20, h_pay21, h_pay22, h_pay23, h_pay24, h_pay25, h_pay27, h_pay28]
    exact canon_halves (fun p l => dbR d a wd (row t p) l) q

theorem o8 : (outsAt0 m c t.val t.isLt).2.2.2.1 = (up2 (fun p l => a (row t p) l * sg (a (row t p) l) * b (row t p) l) : FVec Ideal S256x2816 .bf16) := by
  funext q
  by_cases h0 : t.val % 64 = 0 <;> [rw [outsAt0_A m c t h0]; rw [outsAt0_B m c t h0]]
  all_goals
    frame_out
    try simp only [read_unread_whole]
    simp only [b0 m c t x h.x, b1 m c t d h.d, b2 m c t a h.a, b3 m c t b h.b, b4 m c t g h.g, View.read_whole, ReadAs.apply_same, cov_whole, sc0, sc1, sc2, h.wd, h.wg, h.wu,
      ld_lo, ld_hi, ldw_lo, ldw_hi, h_pay3, h_pay4, h_pay5, h_pay6, h_pay7, h_pay8, h_pay9, h_pay13, h_pay14, h_pay15, h_pay16, h_pay17, h_pay18, h_pay19, h_pay20, h_pay21, h_pay22, h_pay23, h_pay24, h_pay25, h_pay27, h_pay28]
    exact canon_halves (fun p l => a (row t p) l * sg (a (row t p) l) * b (row t p) l) q

theorem o9 : (outsAt0 m c t.val t.isLt).2.2.2.2.1 = (up2 (fun p l => x (row t p) l * rinv (x (row t p)) * g 0 l) : FVec Ideal S256x1024 .bf16) := by
  funext q
  by_cases h0 : t.val % 64 = 0 <;> [rw [outsAt0_A m c t h0]; rw [outsAt0_B m c t h0]]
  all_goals
    frame_out
    try simp only [read_unread_whole]
    simp only [b0 m c t x h.x, b1 m c t d h.d, b2 m c t a h.a, b3 m c t b h.b, b4 m c t g h.g, View.read_whole, ReadAs.apply_same, cov_whole, sc0, sc1, sc2, h.wd, h.wg, h.wu,
      ld_lo, ld_hi, ldw_lo, ldw_hi, h_pay3, h_pay4, h_pay5, h_pay6, h_pay7, h_pay8, h_pay9, h_pay13, h_pay14, h_pay15, h_pay16, h_pay17, h_pay18, h_pay19, h_pay20, h_pay21, h_pay22, h_pay23, h_pay24, h_pay25, h_pay27, h_pay28]

theorem o10 : (outsAt0 m c t.val t.isLt).2.2.2.2.2.1 = (up2 (fun p l => 1 / 2 * d (row t p) l) : FVec Ideal S256x1024 .bf16) := by
  funext q
  by_cases h0 : t.val % 64 = 0 <;> [rw [outsAt0_A m c t h0]; rw [outsAt0_B m c t h0]]
  all_goals
    frame_out
    try simp only [read_unread_whole]
    simp only [b0 m c t x h.x, b1 m c t d h.d, b2 m c t a h.a, b3 m c t b h.b, b4 m c t g h.g, View.read_whole, ReadAs.apply_same, cov_whole, sc0, sc1, sc2, h.wd, h.wg, h.wu,
      ld_lo, ld_hi, ldw_lo, ldw_hi, h_pay3, h_pay4, h_pay5, h_pay6, h_pay7, h_pay8, h_pay9, h_pay13, h_pay14, h_pay15, h_pay16, h_pay17, h_pay18, h_pay19, h_pay20, h_pay21, h_pay22, h_pay23, h_pay24, h_pay25, h_pay27, h_pay28]

theorem o11A (h0 : t.val % 64 = 0) (q : S1x1024.Idx) : (outsAt0 m c t.val t.isLt).2.2.2.2.2.2.1 q
    = k0_pay1 (F := Ideal) (up2 (fun (_ : Fin 1) l => ∑ p, dhR d a b wd wg wu (row t p) l * (x (row t p) l * rinv (x (row t p))))) (k0_pay2 (F := Ideal)) q := by
  rw [outsAt0_A m c t h0]
  frame_out
  try simp only [read_unread_whole]
  simp only [b0 m c t x h.x, b1 m c t d h.d, b2 m c t a h.a, b3 m c t b h.b, b4 m c t g h.g, View.read_whole, ReadAs.apply_same, cov_whole, sc0, sc1, sc2, h.wd, h.wg, h.wu,
      ld_lo, ld_hi, ldw_lo, ldw_hi, h_pay3, h_pay4, h_pay5, h_pay6, h_pay7, h_pay8, h_pay9, h_pay13, h_pay14, h_pay15, h_pay16, h_pay17, h_pay18, h_pay19, h_pay20, h_pay21, h_pay22, h_pay23, h_pay24, h_pay25, h_pay27, h_pay28]
  rw [dhK_split]
  rfl

theorem o11B (h0 : ¬ t.val % 64 = 0) (q : S1x1024.Idx) : (outsAt0 m c t.val t.isLt).2.2.2.2.2.2.1 q
    = k0_pay1 (F := Ideal) (up2 (fun (_ : Fin 1) l => ∑ p, dhR d a b wd wg wu (row t p) l * (x (row t p) l * rinv (x (row t p))))) ((outsAt0 m c (t.val - 1) (by have := t.isLt; omega)).2.2.2.2.2.2.1) q := by
  rw [outsAt0_B m c t h0]
  frame_out
  try simp only [read_unread_whole]
  simp only [b0 m c t x h.x, b1 m c t d h.d, b2 m c t a h.a, b3 m c t b h.b, b4 m c t g h.g, View.read_whole, ReadAs.apply_same, cov_whole, sc0, sc1, sc2, h.wd, h.wg, h.wu,
      ld_lo, ld_hi, ldw_lo, ldw_hi, h_pay3, h_pay4, h_pay5, h_pay6, h_pay7, h_pay8, h_pay9, h_pay13, h_pay14, h_pay15, h_pay16, h_pay17, h_pay18, h_pay19, h_pay20, h_pay21, h_pay22, h_pay23, h_pay24, h_pay25, h_pay27, h_pay28]
  rw [dhK_split]
  rfl

end Cert.Proof.FfnBlk
-- ==== Proof.FfnFin.lean ====
module
public import proofs.«01_k».proof.Proof.FfnBlk
@[expose] public section
set_option maxRecDepth 16384
noncomputable section
namespace Cert.Proof.FfnBlk
open Cert.KernelIdeal Cert.KernelIdeal.Gen Idealize.ShloMosaic Idealize.ShloMosaic.TcCoe Idealize.SL.Sem FfnKer

theorem pay1_at (u v : FVec Ideal S1x1024 .f32) (q : S1x1024.Idx) : k0_pay1 (F := Ideal) u v q = v q + u q := by
  unfold k0_pay1
  idx_vars q
  pointwise

theorem pay2_at (q : S1x1024.Idx) : k0_pay2 (F := Ideal) q = (0 : EReal) := by
  rw [h_pay2]
  exact EReal.coe_zero

/-- A sum over the token rows, block of rows by block of rows. -/
theorem sum_rows (F : Fin 16384 → ℝ) : ∑ s : Fin 64, ∑ p : Fin 256, F ⟨s.val * 256 + p.val, by omega⟩ = ∑ i, F i :=
  Fin.sum_mul_add_congr fun s k hl => rfl

theorem sum_blocks (F : Fin 16384 → ℝ) (r : Fin 64 → Fin 256 → Fin 16384) (hr : ∀ s p, (r s p).val = s.val * 256 + p.val) :
    ∑ s, (((∑ p, F (r s p) : ℝ)) : EReal) = ((∑ i, F i : ℝ) : EReal) := by
  rw [← coe_sum, ← sum_rows]
  refine congrArg _ (Finset.sum_congr rfl fun s _ => Finset.sum_congr rfl fun p _ => congrArg F (Fin.ext (hr s p)))

variable {m : (ℓ : Loc nD τ sig) → Buf (Elt Ideal) ℓ}
variable {c : Dev nD} {x d : Fin 16384 → Fin 1024 → ℝ} {g : Fin 1 → Fin 1024 → ℝ} {a b : Fin 16384 → Fin 2816 → ℝ} {wd wg wu : Fin 2816 → Fin 1024 → ℝ}
  (h : Entry m c x d g a b wd wg wu)
include h

theorem f5 : (dats m 0 c).arrAt 5 cfg0.N = (up2 (dxR x d g a b wd wg wu) : FVec Ideal S16384x1024 .f32) := by
  refine (dats m 0 c).arrAt_eq_of_covers 5 _ (by decide +kernel) fun t hf y => ?_
  blk_simp
  rw [after0_5]
  refine (congrFun (o5 h t) _).trans ?_
  refine up2_at _ _ _ _ (congrArg₂ (dxR x d g a b wd wg wu) (Fin.ext ?_) (Fin.ext ?_)) <;> blk_simp [idx t, row]

theorem f6 : (dats m 0 c).arrAt 6 cfg0.N = (up2 (daR d a b wd) : FVec Ideal S16384x2816 .bf16) := by
  refine (dats m 0 c).arrAt_eq_of_covers 6 _ (by decide +kernel) fun t hf y => ?_
  blk_simp
  rw [after0_6]
  refine (congrFun (o6 h t) _).trans ?_
  refine up2_at _ _ _ _ (congrArg₂ (daR d a b wd) (Fin.ext ?_) (Fin.ext ?_)) <;> blk_simp [idx t, row]

theorem f7 : (dats m 0 c).arrAt 7 cfg0.N = (up2 (dbR d a wd) : FVec Ideal S16384x2816 .bf16) := by
  refine (dats m 0 c).arrAt_eq_of_covers 7 _ (by decide +kernel) fun t hf y => ?_
  blk_simp
  rw [after0_7]
  refine (congrFun (o7 h t) _).trans ?_
  refine up2_at _ _ _ _ (congrArg₂ (dbR d a wd) (Fin.ext ?_) (Fin.ext ?_)) <;> blk_simp [idx t, row]

theorem f8 : (dats m 0 c).arrAt 8 cfg0.N = (up2 (fun i j => a i j * sg (a i j) * b i j) : FVec Ideal S16384x2816 .bf16) := by
  refine (dats m 0 c).arrAt_eq_of_covers 8 _ (by decide +kernel) fun t hf y => ?_
  blk_simp
  rw [after0_8]
  refine (congrFun (o8 h t) _).trans ?_
  refine up2_at _ _ _ _ (congrArg₂ (fun i j => a i j * sg (a i j) * b i j) (Fin.ext ?_) (Fin.ext ?_)) <;> blk_simp [idx t, row]

theorem f9 : (dats m 0 c).arrAt 9 cfg0.N = (up2 (fun i j => x i j * rinv (x i) * g 0 j) : FVec Ideal S16384x1024 .bf16) := by
  refine (dats m 0 c).arrAt_eq_of_covers 9 _ (by decide +kernel) fun t hf y => ?_
  blk_simp
  rw [after0_9]
  refine (congrFun (o9 h t) _).trans ?_
  refine up2_at _ _ _ _ (congrArg₂ (fun i j => x i j * rinv (x i) * g 0 j) (Fin.ext ?_) (Fin.ext ?_)) <;> blk_simp [idx t, row]

theorem f10 : (dats m 0 c).arrAt 10 cfg0.N = (up2 (fun i j => 1 / 2 * d i j) : FVec Ideal S16384x1024 .bf16) := by
  refine (dats m 0 c).arrAt_eq_of_covers 10 _ (by decide +kernel) fun t hf y => ?_
  blk_simp
  rw [after0_10]
  refine (congrFun (o10 h t) _).trans ?_
  refine up2_at _ _ _ _ (congrArg₂ (fun i j => 1 / 2 * d i j) (Fin.ext ?_) (Fin.ext ?_)) <;> blk_simp [idx t, row]

theorem f11 : (dats m 0 c).arrAt 11 cfg0.N = (up2 (fun (_ : Fin 1) l => ∑ i, dhR d a b wd wg wu i l * (x i l * rinv (x i))) : FVec Ideal S1x1024 .f32) := by
  refine (dats m 0 c).arrAt_eq_of_covers 11 _ (by decide +kernel) fun t hf y => ?_
  blk_simp
  rw [after0_11, Pipeline.eq_sum_fin_of_reset_step_apply_of_flush (fun n h => (outsAt0 m c n h).2.2.2.2.2.2.1) 64 (fun _ => 0)
    (fun t q => (up2 (fun (_ : Fin 1) l => ∑ p, dhR d a b wd wg wu (row t p) l * (x (row t p) l * rinv (x (row t p)))) : FVec Ideal S1x1024 .f32) q)
    (fun t h0 q => by rw [o11A h t h0, pay1_at, pay2_at]) (fun t h0 q => by rw [o11B h t h0, pay1_at]) t ((flush0_11 t).mp hf) _, zero_add]
  have ht : t.val < 64 := lt_of_lt_of_eq t.isLt (show cfg0.N = 64 from N_0)
  have hy : (y 1 : Fin 1024) = ((win0_11.blk t).view.emb y 1 : Fin 1024) := by
    refine Fin.ext ?_
    blk_simp [idx t]
  refine Eq.trans (sum_blocks (fun i => dhR d a b wd wg wu i (y 1) * (x i (y 1) * rinv (x i)))
    (fun s p => row ⟨64 * (t.val / 64) + s.val, by have := (show cfg0.N = 64 from N_0); omega⟩ p)
    (fun s p => by show (64 * (t.val / 64) + s.val) * 256 + p.val = s.val * 256 + p.val; omega)) ?_
  unfold up2
  rw [← hy]
end Cert.Proof.FfnBlk
-- ==== Proof.FfnHost.lean ====
module
public import proofs.«01_k».proof.Proof.FfnBlk
@[expose] public section
set_option maxRecDepth 16384
noncomputable section
namespace Cert.Proof.FfnBlk
open Cert.KernelIdeal Cert.KernelIdeal.Gen Idealize.ShloMosaic Idealize.ShloMosaic.TcCoe Idealize.SL.Sem FfnKer

/-- One of the two saved up projections. -/
def upR (x : Fin 16384 → Fin 1024 → ℝ) (g : Fin 1 → Fin 1024 → ℝ) (w : Fin 1024 → Fin 2816 → ℝ) (i : Fin 16384) (f : Fin 2816) : ℝ :=
  ∑ k, x i k * rinv (x i) * g 0 k * w k f

theorem rs (x : Fin 1024 → ℝ) : Ideal.rsqrt (((∑ k, x k * x k) / 1024 + eps : ℝ) : EReal) = ((rinv x : ℝ) : EReal) := rsqrt_real (msq_pos x)

theorem entry (m : (ℓ : Loc nD τ sig) → Buf (Elt Ideal) ℓ) (c : Dev nD) (x d : Fin 16384 → Fin 1024 → ℝ) (g : Fin 1 → Fin 1024 → ℝ) (wg wu : Fin 1024 → Fin 2816 → ℝ) (wd : Fin 2816 → Fin 1024 → ℝ)
    (hx : m ((c.tc : Thread nD τ).loc main_arg0) = (up2 x : FVec Ideal S16384x1024 .f32))
    (hg : m ((c.tc : Thread nD τ).loc main_arg1) = (up2 g : FVec Ideal S1x1024 .f32))
    (hwg : m ((c.tc : Thread nD τ).loc main_arg2) = (up2 wg : FVec Ideal S1024x2816 .f32))
    (hwu : m ((c.tc : Thread nD τ).loc main_arg3) = (up2 wu : FVec Ideal S1024x2816 .f32))
    (hwd : m ((c.tc : Thread nD τ).loc main_arg4) = (up2 wd : FVec Ideal S2816x1024 .f32))
    (hd : m ((c.tc : Thread nD τ).loc main_arg5) = (up2 d : FVec Ideal S16384x1024 .f32)) :
    Entry m c x d g (upR x g wg) (upR x g wu) wd (fun f k => wg k f) (fun f k => wu k f) := by
  constructor
  · entry_read; exact hx
  · entry_read; exact hd
  · entry_read; exact hg
  · entry_read
    rw [hx, hg, hwg]
    funext q; idx_vars q
    pointwise
    simp only [up2_ix, lit_1024, lit_eps, ← EReal.coe_mul, ← coe_sum, div_real (by norm_num : (1024 : ℝ) ≠ 0), ← EReal.coe_add]
    simp only [rs, ← EReal.coe_mul, ← coe_sum]
    rfl
  · entry_read
    rw [hx, hg, hwu]
    funext q; idx_vars q
    pointwise
    simp only [up2_ix, lit_1024, lit_eps, ← EReal.coe_mul, ← coe_sum, div_real (by norm_num : (1024 : ℝ) ≠ 0), ← EReal.coe_add]
    simp only [rs, ← EReal.coe_mul, ← coe_sum]
    rfl
  · entry_read
    rw [hwd]
    funext q; idx_vars q
    pointwise
  · entry_read
    rw [hwg]
    funext q; idx_vars q
    pointwise
    rfl
  · entry_read
    rw [hwu]
    funext q; idx_vars q
    pointwise
    rfl
end Cert.Proof.FfnBlk
-- ==== Proof.FfnRunK.lean ====
module
public import proofs.«01_k».proof.Proof.FfnFin
public import proofs.«01_k».proof.Proof.FfnHost
@[expose] public section
noncomputable section
/-! The kernel's run on real arguments: what each result ends holding. -/
namespace Cert.Proof.FfnRunK
open Cert.KernelIdeal Cert.KernelIdeal.Gen Idealize.ShloMosaic Idealize.ShloMosaic.TcCoe Idealize.SL.Sem FfnKer FfnBlk

theorem runK (m : (ℓ : Loc nD τ sig) → Buf (Elt Ideal) ℓ) (ρ : Dev nD → PrngReg)
    (x : Dev nD → Fin 16384 → Fin 1024 → ℝ)
    (g : Dev nD → Fin 1 → Fin 1024 → ℝ)
    (wg : Dev nD → Fin 1024 → Fin 2816 → ℝ)
    (wu : Dev nD → Fin 1024 → Fin 2816 → ℝ)
    (wd : Dev nD → Fin 2816 → Fin 1024 → ℝ)
    (d : Dev nD → Fin 16384 → Fin 1024 → ℝ)
    (hx : ∀ c : Dev nD, rd m c main_arg0 = (up2 (x c) : FVec Ideal S16384x1024 .f32))
    (hg : ∀ c : Dev nD, rd m c main_arg1 = (up2 (g c) : FVec Ideal S1x1024 .f32))
    (hwg : ∀ c : Dev nD, rd m c main_arg2 = (up2 (wg c) : FVec Ideal S1024x2816 .f32))
    (hwu : ∀ c : Dev nD, rd m c main_arg3 = (up2 (wu c) : FVec Ideal S1024x2816 .f32))
    (hwd : ∀ c : Dev nD, rd m c main_arg4 = (up2 (wd c) : FVec Ideal S2816x1024 .f32))
    (hd : ∀ c : Dev nD, rd m c main_arg5 = (up2 (d c) : FVec Ideal S16384x1024 .f32)) :
    θ_run (defs (F := Ideal)) (onTc (τ := τ) (main (F := Ideal))) ⟨m, fun _ => 0, ρ⟩ (fun r => ∀ c : Dev nD,
      rd r.2.mem c main_v21_0 = (up2 (dxR (x c) (d c) (g c) (upR (x c) (g c) (wg c)) (upR (x c) (g c) (wu c)) (wd c) (fun f k => wg c k f) (fun f k => wu c k f)) : FVec Ideal S16384x1024 .f32)
      ∧ rd r.2.mem c main_v21_1 = (up2 (daR (d c) (upR (x c) (g c) (wg c)) (upR (x c) (g c) (wu c)) (wd c)) : FVec Ideal S16384x2816 .bf16)
      ∧ rd r.2.mem c main_v21_2 = (up2 (dbR (d c) (upR (x c) (g c) (wg c)) (wd c)) : FVec Ideal S16384x2816 .bf16)
      ∧ rd r.2.mem c main_v21_3 = (up2 (fun i j => upR (x c) (g c) (wg c) i j * sg (upR (x c) (g c) (wg c) i j) * upR (x c) (g c) (wu c) i j) : FVec Ideal S16384x2816 .bf16)
      ∧ rd r.2.mem c main_v21_4 = (up2 (fun i j => x c i j * rinv (x c i) * g c 0 j) : FVec Ideal S16384x1024 .bf16)
      ∧ rd r.2.mem c main_v21_5 = (up2 (fun i j => 1 / 2 * d c i j) : FVec Ideal S16384x1024 .bf16)
      ∧ rd r.2.mem c main_v21_6 = (up2 (fun (_ : Fin 1) l => ∑ i, dhR (d c) (upR (x c) (g c) (wg c)) (upR (x c) (g c) (wu c)) (wd c) (fun f k => wg c k f) (fun f k => wu c k f) i l * (x c i l * rinv (x c i))) : FVec Ideal S1x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5) := by
  refine (θ_run defs _ _).mono (fun r h c => ?_) (θ_run_and (run_main m ρ) (unchanged m ρ))
  have E := entry m c (x c) (d c) (g c) (wg c) (wu c) (wd c) (hx c) (hg c) (hwg c) (hwu c) (hwd c) (hd c)
  exact ⟨((h.1 c).1 5).trans (f5 E), ((h.1 c).1 6).trans (f6 E), ((h.1 c).1 7).trans (f7 E), ((h.1 c).1 8).trans (f8 E), ((h.1 c).1 9).trans (f9 E), ((h.1 c).1 10).trans (f10 E), ((h.1 c).1 11).trans (f11 E), h.2 c⟩
end Cert.Proof.FfnRunK
-- ==== Proof.FfnRef.lean ====
/- The reference read operation by operation: each value that the next ones read more than once, or that sums or
   divides, has a name (`v_…`), and on arrays of reals it is an array of reals, given by a formula (`r_…`). -/
module

public import proofs.«01_k».proof.Proof.Gen.ReferenceIdeal.Run
public import proofs.«01_k».proof.Proof.Kit

@[expose] public section

set_option maxRecDepth 16384

noncomputable section

namespace Cert.Proof.FfnRef

open Cert.ReferenceIdeal Cert.ReferenceIdeal.Gen Idealize.ShloMosaic Idealize.ShloMosaic.TcCoe Idealize.SL.Sem

def v_v1 (X : FVec Ideal S16384x1024 .f32) : FVec Ideal S16384 .f32 :=
  (Host.reduceAdd (mulf X X) (constant S_ .f32 0x00000000#32) reducesTo_S16384x1024_S16384_d1 h_S_)

def r_v1 (x : Fin 16384 → Fin 1024 → ℝ) (i : Fin 16384) : ℝ :=
  (∑ k1 : Fin 1024, (x i k1 * x i k1))

theorem h_v1 (x : Fin 16384 → Fin 1024 → ℝ) : v_v1 (up2 x) = up1 (r_v1 x) := by
  unfold v_v1
  funext q; idx_vars q
  pointwise
  simp only [zero_add, up2_ix, ← EReal.coe_mul, ← coe_sum]
  rfl

def v_v4 (X : FVec Ideal S16384x1024 .f32) : FVec Ideal S16384x1 .f32 :=
  (Host.divf (broadcastInDim S16384x1 ![0] bcast_S16384_S16384x1_0 (v_v1 X)) (broadcastInDim S16384x1 ![] bcast_S_S16384x1 (constant S_ .f32 0x44800000#32)))

def r_v4 (x : Fin 16384 → Fin 1024 → ℝ) (i : Fin 16384) (j : Fin 1) : ℝ :=
  ((r_v1 x i) / 1024)

theorem h_v4 (x : Fin 16384 → Fin 1024 → ℝ) : v_v4 (up2 x) = up2 (r_v4 x) := by
  unfold v_v4
  simp only [h_v1]
  funext q; idx_vars q
  pointwise
  simp only [lit_1024, up1_ix, up2_ix, div_real (show (1024 : ℝ) ≠ 0 by norm_num)]
  rfl

def v_v6 (X : FVec Ideal S16384x1024 .f32) : FVec Ideal S16384x1 .f32 :=
  (addf (v_v4 X) (broadcastInDim S16384x1 ![] bcast_S_S16384x1 (constant S_ .f32 0x358637BD#32)))

def r_v6 (x : Fin 16384 → Fin 1024 → ℝ) (i : Fin 16384) (j : Fin 1) : ℝ :=
  ((r_v4 x i j) + eps)

theorem pos_v6 (x : Fin 16384 → Fin 1024 → ℝ) (i : Fin 16384) (j : Fin 1) : 0 < r_v6 x i j := by
  unfold r_v6 r_v4 r_v1
  exact add_pos_of_nonneg_of_pos (div_nonneg (Finset.sum_nonneg fun k _ => mul_self_nonneg _) (by norm_num)) eps_pos

theorem h_v6 (x : Fin 16384 → Fin 1024 → ℝ) : v_v6 (up2 x) = up2 (r_v6 x) := by
  unfold v_v6
  simp only [h_v4]
  funext q; idx_vars q
  pointwise
  simp only [lit_eps, up2_ix, ← EReal.coe_add]
  rfl

def v_v7 (X : FVec Ideal S16384x1024 .f32) : FVec Ideal S16384x1 .f32 :=
  (Host.rsqrt (v_v6 X))

def r_v7 (x : Fin 16384 → Fin 1024 → ℝ) (i : Fin 16384) (j : Fin 1) : ℝ :=
  ((Real.sqrt ((r_v6 x i j)))⁻¹)

theorem h_v7 (x : Fin 16384 → Fin 1024 → ℝ) : v_v7 (up2 x) = up2 (r_v7 x) := by
  unfold v_v7
  simp only [h_v6]
  funext q; idx_vars q
  pointwise
  simp only [up2_ix, rsqrt_real (pos_v6 _ _ _)]
  rfl

def v_v8 (X : FVec Ideal S16384x1024 .f32) : FVec Ideal S16384x1 .f32 :=
  (Host.divf (v_v7 X) (v_v6 X))

def r_v8 (x : Fin 16384 → Fin 1024 → ℝ) (i : Fin 16384) (j : Fin 1) : ℝ :=
  ((r_v7 x i j) / (r_v6 x i j))

theorem h_v8 (x : Fin 16384 → Fin 1024 → ℝ) : v_v8 (up2 x) = up2 (r_v8 x) := by
  unfold v_v8
  simp only [h_v7, h_v6]
  funext q; idx_vars q
  pointwise
  simp only [up2_ix, div_real (pos_v6 _ _ _).ne']
  rfl

def v_v12 (X : FVec Ideal S16384x1024 .f32) : FVec Ideal S16384x1024 .f32 :=
  (mulf X (broadcastInDim S16384x1024 ![0, 1] bcast_S16384x1_S16384x1024_0_1 (v_v7 X)))

def r_v12 (x : Fin 16384 → Fin 1024 → ℝ) (i : Fin 16384) (j : Fin 1024) : ℝ :=
  (x i j * (r_v7 x i 0))

theorem h_v12 (x : Fin 16384 → Fin 1024 → ℝ) : v_v12 (up2 x) = up2 (r_v12 x) := by
  unfold v_v12
  simp only [h_v7]
  funext q; idx_vars q
  pointwise
  simp only [up2_ix, ← EReal.coe_mul]
  rfl

def v_v14 (X : FVec Ideal S16384x1024 .f32) (G : FVec Ideal S1x1024 .f32) : FVec Ideal S16384x1024 .f32 :=
  (mulf (v_v12 X) (broadcastInDim S16384x1024 ![0, 1] bcast_S1x1024_S16384x1024_0_1 G))

def r_v14 (x : Fin 16384 → Fin 1024 → ℝ) (g : Fin 1 → Fin 1024 → ℝ) (i : Fin 16384) (j : Fin 1024) : ℝ :=
  ((r_v12 x i j) * g 0 j)

theorem h_v14 (x : Fin 16384 → Fin 1024 → ℝ) (g : Fin 1 → Fin 1024 → ℝ) : v_v14 (up2 x) (up2 g) = up2 (r_v14 x g) := by
  unfold v_v14
  simp only [h_v12]
  funext q; idx_vars q
  pointwise
  simp only [up2_ix, ← EReal.coe_mul]
  rfl

def v_v15 (X : FVec Ideal S16384x1024 .f32) (G : FVec Ideal S1x1024 .f32) (WG : FVec Ideal S1024x2816 .f32) : FVec Ideal S16384x2816 .f32 :=
  (Host.dotGeneral dot_S16384x1024_S1024x2816_S16384x2816_1_0_0_1_n_n none (v_v14 X G) WG)

def r_v15 (x : Fin 16384 → Fin 1024 → ℝ) (g : Fin 1 → Fin 1024 → ℝ) (wg : Fin 1024 → Fin 2816 → ℝ) (i : Fin 16384) (j : Fin 2816) : ℝ :=
  (∑ k1 : Fin 1024, (r_v14 x g i k1) * wg k1 j)

theorem h_v15 (x : Fin 16384 → Fin 1024 → ℝ) (g : Fin 1 → Fin 1024 → ℝ) (wg : Fin 1024 → Fin 2816 → ℝ) : v_v15 (up2 x) (up2 g) (up2 wg) = up2 (r_v15 x g wg) := by
  unfold v_v15
  simp only [h_v14]
  funext q; idx_vars q
  pointwise
  simp only [up2_ix, ← EReal.coe_mul, ← coe_sum]
  rfl

def v_v16 (X : FVec Ideal S16384x1024 .f32) (G : FVec Ideal S1x1024 .f32) (WU : FVec Ideal S1024x2816 .f32) : FVec Ideal S16384x2816 .f32 :=
  (Host.dotGeneral dot_S16384x1024_S1024x2816_S16384x2816_1_0_0_1_n_n none (v_v14 X G) WU)

def r_v16 (x : Fin 16384 → Fin 1024 → ℝ) (g : Fin 1 → Fin 1024 → ℝ) (wu : Fin 1024 → Fin 2816 → ℝ) (i : Fin 16384) (j : Fin 2816) : ℝ :=
  (∑ k1 : Fin 1024, (r_v14 x g i k1) * wu k1 j)

theorem h_v16 (x : Fin 16384 → Fin 1024 → ℝ) (g : Fin 1 → Fin 1024 → ℝ) (wu : Fin 1024 → Fin 2816 → ℝ) : v_v16 (up2 x) (up2 g) (up2 wu) = up2 (r_v16 x g wu) := by
  unfold v_v16
  simp only [h_v14]
  funext q; idx_vars q
  pointwise
  simp only [up2_ix, ← EReal.coe_mul, ← coe_sum]
  rfl

def v_c0_v1 (X : FVec Ideal S16384x1024 .f32) (G : FVec Ideal S1x1024 .f32) (WG : FVec Ideal S1024x2816 .f32) : FVec Ideal S16384x2816 .f32 :=
  (Host.exp (Host.negf (v_v15 X G WG)))

def r_c0_v1 (x : Fin 16384 → Fin 1024 → ℝ) (g : Fin 1 → Fin 1024 → ℝ) (wg : Fin 1024 → Fin 2816 → ℝ) (i : Fin 16384) (j : Fin 2816) : ℝ :=
  (Real.exp ((-(r_v15 x g wg i j))))

theorem h_c0_v1 (x : Fin 16384 → Fin 1024 → ℝ) (g : Fin 1 → Fin 1024 → ℝ) (wg : Fin 1024 → Fin 2816 → ℝ) : v_c0_v1 (up2 x) (up2 g) (up2 wg) = up2 (r_c0_v1 x g wg) := by
  unfold v_c0_v1
  simp only [h_v15]
  funext q; idx_vars q
  pointwise
  simp only [up2_ix, exp_real, ← EReal.coe_neg]
  rfl

def v_c0_v3 (X : FVec Ideal S16384x1024 .f32) (G : FVec Ideal S1x1024 .f32) (WG : FVec Ideal S1024x2816 .f32) : FVec Ideal S16384x2816 .f32 :=
  (addf ((broadcastInDim S16384x2816 ![] bcast_S_S16384x2816) (constant S_ .f32 0x3F800000#32)) (v_c0_v1 X G WG))

def r_c0_v3 (x : Fin 16384 → Fin 1024 → ℝ) (g : Fin 1 → Fin 1024 → ℝ) (wg : Fin 1024 → Fin 2816 → ℝ) (i : Fin 16384) (j : Fin 2816) : ℝ :=
  (1 + (r_c0_v1 x g wg i j))

theorem pos_c0_v3 (x : Fin 16384 → Fin 1024 → ℝ) (g : Fin 1 → Fin 1024 → ℝ) (wg : Fin 1024 → Fin 2816 → ℝ) (i : Fin 16384) (j : Fin 2816) : 0 < r_c0_v3 x g wg i j := by
  unfold r_c0_v3 r_c0_v1; positivity

theorem h_c0_v3 (x : Fin 16384 → Fin 1024 → ℝ) (g : Fin 1 → Fin 1024 → ℝ) (wg : Fin 1024 → Fin 2816 → ℝ) : v_c0_v3 (up2 x) (up2 g) (up2 wg) = up2 (r_c0_v3 x g wg) := by
  unfold v_c0_v3
  simp only [h_c0_v1]
  funext q; idx_vars q
  pointwise
  simp only [lit_one, up2_ix, ← EReal.coe_add]
  rfl

def v_v17_2 (X : FVec Ideal S16384x1024 .f32) (G : FVec Ideal S1x1024 .f32) (WG : FVec Ideal S1024x2816 .f32) : FVec Ideal S16384x2816 .f32 :=
  (Host.divf ((broadcastInDim S16384x2816 ![] bcast_S_S16384x2816) (constant S_ .f32 0x3F800000#32)) (v_c0_v3 X G WG))

def r_v17_2 (x : Fin 16384 → Fin 1024 → ℝ) (g : Fin 1 → Fin 1024 → ℝ) (wg : Fin 1024 → Fin 2816 → ℝ) (i : Fin 16384) (j : Fin 2816) : ℝ :=
  (1 / (r_c0_v3 x g wg i j))

theorem h_v17_2 (x : Fin 16384 → Fin 1024 → ℝ) (g : Fin 1 → Fin 1024 → ℝ) (wg : Fin 1024 → Fin 2816 → ℝ) : v_v17_2 (up2 x) (up2 g) (up2 wg) = up2 (r_v17_2 x g wg) := by
  unfold v_v17_2
  simp only [h_c0_v3]
  funext q; idx_vars q
  pointwise
  simp only [lit_one, up2_ix, div_real (pos_c0_v3 _ _ _ _ _).ne']
  rfl

def v_v17_0 (X : FVec Ideal S16384x1024 .f32) (G : FVec Ideal S1x1024 .f32) (WG : FVec Ideal S1024x2816 .f32) : FVec Ideal S16384x2816 .f32 :=
  (mulf (v_v15 X G WG) (v_v17_2 X G WG))

def r_v17_0 (x : Fin 16384 → Fin 1024 → ℝ) (g : Fin 1 → Fin 1024 → ℝ) (wg : Fin 1024 → Fin 2816 → ℝ) (i : Fin 16384) (j : Fin 2816) : ℝ :=
  ((r_v15 x g wg i j) * (r_v17_2 x g wg i j))

theorem h_v17_0 (x : Fin 16384 → Fin 1024 → ℝ) (g : Fin 1 → Fin 1024 → ℝ) (wg : Fin 1024 → Fin 2816 → ℝ) : v_v17_0 (up2 x) (up2 g) (up2 wg) = up2 (r_v17_0 x g wg) := by
  unfold v_v17_0
  simp only [h_v15, h_v17_2]
  funext q; idx_vars q
  pointwise
  simp only [up2_ix, ← EReal.coe_mul]
  rfl

def v_v25 (DX : FVec Ideal S16384x1024 .f32) : FVec Ideal S16384x1024 .f32 :=
  (mulf (broadcastInDim S16384x1024 ![] bcast_S_S16384x1024 (constant S_ .f32 0x3F000000#32)) (shapeCast S16384x1024 DX shapeCasts_S16384x1024_S16384x1024))

def r_v25 (dx : Fin 16384 → Fin 1024 → ℝ) (i : Fin 16384) (j : Fin 1024) : ℝ :=
  ((1/2) * dx i j)

theorem h_v25 (dx : Fin 16384 → Fin 1024 → ℝ) : v_v25 (up2 dx) = up2 (r_v25 dx) := by
  unfold v_v25
  funext q; idx_vars q
  pointwise
  simp only [lit_half, up2_ix, ← EReal.coe_mul]
  rfl

def v_v26 (WD : FVec Ideal S2816x1024 .f32) (DX : FVec Ideal S16384x1024 .f32) : FVec Ideal S16384x2816 .f32 :=
  (Host.dotGeneral dot_S16384x1024_S2816x1024_S16384x2816_1_1_0_0_n_n none (v_v25 DX) WD)

def r_v26 (wd : Fin 2816 → Fin 1024 → ℝ) (dx : Fin 16384 → Fin 1024 → ℝ) (i : Fin 16384) (j : Fin 2816) : ℝ :=
  (∑ k1 : Fin 1024, (r_v25 dx i k1) * wd j k1)

theorem h_v26 (wd : Fin 2816 → Fin 1024 → ℝ) (dx : Fin 16384 → Fin 1024 → ℝ) : v_v26 (up2 wd) (up2 dx) = up2 (r_v26 wd dx) := by
  unfold v_v26
  simp only [h_v25]
  funext q; idx_vars q
  pointwise
  simp only [up2_ix, ← EReal.coe_mul, ← coe_sum]
  rfl

def v_v27 (X : FVec Ideal S16384x1024 .f32) (G : FVec Ideal S1x1024 .f32) (WG : FVec Ideal S1024x2816 .f32) (WD : FVec Ideal S2816x1024 .f32) (DX : FVec Ideal S16384x1024 .f32) : FVec Ideal S16384x2816 .f32 :=
  (mulf (v_v17_0 X G WG) (v_v26 WD DX))

def r_v27 (x : Fin 16384 → Fin 1024 → ℝ) (g : Fin 1 → Fin 1024 → ℝ) (wg : Fin 1024 → Fin 2816 → ℝ) (wd : Fin 2816 → Fin 1024 → ℝ) (dx : Fin 16384 → Fin 1024 → ℝ) (i : Fin 16384) (j : Fin 2816) : ℝ :=
  ((r_v17_0 x g wg i j) * (r_v26 wd dx i j))

theorem h_v27 (x : Fin 16384 → Fin 1024 → ℝ) (g : Fin 1 → Fin 1024 → ℝ) (wg : Fin 1024 → Fin 2816 → ℝ) (wd : Fin 2816 → Fin 1024 → ℝ) (dx : Fin 16384 → Fin 1024 → ℝ) : v_v27 (up2 x) (up2 g) (up2 wg) (up2 wd) (up2 dx) = up2 (r_v27 x g wg wd dx) := by
  unfold v_v27
  simp only [h_v17_0, h_v26]
  funext q; idx_vars q
  pointwise
  simp only [up2_ix, ← EReal.coe_mul]
  rfl

def v_v28 (X : FVec Ideal S16384x1024 .f32) (G : FVec Ideal S1x1024 .f32) (WU : FVec Ideal S1024x2816 .f32) (WD : FVec Ideal S2816x1024 .f32) (DX : FVec Ideal S16384x1024 .f32) : FVec Ideal S16384x2816 .f32 :=
  (mulf (v_v26 WD DX) (v_v16 X G WU))

def r_v28 (x : Fin 16384 → Fin 1024 → ℝ) (g : Fin 1 → Fin 1024 → ℝ) (wu : Fin 1024 → Fin 2816 → ℝ) (wd : Fin 2816 → Fin 1024 → ℝ) (dx : Fin 16384 → Fin 1024 → ℝ) (i : Fin 16384) (j : Fin 2816) : ℝ :=
  ((r_v26 wd dx i j) * (r_v16 x g wu i j))

theorem h_v28 (x : Fin 16384 → Fin 1024 → ℝ) (g : Fin 1 → Fin 1024 → ℝ) (wu : Fin 1024 → Fin 2816 → ℝ) (wd : Fin 2816 → Fin 1024 → ℝ) (dx : Fin 16384 → Fin 1024 → ℝ) : v_v28 (up2 x) (up2 g) (up2 wu) (up2 wd) (up2 dx) = up2 (r_v28 x g wu wd dx) := by
  unfold v_v28
  simp only [h_v26, h_v16]
  funext q; idx_vars q
  pointwise
  simp only [up2_ix, ← EReal.coe_mul]
  rfl

def v_v29 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S16384x2816 .f32 :=
  (addf (mulf (v_v28 X G WU WD DX) (v_v17_2 X G WG)) (mulf (mulf (v_v15 X G WG) (v_v28 X G WU WD DX)) (mulf (v_v17_2 X G WG) (subf ((broadcastInDim S16384x2816 ![] bcast_S_S16384x2816) (constant S_ .f32 0x3F800000#32)) (v_v17_2 X G WG)))))

def r_v29 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 16384) (j : Fin 2816) : ℝ :=
  (((r_v28 x g wu wd dx i j) * (r_v17_2 x g wg i j)) + (((r_v15 x g wg i j) * (r_v28 x g wu wd dx i j)) * ((r_v17_2 x g wg i j) * (1 - (r_v17_2 x g wg i j)))))

theorem h_v29 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v29 (up2 x) (up2 g) (up2 wg) (up2 wu) (up2 wd) (up2 dx) = up2 (r_v29 x g wg wu wd dx) := by
  unfold v_v29
  simp only [h_v28, h_v17_2, h_v15]
  funext q; idx_vars q
  pointwise
  simp only [lit_one, up2_ix, ← EReal.coe_mul, ← EReal.coe_add, ← EReal.coe_sub]
  rfl

def v_v30 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S16384x1024 .f32 :=
  (Host.dotGeneral dot_S16384x2816_S1024x2816_S16384x1024_1_1_0_0_n_n none (v_v27 X G WG WD DX) WU)

def r_v30 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 16384) (j : Fin 1024) : ℝ :=
  (∑ k1 : Fin 2816, (r_v27 x g wg wd dx i k1) * wu j k1)

theorem h_v30 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v30 (up2 x) (up2 g) (up2 wg) (up2 wu) (up2 wd) (up2 dx) = up2 (r_v30 x g wg wu wd dx) := by
  unfold v_v30
  simp only [h_v27]
  funext q; idx_vars q
  pointwise
  simp only [up2_ix, ← EReal.coe_mul, ← coe_sum]
  rfl

def v_v31 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S16384x1024 .f32 :=
  (Host.dotGeneral dot_S16384x2816_S1024x2816_S16384x1024_1_1_0_0_n_n none (v_v29 X G WG WU WD DX) WG)

def r_v31 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 16384) (j : Fin 1024) : ℝ :=
  (∑ k1 : Fin 2816, (r_v29 x g wg wu wd dx i k1) * wg j k1)

theorem h_v31 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v31 (up2 x) (up2 g) (up2 wg) (up2 wu) (up2 wd) (up2 dx) = up2 (r_v31 x g wg wu wd dx) := by
  unfold v_v31
  simp only [h_v29]
  funext q; idx_vars q
  pointwise
  simp only [up2_ix, ← EReal.coe_mul, ← coe_sum]
  rfl

def v_v32 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S16384x1024 .f32 :=
  (addf (v_v30 X G WG WU WD DX) (v_v31 X G WG WU WD DX))

def r_v32 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 16384) (j : Fin 1024) : ℝ :=
  ((r_v30 x g wg wu wd dx i j) + (r_v31 x g wg wu wd dx i j))

theorem h_v32 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v32 (up2 x) (up2 g) (up2 wg) (up2 wu) (up2 wd) (up2 dx) = up2 (r_v32 x g wg wu wd dx) := by
  unfold v_v32
  simp only [h_v30, h_v31]
  funext q; idx_vars q
  pointwise
  simp only [up2_ix, ← EReal.coe_add]
  rfl

def v_v34 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S1024 .f32 :=
  (Host.reduceAdd (mulf (v_v12 X) (v_v32 X G WG WU WD DX)) (constant S_ .f32 0x00000000#32) reducesTo_S16384x1024_S1024_d0 h_S_)

def r_v34 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 1024) : ℝ :=
  (∑ k1 : Fin 16384, ((r_v12 x k1 i) * (r_v32 x g wg wu wd dx k1 i)))

theorem h_v34 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v34 (up2 x) (up2 g) (up2 wg) (up2 wu) (up2 wd) (up2 dx) = up1 (r_v34 x g wg wu wd dx) := by
  unfold v_v34
  simp only [h_v12, h_v32]
  funext q; idx_vars q
  pointwise
  simp only [zero_add, up2_ix, ← EReal.coe_mul, ← coe_sum]
  rfl

def v_v35 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S1x1024 .f32 :=
  (shapeCast S1x1024 (v_v34 X G WG WU WD DX) shapeCasts_S1024_S1x1024)

def r_v35 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 1) (j : Fin 1024) : ℝ :=
  (r_v34 x g wg wu wd dx j)

theorem h_v35 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v35 (up2 x) (up2 g) (up2 wg) (up2 wu) (up2 wd) (up2 dx) = up2 (r_v35 x g wg wu wd dx) := by
  unfold v_v35
  simp only [h_v34]
  funext q; idx_vars q
  pointwise
  simp only [up1_ix, up2_ix]
  rfl

def v_v37 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S16384x1024 .f32 :=
  (mulf (v_v32 X G WG WU WD DX) (broadcastInDim S16384x1024 ![0, 1] bcast_S1x1024_S16384x1024_0_1 G))

def r_v37 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 16384) (j : Fin 1024) : ℝ :=
  ((r_v32 x g wg wu wd dx i j) * g 0 j)

theorem h_v37 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v37 (up2 x) (up2 g) (up2 wg) (up2 wu) (up2 wd) (up2 dx) = up2 (r_v37 x g wg wu wd dx) := by
  unfold v_v37
  simp only [h_v32]
  funext q; idx_vars q
  pointwise
  simp only [up2_ix, ← EReal.coe_mul]
  rfl

def v_v39 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S16384 .f32 :=
  (Host.reduceAdd (mulf X (v_v37 X G WG WU WD DX)) (constant S_ .f32 0x00000000#32) reducesTo_S16384x1024_S16384_d1 h_S_)

def r_v39 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 16384) : ℝ :=
  (∑ k1 : Fin 1024, (x i k1 * (r_v37 x g wg wu wd dx i k1)))

theorem h_v39 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v39 (up2 x) (up2 g) (up2 wg) (up2 wu) (up2 wd) (up2 dx) = up1 (r_v39 x g wg wu wd dx) := by
  unfold v_v39
  simp only [h_v37]
  funext q; idx_vars q
  pointwise
  simp only [zero_add, up2_ix, ← EReal.coe_mul, ← coe_sum]
  rfl

def v_v45 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S16384x1 .f32 :=
  (Host.divf (mulf (shapeCast S16384x1 (v_v39 X G WG WU WD DX) shapeCasts_S16384_S16384x1) (mulf (broadcastInDim S16384x1 ![] bcast_S_S16384x1 (constant S_ .f32 0xBF000000#32)) (v_v8 X))) (broadcastInDim S16384x1 ![] bcast_S_S16384x1 (constant S_ .f32 0x44800000#32)))

def r_v45 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 16384) (j : Fin 1) : ℝ :=
  (((r_v39 x g wg wu wd dx i) * ((-(1/2)) * (r_v8 x i j))) / 1024)

theorem h_v45 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v45 (up2 x) (up2 g) (up2 wg) (up2 wu) (up2 wd) (up2 dx) = up2 (r_v45 x g wg wu wd dx) := by
  unfold v_v45
  simp only [h_v39, h_v8]
  funext q; idx_vars q
  pointwise
  simp only [lit_1024, lit_neg_half, up1_ix, up2_ix, ← EReal.coe_mul, ← EReal.coe_neg, div_real (show (1024 : ℝ) ≠ 0 by norm_num)]
  rfl

def v_v46 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S16384 .f32 :=
  (Host.reduceAdd (v_v45 X G WG WU WD DX) (constant S_ .f32 0x00000000#32) reducesTo_S16384x1_S16384_d1 h_S_)

def r_v46 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 16384) : ℝ :=
  (∑ k1 : Fin 1, (r_v45 x g wg wu wd dx i k1))

theorem h_v46 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v46 (up2 x) (up2 g) (up2 wg) (up2 wu) (up2 wd) (up2 dx) = up1 (r_v46 x g wg wu wd dx) := by
  unfold v_v46
  simp only [h_v45]
  funext q; idx_vars q
  pointwise
  simp only [zero_add, up2_ix, ← coe_sum]
  rfl

def v_v52 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S16384x1024 .f32 :=
  (addf DX (addf (addf (mulf (v_v37 X G WG WU WD DX) (broadcastInDim S16384x1024 ![0, 1] bcast_S16384x1_S16384x1024_0_1 (v_v7 X))) (mulf X (broadcastInDim S16384x1024 ![0] bcast_S16384_S16384x1024_0 (v_v46 X G WG WU WD DX)))) (mulf (broadcastInDim S16384x1024 ![0] bcast_S16384_S16384x1024_0 (v_v46 X G WG WU WD DX)) X)))

def r_v52 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 16384) (j : Fin 1024) : ℝ :=
  (dx i j + ((((r_v37 x g wg wu wd dx i j) * (r_v7 x i 0)) + (x i j * (r_v46 x g wg wu wd dx i))) + ((r_v46 x g wg wu wd dx i) * x i j)))

theorem h_v52 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v52 (up2 x) (up2 g) (up2 wg) (up2 wu) (up2 wd) (up2 dx) = up2 (r_v52 x g wg wu wd dx) := by
  unfold v_v52
  simp only [h_v37, h_v7, h_v46]
  funext q; idx_vars q
  pointwise
  simp only [up1_ix, up2_ix, ← EReal.coe_mul, ← EReal.coe_add]
  rfl

def v_v53 (X : FVec Ideal S16384x1024 .f32) (G : FVec Ideal S1x1024 .f32) (WG : FVec Ideal S1024x2816 .f32) (WU : FVec Ideal S1024x2816 .f32) (WD : FVec Ideal S2816x1024 .f32) (DX : FVec Ideal S16384x1024 .f32) : FVec Ideal S16384x2816 .bf16 :=
  (truncf .bf16 (v_v29 X G WG WU WD DX) bitsLt_bf16_f32)

def r_v53 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) (i : Fin 16384) (j : Fin 2816) : ℝ :=
  (r_v29 x g wg wu wd dx i j)

theorem h_v53 (x : Fin 16384 → Fin 1024 → ℝ) (g : Fin 1 → Fin 1024 → ℝ) (wg : Fin 1024 → Fin 2816 → ℝ) (wu : Fin 1024 → Fin 2816 → ℝ) (wd : Fin 2816 → Fin 1024 → ℝ) (dx : Fin 16384 → Fin 1024 → ℝ) : v_v53 (up2 x) (up2 g) (up2 wg) (up2 wu) (up2 wd) (up2 dx) = up2 (r_v53 x g wg wu wd dx) := by
  unfold v_v53
  simp only [h_v29]
  funext q; idx_vars q
  pointwise
  simp only [up2_ix]
  rfl

def v_v54 (X : FVec Ideal S16384x1024 .f32) (G : FVec Ideal S1x1024 .f32) (WG : FVec Ideal S1024x2816 .f32) (WD : FVec Ideal S2816x1024 .f32) (DX : FVec Ideal S16384x1024 .f32) : FVec Ideal S16384x2816 .bf16 :=
  (truncf .bf16 (v_v27 X G WG WD DX) bitsLt_bf16_f32)

def r_v54 (x : Fin 16384 → Fin 1024 → ℝ) (g : Fin 1 → Fin 1024 → ℝ) (wg : Fin 1024 → Fin 2816 → ℝ) (wd : Fin 2816 → Fin 1024 → ℝ) (dx : Fin 16384 → Fin 1024 → ℝ) (i : Fin 16384) (j : Fin 2816) : ℝ :=
  (r_v27 x g wg wd dx i j)

theorem h_v54 (x : Fin 16384 → Fin 1024 → ℝ) (g : Fin 1 → Fin 1024 → ℝ) (wg : Fin 1024 → Fin 2816 → ℝ) (wd : Fin 2816 → Fin 1024 → ℝ) (dx : Fin 16384 → Fin 1024 → ℝ) : v_v54 (up2 x) (up2 g) (up2 wg) (up2 wd) (up2 dx) = up2 (r_v54 x g wg wd dx) := by
  unfold v_v54
  simp only [h_v27]
  funext q; idx_vars q
  pointwise
  simp only [up2_ix]
  rfl

def v_v55 (X : FVec Ideal S16384x1024 .f32) (G : FVec Ideal S1x1024 .f32) (WG : FVec Ideal S1024x2816 .f32) (WU : FVec Ideal S1024x2816 .f32) : FVec Ideal S16384x2816 .bf16 :=
  (truncf .bf16 (mulf (v_v17_0 X G WG) (v_v16 X G WU)) bitsLt_bf16_f32)

def r_v55 (x : Fin 16384 → Fin 1024 → ℝ) (g : Fin 1 → Fin 1024 → ℝ) (wg : Fin 1024 → Fin 2816 → ℝ) (wu : Fin 1024 → Fin 2816 → ℝ) (i : Fin 16384) (j : Fin 2816) : ℝ :=
  ((r_v17_0 x g wg i j) * (r_v16 x g wu i j))

theorem h_v55 (x : Fin 16384 → Fin 1024 → ℝ) (g : Fin 1 → Fin 1024 → ℝ) (wg : Fin 1024 → Fin 2816 → ℝ) (wu : Fin 1024 → Fin 2816 → ℝ) : v_v55 (up2 x) (up2 g) (up2 wg) (up2 wu) = up2 (r_v55 x g wg wu) := by
  unfold v_v55
  simp only [h_v17_0, h_v16]
  funext q; idx_vars q
  pointwise
  simp only [up2_ix, ← EReal.coe_mul]
  rfl

def v_v56 (X : FVec Ideal S16384x1024 .f32) (G : FVec Ideal S1x1024 .f32) : FVec Ideal S16384x1024 .bf16 :=
  (truncf .bf16 (v_v14 X G) bitsLt_bf16_f32)

def r_v56 (x : Fin 16384 → Fin 1024 → ℝ) (g : Fin 1 → Fin 1024 → ℝ) (i : Fin 16384) (j : Fin 1024) : ℝ :=
  (r_v14 x g i j)

theorem h_v56 (x : Fin 16384 → Fin 1024 → ℝ) (g : Fin 1 → Fin 1024 → ℝ) : v_v56 (up2 x) (up2 g) = up2 (r_v56 x g) := by
  unfold v_v56
  simp only [h_v14]
  funext q; idx_vars q
  pointwise
  simp only [up2_ix]
  rfl

def v_v57 (DX : FVec Ideal S16384x1024 .f32) : FVec Ideal S16384x1024 .bf16 :=
  (truncf .bf16 (v_v25 DX) bitsLt_bf16_f32)

def r_v57 (dx : Fin 16384 → Fin 1024 → ℝ) (i : Fin 16384) (j : Fin 1024) : ℝ :=
  (r_v25 dx i j)

theorem h_v57 (dx : Fin 16384 → Fin 1024 → ℝ) : v_v57 (up2 dx) = up2 (r_v57 dx) := by
  unfold v_v57
  simp only [h_v25]
  funext q; idx_vars q
  pointwise
  simp only [up2_ix]
  rfl

theorem out_v52 (m : (ℓ : Loc nD τ sig) → Buf (Elt Ideal) ℓ) (c : Dev nD) : Cert.ReferenceIdeal.Value.res_main_v52 m c = v_v52 (rd m c main_arg0) (rd m c main_arg1) (rd m c main_arg2) (rd m c main_arg3) (rd m c main_arg4) (rd m c main_arg5) := rfl

theorem out_v53 (m : (ℓ : Loc nD τ sig) → Buf (Elt Ideal) ℓ) (c : Dev nD) : Cert.ReferenceIdeal.Value.res_main_v53 m c = v_v53 (rd m c main_arg0) (rd m c main_arg1) (rd m c main_arg2) (rd m c main_arg3) (rd m c main_arg4) (rd m c main_arg5) := rfl

-- main_v54
-- main_v55
-- main_v56
-- main_v57
theorem out_v35 (m : (ℓ : Loc nD τ sig) → Buf (Elt Ideal) ℓ) (c : Dev nD) : Cert.ReferenceIdeal.Value.res_main_v35 m c = v_v35 (rd m c main_arg0) (rd m c main_arg1) (rd m c main_arg2) (rd m c main_arg3) (rd m c main_arg4) (rd m c main_arg5) := rfl

end Cert.Proof.FfnRef

end
-- ==== Proof.FfnEq.lean ====
module
public import proofs.«01_k».proof.Proof.FfnHost
public import proofs.«01_k».proof.Proof.FfnRef
public import Mathlib.Tactic.Ring
public import Mathlib.Tactic.FieldSimp
@[expose] public section
noncomputable section
/-! The two programs' formulas over the reals are the same functions of the arguments. -/
namespace Cert.Proof.FfnEq
open FfnKer FfnBlk FfnRef
variable (x d : Fin 16384 → Fin 1024 → ℝ) (g : Fin 1 → Fin 1024 → ℝ) (wg wu : Fin 1024 → Fin 2816 → ℝ) (wd : Fin 2816 → Fin 1024 → ℝ)

theorem e7 (i : Fin 16384) (j : Fin 1) : r_v7 x i j = rinv (x i) := rfl
theorem e15 : r_v15 x g wg = upR x g wg := rfl
theorem e16 : r_v16 x g wu = upR x g wu := rfl
theorem e17 (i : Fin 16384) (f : Fin 2816) : r_v17_2 x g wg i f = sg (upR x g wg i f) := rfl
theorem e26 : r_v26 wd d = dsR d wd := rfl
theorem e54 : r_v54 x g wg wd d = dbR d (upR x g wg) wd := by
  funext i f
  show r_v15 x g wg i f * r_v17_2 x g wg i f * r_v26 wd d i f = dsR d wd i f * (upR x g wg i f * sg (upR x g wg i f))
  rw [e15, e17, e26]; ring
theorem e53 : r_v53 x g wg wu wd d = daR d (upR x g wg) (upR x g wu) wd := by
  funext i f
  show r_v26 wd d i f * r_v16 x g wu i f * r_v17_2 x g wg i f + r_v15 x g wg i f * (r_v26 wd d i f * r_v16 x g wu i f) * (r_v17_2 x g wg i f * (1 - r_v17_2 x g wg i f)) = daK (dsR d wd i f) (upR x g wg i f) (upR x g wu i f)
  rw [e15, e16, e17, e26]
  unfold daK
  ring
theorem e55 : r_v55 x g wg wu = fun i f => upR x g wg i f * sg (upR x g wg i f) * upR x g wu i f := rfl
theorem e56 : r_v56 x g = fun i j => x i j * rinv (x i) * g 0 j := rfl
theorem e57 : r_v57 d = fun i j => 1 / 2 * d i j := rfl
theorem e32 : r_v32 x g wg wu wd d = dhR d (upR x g wg) (upR x g wu) wd (fun f k => wg k f) (fun f k => wu k f) := by
  funext i l
  show (∑ k, r_v54 x g wg wd d i k * wu l k) + (∑ k, r_v53 x g wg wu wd d i k * wg l k) = _
  rw [e53, e54]
  exact add_comm _ _
theorem e35 : r_v35 x g wg wu wd d = fun (_ : Fin 1) l => ∑ i, dhR d (upR x g wg) (upR x g wu) wd (fun f k => wg k f) (fun f k => wu k f) i l * (x i l * rinv (x i)) := by
  funext _ l
  show (∑ i, x i l * rinv (x i) * r_v32 x g wg wu wd d i l) = _
  rw [e32]
  exact Finset.sum_congr rfl fun i _ => mul_comm _ _
theorem e8 (i : Fin 16384) : r_v8 x i 0 = rinv (x i) * rinv (x i) * rinv (x i) := by
  show (Real.sqrt (msq (x i)))⁻¹ / msq (x i) = (Real.sqrt (msq (x i)))⁻¹ * (Real.sqrt (msq (x i)))⁻¹ * (Real.sqrt (msq (x i)))⁻¹
  have h := Real.mul_self_sqrt (msq_pos (x i)).le
  have h0 := (Real.sqrt_pos.2 (msq_pos (x i))).ne'
  rw [div_eq_mul_inv, mul_assoc, ← mul_inv (Real.sqrt (msq (x i))) (Real.sqrt (msq (x i))), h]
theorem e52 : r_v52 x g wg wu wd d = dxR x d g (upR x g wg) (upR x g wu) wd (fun f k => wg k f) (fun f k => wu k f) := by
  funext i l
  show d i l + ((r_v32 x g wg wu wd d i l * g 0 l * rinv (x i) + x i l * r_v46 x g wg wu wd d i) + r_v46 x g wg wu wd d i * x i l) = _
  have h46 : r_v46 x g wg wu wd d i = (∑ k, x i k * (r_v32 x g wg wu wd d i k * g 0 k)) * (-(1 / 2) * r_v8 x i 0) / 1024 := by
    show (∑ k : Fin 1, r_v45 x g wg wu wd d i k) = _
    rw [Fin.sum_univ_one]
    rfl
  rw [h46, e8, e32]
  unfold dxR
  have hs : (∑ k, dhR d (upR x g wg) (upR x g wu) wd (fun f k => wg k f) (fun f k => wu k f) i k * g 0 k * (x i k * rinv (x i)))
      = (∑ k, x i k * (dhR d (upR x g wg) (upR x g wu) wd (fun f k => wg k f) (fun f k => wu k f) i k * g 0 k)) * rinv (x i) := by
    rw [Finset.sum_mul]
    exact Finset.sum_congr rfl fun k _ => by ring
  rw [hs]
  ring
end Cert.Proof.FfnEq
-- ==== Proof.FfnRunR.lean ====
module
public import proofs.«01_k».proof.Proof.FfnEq
public import proofs.«01_k».proof.Proof.Gen.ReferenceIdeal.Run
public import Idealize.ShloMosaic.Adequacy
@[expose] public section
noncomputable section
/-! The reference's run on real arguments, and its frame. -/
namespace Cert.Proof.FfnRunR
open Cert.ReferenceIdeal Idealize.ShloMosaic Idealize.ShloMosaic.TcCoe Idealize.SL.Sem FfnKer FfnBlk FfnRef FfnEq

variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5) ∧ r.2.sem = fun _ => 0) :=
  (θ_run defs _ _).mono (fun r h => ⟨fun c => (h c).2.2.2.2.2.2.2, sem_eq_zero_of_no_sems (by decide) r.2⟩) (Cert.ReferenceIdeal.Value.run m ρ)

theorem runR
    (x : Dev nD → Fin 16384 → Fin 1024 → ℝ)
    (g : Dev nD → Fin 1 → Fin 1024 → ℝ)
    (wg : Dev nD → Fin 1024 → Fin 2816 → ℝ)
    (wu : Dev nD → Fin 1024 → Fin 2816 → ℝ)
    (wd : Dev nD → Fin 2816 → Fin 1024 → ℝ)
    (d : Dev nD → Fin 16384 → Fin 1024 → ℝ)
    (hx : ∀ c : Dev nD, rd m c main_arg0 = (up2 (x c) : FVec Ideal S16384x1024 .f32))
    (hg : ∀ c : Dev nD, rd m c main_arg1 = (up2 (g c) : FVec Ideal S1x1024 .f32))
    (hwg : ∀ c : Dev nD, rd m c main_arg2 = (up2 (wg c) : FVec Ideal S1024x2816 .f32))
    (hwu : ∀ c : Dev nD, rd m c main_arg3 = (up2 (wu c) : FVec Ideal S1024x2816 .f32))
    (hwd : ∀ c : Dev nD, rd m c main_arg4 = (up2 (wd c) : FVec Ideal S2816x1024 .f32))
    (hd : ∀ c : Dev nD, rd m c main_arg5 = (up2 (d c) : FVec Ideal S16384x1024 .f32)) :
    θ_run (defs (F := Ideal)) (onTc (τ := τ) (main (F := Ideal))) ⟨m, fun _ => 0, ρ⟩ (fun r => ∀ c : Dev nD,
      rd r.2.mem c main_v52 = (up2 (dxR (x c) (d c) (g c) (upR (x c) (g c) (wg c)) (upR (x c) (g c) (wu c)) (wd c) (fun f k => wg c k f) (fun f k => wu c k f)) : FVec Ideal S16384x1024 .f32)
      ∧ rd r.2.mem c main_v53 = (up2 (daR (d c) (upR (x c) (g c) (wg c)) (upR (x c) (g c) (wu c)) (wd c)) : FVec Ideal S16384x2816 .bf16)
      ∧ rd r.2.mem c main_v54 = (up2 (dbR (d c) (upR (x c) (g c) (wg c)) (wd c)) : FVec Ideal S16384x2816 .bf16)
      ∧ rd r.2.mem c main_v55 = (up2 (fun i j => upR (x c) (g c) (wg c) i j * sg (upR (x c) (g c) (wg c) i j) * upR (x c) (g c) (wu c) i j) : FVec Ideal S16384x2816 .bf16)
      ∧ rd r.2.mem c main_v56 = (up2 (fun i j => x c i j * rinv (x c i) * g c 0 j) : FVec Ideal S16384x1024 .bf16)
      ∧ rd r.2.mem c main_v57 = (up2 (fun i j => 1 / 2 * d c i j) : FVec Ideal S16384x1024 .bf16)
      ∧ rd r.2.mem c main_v35 = (up2 (fun (_ : Fin 1) l => ∑ i, dhR (d c) (upR (x c) (g c) (wg c)) (upR (x c) (g c) (wu c)) (wd c) (fun f k => wg c k f) (fun f k => wu c k f) i l * (x c i l * rinv (x c i))) : FVec Ideal S1x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5) := by
  refine (θ_run defs _ _).mono (fun r h c => ?_) (Cert.ReferenceIdeal.Value.run m ρ)
  obtain ⟨h0, h1, h2, h3, h4, h5, h6, ha⟩ := h c
  have q52 : v_v52 (rd m c main_arg0) (rd m c main_arg1) (rd m c main_arg2) (rd m c main_arg3) (rd m c main_arg4) (rd m c main_arg5) = (up2 (dxR (x c) (d c) (g c) (upR (x c) (g c) (wg c)) (upR (x c) (g c) (wu c)) (wd c) (fun f k => wg c k f) (fun f k => wu c k f)) : FVec Ideal S16384x1024 .f32) := by
    rw [hx c, hg c, hwg c, hwu c, hwd c, hd c, h_v52, e52]
  have q53 : v_v53 (rd m c main_arg0) (rd m c main_arg1) (rd m c main_arg2) (rd m c main_arg3) (rd m c main_arg4) (rd m c main_arg5) = (up2 (daR (d c) (upR (x c) (g c) (wg c)) (upR (x c) (g c) (wu c)) (wd c)) : FVec Ideal S16384x2816 .bf16) := by
    rw [hx c, hg c, hwg c, hwu c, hwd c, hd c, h_v53, e53]
  have q54 : v_v54 (rd m c main_arg0) (rd m c main_arg1) (rd m c main_arg2) (rd m c main_arg4) (rd m c main_arg5) = (up2 (dbR (d c) (upR (x c) (g c) (wg c)) (wd c)) : FVec Ideal S16384x2816 .bf16) := by
    rw [hx c, hg c, hwg c, hwd c, hd c, h_v54, e54]
  have p54 := h2.trans ((show _ = v_v54 (rd m c main_arg0) (rd m c main_arg1) (rd m c main_arg2) (rd m c main_arg4) (rd m c main_arg5) from rfl).trans q54)
  have q55 : v_v55 (rd m c main_arg0) (rd m c main_arg1) (rd m c main_arg2) (rd m c main_arg3) = (up2 (fun i j => upR (x c) (g c) (wg c) i j * sg (upR (x c) (g c) (wg c) i j) * upR (x c) (g c) (wu c) i j) : FVec Ideal S16384x2816 .bf16) := by
    rw [hx c, hg c, hwg c, hwu c, h_v55, e55]
  have p55 := h3.trans ((show _ = v_v55 (rd m c main_arg0) (rd m c main_arg1) (rd m c main_arg2) (rd m c main_arg3) from rfl).trans q55)
  have q56 : v_v56 (rd m c main_arg0) (rd m c main_arg1) = (up2 (fun i j => x c i j * rinv (x c i) * g c 0 j) : FVec Ideal S16384x1024 .bf16) := by
    rw [hx c, hg c, h_v56, e56]
  have p56 := h4.trans ((show _ = v_v56 (rd m c main_arg0) (rd m c main_arg1) from rfl).trans q56)
  have q57 : v_v57 (rd m c main_arg5) = (up2 (fun i j => 1 / 2 * d c i j) : FVec Ideal S16384x1024 .bf16) := by
    rw [hd c, h_v57, e57]
  have p57 := h5.trans ((show _ = v_v57 (rd m c main_arg5) from rfl).trans q57)
  have q35 : v_v35 (rd m c main_arg0) (rd m c main_arg1) (rd m c main_arg2) (rd m c main_arg3) (rd m c main_arg4) (rd m c main_arg5) = (up2 (fun (_ : Fin 1) l => ∑ i, dhR (d c) (upR (x c) (g c) (wg c)) (upR (x c) (g c) (wu c)) (wd c) (fun f k => wg c k f) (fun f k => wu c k f) i l * (x c i l * rinv (x c i))) : FVec Ideal S1x1024 .f32) := by
    rw [hx c, hg c, hwg c, hwu c, hwd c, hd c, h_v35, e35]
  exact ⟨h0.trans ((out_v52 m c).trans q52), h1.trans ((out_v53 m c).trans q53), p54, p55, p56, p57, h6.trans ((out_v35 m c).trans q35), ha⟩
end Cert.Proof.FfnRunR
-- ==== Proof.FfnPre.lean ====
module
public import proofs.«01_k».proof.Proof.Gen.Pre_finite
public import proofs.«01_k».proof.Proof.Kit
public import Idealize.ShloMosaic.Lib.ReduceAll
@[expose] public section
noncomputable section
/-! The precondition: every entry of every argument is a real number. -/
namespace Cert.Proof.FfnPre
open Cert.Pre_finite Cert.Pre_finite.Gen Idealize.ShloMosaic

theorem finite_of (A0 : FVec Ideal S16384x1024 .f32) (A1 : FVec Ideal S1x1024 .f32) (A2 A3 : FVec Ideal S1024x2816 .f32) (A4 : FVec Ideal S2816x1024 .f32) (A5 : FVec Ideal S16384x1024 .f32)
    (h : Cert.Pre_finite.fn (F := Ideal) A0 A1 A2 A3 A4 A5 = fun _ => 1#1) :
    up2 (down2 A0) = A0 ∧ up2 (down2 A1) = A1 ∧ up2 (down2 A2) = A2 ∧ up2 (down2 A3) = A3 ∧ up2 (down2 A4) = A4 ∧ up2 (down2 A5) = A5 := by
  have h := congrFun h ix0
  dsimp only [fn, fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  refine ⟨up_down2 _ fun i => ?_, up_down2 _ fun i => ?_, up_down2 _ fun i => ?_, up_down2 _ fun i => ?_, up_down2 _ fun i => ?_, up_down2 _ fun i => ?_⟩
  · rw [← lit_top]; exact lt_of_bit (Host.reduce_andi_all _ _ _ _ _ h0 i)
  · rw [← lit_top]; exact lt_of_bit (Host.reduce_andi_all _ _ _ _ _ h1 i)
  · rw [← lit_top]; exact lt_of_bit (Host.reduce_andi_all _ _ _ _ _ h2 i)
  · rw [← lit_top]; exact lt_of_bit (Host.reduce_andi_all _ _ _ _ _ h3 i)
  · rw [← lit_top]; exact lt_of_bit (Host.reduce_andi_all _ _ _ _ _ h4 i)
  · rw [← lit_top]; exact lt_of_bit (Host.reduce_andi_all _ _ _ _ _ h5 i)
end Cert.Proof.FfnPre
-- ==== Proof.XaEq.lean ====
/- The cross attention's gradient on rows of reals: one head's softmax, its output and its gradients, and the two
   spellings of the softmax's gradient that have to agree. -/
module
public import proofs.«01_k».proof.Proof.NormBwd
@[expose] public section
noncomputable section
namespace Cert.Proof.XaEq
open Idealize.ShloMosaic

theorem lit_sixteenth : Ideal.ofBits .f32 0x3D800000#32 = (((1 : ℝ) / 16 : ℝ) : EReal) := by
  simp [Ideal.ofBits, Ideal.ieee, -EReal.coe_mul]; norm_num

theorem lit_bot : Ideal.ofBits .f32 0xFF800000#32 = ⊥ := by
  simp [Ideal.ofBits, Ideal.ieee]

/-- The greatest of a row's scores. -/
def rmax (t : Fin 256 → ℝ) : ℝ := (Finset.univ.fold max (⊥ : EReal) fun k => ((t k : ℝ) : EReal)).toReal

theorem fold_real {ι : Type} [DecidableEq ι] (s : Finset ι) (t : ι → ℝ) :
    (s.fold max (⊥ : EReal) fun k => ((t k : ℝ) : EReal)) = ⊥ ∧ s = ∅ ∨ ∃ M : ℝ, (s.fold max (⊥ : EReal) fun k => ((t k : ℝ) : EReal)) = (M : EReal) := by
  induction s using Finset.induction_on with
  | empty => exact .inl ⟨rfl, rfl⟩
  | insert a s ha ih =>
    right
    rw [Finset.fold_insert ha]
    rcases ih with ⟨h, _⟩ | ⟨M, h⟩
    · rw [h]; exact ⟨t a, by simp⟩
    · rw [h]; exact ⟨max (t a) M, max_real _ _⟩

theorem fold_max (t : Fin 256 → ℝ) : (Finset.univ.fold max (⊥ : EReal) fun k => ((t k : ℝ) : EReal)) = ((rmax t : ℝ) : EReal) := by
  rcases fold_real Finset.univ t with ⟨_, h⟩ | ⟨M, h⟩
  · exact absurd h (Finset.univ_nonempty.ne_empty)
  · unfold rmax; rw [h]; rfl

/-- One head's scores of a row against the memory's rows. -/
def sc (q : Fin 256 → ℝ) (kt : Fin 256 → Fin 256 → ℝ) (j : Fin 256) : ℝ := ∑ u, q u * kt j u
/-- A row's softmax. -/
def pr (s : Fin 256 → ℝ) (j : Fin 256) : ℝ := Real.exp (s j * (1 / 16)) / ∑ k, Real.exp (s k * (1 / 16))
/-- The gradient in the scores of a row. -/
def dsr (p dp : Fin 256 → ℝ) (j : Fin 256) : ℝ := p j * (dp j - ∑ k, dp k * p k) * (1 / 16)
/-- A row of weights' sum of the memory's rows. -/
def mixr (w : Fin 256 → ℝ) (t : Fin 256 → Fin 256 → ℝ) (u : Fin 256) : ℝ := ∑ j, w j * t j u
/-- Some columns of a row. -/
def cut (c : Fin 256 → Fin 1024) (r : Fin 1024 → ℝ) (u : Fin 256) : ℝ := r (c u)
/-- The same columns of the memory. -/
def tile (c : Fin 256 → Fin 1024) (K : Fin 256 → Fin 1024 → ℝ) (j u : Fin 256) : ℝ := K j (c u)
/-- The sum over the rows of the products of a weight and an entry. -/
def acc {n : ℕ} (w : Fin n → Fin 256 → ℝ) (r : Fin n → Fin 1024 → ℝ) (c : Fin 256 → Fin 1024) (j u : Fin 256) : ℝ := ∑ i, w i j * r i (c u)

def c0 (u : Fin 256) : Fin 1024 := ⟨u.val, by omega⟩
def c1 (u : Fin 256) : Fin 1024 := ⟨256 + u.val, by omega⟩
def c2 (u : Fin 256) : Fin 1024 := ⟨512 + u.val, by omega⟩
def c3 (u : Fin 256) : Fin 1024 := ⟨768 + u.val, by omega⟩

theorem sum_exp_pos (t : Fin 256 → ℝ) : 0 < ∑ k, Real.exp (t k) :=
  Finset.sum_pos (fun _ _ => Real.exp_pos _) Finset.univ_nonempty

/-- Subtracting one number from every score leaves the softmax. -/
theorem shift (s : Fin 256 → ℝ) (M : ℝ) (j : Fin 256) :
    Real.exp (s j * (1 / 16) - M) / ∑ k, Real.exp (s k * (1 / 16) - M) = pr s j := by
  have h : (∑ k, Real.exp (s k * (1 / 16) - M)) = (∑ k, Real.exp (s k * (1 / 16))) * (Real.exp M)⁻¹ := by
    rw [Finset.sum_mul]; exact Finset.sum_congr rfl fun k _ => by rw [Real.exp_sub, div_eq_mul_inv]
  have hM := (Real.exp_pos M).ne'
  have hS := (sum_exp_pos fun k => s k * (1 / 16)).ne'
  rw [h, Real.exp_sub]
  unfold pr
  field_simp

/-- Differentiation's form of the gradient in the scores. -/
theorem ds_eq (s dp : Fin 256 → ℝ) (M : ℝ) (j : Fin 256) :
    (dp j / (∑ k, Real.exp (s k * (1 / 16) - M)) + -(∑ l, dp l * (1 / ((∑ k, Real.exp (s k * (1 / 16) - M)) * (∑ k, Real.exp (s k * (1 / 16) - M)))) * Real.exp (s l * (1 / 16) - M)))
      * Real.exp (s j * (1 / 16) - M) * (1 / 16) = dsr (pr s) dp j := by
  have hS := (sum_exp_pos fun k => s k * (1 / 16) - M).ne'
  have h : (∑ l, dp l * (1 / ((∑ k, Real.exp (s k * (1 / 16) - M)) * (∑ k, Real.exp (s k * (1 / 16) - M)))) * Real.exp (s l * (1 / 16) - M))
      = (∑ l, dp l * pr s l) / (∑ k, Real.exp (s k * (1 / 16) - M)) := by
    rw [Finset.sum_div]
    exact Finset.sum_congr rfl fun l _ => by rw [← shift s M l]; field_simp
  rw [h]; unfold dsr; rw [← shift s M j]
  field_simp
  ring
end Cert.Proof.XaEq
-- ==== Proof.XaKer.lean ====
/- The values the cross attention's gradient kernel computes at a grid point, on blocks of real entries. -/
module
public import proofs.«01_k».proof.Proof.Gen.XaBwdIdeal.Skeleton
public import proofs.«01_k».proof.Proof.XaEq
@[expose] public section
set_option maxRecDepth 16384
noncomputable section
namespace Cert.Proof.XaKer
open Cert.XaBwdIdeal Cert.XaBwdIdeal.Gen Idealize.ShloMosaic Idealize.ShloMosaic.TcCoe Idealize.SL.Sem FfnKer NormBwd XaEq

/-- The normalised rows' products with a weight. -/
def hq {n : ℕ} (x : Fin n → Fin 1024 → ℝ) (g : Fin 1 → Fin 1024 → ℝ) (w : Fin 1024 → Fin 1024 → ℝ) (i : Fin n) (l : Fin 1024) : ℝ :=
  ∑ k, x i k * rinv (x i) * g 0 k * w k l
/-- The rows' products with a weight's transpose. -/
def nt {n : ℕ} (d : Fin n → Fin 1024 → ℝ) (w : Fin 1024 → Fin 1024 → ℝ) (i : Fin n) (l : Fin 1024) : ℝ := ∑ k, d i k * w l k

theorem h_pay6 (x : Fin 512 → Fin 1024 → ℝ) : k0_pay6 (F := Ideal) (up2 x) = up2 (fun i (_ : Fin 1) => rinv (x i)) := by
  unfold k0_pay6
  funext q; idx_vars q
  pointwise
  simp only [up2_ix, zero_add, lit_1024, lit_eps, ← EReal.coe_mul, ← coe_sum, div_real (by norm_num : (1024 : ℝ) ≠ 0), ← EReal.coe_add]
  exact rsqrt_real (msq_pos _)

theorem h_pay7 (x : Fin 512 → Fin 1024 → ℝ) : k0_pay7 (F := Ideal) (up2 x) = up2 (fun i j => x i j * rinv (x i)) := by
  unfold k0_pay7
  simp only [h_pay6]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay8 (g : Fin 1 → Fin 1024 → ℝ) (x : Fin 512 → Fin 1024 → ℝ) : k0_pay8 (F := Ideal) (up2 g) (up2 x) = up2 (fun i j => x i j * rinv (x i) * g 0 j) := by
  unfold k0_pay8
  simp only [h_pay7]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay9 (g : Fin 1 → Fin 1024 → ℝ) (x : Fin 512 → Fin 1024 → ℝ) (wq : Fin 1024 → Fin 1024 → ℝ) : k0_pay9 (F := Ideal) (up2 g) (up2 x) (up2 wq) = up2 (hq x g wq) := by
  unfold k0_pay9
  simp only [h_pay8]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay10 (D : Fin 512 → Fin 1024 → ℝ) : k0_pay10 (F := Ideal) (up2 D) = up2 D := by
  unfold k0_pay10
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay11 (D : Fin 512 → Fin 1024 → ℝ) (wo : Fin 1024 → Fin 1024 → ℝ) : k0_pay11 (F := Ideal) (up2 D) (up2 wo) = up2 (nt D wo) := by
  unfold k0_pay11
  simp only [h_pay10]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay12 (g : Fin 1 → Fin 1024 → ℝ) (x : Fin 512 → Fin 1024 → ℝ) (wq : Fin 1024 → Fin 1024 → ℝ) (kt : Fin 256 → Fin 256 → ℝ) : k0_pay12 (F := Ideal) (up2 g) (up2 x) (up2 wq) (up2 kt) = up2 (fun i => sc (cut c0 (hq x g wq i)) kt) := by
  unfold k0_pay12
  simp only [h_pay9]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay13 (s : Fin 512 → Fin 256 → ℝ) : k0_pay13 (F := Ideal) (up2 s) (FloatOps.ofBits .f32 0x3D800000#32) = up2 (fun i => pr (s i)) := by
  unfold k0_pay13
  funext q; idx_vars q
  pointwise
  simp only [zero_add, up2_ix, lit_sixteenth, lit_bot, fold_max, ← EReal.coe_mul, ← EReal.coe_sub, exp_real, ← coe_sum]
  try rw [div_real (sum_exp_pos _).ne']
  exact congrArg _ (shift _ _ _)

theorem h_pay14 (s : Fin 512 → Fin 256 → ℝ) : k0_pay14 (F := Ideal) (up2 s) (FloatOps.ofBits .f32 0x3D800000#32) = up2 (fun i => pr (s i)) := by
  unfold k0_pay14
  simp only [h_pay13]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay15 (s : Fin 512 → Fin 256 → ℝ) (vt : Fin 256 → Fin 256 → ℝ) : k0_pay15 (F := Ideal) (up2 s) (FloatOps.ofBits .f32 0x3D800000#32) (up2 vt) = up2 (fun i => mixr (pr (s i)) vt) := by
  unfold k0_pay15
  simp only [h_pay14]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay16 (D : Fin 512 → Fin 1024 → ℝ) : k0_pay16 (F := Ideal) (up2 D) = up2 (fun i => cut c0 (D i)) := by
  unfold k0_pay16
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay17 (D : Fin 512 → Fin 1024 → ℝ) (s : Fin 512 → Fin 256 → ℝ) (prev : Vec Ideal S256x256 .f32) : k0_pay17 (F := Ideal) (up2 D) (up2 s) (FloatOps.ofBits .f32 0x3D800000#32) prev = fun q => prev q + ((acc (fun i => pr (s i)) D c0 (q 0) (q 1) : ℝ) : EReal) := by
  unfold k0_pay17
  simp only [h_pay14, h_pay16]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay18 (D : Fin 512 → Fin 1024 → ℝ) (s : Fin 512 → Fin 256 → ℝ) (vt : Fin 256 → Fin 256 → ℝ) : k0_pay18 (F := Ideal) (up2 D) (up2 s) (FloatOps.ofBits .f32 0x3D800000#32) (up2 vt) = up2 (fun i => dsr (pr (s i)) (sc (cut c0 (D i)) vt)) := by
  unfold k0_pay18
  simp only [h_pay16, h_pay13]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay19 (kt : Fin 256 → Fin 256 → ℝ) : k0_pay19 (F := Ideal) (up2 kt) = up2 kt := by
  unfold k0_pay19
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay20 (ds : Fin 512 → Fin 256 → ℝ) (kt : Fin 256 → Fin 256 → ℝ) : k0_pay20 (F := Ideal) (up2 ds) (up2 kt) (constant S512x256 .f32 0x00000000#32) = up2 (fun i => mixr (ds i) kt) := by
  unfold k0_pay20
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay21 (Q : Fin 512 → Fin 1024 → ℝ) (ds : Fin 512 → Fin 256 → ℝ) (prev : Vec Ideal S256x256 .f32) : k0_pay21 (F := Ideal) (up2 Q) (up2 ds) prev = fun q => prev q + ((acc ds Q c0 (q 0) (q 1) : ℝ) : EReal) := by
  unfold k0_pay21
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay22 (Q : Fin 512 → Fin 1024 → ℝ) (kt : Fin 256 → Fin 256 → ℝ) : k0_pay22 (F := Ideal) (up2 Q) (up2 kt) = up2 (fun i => pr (sc (cut c1 (Q i)) kt)) := by
  unfold k0_pay22
  funext q; idx_vars q
  pointwise
  simp only [zero_add, up2_ix, lit_sixteenth, lit_bot, fold_max, ← EReal.coe_mul, ← EReal.coe_sub, exp_real, ← coe_sum]
  try rw [div_real (sum_exp_pos _).ne']
  exact congrArg _ (shift (sc (cut c1 (Q _)) kt) _ _)

theorem h_pay23 (Q : Fin 512 → Fin 1024 → ℝ) (kt : Fin 256 → Fin 256 → ℝ) : k0_pay23 (F := Ideal) (up2 Q) (up2 kt) = up2 (fun i => pr (sc (cut c1 (Q i)) kt)) := by
  unfold k0_pay23
  simp only [h_pay22]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay24 (Q : Fin 512 → Fin 1024 → ℝ) (kt : Fin 256 → Fin 256 → ℝ) (vt : Fin 256 → Fin 256 → ℝ) : k0_pay24 (F := Ideal) (up2 Q) (up2 kt) (up2 vt) = up2 (fun i => mixr (pr (sc (cut c1 (Q i)) kt)) vt) := by
  unfold k0_pay24
  simp only [h_pay23]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay25 (D : Fin 512 → Fin 1024 → ℝ) : k0_pay25 (F := Ideal) (up2 D) = up2 (fun i => cut c1 (D i)) := by
  unfold k0_pay25
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay26 (Q : Fin 512 → Fin 1024 → ℝ) (D : Fin 512 → Fin 1024 → ℝ) (kt : Fin 256 → Fin 256 → ℝ) (prev : Vec Ideal S256x256 .f32) : k0_pay26 (F := Ideal) (up2 Q) (up2 D) (up2 kt) prev = fun q => prev q + ((acc (fun i => pr (sc (cut c1 (Q i)) kt)) D c1 (q 0) (q 1) : ℝ) : EReal) := by
  unfold k0_pay26
  simp only [h_pay23, h_pay25]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay27 (p : Fin 512 → Fin 256 → ℝ) (dh : Fin 512 → Fin 256 → ℝ) (vt : Fin 256 → Fin 256 → ℝ) : k0_pay27 (F := Ideal) (up2 p) (up2 dh) (up2 vt) = up2 (fun i => dsr (p i) (sc (dh i) vt)) := by
  unfold k0_pay27
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay28 (p : Fin 512 → Fin 256 → ℝ) (dh : Fin 512 → Fin 256 → ℝ) (vt : Fin 256 → Fin 256 → ℝ) (kt : Fin 256 → Fin 256 → ℝ) : k0_pay28 (F := Ideal) (up2 p) (up2 dh) (up2 vt) (up2 kt) = up2 (fun i => mixr (dsr (p i) (sc (dh i) vt)) kt) := by
  unfold k0_pay28
  simp only [h_pay27]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay29 (Q : Fin 512 → Fin 1024 → ℝ) (p : Fin 512 → Fin 256 → ℝ) (dh : Fin 512 → Fin 256 → ℝ) (vt : Fin 256 → Fin 256 → ℝ) (prev : Vec Ideal S256x256 .f32) : k0_pay29 (F := Ideal) (up2 Q) (up2 p) (up2 dh) (up2 vt) prev = fun q => prev q + ((acc (fun i => dsr (p i) (sc (dh i) vt)) Q c1 (q 0) (q 1) : ℝ) : EReal) := by
  unfold k0_pay29
  simp only [h_pay27]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay30 (Q : Fin 512 → Fin 1024 → ℝ) (kt : Fin 256 → Fin 256 → ℝ) : k0_pay30 (F := Ideal) (up2 Q) (up2 kt)
    = up2 (fun i j => Real.exp (sc (cut c2 (Q i)) kt j * (1 / 16) - rmax fun k => sc (cut c2 (Q i)) kt k * (1 / 16))) := by
  unfold k0_pay30
  funext q; idx_vars q
  pointwise
  simp only [zero_add, up2_ix, lit_sixteenth, lit_bot, fold_max, ← EReal.coe_mul, ← coe_sum, ← EReal.coe_sub, exp_real]
  try rfl

theorem h_pay31 (Q : Fin 512 → Fin 1024 → ℝ) (kt : Fin 256 → Fin 256 → ℝ) : k0_pay31 (F := Ideal) (k0_pay30 (up2 Q) (up2 kt)) = up2 (fun i => pr (sc (cut c2 (Q i)) kt)) := by
  rw [h_pay30]
  unfold k0_pay31
  funext q; idx_vars q
  pointwise
  simp only [zero_add, up2_ix, ← coe_sum]
  rw [div_real (sum_exp_pos _).ne']
  exact congrArg _ (shift _ _ _)

theorem h_pay32 (Q : Fin 512 → Fin 1024 → ℝ) (kt : Fin 256 → Fin 256 → ℝ) : k0_pay32 (F := Ideal) (k0_pay30 (up2 Q) (up2 kt)) = up2 (fun i => pr (sc (cut c2 (Q i)) kt)) := by
  unfold k0_pay32
  simp only [h_pay31]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay33 (Q : Fin 512 → Fin 1024 → ℝ) (kt : Fin 256 → Fin 256 → ℝ) (vt : Fin 256 → Fin 256 → ℝ) : k0_pay33 (F := Ideal) (k0_pay30 (up2 Q) (up2 kt)) (up2 vt) = up2 (fun i => mixr (pr (sc (cut c2 (Q i)) kt)) vt) := by
  unfold k0_pay33
  simp only [h_pay32]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay34 (D : Fin 512 → Fin 1024 → ℝ) : k0_pay34 (F := Ideal) (up2 D) = up2 (fun i => cut c2 (D i)) := by
  unfold k0_pay34
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay35 (D : Fin 512 → Fin 1024 → ℝ) (Q : Fin 512 → Fin 1024 → ℝ) (kt : Fin 256 → Fin 256 → ℝ) (prev : Vec Ideal S256x256 .f32) : k0_pay35 (F := Ideal) (up2 D) (k0_pay30 (up2 Q) (up2 kt)) prev = fun q => prev q + ((acc (fun i => pr (sc (cut c2 (Q i)) kt)) D c2 (q 0) (q 1) : ℝ) : EReal) := by
  unfold k0_pay35
  simp only [h_pay32, h_pay34]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay36 (D : Fin 512 → Fin 1024 → ℝ) (Q : Fin 512 → Fin 1024 → ℝ) (kt : Fin 256 → Fin 256 → ℝ) (vt : Fin 256 → Fin 256 → ℝ) : k0_pay36 (F := Ideal) (up2 D) (k0_pay30 (up2 Q) (up2 kt)) (up2 vt) = up2 (fun i => dsr (pr (sc (cut c2 (Q i)) kt)) (sc (cut c2 (D i)) vt)) := by
  unfold k0_pay36
  simp only [h_pay31, h_pay34]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay37 (D Q : Fin 512 → Fin 1024 → ℝ) (kt vt kt' : Fin 256 → Fin 256 → ℝ) : k0_pay37 (F := Ideal) (up2 D) (k0_pay30 (up2 Q) (up2 kt)) (up2 vt) (up2 kt')
    = up2 (fun i => mixr (dsr (pr (sc (cut c2 (Q i)) kt)) (sc (cut c2 (D i)) vt)) kt') := by
  unfold k0_pay37
  simp only [h_pay36]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay38 (Q : Fin 512 → Fin 1024 → ℝ) (ds : Fin 512 → Fin 256 → ℝ) (prev : Vec Ideal S256x256 .f32) : k0_pay38 (F := Ideal) (up2 Q) (up2 ds) prev = fun q => prev q + ((acc ds Q c2 (q 0) (q 1) : ℝ) : EReal) := by
  unfold k0_pay38
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay39 (Q : Fin 512 → Fin 1024 → ℝ) (kt : Fin 256 → Fin 256 → ℝ) : k0_pay39 (F := Ideal) (up2 Q) (up2 kt) = up2 (fun i => pr (sc (cut c3 (Q i)) kt)) := by
  unfold k0_pay39
  funext q; idx_vars q
  pointwise
  simp only [zero_add, up2_ix, lit_sixteenth, lit_bot, fold_max, ← EReal.coe_mul, ← EReal.coe_sub, exp_real, ← coe_sum]
  try rw [div_real (sum_exp_pos _).ne']
  exact congrArg _ (shift (sc (cut c3 (Q _)) kt) _ _)

theorem h_pay40 (Q : Fin 512 → Fin 1024 → ℝ) (kt : Fin 256 → Fin 256 → ℝ) : k0_pay40 (F := Ideal) (up2 Q) (up2 kt) = up2 (fun i => pr (sc (cut c3 (Q i)) kt)) := by
  unfold k0_pay40
  simp only [h_pay39]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay41 (Q : Fin 512 → Fin 1024 → ℝ) (kt : Fin 256 → Fin 256 → ℝ) (vt : Fin 256 → Fin 256 → ℝ) : k0_pay41 (F := Ideal) (up2 Q) (up2 kt) (up2 vt) = up2 (fun i => mixr (pr (sc (cut c3 (Q i)) kt)) vt) := by
  unfold k0_pay41
  simp only [h_pay40]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay42 (D : Fin 512 → Fin 1024 → ℝ) : k0_pay42 (F := Ideal) (up2 D) = up2 (fun i => cut c3 (D i)) := by
  unfold k0_pay42
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay43 (Q : Fin 512 → Fin 1024 → ℝ) (D : Fin 512 → Fin 1024 → ℝ) (kt : Fin 256 → Fin 256 → ℝ) (prev : Vec Ideal S256x256 .f32) : k0_pay43 (F := Ideal) (up2 Q) (up2 D) (up2 kt) prev = fun q => prev q + ((acc (fun i => pr (sc (cut c3 (Q i)) kt)) D c3 (q 0) (q 1) : ℝ) : EReal) := by
  unfold k0_pay43
  simp only [h_pay40, h_pay42]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay44 (kt : Fin 256 → Fin 256 → ℝ) : k0_pay44 (F := Ideal) (up2 kt) = up2 kt := by
  unfold k0_pay44
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay45 (p : Fin 512 → Fin 256 → ℝ) (dh : Fin 512 → Fin 256 → ℝ) (vt : Fin 256 → Fin 256 → ℝ) : k0_pay45 (F := Ideal) (up2 p) (up2 dh) (up2 vt) = up2 (fun i => dsr (p i) (sc (dh i) vt)) := by
  unfold k0_pay45
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay46 (p : Fin 512 → Fin 256 → ℝ) (dh : Fin 512 → Fin 256 → ℝ) (vt : Fin 256 → Fin 256 → ℝ) (kt : Fin 256 → Fin 256 → ℝ) : k0_pay46 (F := Ideal) (up2 p) (up2 dh) (up2 vt) (up2 kt) = up2 (fun i => mixr (dsr (p i) (sc (dh i) vt)) kt) := by
  unfold k0_pay46
  simp only [h_pay45]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay47 (Q : Fin 512 → Fin 1024 → ℝ) (p : Fin 512 → Fin 256 → ℝ) (dh : Fin 512 → Fin 256 → ℝ) (vt : Fin 256 → Fin 256 → ℝ) (prev : Vec Ideal S256x256 .f32) : k0_pay47 (F := Ideal) (up2 Q) (up2 p) (up2 dh) (up2 vt) prev = fun q => prev q + ((acc (fun i => dsr (p i) (sc (dh i) vt)) Q c3 (q 0) (q 1) : ℝ) : EReal) := by
  unfold k0_pay47
  simp only [h_pay45]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay48 (DQ : Fin 512 → Fin 1024 → ℝ) (wq : Fin 1024 → Fin 1024 → ℝ) : k0_pay48 (F := Ideal) (up2 DQ) (up2 wq) = up2 (nt DQ wq) := by
  unfold k0_pay48
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay49 (xh : Fin 512 → Fin 1024 → ℝ) (DQ : Fin 512 → Fin 1024 → ℝ) (wq : Fin 1024 → Fin 1024 → ℝ) : k0_pay49 (F := Ideal) (up2 xh) (up2 DQ) (up2 wq) = up2 (fun (_ : Fin 1) l => ∑ i, nt DQ wq i l * xh i l) := by
  unfold k0_pay49
  simp only [h_pay48]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay50 (g : Fin 1 → Fin 1024 → ℝ) (DQ : Fin 512 → Fin 1024 → ℝ) (wq : Fin 1024 → Fin 1024 → ℝ) : k0_pay50 (F := Ideal) (up2 g) (up2 DQ) (up2 wq) = up2 (fun i l => nt DQ wq i l * g 0 l) := by
  unfold k0_pay50
  simp only [h_pay48]
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay51 (g : Fin 1 → Fin 1024 → ℝ) (xh : Fin 512 → Fin 1024 → ℝ) (DQ : Fin 512 → Fin 1024 → ℝ) (wq : Fin 1024 → Fin 1024 → ℝ) : k0_pay51 (F := Ideal) (up2 g) (up2 xh) (up2 DQ) (up2 wq) = up2 (fun i l => xh i l * ((∑ k, nt DQ wq i k * g 0 k * xh i k) / 1024)) := by
  unfold k0_pay51
  simp only [h_pay50]
  funext q; idx_vars q
  pointwise
  simp only [zero_add, up2_ix, lit_1024, ← EReal.coe_mul, ← coe_sum, div_real (by norm_num : (1024 : ℝ) ≠ 0)]

theorem h_pay1 (r : Fin 512 → Fin 1 → ℝ) (d a b : Fin 512 → Fin 1024 → ℝ) : k0_pay1 (F := Ideal) (up2 r) (up2 d) (up2 a) (up2 b) = up2 (fun i l => d i l + r i 0 * (a i l - b i l)) := by
  unfold k0_pay1
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay2 (a : Fin 1 → Fin 1024 → ℝ) (prev : Vec Ideal S1x1024 .f32) : k0_pay2 (F := Ideal) (up2 a) prev = fun q => prev q + ((a (q 0) (q 1) : ℝ) : EReal) := by
  unfold k0_pay2
  funext q; idx_vars q
  pointwise
  try simp only [zero_add, add_zero, up2_ix, lit_one, lit_half, lit_1024, lit_eps, lit_sixteenth, ← EReal.coe_mul, ← EReal.coe_add, ← EReal.coe_sub, ← coe_sum]
  try rfl

theorem h_pay3 : k0_pay3 (F := Ideal) = fun _ => (0 : EReal) := by
  unfold k0_pay3
  funext q; idx_vars q
  pointwise
  try rfl

theorem h_pay4 : k0_pay4 (F := Ideal) = fun _ => (0 : EReal) := by
  unfold k0_pay4
  funext q; idx_vars q
  pointwise
  try rfl

theorem h_pay5 : k0_pay5 (F := Ideal) = fun _ => (0 : EReal) := by
  unfold k0_pay5
  funext q; idx_vars q
  pointwise
  try rfl

end Cert.Proof.XaKer
-- ==== Proof.XaIn.lean ====
/- The gradient of the cross attention over the reals: its inputs, and what it gives. -/
module
public import proofs.«01_k».proof.Proof.XaKer
@[expose] public section
noncomputable section
namespace Cert.Proof.XaIn
open FfnKer NormBwd XaEq XaKer

/-- The columns of the head a column belongs to. -/
def hc (l : Fin 1024) (u : Fin 256) : Fin 1024 := ⟨l.val / 256 * 256 + u.val, by omega⟩
/-- A column's place in its head. -/
def lo (l : Fin 1024) : Fin 256 := ⟨l.val % 256, by omega⟩
theorem hc_lo (l : Fin 1024) : hc l (lo l) = l := Fin.ext (by show l.val / 256 * 256 + l.val % 256 = l.val; omega)
theorem hc0 (u : Fin 256) : hc (c0 u) = c0 := funext fun v => Fin.ext (by show u.val / 256 * 256 + v.val = v.val; omega)
theorem hc1 (u : Fin 256) : hc (c1 u) = c1 := funext fun v => Fin.ext (by show (256 + u.val) / 256 * 256 + v.val = 256 + v.val; omega)
theorem hc2 (u : Fin 256) : hc (c2 u) = c2 := funext fun v => Fin.ext (by show (512 + u.val) / 256 * 256 + v.val = 512 + v.val; omega)
theorem hc3 (u : Fin 256) : hc (c3 u) = c3 := funext fun v => Fin.ext (by show (768 + u.val) / 256 * 256 + v.val = 768 + v.val; omega)
theorem lo0 (u : Fin 256) : lo (c0 u) = u := Fin.ext (by show u.val % 256 = u.val; omega)
theorem lo1 (u : Fin 256) : lo (c1 u) = u := Fin.ext (by show (256 + u.val) % 256 = u.val; omega)
theorem lo2 (u : Fin 256) : lo (c2 u) = u := Fin.ext (by show (512 + u.val) % 256 = u.val; omega)
theorem lo3 (u : Fin 256) : lo (c3 u) = u := Fin.ext (by show (768 + u.val) % 256 = u.val; omega)

/-- One head's columns of an array, given the head's values. -/
def heads {n : ℕ} (F : (Fin 256 → Fin 1024) → Fin n → Fin 256 → ℝ) (i : Fin n) (l : Fin 1024) : ℝ := F (hc l) i (lo l)
theorem heads0 {n : ℕ} (F : (Fin 256 → Fin 1024) → Fin n → Fin 256 → ℝ) (i : Fin n) (u : Fin 256) : heads F i (c0 u) = F c0 i u := by unfold heads; rw [hc0, lo0]
theorem heads1 {n : ℕ} (F : (Fin 256 → Fin 1024) → Fin n → Fin 256 → ℝ) (i : Fin n) (u : Fin 256) : heads F i (c1 u) = F c1 i u := by unfold heads; rw [hc1, lo1]
theorem heads2 {n : ℕ} (F : (Fin 256 → Fin 1024) → Fin n → Fin 256 → ℝ) (i : Fin n) (u : Fin 256) : heads F i (c2 u) = F c2 i u := by unfold heads; rw [hc2, lo2]
theorem heads3 {n : ℕ} (F : (Fin 256 → Fin 1024) → Fin n → Fin 256 → ℝ) (i : Fin n) (u : Fin 256) : heads F i (c3 u) = F c3 i u := by unfold heads; rw [hc3, lo3]

/-- The weights of the memory's rows, the gradient in their scores. -/
def P {n : ℕ} (Q : Fin n → Fin 1024 → ℝ) (K : Fin 256 → Fin 1024 → ℝ) (c : Fin 256 → Fin 1024) (i : Fin n) : Fin 256 → ℝ := pr (sc (cut c (Q i)) (tile c K))
def Ds {n : ℕ} (Q D : Fin n → Fin 1024 → ℝ) (K V : Fin 256 → Fin 1024 → ℝ) (c : Fin 256 → Fin 1024) (i : Fin n) : Fin 256 → ℝ := dsr (P Q K c i) (sc (cut c (D i)) (tile c V))
def O {n : ℕ} (Q : Fin n → Fin 1024 → ℝ) (K V : Fin 256 → Fin 1024 → ℝ) : Fin n → Fin 1024 → ℝ := heads fun c i => mixr (P Q K c i) (tile c V)
def Dq {n : ℕ} (Q D : Fin n → Fin 1024 → ℝ) (K V : Fin 256 → Fin 1024 → ℝ) : Fin n → Fin 1024 → ℝ := heads fun c i => mixr (Ds Q D K V c i) (tile c K)
def Dk {n : ℕ} (Q D : Fin n → Fin 1024 → ℝ) (K V : Fin 256 → Fin 1024 → ℝ) : Fin 256 → Fin 1024 → ℝ := heads fun c => acc (Ds Q D K V c) Q c
def Dv {n : ℕ} (Q D : Fin n → Fin 1024 → ℝ) (K : Fin 256 → Fin 1024 → ℝ) : Fin 256 → Fin 1024 → ℝ := heads fun c => acc (P Q K c) D c

/-- The real inputs: the rows and what flows in beside them, the gain, the memory's keys and values, and the two weights. -/
structure In where
  x : Fin 16384 → Fin 1024 → ℝ
  d : Fin 16384 → Fin 1024 → ℝ
  g : Fin 1 → Fin 1024 → ℝ
  k : Fin 256 → Fin 1024 → ℝ
  v : Fin 256 → Fin 1024 → ℝ
  wq : Fin 1024 → Fin 1024 → ℝ
  wo : Fin 1024 → Fin 1024 → ℝ

namespace In
variable (I : In)
def q : Fin 16384 → Fin 1024 → ℝ := hq I.x I.g I.wq
def dO : Fin 16384 → Fin 1024 → ℝ := nt I.d I.wo
def h (i : Fin 16384) (l : Fin 1024) : ℝ := I.x i l * rinv (I.x i) * I.g 0 l
def o : Fin 16384 → Fin 1024 → ℝ := O I.q I.k I.v
def dq : Fin 16384 → Fin 1024 → ℝ := Dq I.q I.dO I.k I.v
def dk : Fin 256 → Fin 1024 → ℝ := Dk I.q I.dO I.k I.v
def dv : Fin 256 → Fin 1024 → ℝ := Dv I.q I.dO I.k
def dh : Fin 16384 → Fin 1024 → ℝ := nt I.dq I.wq
def dx : Fin 16384 → Fin 1024 → ℝ := nb I.x I.d I.g I.dh
end In
end Cert.Proof.XaIn
end
-- ==== Proof.XaTile.lean ====
/- An array written as four column tiles, and a tile read back from it. -/
module
public import proofs.«01_k».proof.Proof.Gen.XaBwdIdeal.Frame
public import proofs.«01_k».proof.Proof.XaIn
public import Idealize.ShloMosaic.Lib.Pipeline.ReadBack
public import Idealize.ShloMosaic.Lib.Pipeline.ValueKit
@[expose] public section
set_option maxRecDepth 16384
noncomputable section
namespace Cert.Proof.XaTile
open Cert.XaBwdIdeal Cert.XaBwdIdeal.Gen Idealize.ShloMosaic Idealize.ShloMosaic.TcCoe Idealize.SL.Sem NormBwd XaEq XaKer XaIn

theorem canon4 {S : Shape} {e : EltTy} (r0 r1 r2 r3 : Rect S) (w0 : r0.shape.Idx → Elt Ideal e) (w1 : r1.shape.Idx → Elt Ideal e) (w2 : r2.shape.Idx → Elt Ideal e) (w3 : r3.shape.Idx → Elt Ideal e)
    (L : List (View.Piece (Elt Ideal) S e)) (G : S.Idx → Elt Ideal e) (h0 : w0 = View.ld G r0) (h1 : w1 = View.ld G r1) (h2 : w2 = View.ld G r2) (h3 : w3 = View.ld G r3)
    (hc : ∀ q, q ∈ r3.set ∨ q ∈ r2.set ∨ q ∈ r1.set ∨ q ∈ r0.set) :
    View.canon (Val := Elt Ideal) (e := e) (⟨r3, w3⟩ :: ⟨r2, w2⟩ :: ⟨r1, w1⟩ :: ⟨r0, w0⟩ :: L) = G := by
  funext q
  by_cases m3 : q ∈ r3.set
  · obtain ⟨x, rfl⟩ := r3.exists_idx_of_mem m3
    exact (View.canon_cons_emb r3 w3 _ x).trans (congrFun h3 x)
  rw [View.canon_cons_of_not_mem _ _ m3]
  by_cases m2 : q ∈ r2.set
  · obtain ⟨x, rfl⟩ := r2.exists_idx_of_mem m2
    exact (View.canon_cons_emb r2 w2 _ x).trans (congrFun h2 x)
  rw [View.canon_cons_of_not_mem _ _ m2]
  by_cases m1 : q ∈ r1.set
  · obtain ⟨x, rfl⟩ := r1.exists_idx_of_mem m1
    exact (View.canon_cons_emb r1 w1 _ x).trans (congrFun h1 x)
  rw [View.canon_cons_of_not_mem _ _ m1]
  have m0 : q ∈ r0.set := by
    rcases hc q with h | h | h | h
    · exact absurd h m3
    · exact absurd h m2
    · exact absurd h m1
    · exact h
  obtain ⟨x, rfl⟩ := r0.exists_idx_of_mem m0
  exact (View.canon_cons_emb r0 w0 _ x).trans (congrFun h0 x)

theorem covA (q : S256x1024.Idx) : q ∈ (Rect.unit (s := S256x1024) ![0, 768] ![256, 256] inb_S256x1024_S256x256_0_768).set ∨ q ∈ (Rect.unit (s := S256x1024) ![0, 512] ![256, 256] inb_S256x1024_S256x256_0_512).set ∨ q ∈ (Rect.unit (s := S256x1024) ![0, 256] ![256, 256] inb_S256x1024_S256x256_0_256).set ∨ q ∈ (Rect.unit (s := S256x1024) ![0, 0] ![256, 256] inb_S256x1024_S256x256_0_0).set := by
  obtain ⟨i, j, rfl⟩ : ∃ (i : Fin 256) (j : Fin 1024), q = ix2 i j := ⟨q 0, q 1, eq_ix2 q⟩
  have hi := i.isLt
  have hj := j.isLt
  by_cases k3 : 768 ≤ j.val
  · left
    rw [Rect.mem_set_unit]
    intro a
    fin_cases a
    · show 0 ≤ i.val ∧ i.val < 0 + 256
      omega
    · show 768 ≤ j.val ∧ j.val < 768 + 256
      omega
  right
  by_cases k2 : 512 ≤ j.val
  · left
    rw [Rect.mem_set_unit]
    intro a
    fin_cases a
    · show 0 ≤ i.val ∧ i.val < 0 + 256
      omega
    · show 512 ≤ j.val ∧ j.val < 512 + 256
      omega
  right
  by_cases k1 : 256 ≤ j.val
  · left
    rw [Rect.mem_set_unit]
    intro a
    fin_cases a
    · show 0 ≤ i.val ∧ i.val < 0 + 256
      omega
    · show 256 ≤ j.val ∧ j.val < 256 + 256
      omega
  right
  rw [Rect.mem_set_unit]
  intro a
  fin_cases a
  · show 0 ≤ i.val ∧ i.val < 0 + 256
    omega
  · show 0 ≤ j.val ∧ j.val < 0 + 256
    omega

theorem ldA0 (F : Fin 256 → Fin 1024 → ℝ) : View.ld (Val := Elt Ideal) (e' := .f32) (S := S256x1024) (up2 F) (Rect.unit (s := S256x1024) ![0, 0] ![256, 256] inb_S256x1024_S256x256_0_0) = up2 (fun i u => F i (c0 u)) := by
  funext q; idx_vars q
  pointwise
  try rfl

theorem ldA1 (F : Fin 256 → Fin 1024 → ℝ) : View.ld (Val := Elt Ideal) (e' := .f32) (S := S256x1024) (up2 F) (Rect.unit (s := S256x1024) ![0, 256] ![256, 256] inb_S256x1024_S256x256_0_256) = up2 (fun i u => F i (c1 u)) := by
  funext q; idx_vars q
  pointwise
  try rfl

theorem ldA2 (F : Fin 256 → Fin 1024 → ℝ) : View.ld (Val := Elt Ideal) (e' := .f32) (S := S256x1024) (up2 F) (Rect.unit (s := S256x1024) ![0, 512] ![256, 256] inb_S256x1024_S256x256_0_512) = up2 (fun i u => F i (c2 u)) := by
  funext q; idx_vars q
  pointwise
  try rfl

theorem ldA3 (F : Fin 256 → Fin 1024 → ℝ) : View.ld (Val := Elt Ideal) (e' := .f32) (S := S256x1024) (up2 F) (Rect.unit (s := S256x1024) ![0, 768] ![256, 256] inb_S256x1024_S256x256_0_768) = up2 (fun i u => F i (c3 u)) := by
  funext q; idx_vars q
  pointwise
  try rfl

theorem covO (q : S512x1024.Idx) : q ∈ (Rect.unit (s := S512x1024) ![0, 768] ![512, 256] inb_S512x1024_S512x256_0_768).set ∨ q ∈ (Rect.unit (s := S512x1024) ![0, 512] ![512, 256] inb_S512x1024_S512x256_0_512).set ∨ q ∈ (Rect.unit (s := S512x1024) ![0, 256] ![512, 256] inb_S512x1024_S512x256_0_256).set ∨ q ∈ (Rect.unit (s := S512x1024) ![0, 0] ![512, 256] inb_S512x1024_S512x256_0_0).set := by
  obtain ⟨i, j, rfl⟩ : ∃ (i : Fin 512) (j : Fin 1024), q = ix2 i j := ⟨q 0, q 1, eq_ix2 q⟩
  have hi := i.isLt
  have hj := j.isLt
  by_cases k3 : 768 ≤ j.val
  · left
    rw [Rect.mem_set_unit]
    intro a
    fin_cases a
    · show 0 ≤ i.val ∧ i.val < 0 + 512
      omega
    · show 768 ≤ j.val ∧ j.val < 768 + 256
      omega
  right
  by_cases k2 : 512 ≤ j.val
  · left
    rw [Rect.mem_set_unit]
    intro a
    fin_cases a
    · show 0 ≤ i.val ∧ i.val < 0 + 512
      omega
    · show 512 ≤ j.val ∧ j.val < 512 + 256
      omega
  right
  by_cases k1 : 256 ≤ j.val
  · left
    rw [Rect.mem_set_unit]
    intro a
    fin_cases a
    · show 0 ≤ i.val ∧ i.val < 0 + 512
      omega
    · show 256 ≤ j.val ∧ j.val < 256 + 256
      omega
  right
  rw [Rect.mem_set_unit]
  intro a
  fin_cases a
  · show 0 ≤ i.val ∧ i.val < 0 + 512
    omega
  · show 0 ≤ j.val ∧ j.val < 0 + 256
    omega

theorem ldO0 (F : Fin 512 → Fin 1024 → ℝ) : View.ld (Val := Elt Ideal) (e' := .bf16) (S := S512x1024) (up2 F) (Rect.unit (s := S512x1024) ![0, 0] ![512, 256] inb_S512x1024_S512x256_0_0) = up2 (fun i u => F i (c0 u)) := by
  funext q; idx_vars q
  pointwise
  try rfl

theorem ldO1 (F : Fin 512 → Fin 1024 → ℝ) : View.ld (Val := Elt Ideal) (e' := .bf16) (S := S512x1024) (up2 F) (Rect.unit (s := S512x1024) ![0, 256] ![512, 256] inb_S512x1024_S512x256_0_256) = up2 (fun i u => F i (c1 u)) := by
  funext q; idx_vars q
  pointwise
  try rfl

theorem ldO2 (F : Fin 512 → Fin 1024 → ℝ) : View.ld (Val := Elt Ideal) (e' := .bf16) (S := S512x1024) (up2 F) (Rect.unit (s := S512x1024) ![0, 512] ![512, 256] inb_S512x1024_S512x256_0_512) = up2 (fun i u => F i (c2 u)) := by
  funext q; idx_vars q
  pointwise
  try rfl

theorem ldO3 (F : Fin 512 → Fin 1024 → ℝ) : View.ld (Val := Elt Ideal) (e' := .bf16) (S := S512x1024) (up2 F) (Rect.unit (s := S512x1024) ![0, 768] ![512, 256] inb_S512x1024_S512x256_0_768) = up2 (fun i u => F i (c3 u)) := by
  funext q; idx_vars q
  pointwise
  try rfl

theorem canonO (F : Fin 512 → Fin 1024 → ℝ) (L : List (View.Piece (Elt Ideal) S512x1024 .bf16)) (w0 w1 w2 w3 : Fin 512 → Fin 256 → ℝ)
    (h0 : ∀ i u, F i (c0 u) = w0 i u) (h1 : ∀ i u, F i (c1 u) = w1 i u) (h2 : ∀ i u, F i (c2 u) = w2 i u) (h3 : ∀ i u, F i (c3 u) = w3 i u) :
    View.canon (Val := Elt Ideal) (e := .bf16) (⟨Rect.unit (s := S512x1024) ![0, 768] ![512, 256] inb_S512x1024_S512x256_0_768, (up2 w3 : FVec Ideal S512x256 .bf16)⟩ :: ⟨Rect.unit (s := S512x1024) ![0, 512] ![512, 256] inb_S512x1024_S512x256_0_512, (up2 w2 : FVec Ideal S512x256 .bf16)⟩ :: ⟨Rect.unit (s := S512x1024) ![0, 256] ![512, 256] inb_S512x1024_S512x256_0_256, (up2 w1 : FVec Ideal S512x256 .bf16)⟩ :: ⟨Rect.unit (s := S512x1024) ![0, 0] ![512, 256] inb_S512x1024_S512x256_0_0, (up2 w0 : FVec Ideal S512x256 .bf16)⟩ :: L) = (up2 F : FVec Ideal S512x1024 .bf16) := by
  have e0 : w0 = fun i u => F i (c0 u) := by funext i u; exact (h0 i u).symm
  have e1 : w1 = fun i u => F i (c1 u) := by funext i u; exact (h1 i u).symm
  have e2 : w2 = fun i u => F i (c2 u) := by funext i u; exact (h2 i u).symm
  have e3 : w3 = fun i u => F i (c3 u) := by funext i u; exact (h3 i u).symm
  subst e0 e1 e2 e3
  exact canon4 _ _ _ _ _ _ _ _ L _ (ldO0 F).symm (ldO1 F).symm (ldO2 F).symm (ldO3 F).symm covO

theorem canonA (prev : FVec Ideal S256x1024 .f32) (F : Fin 256 → Fin 1024 → ℝ) (L : List (View.Piece (Elt Ideal) S256x1024 .f32)) (w0 w1 w2 w3 : FVec Ideal S256x256 .f32) (a0 a1 a2 a3 : Fin 256 → Fin 256 → ℝ)
    (h0 : ∀ i u, F i (c0 u) = a0 i u) (h1 : ∀ i u, F i (c1 u) = a1 i u) (h2 : ∀ i u, F i (c2 u) = a2 i u) (h3 : ∀ i u, F i (c3 u) = a3 i u)
    (k0 : w0 = fun q => (View.ld (Val := Elt Ideal) (e' := .f32) (S := S256x1024) prev (Rect.unit (s := S256x1024) ![0, 0] ![256, 256] inb_S256x1024_S256x256_0_0) q : EReal) + ((a0 (q 0) (q 1) : ℝ) : EReal)) (k1 : w1 = fun q => (View.ld (Val := Elt Ideal) (e' := .f32) (S := S256x1024) prev (Rect.unit (s := S256x1024) ![0, 256] ![256, 256] inb_S256x1024_S256x256_0_256) q : EReal) + ((a1 (q 0) (q 1) : ℝ) : EReal)) (k2 : w2 = fun q => (View.ld (Val := Elt Ideal) (e' := .f32) (S := S256x1024) prev (Rect.unit (s := S256x1024) ![0, 512] ![256, 256] inb_S256x1024_S256x256_0_512) q : EReal) + ((a2 (q 0) (q 1) : ℝ) : EReal)) (k3 : w3 = fun q => (View.ld (Val := Elt Ideal) (e' := .f32) (S := S256x1024) prev (Rect.unit (s := S256x1024) ![0, 768] ![256, 256] inb_S256x1024_S256x256_0_768) q : EReal) + ((a3 (q 0) (q 1) : ℝ) : EReal)) :
    View.canon (Val := Elt Ideal) (e := .f32) (⟨Rect.unit (s := S256x1024) ![0, 768] ![256, 256] inb_S256x1024_S256x256_0_768, w3⟩ :: ⟨Rect.unit (s := S256x1024) ![0, 512] ![256, 256] inb_S256x1024_S256x256_0_512, w2⟩ :: ⟨Rect.unit (s := S256x1024) ![0, 256] ![256, 256] inb_S256x1024_S256x256_0_256, w1⟩ :: ⟨Rect.unit (s := S256x1024) ![0, 0] ![256, 256] inb_S256x1024_S256x256_0_0, w0⟩ :: L) = fun q => prev q + (up2 F : FVec Ideal S256x1024 .f32) q := by
  have e0 : a0 = fun i u => F i (c0 u) := by funext i u; exact (h0 i u).symm
  have e1 : a1 = fun i u => F i (c1 u) := by funext i u; exact (h1 i u).symm
  have e2 : a2 = fun i u => F i (c2 u) := by funext i u; exact (h2 i u).symm
  have e3 : a3 = fun i u => F i (c3 u) := by funext i u; exact (h3 i u).symm
  subst e0 e1 e2 e3
  refine canon4 _ _ _ _ _ _ _ _ L _ (k0.trans ?_) (k1.trans ?_) (k2.trans ?_) (k3.trans ?_) covA
  · funext q; exact congrArg (HAdd.hAdd (α := EReal) (β := EReal) (γ := EReal) _) (congrFun (ldA0 F) q).symm
  · funext q; exact congrArg (HAdd.hAdd (α := EReal) (β := EReal) (γ := EReal) _) (congrFun (ldA1 F) q).symm
  · funext q; exact congrArg (HAdd.hAdd (α := EReal) (β := EReal) (γ := EReal) _) (congrFun (ldA2 F) q).symm
  · funext q; exact congrArg (HAdd.hAdd (α := EReal) (β := EReal) (γ := EReal) _) (congrFun (ldA3 F) q).symm

theorem skip01 {sp : Space} (v : View sig .tc sp S256x1024 .f32) (w : (⟨2, ![256, 256]⟩ : Shape).Idx → EReal) (L : List (View.Piece (Elt Ideal) S256x1024 .f32)) :
    v.readCov (Val := Elt Ideal) (⟨Rect.unit (s := S256x1024) ![0, 0] ![256, 256] inb_S256x1024_S256x256_0_0, w⟩ :: L) (Rect.unit (s := S256x1024) ![0, 256] ![256, 256] inb_S256x1024_S256x256_0_256).toLoadRect = v.readCov (Val := Elt Ideal) L (Rect.unit (s := S256x1024) ![0, 256] ![256, 256] inb_S256x1024_S256x256_0_256).toLoadRect :=
  View.readCov_cons_of_disjoint v _ L _ (Rect.unit_disjoint (inb := inb_S256x1024_S256x256_0_0) 1 (.inl (by decide)))

theorem skip02 {sp : Space} (v : View sig .tc sp S256x1024 .f32) (w : (⟨2, ![256, 256]⟩ : Shape).Idx → EReal) (L : List (View.Piece (Elt Ideal) S256x1024 .f32)) :
    v.readCov (Val := Elt Ideal) (⟨Rect.unit (s := S256x1024) ![0, 0] ![256, 256] inb_S256x1024_S256x256_0_0, w⟩ :: L) (Rect.unit (s := S256x1024) ![0, 512] ![256, 256] inb_S256x1024_S256x256_0_512).toLoadRect = v.readCov (Val := Elt Ideal) L (Rect.unit (s := S256x1024) ![0, 512] ![256, 256] inb_S256x1024_S256x256_0_512).toLoadRect :=
  View.readCov_cons_of_disjoint v _ L _ (Rect.unit_disjoint (inb := inb_S256x1024_S256x256_0_0) 1 (.inl (by decide)))

theorem skip03 {sp : Space} (v : View sig .tc sp S256x1024 .f32) (w : (⟨2, ![256, 256]⟩ : Shape).Idx → EReal) (L : List (View.Piece (Elt Ideal) S256x1024 .f32)) :
    v.readCov (Val := Elt Ideal) (⟨Rect.unit (s := S256x1024) ![0, 0] ![256, 256] inb_S256x1024_S256x256_0_0, w⟩ :: L) (Rect.unit (s := S256x1024) ![0, 768] ![256, 256] inb_S256x1024_S256x256_0_768).toLoadRect = v.readCov (Val := Elt Ideal) L (Rect.unit (s := S256x1024) ![0, 768] ![256, 256] inb_S256x1024_S256x256_0_768).toLoadRect :=
  View.readCov_cons_of_disjoint v _ L _ (Rect.unit_disjoint (inb := inb_S256x1024_S256x256_0_0) 1 (.inl (by decide)))

theorem skip12 {sp : Space} (v : View sig .tc sp S256x1024 .f32) (w : (⟨2, ![256, 256]⟩ : Shape).Idx → EReal) (L : List (View.Piece (Elt Ideal) S256x1024 .f32)) :
    v.readCov (Val := Elt Ideal) (⟨Rect.unit (s := S256x1024) ![0, 256] ![256, 256] inb_S256x1024_S256x256_0_256, w⟩ :: L) (Rect.unit (s := S256x1024) ![0, 512] ![256, 256] inb_S256x1024_S256x256_0_512).toLoadRect = v.readCov (Val := Elt Ideal) L (Rect.unit (s := S256x1024) ![0, 512] ![256, 256] inb_S256x1024_S256x256_0_512).toLoadRect :=
  View.readCov_cons_of_disjoint v _ L _ (Rect.unit_disjoint (inb := inb_S256x1024_S256x256_0_256) 1 (.inl (by decide)))

theorem skip13 {sp : Space} (v : View sig .tc sp S256x1024 .f32) (w : (⟨2, ![256, 256]⟩ : Shape).Idx → EReal) (L : List (View.Piece (Elt Ideal) S256x1024 .f32)) :
    v.readCov (Val := Elt Ideal) (⟨Rect.unit (s := S256x1024) ![0, 256] ![256, 256] inb_S256x1024_S256x256_0_256, w⟩ :: L) (Rect.unit (s := S256x1024) ![0, 768] ![256, 256] inb_S256x1024_S256x256_0_768).toLoadRect = v.readCov (Val := Elt Ideal) L (Rect.unit (s := S256x1024) ![0, 768] ![256, 256] inb_S256x1024_S256x256_0_768).toLoadRect :=
  View.readCov_cons_of_disjoint v _ L _ (Rect.unit_disjoint (inb := inb_S256x1024_S256x256_0_256) 1 (.inl (by decide)))

theorem skip23 {sp : Space} (v : View sig .tc sp S256x1024 .f32) (w : (⟨2, ![256, 256]⟩ : Shape).Idx → EReal) (L : List (View.Piece (Elt Ideal) S256x1024 .f32)) :
    v.readCov (Val := Elt Ideal) (⟨Rect.unit (s := S256x1024) ![0, 512] ![256, 256] inb_S256x1024_S256x256_0_512, w⟩ :: L) (Rect.unit (s := S256x1024) ![0, 768] ![256, 256] inb_S256x1024_S256x256_0_768).toLoadRect = v.readCov (Val := Elt Ideal) L (Rect.unit (s := S256x1024) ![0, 768] ![256, 256] inb_S256x1024_S256x256_0_768).toLoadRect :=
  View.readCov_cons_of_disjoint v _ L _ (Rect.unit_disjoint (inb := inb_S256x1024_S256x256_0_512) 1 (.inl (by decide)))

theorem fill0 {sp : Space} (v : View sig .tc sp S256x1024 .f32) (X : FVec Ideal S256x1024 .f32) :
    v.readCov (Val := Elt Ideal) [⟨Rect.unit (s := S256x1024) ![0, 0] ![256, 1024] inb_S256x1024_S256x1024_0_0, X⟩] (Rect.unit (s := S256x1024) ![0, 0] ![256, 256] inb_S256x1024_S256x256_0_0).toLoadRect = View.ld X (Rect.unit (s := S256x1024) ![0, 0] ![256, 256] inb_S256x1024_S256x256_0_0) := by
  rw [View.readCov_eq_canon']
  funext x
  exact congrFun (View.canon_cons_unit_lit (S := S256x1024) (Val := Elt Ideal) (e := .f32) inb_S256x1024_S256x1024_0_0 X [] (by decide)) _

theorem fill1 {sp : Space} (v : View sig .tc sp S256x1024 .f32) (X : FVec Ideal S256x1024 .f32) :
    v.readCov (Val := Elt Ideal) [⟨Rect.unit (s := S256x1024) ![0, 0] ![256, 1024] inb_S256x1024_S256x1024_0_0, X⟩] (Rect.unit (s := S256x1024) ![0, 256] ![256, 256] inb_S256x1024_S256x256_0_256).toLoadRect = View.ld X (Rect.unit (s := S256x1024) ![0, 256] ![256, 256] inb_S256x1024_S256x256_0_256) := by
  rw [View.readCov_eq_canon']
  funext x
  exact congrFun (View.canon_cons_unit_lit (S := S256x1024) (Val := Elt Ideal) (e := .f32) inb_S256x1024_S256x1024_0_0 X [] (by decide)) _

theorem fill2 {sp : Space} (v : View sig .tc sp S256x1024 .f32) (X : FVec Ideal S256x1024 .f32) :
    v.readCov (Val := Elt Ideal) [⟨Rect.unit (s := S256x1024) ![0, 0] ![256, 1024] inb_S256x1024_S256x1024_0_0, X⟩] (Rect.unit (s := S256x1024) ![0, 512] ![256, 256] inb_S256x1024_S256x256_0_512).toLoadRect = View.ld X (Rect.unit (s := S256x1024) ![0, 512] ![256, 256] inb_S256x1024_S256x256_0_512) := by
  rw [View.readCov_eq_canon']
  funext x
  exact congrFun (View.canon_cons_unit_lit (S := S256x1024) (Val := Elt Ideal) (e := .f32) inb_S256x1024_S256x1024_0_0 X [] (by decide)) _

theorem fill3 {sp : Space} (v : View sig .tc sp S256x1024 .f32) (X : FVec Ideal S256x1024 .f32) :
    v.readCov (Val := Elt Ideal) [⟨Rect.unit (s := S256x1024) ![0, 0] ![256, 1024] inb_S256x1024_S256x1024_0_0, X⟩] (Rect.unit (s := S256x1024) ![0, 768] ![256, 256] inb_S256x1024_S256x256_0_768).toLoadRect = View.ld X (Rect.unit (s := S256x1024) ![0, 768] ![256, 256] inb_S256x1024_S256x256_0_768) := by
  rw [View.readCov_eq_canon']
  funext x
  exact congrFun (View.canon_cons_unit_lit (S := S256x1024) (Val := Elt Ideal) (e := .f32) inb_S256x1024_S256x1024_0_0 X [] (by decide)) _

end Cert.Proof.XaTile
end
-- ==== Proof.XaBlk.lean ====
/- The blocks the cross attention's gradient kernel reads and leaves at each grid point, the arrays it ends with, and its run. -/
module
public import proofs.«01_k».proof.Proof.Gen.XaBwdIdeal.Frame
public import proofs.«01_k».proof.Proof.XaTile
public import Idealize.ShloMosaic.Lib.Pipeline.ReadBack
public import Idealize.ShloMosaic.Lib.Pipeline.ValueKit
@[expose] public section
set_option maxRecDepth 16384
set_option maxHeartbeats 1000000
noncomputable section
namespace Cert.Proof.XaBlk
open Cert.XaBwdIdeal Cert.XaBwdIdeal.Gen Idealize.ShloMosaic Idealize.ShloMosaic.TcCoe Idealize.SL.Sem NormBwd XaEq XaKer XaIn XaTile
open FfnKer (msq rinv msq_pos)
variable (m : (ℓ : Loc nD τ sig) → Buf (Elt Ideal) ℓ)

theorem ld_0 (K : Fin 256 → Fin 1024 → ℝ) : View.ld (Val := Elt Ideal) (e' := .bf16) (S := S256x1024) (up2 K) (Rect.unit (s := S256x1024) ![0, 0] ![256, 256] inb_S256x1024_S256x256_0_0) = up2 (tile c0 K) := by
  funext q; idx_vars q
  pointwise
  try rfl

theorem ld_1 (K : Fin 256 → Fin 1024 → ℝ) : View.ld (Val := Elt Ideal) (e' := .bf16) (S := S256x1024) (up2 K) (Rect.unit (s := S256x1024) ![0, 256] ![256, 256] inb_S256x1024_S256x256_0_256) = up2 (tile c1 K) := by
  funext q; idx_vars q
  pointwise
  try rfl

theorem ld_2 (K : Fin 256 → Fin 1024 → ℝ) : View.ld (Val := Elt Ideal) (e' := .bf16) (S := S256x1024) (up2 K) (Rect.unit (s := S256x1024) ![0, 512] ![256, 256] inb_S256x1024_S256x256_0_512) = up2 (tile c2 K) := by
  funext q; idx_vars q
  pointwise
  try rfl

theorem ld_3 (K : Fin 256 → Fin 1024 → ℝ) : View.ld (Val := Elt Ideal) (e' := .bf16) (S := S256x1024) (up2 K) (Rect.unit (s := S256x1024) ![0, 768] ![256, 256] inb_S256x1024_S256x256_0_768) = up2 (tile c3 K) := by
  funext q; idx_vars q
  pointwise
  try rfl

theorem ld_w (w : Fin 1024 → Fin 1024 → ℝ) : View.ld (Val := Elt Ideal) (e' := .bf16) (S := S1024x1024) (up2 w) (Rect.unit (s := S1024x1024) ![0, 0] ![1024, 1024] inb_S1024x1024_S1024x1024_0_0) = up2 w := by
  funext q; idx_vars q
  pointwise
  try rfl

theorem canon_fill (X : FVec Ideal S1024x1024 .bf16) : View.canon (Val := Elt Ideal) (e := .bf16) [⟨Rect.whole S1024x1024, X⟩] = X := by
  funext q
  canon_tiles q h
  refine congrArg X ?_
  funext a
  fin_cases a
  · exact Fin.ext h0.symm
  · exact Fin.ext h1.symm
theorem cov_whole (v : View sig .tc .vmem S1024x1024 .bf16) (X : FVec Ideal S1024x1024 .bf16) (r : Rect S1024x1024) :
    v.readCov (Val := Elt Ideal) [⟨Rect.whole S1024x1024, X⟩] r.toLoadRect = View.ld X r := by
  rw [View.readCov_eq_canon_ld]
  · rw [canon_fill]
  · intro y; exact ⟨_, List.mem_singleton_self _, by rw [Rect.set_whole]; exact Finset.mem_univ y⟩

theorem sc0 (c : Dev nD) (n : ℕ) : ∀ hn : n < cfg0.N, (outsAt0 m c n hn).2.2.2.2.2.2.2.2.1 = V m c main_v2 := by
  induction n with
  | zero =>
    intro hn
    rw [outsAt0_A m c ⟨0, hn⟩ rfl]
    funext q
    frame_out
    exact congrFun (canon_fill (V m c main_v2)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2.2.2.2.1 = V m c main_v2 := by rintro k hk rfl; exact ih hk
    rw [outsAt0_B m c ⟨n + 1, hn⟩ h0]
    funext q
    frame_out
    unfold sout0_B_0
    exact congrFun (e _ _ rfl) q

theorem sc1 (c : Dev nD) (n : ℕ) : ∀ hn : n < cfg0.N, (outsAt0 m c n hn).2.2.2.2.2.2.2.2.2 = V m c main_v3 := by
  induction n with
  | zero =>
    intro hn
    rw [outsAt0_A m c ⟨0, hn⟩ rfl]
    funext q
    frame_out
    exact congrFun (canon_fill (V m c main_v3)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2.2.2.2.2 = V m c main_v3 := by rintro k hk rfl; exact ih hk
    rw [outsAt0_B m c ⟨n + 1, hn⟩ h0]
    funext q
    frame_out
    unfold sout0_B_1
    exact congrFun (e _ _ rfl) q

theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] ∧ win0_12.index t = ![0, 0] :=
  (by decide +kernel : ∀ t : Fin grid0.N, _)

def row (t : Fin cfg0.N) (p : Fin 512) : Fin 16384 := ⟨t.val * 512 + p.val, by have := lt_of_lt_of_eq t.isLt (show cfg0.N = 32 from N_0); omega⟩

theorem b0 (c : Dev nD) (t : Fin cfg0.N) (x : Fin 16384 → Fin 1024 → ℝ) (h : V m c main_arg0 = (up2 x : FVec Ideal S16384x1024 .f32)) :
    iblk m c 0 t = (up2 (fun p l => x (row t p) l) : FVec Ideal S512x1024 .f32) := by
  funext q
  idx_vars q
  refine Eq.trans (b := V m c main_arg0 (ix2 (row t q0) q1)) ?_ (by rw [h]; rfl)
  blk_ext [iblk, idx t]
  rfl

theorem b1 (c : Dev nD) (t : Fin cfg0.N) (x : Fin 16384 → Fin 1024 → ℝ) (h : V m c main_arg1 = (up2 x : FVec Ideal S16384x1024 .f32)) :
    iblk m c 1 t = (up2 (fun p l => x (row t p) l) : FVec Ideal S512x1024 .f32) := by
  funext q
  idx_vars q
  refine Eq.trans (b := V m c main_arg1 (ix2 (row t q0) q1)) ?_ (by rw [h]; rfl)
  blk_ext [iblk, idx t]
  rfl

theorem b2 (c : Dev nD) (t : Fin cfg0.N) (x : Fin 1 → Fin 1024 → ℝ) (h : V m c main_arg2 = (up2 x : FVec Ideal S1x1024 .f32)) :
    iblk m c 2 t = (up2 x : FVec Ideal S1x1024 .f32) := by
  funext q
  idx_vars q
  refine Eq.trans (b := V m c main_arg2 (ix2 q0 q1)) ?_ (by rw [h])
  blk_ext [iblk, idx t]

theorem b3 (c : Dev nD) (t : Fin cfg0.N) (x : Fin 256 → Fin 1024 → ℝ) (h : V m c main_v0 = (up2 x : FVec Ideal S256x1024 .bf16)) :
    iblk m c 3 t = (up2 x : FVec Ideal S256x1024 .bf16) := by
  funext q
  idx_vars q
  refine Eq.trans (b := V m c main_v0 (ix2 q0 q1)) ?_ (by rw [h])
  blk_ext [iblk, idx t]

theorem b4 (c : Dev nD) (t : Fin cfg0.N) (x : Fin 256 → Fin 1024 → ℝ) (h : V m c main_v1 = (up2 x : FVec Ideal S256x1024 .bf16)) :
    iblk m c 4 t = (up2 x : FVec Ideal S256x1024 .bf16) := by
  funext q
  idx_vars q
  refine Eq.trans (b := V m c main_v1 (ix2 q0 q1)) ?_ (by rw [h])
  blk_ext [iblk, idx t]

theorem rcDq {sp : Space} (v : View sig .tc sp S512x1024 .bf16) (Q D : Fin 512 → Fin 1024 → ℝ) (K V : Fin 256 → Fin 1024 → ℝ) :
    v.readCov (Val := Elt Ideal) [⟨Rect.unit (s := S512x1024) ![0, 768] ![512, 256] inb_S512x1024_S512x256_0_768, (up2 (fun i => mixr (dsr (pr (sc (cut c3 (Q i)) (tile c3 K))) (sc (cut c3 (D i)) (tile c3 V))) (tile c3 K)) : FVec Ideal S512x256 .bf16)⟩,
      ⟨Rect.unit (s := S512x1024) ![0, 512] ![512, 256] inb_S512x1024_S512x256_0_512, (up2 (fun i => mixr (dsr (pr (sc (cut c2 (Q i)) (tile c2 K))) (sc (cut c2 (D i)) (tile c2 V))) (tile c2 K)) : FVec Ideal S512x256 .bf16)⟩,
      ⟨Rect.unit (s := S512x1024) ![0, 256] ![512, 256] inb_S512x1024_S512x256_0_256, (up2 (fun i => mixr (dsr (pr (sc (cut c1 (Q i)) (tile c1 K))) (sc (cut c1 (D i)) (tile c1 V))) (tile c1 K)) : FVec Ideal S512x256 .bf16)⟩,
      ⟨Rect.unit (s := S512x1024) ![0, 0] ![512, 256] inb_S512x1024_S512x256_0_0, (up2 (fun i => mixr (dsr (pr (sc (cut c0 (Q i)) (tile c0 K))) (sc (cut c0 (D i)) (tile c0 V))) (tile c0 K)) : FVec Ideal S512x256 .bf16)⟩] (Rect.unit (s := S512x1024) ![0, 0] ![512, 1024] inb_S512x1024_S512x1024_0_0).toLoadRect = (up2 (Dq Q D K V) : FVec Ideal S512x1024 .bf16) := by
  rw [View.readCov_eq_canon_ld _ _ _ fun q => ?_]
  · refine (congrArg (fun X : FVec Ideal S512x1024 .bf16 => View.ld (Val := Elt Ideal) (e' := .bf16) X (Rect.unit (s := S512x1024) ![0, 0] ![512, 1024] inb_S512x1024_S512x1024_0_0)) (canonO (Dq Q D K V) [] _ _ _ _ (fun i u => heads0 _ i u) (fun i u => heads1 _ i u) (fun i u => heads2 _ i u) (fun i u => heads3 _ i u))).trans ?_
    funext q; idx_vars q
    pointwise
    try rfl
  · rcases covO q with h | h | h | h
    · exact ⟨_, List.mem_cons_self, h⟩
    · exact ⟨_, List.mem_cons_of_mem _ List.mem_cons_self, h⟩
    · exact ⟨_, List.mem_cons_of_mem _ (List.mem_cons_of_mem _ List.mem_cons_self), h⟩
    · exact ⟨_, List.mem_cons_of_mem _ (List.mem_cons_of_mem _ (List.mem_cons_of_mem _ List.mem_cons_self)), h⟩

theorem sum_rows (F : Fin 16384 → ℝ) : ∑ s : Fin 32, ∑ p : Fin 512, F ⟨s.val * 512 + p.val, by omega⟩ = ∑ i, F i :=
  Fin.sum_mul_add_congr fun s k hl => rfl

theorem sum_blocks (F : Fin 16384 → ℝ) (r : Fin 32 → Fin 512 → Fin 16384) (hr : ∀ s p, (r s p).val = s.val * 512 + p.val) :
    ∑ s, (((∑ p, F (r s p) : ℝ)) : EReal) = ((∑ i, F i : ℝ) : EReal) := by
  rw [← coe_sum, ← sum_rows]
  refine congrArg _ (Finset.sum_congr rfl fun s _ => Finset.sum_congr rfl fun p _ => congrArg F (Fin.ext (hr s p)))

structure Entry (dv : Dev nD) (I : In) : Prop where
  x : V m dv main_arg0 = (up2 I.x : FVec Ideal S16384x1024 .f32)
  d : V m dv main_arg1 = (up2 I.d : FVec Ideal S16384x1024 .f32)
  g : V m dv main_arg2 = (up2 I.g : FVec Ideal S1x1024 .f32)
  k : V m dv main_v0 = (up2 I.k : FVec Ideal S256x1024 .bf16)
  v : V m dv main_v1 = (up2 I.v : FVec Ideal S256x1024 .bf16)
  wq : V m dv main_v2 = (up2 I.wq : FVec Ideal S1024x1024 .bf16)
  wo : V m dv main_v3 = (up2 I.wo : FVec Ideal S1024x1024 .bf16)

variable {m} {c : Dev nD} {I : In} (h : Entry m c I) (t : Fin cfg0.N)
include h

theorem o5 : (outsAt0 m c t.val t.isLt).1 = (up2 (fun p l => I.dx (row t p) l) : FVec Ideal S512x1024 .f32) := by
  funext q
  by_cases h0 : t.val % 32 = 0 <;> [rw [outsAt0_A m c t h0]; rw [outsAt0_B m c t h0]]
  all_goals
    frame_out
    try simp only [read_unread_whole]
    simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay1]
    try rfl

theorem o6 : (outsAt0 m c t.val t.isLt).2.1 = (up2 (fun p l => I.h (row t p) l) : FVec Ideal S512x1024 .bf16) := by
  funext q
  by_cases h0 : t.val % 32 = 0 <;> [rw [outsAt0_A m c t h0]; rw [outsAt0_B m c t h0]]
  all_goals
    frame_out
    try simp only [read_unread_whole]
    simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay1]
    try rfl

theorem o7 : (outsAt0 m c t.val t.isLt).2.2.1 = (up2 (fun p l => I.o (row t p) l) : FVec Ideal S512x1024 .bf16) := by
  funext q
  by_cases h0 : t.val % 32 = 0 <;> [rw [outsAt0_A m c t h0]; rw [outsAt0_B m c t h0]]
  all_goals
    frame_out
    try simp only [read_unread_whole]
    simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay1]
    exact congrFun (canonO (O (hq (fun p l => I.x (row t p) l) I.g I.wq) I.k I.v) [] _ _ _ _ (fun i u => heads0 _ i u) (fun i u => heads1 _ i u) (fun i u => heads2 _ i u) (fun i u => heads3 _ i u)) q

theorem o8 : (outsAt0 m c t.val t.isLt).2.2.2.1 = (up2 (fun p l => I.dq (row t p) l) : FVec Ideal S512x1024 .bf16) := by
  funext q
  by_cases h0 : t.val % 32 = 0 <;> [rw [outsAt0_A m c t h0]; rw [outsAt0_B m c t h0]]
  all_goals
    frame_out
    try simp only [read_unread_whole]
    simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay1]
    exact congrFun (canonO (Dq (hq (fun p l => I.x (row t p) l) I.g I.wq) (nt (fun p l => I.d (row t p) l) I.wo) I.k I.v) [] _ _ _ _ (fun i u => heads0 _ i u) (fun i u => heads1 _ i u) (fun i u => heads2 _ i u) (fun i u => heads3 _ i u)) q

theorem o9 : (outsAt0 m c t.val t.isLt).2.2.2.2.1 = (up2 (fun p l => I.d (row t p) l) : FVec Ideal S512x1024 .bf16) := by
  funext q
  by_cases h0 : t.val % 32 = 0 <;> [rw [outsAt0_A m c t h0]; rw [outsAt0_B m c t h0]]
  all_goals
    frame_out
    try simp only [read_unread_whole]
    simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay1]
    try rfl

theorem o10A (h0 : t.val % 32 = 0) (q : S256x1024.Idx) : (outsAt0 m c t.val t.isLt).2.2.2.2.2.1 q
    = (0 : EReal) + (up2 (Dk (hq (fun p l => I.x (row t p) l) I.g I.wq) (nt (fun p l => I.d (row t p) l) I.wo) I.k I.v) : FVec Ideal S256x1024 .f32) q := by
  rw [outsAt0_A m c t h0]
  frame_out
  try simp only [read_unread_whole]
  simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay1]
  exact congrFun (canonA (fun _ => (0 : EReal)) (Dk (hq (fun p l => I.x (row t p) l) I.g I.wq) (nt (fun p l => I.d (row t p) l) I.wo) I.k I.v) _ _ _ _ _ (acc (Ds (hq (fun p l => I.x (row t p) l) I.g I.wq) (nt (fun p l => I.d (row t p) l) I.wo) I.k I.v c0) (hq (fun p l => I.x (row t p) l) I.g I.wq) c0) (acc (Ds (hq (fun p l => I.x (row t p) l) I.g I.wq) (nt (fun p l => I.d (row t p) l) I.wo) I.k I.v c1) (hq (fun p l => I.x (row t p) l) I.g I.wq) c1) (acc (Ds (hq (fun p l => I.x (row t p) l) I.g I.wq) (nt (fun p l => I.d (row t p) l) I.wo) I.k I.v c2) (hq (fun p l => I.x (row t p) l) I.g I.wq) c2) (acc (Ds (hq (fun p l => I.x (row t p) l) I.g I.wq) (nt (fun p l => I.d (row t p) l) I.wo) I.k I.v c3) (hq (fun p l => I.x (row t p) l) I.g I.wq) c3) (fun i u => heads0 _ i u) (fun i u => heads1 _ i u) (fun i u => heads2 _ i u) (fun i u => heads3 _ i u) rfl rfl rfl rfl) q

theorem o10B (h0 : ¬ t.val % 32 = 0) (q : S256x1024.Idx) : (outsAt0 m c t.val t.isLt).2.2.2.2.2.1 q
    = (outsAt0 m c (t.val - 1) (by have := t.isLt; omega)).2.2.2.2.2.1 q + (up2 (Dk (hq (fun p l => I.x (row t p) l) I.g I.wq) (nt (fun p l => I.d (row t p) l) I.wo) I.k I.v) : FVec Ideal S256x1024 .f32) q := by
  rw [outsAt0_B m c t h0]
  frame_out
  try simp only [read_unread_whole]
  simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay1]
  exact congrFun (canonA (outsAt0 m c (t.val - 1) (by have := t.isLt; omega)).2.2.2.2.2.1 (Dk (hq (fun p l => I.x (row t p) l) I.g I.wq) (nt (fun p l => I.d (row t p) l) I.wo) I.k I.v) _ _ _ _ _ (acc (Ds (hq (fun p l => I.x (row t p) l) I.g I.wq) (nt (fun p l => I.d (row t p) l) I.wo) I.k I.v c0) (hq (fun p l => I.x (row t p) l) I.g I.wq) c0) (acc (Ds (hq (fun p l => I.x (row t p) l) I.g I.wq) (nt (fun p l => I.d (row t p) l) I.wo) I.k I.v c1) (hq (fun p l => I.x (row t p) l) I.g I.wq) c1) (acc (Ds (hq (fun p l => I.x (row t p) l) I.g I.wq) (nt (fun p l => I.d (row t p) l) I.wo) I.k I.v c2) (hq (fun p l => I.x (row t p) l) I.g I.wq) c2) (acc (Ds (hq (fun p l => I.x (row t p) l) I.g I.wq) (nt (fun p l => I.d (row t p) l) I.wo) I.k I.v c3) (hq (fun p l => I.x (row t p) l) I.g I.wq) c3) (fun i u => heads0 _ i u) (fun i u => heads1 _ i u) (fun i u => heads2 _ i u) (fun i u => heads3 _ i u) rfl rfl rfl rfl) q

theorem o11A (h0 : t.val % 32 = 0) (q : S256x1024.Idx) : (outsAt0 m c t.val t.isLt).2.2.2.2.2.2.1 q
    = (0 : EReal) + (up2 (Dv (hq (fun p l => I.x (row t p) l) I.g I.wq) (nt (fun p l => I.d (row t p) l) I.wo) I.k) : FVec Ideal S256x1024 .f32) q := by
  rw [outsAt0_A m c t h0]
  frame_out
  try simp only [read_unread_whole]
  simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay1]
  exact congrFun (canonA (fun _ => (0 : EReal)) (Dv (hq (fun p l => I.x (row t p) l) I.g I.wq) (nt (fun p l => I.d (row t p) l) I.wo) I.k) _ _ _ _ _ (acc (P (hq (fun p l => I.x (row t p) l) I.g I.wq) I.k c0) (nt (fun p l => I.d (row t p) l) I.wo) c0) (acc (P (hq (fun p l => I.x (row t p) l) I.g I.wq) I.k c1) (nt (fun p l => I.d (row t p) l) I.wo) c1) (acc (P (hq (fun p l => I.x (row t p) l) I.g I.wq) I.k c2) (nt (fun p l => I.d (row t p) l) I.wo) c2) (acc (P (hq (fun p l => I.x (row t p) l) I.g I.wq) I.k c3) (nt (fun p l => I.d (row t p) l) I.wo) c3) (fun i u => heads0 _ i u) (fun i u => heads1 _ i u) (fun i u => heads2 _ i u) (fun i u => heads3 _ i u) rfl rfl rfl rfl) q

theorem o11B (h0 : ¬ t.val % 32 = 0) (q : S256x1024.Idx) : (outsAt0 m c t.val t.isLt).2.2.2.2.2.2.1 q
    = (outsAt0 m c (t.val - 1) (by have := t.isLt; omega)).2.2.2.2.2.2.1 q + (up2 (Dv (hq (fun p l => I.x (row t p) l) I.g I.wq) (nt (fun p l => I.d (row t p) l) I.wo) I.k) : FVec Ideal S256x1024 .f32) q := by
  rw [outsAt0_B m c t h0]
  frame_out
  try simp only [read_unread_whole]
  simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay1]
  exact congrFun (canonA (outsAt0 m c (t.val - 1) (by have := t.isLt; omega)).2.2.2.2.2.2.1 (Dv (hq (fun p l => I.x (row t p) l) I.g I.wq) (nt (fun p l => I.d (row t p) l) I.wo) I.k) _ _ _ _ _ (acc (P (hq (fun p l => I.x (row t p) l) I.g I.wq) I.k c0) (nt (fun p l => I.d (row t p) l) I.wo) c0) (acc (P (hq (fun p l => I.x (row t p) l) I.g I.wq) I.k c1) (nt (fun p l => I.d (row t p) l) I.wo) c1) (acc (P (hq (fun p l => I.x (row t p) l) I.g I.wq) I.k c2) (nt (fun p l => I.d (row t p) l) I.wo) c2) (acc (P (hq (fun p l => I.x (row t p) l) I.g I.wq) I.k c3) (nt (fun p l => I.d (row t p) l) I.wo) c3) (fun i u => heads0 _ i u) (fun i u => heads1 _ i u) (fun i u => heads2 _ i u) (fun i u => heads3 _ i u) rfl rfl rfl rfl) q

theorem o12A (h0 : t.val % 32 = 0) (q : S1x1024.Idx) : (outsAt0 m c t.val t.isLt).2.2.2.2.2.2.2.1 q
    = (0 : EReal) + (up2 (fun (_ : Fin 1) l => ∑ p, I.dh (row t p) l * (I.x (row t p) l * rinv (I.x (row t p)))) : FVec Ideal S1x1024 .f32) q := by
  rw [outsAt0_A m c t h0]
  frame_out
  try simp only [read_unread_whole]
  simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay2]
  rfl

theorem o12B (h0 : ¬ t.val % 32 = 0) (q : S1x1024.Idx) : (outsAt0 m c t.val t.isLt).2.2.2.2.2.2.2.1 q
    = (outsAt0 m c (t.val - 1) (by have := t.isLt; omega)).2.2.2.2.2.2.2.1 q + (up2 (fun (_ : Fin 1) l => ∑ p, I.dh (row t p) l * (I.x (row t p) l * rinv (I.x (row t p)))) : FVec Ideal S1x1024 .f32) q := by
  rw [outsAt0_B m c t h0]
  frame_out
  try simp only [read_unread_whole]
  simp only [b0 m c t I.x h.x, b1 m c t I.d h.d, b2 m c t I.g h.g, b3 m c t I.k h.k, b4 m c t I.v h.v, View.read_whole, ReadAs.apply_same, cov_whole, sc0, sc1, h.wq, h.wo,
      ld_0, ld_1, ld_2, ld_3, ld_w, h_pay6, h_pay7, h_pay8, h_pay9, h_pay10, h_pay11, h_pay12, h_pay13, h_pay14, h_pay15, h_pay16, h_pay17, h_pay18, h_pay19, h_pay20, h_pay21, h_pay22, h_pay23, h_pay24, h_pay25, h_pay26, h_pay27, h_pay28, h_pay29, h_pay31, h_pay32, h_pay33, h_pay34, h_pay35, h_pay36, h_pay37, h_pay38, h_pay39, h_pay40, h_pay41, h_pay42, h_pay43, h_pay44, h_pay45, h_pay46, h_pay47, h_pay3, h_pay4, h_pay5, skip01, skip02, skip03, skip12, skip13, skip23, fill0, fill1, fill2, fill3, rcDq, h_pay48, h_pay49, h_pay50, h_pay51, h_pay2]
  rfl

omit t

theorem f5 : (dats m 0 c).arrAt 5 cfg0.N = (up2 (I.dx) : FVec Ideal S16384x1024 .f32) := by
  refine (dats m 0 c).arrAt_eq_of_covers 5 _ (by decide +kernel) fun t hf y => ?_
  blk_simp
  rw [after0_5]
  refine (congrFun (o5 h t) _).trans ?_
  refine up2_at _ _ _ _ (congrArg₂ (I.dx) (Fin.ext ?_) (Fin.ext ?_)) <;> blk_simp [idx t, row]

theorem f6 : (dats m 0 c).arrAt 6 cfg0.N = (up2 (I.h) : FVec Ideal S16384x1024 .bf16) := by
  refine (dats m 0 c).arrAt_eq_of_covers 6 _ (by decide +kernel) fun t hf y => ?_
  blk_simp
  rw [after0_6]
  refine (congrFun (o6 h t) _).trans ?_
  refine up2_at _ _ _ _ (congrArg₂ (I.h) (Fin.ext ?_) (Fin.ext ?_)) <;> blk_simp [idx t, row]

theorem f7 : (dats m 0 c).arrAt 7 cfg0.N = (up2 (I.o) : FVec Ideal S16384x1024 .bf16) := by
  refine (dats m 0 c).arrAt_eq_of_covers 7 _ (by decide +kernel) fun t hf y => ?_
  blk_simp
  rw [after0_7]
  refine (congrFun (o7 h t) _).trans ?_
  refine up2_at _ _ _ _ (congrArg₂ (I.o) (Fin.ext ?_) (Fin.ext ?_)) <;> blk_simp [idx t, row]

theorem f8 : (dats m 0 c).arrAt 8 cfg0.N = (up2 (I.dq) : FVec Ideal S16384x1024 .bf16) := by
  refine (dats m 0 c).arrAt_eq_of_covers 8 _ (by decide +kernel) fun t hf y => ?_
  blk_simp
  rw [after0_8]
  refine (congrFun (o8 h t) _).trans ?_
  refine up2_at _ _ _ _ (congrArg₂ (I.dq) (Fin.ext ?_) (Fin.ext ?_)) <;> blk_simp [idx t, row]

theorem f9 : (dats m 0 c).arrAt 9 cfg0.N = (up2 (I.d) : FVec Ideal S16384x1024 .bf16) := by
  refine (dats m 0 c).arrAt_eq_of_covers 9 _ (by decide +kernel) fun t hf y => ?_
  blk_simp
  rw [after0_9]
  refine (congrFun (o9 h t) _).trans ?_
  refine up2_at _ _ _ _ (congrArg₂ (I.d) (Fin.ext ?_) (Fin.ext ?_)) <;> blk_simp [idx t, row]

theorem f10 : (dats m 0 c).arrAt 10 cfg0.N = (up2 I.dk : FVec Ideal S256x1024 .f32) := by
  refine (dats m 0 c).arrAt_eq_of_covers 10 _ (by decide +kernel) fun t hf y => ?_
  blk_simp
  rw [after0_10, Pipeline.eq_sum_fin_of_reset_step_apply_of_flush (fun n h => (outsAt0 m c n h).2.2.2.2.2.1) 32 (fun _ => 0)
    (fun t q => ((up2 (Dk (hq (fun p l => I.x (row t p) l) I.g I.wq) (nt (fun p l => I.d (row t p) l) I.wo) I.k I.v)) : FVec Ideal S256x1024 .f32) q)
    (fun t h0 q => by rw [o10A h t h0]) (fun t h0 q => by rw [o10B h t h0]) t ((flush0_10 t).mp hf) _, zero_add]
  have ht : t.val < 32 := lt_of_lt_of_eq t.isLt (show cfg0.N = 32 from N_0)
  have hy : (y 1 : Fin 1024) = ((win0_10.blk t).view.emb y 1 : Fin 1024) := by
    refine Fin.ext ?_
    blk_simp [idx t]
  have hy0 : (y 0 : Fin 256) = ((win0_10.blk t).view.emb y 0 : Fin 256) := by
    refine Fin.ext ?_
    blk_simp [idx t]
  refine Eq.trans (sum_blocks (fun i => Ds I.q I.dO I.k I.v (hc (y 1)) i (y 0) * I.q i (hc (y 1) (lo (y 1))))
    (fun s p => row ⟨32 * (t.val / 32) + s.val, by have := (show cfg0.N = 32 from N_0); omega⟩ p)
    (fun s p => by show (32 * (t.val / 32) + s.val) * 512 + p.val = s.val * 512 + p.val; omega)) ?_
  unfold up2
  rw [← hy, ← hy0]
  rfl

theorem f11 : (dats m 0 c).arrAt 11 cfg0.N = (up2 I.dv : FVec Ideal S256x1024 .f32) := by
  refine (dats m 0 c).arrAt_eq_of_covers 11 _ (by decide +kernel) fun t hf y => ?_
  blk_simp
  rw [after0_11, Pipeline.eq_sum_fin_of_reset_step_apply_of_flush (fun n h => (outsAt0 m c n h).2.2.2.2.2.2.1) 32 (fun _ => 0)
    (fun t q => ((up2 (Dv (hq (fun p l => I.x (row t p) l) I.g I.wq) (nt (fun p l => I.d (row t p) l) I.wo) I.k)) : FVec Ideal S256x1024 .f32) q)
    (fun t h0 q => by rw [o11A h t h0]) (fun t h0 q => by rw [o11B h t h0]) t ((flush0_11 t).mp hf) _, zero_add]
  have ht : t.val < 32 := lt_of_lt_of_eq t.isLt (show cfg0.N = 32 from N_0)
  have hy : (y 1 : Fin 1024) = ((win0_11.blk t).view.emb y 1 : Fin 1024) := by
    refine Fin.ext ?_
    blk_simp [idx t]
  have hy0 : (y 0 : Fin 256) = ((win0_11.blk t).view.emb y 0 : Fin 256) := by
    refine Fin.ext ?_
    blk_simp [idx t]
  refine Eq.trans (sum_blocks (fun i => P I.q I.k (hc (y 1)) i (y 0) * I.dO i (hc (y 1) (lo (y 1))))
    (fun s p => row ⟨32 * (t.val / 32) + s.val, by have := (show cfg0.N = 32 from N_0); omega⟩ p)
    (fun s p => by show (32 * (t.val / 32) + s.val) * 512 + p.val = s.val * 512 + p.val; omega)) ?_
  unfold up2
  rw [← hy, ← hy0]
  rfl

theorem f12 : (dats m 0 c).arrAt 12 cfg0.N = (up2 (ng I.x I.dh) : FVec Ideal S1x1024 .f32) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2.2.2.1) 32 (fun _ => 0)
    (fun t q => ((up2 (fun (_ : Fin 1) l => ∑ p, I.dh (row t p) l * (I.x (row t p) l * rinv (I.x (row t p))))) : FVec Ideal S1x1024 .f32) q)
    (fun t h0 q => by rw [o12A h t h0]) (fun t h0 q => by rw [o12B h t h0]) t ((flush0_12 t).mp hf) _, zero_add]
  have ht : t.val < 32 := lt_of_lt_of_eq t.isLt (show cfg0.N = 32 from N_0)
  have hy : (y 1 : Fin 1024) = ((win0_12.blk t).view.emb y 1 : Fin 1024) := by
    refine Fin.ext ?_
    blk_simp [idx t]
  refine Eq.trans (sum_blocks (fun i => I.dh i (y 1) * (I.x i (y 1) * rinv (I.x i)))
    (fun s p => row ⟨32 * (t.val / 32) + s.val, by have := (show cfg0.N = 32 from N_0); omega⟩ p)
    (fun s p => by show (32 * (t.val / 32) + s.val) * 512 + p.val = s.val * 512 + p.val; omega)) ?_
  unfold up2
  rw [← hy]
  rfl

omit h

structure Is (m : (ℓ : Loc nD τ sig) → Buf (Elt Ideal) ℓ) (dv : Dev nD) (I : In) : Prop where
  x : m ((dv.tc : Thread nD τ).loc main_arg0) = (up2 I.x : FVec Ideal S16384x1024 .f32)
  d : m ((dv.tc : Thread nD τ).loc main_arg1) = (up2 I.d : FVec Ideal S16384x1024 .f32)
  g : m ((dv.tc : Thread nD τ).loc main_arg2) = (up2 I.g : FVec Ideal S1x1024 .f32)
  k : m ((dv.tc : Thread nD τ).loc main_arg3) = (up2 I.k : FVec Ideal S256x1024 .f32)
  v : m ((dv.tc : Thread nD τ).loc main_arg4) = (up2 I.v : FVec Ideal S256x1024 .f32)
  wq : m ((dv.tc : Thread nD τ).loc main_arg5) = (up2 I.wq : FVec Ideal S1024x1024 .f32)
  wo : m ((dv.tc : Thread nD τ).loc main_arg6) = (up2 I.wo : FVec Ideal S1024x1024 .f32)

theorem entry (m : (ℓ : Loc nD τ sig) → Buf (Elt Ideal) ℓ) (c : Dev nD) (I : In) (h : Is m c I) : Entry m c I := by
  constructor
  · entry_read; exact h.x
  · entry_read; exact h.d
  · entry_read; exact h.g
  · entry_read
    rw [h.k]
    funext q; idx_vars q
    pointwise
    try rfl
  · entry_read
    rw [h.v]
    funext q; idx_vars q
    pointwise
    try rfl
  · entry_read
    rw [h.wq]
    funext q; idx_vars q
    pointwise
    try rfl
  · entry_read
    rw [h.wo]
    funext q; idx_vars q
    pointwise
    try rfl

theorem run (m : (ℓ : Loc nD τ sig) → Buf (Elt Ideal) ℓ) (ρ : Dev nD → PrngReg) (I : Dev nD → In) (h : ∀ c, Is m c (I c)) :
    θ_run (defs (F := Ideal)) (onTc (τ := τ) (main (F := Ideal))) ⟨m, fun _ => 0, ρ⟩ (fun r => ∀ c : Dev nD,
      rd r.2.mem c main_v4_0 = (up2 ((I c).dx) : FVec Ideal S16384x1024 .f32)
      ∧ rd r.2.mem c main_v4_1 = (up2 ((I c).h) : FVec Ideal S16384x1024 .bf16)
      ∧ rd r.2.mem c main_v4_2 = (up2 ((I c).o) : FVec Ideal S16384x1024 .bf16)
      ∧ rd r.2.mem c main_v4_3 = (up2 ((I c).dq) : FVec Ideal S16384x1024 .bf16)
      ∧ rd r.2.mem c main_v4_4 = (up2 ((I c).d) : FVec Ideal S16384x1024 .bf16)
      ∧ rd r.2.mem c main_v4_5 = (up2 ((I c).dk) : FVec Ideal S256x1024 .f32)
      ∧ rd r.2.mem c main_v4_6 = (up2 ((I c).dv) : FVec Ideal S256x1024 .f32)
      ∧ rd r.2.mem c main_v4_7 = (up2 (ng (I c).x (I c).dh) : FVec Ideal S1x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6) := by
  refine (θ_run defs _ _).mono (fun r k c => ?_) (θ_run_and (run_main m ρ) (unchanged m ρ))
  have E := entry m c (I c) (h c)
  exact ⟨((k.1 c).1 5).trans (f5 E), ((k.1 c).1 6).trans (f6 E), ((k.1 c).1 7).trans (f7 E), ((k.1 c).1 8).trans (f8 E), ((k.1 c).1 9).trans (f9 E), ((k.1 c).1 10).trans (f10 E), ((k.1 c).1 11).trans (f11 E), ((k.1 c).1 12).trans (f12 E), k.2 c⟩

end Cert.Proof.XaBlk
end
-- ==== Proof.XaRefA.lean ====
/- The reference's attention read operation by operation on arrays of reals: the split into heads, the softmax, and
   its gradient in the keys, the queries and the values. -/
module
public import proofs.«01_k».proof.Proof.Gen.XaRefIdeal.Run
public import proofs.«01_k».proof.Proof.XaIn
@[expose] public section
set_option maxRecDepth 16384
noncomputable section
namespace Cert.Proof.XaRefA
open Cert.XaRefIdeal Cert.XaRefIdeal.Gen Idealize.ShloMosaic Idealize.ShloMosaic.TcCoe Idealize.SL.Sem XaEq XaIn

/-- The columns of a head. -/
def hd (h : Fin 4) (u : Fin 256) : Fin 1024 := ⟨h.val * 256 + u.val, by omega⟩
/-- The head of a column. -/
def hh (l : Fin 1024) : Fin 4 := ⟨l.val / 256, by omega⟩
/-- An array's columns split into heads. -/
def sp {n : ℕ} (Q : Fin n → Fin 1024 → ℝ) (i : Fin n) (h : Fin 4) (u : Fin 256) : ℝ := Q i (hd h u)
def spT {n : ℕ} (Q : Fin n → Fin 1024 → ℝ) (h : Fin 4) (u : Fin 256) (i : Fin n) : ℝ := Q i (hd h u)

theorem h_v16 (Q : Fin 16384 → Fin 1024 → ℝ) : (shapeCast S16384x4x256 (up2 Q : FVec Ideal S16384x1024 .f32) shapeCasts_S16384x1024_S16384x4x256 : FVec Ideal S16384x4x256 .f32) = up3 (sp Q) := by
  funext q; idx_vars q
  pointwise
  rfl
theorem h_v17 (K : Fin 256 → Fin 1024 → ℝ) : (shapeCast S256x4x256 (up2 K : FVec Ideal S256x1024 .f32) shapeCasts_S256x1024_S256x4x256 : FVec Ideal S256x4x256 .f32) = up3 (sp K) := by
  funext q; idx_vars q
  pointwise
  rfl
theorem h_v58 (D : Fin 16384 → Fin 1024 → ℝ) : (transpose S4x256x16384 [1, 2, 0] (up3 (sp D) : FVec Ideal S16384x4x256 .f32) transposes_S16384x4x256_S4x256x16384_1_2_0 : FVec Ideal S4x256x16384 .f32) = up3 (spT D) := by
  funext q; idx_vars q
  pointwise
  rfl

/-- The heads put side by side again. -/
theorem back16 (F : Fin 4 → Fin 16384 → Fin 256 → ℝ) : (shapeCast S16384x1024 (up3 (fun i h u => F h i u) : FVec Ideal S16384x4x256 .f32) shapeCasts_S16384x4x256_S16384x1024 : FVec Ideal S16384x1024 .f32) = up2 fun i l => F (hh l) i (lo l) := by
  funext q; idx_vars q
  pointwise
  rfl
theorem back256 (F : Fin 4 → Fin 256 → Fin 256 → ℝ) : (shapeCast S256x1024 (up3 (fun i h u => F h i u) : FVec Ideal S256x4x256 .f32) shapeCasts_S256x4x256_S256x1024 : FVec Ideal S256x1024 .f32) = up2 fun i l => F (hh l) i (lo l) := by
  funext q; idx_vars q
  pointwise
  rfl

def v_v18 (Q : FVec Ideal S16384x4x256 .f32) (K : FVec Ideal S256x4x256 .f32) : FVec Ideal S4x16384x256 .f32 :=
  Host.dotGeneral dot_S16384x4x256_S256x4x256_S4x16384x256_2_2_0_0_1_1 none Q K
def r_s (Q : Fin 16384 → Fin 1024 → ℝ) (K : Fin 256 → Fin 1024 → ℝ) (h : Fin 4) (i : Fin 16384) : Fin 256 → ℝ := sc (cut (hd h) (Q i)) (tile (hd h) K)
theorem h_v18 (Q : Fin 16384 → Fin 1024 → ℝ) (K : Fin 256 → Fin 1024 → ℝ) : v_v18 (up3 (sp Q)) (up3 (sp K)) = up3 (r_s Q K) := by
  unfold v_v18
  funext q; idx_vars q
  pointwise
  simp only [up3_ix, ← EReal.coe_mul, ← coe_sum]
  unfold r_s sc cut tile sp
  with_reducible rfl

def v_v20 (Q : FVec Ideal S16384x4x256 .f32) (K : FVec Ideal S256x4x256 .f32) : FVec Ideal S4x16384x256 .f32 :=
  mulf (v_v18 Q K) (broadcastInDim S4x16384x256 ![] bcast_S_S4x16384x256 (constant S_ .f32 0x3D800000#32))
def r_v20 (Q : Fin 16384 → Fin 1024 → ℝ) (K : Fin 256 → Fin 1024 → ℝ) (h : Fin 4) (i : Fin 16384) (j : Fin 256) : ℝ := r_s Q K h i j * (1 / 16)
theorem h_v20 (Q : Fin 16384 → Fin 1024 → ℝ) (K : Fin 256 → Fin 1024 → ℝ) : v_v20 (up3 (sp Q)) (up3 (sp K)) = up3 (r_v20 Q K) := by
  unfold v_v20
  rw [h_v18]
  funext q; idx_vars q
  pointwise
  simp only [lit_sixteenth, up3_ix, ← EReal.coe_mul]
  rfl

/-- The greatest entry along the last axis, at a place. -/
theorem reduce_max {n0 n1 n2 : ℕ} (X : FVec Ideal ⟨3, ![n0, n1, n2]⟩ .f32) (b : FVec Ideal S_ .f32) (h : (⟨3, ![n0, n1, n2]⟩ : Shape).ReducesTo [2] ⟨2, ![n0, n1]⟩) (hu : 0 < S_.numel) (i : Fin n0) (j : Fin n1) :
    Host.reduce (FloatOps.maximumf (F := Ideal) (φ := .f32)) X b h hu (ix2 i j) = Finset.univ.fold (FloatOps.maximumf (F := Ideal) (φ := .f32)) (b (Shape.Idx.first hu)) fun k => X (ix3 i j k) := by
  rw [Host.reduce_eq_fold, Shape.ReducesTo.fold_fiber_r3_a2]
  rfl

def v_v21 (S : FVec Ideal S4x16384x256 .f32) : FVec Ideal S4x16384 .f32 :=
  Host.reduce FloatOps.maximumf S (constant S_ .f32 0xFF800000#32) reducesTo_S4x16384x256_S4x16384_d2 h_S_
theorem fold_bot (t : Fin 256 → ℝ) (b : EReal) (hb : b = ⊥) : (Finset.univ.fold (FloatOps.maximumf (F := Ideal) (φ := .f32)) b fun k => ((t k : ℝ) : EReal)) = ((rmax t : ℝ) : EReal) := by
  rw [hb]; exact fold_max t
theorem h_v21 (S : Fin 4 → Fin 16384 → Fin 256 → ℝ) : v_v21 (up3 S) = up2 fun h i => rmax (S h i) := by
  funext q
  obtain ⟨i, j, rfl⟩ : ∃ i j, q = ix2 i j := ⟨q 0, q 1, eq_ix2 q⟩
  exact (reduce_max (up3 S) (constant S_ .f32 0xFF800000#32) reducesTo_S4x16384x256_S4x16384_d2 h_S_ i j).trans (fold_bot (S i j) _ lit_bot)

def v_v28 (S : FVec Ideal S4x16384x256 .f32) : FVec Ideal S4x16384 .f32 :=
  maximumf (broadcastInDim S4x16384 ![] bcast_S_S4x16384 (constant S_ .f32 0xFF800000#32)) (v_v21 S)
theorem h_v28 (S : Fin 4 → Fin 16384 → Fin 256 → ℝ) : v_v28 (up3 S) = up2 fun h i => rmax (S h i) := by
  unfold v_v28
  rw [h_v21]
  funext q; idx_vars q
  pointwise
  simp only [up2_ix, lit_bot, bot_sup_eq, max_bot_left]

def v_v41 (S : FVec Ideal S4x16384x256 .f32) : FVec Ideal S4x16384x256 .f32 :=
  Host.exp (subf S (broadcastInDim S4x16384x256 ![0, 1, 2] bcast_S4x16384x1_S4x16384x256_0_1_2 (broadcastInDim S4x16384x1 ![0, 1] bcast_S4x16384_S4x16384x1_0_1 (v_v28 S))))
def r_v41 (S : Fin 4 → Fin 16384 → Fin 256 → ℝ) (h : Fin 4) (i : Fin 16384) (j : Fin 256) : ℝ := Real.exp (S h i j - rmax (S h i))
theorem h_v41 (S : Fin 4 → Fin 16384 → Fin 256 → ℝ) : v_v41 (up3 S) = up3 (r_v41 S) := by
  unfold v_v41
  simp only [h_v28]
  funext q; idx_vars q
  pointwise
  simp only [up2_ix, up3_ix, ← EReal.coe_sub, exp_real]
  rfl

def v_v43 (E : FVec Ideal S4x16384x256 .f32) : FVec Ideal S4x16384x1 .f32 :=
  broadcastInDim S4x16384x1 ![0, 1] bcast_S4x16384_S4x16384x1_0_1 (Host.reduceAdd E (constant S_ .f32 0x00000000#32) reducesTo_S4x16384x256_S4x16384_d2 h_S_)
def r_v43 (E : Fin 4 → Fin 16384 → Fin 256 → ℝ) (h : Fin 4) (i : Fin 16384) (_ : Fin 1) : ℝ := ∑ k, E h i k
theorem h_v43 (E : Fin 4 → Fin 16384 → Fin 256 → ℝ) : v_v43 (up3 E) = up3 (r_v43 E) := by
  unfold v_v43
  funext q; idx_vars q
  pointwise
  simp only [up3_ix, zero_add, ← coe_sum]
  rfl
theorem pos_v43 (S : Fin 4 → Fin 16384 → Fin 256 → ℝ) (h : Fin 4) (i : Fin 16384) (j : Fin 1) : 0 < r_v43 (r_v41 S) h i j := sum_exp_pos _

def v_v45 (E : FVec Ideal S4x16384x256 .f32) : FVec Ideal S4x16384x256 .f32 :=
  Host.divf E (broadcastInDim S4x16384x256 ![0, 1, 2] bcast_S4x16384x1_S4x16384x256_0_1_2 (v_v43 E))
def r_v45 (E : Fin 4 → Fin 16384 → Fin 256 → ℝ) (h : Fin 4) (i : Fin 16384) (j : Fin 256) : ℝ := E h i j / ∑ k, E h i k
theorem h_v45 (S : Fin 4 → Fin 16384 → Fin 256 → ℝ) : v_v45 (up3 (r_v41 S)) = up3 (r_v45 (r_v41 S)) := by
  unfold v_v45
  simp only [h_v43]
  funext q; idx_vars q
  pointwise
  simp only [up3_ix, div_real (pos_v43 _ _ _ _).ne']
  rfl

def v_v48 (E : FVec Ideal S4x16384x256 .f32) : FVec Ideal S4x16384x1 .f32 :=
  Host.divf (broadcastInDim S4x16384x1 ![] bcast_S_S4x16384x1 (constant S_ .f32 0x3F800000#32)) (mulf (v_v43 E) (v_v43 E))
def r_v48 (E : Fin 4 → Fin 16384 → Fin 256 → ℝ) (h : Fin 4) (i : Fin 16384) (j : Fin 1) : ℝ := 1 / (r_v43 E h i j * r_v43 E h i j)
theorem h_v48 (S : Fin 4 → Fin 16384 → Fin 256 → ℝ) : v_v48 (up3 (r_v41 S)) = up3 (r_v48 (r_v41 S)) := by
  unfold v_v48
  simp only [h_v43]
  funext q; idx_vars q
  pointwise
  simp only [lit_one, up3_ix, ← EReal.coe_mul, div_real (mul_pos (pos_v43 S _ _ _) (pos_v43 S _ _ _)).ne']
  rfl

def v_v59 (D : FVec Ideal S4x256x16384 .f32) (V : FVec Ideal S256x4x256 .f32) : FVec Ideal S4x16384x256 .f32 :=
  Host.dotGeneral dot_S4x256x16384_S256x4x256_S4x16384x256_1_2_2_0_0_1 none D V
theorem h_v59 (D : Fin 16384 → Fin 1024 → ℝ) (V : Fin 256 → Fin 1024 → ℝ) : v_v59 (up3 (spT D)) (up3 (sp V)) = up3 (r_s D V) := by
  unfold v_v59
  funext q; idx_vars q
  pointwise
  simp only [up3_ix, ← EReal.coe_mul, ← coe_sum]
  rfl

def v_v66 (G E : FVec Ideal S4x16384x256 .f32) : FVec Ideal S4x16384 .f32 :=
  Host.reduceAdd (mulf (mulf G (broadcastInDim S4x16384x256 ![0, 1, 2] bcast_S4x16384x1_S4x16384x256_0_1_2 (v_v48 E))) E) (constant S_ .f32 0x00000000#32) reducesTo_S4x16384x256_S4x16384_d2 h_S_
def r_v66 (G E : Fin 4 → Fin 16384 → Fin 256 → ℝ) (h : Fin 4) (i : Fin 16384) : ℝ := ∑ k, G h i k * r_v48 E h i 0 * E h i k
theorem h_v66 (G S : Fin 4 → Fin 16384 → Fin 256 → ℝ) : v_v66 (up3 G) (up3 (r_v41 S)) = up2 (r_v66 G (r_v41 S)) := by
  unfold v_v66
  simp only [h_v48]
  funext q; idx_vars q
  pointwise
  simp only [up3_ix, zero_add, ← EReal.coe_mul, ← coe_sum]
  rfl

def v_v71 (G E : FVec Ideal S4x16384x256 .f32) : FVec Ideal S4x16384 .f32 :=
  Host.reduceAdd (Host.negf (shapeCast S4x16384x1 (v_v66 G E) shapeCasts_S4x16384_S4x16384x1)) (constant S_ .f32 0x00000000#32) reducesTo_S4x16384x1_S4x16384_d2 h_S_
def r_v71 (G E : Fin 4 → Fin 16384 → Fin 256 → ℝ) (h : Fin 4) (i : Fin 16384) : ℝ := ∑ _k : Fin 1, -r_v66 G E h i
theorem h_v71 (G S : Fin 4 → Fin 16384 → Fin 256 → ℝ) : v_v71 (up3 G) (up3 (r_v41 S)) = up2 (r_v71 G (r_v41 S)) := by
  unfold v_v71
  simp only [h_v66]
  funext q; idx_vars q
  pointwise
  simp only [up2_ix, zero_add, ← EReal.coe_neg, ← coe_sum]
  rfl

def v_v76 (G E : FVec Ideal S4x16384x256 .f32) : FVec Ideal S4x16384x256 .f32 :=
  mulf (mulf (addf (Host.divf G (broadcastInDim S4x16384x256 ![0, 1, 2] bcast_S4x16384x1_S4x16384x256_0_1_2 (v_v43 E))) (broadcastInDim S4x16384x256 ![0, 1] bcast_S4x16384_S4x16384x256_0_1 (v_v71 G E))) E) (broadcastInDim S4x16384x256 ![] bcast_S_S4x16384x256 (constant S_ .f32 0x3D800000#32))
def r_v76 (G E : Fin 4 → Fin 16384 → Fin 256 → ℝ) (h : Fin 4) (i : Fin 16384) (j : Fin 256) : ℝ :=
  (G h i j / r_v43 E h i 0 + r_v71 G E h i) * E h i j * (1 / 16)
theorem h_v76 (G S : Fin 4 → Fin 16384 → Fin 256 → ℝ) : v_v76 (up3 G) (up3 (r_v41 S)) = up3 (r_v76 G (r_v41 S)) := by
  unfold v_v76
  simp only [h_v71, h_v43]
  funext q; idx_vars q
  pointwise
  simp only [lit_sixteenth, up2_ix, up3_ix, div_real (pos_v43 S _ _ _).ne', ← EReal.coe_add, ← EReal.coe_mul]
  rfl

/-- The softmax and its gradient, in the form the kernel has them. -/
theorem e45 (Q : Fin 16384 → Fin 1024 → ℝ) (K : Fin 256 → Fin 1024 → ℝ) : r_v45 (r_v41 (r_v20 Q K)) = fun h i => P Q K (hd h) i := by
  funext h i j
  exact shift (r_s Q K h i) (rmax (r_v20 Q K h i)) j
theorem e76 (Q D : Fin 16384 → Fin 1024 → ℝ) (K V : Fin 256 → Fin 1024 → ℝ) : r_v76 (r_s D V) (r_v41 (r_v20 Q K)) = fun h i => Ds Q D K V (hd h) i := by
  funext h i j
  refine Eq.trans ?_ (ds_eq (r_s Q K h i) (r_s D V h i) (rmax (r_v20 Q K h i)) j)
  unfold r_v76 r_v71
  rw [Fin.sum_univ_one]
  rfl

def v_v52 (V : FVec Ideal S256x4x256 .f32) (Y : FVec Ideal S4x16384x256 .f32) : FVec Ideal S16384x1024 .f32 :=
  shapeCast S16384x1024 (transpose S16384x4x256 [2, 0, 1] (Host.dotGeneral dot_S256x4x256_S4x16384x256_S4x256x16384_0_2_2_1_1_0 none V Y) transposes_S4x256x16384_S16384x4x256_2_0_1) shapeCasts_S16384x4x256_S16384x1024
theorem h_v52 (V : Fin 256 → Fin 1024 → ℝ) (Y : (Fin 256 → Fin 1024) → Fin 16384 → Fin 256 → ℝ) :
    v_v52 (up3 (sp V)) (up3 fun h i => Y (hd h) i) = up2 (heads fun c i => mixr (Y c i) (tile c V)) := by
  refine Eq.trans (congrArg (fun X => shapeCast S16384x1024 X shapeCasts_S16384x4x256_S16384x1024) (?_ : _ = (up3 (fun i h u => mixr (Y (hd h) i) (tile (hd h) V) u) : FVec Ideal S16384x4x256 .f32))) (back16 fun h i u => mixr (Y (hd h) i) (tile (hd h) V) u)
  funext q; idx_vars q
  pointwise
  simp only [up3_ix, mul_comm (((sp V _ _ _ : ℝ)) : EReal), ← EReal.coe_mul, ← coe_sum]
  rfl

def v_v82 (Y : FVec Ideal S4x16384x256 .f32) (K : FVec Ideal S256x4x256 .f32) : FVec Ideal S16384x1024 .f32 :=
  shapeCast S16384x1024 (transpose S16384x4x256 [1, 0, 2] (Host.dotGeneral dot_S4x16384x256_S256x4x256_S4x16384x256_2_0_1_2_0_1 none Y K) transposes_S4x16384x256_S16384x4x256_1_0_2) shapeCasts_S16384x4x256_S16384x1024
theorem h_v82 (K : Fin 256 → Fin 1024 → ℝ) (Y : (Fin 256 → Fin 1024) → Fin 16384 → Fin 256 → ℝ) :
    v_v82 (up3 fun h i => Y (hd h) i) (up3 (sp K)) = up2 (heads fun c i => mixr (Y c i) (tile c K)) := by
  refine Eq.trans (congrArg (fun X => shapeCast S16384x1024 X shapeCasts_S16384x4x256_S16384x1024) (?_ : _ = (up3 (fun i h u => mixr (Y (hd h) i) (tile (hd h) K) u) : FVec Ideal S16384x4x256 .f32))) (back16 fun h i u => mixr (Y (hd h) i) (tile (hd h) K) u)
  funext q; idx_vars q
  pointwise
  simp only [up3_ix, ← EReal.coe_mul, ← coe_sum]
  rfl

def v_v81 (Y : FVec Ideal S4x16384x256 .f32) (Q : FVec Ideal S16384x4x256 .f32) : FVec Ideal S256x1024 .f32 :=
  shapeCast S256x1024 (transpose S256x4x256 [1, 0, 2] (Host.dotGeneral dot_S4x16384x256_S16384x4x256_S4x256x256_1_0_2_2_0_1 none Y Q) transposes_S4x256x256_S256x4x256_1_0_2) shapeCasts_S256x4x256_S256x1024
theorem h_v81 (Q : Fin 16384 → Fin 1024 → ℝ) (Y : (Fin 256 → Fin 1024) → Fin 16384 → Fin 256 → ℝ) :
    v_v81 (up3 fun h i => Y (hd h) i) (up3 (sp Q)) = up2 (heads fun c => acc (Y c) Q c) := by
  refine Eq.trans (congrArg (fun X => shapeCast S256x1024 X shapeCasts_S256x4x256_S256x1024) (?_ : _ = (up3 (fun i h u => acc (Y (hd h)) Q (hd h) i u) : FVec Ideal S256x4x256 .f32))) (back256 fun h i u => acc (Y (hd h)) Q (hd h) i u)
  funext q; idx_vars q
  pointwise
  simp only [up3_ix, ← EReal.coe_mul, ← coe_sum]
  rfl

def v_v62 (D : FVec Ideal S4x256x16384 .f32) (Y : FVec Ideal S4x16384x256 .f32) : FVec Ideal S256x1024 .f32 :=
  shapeCast S256x1024 (transpose S256x4x256 [2, 0, 1] (Host.dotGeneral dot_S4x256x16384_S4x16384x256_S4x256x256_2_1_1_2_0_0 none D Y) transposes_S4x256x256_S256x4x256_2_0_1) shapeCasts_S256x4x256_S256x1024
theorem h_v62 (D : Fin 16384 → Fin 1024 → ℝ) (Y : (Fin 256 → Fin 1024) → Fin 16384 → Fin 256 → ℝ) :
    v_v62 (up3 (spT D)) (up3 fun h i => Y (hd h) i) = up2 (heads fun c => acc (Y c) D c) := by
  refine Eq.trans (congrArg (fun X => shapeCast S256x1024 X shapeCasts_S256x4x256_S256x1024) (?_ : _ = (up3 (fun i h u => acc (Y (hd h)) D (hd h) i u) : FVec Ideal S256x4x256 .f32))) (back256 fun h i u => acc (Y (hd h)) D (hd h) i u)
  funext q; idx_vars q
  pointwise
  simp only [up3_ix, mul_comm (((spT D _ _ _ : ℝ)) : EReal), ← EReal.coe_mul, ← coe_sum]
  rfl
end Cert.Proof.XaRefA
end
-- ==== Proof.XaRef.lean ====
/- The reference of the cross attention's gradient on arrays of reals: the norm, the two products around the attention,
   the norm's gradient, and the results. -/
module
public import proofs.«01_k».proof.Proof.XaRefA
public import Idealize.ShloMosaic.Adequacy
@[expose] public section
set_option maxRecDepth 16384
noncomputable section
namespace Cert.Proof.XaRef
open Cert.XaRefIdeal Cert.XaRefIdeal.Gen Idealize.ShloMosaic Idealize.ShloMosaic.TcCoe Idealize.SL.Sem FfnKer NormBwd XaEq XaKer XaIn XaRefA

def v_v1 (X : FVec Ideal S16384x1024 .f32) : FVec Ideal S16384 .f32 :=
  (Host.reduceAdd (mulf X X) (constant S_ .f32 0x00000000#32) reducesTo_S16384x1024_S16384_d1 h_S_)

def r_v1 (x : Fin 16384 → Fin 1024 → ℝ) (i : Fin 16384) : ℝ :=
  (∑ k1 : Fin 1024, (x i k1 * x i k1))

theorem h_v1 (x : Fin 16384 → Fin 1024 → ℝ) : v_v1 (up2 x) = up1 (r_v1 x) := by
  unfold v_v1
  funext q; idx_vars q
  pointwise
  simp only [zero_add, up2_ix, ← EReal.coe_mul, ← coe_sum]
  rfl

def v_v4 (X : FVec Ideal S16384x1024 .f32) : FVec Ideal S16384x1 .f32 :=
  (Host.divf (broadcastInDim S16384x1 ![0] bcast_S16384_S16384x1_0 (v_v1 X)) (broadcastInDim S16384x1 ![] bcast_S_S16384x1 (constant S_ .f32 0x44800000#32)))

def r_v4 (x : Fin 16384 → Fin 1024 → ℝ) (i : Fin 16384) (j : Fin 1) : ℝ :=
  ((r_v1 x i) / 1024)

theorem h_v4 (x : Fin 16384 → Fin 1024 → ℝ) : v_v4 (up2 x) = up2 (r_v4 x) := by
  unfold v_v4
  simp only [h_v1]
  funext q; idx_vars q
  pointwise
  simp only [lit_1024, up1_ix, up2_ix, div_real (show (1024 : ℝ) ≠ 0 by norm_num)]
  rfl

def v_v6 (X : FVec Ideal S16384x1024 .f32) : FVec Ideal S16384x1 .f32 :=
  (addf (v_v4 X) (broadcastInDim S16384x1 ![] bcast_S_S16384x1 (constant S_ .f32 0x358637BD#32)))

def r_v6 (x : Fin 16384 → Fin 1024 → ℝ) (i : Fin 16384) (j : Fin 1) : ℝ :=
  ((r_v4 x i j) + eps)

theorem pos_v6 (x : Fin 16384 → Fin 1024 → ℝ) (i : Fin 16384) (j : Fin 1) : 0 < r_v6 x i j := by
  unfold r_v6 r_v4 r_v1
  exact add_pos_of_nonneg_of_pos (div_nonneg (Finset.sum_nonneg fun k _ => mul_self_nonneg _) (by norm_num)) eps_pos

theorem h_v6 (x : Fin 16384 → Fin 1024 → ℝ) : v_v6 (up2 x) = up2 (r_v6 x) := by
  unfold v_v6
  simp only [h_v4]
  funext q; idx_vars q
  pointwise
  simp only [lit_eps, up2_ix, ← EReal.coe_add]
  rfl

def v_v7 (X : FVec Ideal S16384x1024 .f32) : FVec Ideal S16384x1 .f32 :=
  (Host.rsqrt (v_v6 X))

def r_v7 (x : Fin 16384 → Fin 1024 → ℝ) (i : Fin 16384) (j : Fin 1) : ℝ :=
  ((Real.sqrt ((r_v6 x i j)))⁻¹)

theorem h_v7 (x : Fin 16384 → Fin 1024 → ℝ) : v_v7 (up2 x) = up2 (r_v7 x) := by
  unfold v_v7
  simp only [h_v6]
  funext q; idx_vars q
  pointwise
  simp only [up2_ix, rsqrt_real (pos_v6 _ _ _)]
  rfl

def v_v8 (X : FVec Ideal S16384x1024 .f32) : FVec Ideal S16384x1 .f32 :=
  (Host.divf (v_v7 X) (v_v6 X))

def r_v8 (x : Fin 16384 → Fin 1024 → ℝ) (i : Fin 16384) (j : Fin 1) : ℝ :=
  ((r_v7 x i j) / (r_v6 x i j))

theorem h_v8 (x : Fin 16384 → Fin 1024 → ℝ) : v_v8 (up2 x) = up2 (r_v8 x) := by
  unfold v_v8
  simp only [h_v7, h_v6]
  funext q; idx_vars q
  pointwise
  simp only [up2_ix, div_real (pos_v6 _ _ _).ne']
  rfl

def v_v12 (X : FVec Ideal S16384x1024 .f32) : FVec Ideal S16384x1024 .f32 :=
  (mulf X (broadcastInDim S16384x1024 ![0, 1] bcast_S16384x1_S16384x1024_0_1 (v_v7 X)))

def r_v12 (x : Fin 16384 → Fin 1024 → ℝ) (i : Fin 16384) (j : Fin 1024) : ℝ :=
  (x i j * (r_v7 x i 0))

theorem h_v12 (x : Fin 16384 → Fin 1024 → ℝ) : v_v12 (up2 x) = up2 (r_v12 x) := by
  unfold v_v12
  simp only [h_v7]
  funext q; idx_vars q
  pointwise
  simp only [up2_ix, ← EReal.coe_mul]
  rfl

def v_v30 (X : FVec Ideal S16384x1024 .f32) (H : FVec Ideal S16384x1024 .f32) : FVec Ideal S1024 .f32 :=
  (Host.reduceAdd (mulf (v_v12 X) H) (constant S_ .f32 0x00000000#32) reducesTo_S16384x1024_S1024_d0 h_S_)

def r_v30 (x : Fin 16384 → Fin 1024 → ℝ) (h : Fin 16384 → Fin 1024 → ℝ) (i : Fin 1024) : ℝ :=
  (∑ k1 : Fin 16384, ((r_v12 x k1 i) * h k1 i))

theorem h_v30 (x : Fin 16384 → Fin 1024 → ℝ) (h : Fin 16384 → Fin 1024 → ℝ) : v_v30 (up2 x) (up2 h) = up1 (r_v30 x h) := by
  unfold v_v30
  simp only [h_v12]
  funext q; idx_vars q
  pointwise
  simp only [zero_add, up2_ix, ← EReal.coe_mul, ← coe_sum]
  rfl

def v_v31 (X : FVec Ideal S16384x1024 .f32) (H : FVec Ideal S16384x1024 .f32) : FVec Ideal S1x1024 .f32 :=
  (shapeCast S1x1024 (v_v30 X H) shapeCasts_S1024_S1x1024)

def r_v31 (x : Fin 16384 → Fin 1024 → ℝ) (h : Fin 16384 → Fin 1024 → ℝ) (i : Fin 1) (j : Fin 1024) : ℝ :=
  (r_v30 x h j)

theorem h_v31 (x : Fin 16384 → Fin 1024 → ℝ) (h : Fin 16384 → Fin 1024 → ℝ) : v_v31 (up2 x) (up2 h) = up2 (r_v31 x h) := by
  unfold v_v31
  simp only [h_v30]
  funext q; idx_vars q
  pointwise
  simp only [up1_ix, up2_ix]
  rfl

def v_v33 (G : FVec Ideal S1x1024 .f32) (H : FVec Ideal S16384x1024 .f32) : FVec Ideal S16384x1024 .f32 :=
  (mulf H (broadcastInDim S16384x1024 ![0, 1] bcast_S1x1024_S16384x1024_0_1 G))

def r_v33 (g : Fin 1 → Fin 1024 → ℝ) (h : Fin 16384 → Fin 1024 → ℝ) (i : Fin 16384) (j : Fin 1024) : ℝ :=
  (h i j * g 0 j)

theorem h_v33 (g : Fin 1 → Fin 1024 → ℝ) (h : Fin 16384 → Fin 1024 → ℝ) : v_v33 (up2 g) (up2 h) = up2 (r_v33 g h) := by
  unfold v_v33
  funext q; idx_vars q
  pointwise
  simp only [up2_ix, ← EReal.coe_mul]
  rfl

def v_v35 (X : FVec Ideal S16384x1024 .f32) (G : FVec Ideal S1x1024 .f32) (H : FVec Ideal S16384x1024 .f32) : FVec Ideal S16384 .f32 :=
  (Host.reduceAdd (mulf X (v_v33 G H)) (constant S_ .f32 0x00000000#32) reducesTo_S16384x1024_S16384_d1 h_S_)

def r_v35 (x : Fin 16384 → Fin 1024 → ℝ) (g : Fin 1 → Fin 1024 → ℝ) (h : Fin 16384 → Fin 1024 → ℝ) (i : Fin 16384) : ℝ :=
  (∑ k1 : Fin 1024, (x i k1 * (r_v33 g h i k1)))

theorem h_v35 (x : Fin 16384 → Fin 1024 → ℝ) (g : Fin 1 → Fin 1024 → ℝ) (h : Fin 16384 → Fin 1024 → ℝ) : v_v35 (up2 x) (up2 g) (up2 h) = up1 (r_v35 x g h) := by
  unfold v_v35
  simp only [h_v33]
  funext q; idx_vars q
  pointwise
  simp only [zero_add, up2_ix, ← EReal.coe_mul, ← coe_sum]
  rfl

def v_n41 (X : FVec Ideal S16384x1024 .f32) (G : FVec Ideal S1x1024 .f32) (H : FVec Ideal S16384x1024 .f32) : FVec Ideal S16384x1 .f32 :=
  (Host.divf (mulf (shapeCast S16384x1 (v_v35 X G H) shapeCasts_S16384_S16384x1) (mulf (broadcastInDim S16384x1 ![] bcast_S_S16384x1 (constant S_ .f32 0xBF000000#32)) (v_v8 X))) (broadcastInDim S16384x1 ![] bcast_S_S16384x1 (constant S_ .f32 0x44800000#32)))

def r_n41 (x : Fin 16384 → Fin 1024 → ℝ) (g : Fin 1 → Fin 1024 → ℝ) (h : Fin 16384 → Fin 1024 → ℝ) (i : Fin 16384) (j : Fin 1) : ℝ :=
  (((r_v35 x g h i) * ((-(1/2)) * (r_v8 x i j))) / 1024)

theorem h_n41 (x : Fin 16384 → Fin 1024 → ℝ) (g : Fin 1 → Fin 1024 → ℝ) (h : Fin 16384 → Fin 1024 → ℝ) : v_n41 (up2 x) (up2 g) (up2 h) = up2 (r_n41 x g h) := by
  unfold v_n41
  simp only [h_v35, h_v8]
  funext q; idx_vars q
  pointwise
  simp only [lit_1024, lit_neg_half, up1_ix, up2_ix, ← EReal.coe_mul, ← EReal.coe_neg, div_real (show (1024 : ℝ) ≠ 0 by norm_num)]
  rfl

def v_n42 (X : FVec Ideal S16384x1024 .f32) (G : FVec Ideal S1x1024 .f32) (H : FVec Ideal S16384x1024 .f32) : FVec Ideal S16384 .f32 :=
  (Host.reduceAdd (v_n41 X G H) (constant S_ .f32 0x00000000#32) reducesTo_S16384x1_S16384_d1 h_S_)

def r_n42 (x : Fin 16384 → Fin 1024 → ℝ) (g : Fin 1 → Fin 1024 → ℝ) (h : Fin 16384 → Fin 1024 → ℝ) (i : Fin 16384) : ℝ :=
  (∑ k1 : Fin 1, (r_n41 x g h i k1))

theorem h_n42 (x : Fin 16384 → Fin 1024 → ℝ) (g : Fin 1 → Fin 1024 → ℝ) (h : Fin 16384 → Fin 1024 → ℝ) : v_n42 (up2 x) (up2 g) (up2 h) = up1 (r_n42 x g h) := by
  unfold v_n42
  simp only [h_n41]
  funext q; idx_vars q
  pointwise
  simp only [zero_add, up2_ix, ← coe_sum]
  rfl

def v_n48 (X : FVec Ideal S16384x1024 .f32) (D : FVec Ideal S16384x1024 .f32) (G : FVec Ideal S1x1024 .f32) (H : FVec Ideal S16384x1024 .f32) : FVec Ideal S16384x1024 .f32 :=
  (addf D (addf (addf (mulf (v_v33 G H) (broadcastInDim S16384x1024 ![0, 1] bcast_S16384x1_S16384x1024_0_1 (v_v7 X))) (mulf X (broadcastInDim S16384x1024 ![0] bcast_S16384_S16384x1024_0 (v_n42 X G H)))) (mulf (broadcastInDim S16384x1024 ![0] bcast_S16384_S16384x1024_0 (v_n42 X G H)) X)))

def r_n48 (x : Fin 16384 → Fin 1024 → ℝ) (d : Fin 16384 → Fin 1024 → ℝ) (g : Fin 1 → Fin 1024 → ℝ) (h : Fin 16384 → Fin 1024 → ℝ) (i : Fin 16384) (j : Fin 1024) : ℝ :=
  (d i j + ((((r_v33 g h i j) * (r_v7 x i 0)) + (x i j * (r_n42 x g h i))) + ((r_n42 x g h i) * x i j)))

theorem h_n48 (x : Fin 16384 → Fin 1024 → ℝ) (d : Fin 16384 → Fin 1024 → ℝ) (g : Fin 1 → Fin 1024 → ℝ) (h : Fin 16384 → Fin 1024 → ℝ) : v_n48 (up2 x) (up2 d) (up2 g) (up2 h) = up2 (r_n48 x d g h) := by
  unfold v_n48
  simp only [h_v33, h_v7, h_n42]
  funext q; idx_vars q
  pointwise
  simp only [up1_ix, up2_ix, ← EReal.coe_mul, ← EReal.coe_add]
  rfl

def v_v49 (X : FVec Ideal S16384x1024 .f32) (G : FVec Ideal S1x1024 .f32) : FVec Ideal S16384x1024 .bf16 :=
  (truncf .bf16 (mulf (v_v12 X) (broadcastInDim S16384x1024 ![0, 1] bcast_S1x1024_S16384x1024_0_1 G)) bitsLt_bf16_f32)

def r_v49 (x : Fin 16384 → Fin 1024 → ℝ) (g : Fin 1 → Fin 1024 → ℝ) (i : Fin 16384) (j : Fin 1024) : ℝ :=
  ((r_v12 x i j) * g 0 j)

theorem h_v49 (x : Fin 16384 → Fin 1024 → ℝ) (g : Fin 1 → Fin 1024 → ℝ) : v_v49 (up2 x) (up2 g) = up2 (r_v49 x g) := by
  unfold v_v49
  simp only [h_v12]
  funext q; idx_vars q
  pointwise
  simp only [up2_ix, ← EReal.coe_mul]
  rfl

def v_v15 (X : FVec Ideal S16384x1024 .f32) (G : FVec Ideal S1x1024 .f32) (W : FVec Ideal S1024x1024 .f32) : FVec Ideal S16384x1024 .f32 :=
  Host.dotGeneral dot_S16384x1024_S1024x1024_S16384x1024_1_0_0_1_n_n none (mulf (v_v12 X) (broadcastInDim S16384x1024 ![0, 1] bcast_S1x1024_S16384x1024_0_1 G)) W
theorem h_v15 (x : Fin 16384 → Fin 1024 → ℝ) (g : Fin 1 → Fin 1024 → ℝ) (w : Fin 1024 → Fin 1024 → ℝ) : v_v15 (up2 x) (up2 g) (up2 w) = up2 (hq x g w) := by
  unfold v_v15
  simp only [h_v12]
  funext q; idx_vars q
  pointwise
  simp only [up2_ix, ← EReal.coe_mul, ← coe_sum]
  rfl

/-- A product with a weight's transpose. -/
def v_v83 (D : FVec Ideal S16384x1024 .f32) (W : FVec Ideal S1024x1024 .f32) : FVec Ideal S16384x1024 .f32 :=
  Host.dotGeneral dot_S16384x1024_S1024x1024_S16384x1024_1_1_0_0_n_n none D W
theorem h_v83 (d : Fin 16384 → Fin 1024 → ℝ) (w : Fin 1024 → Fin 1024 → ℝ) : v_v83 (up2 d) (up2 w) = up2 (nt d w) := by
  unfold v_v83
  funext q; idx_vars q
  pointwise
  simp only [up2_ix, ← EReal.coe_mul, ← coe_sum]
  rfl
def v_v55 (D : FVec Ideal S16384x1024 .f32) : FVec Ideal S16384x1024 .f32 := shapeCast S16384x1024 D shapeCasts_S16384x1024_S16384x1024
theorem h_v55 (d : Fin 16384 → Fin 1024 → ℝ) : v_v55 (up2 d) = up2 d := by
  unfold v_v55
  funext q; idx_vars q
  pointwise

def q3 (X : FVec Ideal S16384x1024 .f32) (G : FVec Ideal S1x1024 .f32) (W : FVec Ideal S1024x1024 .f32) : FVec Ideal S16384x4x256 .f32 :=
  shapeCast S16384x4x256 (v_v15 X G W) shapeCasts_S16384x1024_S16384x4x256
def k3 (K : FVec Ideal S256x1024 .f32) : FVec Ideal S256x4x256 .f32 := shapeCast S256x4x256 K shapeCasts_S256x1024_S256x4x256
def d3 (D : FVec Ideal S16384x1024 .f32) (W : FVec Ideal S1024x1024 .f32) : FVec Ideal S4x256x16384 .f32 :=
  transpose S4x256x16384 [1, 2, 0] (shapeCast S16384x4x256 (v_v83 (v_v55 D) W) shapeCasts_S16384x1024_S16384x4x256) transposes_S16384x4x256_S4x256x16384_1_2_0
def ex (X : FVec Ideal S16384x1024 .f32) (G : FVec Ideal S1x1024 .f32) (K : FVec Ideal S256x1024 .f32) (W : FVec Ideal S1024x1024 .f32) : FVec Ideal S4x16384x256 .f32 :=
  v_v41 (v_v20 (q3 X G W) (k3 K))
def ds (X D : FVec Ideal S16384x1024 .f32) (G : FVec Ideal S1x1024 .f32) (K V : FVec Ideal S256x1024 .f32) (WQ WO : FVec Ideal S1024x1024 .f32) : FVec Ideal S4x16384x256 .f32 :=
  v_v76 (v_v59 (d3 D WO) (k3 V)) (ex X G K WQ)
def dq (X D : FVec Ideal S16384x1024 .f32) (G : FVec Ideal S1x1024 .f32) (K V : FVec Ideal S256x1024 .f32) (WQ WO : FVec Ideal S1024x1024 .f32) : FVec Ideal S16384x1024 .f32 :=
  v_v82 (ds X D G K V WQ WO) (k3 K)
def dh (X D : FVec Ideal S16384x1024 .f32) (G : FVec Ideal S1x1024 .f32) (K V : FVec Ideal S256x1024 .f32) (WQ WO : FVec Ideal S1024x1024 .f32) : FVec Ideal S16384x1024 .f32 :=
  v_v83 (dq X D G K V WQ WO) WQ

variable (I : In)
theorem h_q3 : q3 (up2 I.x) (up2 I.g) (up2 I.wq) = up3 (sp I.q) := by
  unfold q3; rw [h_v15]; exact h_v16 _
theorem h_k3 (K : Fin 256 → Fin 1024 → ℝ) : k3 (up2 K) = up3 (sp K) := h_v17 K
theorem h_d3 : d3 (up2 I.d) (up2 I.wo) = up3 (spT I.dO) := by
  unfold d3; rw [h_v55, h_v83, h_v16]; exact h_v58 _
theorem h_ex : ex (up2 I.x) (up2 I.g) (up2 I.k) (up2 I.wq) = up3 (r_v41 (r_v20 I.q I.k)) := by
  unfold ex; rw [h_q3, h_k3, h_v20, h_v41]
theorem h_pr : v_v45 (ex (up2 I.x) (up2 I.g) (up2 I.k) (up2 I.wq)) = up3 fun h i => P I.q I.k (hd h) i := by
  rw [h_ex, h_v45, e45]
theorem h_ds : ds (up2 I.x) (up2 I.d) (up2 I.g) (up2 I.k) (up2 I.v) (up2 I.wq) (up2 I.wo) = up3 fun h i => Ds I.q I.dO I.k I.v (hd h) i := by
  unfold ds; rw [h_ex, h_d3, h_k3, h_v59, h_v76, e76]
theorem h_o : v_v52 (k3 (up2 I.v)) (v_v45 (ex (up2 I.x) (up2 I.g) (up2 I.k) (up2 I.wq))) = up2 I.o := by
  rw [h_pr, h_k3]; exact h_v52 I.v (P I.q I.k)
theorem h_dq : dq (up2 I.x) (up2 I.d) (up2 I.g) (up2 I.k) (up2 I.v) (up2 I.wq) (up2 I.wo) = up2 I.dq := by
  unfold dq; rw [h_ds, h_k3]; exact h_v82 I.k (Ds I.q I.dO I.k I.v)
theorem h_dk : v_v81 (ds (up2 I.x) (up2 I.d) (up2 I.g) (up2 I.k) (up2 I.v) (up2 I.wq) (up2 I.wo)) (q3 (up2 I.x) (up2 I.g) (up2 I.wq)) = up2 I.dk := by
  rw [h_ds, h_q3]; exact h_v81 I.q (Ds I.q I.dO I.k I.v)
theorem h_dv : v_v62 (d3 (up2 I.d) (up2 I.wo)) (v_v45 (ex (up2 I.x) (up2 I.g) (up2 I.k) (up2 I.wq))) = up2 I.dv := by
  rw [h_pr, h_d3]; exact h_v62 I.dO (P I.q I.k)
theorem h_dh : dh (up2 I.x) (up2 I.d) (up2 I.g) (up2 I.k) (up2 I.v) (up2 I.wq) (up2 I.wo) = up2 I.dh := by
  unfold dh; rw [h_dq]; exact h_v83 _ _

theorem e48 : r_n48 I.x I.d I.g I.dh = I.dx := by
  funext i l
  refine nb_eq I.x I.d I.g I.dh i l (r_n42 I.x I.g I.dh i) ?_
  show (∑ k : Fin 1, r_n41 I.x I.g I.dh i k) = _
  rw [Fin.sum_univ_one]
  rfl
theorem e31 : r_v31 I.x I.dh = ng I.x I.dh := by
  funext _ l
  show (∑ i, I.x i l * rinv (I.x i) * I.dh i l) = ∑ i, I.dh i l * (I.x i l * rinv (I.x i))
  exact Finset.sum_congr rfl fun i _ => mul_comm _ _

/-- A narrower format's name for the same numbers. -/
def nar (X : FVec Ideal S16384x1024 .f32) : FVec Ideal S16384x1024 .bf16 := truncf .bf16 X bitsLt_bf16_f32
theorem h_nar (f : Fin 16384 → Fin 1024 → ℝ) : nar (up2 f) = (up2 f : FVec Ideal S16384x1024 .bf16) := rfl

structure Is (m : (ℓ : Loc nD τ sig) → Buf (Elt Ideal) ℓ) (dv : Dev nD) (I : In) : Prop where
  x : m ((dv.tc : Thread nD τ).loc main_arg0) = (up2 I.x : FVec Ideal S16384x1024 .f32)
  d : m ((dv.tc : Thread nD τ).loc main_arg1) = (up2 I.d : FVec Ideal S16384x1024 .f32)
  g : m ((dv.tc : Thread nD τ).loc main_arg2) = (up2 I.g : FVec Ideal S1x1024 .f32)
  k : m ((dv.tc : Thread nD τ).loc main_arg3) = (up2 I.k : FVec Ideal S256x1024 .f32)
  v : m ((dv.tc : Thread nD τ).loc main_arg4) = (up2 I.v : FVec Ideal S256x1024 .f32)
  wq : m ((dv.tc : Thread nD τ).loc main_arg5) = (up2 I.wq : FVec Ideal S1024x1024 .f32)
  wo : m ((dv.tc : Thread nD τ).loc main_arg6) = (up2 I.wo : FVec Ideal S1024x1024 .f32)

variable (m : (ℓ : Loc nD τ sig) → Buf (Elt Ideal) ℓ) (ρ : Dev nD → PrngReg)

theorem q_main_v103 (c : Dev nD) (h : Is m c I) : v_n48 (rd m c main_arg0) (rd m c main_arg1) (rd m c main_arg2) (dh (rd m c main_arg0) (rd m c main_arg1) (rd m c main_arg2) (rd m c main_arg3) (rd m c main_arg4) (rd m c main_arg5) (rd m c main_arg6)) = (up2 I.dx : FVec Ideal S16384x1024 .f32) := by
  dsimp only [rd]; rw [h.x, h.d, h.g, h.k, h.v, h.wq, h.wo, h_dh, h_n48, e48]
theorem q_main_v104 (c : Dev nD) (h : Is m c I) : v_v49 (rd m c main_arg0) (rd m c main_arg2) = (up2 I.h : FVec Ideal S16384x1024 .bf16) := by
  dsimp only [rd]; rw [h.x, h.g, h_v49]
  rfl
theorem q_main_v105 (c : Dev nD) (h : Is m c I) : nar (v_v52 (k3 (rd m c main_arg4)) (v_v45 (ex (rd m c main_arg0) (rd m c main_arg2) (rd m c main_arg3) (rd m c main_arg5)))) = (up2 I.o : FVec Ideal S16384x1024 .bf16) := by
  dsimp only [rd]; rw [h.x, h.g, h.k, h.v, h.wq, h_o, h_nar]
theorem q_main_v106 (c : Dev nD) (h : Is m c I) : nar (dq (rd m c main_arg0) (rd m c main_arg1) (rd m c main_arg2) (rd m c main_arg3) (rd m c main_arg4) (rd m c main_arg5) (rd m c main_arg6)) = (up2 I.dq : FVec Ideal S16384x1024 .bf16) := by
  dsimp only [rd]; rw [h.x, h.d, h.g, h.k, h.v, h.wq, h.wo, h_dq, h_nar]
theorem q_main_v107 (c : Dev nD) (h : Is m c I) : nar (rd m c main_arg1) = (up2 I.d : FVec Ideal S16384x1024 .bf16) := by
  dsimp only [rd]; rw [h.d, h_nar]
theorem q_main_v81 (c : Dev nD) (h : Is m c I) : v_v81 (ds (rd m c main_arg0) (rd m c main_arg1) (rd m c main_arg2) (rd m c main_arg3) (rd m c main_arg4) (rd m c main_arg5) (rd m c main_arg6)) (q3 (rd m c main_arg0) (rd m c main_arg2) (rd m c main_arg5)) = (up2 I.dk : FVec Ideal S256x1024 .f32) := by
  dsimp only [rd]; rw [h.x, h.d, h.g, h.k, h.v, h.wq, h.wo, h_dk]
theorem q_main_v62 (c : Dev nD) (h : Is m c I) : v_v62 (d3 (rd m c main_arg1) (rd m c main_arg6)) (v_v45 (ex (rd m c main_arg0) (rd m c main_arg2) (rd m c main_arg3) (rd m c main_arg5))) = (up2 I.dv : FVec Ideal S256x1024 .f32) := by
  dsimp only [rd]; rw [h.x, h.d, h.g, h.k, h.wq, h.wo, h_dv]
theorem q_main_v86 (c : Dev nD) (h : Is m c I) : v_v31 (rd m c main_arg0) (dh (rd m c main_arg0) (rd m c main_arg1) (rd m c main_arg2) (rd m c main_arg3) (rd m c main_arg4) (rd m c main_arg5) (rd m c main_arg6)) = (up2 (ng I.x I.dh) : FVec Ideal S1x1024 .f32) := by
  dsimp only [rd]; rw [h.x, h.d, h.g, h.k, h.v, h.wq, h.wo, h_dh, h_v31, e31]

theorem run (I : Dev nD → In) (h : ∀ c, Is m c (I c)) :
    θ_run (defs (F := Ideal)) (onTc (τ := τ) (main (F := Ideal))) ⟨m, fun _ => 0, ρ⟩ (fun r => ∀ c : Dev nD,
      rd r.2.mem c main_v103 = (up2 (I c).dx : FVec Ideal S16384x1024 .f32)
      ∧ rd r.2.mem c main_v104 = (up2 (I c).h : FVec Ideal S16384x1024 .bf16)
      ∧ rd r.2.mem c main_v105 = (up2 (I c).o : FVec Ideal S16384x1024 .bf16)
      ∧ rd r.2.mem c main_v106 = (up2 (I c).dq : FVec Ideal S16384x1024 .bf16)
      ∧ rd r.2.mem c main_v107 = (up2 (I c).d : FVec Ideal S16384x1024 .bf16)
      ∧ rd r.2.mem c main_v81 = (up2 (I c).dk : FVec Ideal S256x1024 .f32)
      ∧ rd r.2.mem c main_v62 = (up2 (I c).dv : FVec Ideal S256x1024 .f32)
      ∧ rd r.2.mem c main_v86 = (up2 (ng (I c).x (I c).dh) : FVec Ideal S1x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6) := by
  refine (θ_run defs _ _).mono (fun r k c => ?_) (Cert.XaRefIdeal.Value.run m ρ)
  obtain ⟨h0, h1, h2, h3, h4, h5, h6, h7, ha⟩ := k c
  have p0 := h0.trans ((show _ = v_n48 (rd m c main_arg0) (rd m c main_arg1) (rd m c main_arg2) (dh (rd m c main_arg0) (rd m c main_arg1) (rd m c main_arg2) (rd m c main_arg3) (rd m c main_arg4) (rd m c main_arg5) (rd m c main_arg6)) from rfl).trans (q_main_v103 (I c) m c (h c)))
  have p1 := h1.trans ((show _ = v_v49 (rd m c main_arg0) (rd m c main_arg2) from rfl).trans (q_main_v104 (I c) m c (h c)))
  have p2 := h2.trans ((show _ = nar (v_v52 (k3 (rd m c main_arg4)) (v_v45 (ex (rd m c main_arg0) (rd m c main_arg2) (rd m c main_arg3) (rd m c main_arg5)))) from rfl).trans (q_main_v105 (I c) m c (h c)))
  have p3 := h3.trans ((show _ = nar (dq (rd m c main_arg0) (rd m c main_arg1) (rd m c main_arg2) (rd m c main_arg3) (rd m c main_arg4) (rd m c main_arg5) (rd m c main_arg6)) from rfl).trans (q_main_v106 (I c) m c (h c)))
  have p4 := h4.trans ((show _ = nar (rd m c main_arg1) from rfl).trans (q_main_v107 (I c) m c (h c)))
  have p5 := h5.trans ((show _ = v_v81 (ds (rd m c main_arg0) (rd m c main_arg1) (rd m c main_arg2) (rd m c main_arg3) (rd m c main_arg4) (rd m c main_arg5) (rd m c main_arg6)) (q3 (rd m c main_arg0) (rd m c main_arg2) (rd m c main_arg5)) from rfl).trans (q_main_v81 (I c) m c (h c)))
  have p6 := h6.trans ((show _ = v_v62 (d3 (rd m c main_arg1) (rd m c main_arg6)) (v_v45 (ex (rd m c main_arg0) (rd m c main_arg2) (rd m c main_arg3) (rd m c main_arg5))) from rfl).trans (q_main_v62 (I c) m c (h c)))
  have p7 := h7.trans ((show _ = v_v31 (rd m c main_arg0) (dh (rd m c main_arg0) (rd m c main_arg1) (rd m c main_arg2) (rd m c main_arg3) (rd m c main_arg4) (rd m c main_arg5) (rd m c main_arg6)) from rfl).trans (q_main_v86 (I c) m c (h c)))
  exact ⟨p0, p1, p2, p3, p4, p5, p6, p7, ha⟩
end Cert.Proof.XaRef
end
-- ==== Proof.XaPre.lean ====
/- The precondition of the cross attention's gradient: every entry of every argument is a real number. -/
module
public import proofs.«01_k».proof.Proof.Gen.Pre_finite_xa
public import proofs.«01_k».proof.Proof.XaIn
public import Idealize.ShloMosaic.Lib.ReduceAll
@[expose] public section
noncomputable section
namespace Cert.Proof.XaPre
open Cert.Pre_finite_xa Cert.Pre_finite_xa.Gen Idealize.ShloMosaic XaIn

structure Fin7 (I : In) (A0 : FVec Ideal S16384x1024 .f32) (A1 : FVec Ideal S16384x1024 .f32) (A2 : FVec Ideal S1x1024 .f32) (A3 : FVec Ideal S256x1024 .f32) (A4 : FVec Ideal S256x1024 .f32) (A5 : FVec Ideal S1024x1024 .f32) (A6 : FVec Ideal S1024x1024 .f32) : Prop where
  x : A0 = up2 I.x
  d : A1 = up2 I.d
  g : A2 = up2 I.g
  k : A3 = up2 I.k
  v : A4 = up2 I.v
  wq : A5 = up2 I.wq
  wo : A6 = up2 I.wo

theorem finite_of (A0 : FVec Ideal S16384x1024 .f32) (A1 : FVec Ideal S16384x1024 .f32) (A2 : FVec Ideal S1x1024 .f32) (A3 : FVec Ideal S256x1024 .f32) (A4 : FVec Ideal S256x1024 .f32) (A5 : FVec Ideal S1024x1024 .f32) (A6 : FVec Ideal S1024x1024 .f32)
    (h : Cert.Pre_finite_xa.fn (F := Ideal) A0 A1 A2 A3 A4 A5 A6 = fun _ => 1#1) :
    Fin7 ⟨down2 A0, down2 A1, down2 A2, down2 A3, down2 A4, down2 A5, down2 A6⟩ A0 A1 A2 A3 A4 A5 A6 := by
  have h := congrFun h ix0
  dsimp only [fn, fn_part1] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  constructor
  · refine (up_down2 _ fun i => ?_).symm; rw [← lit_top]; exact lt_of_bit (Host.reduce_andi_all _ _ _ _ _ h0 i)
  · refine (up_down2 _ fun i => ?_).symm; rw [← lit_top]; exact lt_of_bit (Host.reduce_andi_all _ _ _ _ _ h1 i)
  · refine (up_down2 _ fun i => ?_).symm; rw [← lit_top]; exact lt_of_bit (Host.reduce_andi_all _ _ _ _ _ h2 i)
  · refine (up_down2 _ fun i => ?_).symm; rw [← lit_top]; exact lt_of_bit (Host.reduce_andi_all _ _ _ _ _ h3 i)
  · refine (up_down2 _ fun i => ?_).symm; rw [← lit_top]; exact lt_of_bit (Host.reduce_andi_all _ _ _ _ _ h4 i)
  · refine (up_down2 _ fun i => ?_).symm; rw [← lit_top]; exact lt_of_bit (Host.reduce_andi_all _ _ _ _ _ h5 i)
  · refine (up_down2 _ fun i => ?_).symm; rw [← lit_top]; exact lt_of_bit (Host.reduce_andi_all _ _ _ _ _ h6 i)
end Cert.Proof.XaPre
end
-- ==== Proof.MbEq.lean ====
/- The merge of the three branches and its gradient, as formulas in the entries of the arguments. -/
module
public import proofs.«01_k».proof.Proof.EKit
@[expose] public section
noncomputable section
namespace Cert.Proof.MbEq
open Idealize.ShloMosaic Idealize.ShloMosaic.TcCoe Idealize.SL.Sem

/-- The array of rank three whose entry at a place is the formula's value there. -/
def ea3 {n k l : ℕ} (x : Fin n → Fin k → Fin l → EReal) : (⟨3, ![n, k, l]⟩ : Shape).Idx → EReal := fun q => x (q 0) (q 1) (q 2)

@[simp] theorem ea3_ix {n k l : ℕ} (x : Fin n → Fin k → Fin l → EReal) (i : Fin n) (j : Fin k) (u : Fin l) : ea3 x (ix3 i j u) = x i j u := rfl

/-- The entries of an array of rank three, as a formula in the coordinates. -/
def un3 {n k l : ℕ} (X : (⟨3, ![n, k, l]⟩ : Shape).Idx → EReal) : Fin n → Fin k → Fin l → EReal := fun i j u => X (ix3 i j u)

theorem ea3_un {n k l : ℕ} (X : (⟨3, ![n, k, l]⟩ : Shape).Idx → EReal) : ea3 (un3 X) = X := by
  funext q; obtain ⟨i, j, u, rfl⟩ : ∃ i j u, q = ix3 i j u := ⟨q 0, q 1, q 2, eq_ix3 q⟩
  rfl

/-- The column a branch's gate takes among the three branches' columns, the branch of a column and its place there. -/
def gc (k : Fin 3) (d : Fin 1024) : Fin 3072 := ⟨k.val * 1024 + d.val, by omega⟩
def gk (e : Fin 3072) : Fin 3 := ⟨e.val / 1024, by omega⟩
def gd (e : Fin 3072) : Fin 1024 := ⟨e.val % 1024, by omega⟩
theorem gk_gc (k : Fin 3) (d : Fin 1024) : gk (gc k d) = k := Fin.ext (by show (k.val * 1024 + d.val) / 1024 = k.val; omega)
theorem gd_gc (k : Fin 3) (d : Fin 1024) : gd (gc k d) = d := Fin.ext (by show (k.val * 1024 + d.val) % 1024 = d.val; omega)
theorem gc_gk_gd (e : Fin 3072) : gc (gk e) (gd e) = e := Fin.ext (by show e.val / 1024 * 1024 + e.val % 1024 = e.val; omega)

/-- The rows of the three branches, one after the other. -/
def pick3 {n : ℕ} (a b c : Fin n → Fin 512 → EReal) (k : Fin 3) : Fin n → Fin 512 → EReal :=
  fun i j => if k.val = 0 then a i j else if k.val = 1 then b i j else c i j

variable {n : ℕ}

/-- A gate. -/
def gateE (g : Fin n → Fin 3072 → EReal) (k : Fin 3) (i : Fin n) (d : Fin 1024) : EReal := Ideal.logistic (g i (gc k d))
/-- A branch's product with its weight. -/
def brE (y : Fin n → Fin 512 → EReal) (w : Fin 512 → Fin 1024 → EReal) (i : Fin n) (d : Fin 1024) : EReal := ∑ c, y i c * w c d
/-- The merged rows. -/
def mgE (a b c : Fin n → Fin 512 → EReal) (g : Fin n → Fin 3072 → EReal) (w : Fin 3 → Fin 512 → Fin 1024 → EReal) (i : Fin n) (d : Fin 1024) : EReal :=
  gateE g 0 i d * brE a (w 0) i d + gateE g 1 i d * brE b (w 1) i d + gateE g 2 i d * brE c (w 2) i d
/-- The merged rows' gradient. -/
def dmE (x : Fin n → Fin 1024 → EReal) (wo : Fin 1024 → Fin 1024 → EReal) (i : Fin n) (d : Fin 1024) : EReal := ∑ l, x i l * wo d l
/-- The merge's result: the input plus the merged rows' product. -/
def xoE (x : Fin n → Fin 1024 → EReal) (a b c : Fin n → Fin 512 → EReal) (g : Fin n → Fin 3072 → EReal) (w : Fin 3 → Fin 512 → Fin 1024 → EReal) (wo : Fin 1024 → Fin 1024 → EReal) (i : Fin n) (l : Fin 1024) : EReal :=
  x i l + ∑ d, mgE a b c g w i d * wo d l
/-- The gradient of a gate's argument. -/
def dglE (x : Fin n → Fin 1024 → EReal) (y : Fin 3 → Fin n → Fin 512 → EReal) (g : Fin n → Fin 3072 → EReal) (w : Fin 3 → Fin 512 → Fin 1024 → EReal) (wo : Fin 1024 → Fin 1024 → EReal) (k : Fin 3) (i : Fin n) (d : Fin 1024) : EReal :=
  dmE x wo i d * brE (y k) (w k) i d * gateE g k i d * (1 - gateE g k i d)
/-- The gradient of a branch's product. -/
def dbrE (x : Fin n → Fin 1024 → EReal) (g : Fin n → Fin 3072 → EReal) (wo : Fin 1024 → Fin 1024 → EReal) (k : Fin 3) (i : Fin n) (d : Fin 1024) : EReal :=
  dmE x wo i d * gateE g k i d
/-- The gradient of a branch's rows. -/
def dyE (x : Fin n → Fin 1024 → EReal) (g : Fin n → Fin 3072 → EReal) (w : Fin 3 → Fin 512 → Fin 1024 → EReal) (wo : Fin 1024 → Fin 1024 → EReal) (k : Fin 3) (i : Fin n) (c : Fin 512) : EReal :=
  ∑ d, dbrE x g wo k i d * w k c d
/-- Three arrays of a thousand columns side by side. -/
def wide (F : Fin 3 → Fin n → Fin 1024 → EReal) (i : Fin n) (e : Fin 3072) : EReal := F (gk e) i (gd e)
theorem wide_gc (F : Fin 3 → Fin n → Fin 1024 → EReal) (i : Fin n) (k : Fin 3) (d : Fin 1024) : wide F i (gc k d) = F k i d := by
  unfold wide; rw [gk_gc, gd_gc]

/-- The column of a head's entry. -/
def hc (h : Fin 8) (u : Fin 64) : Fin 512 := ⟨h.val * 64 + u.val, by omega⟩
/-- The sums over the heads, the columns after the eighth zero. -/
def dltE (p : Fin n → Fin 512 → EReal) (i : Fin n) (l : Fin 128) : EReal := if h : l.val < 8 then ∑ u : Fin 64, p i (hc ⟨l.val, h⟩ u) else 0

theorem sum_heads (p : Fin 512 → EReal) (l : Fin 128) : (∑ j : Fin 512, p j * (if j.val / 64 = l.val then 1 else 0)) = if h : l.val < 8 then ∑ u : Fin 64, p (hc ⟨l.val, h⟩ u) else 0 := by
  have e : (∑ j : Fin 512, p j * (if j.val / 64 = l.val then 1 else 0)) = ∑ h : Fin 8, ∑ u : Fin 64, p (hc h u) * (if h.val = l.val then 1 else 0) := by
    rw [← Fintype.sum_prod_type']
    refine (Fintype.sum_equiv (finProdFinEquiv (m := 8) (n := 64)) _ _ fun z => ?_).symm
    have e1 : hc z.1 z.2 = finProdFinEquiv z := Fin.ext (by show z.1.val * 64 + z.2.val = z.2.val + 64 * z.1.val; omega)
    have e2 : (finProdFinEquiv z : Fin (8 * 64)).val / 64 = z.1.val := by
      show (z.2.val + 64 * z.1.val) / 64 = z.1.val
      omega
    show p (hc z.1 z.2) * _ = p (finProdFinEquiv z) * (if (finProdFinEquiv z : Fin (8 * 64)).val / 64 = l.val then 1 else 0)
    rw [e1, e2]
  rw [e]
  split_ifs with h
  · rw [Finset.sum_eq_single (⟨l.val, h⟩ : Fin 8)]
    · simp
    · intro b _ hb
      have : b.val ≠ l.val := fun hh => hb (Fin.ext hh)
      simp [this]
    · simp
  · refine Finset.sum_eq_zero fun b _ => ?_
    have : b.val ≠ l.val := fun hh => h (hh ▸ b.isLt)
    simp [this]

/-- The real whose value an extended real that is neither infinity is. -/
def isR (e : EReal) : Prop := ∃ r : ℝ, e = (r : EReal)
theorem isR_mul {a b : EReal} : isR a → isR b → isR (a * b) := by
  rintro ⟨x, rfl⟩ ⟨y, rfl⟩; exact ⟨x * y, (EReal.coe_mul x y).symm⟩
theorem isR_sum {ι : Type} [Fintype ι] {f : ι → EReal} (h : ∀ i, isR (f i)) : isR (∑ i, f i) := by
  choose g hg using h
  exact ⟨∑ i, g i, by rw [coe_sum]; exact Finset.sum_congr rfl fun i _ => hg i⟩
theorem isR_sub_self {a : EReal} : isR a → a - a = 0 := by
  rintro ⟨x, rfl⟩; rw [← EReal.coe_sub, sub_self]; rfl
theorem isR_logistic {a : EReal} : isR a → isR (Ideal.logistic a) := by
  rintro ⟨x, rfl⟩
  have h1 : 1 + Real.exp (-x) ≠ 0 := by positivity
  refine ⟨1 / (1 + Real.exp (-x)), ?_⟩
  show Ideal.div 1 (1 + Ideal.exp (-(x : EReal))) = _
  rw [← EReal.coe_neg, exp_real, lit_one, ← EReal.coe_add, div_real h1]

theorem isR_dy {x : Fin n → Fin 1024 → EReal} {g : Fin n → Fin 3072 → EReal} {w : Fin 3 → Fin 512 → Fin 1024 → EReal} {wo : Fin 1024 → Fin 1024 → EReal}
    (hx : ∀ i j, isR (x i j)) (hg : ∀ i j, isR (g i j)) (hw : ∀ k i j, isR (w k i j)) (ho : ∀ i j, isR (wo i j)) (k : Fin 3) (i : Fin n) (c : Fin 512) : isR (dyE x g w wo k i c) :=
  isR_sum fun _ => isR_mul (isR_mul (isR_sum fun _ => isR_mul (hx _ _) (ho _ _)) (isR_logistic (hg _ _))) (hw _ _ _)
end Cert.Proof.MbEq
end
-- ==== Proof.MbKer.lean ====
/- The values the merge's gradient kernel computes at a grid point, as formulas in the entries of its blocks. -/
module
public import proofs.«01_k».proof.Proof.Gen.MergeBwdIdeal.Skeleton
public import proofs.«01_k».proof.Proof.MbEq
@[expose] public section
set_option maxRecDepth 16384
noncomputable section
namespace Cert.Proof.MbKer
open Cert.MergeBwdIdeal Cert.MergeBwdIdeal.Gen Idealize.ShloMosaic Idealize.ShloMosaic.TcCoe Idealize.SL.Sem MbEq

theorem h_pay2 (x : Fin 512 → Fin 1024 → EReal) : k0_pay2 (F := Ideal) (ea x) = ea (fun i j => x i j) := by
  unfold k0_pay2
  funext q; idx_vars q
  pointwise
  try simp only [zero_add, add_zero, ea_ix, ea3_ix]
  try rfl

theorem h_pay3 (x : Fin 512 → Fin 1024 → EReal) (o : Fin 1024 → Fin 1024 → EReal) : k0_pay3 (F := Ideal) (ea x) (ea o) = ea (fun i j => dmE x o i j) := by
  unfold k0_pay3
  simp only [h_pay2]
  funext q; idx_vars q
  pointwise
  try simp only [zero_add, add_zero, ea_ix, ea3_ix]
  try rfl

theorem h_pay4 (g : Fin 512 → Fin 1024 → EReal) : k0_pay4 (F := Ideal) (ea g) = ea (fun i j => Ideal.logistic (g i j)) := by
  unfold k0_pay4
  funext q; idx_vars q
  pointwise
  try simp only [zero_add, add_zero, ea_ix, ea3_ix]
  try rfl

theorem h_pay10 (g : Fin 512 → Fin 1024 → EReal) : k0_pay10 (F := Ideal) (ea g) = ea (fun i j => Ideal.logistic (g i j)) := by
  unfold k0_pay10
  funext q; idx_vars q
  pointwise
  try simp only [zero_add, add_zero, ea_ix, ea3_ix]
  try rfl

theorem h_pay16 (g : Fin 512 → Fin 1024 → EReal) : k0_pay16 (F := Ideal) (ea g) = ea (fun i j => Ideal.logistic (g i j)) := by
  unfold k0_pay16
  funext q; idx_vars q
  pointwise
  try simp only [zero_add, add_zero, ea_ix, ea3_ix]
  try rfl

theorem h_pay5 (y : Fin 512 → Fin 512 → EReal) (w : Fin 1 → Fin 512 → Fin 1024 → EReal) : k0_pay5 (F := Ideal) (ea y) (ea3 w) = ea (fun i j => brE y (w 0) i j) := by
  unfold k0_pay5
  funext q; idx_vars q
  pointwise
  try simp only [zero_add, add_zero, ea_ix, ea3_ix]
  try rfl

theorem h_pay11 (y : Fin 512 → Fin 512 → EReal) (w : Fin 1 → Fin 512 → Fin 1024 → EReal) : k0_pay11 (F := Ideal) (ea y) (ea3 w) = ea (fun i j => brE y (w 0) i j) := by
  unfold k0_pay11
  funext q; idx_vars q
  pointwise
  try simp only [zero_add, add_zero, ea_ix, ea3_ix]
  try rfl

theorem h_pay17 (y : Fin 512 → Fin 512 → EReal) (w : Fin 1 → Fin 512 → Fin 1024 → EReal) : k0_pay17 (F := Ideal) (ea y) (ea3 w) = ea (fun i j => brE y (w 0) i j) := by
  unfold k0_pay17
  funext q; idx_vars q
  pointwise
  try simp only [zero_add, add_zero, ea_ix, ea3_ix]
  try rfl

theorem h_pay6 (g : Fin 512 → Fin 1024 → EReal) (y : Fin 512 → Fin 512 → EReal) (w : Fin 1 → Fin 512 → Fin 1024 → EReal) : k0_pay6 (F := Ideal) (ea g) (ea y) (ea3 w) = ea (fun i j => Ideal.logistic (g i j) * brE y (w 0) i j) := by
  unfold k0_pay6
  simp only [h_pay4, h_pay5]
  funext q; idx_vars q
  pointwise
  try simp only [zero_add, add_zero, ea_ix, ea3_ix]
  try rfl

theorem h_pay12 (z : Fin 512 → Fin 1024 → EReal) (g : Fin 512 → Fin 1024 → EReal) (y : Fin 512 → Fin 512 → EReal) (w : Fin 1 → Fin 512 → Fin 1024 → EReal) : k0_pay12 (F := Ideal) (ea z) (ea g) (ea y) (ea3 w) = ea (fun i j => z i j + Ideal.logistic (g i j) * brE y (w 0) i j) := by
  unfold k0_pay12
  simp only [h_pay10, h_pay11]
  funext q; idx_vars q
  pointwise
  try simp only [zero_add, add_zero, ea_ix, ea3_ix]
  try rfl

theorem h_pay21 (z : Fin 512 → Fin 1024 → EReal) (t : Fin 512 → Fin 1024 → EReal) (y : Fin 512 → Fin 512 → EReal) (w : Fin 1 → Fin 512 → Fin 1024 → EReal) : k0_pay21 (F := Ideal) (ea z) (ea t) (ea y) (ea3 w) = ea (fun i j => z i j + t i j * brE y (w 0) i j) := by
  unfold k0_pay21
  simp only [h_pay17]
  funext q; idx_vars q
  pointwise
  try simp only [zero_add, add_zero, ea_ix, ea3_ix]
  try rfl

theorem h_pay7 (x : Fin 512 → Fin 1024 → EReal) (o : Fin 1024 → Fin 1024 → EReal) (g : Fin 512 → Fin 1024 → EReal) (y : Fin 512 → Fin 512 → EReal) (w : Fin 1 → Fin 512 → Fin 1024 → EReal) : k0_pay7 (F := Ideal) (ea x) (ea o) (ea g) (ea y) (ea3 w) = ea (fun i j => dmE x o i j * brE y (w 0) i j * Ideal.logistic (g i j) * (1 - Ideal.logistic (g i j))) := by
  unfold k0_pay7
  simp only [h_pay3, h_pay4, h_pay5]
  funext q; idx_vars q
  pointwise
  try simp only [zero_add, add_zero, ea_ix, ea3_ix]
  try rfl

theorem h_pay13 (z : Fin 512 → Fin 1024 → EReal) (g : Fin 512 → Fin 1024 → EReal) (y : Fin 512 → Fin 512 → EReal) (w : Fin 1 → Fin 512 → Fin 1024 → EReal) : k0_pay13 (F := Ideal) (ea z) (ea g) (ea y) (ea3 w) = ea (fun i j => z i j * brE y (w 0) i j * Ideal.logistic (g i j) * (1 - Ideal.logistic (g i j))) := by
  unfold k0_pay13
  simp only [h_pay10, h_pay11]
  funext q; idx_vars q
  pointwise
  try simp only [zero_add, add_zero, ea_ix, ea3_ix]
  try rfl

theorem h_pay18 (z : Fin 512 → Fin 1024 → EReal) (t : Fin 512 → Fin 1024 → EReal) (y : Fin 512 → Fin 512 → EReal) (w : Fin 1 → Fin 512 → Fin 1024 → EReal) : k0_pay18 (F := Ideal) (ea z) (ea t) (ea y) (ea3 w) = ea (fun i j => z i j * brE y (w 0) i j * t i j * (1 - t i j)) := by
  unfold k0_pay18
  simp only [h_pay17]
  funext q; idx_vars q
  pointwise
  try simp only [zero_add, add_zero, ea_ix, ea3_ix]
  try rfl

theorem h_pay8 (x : Fin 512 → Fin 1024 → EReal) (o : Fin 1024 → Fin 1024 → EReal) (g : Fin 512 → Fin 1024 → EReal) : k0_pay8 (F := Ideal) (ea x) (ea o) (ea g) = ea (fun i j => dmE x o i j * Ideal.logistic (g i j)) := by
  unfold k0_pay8
  simp only [h_pay3, h_pay4]
  funext q; idx_vars q
  pointwise
  try simp only [zero_add, add_zero, ea_ix, ea3_ix]
  try rfl

theorem h_pay14 (z : Fin 512 → Fin 1024 → EReal) (g : Fin 512 → Fin 1024 → EReal) : k0_pay14 (F := Ideal) (ea z) (ea g) = ea (fun i j => z i j * Ideal.logistic (g i j)) := by
  unfold k0_pay14
  simp only [h_pay10]
  funext q; idx_vars q
  pointwise
  try simp only [zero_add, add_zero, ea_ix, ea3_ix]
  try rfl

theorem h_pay19 (z : Fin 512 → Fin 1024 → EReal) (t : Fin 512 → Fin 1024 → EReal) : k0_pay19 (F := Ideal) (ea z) (ea t) = ea (fun i j => z i j * t i j) := by
  unfold k0_pay19
  funext q; idx_vars q
  pointwise
  try simp only [zero_add, add_zero, ea_ix, ea3_ix]
  try rfl

theorem h_pay9 (z : Fin 512 → Fin 1024 → EReal) (w : Fin 1 → Fin 512 → Fin 1024 → EReal) : k0_pay9 (F := Ideal) (ea z) (ea3 w) = ea (fun i j => ∑ d, z i d * w 0 j d) := by
  unfold k0_pay9
  funext q; idx_vars q
  pointwise
  try simp only [zero_add, add_zero, ea_ix, ea3_ix]
  try rfl

theorem h_pay15 (z : Fin 512 → Fin 1024 → EReal) (g : Fin 512 → Fin 1024 → EReal) (w : Fin 1 → Fin 512 → Fin 1024 → EReal) : k0_pay15 (F := Ideal) (ea z) (ea g) (ea3 w) = ea (fun i j => ∑ d, z i d * Ideal.logistic (g i d) * w 0 j d) := by
  unfold k0_pay15
  simp only [h_pay14]
  funext q; idx_vars q
  pointwise
  try simp only [zero_add, add_zero, ea_ix, ea3_ix]
  try rfl

theorem h_pay20 (z : Fin 512 → Fin 1024 → EReal) (t : Fin 512 → Fin 1024 → EReal) (w : Fin 1 → Fin 512 → Fin 1024 → EReal) : k0_pay20 (F := Ideal) (ea z) (ea t) (ea3 w) = ea (fun i j => ∑ d, z i d * t i d * w 0 j d) := by
  unfold k0_pay20
  simp only [h_pay19]
  funext q; idx_vars q
  pointwise
  try simp only [zero_add, add_zero, ea_ix, ea3_ix]
  try rfl

theorem h_pay22 (a : Fin 512 → Fin 512 → EReal) (b : Fin 512 → Fin 512 → EReal) : k0_pay22 (F := Ideal) (ea a) (ea b) = ea (fun i j => a i j * b i j) := by
  unfold k0_pay22
  funext q; idx_vars q
  pointwise
  try simp only [zero_add, add_zero, ea_ix, ea3_ix]
  try rfl

theorem head_of : ∀ x : Fin 512, (Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 x.val) 64#32) 0#32))
    (IntOp.subi (IntOp.divsi ArithUnit.vector (BitVec.ofNat 32 x.val) 64#32) 1#32)
    (IntOp.divsi ArithUnit.vector (BitVec.ofNat 32 x.val) 64#32)) = BitVec.ofNat 32 (x.val / 64) := by decide +kernel

theorem eq_bit (a b : ℕ) (ha : a < 512) (hb : b < 512) :
    (FloatOps.sitofp (F := Ideal) FTy.f32 (BitVec.setWidth 32 (IntOp.cmpi CmpIPredicate.eq (BitVec.ofNat 32 a) (BitVec.ofNat 32 b))) : EReal) = if a = b then 1 else 0 := by
  by_cases h : a = b
  · subst h
    rw [if_pos rfl]
    have : IntOp.cmpi CmpIPredicate.eq (BitVec.ofNat 32 a) (BitVec.ofNat 32 a) = 1#1 := by simp [IntOp.cmpi]
    rw [this]
    show (((BitVec.setWidth 32 1#1).toInt : ℝ) : EReal) = 1
    have e : (BitVec.setWidth 32 1#1).toInt = 1 := by decide
    rw [e]; simp
  · rw [if_neg h]
    have hn : BitVec.ofNat 32 a ≠ BitVec.ofNat 32 b := by
      intro e
      have := congrArg BitVec.toNat e
      simp only [BitVec.toNat_ofNat] at this
      omega
    have : IntOp.cmpi CmpIPredicate.eq (BitVec.ofNat 32 a) (BitVec.ofNat 32 b) = 0#1 := by
      show BitVec.ofBool (BitVec.ofNat 32 a == BitVec.ofNat 32 b) = 0#1
      rw [beq_false_of_ne hn]; rfl
    rw [this]
    show (((BitVec.setWidth 32 0#1).toInt : ℝ) : EReal) = 0
    have e : (BitVec.setWidth 32 0#1).toInt = 0 := by decide
    rw [e]; simp

theorem h_pay1 (p : Fin 512 → Fin 512 → EReal) (hp : ∀ i j, p i j - p i j = 0) :
    k0_pay1 (F := Ideal) (ea p) (iota .tc S512x128 32 [0] iota_S512x128_d0_w32) 64#32 k0_pay23 0#32 = ea (dltE p) := by
  unfold k0_pay1 k0_pay23
  funext q; idx_vars q
  pointwise
  simp only [ea_ix, hp, sub_zero, zero_mul, zero_add, add_zero, Finset.sum_const_zero, head_of]
  refine (Finset.sum_congr rfl fun x _ => ?_).trans (sum_heads (p q0) q1)
  rw [eq_bit (x.val / 64) q1.val (by omega) (by omega)]
end Cert.Proof.MbKer
end
-- ==== Proof.MbBlk.lean ====
/- The blocks the merge gradient kernel reads and leaves at each grid point, the arrays it ends with, and its run. -/
module
public import proofs.«01_k».proof.Proof.Gen.MergeBwdIdeal.Frame
public import proofs.«01_k».proof.Proof.MbKer
public import Idealize.ShloMosaic.Lib.Pipeline.ReadBack
public import Idealize.ShloMosaic.Lib.Pipeline.ValueKit
@[expose] public section
set_option maxRecDepth 16384
noncomputable section
namespace Cert.Proof.MbBlk
open Cert.MergeBwdIdeal Cert.MergeBwdIdeal.Gen Idealize.ShloMosaic Idealize.ShloMosaic.TcCoe Idealize.SL.Sem MbEq MbKer
variable (m : (ℓ : Loc nD τ sig) → Buf (Elt Ideal) ℓ)

theorem ldg_0 (G : Fin 512 → Fin 3072 → EReal) : View.ld (Val := Elt Ideal) (e' := .bf16) (S := S512x3072) (ea G) (Rect.unit (s := S512x3072) ![0, 0] ![512, 1024] inb_S512x3072_S512x1024_0_0) = ea (fun i d => G i (gc 0 d)) := by
  funext q; idx_vars q
  pointwise
  refine congrArg (G q0) (Fin.ext ?_)
  show _ = 0 * 1024 + q1.val
  simp [Rect.unit]
theorem ldw_0 (w : Fin 3 → Fin 512 → Fin 1024 → EReal) : View.ld (Val := Elt Ideal) (e' := .bf16) (S := S3x512x1024) (ea3 w) (Rect.unit (s := S3x512x1024) ![0, 0, 0] ![1, 512, 1024] inb_S3x512x1024_S1x512x1024_0_0_0) = ea3 (fun (_ : Fin 1) i j => w 0 i j) := by
  funext q; idx_vars q
  have hq : q0 = 0 := Subsingleton.elim _ _
  subst hq
  pointwise
  rfl

theorem ldg_1 (G : Fin 512 → Fin 3072 → EReal) : View.ld (Val := Elt Ideal) (e' := .bf16) (S := S512x3072) (ea G) (Rect.unit (s := S512x3072) ![0, 1024] ![512, 1024] inb_S512x3072_S512x1024_0_1024) = ea (fun i d => G i (gc 1 d)) := by
  funext q; idx_vars q
  pointwise
  refine congrArg (G q0) (Fin.ext ?_)
  show _ = 1 * 1024 + q1.val
  simp [Rect.unit]
theorem ldw_1 (w : Fin 3 → Fin 512 → Fin 1024 → EReal) : View.ld (Val := Elt Ideal) (e' := .bf16) (S := S3x512x1024) (ea3 w) (Rect.unit (s := S3x512x1024) ![1, 0, 0] ![1, 512, 1024] inb_S3x512x1024_S1x512x1024_1_0_0) = ea3 (fun (_ : Fin 1) i j => w 1 i j) := by
  funext q; idx_vars q
  have hq : q0 = 0 := Subsingleton.elim _ _
  subst hq
  pointwise
  rfl

theorem ldg_2 (G : Fin 512 → Fin 3072 → EReal) : View.ld (Val := Elt Ideal) (e' := .bf16) (S := S512x3072) (ea G) (Rect.unit (s := S512x3072) ![0, 2048] ![512, 1024] inb_S512x3072_S512x1024_0_2048) = ea (fun i d => G i (gc 2 d)) := by
  funext q; idx_vars q
  pointwise
  refine congrArg (G q0) (Fin.ext ?_)
  show _ = 2 * 1024 + q1.val
  simp [Rect.unit]
theorem ldw_2 (w : Fin 3 → Fin 512 → Fin 1024 → EReal) : View.ld (Val := Elt Ideal) (e' := .bf16) (S := S3x512x1024) (ea3 w) (Rect.unit (s := S3x512x1024) ![2, 0, 0] ![1, 512, 1024] inb_S3x512x1024_S1x512x1024_2_0_0) = ea3 (fun (_ : Fin 1) i j => w 2 i j) := by
  funext q; idx_vars q
  have hq : q0 = 0 := Subsingleton.elim _ _
  subst hq
  pointwise
  rfl

theorem ld_o (w : Fin 1024 → Fin 1024 → EReal) : View.ld (Val := Elt Ideal) (e' := .bf16) (S := S1024x1024) (ea w) (Rect.unit (s := S1024x1024) ![0, 0] ![1024, 1024] inb_S1024x1024_S1024x1024_0_0) = ea w := by
  funext q; idx_vars q
  pointwise
  try rfl

theorem canon_fill3 (X : FVec Ideal S3x512x1024 .bf16) : View.canon (Val := Elt Ideal) (e := .bf16) [⟨Rect.whole S3x512x1024, X⟩] = X := by
  funext q
  canon_tiles q h
  refine congrArg X ?_
  funext a
  fin_cases a
  · exact Fin.ext h0.symm
  · exact Fin.ext h1.symm
  · exact Fin.ext h2.symm
theorem cov_whole3 (v : View sig .tc .vmem S3x512x1024 .bf16) (X : FVec Ideal S3x512x1024 .bf16) (r : Rect S3x512x1024) :
    v.readCov (Val := Elt Ideal) [⟨Rect.whole S3x512x1024, X⟩] r.toLoadRect = View.ld X r := by
  rw [View.readCov_eq_canon_ld]
  · rw [canon_fill3]
  · intro y; exact ⟨_, List.mem_singleton_self _, by rw [Rect.set_whole]; exact Finset.mem_univ y⟩

theorem canon_fill2 (X : FVec Ideal S1024x1024 .bf16) : View.canon (Val := Elt Ideal) (e := .bf16) [⟨Rect.whole S1024x1024, X⟩] = X := by
  funext q
  canon_tiles q h
  refine congrArg X ?_
  funext a
  fin_cases a
  · exact Fin.ext h0.symm
  · exact Fin.ext h1.symm
theorem cov_whole2 (v : View sig .tc .vmem S1024x1024 .bf16) (X : FVec Ideal S1024x1024 .bf16) (r : Rect S1024x1024) :
    v.readCov (Val := Elt Ideal) [⟨Rect.whole S1024x1024, X⟩] r.toLoadRect = View.ld X r := by
  rw [View.readCov_eq_canon_ld]
  · rw [canon_fill2]
  · intro y; exact ⟨_, List.mem_singleton_self _, by rw [Rect.set_whole]; exact Finset.mem_univ y⟩

theorem canon_wide (F : Fin 3 → Fin 512 → Fin 1024 → EReal) (q : S512x3072.Idx) :
    View.canon (Val := Elt Ideal) (e := .bf16) [⟨Rect.unit (s := S512x3072) ![0, 2048] ![512, 1024] inb_S512x3072_S512x1024_0_2048, (ea (F 2) : FVec Ideal S512x1024 .bf16)⟩,
      ⟨Rect.unit (s := S512x3072) ![0, 1024] ![512, 1024] inb_S512x3072_S512x1024_0_1024, (ea (F 1) : FVec Ideal S512x1024 .bf16)⟩,
      ⟨Rect.unit (s := S512x3072) ![0, 0] ![512, 1024] inb_S512x3072_S512x1024_0_0, (ea (F 0) : FVec Ideal S512x1024 .bf16)⟩] q = ea (wide F) q := by
  canon_tiles q h
  · refine (wide_gc F _ 2 _).symm.trans (congrArg₂ (wide F) ?_ ?_)
    · exact Fin.ext h0.symm
    · exact Fin.ext h1.symm
  · refine (wide_gc F _ 1 _).symm.trans (congrArg₂ (wide F) ?_ ?_)
    · exact Fin.ext h0.symm
    · exact Fin.ext h1.symm
  · refine (wide_gc F _ 0 _).symm.trans (congrArg₂ (wide F) ?_ ?_)
    · exact Fin.ext h0.symm
    · exact Fin.ext (by show 0 * 1024 + _ = _; omega)

theorem cov_rows {sp : Space} (v : View sig .tc sp S512x512 .bf16) (X : FVec Ideal S512x512 .bf16) :
    v.readCov (Val := Elt Ideal) [⟨Rect.unit (s := S512x512) ![0, 0] ![512, 512] inb_S512x512_S512x512_0_0, X⟩] (Rect.unit (s := S512x512) ![0, 0] ![512, 512] inb_S512x512_S512x512_0_0).toLoadRect = X := by
  rw [View.readCov_eq_canon_ld]
  · funext q
    have e : ∀ z, View.canon (Val := Elt Ideal) (e := .bf16) [⟨Rect.unit (s := S512x512) ![0, 0] ![512, 512] inb_S512x512_S512x512_0_0, X⟩] z = X z := by
      intro z
      canon_tiles z h
      refine congrArg X ?_
      funext a
      fin_cases a
      · exact Fin.ext h0.symm
      · exact Fin.ext h1.symm
    refine (e _).trans (congrArg X ?_)
    funext a
    fin_cases a
    · exact Fin.ext (by simp [Rect.unit])
    · exact Fin.ext (by simp [Rect.unit])
  · intro y
    refine ⟨_, List.mem_singleton_self _, ?_⟩
    obtain ⟨i, j, rfl⟩ : ∃ (i : Fin 512) (j : Fin 512), y = ix2 i j := ⟨y 0, y 1, eq_ix2 y⟩
    rw [Rect.mem_set_unit]
    intro a
    fin_cases a
    · have := i.isLt
      show 0 ≤ i.val ∧ i.val < 0 + 512
      omega
    · have := j.isLt
      show 0 ≤ j.val ∧ j.val < 0 + 512
      omega

theorem sc0 (c : Dev nD) (n : ℕ) : ∀ hn : n < cfg0.N, (outsAt0 m c n hn).2.2.2.2.2.2.2.2.1 = V m c main_v0 := by
  induction n with
  | zero =>
    intro hn
    rw [outsAt0_A m c ⟨0, hn⟩ rfl]
    funext q
    frame_out
    exact congrFun (canon_fill3 (V m c main_v0)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2.2.2.2.1 = V m c main_v0 := by rintro k hk rfl; exact ih hk
    rw [outsAt0_B m c ⟨n + 1, hn⟩ h0]
    funext q
    frame_out
    unfold sout0_B_0
    exact congrFun (e _ _ rfl) q

theorem sc1 (c : Dev nD) (n : ℕ) : ∀ hn : n < cfg0.N, (outsAt0 m c n hn).2.2.2.2.2.2.2.2.2 = V m c main_v1 := by
  induction n with
  | zero =>
    intro hn
    rw [outsAt0_A m c ⟨0, hn⟩ rfl]
    funext q
    frame_out
    exact congrFun (canon_fill2 (V m c main_v1)) q
  | succ n ih =>
    intro hn
    have h0 : ¬ (n + 1) % 32 = 0 := by have := lt_of_lt_of_eq hn (show cfg0.N = 32 from N_0); omega
    have e : ∀ k (hk : k < cfg0.N), k = n → (outsAt0 m c k hk).2.2.2.2.2.2.2.2.2 = V m c main_v1 := by rintro k hk rfl; exact ih hk
    rw [outsAt0_B m c ⟨n + 1, hn⟩ h0]
    funext q
    frame_out
    unfold sout0_B_1
    exact congrFun (e _ _ rfl) q

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

def row (t : Fin cfg0.N) (p : Fin 512) : Fin 16384 := ⟨t.val * 512 + p.val, by have := lt_of_lt_of_eq t.isLt (show cfg0.N = 32 from N_0); omega⟩

theorem b0 (c : Dev nD) (t : Fin cfg0.N) (x : Fin 16384 → Fin 1024 → EReal) (h : V m c main_arg0 = (ea x : FVec Ideal S16384x1024 .f32)) :
    iblk m c 0 t = (ea (fun p l => x (row t p) l) : FVec Ideal S512x1024 .f32) := by
  funext q
  idx_vars q
  refine Eq.trans (b := V m c main_arg0 (ix2 (row t q0) q1)) ?_ (by rw [h]; rfl)
  blk_ext [iblk, idx t]
  rfl

theorem b1 (c : Dev nD) (t : Fin cfg0.N) (x : Fin 16384 → Fin 512 → EReal) (h : V m c main_arg1 = (ea x : FVec Ideal S16384x512 .bf16)) :
    iblk m c 1 t = (ea (fun p l => x (row t p) l) : FVec Ideal S512x512 .bf16) := by
  funext q
  idx_vars q
  refine Eq.trans (b := V m c main_arg1 (ix2 (row t q0) q1)) ?_ (by rw [h]; rfl)
  blk_ext [iblk, idx t]
  rfl

theorem b2 (c : Dev nD) (t : Fin cfg0.N) (x : Fin 16384 → Fin 512 → EReal) (h : V m c main_arg2 = (ea x : FVec Ideal S16384x512 .bf16)) :
    iblk m c 2 t = (ea (fun p l => x (row t p) l) : FVec Ideal S512x512 .bf16) := by
  funext q
  idx_vars q
  refine Eq.trans (b := V m c main_arg2 (ix2 (row t q0) q1)) ?_ (by rw [h]; rfl)
  blk_ext [iblk, idx t]
  rfl

theorem b3 (c : Dev nD) (t : Fin cfg0.N) (x : Fin 16384 → Fin 512 → EReal) (h : V m c main_arg3 = (ea x : FVec Ideal S16384x512 .bf16)) :
    iblk m c 3 t = (ea (fun p l => x (row t p) l) : FVec Ideal S512x512 .bf16) := by
  funext q
  idx_vars q
  refine Eq.trans (b := V m c main_arg3 (ix2 (row t q0) q1)) ?_ (by rw [h]; rfl)
  blk_ext [iblk, idx t]
  rfl

theorem b4 (c : Dev nD) (t : Fin cfg0.N) (x : Fin 16384 → Fin 3072 → EReal) (h : V m c main_arg4 = (ea x : FVec Ideal S16384x3072 .bf16)) :
    iblk m c 4 t = (ea (fun p l => x (row t p) l) : FVec Ideal S512x3072 .bf16) := by
  funext q
  idx_vars q
  refine Eq.trans (b := V m c main_arg4 (ix2 (row t q0) q1)) ?_ (by rw [h]; rfl)
  blk_ext [iblk, idx t]
  rfl

structure Entry (c : Dev nD) (x : Fin 16384 → Fin 1024 → EReal) (a b d : Fin 16384 → Fin 512 → EReal) (g : Fin 16384 → Fin 3072 → EReal) (w : Fin 3 → Fin 512 → Fin 1024 → EReal) (o : Fin 1024 → Fin 1024 → EReal) : Prop where
  x : V m c main_arg0 = (ea x : FVec Ideal S16384x1024 .f32)
  a : V m c main_arg1 = (ea a : FVec Ideal S16384x512 .bf16)
  b : V m c main_arg2 = (ea b : FVec Ideal S16384x512 .bf16)
  d : V m c main_arg3 = (ea d : FVec Ideal S16384x512 .bf16)
  g : V m c main_arg4 = (ea g : FVec Ideal S16384x3072 .bf16)
  w : V m c main_v0 = (ea3 w : FVec Ideal S3x512x1024 .bf16)
  o : V m c main_v1 = (ea o : FVec Ideal S1024x1024 .bf16)

variable {m} {c : Dev nD} {x : Fin 16384 → Fin 1024 → EReal} {a b d : Fin 16384 → Fin 512 → EReal} {g : Fin 16384 → Fin 3072 → EReal} {w : Fin 3 → Fin 512 → Fin 1024 → EReal} {o : Fin 1024 → Fin 1024 → EReal}
  (h : Entry m c x a b d g w o) (t : Fin cfg0.N)
include h

theorem o5 : (outsAt0 m c t.val t.isLt).1 = (ea (fun p l => (mgE a b d g w) (row t p) l) : FVec Ideal S512x1024 .bf16) := by
  funext q
  by_cases h0 : t.val % 32 = 0 <;> [rw [outsAt0_A m c t h0]; rw [outsAt0_B m c t h0]]
  all_goals
    frame_out
    try simp only [read_unread_whole]
    simp only [b0 m c t x h.x, b1 m c t a h.a, b2 m c t b h.b, b3 m c t d h.d, b4 m c t g h.g, View.read_whole, ReadAs.apply_same, cov_whole3, cov_whole2, cov_rows, sc0, sc1, h.w, h.o,
      ldg_0, ldg_1, ldg_2, ldw_0, ldw_1, ldw_2, ld_o, h_pay2, h_pay3, h_pay4, h_pay5, h_pay6, h_pay7, h_pay8, h_pay9, h_pay10, h_pay11, h_pay12, h_pay13, h_pay14, h_pay15, h_pay16, h_pay17, h_pay18, h_pay19, h_pay20, h_pay21, h_pay22]
    try rfl

theorem o6 : (outsAt0 m c t.val t.isLt).2.1 = (ea (fun p l => (x) (row t p) l) : FVec Ideal S512x1024 .bf16) := by
  funext q
  by_cases h0 : t.val % 32 = 0 <;> [rw [outsAt0_A m c t h0]; rw [outsAt0_B m c t h0]]
  all_goals
    frame_out
    try simp only [read_unread_whole]
    simp only [b0 m c t x h.x, b1 m c t a h.a, b2 m c t b h.b, b3 m c t d h.d, b4 m c t g h.g, View.read_whole, ReadAs.apply_same, cov_whole3, cov_whole2, cov_rows, sc0, sc1, h.w, h.o,
      ldg_0, ldg_1, ldg_2, ldw_0, ldw_1, ldw_2, ld_o, h_pay2, h_pay3, h_pay4, h_pay5, h_pay6, h_pay7, h_pay8, h_pay9, h_pay10, h_pay11, h_pay12, h_pay13, h_pay14, h_pay15, h_pay16, h_pay17, h_pay18, h_pay19, h_pay20, h_pay21, h_pay22]
    try rfl

theorem o7 : (outsAt0 m c t.val t.isLt).2.2.1 = (ea (fun p l => (wide (dglE x (pick3 a b d) g w o)) (row t p) l) : FVec Ideal S512x3072 .bf16) := by
  funext q
  by_cases h0 : t.val % 32 = 0 <;> [rw [outsAt0_A m c t h0]; rw [outsAt0_B m c t h0]]
  all_goals
    frame_out
    try simp only [read_unread_whole]
    simp only [b0 m c t x h.x, b1 m c t a h.a, b2 m c t b h.b, b3 m c t d h.d, b4 m c t g h.g, View.read_whole, ReadAs.apply_same, cov_whole3, cov_whole2, cov_rows, sc0, sc1, h.w, h.o,
      ldg_0, ldg_1, ldg_2, ldw_0, ldw_1, ldw_2, ld_o, h_pay2, h_pay3, h_pay4, h_pay5, h_pay6, h_pay7, h_pay8, h_pay9, h_pay10, h_pay11, h_pay12, h_pay13, h_pay14, h_pay15, h_pay16, h_pay17, h_pay18, h_pay19, h_pay20, h_pay21, h_pay22]
    exact canon_wide (dglE (fun p l => x (row t p) l) (pick3 (fun p l => a (row t p) l) (fun p l => b (row t p) l) (fun p l => d (row t p) l)) (fun p l => g (row t p) l) w o) q

theorem o8 : (outsAt0 m c t.val t.isLt).2.2.2.1 = (ea (fun p l => (wide (dbrE x g o)) (row t p) l) : FVec Ideal S512x3072 .bf16) := by
  funext q
  by_cases h0 : t.val % 32 = 0 <;> [rw [outsAt0_A m c t h0]; rw [outsAt0_B m c t h0]]
  all_goals
    frame_out
    try simp only [read_unread_whole]
    simp only [b0 m c t x h.x, b1 m c t a h.a, b2 m c t b h.b, b3 m c t d h.d, b4 m c t g h.g, View.read_whole, ReadAs.apply_same, cov_whole3, cov_whole2, cov_rows, sc0, sc1, h.w, h.o,
      ldg_0, ldg_1, ldg_2, ldw_0, ldw_1, ldw_2, ld_o, h_pay2, h_pay3, h_pay4, h_pay5, h_pay6, h_pay7, h_pay8, h_pay9, h_pay10, h_pay11, h_pay12, h_pay13, h_pay14, h_pay15, h_pay16, h_pay17, h_pay18, h_pay19, h_pay20, h_pay21, h_pay22]
    exact canon_wide (dbrE (fun p l => x (row t p) l) (fun p l => g (row t p) l) o) q

theorem o9 : (outsAt0 m c t.val t.isLt).2.2.2.2.1 = (ea (fun p l => (dyE x g w o 0) (row t p) l) : FVec Ideal S512x512 .bf16) := by
  funext q
  by_cases h0 : t.val % 32 = 0 <;> [rw [outsAt0_A m c t h0]; rw [outsAt0_B m c t h0]]
  all_goals
    frame_out
    try simp only [read_unread_whole]
    simp only [b0 m c t x h.x, b1 m c t a h.a, b2 m c t b h.b, b3 m c t d h.d, b4 m c t g h.g, View.read_whole, ReadAs.apply_same, cov_whole3, cov_whole2, cov_rows, sc0, sc1, h.w, h.o,
      ldg_0, ldg_1, ldg_2, ldw_0, ldw_1, ldw_2, ld_o, h_pay2, h_pay3, h_pay4, h_pay5, h_pay6, h_pay7, h_pay8, h_pay9, h_pay10, h_pay11, h_pay12, h_pay13, h_pay14, h_pay15, h_pay16, h_pay17, h_pay18, h_pay19, h_pay20, h_pay21, h_pay22]
    try rfl

theorem o10 : (outsAt0 m c t.val t.isLt).2.2.2.2.2.1 = (ea (fun p l => (dyE x g w o 1) (row t p) l) : FVec Ideal S512x512 .bf16) := by
  funext q
  by_cases h0 : t.val % 32 = 0 <;> [rw [outsAt0_A m c t h0]; rw [outsAt0_B m c t h0]]
  all_goals
    frame_out
    try simp only [read_unread_whole]
    simp only [b0 m c t x h.x, b1 m c t a h.a, b2 m c t b h.b, b3 m c t d h.d, b4 m c t g h.g, View.read_whole, ReadAs.apply_same, cov_whole3, cov_whole2, cov_rows, sc0, sc1, h.w, h.o,
      ldg_0, ldg_1, ldg_2, ldw_0, ldw_1, ldw_2, ld_o, h_pay2, h_pay3, h_pay4, h_pay5, h_pay6, h_pay7, h_pay8, h_pay9, h_pay10, h_pay11, h_pay12, h_pay13, h_pay14, h_pay15, h_pay16, h_pay17, h_pay18, h_pay19, h_pay20, h_pay21, h_pay22]
    try rfl

theorem o11 : (outsAt0 m c t.val t.isLt).2.2.2.2.2.2.1 = (ea (fun p l => (dyE x g w o 2) (row t p) l) : FVec Ideal S512x512 .bf16) := by
  funext q
  by_cases h0 : t.val % 32 = 0 <;> [rw [outsAt0_A m c t h0]; rw [outsAt0_B m c t h0]]
  all_goals
    frame_out
    try simp only [read_unread_whole]
    simp only [b0 m c t x h.x, b1 m c t a h.a, b2 m c t b h.b, b3 m c t d h.d, b4 m c t g h.g, View.read_whole, ReadAs.apply_same, cov_whole3, cov_whole2, cov_rows, sc0, sc1, h.w, h.o,
      ldg_0, ldg_1, ldg_2, ldw_0, ldw_1, ldw_2, ld_o, h_pay2, h_pay3, h_pay4, h_pay5, h_pay6, h_pay7, h_pay8, h_pay9, h_pay10, h_pay11, h_pay12, h_pay13, h_pay14, h_pay15, h_pay16, h_pay17, h_pay18, h_pay19, h_pay20, h_pay21, h_pay22]
    try rfl

theorem o12 (hx : ∀ i j, isR (x i j)) (hd : ∀ i j, isR (d i j)) (hg : ∀ i j, isR (g i j)) (hw : ∀ k i j, isR (w k i j)) (ho : ∀ i j, isR (o i j)) : (outsAt0 m c t.val t.isLt).2.2.2.2.2.2.2.1 = (ea (fun p l => (dltE (fun i j => dyE x g w o 2 i j * d i j)) (row t p) l) : FVec Ideal S512x128 .f32) := by
  funext q
  by_cases h0 : t.val % 32 = 0 <;> [rw [outsAt0_A m c t h0]; rw [outsAt0_B m c t h0]]
  all_goals
    frame_out
    try simp only [read_unread_whole]
    simp only [b0 m c t x h.x, b1 m c t a h.a, b2 m c t b h.b, b3 m c t d h.d, b4 m c t g h.g, View.read_whole, ReadAs.apply_same, cov_whole3, cov_whole2, cov_rows, sc0, sc1, h.w, h.o,
      ldg_0, ldg_1, ldg_2, ldw_0, ldw_1, ldw_2, ld_o, h_pay2, h_pay3, h_pay4, h_pay5, h_pay6, h_pay7, h_pay8, h_pay9, h_pay10, h_pay11, h_pay12, h_pay13, h_pay14, h_pay15, h_pay16, h_pay17, h_pay18, h_pay19, h_pay20, h_pay21, h_pay22]
    exact congrFun (h_pay1 _ fun i j => isR_sub_self (isR_mul (isR_dy (x := fun p l => x (row t p) l) (g := fun p l => g (row t p) l) (w := w) (wo := o) (fun _ _ => hx _ _) (fun _ _ => hg _ _) hw ho 2 i j) (hd (row t i) j))) q

omit t

theorem f5 : (dats m 0 c).arrAt 5 cfg0.N = (ea (mgE a b d g w) : FVec Ideal S16384x1024 .bf16) := by
  refine (dats m 0 c).arrAt_eq_of_covers 5 _ (by decide +kernel) fun t hf y => ?_
  blk_simp
  rw [after0_5]
  refine (congrFun (o5 h t) _).trans ?_
  refine ea_at _ _ _ _ (congrArg₂ (mgE a b d g w) (Fin.ext ?_) (Fin.ext ?_)) <;> blk_simp [idx t, row]

theorem f6 : (dats m 0 c).arrAt 6 cfg0.N = (ea (x) : FVec Ideal S16384x1024 .bf16) := by
  refine (dats m 0 c).arrAt_eq_of_covers 6 _ (by decide +kernel) fun t hf y => ?_
  blk_simp
  rw [after0_6]
  refine (congrFun (o6 h t) _).trans ?_
  refine ea_at _ _ _ _ (congrArg₂ (x) (Fin.ext ?_) (Fin.ext ?_)) <;> blk_simp [idx t, row]

theorem f7 : (dats m 0 c).arrAt 7 cfg0.N = (ea (wide (dglE x (pick3 a b d) g w o)) : FVec Ideal S16384x3072 .bf16) := by
  refine (dats m 0 c).arrAt_eq_of_covers 7 _ (by decide +kernel) fun t hf y => ?_
  blk_simp
  rw [after0_7]
  refine (congrFun (o7 h t) _).trans ?_
  refine ea_at _ _ _ _ (congrArg₂ (wide (dglE x (pick3 a b d) g w o)) (Fin.ext ?_) (Fin.ext ?_)) <;> blk_simp [idx t, row]

theorem f8 : (dats m 0 c).arrAt 8 cfg0.N = (ea (wide (dbrE x g o)) : FVec Ideal S16384x3072 .bf16) := by
  refine (dats m 0 c).arrAt_eq_of_covers 8 _ (by decide +kernel) fun t hf y => ?_
  blk_simp
  rw [after0_8]
  refine (congrFun (o8 h t) _).trans ?_
  refine ea_at _ _ _ _ (congrArg₂ (wide (dbrE x g o)) (Fin.ext ?_) (Fin.ext ?_)) <;> blk_simp [idx t, row]

theorem f9 : (dats m 0 c).arrAt 9 cfg0.N = (ea (dyE x g w o 0) : FVec Ideal S16384x512 .bf16) := by
  refine (dats m 0 c).arrAt_eq_of_covers 9 _ (by decide +kernel) fun t hf y => ?_
  blk_simp
  rw [after0_9]
  refine (congrFun (o9 h t) _).trans ?_
  refine ea_at _ _ _ _ (congrArg₂ (dyE x g w o 0) (Fin.ext ?_) (Fin.ext ?_)) <;> blk_simp [idx t, row]

theorem f10 : (dats m 0 c).arrAt 10 cfg0.N = (ea (dyE x g w o 1) : FVec Ideal S16384x512 .bf16) := by
  refine (dats m 0 c).arrAt_eq_of_covers 10 _ (by decide +kernel) fun t hf y => ?_
  blk_simp
  rw [after0_10]
  refine (congrFun (o10 h t) _).trans ?_
  refine ea_at _ _ _ _ (congrArg₂ (dyE x g w o 1) (Fin.ext ?_) (Fin.ext ?_)) <;> blk_simp [idx t, row]

theorem f11 : (dats m 0 c).arrAt 11 cfg0.N = (ea (dyE x g w o 2) : FVec Ideal S16384x512 .bf16) := by
  refine (dats m 0 c).arrAt_eq_of_covers 11 _ (by decide +kernel) fun t hf y => ?_
  blk_simp
  rw [after0_11]
  refine (congrFun (o11 h t) _).trans ?_
  refine ea_at _ _ _ _ (congrArg₂ (dyE x g w o 2) (Fin.ext ?_) (Fin.ext ?_)) <;> blk_simp [idx t, row]

theorem f12 (hx : ∀ i j, isR (x i j)) (hd : ∀ i j, isR (d i j)) (hg : ∀ i j, isR (g i j)) (hw : ∀ k i j, isR (w k i j)) (ho : ∀ i j, isR (o i j)) : (dats m 0 c).arrAt 12 cfg0.N = (ea (dltE (fun i j => dyE x g w o 2 i j * d i j)) : FVec Ideal S16384x128 .f32) := by
  refine (dats m 0 c).arrAt_eq_of_covers 12 _ (by decide +kernel) fun t hf y => ?_
  blk_simp
  rw [after0_12]
  refine (congrFun (o12 h t hx hd hg hw ho) _).trans ?_
  refine ea_at _ _ _ _ (congrArg₂ (dltE (fun i j => dyE x g w o 2 i j * d i j)) (Fin.ext ?_) (Fin.ext ?_)) <;> blk_simp [idx t, row]

omit h
theorem entry (m : (ℓ : Loc nD τ sig) → Buf (Elt Ideal) ℓ) (c : Dev nD) :
    Entry m c (un (rd m c main_arg0)) (un (rd m c main_arg1)) (un (rd m c main_arg2)) (un (rd m c main_arg3)) (un (rd m c main_arg4)) (un3 (rd m c main_arg5)) (un (rd m c main_arg6)) := by
  constructor
  · entry_read; exact (ea_un _).symm
  · entry_read; exact (ea_un _).symm
  · entry_read; exact (ea_un _).symm
  · entry_read; exact (ea_un _).symm
  · entry_read; exact (ea_un _).symm
  · entry_read; exact (ea3_un _).symm
  · entry_read; exact (ea_un _).symm

theorem run (m : (ℓ : Loc nD τ sig) → Buf (Elt Ideal) ℓ) (ρ : Dev nD → PrngReg)
    (hf : ∀ c : Dev nD, (∀ i j, isR (un (rd m c main_arg0) i j)) ∧ (∀ i j, isR (un (rd m c main_arg3) i j)) ∧ (∀ i j, isR (un (rd m c main_arg4) i j)) ∧ (∀ k i j, isR (un3 (rd m c main_arg5) k i j)) ∧ (∀ i j, isR (un (rd m c main_arg6) i j))) :
    θ_run (defs (F := Ideal)) (onTc (τ := τ) (main (F := Ideal))) ⟨m, fun _ => 0, ρ⟩ (fun r => ∀ c : Dev nD,
      rd r.2.mem c main_v2_0 = (ea (mgE (un (rd m c main_arg1)) (un (rd m c main_arg2)) (un (rd m c main_arg3)) (un (rd m c main_arg4)) (un3 (rd m c main_arg5))) : FVec Ideal S16384x1024 .bf16)
      ∧ rd r.2.mem c main_v2_1 = (ea ((un (rd m c main_arg0))) : FVec Ideal S16384x1024 .bf16)
      ∧ rd r.2.mem c main_v2_2 = (ea (wide (dglE (un (rd m c main_arg0)) (pick3 (un (rd m c main_arg1)) (un (rd m c main_arg2)) (un (rd m c main_arg3))) (un (rd m c main_arg4)) (un3 (rd m c main_arg5)) (un (rd m c main_arg6)))) : FVec Ideal S16384x3072 .bf16)
      ∧ rd r.2.mem c main_v2_3 = (ea (wide (dbrE (un (rd m c main_arg0)) (un (rd m c main_arg4)) (un (rd m c main_arg6)))) : FVec Ideal S16384x3072 .bf16)
      ∧ rd r.2.mem c main_v2_4 = (ea (dyE (un (rd m c main_arg0)) (un (rd m c main_arg4)) (un3 (rd m c main_arg5)) (un (rd m c main_arg6)) 0) : FVec Ideal S16384x512 .bf16)
      ∧ rd r.2.mem c main_v2_5 = (ea (dyE (un (rd m c main_arg0)) (un (rd m c main_arg4)) (un3 (rd m c main_arg5)) (un (rd m c main_arg6)) 1) : FVec Ideal S16384x512 .bf16)
      ∧ rd r.2.mem c main_v2_6 = (ea (dyE (un (rd m c main_arg0)) (un (rd m c main_arg4)) (un3 (rd m c main_arg5)) (un (rd m c main_arg6)) 2) : FVec Ideal S16384x512 .bf16)
      ∧ rd r.2.mem c main_v2_7 = (ea (dltE (fun i j => dyE (un (rd m c main_arg0)) (un (rd m c main_arg4)) (un3 (rd m c main_arg5)) (un (rd m c main_arg6)) 2 i j * (un (rd m c main_arg3)) i j)) : FVec Ideal S16384x128 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6) := by
  refine (θ_run defs _ _).mono (fun r h c => ?_) (θ_run_and (run_main m ρ) (unchanged m ρ))
  have E := entry m c
  obtain ⟨hx, hd, hg, hw, ho⟩ := hf c
  exact ⟨((h.1 c).1 5).trans (f5 E), ((h.1 c).1 6).trans (f6 E), ((h.1 c).1 7).trans (f7 E), ((h.1 c).1 8).trans (f8 E), ((h.1 c).1 9).trans (f9 E), ((h.1 c).1 10).trans (f10 E), ((h.1 c).1 11).trans (f11 E), ((h.1 c).1 12).trans (f12 E hx hd hg hw ho), h.2 c⟩
end Cert.Proof.MbBlk
end
-- ==== Proof.MbRef.lean ====
/- The merges gradient reference read operation by operation, as formulas in the arguments' entries. -/
module
public import proofs.«01_k».proof.Proof.Gen.MergeBwdRefIdeal.Run
public import proofs.«01_k».proof.Proof.MbEq
public import Idealize.ShloMosaic.Adequacy
@[expose] public section
set_option maxRecDepth 16384
noncomputable section
namespace Cert.Proof.MbRef
open Cert.MergeBwdRefIdeal Cert.MergeBwdRefIdeal.Gen Idealize.ShloMosaic Idealize.ShloMosaic.TcCoe Idealize.SL.Sem MbEq

def v_g (g : FVec Ideal S16384x3072 .bf16) : FVec Ideal S16384x3x1024 .f32 :=
  Host.divf (broadcastInDim S16384x3x1024 ![] bcast_S_S16384x3x1024 (constant S_ .f32 0x3F800000#32)) (addf (broadcastInDim S16384x3x1024 ![] bcast_S_S16384x3x1024 (constant S_ .f32 0x3F800000#32)) (Host.exp (Host.negf (shapeCast _ (extf .f32 g bitsLt_bf16_f32) shapeCasts_S16384x3072_S16384x3x1024))))
theorem h_g (g : Fin 16384 → Fin 3072 → EReal) : v_g (ea g) = ea3 fun i k d => gateE g k i d := by
  unfold v_g
  funext q; idx_vars q
  pointwise
  rfl

def v_y (a b d : FVec Ideal S16384x512 .bf16) : FVec Ideal S16384x3x512 .f32 :=
  concatenate S16384x3x512 1 [⟨S16384x1x512, ((broadcastInDim S16384x1x512 ![0, 2] bcast_S16384x512_S16384x1x512_0_2 (extf .f32 a bitsLt_bf16_f32)) : (⟨S16384x1x512, .f32⟩ : BufTy).Contents (Elt Ideal))⟩, ⟨S16384x1x512, ((broadcastInDim S16384x1x512 ![0, 2] bcast_S16384x512_S16384x1x512_0_2 (extf .f32 b bitsLt_bf16_f32)) : (⟨S16384x1x512, .f32⟩ : BufTy).Contents (Elt Ideal))⟩, ⟨S16384x1x512, ((broadcastInDim S16384x1x512 ![0, 2] bcast_S16384x512_S16384x1x512_0_2 (extf .f32 d bitsLt_bf16_f32)) : (⟨S16384x1x512, .f32⟩ : BufTy).Contents (Elt Ideal))⟩] concatenates_S16384x1x512_S16384x1x512_S16384x1x512_S16384x3x512_d1
theorem h_y (a b d : Fin 16384 → Fin 512 → EReal) : v_y (ea a) (ea b) (ea d) = ea3 fun i k c => pick3 a b d k i c := by
  unfold v_y
  funext q; idx_vars q
  fin_cases q1
  · pointwise
    rfl
  · pointwise
    rfl
  · pointwise
    rfl

def v_b (w : FVec Ideal S3x512x1024 .f32) (y : FVec Ideal S16384x3x512 .f32) : FVec Ideal S16384x3x1024 .f32 :=
  transpose S16384x3x1024 [2, 0, 1] (Host.dotGeneral dot_S3x512x1024_S16384x3x512_S3x1024x16384_1_2_2_0_0_1 none w y) transposes_S3x1024x16384_S16384x3x1024_2_0_1
theorem h_b (w : Fin 3 → Fin 512 → Fin 1024 → EReal) (y : Fin 3 → Fin 16384 → Fin 512 → EReal) : v_b (ea3 w) (ea3 fun i k c => y k i c) = ea3 fun i k d => brE (y k) (w k) i d := by
  unfold v_b
  funext q; idx_vars q
  pointwise
  simp only [ea3_ix]
  unfold brE
  exact Finset.sum_congr rfl fun _ _ => mul_comm _ _

def v_m (g b : FVec Ideal S16384x3x1024 .f32) : FVec Ideal S16384x1024 .f32 :=
  Host.reduceAdd (mulf g b) (constant S_ .f32 0x00000000#32) reducesTo_S16384x3x1024_S16384x1024_d1 h_S_
theorem h_m (g b : Fin 16384 → Fin 3 → Fin 1024 → EReal) : v_m (ea3 g) (ea3 b) = ea fun i d => g i 0 d * b i 0 d + g i 1 d * b i 1 d + g i 2 d * b i 2 d := by
  unfold v_m
  funext q; idx_vars q
  pointwise
  simp only [zero_add, ea3_ix]
  exact Fin.sum_univ_three _

def v_dm (x : FVec Ideal S16384x1024 .f32) (o : FVec Ideal S1024x1024 .f32) : FVec Ideal S16384x1024 .f32 :=
  Host.dotGeneral dot_S16384x1024_S1024x1024_S16384x1024_1_1_0_0_n_n none x o
theorem h_dm (x : Fin 16384 → Fin 1024 → EReal) (o : Fin 1024 → Fin 1024 → EReal) : v_dm (ea x) (ea o) = ea (dmE x o) := by
  unfold v_dm
  funext q; idx_vars q
  pointwise
  rfl

def v_o (z : FVec Ideal S16384x1024 .f32) : FVec Ideal S16384x3x1024 .f32 :=
  broadcastInDim S16384x3x1024 ![0, 2] bcast_S16384x1024_S16384x3x1024_0_2 z
theorem h_o (z : Fin 16384 → Fin 1024 → EReal) : v_o (ea z) = ea3 fun i k d => z i d := by
  unfold v_o
  funext q; idx_vars q
  pointwise
  rfl

def v_u (z b : FVec Ideal S16384x3x1024 .f32) : FVec Ideal S16384x3x1024 .f32 := mulf z b
theorem h_u (z b : Fin 16384 → Fin 3 → Fin 1024 → EReal) : v_u (ea3 z) (ea3 b) = ea3 fun i k d => z i k d * b i k d := by
  funext q; rfl

def v_e (z g : FVec Ideal S16384x3x1024 .f32) : FVec Ideal S16384x3072 .bf16 :=
  truncf .bf16 (shapeCast S16384x3072 (mulf z (mulf g (subf (broadcastInDim S16384x3x1024 ![] bcast_S_S16384x3x1024 (constant S_ .f32 0x3F800000#32)) g))) shapeCasts_S16384x3x1024_S16384x3072) bitsLt_bf16_f32
theorem h_e (z g : Fin 16384 → Fin 3 → Fin 1024 → EReal) : v_e (ea3 z) (ea3 g) = ea (wide fun k i d => z i k d * g i k d * (1 - g i k d)) := by
  unfold v_e
  funext q; idx_vars q
  pointwise
  refine (mul_assoc _ _ _).symm.trans ?_
  rfl

def v_w (z : FVec Ideal S16384x3x1024 .f32) : FVec Ideal S16384x3072 .bf16 :=
  truncf .bf16 (shapeCast S16384x3072 z shapeCasts_S16384x3x1024_S16384x3072) bitsLt_bf16_f32
theorem h_w (z : Fin 16384 → Fin 3 → Fin 1024 → EReal) : v_w (ea3 z) = ea (wide fun k i d => z i k d) := by
  unfold v_w
  funext q; idx_vars q
  pointwise
  rfl

def v_dy (z : FVec Ideal S16384x3x1024 .f32) (w : FVec Ideal S3x512x1024 .f32) : FVec Ideal S16384x3x512 .f32 :=
  transpose S16384x3x512 [1, 0, 2] (Host.dotGeneral dot_S3x1024x16384_S3x512x1024_S3x16384x512_1_2_2_1_0_0 none (transpose S3x1024x16384 [1, 2, 0] z transposes_S16384x3x1024_S3x1024x16384_1_2_0) w) transposes_S3x16384x512_S16384x3x512_1_0_2
theorem h_dy (z : Fin 16384 → Fin 3 → Fin 1024 → EReal) (w : Fin 3 → Fin 512 → Fin 1024 → EReal) : v_dy (ea3 z) (ea3 w) = ea3 fun i k c => ∑ d, z i k d * w k c d := by
  unfold v_dy
  funext q; idx_vars q
  pointwise
  rfl

theorem h_dyE (x : Fin 16384 → Fin 1024 → EReal) (g : Fin 16384 → Fin 3072 → EReal) (w : Fin 3 → Fin 512 → Fin 1024 → EReal) (o : Fin 1024 → Fin 1024 → EReal) : (fun (i : Fin 16384) (k : Fin 3) (c : Fin 512) => ∑ d, gateE g k i d * dmE x o i d * w k c d) = fun i k c => dyE x g w o k i c := by
  funext i k c
  unfold dyE dbrE
  exact Finset.sum_congr rfl fun d _ => congrArg (· * w k c d) (mul_comm _ _)

def v_s0 (z : FVec Ideal S16384x3x512 .f32) : FVec Ideal S16384x512 .f32 :=
  shapeCast S16384x512 (extractStridedSlice S16384x1x512 ![0, 0, 0] z slices_S16384x3x512_S16384x1x512_0_0_0) shapeCasts_S16384x1x512_S16384x512
theorem h_s0 (z : Fin 16384 → Fin 3 → Fin 512 → EReal) : v_s0 (ea3 z) = ea fun i c => z i 0 c := by
  unfold v_s0
  funext q; idx_vars q
  pointwise
  rfl

def v_s1 (z : FVec Ideal S16384x3x512 .f32) : FVec Ideal S16384x512 .f32 :=
  shapeCast S16384x512 (extractStridedSlice S16384x1x512 ![0, 1, 0] z slices_S16384x3x512_S16384x1x512_0_1_0) shapeCasts_S16384x1x512_S16384x512
theorem h_s1 (z : Fin 16384 → Fin 3 → Fin 512 → EReal) : v_s1 (ea3 z) = ea fun i c => z i 1 c := by
  unfold v_s1
  funext q; idx_vars q
  pointwise
  rfl

def v_s2 (z : FVec Ideal S16384x3x512 .f32) : FVec Ideal S16384x512 .f32 :=
  shapeCast S16384x512 (extractStridedSlice S16384x1x512 ![0, 2, 0] z slices_S16384x3x512_S16384x1x512_0_2_0) shapeCasts_S16384x1x512_S16384x512
theorem h_s2 (z : Fin 16384 → Fin 3 → Fin 512 → EReal) : v_s2 (ea3 z) = ea fun i c => z i 2 c := by
  unfold v_s2
  funext q; idx_vars q
  pointwise
  rfl

def v_t (p : FVec Ideal S16384x512 .f32) (y : FVec Ideal S16384x512 .bf16) : FVec Ideal S16384x8 .f32 :=
  Host.reduceAdd (shapeCast S16384x8x64 (mulf p (extf .f32 y bitsLt_bf16_f32)) shapeCasts_S16384x512_S16384x8x64) (constant S_ .f32 0x00000000#32) reducesTo_S16384x8x64_S16384x8_d2 h_S_
theorem h_t (p y : Fin 16384 → Fin 512 → EReal) : v_t (ea p) (ea y) = ea fun i h => ∑ u : Fin 64, p i (hc h u) * y i (hc h u) := by
  unfold v_t
  funext q; idx_vars q
  pointwise
  try simp only [zero_add]
  rfl

def v_p (t : FVec Ideal S16384x8 .f32) : FVec Ideal S16384x128 .f32 :=
  pad S16384x128 ![0, 0] ![0, 120] ![0, 0] t (sitofp .f32 (constantI S_ 32 0#32)) pads_S16384x8_S16384x128_000_01200 h_S_
theorem h_p (t : Fin 16384 → Fin 8 → EReal) : v_p (ea t) = ea fun i l => if h : l.val < 8 then t i ⟨l.val, h⟩ else 0 := by
  unfold v_p
  funext q; idx_vars q
  pointwise
  show (if h : q1.val < 8 then t q0 ⟨q1.val, h⟩ else (FloatOps.sitofp (F := Ideal) FTy.f32 0#32 : EReal)) = if h : q1.val < 8 then t q0 ⟨q1.val, h⟩ else 0
  have hz : (FloatOps.sitofp (F := Ideal) FTy.f32 0#32 : EReal) = 0 := by
    show (((0#32).toInt : ℝ) : EReal) = 0
    norm_num
  rw [hz]

variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6) ∧ r.2.sem = fun _ => 0) :=
  (θ_run defs _ _).mono (fun r h => ⟨fun c => (h c).2.2.2.2.2.2.2.2, sem_eq_zero_of_no_sems (by decide) r.2⟩) (Cert.MergeBwdRefIdeal.Value.run m ρ)

theorem c_0 (x : FVec Ideal S16384x1024 .f32) (a b d : FVec Ideal S16384x512 .bf16) (g : FVec Ideal S16384x3072 .bf16) (w : FVec Ideal S3x512x1024 .f32) (o : FVec Ideal S1024x1024 .f32) : (truncf .bf16 (v_m (v_g g) (v_b w (v_y a b d))) bitsLt_bf16_f32 : FVec Ideal S16384x1024 .bf16) = ea (mgE (un a) (un b) (un d) (un g) (un3 w)) := by
  obtain ⟨x, rfl⟩ : ∃ f, x = ea f := ⟨un x, (ea_un x).symm⟩
  obtain ⟨a, rfl⟩ : ∃ f, a = ea f := ⟨un a, (ea_un a).symm⟩
  obtain ⟨b, rfl⟩ : ∃ f, b = ea f := ⟨un b, (ea_un b).symm⟩
  obtain ⟨d, rfl⟩ : ∃ f, d = ea f := ⟨un d, (ea_un d).symm⟩
  obtain ⟨g, rfl⟩ : ∃ f, g = ea f := ⟨un g, (ea_un g).symm⟩
  obtain ⟨o, rfl⟩ : ∃ f, o = ea f := ⟨un o, (ea_un o).symm⟩
  obtain ⟨w, rfl⟩ : ∃ f, w = ea3 f := ⟨un3 w, (ea3_un w).symm⟩
  rw [h_g, h_y, h_b, h_m]
  funext q; rfl

theorem c_1 (x : FVec Ideal S16384x1024 .f32) (a b d : FVec Ideal S16384x512 .bf16) (g : FVec Ideal S16384x3072 .bf16) (w : FVec Ideal S3x512x1024 .f32) (o : FVec Ideal S1024x1024 .f32) : (truncf .bf16 x bitsLt_bf16_f32 : FVec Ideal S16384x1024 .bf16) = ea (un x) := by
  obtain ⟨x, rfl⟩ : ∃ f, x = ea f := ⟨un x, (ea_un x).symm⟩
  obtain ⟨a, rfl⟩ : ∃ f, a = ea f := ⟨un a, (ea_un a).symm⟩
  obtain ⟨b, rfl⟩ : ∃ f, b = ea f := ⟨un b, (ea_un b).symm⟩
  obtain ⟨d, rfl⟩ : ∃ f, d = ea f := ⟨un d, (ea_un d).symm⟩
  obtain ⟨g, rfl⟩ : ∃ f, g = ea f := ⟨un g, (ea_un g).symm⟩
  obtain ⟨o, rfl⟩ : ∃ f, o = ea f := ⟨un o, (ea_un o).symm⟩
  obtain ⟨w, rfl⟩ : ∃ f, w = ea3 f := ⟨un3 w, (ea3_un w).symm⟩
  skip
  funext q; rfl

theorem c_2 (x : FVec Ideal S16384x1024 .f32) (a b d : FVec Ideal S16384x512 .bf16) (g : FVec Ideal S16384x3072 .bf16) (w : FVec Ideal S3x512x1024 .f32) (o : FVec Ideal S1024x1024 .f32) : (v_e (v_u (v_o (v_dm x o)) (v_b w (v_y a b d))) (v_g g) : FVec Ideal S16384x3072 .bf16) = ea (wide (dglE (un x) (pick3 (un a) (un b) (un d)) (un g) (un3 w) (un o))) := by
  obtain ⟨x, rfl⟩ : ∃ f, x = ea f := ⟨un x, (ea_un x).symm⟩
  obtain ⟨a, rfl⟩ : ∃ f, a = ea f := ⟨un a, (ea_un a).symm⟩
  obtain ⟨b, rfl⟩ : ∃ f, b = ea f := ⟨un b, (ea_un b).symm⟩
  obtain ⟨d, rfl⟩ : ∃ f, d = ea f := ⟨un d, (ea_un d).symm⟩
  obtain ⟨g, rfl⟩ : ∃ f, g = ea f := ⟨un g, (ea_un g).symm⟩
  obtain ⟨o, rfl⟩ : ∃ f, o = ea f := ⟨un o, (ea_un o).symm⟩
  obtain ⟨w, rfl⟩ : ∃ f, w = ea3 f := ⟨un3 w, (ea3_un w).symm⟩
  rw [h_g, h_y, h_b, h_dm, h_o, h_u, h_e]
  funext q; rfl

theorem c_3 (x : FVec Ideal S16384x1024 .f32) (a b d : FVec Ideal S16384x512 .bf16) (g : FVec Ideal S16384x3072 .bf16) (w : FVec Ideal S3x512x1024 .f32) (o : FVec Ideal S1024x1024 .f32) : (v_w (v_u (v_g g) (v_o (v_dm x o))) : FVec Ideal S16384x3072 .bf16) = ea (wide (dbrE (un x) (un g) (un o))) := by
  obtain ⟨x, rfl⟩ : ∃ f, x = ea f := ⟨un x, (ea_un x).symm⟩
  obtain ⟨a, rfl⟩ : ∃ f, a = ea f := ⟨un a, (ea_un a).symm⟩
  obtain ⟨b, rfl⟩ : ∃ f, b = ea f := ⟨un b, (ea_un b).symm⟩
  obtain ⟨d, rfl⟩ : ∃ f, d = ea f := ⟨un d, (ea_un d).symm⟩
  obtain ⟨g, rfl⟩ : ∃ f, g = ea f := ⟨un g, (ea_un g).symm⟩
  obtain ⟨o, rfl⟩ : ∃ f, o = ea f := ⟨un o, (ea_un o).symm⟩
  obtain ⟨w, rfl⟩ : ∃ f, w = ea3 f := ⟨un3 w, (ea3_un w).symm⟩
  rw [h_g, h_dm, h_o, h_u, h_w]
  exact congrArg ea (congrArg wide (funext fun k => funext fun i => funext fun j => mul_comm _ _))

theorem c_4 (x : FVec Ideal S16384x1024 .f32) (a b d : FVec Ideal S16384x512 .bf16) (g : FVec Ideal S16384x3072 .bf16) (w : FVec Ideal S3x512x1024 .f32) (o : FVec Ideal S1024x1024 .f32) : (truncf .bf16 (v_s0 (v_dy (v_u (v_g g) (v_o (v_dm x o))) w)) bitsLt_bf16_f32 : FVec Ideal S16384x512 .bf16) = ea (dyE (un x) (un g) (un3 w) (un o) 0) := by
  obtain ⟨x, rfl⟩ : ∃ f, x = ea f := ⟨un x, (ea_un x).symm⟩
  obtain ⟨a, rfl⟩ : ∃ f, a = ea f := ⟨un a, (ea_un a).symm⟩
  obtain ⟨b, rfl⟩ : ∃ f, b = ea f := ⟨un b, (ea_un b).symm⟩
  obtain ⟨d, rfl⟩ : ∃ f, d = ea f := ⟨un d, (ea_un d).symm⟩
  obtain ⟨g, rfl⟩ : ∃ f, g = ea f := ⟨un g, (ea_un g).symm⟩
  obtain ⟨o, rfl⟩ : ∃ f, o = ea f := ⟨un o, (ea_un o).symm⟩
  obtain ⟨w, rfl⟩ : ∃ f, w = ea3 f := ⟨un3 w, (ea3_un w).symm⟩
  rw [h_g, h_dm, h_o, h_u, h_dy, h_dyE, h_s0]
  funext q; rfl

theorem c_5 (x : FVec Ideal S16384x1024 .f32) (a b d : FVec Ideal S16384x512 .bf16) (g : FVec Ideal S16384x3072 .bf16) (w : FVec Ideal S3x512x1024 .f32) (o : FVec Ideal S1024x1024 .f32) : (truncf .bf16 (v_s1 (v_dy (v_u (v_g g) (v_o (v_dm x o))) w)) bitsLt_bf16_f32 : FVec Ideal S16384x512 .bf16) = ea (dyE (un x) (un g) (un3 w) (un o) 1) := by
  obtain ⟨x, rfl⟩ : ∃ f, x = ea f := ⟨un x, (ea_un x).symm⟩
  obtain ⟨a, rfl⟩ : ∃ f, a = ea f := ⟨un a, (ea_un a).symm⟩
  obtain ⟨b, rfl⟩ : ∃ f, b = ea f := ⟨un b, (ea_un b).symm⟩
  obtain ⟨d, rfl⟩ : ∃ f, d = ea f := ⟨un d, (ea_un d).symm⟩
  obtain ⟨g, rfl⟩ : ∃ f, g = ea f := ⟨un g, (ea_un g).symm⟩
  obtain ⟨o, rfl⟩ : ∃ f, o = ea f := ⟨un o, (ea_un o).symm⟩
  obtain ⟨w, rfl⟩ : ∃ f, w = ea3 f := ⟨un3 w, (ea3_un w).symm⟩
  rw [h_g, h_dm, h_o, h_u, h_dy, h_dyE, h_s1]
  funext q; rfl

theorem c_6 (x : FVec Ideal S16384x1024 .f32) (a b d : FVec Ideal S16384x512 .bf16) (g : FVec Ideal S16384x3072 .bf16) (w : FVec Ideal S3x512x1024 .f32) (o : FVec Ideal S1024x1024 .f32) : (truncf .bf16 (v_s2 (v_dy (v_u (v_g g) (v_o (v_dm x o))) w)) bitsLt_bf16_f32 : FVec Ideal S16384x512 .bf16) = ea (dyE (un x) (un g) (un3 w) (un o) 2) := by
  obtain ⟨x, rfl⟩ : ∃ f, x = ea f := ⟨un x, (ea_un x).symm⟩
  obtain ⟨a, rfl⟩ : ∃ f, a = ea f := ⟨un a, (ea_un a).symm⟩
  obtain ⟨b, rfl⟩ : ∃ f, b = ea f := ⟨un b, (ea_un b).symm⟩
  obtain ⟨d, rfl⟩ : ∃ f, d = ea f := ⟨un d, (ea_un d).symm⟩
  obtain ⟨g, rfl⟩ : ∃ f, g = ea f := ⟨un g, (ea_un g).symm⟩
  obtain ⟨o, rfl⟩ : ∃ f, o = ea f := ⟨un o, (ea_un o).symm⟩
  obtain ⟨w, rfl⟩ : ∃ f, w = ea3 f := ⟨un3 w, (ea3_un w).symm⟩
  rw [h_g, h_dm, h_o, h_u, h_dy, h_dyE, h_s2]
  funext q; rfl

theorem c_7 (x : FVec Ideal S16384x1024 .f32) (a b d : FVec Ideal S16384x512 .bf16) (g : FVec Ideal S16384x3072 .bf16) (w : FVec Ideal S3x512x1024 .f32) (o : FVec Ideal S1024x1024 .f32) : (v_p (v_t (v_s2 (v_dy (v_u (v_g g) (v_o (v_dm x o))) w)) d) : FVec Ideal S16384x128 .f32) = ea (dltE fun i j => dyE (un x) (un g) (un3 w) (un o) 2 i j * un d i j) := by
  obtain ⟨x, rfl⟩ : ∃ f, x = ea f := ⟨un x, (ea_un x).symm⟩
  obtain ⟨a, rfl⟩ : ∃ f, a = ea f := ⟨un a, (ea_un a).symm⟩
  obtain ⟨b, rfl⟩ : ∃ f, b = ea f := ⟨un b, (ea_un b).symm⟩
  obtain ⟨d, rfl⟩ : ∃ f, d = ea f := ⟨un d, (ea_un d).symm⟩
  obtain ⟨g, rfl⟩ : ∃ f, g = ea f := ⟨un g, (ea_un g).symm⟩
  obtain ⟨o, rfl⟩ : ∃ f, o = ea f := ⟨un o, (ea_un o).symm⟩
  obtain ⟨w, rfl⟩ : ∃ f, w = ea3 f := ⟨un3 w, (ea3_un w).symm⟩
  rw [h_g, h_dm, h_o, h_u, h_dy, h_dyE, h_s2, h_t, h_p]
  rfl

theorem run : θ_run (defs (F := Ideal)) (onTc (τ := τ) (main (F := Ideal))) ⟨m, fun _ => 0, ρ⟩ (fun r => ∀ c : Dev nD,
      rd r.2.mem c main_v41 = (ea (mgE (un (rd m c main_arg1)) (un (rd m c main_arg2)) (un (rd m c main_arg3)) (un (rd m c main_arg4)) (un3 (rd m c main_arg5))) : FVec Ideal S16384x1024 .bf16)
      ∧ rd r.2.mem c main_v42 = (ea ((un (rd m c main_arg0))) : FVec Ideal S16384x1024 .bf16)
      ∧ rd r.2.mem c main_v43 = (ea (wide (dglE (un (rd m c main_arg0)) (pick3 (un (rd m c main_arg1)) (un (rd m c main_arg2)) (un (rd m c main_arg3))) (un (rd m c main_arg4)) (un3 (rd m c main_arg5)) (un (rd m c main_arg6)))) : FVec Ideal S16384x3072 .bf16)
      ∧ rd r.2.mem c main_v45 = (ea (wide (dbrE (un (rd m c main_arg0)) (un (rd m c main_arg4)) (un (rd m c main_arg6)))) : FVec Ideal S16384x3072 .bf16)
      ∧ rd r.2.mem c main_v46 = (ea (dyE (un (rd m c main_arg0)) (un (rd m c main_arg4)) (un3 (rd m c main_arg5)) (un (rd m c main_arg6)) 0) : FVec Ideal S16384x512 .bf16)
      ∧ rd r.2.mem c main_v47 = (ea (dyE (un (rd m c main_arg0)) (un (rd m c main_arg4)) (un3 (rd m c main_arg5)) (un (rd m c main_arg6)) 1) : FVec Ideal S16384x512 .bf16)
      ∧ rd r.2.mem c main_v48 = (ea (dyE (un (rd m c main_arg0)) (un (rd m c main_arg4)) (un3 (rd m c main_arg5)) (un (rd m c main_arg6)) 2) : FVec Ideal S16384x512 .bf16)
      ∧ rd r.2.mem c main_v49 = (ea (dltE (fun i j => dyE (un (rd m c main_arg0)) (un (rd m c main_arg4)) (un3 (rd m c main_arg5)) (un (rd m c main_arg6)) 2 i j * (un (rd m c main_arg3)) i j)) : FVec Ideal S16384x128 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6) := by
  refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.MergeBwdRefIdeal.Value.run m ρ)
  · exact c_0 (rd m c main_arg0) (rd m c main_arg1) (rd m c main_arg2) (rd m c main_arg3) (rd m c main_arg4) (rd m c main_arg5) (rd m c main_arg6)
  · exact c_1 (rd m c main_arg0) (rd m c main_arg1) (rd m c main_arg2) (rd m c main_arg3) (rd m c main_arg4) (rd m c main_arg5) (rd m c main_arg6)
  · exact c_2 (rd m c main_arg0) (rd m c main_arg1) (rd m c main_arg2) (rd m c main_arg3) (rd m c main_arg4) (rd m c main_arg5) (rd m c main_arg6)
  · exact c_3 (rd m c main_arg0) (rd m c main_arg1) (rd m c main_arg2) (rd m c main_arg3) (rd m c main_arg4) (rd m c main_arg5) (rd m c main_arg6)
  · exact c_4 (rd m c main_arg0) (rd m c main_arg1) (rd m c main_arg2) (rd m c main_arg3) (rd m c main_arg4) (rd m c main_arg5) (rd m c main_arg6)
  · exact c_5 (rd m c main_arg0) (rd m c main_arg1) (rd m c main_arg2) (rd m c main_arg3) (rd m c main_arg4) (rd m c main_arg5) (rd m c main_arg6)
  · exact c_6 (rd m c main_arg0) (rd m c main_arg1) (rd m c main_arg2) (rd m c main_arg3) (rd m c main_arg4) (rd m c main_arg5) (rd m c main_arg6)
  · exact c_7 (rd m c main_arg0) (rd m c main_arg1) (rd m c main_arg2) (rd m c main_arg3) (rd m c main_arg4) (rd m c main_arg5) (rd m c main_arg6)
end Cert.Proof.MbRef
end
-- ==== Proof.MbPre.lean ====
/- The precondition of the merge's gradient: every entry of the arguments is a real number. -/
module
public import proofs.«01_k».proof.Proof.Gen.Pre_finite_mb
public import proofs.«01_k».proof.Proof.Kit
public import proofs.«01_k».proof.Proof.MbEq
public import Idealize.ShloMosaic.Lib.ReduceAll
@[expose] public section
noncomputable section
namespace Cert.Proof.MbPre
open Cert.Pre_finite_mb Cert.Pre_finite_mb.Gen Idealize.ShloMosaic MbEq

theorem finite_of (A0 : FVec Ideal S16384x1024 .f32) (A1 : FVec Ideal S16384x512 .bf16) (A2 : FVec Ideal S16384x512 .bf16) (A3 : FVec Ideal S16384x512 .bf16) (A4 : FVec Ideal S16384x3072 .bf16) (A5 : FVec Ideal S3x512x1024 .f32) (A6 : FVec Ideal S1024x1024 .f32)
    (h : Cert.Pre_finite_mb.fn (F := Ideal) A0 A1 A2 A3 A4 A5 A6 = fun _ => 1#1) :
    (∀ i j, isR (un A0 i j)) ∧ (∀ i j, isR (un A3 i j)) ∧ (∀ i j, isR (un A4 i j)) ∧ (∀ k i j, isR (un3 A5 k i j)) ∧ (∀ i j, isR (un A6 i j)) := by
  have h := congrFun h ix0
  dsimp only [fn, fn_part1, fn_part2] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have key : ∀ a : EReal, max a (-a) < ⊤ → isR a := fun a ha => ⟨a.toReal, (toReal_of_abs_lt ha).symm⟩
  refine ⟨fun i j => ?_, fun i j => ?_, fun i j => ?_, fun k i j => ?_, fun i j => ?_⟩
  · refine key _ ?_; rw [← lit_top]; exact lt_of_bit (Host.reduce_andi_all _ _ _ _ _ h0 (ix2 i j))
  · refine key _ ?_; rw [← lit_top]; exact lt_of_bit (Host.reduce_andi_all _ _ _ _ _ h3 (ix2 i j))
  · refine key _ ?_; rw [← lit_top]; exact lt_of_bit (Host.reduce_andi_all _ _ _ _ _ h4 (ix2 i j))
  · refine key _ ?_; rw [← lit_top]; exact lt_of_bit (Host.reduce_andi_all _ _ _ _ _ h5 (ix3 k i j))
  · refine key _ ?_; rw [← lit_top]; exact lt_of_bit (Host.reduce_andi_all _ _ _ _ _ h6 (ix2 i j))
end Cert.Proof.MbPre
end
-- ==== Proof.MfKer.lean ====
/- The value the merge kernel computes at a grid point, as a formula in the entries of its blocks. -/
module
public import proofs.«01_k».proof.Proof.Gen.MergeFwdIdeal.Skeleton
public import proofs.«01_k».proof.Proof.MbEq
@[expose] public section
set_option maxRecDepth 16384
noncomputable section
namespace Cert.Proof.MfKer
open Cert.MergeFwdIdeal Cert.MergeFwdIdeal.Gen Idealize.ShloMosaic Idealize.ShloMosaic.TcCoe Idealize.SL.Sem MbEq

theorem h_pay2 (g g' g'' : Fin 512 → Fin 1024 → EReal) (y y' y'' : Fin 512 → Fin 512 → EReal) (w w' w'' : Fin 1 → Fin 512 → Fin 1024 → EReal) :
    k0_pay2 (F := Ideal) (ea g) (ea y) (ea3 w) (ea g') (ea y') (ea3 w') (ea g'') (ea y'') (ea3 w'') = ea (fun i j => Ideal.logistic (g i j) * brE y (w 0) i j + Ideal.logistic (g' i j) * brE y' (w' 0) i j + Ideal.logistic (g'' i j) * brE y'' (w'' 0) i j) := by
  unfold k0_pay2
  funext q; idx_vars q
  pointwise
  try simp only [zero_add, add_zero, ea_ix, ea3_ix]
  try rfl

theorem h_pay1 (z x : Fin 512 → Fin 1024 → EReal) (o : Fin 1024 → Fin 1024 → EReal) : k0_pay1 (F := Ideal) (ea z) (ea x) (ea o) = ea (fun i l => x i l + ∑ d, z i d * o d l) := by
  unfold k0_pay1
  funext q; idx_vars q
  pointwise
  try simp only [zero_add, add_zero, ea_ix, ea3_ix]
  try rfl
end Cert.Proof.MfKer
end
-- ==== Proof.MfBlk.lean ====
/- The blocks the merge kernel reads and leaves at each grid point, the array it ends with, and its run. -/
module
public import proofs.«01_k».proof.Proof.Gen.MergeFwdIdeal.Frame
public import proofs.«01_k».proof.Proof.MfKer
public import Idealize.ShloMosaic.Lib.Pipeline.ReadBack
public import Idealize.ShloMosaic.Lib.Pipeline.ValueKit
@[expose] public section
set_option maxRecDepth 16384
noncomputable section
namespace Cert.Proof.MfBlk
open Cert.MergeFwdIdeal Cert.MergeFwdIdeal.Gen Idealize.ShloMosaic Idealize.ShloMosaic.TcCoe Idealize.SL.Sem MbEq MfKer
variable (m : (ℓ : Loc nD τ sig) → Buf (Elt Ideal) ℓ)

theorem ldg_0 (G : Fin 512 → Fin 3072 → EReal) : View.ld (Val := Elt Ideal) (e' := .bf16) (S := S512x3072) (ea G) (Rect.unit (s := S512x3072) ![0, 0] ![512, 1024] inb_S512x3072_S512x1024_0_0) = ea (fun i d => G i (gc 0 d)) := by
  funext q; idx_vars q
  pointwise
  refine congrArg (G q0) (Fin.ext ?_)
  show _ = 0 * 1024 + q1.val
  simp [Rect.unit]
theorem ldw_0 (w : Fin 3 → Fin 512 → Fin 1024 → EReal) : View.ld (Val := Elt Ideal) (e' := .bf16) (S := S3x512x1024) (ea3 w) (Rect.unit (s := S3x512x1024) ![0, 0, 0] ![1, 512, 1024] inb_S3x512x1024_S1x512x1024_0_0_0) = ea3 (fun (_ : Fin 1) i j => w 0 i j) := by
  funext q; idx_vars q
  have hq : q0 = 0 := Subsingleton.elim _ _
  subst hq
  pointwise
  rfl

theorem ldg_1 (G : Fin 512 → Fin 3072 → EReal) : View.ld (Val := Elt Ideal) (e' := .bf16) (S := S512x3072) (ea G) (Rect.unit (s := S512x3072) ![0, 1024] ![512, 1024] inb_S512x3072_S512x1024_0_1024) = ea (fun i d => G i (gc 1 d)) := by
  funext q; idx_vars q
  pointwise
  refine congrArg (G q0) (Fin.ext ?_)
  show _ = 1 * 1024 + q1.val
  simp [Rect.unit]
theorem ldw_1 (w : Fin 3 → Fin 512 → Fin 1024 → EReal) : View.ld (Val := Elt Ideal) (e' := .bf16) (S := S3x512x1024) (ea3 w) (Rect.unit (s := S3x512x1024) ![1, 0, 0] ![1, 512, 1024] inb_S3x512x1024_S1x512x1024_1_0_0) = ea3 (fun (_ : Fin 1) i j => w 1 i j) := by
  funext q; idx_vars q
  have hq : q0 = 0 := Subsingleton.elim _ _
  subst hq
  pointwise
  rfl

theorem ldg_2 (G : Fin 512 → Fin 3072 → EReal) : View.ld (Val := Elt Ideal) (e' := .bf16) (S := S512x3072) (ea G) (Rect.unit (s := S512x3072) ![0, 2048] ![512, 1024] inb_S512x3072_S512x1024_0_2048) = ea (fun i d => G i (gc 2 d)) := by
  funext q; idx_vars q
  pointwise
  refine congrArg (G q0) (Fin.ext ?_)
  show _ = 2 * 1024 + q1.val
  simp [Rect.unit]
theorem ldw_2 (w : Fin 3 → Fin 512 → Fin 1024 → EReal) : View.ld (Val := Elt Ideal) (e' := .bf16) (S := S3x512x1024) (ea3 w) (Rect.unit (s := S3x512x1024) ![2, 0, 0] ![1, 512, 1024] inb_S3x512x1024_S1x512x1024_2_0_0) = ea3 (fun (_ : Fin 1) i j => w 2 i j) := by
  funext q; idx_vars q
  have hq : q0 = 0 := Subsingleton.elim _ _
  subst hq
  pointwise
  rfl

theorem ld_o (w : Fin 1024 → Fin 1024 → EReal) : View.ld (Val := Elt Ideal) (e' := .bf16) (S := S1024x1024) (ea w) (Rect.unit (s := S1024x1024) ![0, 0] ![1024, 1024] inb_S1024x1024_S1024x1024_0_0) = ea w := by
  funext q; idx_vars q
  pointwise
  try rfl

theorem canon_fill3 (X : FVec Ideal S3x512x1024 .bf16) : View.canon (Val := Elt Ideal) (e := .bf16) [⟨Rect.whole S3x512x1024, X⟩] = X := by
  funext q
  canon_tiles q h
  refine congrArg X ?_
  funext a
  fin_cases a
  · exact Fin.ext h0.symm
  · exact Fin.ext h1.symm
  · exact Fin.ext h2.symm
theorem cov_whole3 (v : View sig .tc .vmem S3x512x1024 .bf16) (X : FVec Ideal S3x512x1024 .bf16) (r : Rect S3x512x1024) :
    v.readCov (Val := Elt Ideal) [⟨Rect.whole S3x512x1024, X⟩] r.toLoadRect = View.ld X r := by
  rw [View.readCov_eq_canon_ld]
  · rw [canon_fill3]
  · intro y; exact ⟨_, List.mem_singleton_self _, by rw [Rect.set_whole]; exact Finset.mem_univ y⟩

theorem canon_fill2 (X : FVec Ideal S1024x1024 .bf16) : View.canon (Val := Elt Ideal) (e := .bf16) [⟨Rect.whole S1024x1024, X⟩] = X := by
  funext q
  canon_tiles q h
  refine congrArg X ?_
  funext a
  fin_cases a
  · exact Fin.ext h0.symm
  · exact Fin.ext h1.symm
theorem cov_whole2 (v : View sig .tc .vmem S1024x1024 .bf16) (X : FVec Ideal S1024x1024 .bf16) (r : Rect S1024x1024) :
    v.readCov (Val := Elt Ideal) [⟨Rect.whole S1024x1024, X⟩] r.toLoadRect = View.ld X r := by
  rw [View.readCov_eq_canon_ld]
  · rw [canon_fill2]
  · intro y; exact ⟨_, List.mem_singleton_self _, by rw [Rect.set_whole]; exact Finset.mem_univ y⟩

theorem sc0 (c : Dev nD) (n : ℕ) : ∀ hn : n < cfg0.N, (outsAt0 m c n hn).2.1 = V m c main_v0 := by
  induction n with
  | zero =>
    intro hn
    rw [outsAt0_A m c ⟨0, hn⟩ rfl]
    funext q
    frame_out
    exact congrFun (canon_fill3 (V m c main_v0)) q
  | succ n ih =>
    intro hn
    have h0 : ¬ (n + 1) % 32 = 0 := by have := lt_of_lt_of_eq hn (show cfg0.N = 32 from N_0); omega
    have e : ∀ k (hk : k < cfg0.N), k = n → (outsAt0 m c k hk).2.1 = V m c main_v0 := by rintro k hk rfl; exact ih hk
    rw [outsAt0_B m c ⟨n + 1, hn⟩ h0]
    funext q
    frame_out
    unfold sout0_B_0
    exact congrFun (e _ _ rfl) q

theorem sc1 (c : Dev nD) (n : ℕ) : ∀ hn : n < cfg0.N, (outsAt0 m c n hn).2.2 = V m c main_v1 := by
  induction n with
  | zero =>
    intro hn
    rw [outsAt0_A m c ⟨0, hn⟩ rfl]
    funext q
    frame_out
    exact congrFun (canon_fill2 (V m c main_v1)) q
  | succ n ih =>
    intro hn
    have h0 : ¬ (n + 1) % 32 = 0 := by have := lt_of_lt_of_eq hn (show cfg0.N = 32 from N_0); omega
    have e : ∀ k (hk : k < cfg0.N), k = n → (outsAt0 m c k hk).2.2 = V m c main_v1 := by rintro k hk rfl; exact ih hk
    rw [outsAt0_B m c ⟨n + 1, hn⟩ h0]
    funext q
    frame_out
    unfold sout0_B_1
    exact congrFun (e _ _ rfl) q

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] :=
  (by decide +kernel : ∀ t : Fin grid0.N, _)

def row (t : Fin cfg0.N) (p : Fin 512) : Fin 16384 := ⟨t.val * 512 + p.val, by have := lt_of_lt_of_eq t.isLt (show cfg0.N = 32 from N_0); omega⟩

theorem b0 (c : Dev nD) (t : Fin cfg0.N) (x : Fin 16384 → Fin 1024 → EReal) (h : V m c main_arg0 = (ea x : FVec Ideal S16384x1024 .f32)) :
    iblk m c 0 t = (ea (fun p l => x (row t p) l) : FVec Ideal S512x1024 .f32) := by
  funext q
  idx_vars q
  refine Eq.trans (b := V m c main_arg0 (ix2 (row t q0) q1)) ?_ (by rw [h]; rfl)
  blk_ext [iblk, idx t]
  rfl

theorem b1 (c : Dev nD) (t : Fin cfg0.N) (x : Fin 16384 → Fin 512 → EReal) (h : V m c main_arg1 = (ea x : FVec Ideal S16384x512 .bf16)) :
    iblk m c 1 t = (ea (fun p l => x (row t p) l) : FVec Ideal S512x512 .bf16) := by
  funext q
  idx_vars q
  refine Eq.trans (b := V m c main_arg1 (ix2 (row t q0) q1)) ?_ (by rw [h]; rfl)
  blk_ext [iblk, idx t]
  rfl

theorem b2 (c : Dev nD) (t : Fin cfg0.N) (x : Fin 16384 → Fin 512 → EReal) (h : V m c main_arg2 = (ea x : FVec Ideal S16384x512 .bf16)) :
    iblk m c 2 t = (ea (fun p l => x (row t p) l) : FVec Ideal S512x512 .bf16) := by
  funext q
  idx_vars q
  refine Eq.trans (b := V m c main_arg2 (ix2 (row t q0) q1)) ?_ (by rw [h]; rfl)
  blk_ext [iblk, idx t]
  rfl

theorem b3 (c : Dev nD) (t : Fin cfg0.N) (x : Fin 16384 → Fin 512 → EReal) (h : V m c main_arg3 = (ea x : FVec Ideal S16384x512 .bf16)) :
    iblk m c 3 t = (ea (fun p l => x (row t p) l) : FVec Ideal S512x512 .bf16) := by
  funext q
  idx_vars q
  refine Eq.trans (b := V m c main_arg3 (ix2 (row t q0) q1)) ?_ (by rw [h]; rfl)
  blk_ext [iblk, idx t]
  rfl

theorem b4 (c : Dev nD) (t : Fin cfg0.N) (x : Fin 16384 → Fin 3072 → EReal) (h : V m c main_arg4 = (ea x : FVec Ideal S16384x3072 .bf16)) :
    iblk m c 4 t = (ea (fun p l => x (row t p) l) : FVec Ideal S512x3072 .bf16) := by
  funext q
  idx_vars q
  refine Eq.trans (b := V m c main_arg4 (ix2 (row t q0) q1)) ?_ (by rw [h]; rfl)
  blk_ext [iblk, idx t]
  rfl

structure Entry (c : Dev nD) (x : Fin 16384 → Fin 1024 → EReal) (a b d : Fin 16384 → Fin 512 → EReal) (g : Fin 16384 → Fin 3072 → EReal) (w : Fin 3 → Fin 512 → Fin 1024 → EReal) (o : Fin 1024 → Fin 1024 → EReal) : Prop where
  x : V m c main_arg0 = (ea x : FVec Ideal S16384x1024 .f32)
  a : V m c main_arg1 = (ea a : FVec Ideal S16384x512 .bf16)
  b : V m c main_arg2 = (ea b : FVec Ideal S16384x512 .bf16)
  d : V m c main_arg3 = (ea d : FVec Ideal S16384x512 .bf16)
  g : V m c main_arg4 = (ea g : FVec Ideal S16384x3072 .bf16)
  w : V m c main_v0 = (ea3 w : FVec Ideal S3x512x1024 .bf16)
  o : V m c main_v1 = (ea o : FVec Ideal S1024x1024 .bf16)

variable {m} {c : Dev nD} {x : Fin 16384 → Fin 1024 → EReal} {a b d : Fin 16384 → Fin 512 → EReal} {g : Fin 16384 → Fin 3072 → EReal} {w : Fin 3 → Fin 512 → Fin 1024 → EReal} {o : Fin 1024 → Fin 1024 → EReal}
  (h : Entry m c x a b d g w o) (t : Fin cfg0.N)
include h

theorem o5 : (outsAt0 m c t.val t.isLt).1 = (ea (fun p l => (xoE x a b d g w o) (row t p) l) : FVec Ideal S512x1024 .f32) := by
  funext q
  by_cases h0 : t.val % 32 = 0 <;> [rw [outsAt0_A m c t h0]; rw [outsAt0_B m c t h0]]
  all_goals
    frame_out
    try simp only [read_unread_whole]
    simp only [b0 m c t x h.x, b1 m c t a h.a, b2 m c t b h.b, b3 m c t d h.d, b4 m c t g h.g, View.read_whole, ReadAs.apply_same, cov_whole3, cov_whole2, sc0, sc1, h.w, h.o,
      ldg_0, ldg_1, ldg_2, ldw_0, ldw_1, ldw_2, ld_o, h_pay1, h_pay2]
    try rfl

omit t

theorem f5 : (dats m 0 c).arrAt 5 cfg0.N = (ea (xoE x a b d g w o) : FVec Ideal S16384x1024 .f32) := by
  refine (dats m 0 c).arrAt_eq_of_covers 5 _ (by decide +kernel) fun t hf y => ?_
  blk_simp
  rw [after0_5]
  refine (congrFun (o5 h t) _).trans ?_
  refine ea_at _ _ _ _ (congrArg₂ (xoE x a b d g w o) (Fin.ext ?_) (Fin.ext ?_)) <;> blk_simp [idx t, row]

omit h
theorem entry (m : (ℓ : Loc nD τ sig) → Buf (Elt Ideal) ℓ) (c : Dev nD) :
    Entry m c (un (rd m c main_arg0)) (un (rd m c main_arg1)) (un (rd m c main_arg2)) (un (rd m c main_arg3)) (un (rd m c main_arg4)) (un3 (rd m c main_arg5)) (un (rd m c main_arg6)) := by
  constructor
  · entry_read; exact (ea_un _).symm
  · entry_read; exact (ea_un _).symm
  · entry_read; exact (ea_un _).symm
  · entry_read; exact (ea_un _).symm
  · entry_read; exact (ea_un _).symm
  · entry_read; exact (ea3_un _).symm
  · entry_read; exact (ea_un _).symm

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      rd r.2.mem c main_v2 = (ea (xoE (un (rd m c main_arg0)) (un (rd m c main_arg1)) (un (rd m c main_arg2)) (un (rd m c main_arg3)) (un (rd m c main_arg4)) (un3 (rd m c main_arg5)) (un (rd m c main_arg6))) : FVec Ideal S16384x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6) := by
  refine (θ_run defs _ _).mono (fun r h c => ?_) (θ_run_and (run_main m ρ) (unchanged m ρ))
  have E := entry m c
  exact ⟨((h.1 c).1 5).trans (f5 E), h.2 c⟩
end Cert.Proof.MfBlk
end
-- ==== Proof.MfRef.lean ====
/- The merge reference read operation by operation, as formulas in the arguments' entries. -/
module
public import proofs.«01_k».proof.Proof.Gen.MergeFwdRefIdeal.Run
public import proofs.«01_k».proof.Proof.MbEq
public import Idealize.ShloMosaic.Adequacy
@[expose] public section
set_option maxRecDepth 16384
noncomputable section
namespace Cert.Proof.MfRef
open Cert.MergeFwdRefIdeal Cert.MergeFwdRefIdeal.Gen Idealize.ShloMosaic Idealize.ShloMosaic.TcCoe Idealize.SL.Sem MbEq

def v_g (g : FVec Ideal S16384x3072 .bf16) : FVec Ideal S16384x3x1024 .f32 :=
  Host.divf (broadcastInDim S16384x3x1024 ![] bcast_S_S16384x3x1024 (constant S_ .f32 0x3F800000#32)) (addf (broadcastInDim S16384x3x1024 ![] bcast_S_S16384x3x1024 (constant S_ .f32 0x3F800000#32)) (Host.exp (Host.negf (shapeCast _ (extf .f32 g bitsLt_bf16_f32) shapeCasts_S16384x3072_S16384x3x1024))))
theorem h_g (g : Fin 16384 → Fin 3072 → EReal) : v_g (ea g) = ea3 fun i k d => gateE g k i d := by
  unfold v_g
  funext q; idx_vars q
  pointwise
  rfl

def v_y (a b d : FVec Ideal S16384x512 .bf16) : FVec Ideal S16384x3x512 .f32 :=
  concatenate S16384x3x512 1 [⟨S16384x1x512, ((broadcastInDim S16384x1x512 ![0, 2] bcast_S16384x512_S16384x1x512_0_2 (extf .f32 a bitsLt_bf16_f32)) : (⟨S16384x1x512, .f32⟩ : BufTy).Contents (Elt Ideal))⟩, ⟨S16384x1x512, ((broadcastInDim S16384x1x512 ![0, 2] bcast_S16384x512_S16384x1x512_0_2 (extf .f32 b bitsLt_bf16_f32)) : (⟨S16384x1x512, .f32⟩ : BufTy).Contents (Elt Ideal))⟩, ⟨S16384x1x512, ((broadcastInDim S16384x1x512 ![0, 2] bcast_S16384x512_S16384x1x512_0_2 (extf .f32 d bitsLt_bf16_f32)) : (⟨S16384x1x512, .f32⟩ : BufTy).Contents (Elt Ideal))⟩] concatenates_S16384x1x512_S16384x1x512_S16384x1x512_S16384x3x512_d1
theorem h_y (a b d : Fin 16384 → Fin 512 → EReal) : v_y (ea a) (ea b) (ea d) = ea3 fun i k c => pick3 a b d k i c := by
  unfold v_y
  funext q; idx_vars q
  fin_cases q1
  · pointwise
    rfl
  · pointwise
    rfl
  · pointwise
    rfl

def v_b (w : FVec Ideal S3x512x1024 .f32) (y : FVec Ideal S16384x3x512 .f32) : FVec Ideal S16384x3x1024 .f32 :=
  transpose S16384x3x1024 [2, 0, 1] (Host.dotGeneral dot_S3x512x1024_S16384x3x512_S3x1024x16384_1_2_2_0_0_1 none w y) transposes_S3x1024x16384_S16384x3x1024_2_0_1
theorem h_b (w : Fin 3 → Fin 512 → Fin 1024 → EReal) (y : Fin 3 → Fin 16384 → Fin 512 → EReal) : v_b (ea3 w) (ea3 fun i k c => y k i c) = ea3 fun i k d => brE (y k) (w k) i d := by
  unfold v_b
  funext q; idx_vars q
  pointwise
  simp only [ea3_ix]
  unfold brE
  exact Finset.sum_congr rfl fun _ _ => mul_comm _ _

def v_m (g b : FVec Ideal S16384x3x1024 .f32) : FVec Ideal S16384x1024 .f32 :=
  Host.reduceAdd (mulf g b) (constant S_ .f32 0x00000000#32) reducesTo_S16384x3x1024_S16384x1024_d1 h_S_
theorem h_m (g b : Fin 16384 → Fin 3 → Fin 1024 → EReal) : v_m (ea3 g) (ea3 b) = ea fun i d => g i 0 d * b i 0 d + g i 1 d * b i 1 d + g i 2 d * b i 2 d := by
  unfold v_m
  funext q; idx_vars q
  pointwise
  simp only [zero_add, ea3_ix]
  exact Fin.sum_univ_three _

variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6) ∧ r.2.sem = fun _ => 0) :=
  (θ_run defs _ _).mono (fun r h => ⟨fun c => (h c).2, sem_eq_zero_of_no_sems (by decide) r.2⟩) (Cert.MergeFwdRefIdeal.Value.run m ρ)

theorem c_0 (x : FVec Ideal S16384x1024 .f32) (a b d : FVec Ideal S16384x512 .bf16) (g : FVec Ideal S16384x3072 .bf16) (w : FVec Ideal S3x512x1024 .f32) (o : FVec Ideal S1024x1024 .f32) : (addf x (Host.dotGeneral dot_S16384x1024_S1024x1024_S16384x1024_1_0_0_1_n_n none (v_m (v_g g) (v_b w (v_y a b d))) o) : FVec Ideal S16384x1024 .f32) = ea (xoE (un x) (un a) (un b) (un d) (un g) (un3 w) (un o)) := by
  obtain ⟨x, rfl⟩ : ∃ f, x = ea f := ⟨un x, (ea_un x).symm⟩
  obtain ⟨a, rfl⟩ : ∃ f, a = ea f := ⟨un a, (ea_un a).symm⟩
  obtain ⟨b, rfl⟩ : ∃ f, b = ea f := ⟨un b, (ea_un b).symm⟩
  obtain ⟨d, rfl⟩ : ∃ f, d = ea f := ⟨un d, (ea_un d).symm⟩
  obtain ⟨g, rfl⟩ : ∃ f, g = ea f := ⟨un g, (ea_un g).symm⟩
  obtain ⟨o, rfl⟩ : ∃ f, o = ea f := ⟨un o, (ea_un o).symm⟩
  obtain ⟨w, rfl⟩ : ∃ f, w = ea3 f := ⟨un3 w, (ea3_un w).symm⟩
  rw [h_g, h_y, h_b, h_m]
  funext q; idx_vars q
  pointwise
  rfl

theorem run : θ_run (defs (F := Ideal)) (onTc (τ := τ) (main (F := Ideal))) ⟨m, fun _ => 0, ρ⟩ (fun r => ∀ c : Dev nD,
      rd r.2.mem c main_v20 = (ea (xoE (un (rd m c main_arg0)) (un (rd m c main_arg1)) (un (rd m c main_arg2)) (un (rd m c main_arg3)) (un (rd m c main_arg4)) (un3 (rd m c main_arg5)) (un (rd m c main_arg6))) : FVec Ideal S16384x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5
      ∧ rd r.2.mem c main_arg6 = rd m c main_arg6) := by
  refine (θ_run defs _ _).mono (fun r h c => ⟨(h c).1.trans ?_, (h c).2⟩) (Cert.MergeFwdRefIdeal.Value.run m ρ)
  · exact c_0 (rd m c main_arg0) (rd m c main_arg1) (rd m c main_arg2) (rd m c main_arg3) (rd m c main_arg4) (rd m c main_arg5) (rd m c main_arg6)
end Cert.Proof.MfRef
end
-- ==== Proof.XfEq.lean ====
/- The cross attention on rows of extended reals, as formulas in the entries: one head's softmax and output, and the heads side by side. -/
module
public import proofs.«01_k».proof.Proof.MbEq
public import proofs.«01_k».proof.Proof.XaIn
@[expose] public section
noncomputable section
namespace Cert.Proof.XfEq
open Idealize.ShloMosaic XaEq XaIn

/-- The scores' factor, one over the root of the head's width. -/
def sx : EReal := Ideal.ofBits .f32 0x3D800000#32
/-- One head's scores of a row against the memory's rows. -/
def scE (q : Fin 256 → EReal) (kt : Fin 256 → Fin 256 → EReal) (j : Fin 256) : EReal := ∑ u, q u * kt j u
/-- The greatest of a row's scores. -/
def mxE (t : Fin 256 → EReal) : EReal := Finset.univ.fold max (Ideal.ofBits .f32 0xFF800000#32) t
/-- A row's exponentials. -/
def exE (s : Fin 256 → EReal) (j : Fin 256) : EReal := Ideal.exp (s j * sx - mxE fun k => s k * sx)
/-- A row's softmax. -/
def prE (s : Fin 256 → EReal) (j : Fin 256) : EReal := Ideal.div (exE s j) (∑ k, exE s k)
/-- A row of weights' sum of the memory's rows. -/
def mixE (w : Fin 256 → EReal) (t : Fin 256 → Fin 256 → EReal) (u : Fin 256) : EReal := ∑ j, w j * t j u
/-- Some columns of a row. -/
def cutE (c : Fin 256 → Fin 1024) (r : Fin 1024 → EReal) (u : Fin 256) : EReal := r (c u)
/-- The same columns of the memory. -/
def tileE (c : Fin 256 → Fin 1024) (K : Fin 256 → Fin 1024 → EReal) (j u : Fin 256) : EReal := K j (c u)
/-- The normalised rows' products with a weight. -/
def hqE {n : ℕ} (x : Fin n → Fin 1024 → EReal) (g : Fin 1 → Fin 1024 → EReal) (w : Fin 1024 → Fin 1024 → EReal) (i : Fin n) (l : Fin 1024) : EReal :=
  ∑ k, x i k * nrm (x i) * g 0 k * w k l
/-- One head's output. -/
def hdE (Q : Fin 1024 → EReal) (K V : Fin 256 → Fin 1024 → EReal) (c : Fin 256 → Fin 1024) : Fin 256 → EReal :=
  mixE (prE (scE (cutE c Q) (tileE c K))) (tileE c V)
/-- The heads' outputs side by side. -/
def oE (Q : Fin 1024 → EReal) (K V : Fin 256 → Fin 1024 → EReal) (l : Fin 1024) : EReal := hdE Q K V (hc l) (lo l)
/-- The block's result: the input plus the heads' outputs times the output's weight. -/
def xfE {n : ℕ} (x : Fin n → Fin 1024 → EReal) (g : Fin 1 → Fin 1024 → EReal) (K V : Fin 256 → Fin 1024 → EReal) (wq wo : Fin 1024 → Fin 1024 → EReal) (i : Fin n) (l : Fin 1024) : EReal :=
  x i l + ∑ k, oE (hqE x g wq i) K V k * wo k l

/-- Four rows side by side. -/
def cat4 (a b c d : Fin 256 → EReal) (j : Fin 1024) : EReal :=
  if h : j.val < 256 then a ⟨j.val, by omega⟩
  else if h : j.val - 256 < 256 then b ⟨j.val - 256, by omega⟩
  else if h : j.val - 256 - 256 < 256 then c ⟨j.val - 256 - 256, by omega⟩
  else d ⟨j.val - 256 - 256 - 256, by omega⟩

theorem at_head (F : (Fin 256 → Fin 1024) → Fin 256 → EReal) (c c' : Fin 256 → Fin 1024) (u u' : Fin 256) (h : ∀ v, (c v).val = (c' v).val) (hu : u.val = u'.val) : F c u = F c' u' := by
  rw [show c = c' from funext fun v => Fin.ext (h v), Fin.ext hu]

theorem cat4_heads (F : (Fin 256 → Fin 1024) → Fin 256 → EReal) (l : Fin 1024) : cat4 (F c0) (F c1) (F c2) (F c3) l = F (hc l) (lo l) := by
  unfold cat4
  have hl := l.isLt
  split_ifs with h0 h1 h2
  · exact at_head F _ _ _ _ (fun v => by show v.val = l.val / 256 * 256 + v.val; omega) (by show l.val = l.val % 256; omega)
  · exact at_head F _ _ _ _ (fun v => by show 256 + v.val = l.val / 256 * 256 + v.val; omega) (by show l.val - 256 = l.val % 256; omega)
  · exact at_head F _ _ _ _ (fun v => by show 512 + v.val = l.val / 256 * 256 + v.val; omega) (by show l.val - 256 - 256 = l.val % 256; omega)
  · exact at_head F _ _ _ _ (fun v => by show 768 + v.val = l.val / 256 * 256 + v.val; omega) (by show l.val - 256 - 256 - 256 = l.val % 256; omega)
end Cert.Proof.XfEq
end
-- ==== Proof.XfKer.lean ====
/- The values the cross attention's forward kernel computes at a grid point, as formulas in the entries of its blocks. -/
module
public import proofs.«01_k».proof.Proof.Gen.XaFwdIdeal.Skeleton
public import proofs.«01_k».proof.Proof.XfEq
@[expose] public section
set_option maxRecDepth 16384
noncomputable section
namespace Cert.Proof.XfKer
open Cert.XaFwdIdeal Cert.XaFwdIdeal.Gen Idealize.ShloMosaic Idealize.ShloMosaic.TcCoe Idealize.SL.Sem XaEq XfEq

theorem h_pay2 (x : Fin 512 → Fin 1024 → EReal) (g : Fin 1 → Fin 1024 → EReal) (w : Fin 1024 → Fin 1024 → EReal) : k0_pay2 (F := Ideal) (ea x) (ea g) (ea w) = ea (hqE x g w) := by
  unfold k0_pay2
  funext q; idx_vars q
  pointwise
  try simp only [zero_add, ea_ix]
  rfl

theorem h_pay3 (x : Fin 512 → Fin 1024 → EReal) (g : Fin 1 → Fin 1024 → EReal) (w : Fin 1024 → Fin 1024 → EReal) (kt : Fin 256 → Fin 256 → EReal) :
    k0_pay3 (F := Ideal) (ea x) (ea g) (ea w) (ea kt) = ea (fun i => prE (scE (cutE c0 (hqE x g w i)) kt)) := by
  unfold k0_pay3
  rw [h_pay2]
  funext q; idx_vars q
  pointwise
  try simp only [zero_add, ea_ix]
  rfl

theorem h_pay4 (p : Fin 512 → Fin 256 → EReal) (vt : Fin 256 → Fin 256 → EReal) : k0_pay4 (F := Ideal) (ea p) (ea vt) = ea (fun i => mixE (p i) vt) := by
  unfold k0_pay4
  funext q; idx_vars q
  pointwise
  try simp only [zero_add, ea_ix]
  rfl

theorem h_pay5 (Q : Fin 512 → Fin 1024 → EReal) (kt vt : Fin 256 → Fin 256 → EReal) : k0_pay5 (F := Ideal) (ea Q) (ea kt) (ea vt) = ea (fun i => mixE (prE (scE (cutE c1 (Q i)) kt)) vt) := by
  unfold k0_pay5
  funext q; idx_vars q
  pointwise
  try simp only [zero_add, ea_ix]
  rfl

theorem h_pay6 (Q : Fin 512 → Fin 1024 → EReal) (kt vt : Fin 256 → Fin 256 → EReal) : k0_pay6 (F := Ideal) (ea Q) (ea kt) (ea vt) = ea (fun i => mixE (prE (scE (cutE c2 (Q i)) kt)) vt) := by
  unfold k0_pay6
  funext q; idx_vars q
  pointwise
  try simp only [zero_add, ea_ix]
  rfl

theorem h_pay7 (Q : Fin 512 → Fin 1024 → EReal) : k0_pay7 (F := Ideal) (ea Q) = ea (fun i => cutE c3 (Q i)) := by
  unfold k0_pay7
  funext q; idx_vars q
  pointwise
  rfl

theorem ent (F : Fin 256 → EReal) (a b : Fin 256) (h : a.val = b.val) : F a = F b := by rw [Fin.ext h]

/-- The four heads' outputs side by side. -/
theorem h_cat (a b c d : Fin 512 → Fin 256 → EReal) :
    (concatenate S512x1024 1 [⟨S512x256, (ea a : FVec Ideal S512x256 .f32)⟩, ⟨S512x256, (ea b : FVec Ideal S512x256 .f32)⟩, ⟨S512x256, (ea c : FVec Ideal S512x256 .f32)⟩, ⟨S512x256, (ea d : FVec Ideal S512x256 .f32)⟩] concatenates_S512x256_S512x256_S512x256_S512x256_S512x1024_d1 : FVec Ideal S512x1024 .f32)
      = ea fun i => cat4 (a i) (b i) (c i) (d i) := by
  funext q; idx_vars q
  pointwise
  simp only [ea_ix]
  unfold cat4
  split_ifs
  all_goals first | rfl | (exfalso; omega) | (refine ent _ _ _ ?_; dsimp only; omega) | skip

def v_last (x z : FVec Ideal S512x1024 .f32) (wo : FVec Ideal S1024x1024 .bf16) : FVec Ideal S512x1024 .f32 :=
  addf x (matmul dot_S512x1024_S1024x1024_S512x1024_1_0_0_1_n_n none (truncf .bf16 z bitsLt_bf16_f32 : FVec Ideal S512x1024 .bf16) wo (constant S512x1024 .f32 0x00000000#32))
theorem h_last (x z : Fin 512 → Fin 1024 → EReal) (wo : Fin 1024 → Fin 1024 → EReal) : v_last (ea x) (ea z) (ea wo) = ea fun i l => x i l + ∑ k, z i k * wo k l := by
  unfold v_last
  funext q; idx_vars q
  pointwise
  try simp only [zero_add, ea_ix]
  try rfl

/-- One head's scores, scaled, their exponentials, and its output. -/
def v_s (q : FVec Ideal S512x256 .bf16) (kt : FVec Ideal S256x256 .bf16) : FVec Ideal S512x256 .f32 :=
  mulf (matmul dot_S512x256_S256x256_S512x256_1_1_0_0_n_n none q (shapeCast S256x256 kt shapeCasts_S256x256_S256x256) (constant S512x256 .f32 0x00000000#32)) (broadcast S512x256 (Scalar.ofBits .f32 0x3D800000#32))
def v_e (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))
def v_p (e : FVec Ideal S512x256 .f32) : FVec Ideal S512x256 .f32 :=
  divf e (broadcastTo S512x256 (shapeCast S512x1 (multiReduction .add [1] S512 e 0x00000000#32 reduces_S512x256_S512 (.inl rfl) rfl) shapeCasts_S512_S512x1) broadcasts_S512x1_S512x256)
def v_o (p : FVec Ideal S512x256 .f32) (vt : FVec Ideal S256x256 .bf16) : FVec Ideal S512x256 .f32 :=
  matmul dot_S512x256_S256x256_S512x256_1_0_0_1_n_n none (truncf .bf16 p bitsLt_bf16_f32 : FVec Ideal S512x256 .bf16) (shapeCast S256x256 vt shapeCasts_S256x256_S256x256) (constant S512x256 .f32 0x00000000#32)

theorem h_head (q : Fin 512 → Fin 256 → EReal) (kt vt : Fin 256 → Fin 256 → EReal) :
    v_o (v_p (v_e (v_s (ea q) (ea kt)))) (ea vt) = ea fun i => mixE (prE (scE (q i) kt)) vt := by
  unfold v_o v_p v_e v_s
  funext q'; idx_vars q'
  pointwise
  try simp only [zero_add, ea_ix]
  rfl

theorem h_pay1 (x : Fin 512 → Fin 1024 → EReal) (a b c q : Fin 512 → Fin 256 → EReal) (kt vt : Fin 256 → Fin 256 → EReal) (wo : Fin 1024 → Fin 1024 → EReal) :
    k0_pay1 (F := Ideal) (ea x) (ea a) (ea b) (ea c) (ea q) (ea kt) (ea vt) (ea wo) = ea (fun i l => x i l + ∑ k, cat4 (a i) (b i) (c i) (mixE (prE (scE (q i) kt)) vt) k * wo k l) := by
  refine Eq.trans ?_ (h_last x (fun i => cat4 (a i) (b i) (c i) (mixE (prE (scE (q i) kt)) vt)) wo)
  rw [← h_cat a b c (fun i => mixE (prE (scE (q i) kt)) vt), ← h_head q kt vt]
  unfold k0_pay1
  rfl
end Cert.Proof.XfKer
end
-- ==== Proof.XfBlk.lean ====
/- The blocks the cross attention's forward kernel reads and leaves at each grid point, the array it ends with, and its run. -/
module
public import proofs.«01_k».proof.Proof.Gen.XaFwdIdeal.Frame
public import proofs.«01_k».proof.Proof.XfKer
public import Idealize.ShloMosaic.Lib.Pipeline.ReadBack
public import Idealize.ShloMosaic.Lib.Pipeline.ValueKit
@[expose] public section
set_option maxRecDepth 16384
noncomputable section
namespace Cert.Proof.XfBlk
open Cert.XaFwdIdeal Cert.XaFwdIdeal.Gen Idealize.ShloMosaic Idealize.ShloMosaic.TcCoe Idealize.SL.Sem XaEq XaIn XfEq XfKer
variable (m : (ℓ : Loc nD τ sig) → Buf (Elt Ideal) ℓ)

theorem ld_0 (K : Fin 256 → Fin 1024 → EReal) : View.ld (Val := Elt Ideal) (e' := .bf16) (S := S256x1024) (ea K) (Rect.unit (s := S256x1024) ![0, 0] ![256, 256] inb_S256x1024_S256x256_0_0) = ea (tileE c0 K) := by
  funext q; idx_vars q
  pointwise
  refine congrArg (K q0) (Fin.ext ?_)
  show _ = q1.val
  simp [Rect.unit]
theorem ld_1 (K : Fin 256 → Fin 1024 → EReal) : View.ld (Val := Elt Ideal) (e' := .bf16) (S := S256x1024) (ea K) (Rect.unit (s := S256x1024) ![0, 256] ![256, 256] inb_S256x1024_S256x256_0_256) = ea (tileE c1 K) := by
  funext q; idx_vars q
  pointwise
  refine congrArg (K q0) (Fin.ext ?_)
  show _ = 256 + q1.val
  simp [Rect.unit]
theorem ld_2 (K : Fin 256 → Fin 1024 → EReal) : View.ld (Val := Elt Ideal) (e' := .bf16) (S := S256x1024) (ea K) (Rect.unit (s := S256x1024) ![0, 512] ![256, 256] inb_S256x1024_S256x256_0_512) = ea (tileE c2 K) := by
  funext q; idx_vars q
  pointwise
  refine congrArg (K q0) (Fin.ext ?_)
  show _ = 512 + q1.val
  simp [Rect.unit]
theorem ld_3 (K : Fin 256 → Fin 1024 → EReal) : View.ld (Val := Elt Ideal) (e' := .bf16) (S := S256x1024) (ea K) (Rect.unit (s := S256x1024) ![0, 768] ![256, 256] inb_S256x1024_S256x256_0_768) = ea (tileE c3 K) := by
  funext q; idx_vars q
  pointwise
  refine congrArg (K q0) (Fin.ext ?_)
  show _ = 768 + q1.val
  simp [Rect.unit]

theorem ld_o (w : Fin 1024 → Fin 1024 → EReal) : View.ld (Val := Elt Ideal) (e' := .bf16) (S := S1024x1024) (ea w) (Rect.unit (s := S1024x1024) ![0, 0] ![1024, 1024] inb_S1024x1024_S1024x1024_0_0) = ea w := by
  funext q; idx_vars q
  pointwise
  try rfl

theorem canon_fill2 (X : FVec Ideal S1024x1024 .bf16) : View.canon (Val := Elt Ideal) (e := .bf16) [⟨Rect.whole S1024x1024, X⟩] = X := by
  funext q
  canon_tiles q h
  refine congrArg X ?_
  funext a
  fin_cases a
  · exact Fin.ext h0.symm
  · exact Fin.ext h1.symm
theorem cov_whole2 (v : View sig .tc .vmem S1024x1024 .bf16) (X : FVec Ideal S1024x1024 .bf16) (r : Rect S1024x1024) :
    v.readCov (Val := Elt Ideal) [⟨Rect.whole S1024x1024, X⟩] r.toLoadRect = View.ld X r := by
  rw [View.readCov_eq_canon_ld]
  · rw [canon_fill2]
  · intro y; exact ⟨_, List.mem_singleton_self _, by rw [Rect.set_whole]; exact Finset.mem_univ y⟩

theorem sc0 (c : Dev nD) (n : ℕ) : ∀ hn : n < cfg0.N, (outsAt0 m c n hn).2.1 = V m c main_v2 := by
  induction n with
  | zero =>
    intro hn
    rw [outsAt0_A m c ⟨0, hn⟩ rfl]
    funext q
    frame_out
    exact congrFun (canon_fill2 (V m c main_v2)) q
  | succ n ih =>
    intro hn
    have h0 : ¬ (n + 1) % 32 = 0 := by have := lt_of_lt_of_eq hn (show cfg0.N = 32 from N_0); omega
    have e : ∀ k (hk : k < cfg0.N), k = n → (outsAt0 m c k hk).2.1 = V m c main_v2 := by rintro k hk rfl; exact ih hk
    rw [outsAt0_B m c ⟨n + 1, hn⟩ h0]
    funext q
    frame_out
    unfold sout0_B_0
    exact congrFun (e _ _ rfl) q

theorem sc1 (c : Dev nD) (n : ℕ) : ∀ hn : n < cfg0.N, (outsAt0 m c n hn).2.2 = V m c main_v3 := by
  induction n with
  | zero =>
    intro hn
    rw [outsAt0_A m c ⟨0, hn⟩ rfl]
    funext q
    frame_out
    exact congrFun (canon_fill2 (V m c main_v3)) q
  | succ n ih =>
    intro hn
    have h0 : ¬ (n + 1) % 32 = 0 := by have := lt_of_lt_of_eq hn (show cfg0.N = 32 from N_0); omega
    have e : ∀ k (hk : k < cfg0.N), k = n → (outsAt0 m c k hk).2.2 = V m c main_v3 := by rintro k hk rfl; exact ih hk
    rw [outsAt0_B m c ⟨n + 1, hn⟩ h0]
    funext q
    frame_out
    unfold sout0_B_1
    exact congrFun (e _ _ rfl) q

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

def row (t : Fin cfg0.N) (p : Fin 512) : Fin 16384 := ⟨t.val * 512 + p.val, by have := lt_of_lt_of_eq t.isLt (show cfg0.N = 32 from N_0); omega⟩

theorem b0 (c : Dev nD) (t : Fin cfg0.N) (x : Fin 16384 → Fin 1024 → EReal) (h : V m c main_arg0 = (ea x : FVec Ideal S16384x1024 .f32)) :
    iblk m c 0 t = (ea (fun p l => x (row t p) l) : FVec Ideal S512x1024 .f32) := by
  funext q
  idx_vars q
  refine Eq.trans (b := V m c main_arg0 (ix2 (row t q0) q1)) ?_ (by rw [h]; rfl)
  blk_ext [iblk, idx t]
  rfl

theorem b1 (c : Dev nD) (t : Fin cfg0.N) (x : Fin 1 → Fin 1024 → EReal) (h : V m c main_arg1 = (ea x : FVec Ideal S1x1024 .f32)) :
    iblk m c 1 t = (ea x : FVec Ideal S1x1024 .f32) := by
  funext q
  idx_vars q
  refine Eq.trans (b := V m c main_arg1 (ix2 q0 q1)) ?_ (by rw [h])
  blk_ext [iblk, idx t]

theorem b2 (c : Dev nD) (t : Fin cfg0.N) (x : Fin 256 → Fin 1024 → EReal) (h : V m c main_v0 = (ea x : FVec Ideal S256x1024 .bf16)) :
    iblk m c 2 t = (ea x : FVec Ideal S256x1024 .bf16) := by
  funext q
  idx_vars q
  refine Eq.trans (b := V m c main_v0 (ix2 q0 q1)) ?_ (by rw [h])
  blk_ext [iblk, idx t]

theorem b3 (c : Dev nD) (t : Fin cfg0.N) (x : Fin 256 → Fin 1024 → EReal) (h : V m c main_v1 = (ea x : FVec Ideal S256x1024 .bf16)) :
    iblk m c 3 t = (ea x : FVec Ideal S256x1024 .bf16) := by
  funext q
  idx_vars q
  refine Eq.trans (b := V m c main_v1 (ix2 q0 q1)) ?_ (by rw [h])
  blk_ext [iblk, idx t]

structure Entry (c : Dev nD) (x : Fin 16384 → Fin 1024 → EReal) (g : Fin 1 → Fin 1024 → EReal) (K W : Fin 256 → Fin 1024 → EReal) (wq wo : Fin 1024 → Fin 1024 → EReal) : Prop where
  x : V m c main_arg0 = (ea x : FVec Ideal S16384x1024 .f32)
  g : V m c main_arg1 = (ea g : FVec Ideal S1x1024 .f32)
  k : V m c main_v0 = (ea K : FVec Ideal S256x1024 .bf16)
  v : V m c main_v1 = (ea W : FVec Ideal S256x1024 .bf16)
  wq : V m c main_v2 = (ea wq : FVec Ideal S1024x1024 .bf16)
  wo : V m c main_v3 = (ea wo : FVec Ideal S1024x1024 .bf16)

theorem val (x : Fin 512 → Fin 1024 → EReal) (g : Fin 1 → Fin 1024 → EReal) (K W : Fin 256 → Fin 1024 → EReal) (wq wo : Fin 1024 → Fin 1024 → EReal) :
    (fun (i : Fin 512) (l : Fin 1024) => x i l + ∑ k, cat4 (mixE (prE (scE (cutE c0 (hqE x g wq i)) (tileE c0 K))) (tileE c0 W)) (mixE (prE (scE (cutE c1 (hqE x g wq i)) (tileE c1 K))) (tileE c1 W))
      (mixE (prE (scE (cutE c2 (hqE x g wq i)) (tileE c2 K))) (tileE c2 W)) (mixE (prE (scE (cutE c3 (hqE x g wq i)) (tileE c3 K))) (tileE c3 W)) k * wo k l) = xfE x g K W wq wo := by
  funext i l
  unfold xfE oE
  refine congrArg (fun s : EReal => x i l + s) (Finset.sum_congr rfl fun k _ => congrArg (fun s : EReal => s * wo k l) ?_)
  exact cat4_heads (fun c => hdE (hqE x g wq i) K W c) k

variable {m} {c : Dev nD} {x : Fin 16384 → Fin 1024 → EReal} {g : Fin 1 → Fin 1024 → EReal} {K W : Fin 256 → Fin 1024 → EReal} {wq wo : Fin 1024 → Fin 1024 → EReal}
  (h : Entry m c x g K W wq wo) (t : Fin cfg0.N)
include h

theorem o4 : (outsAt0 m c t.val t.isLt).1 = (ea (fun p l => (xfE x g K W wq wo) (row t p) l) : FVec Ideal S512x1024 .f32) := by
  funext q
  by_cases h0 : t.val % 32 = 0 <;> [rw [outsAt0_A m c t h0]; rw [outsAt0_B m c t h0]]
  all_goals
    frame_out
    try simp only [read_unread_whole]
    simp only [b0 m c t x h.x, b1 m c t g h.g, b2 m c t K h.k, b3 m c t W h.v, View.read_whole, ReadAs.apply_same, cov_whole2, sc0, sc1, h.wq, h.wo,
      ld_0, ld_1, ld_2, ld_3, ld_o, h_pay2, h_pay3, h_pay4, h_pay5, h_pay6, h_pay7, h_pay1, val]
    rfl

omit t

theorem f4 : (dats m 0 c).arrAt 4 cfg0.N = (ea (xfE x g K W wq wo) : FVec Ideal S16384x1024 .f32) := by
  refine (dats m 0 c).arrAt_eq_of_covers 4 _ (by decide +kernel) fun t hf y => ?_
  blk_simp
  rw [after0_4]
  refine (congrFun (o4 h t) _).trans ?_
  refine ea_at _ _ _ _ (congrArg₂ (xfE x g K W wq wo) (Fin.ext ?_) (Fin.ext ?_)) <;> blk_simp [idx t, row]

omit h
theorem entry (m : (ℓ : Loc nD τ sig) → Buf (Elt Ideal) ℓ) (c : Dev nD) :
    Entry m c (un (rd m c main_arg0)) (un (rd m c main_arg1)) (un (rd m c main_arg2)) (un (rd m c main_arg3)) (un (rd m c main_arg4)) (un (rd m c main_arg5)) := by
  constructor <;> (entry_read; exact (ea_un _).symm)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      rd r.2.mem c main_v4 = (ea (xfE (un (rd m c main_arg0)) (un (rd m c main_arg1)) (un (rd m c main_arg2)) (un (rd m c main_arg3)) (un (rd m c main_arg4)) (un (rd m c main_arg5))) : FVec Ideal S16384x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5) := by
  refine (θ_run defs _ _).mono (fun r h c => ?_) (θ_run_and (run_main m ρ) (unchanged m ρ))
  exact ⟨((h.1 c).1 4).trans (f4 (entry m c)), h.2 c⟩
end Cert.Proof.XfBlk
end
-- ==== Proof.XfRef.lean ====
/- The cross attention's forward reference read operation by operation, as formulas in the arguments' entries. -/
module
public import proofs.«01_k».proof.Proof.Gen.XaFwdRefIdeal.Run
public import proofs.«01_k».proof.Proof.XfEq
public import Idealize.ShloMosaic.Adequacy
@[expose] public section
set_option maxRecDepth 16384
noncomputable section
namespace Cert.Proof.XfRef
open MbEq (ea3 ea3_ix)
open Cert.XaFwdRefIdeal Cert.XaFwdRefIdeal.Gen Idealize.ShloMosaic Idealize.ShloMosaic.TcCoe Idealize.SL.Sem XaEq XaIn XfEq

/-- The columns of a head, and the head of a column. -/
def hd (h : Fin 4) (u : Fin 256) : Fin 1024 := ⟨h.val * 256 + u.val, by omega⟩
def hh (l : Fin 1024) : Fin 4 := ⟨l.val / 256, by omega⟩
/-- An array's columns split into heads. -/
def sp {n : ℕ} (Q : Fin n → Fin 1024 → EReal) (i : Fin n) (h : Fin 4) (u : Fin 256) : EReal := Q i (hd h u)

def v_h (x : FVec Ideal S16384x1024 .f32) (g : FVec Ideal S1x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)
theorem h_h (x : Fin 16384 → Fin 1024 → EReal) (g : Fin 1 → Fin 1024 → EReal) : v_h (ea x) (ea g) = ea fun i l => x i l * nrm (x i) * g 0 l := by
  unfold v_h
  funext q; idx_vars q
  pointwise
  simp only [zero_add, ea_ix]
  rfl

def v_q (h : FVec Ideal S16384x1024 .f32) (w : FVec Ideal S1024x1024 .f32) : FVec Ideal S16384x1024 .f32 :=
  Host.dotGeneral dot_S16384x1024_S1024x1024_S16384x1024_1_0_0_1_n_n none h w
theorem h_q (h : Fin 16384 → Fin 1024 → EReal) (w : Fin 1024 → Fin 1024 → EReal) : v_q (ea h) (ea w) = ea fun i l => ∑ k, h i k * w k l := by
  unfold v_q
  funext q; idx_vars q
  pointwise
  rfl

theorem h_v16 (Q : Fin 16384 → Fin 1024 → EReal) : (shapeCast S16384x4x256 (ea Q : FVec Ideal S16384x1024 .f32) shapeCasts_S16384x1024_S16384x4x256 : FVec Ideal S16384x4x256 .f32) = ea3 (sp Q) := by
  funext q; idx_vars q
  pointwise
  rfl
theorem h_v17 (K : Fin 256 → Fin 1024 → EReal) : (shapeCast S256x4x256 (ea K : FVec Ideal S256x1024 .f32) shapeCasts_S256x1024_S256x4x256 : FVec Ideal S256x4x256 .f32) = ea3 (sp K) := by
  funext q; idx_vars q
  pointwise
  rfl

/-- The heads put side by side again. -/
theorem back (F : Fin 4 → Fin 16384 → Fin 256 → EReal) : (shapeCast S16384x1024 (ea3 (fun i h u => F h i u) : FVec Ideal S16384x4x256 .f32) shapeCasts_S16384x4x256_S16384x1024 : FVec Ideal S16384x1024 .f32) = ea fun i l => F (hh l) i (lo l) := by
  funext q; idx_vars q
  pointwise
  rfl

def v_v18 (Q : FVec Ideal S16384x4x256 .f32) (K : FVec Ideal S256x4x256 .f32) : FVec Ideal S4x16384x256 .f32 :=
  Host.dotGeneral dot_S16384x4x256_S256x4x256_S4x16384x256_2_2_0_0_1_1 none Q K
def r_s (Q : Fin 16384 → Fin 1024 → EReal) (K : Fin 256 → Fin 1024 → EReal) (h : Fin 4) (i : Fin 16384) : Fin 256 → EReal := scE (cutE (hd h) (Q i)) (tileE (hd h) K)
theorem h_v18 (Q : Fin 16384 → Fin 1024 → EReal) (K : Fin 256 → Fin 1024 → EReal) : v_v18 (ea3 (sp Q)) (ea3 (sp K)) = ea3 (r_s Q K) := by
  unfold v_v18
  funext q; idx_vars q
  pointwise
  simp only [ea3_ix]
  unfold r_s scE cutE tileE sp
  with_reducible rfl

def v_v20 (S : FVec Ideal S4x16384x256 .f32) : FVec Ideal S4x16384x256 .f32 :=
  mulf S (broadcastInDim S4x16384x256 ![] bcast_S_S4x16384x256 (constant S_ .f32 0x3D800000#32))
theorem h_v20 (S : Fin 4 → Fin 16384 → Fin 256 → EReal) : v_v20 (ea3 S) = ea3 fun h i j => S h i j * sx := by
  unfold v_v20
  funext q; idx_vars q
  pointwise
  rfl

/-- The greatest entry along the last axis, at a place. -/
theorem reduce_max {n0 n1 n2 : ℕ} (X : FVec Ideal ⟨3, ![n0, n1, n2]⟩ .f32) (b : FVec Ideal S_ .f32) (h : (⟨3, ![n0, n1, n2]⟩ : Shape).ReducesTo [2] ⟨2, ![n0, n1]⟩) (hu : 0 < S_.numel) (i : Fin n0) (j : Fin n1) :
    Host.reduce (FloatOps.maximumf (F := Ideal) (φ := .f32)) X b h hu (ix2 i j) = Finset.univ.fold (FloatOps.maximumf (F := Ideal) (φ := .f32)) (b (Shape.Idx.first hu)) fun k => X (ix3 i j k) := by
  rw [Host.reduce_eq_fold, Shape.ReducesTo.fold_fiber_r3_a2]
  rfl

def v_v21 (S : FVec Ideal S4x16384x256 .f32) : FVec Ideal S4x16384 .f32 :=
  Host.reduce FloatOps.maximumf S (constant S_ .f32 0xFF800000#32) reducesTo_S4x16384x256_S4x16384_d2 h_S_
theorem h_v21 (S : Fin 4 → Fin 16384 → Fin 256 → EReal) : v_v21 (ea3 S) = ea fun h i => mxE (S h i) := by
  funext q
  obtain ⟨i, j, rfl⟩ : ∃ i j, q = ix2 i j := ⟨q 0, q 1, eq_ix2 q⟩
  exact (reduce_max (ea3 S) (constant S_ .f32 0xFF800000#32) reducesTo_S4x16384x256_S4x16384_d2 h_S_ i j).trans rfl

def v_v28 (M : FVec Ideal S4x16384 .f32) : FVec Ideal S4x16384 .f32 :=
  maximumf (broadcastInDim S4x16384 ![] bcast_S_S4x16384 (constant S_ .f32 0xFF800000#32)) M
theorem h_v28 (M : Fin 4 → Fin 16384 → EReal) : v_v28 (ea M) = ea M := by
  unfold v_v28
  funext q; idx_vars q
  pointwise
  simp only [ea_ix, lit_bot, bot_sup_eq, max_bot_left]

def v_v41 (S : FVec Ideal S4x16384x256 .f32) (M : FVec Ideal S4x16384 .f32) : FVec Ideal S4x16384x256 .f32 :=
  Host.exp (subf S (broadcastInDim S4x16384x256 ![0, 1, 2] bcast_S4x16384x1_S4x16384x256_0_1_2 (broadcastInDim S4x16384x1 ![0, 1] bcast_S4x16384_S4x16384x1_0_1 M)))
theorem h_v41 (S : Fin 4 → Fin 16384 → Fin 256 → EReal) (M : Fin 4 → Fin 16384 → EReal) : v_v41 (ea3 S) (ea M) = ea3 fun h i j => Ideal.exp (S h i j - M h i) := by
  unfold v_v41
  funext q; idx_vars q
  pointwise
  rfl

def v_v45 (E : FVec Ideal S4x16384x256 .f32) : FVec Ideal S4x16384x256 .f32 :=
  Host.divf E (broadcastInDim S4x16384x256 ![0, 1, 2] bcast_S4x16384x1_S4x16384x256_0_1_2 (broadcastInDim S4x16384x1 ![0, 1] bcast_S4x16384_S4x16384x1_0_1 (Host.reduceAdd E (constant S_ .f32 0x00000000#32) reducesTo_S4x16384x256_S4x16384_d2 h_S_)))
theorem h_v45 (E : Fin 4 → Fin 16384 → Fin 256 → EReal) : v_v45 (ea3 E) = ea3 fun h i j => Ideal.div (E h i j) (∑ k, E h i k) := by
  unfold v_v45
  funext q; idx_vars q
  pointwise
  simp only [ea3_ix, zero_add]

def v_v52 (V : FVec Ideal S256x4x256 .f32) (Y : FVec Ideal S4x16384x256 .f32) : FVec Ideal S16384x4x256 .f32 :=
  transpose S16384x4x256 [2, 0, 1] (Host.dotGeneral dot_S256x4x256_S4x16384x256_S4x256x16384_0_2_2_1_1_0 none V Y) transposes_S4x256x16384_S16384x4x256_2_0_1
theorem h_v52 (V : Fin 256 → Fin 1024 → EReal) (Y : Fin 4 → Fin 16384 → Fin 256 → EReal) : v_v52 (ea3 (sp V)) (ea3 Y) = ea3 fun i h u => mixE (Y h i) (tileE (hd h) V) u := by
  unfold v_v52
  funext q; idx_vars q
  pointwise
  simp only [ea3_ix]
  unfold mixE
  exact Finset.sum_congr rfl fun _ _ => mul_comm _ _

def v_last (x z : FVec Ideal S16384x1024 .f32) (w : FVec Ideal S1024x1024 .f32) : FVec Ideal S16384x1024 .f32 := addf x (v_q z w)
theorem h_last (x z : Fin 16384 → Fin 1024 → EReal) (w : Fin 1024 → Fin 1024 → EReal) : v_last (ea x) (ea z) (ea w) = ea fun i l => x i l + ∑ k, z i k * w k l := by
  unfold v_last
  rw [h_q]
  rfl

/-- The scaled scores, the softmax and the heads' outputs of the whole. -/
def w_s (x : FVec Ideal S16384x1024 .f32) (g : FVec Ideal S1x1024 .f32) (K : FVec Ideal S256x1024 .f32) (wq : FVec Ideal S1024x1024 .f32) : FVec Ideal S4x16384x256 .f32 :=
  v_v20 (v_v18 (shapeCast S16384x4x256 (v_q (v_h x g) wq) shapeCasts_S16384x1024_S16384x4x256) (shapeCast S256x4x256 K shapeCasts_S256x1024_S256x4x256))
def w_e (S : FVec Ideal S4x16384x256 .f32) : FVec Ideal S4x16384x256 .f32 := v_v41 S (v_v28 (v_v21 S))
def w_o (S : FVec Ideal S4x16384x256 .f32) (V : FVec Ideal S256x1024 .f32) : FVec Ideal S16384x1024 .f32 :=
  shapeCast S16384x1024 (v_v52 (shapeCast S256x4x256 V shapeCasts_S256x1024_S256x4x256) (v_v45 (w_e S))) shapeCasts_S16384x4x256_S16384x1024

theorem h_s (x : Fin 16384 → Fin 1024 → EReal) (g : Fin 1 → Fin 1024 → EReal) (K : Fin 256 → Fin 1024 → EReal) (wq : Fin 1024 → Fin 1024 → EReal) :
    w_s (ea x) (ea g) (ea K) (ea wq) = ea3 fun h i j => r_s (hqE x g wq) K h i j * sx := by
  unfold w_s
  rw [h_h, h_q, h_v16, h_v17, h_v18, h_v20]
  rfl
theorem h_o (S : Fin 4 → Fin 16384 → Fin 256 → EReal) (V : Fin 256 → Fin 1024 → EReal) :
    w_o (ea3 fun h i j => S h i j * sx) (ea V) = ea fun i l => mixE (prE (S (hh l) i)) (tileE (hd (hh l)) V) (lo l) := by
  unfold w_o w_e
  rw [h_v21, h_v28, h_v41, h_v45, h_v17, h_v52]
  exact back (fun h i u => mixE (prE (S h i)) (tileE (hd h) V) u)

theorem c_0 (x : FVec Ideal S16384x1024 .f32) (g : FVec Ideal S1x1024 .f32) (K V : FVec Ideal S256x1024 .f32) (wq wo : FVec Ideal S1024x1024 .f32) :
    v_last x (w_o (w_s x g K wq) V) wo = ea (xfE (un x) (un g) (un K) (un V) (un wq) (un wo)) := by
  obtain ⟨x, rfl⟩ : ∃ f, x = ea f := ⟨un x, (ea_un x).symm⟩
  obtain ⟨g, rfl⟩ : ∃ f, g = ea f := ⟨un g, (ea_un g).symm⟩
  obtain ⟨K, rfl⟩ : ∃ f, K = ea f := ⟨un K, (ea_un K).symm⟩
  obtain ⟨V, rfl⟩ : ∃ f, V = ea f := ⟨un V, (ea_un V).symm⟩
  obtain ⟨wq, rfl⟩ : ∃ f, wq = ea f := ⟨un wq, (ea_un wq).symm⟩
  obtain ⟨wo, rfl⟩ : ∃ f, wo = ea f := ⟨un wo, (ea_un wo).symm⟩
  rw [h_s, h_o, h_last]
  rfl

variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5) ∧ r.2.sem = fun _ => 0) :=
  (θ_run defs _ _).mono (fun r h => ⟨fun c => (h c).2, sem_eq_zero_of_no_sems (by decide) r.2⟩) (Cert.XaFwdRefIdeal.Value.run m ρ)

theorem run : θ_run (defs (F := Ideal)) (onTc (τ := τ) (main (F := Ideal))) ⟨m, fun _ => 0, ρ⟩ (fun r => ∀ c : Dev nD,
      rd r.2.mem c main_v34 = (ea (xfE (un (rd m c main_arg0)) (un (rd m c main_arg1)) (un (rd m c main_arg2)) (un (rd m c main_arg3)) (un (rd m c main_arg4)) (un (rd m c main_arg5))) : FVec Ideal S16384x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5) := by
  refine (θ_run defs _ _).mono (fun r h c => ⟨(h c).1.trans ?_, (h c).2⟩) (Cert.XaFwdRefIdeal.Value.run m ρ)
  exact c_0 (rd m c main_arg0) (rd m c main_arg1) (rd m c main_arg2) (rd m c main_arg3) (rd m c main_arg4) (rd m c main_arg5)
end Cert.Proof.XfRef
end
-- ==== Proof.MemKer.lean ====
/- The gradient of the memory's norm and projections: the values the kernel computes, the arrays it ends with, and its run. -/
module
public import proofs.«01_k».proof.Proof.Gen.MemBwdIdeal.Frame
public import proofs.«01_k».proof.Proof.EKit
public import Idealize.ShloMosaic.Lib.Pipeline.ReadBack
public import Idealize.ShloMosaic.Lib.Pipeline.ValueKit
@[expose] public section
set_option maxRecDepth 16384
noncomputable section
namespace Cert.Proof.MemKer
open Cert.MemBwdIdeal Cert.MemBwdIdeal.Gen Idealize.ShloMosaic Idealize.ShloMosaic.TcCoe Idealize.SL.Sem

/-- The gradient in the norm's gain: over the memory's rows, the gradient of the normalised row times the row over its root mean square. -/
def dgE (x dk dv : Fin 256 → Fin 1024 → EReal) (wk wv : Fin 1024 → Fin 1024 → EReal) (_ : Fin 1) (l : Fin 1024) : EReal :=
  ∑ i, (∑ k, dk i k * wk l k + ∑ k, dv i k * wv l k) * (x i l * nrm (x i))

theorem h_pay1 (d : Fin 256 → Fin 1024 → EReal) : k0_pay1 (F := Ideal) (ea d) = ea d := by
  unfold k0_pay1
  funext q; idx_vars q
  pointwise
theorem h_pay2 (d : Fin 256 → Fin 1024 → EReal) : k0_pay2 (F := Ideal) (ea d) = ea d := by
  unfold k0_pay2
  funext q; idx_vars q
  pointwise
theorem h_pay3 (x dk dv : Fin 256 → Fin 1024 → EReal) (wk wv : Fin 1024 → Fin 1024 → EReal) : k0_pay3 (F := Ideal) (ea x) (ea dk) (ea dv) (ea wk) (ea wv) = ea (dgE x dk dv wk wv) := by
  unfold k0_pay3
  rw [h_pay1, h_pay2]
  funext q; idx_vars q
  pointwise
  try simp only [zero_add, ea_ix]
  rfl

theorem ld_a (w : Fin 256 → Fin 1024 → EReal) : View.ld (Val := Elt Ideal) (e' := .f32) (S := S256x1024) (ea w) r0_0 = ea w := by
  funext q; idx_vars q
  unfold r0_0
  pointwise
theorem ld_w (w : Fin 1024 → Fin 1024 → EReal) : View.ld (Val := Elt Ideal) (e' := .bf16) (S := S1024x1024) (ea w) r0_1 = ea w := by
  funext q; idx_vars q
  unfold r0_1
  pointwise

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

theorem b0 (c : Dev nD) (t : Fin cfg0.N) (x : Fin 256 → Fin 1024 → EReal) (h : V m c main_arg0 = (ea x : FVec Ideal S256x1024 .f32)) :
    iblk m c 0 t = (ea x : FVec Ideal S256x1024 .f32) := by
  funext q
  idx_vars q
  refine Eq.trans (b := V m c main_arg0 (ix2 q0 q1)) ?_ (by rw [h])
  blk_ext [iblk, idx t]

theorem b2 (c : Dev nD) (t : Fin cfg0.N) (x : Fin 256 → Fin 1024 → EReal) (h : V m c main_arg2 = (ea x : FVec Ideal S256x1024 .f32)) :
    iblk m c 2 t = (ea x : FVec Ideal S256x1024 .f32) := by
  funext q
  idx_vars q
  refine Eq.trans (b := V m c main_arg2 (ix2 q0 q1)) ?_ (by rw [h])
  blk_ext [iblk, idx t]

theorem b3 (c : Dev nD) (t : Fin cfg0.N) (x : Fin 256 → Fin 1024 → EReal) (h : V m c main_arg3 = (ea x : FVec Ideal S256x1024 .f32)) :
    iblk m c 3 t = (ea x : FVec Ideal S256x1024 .f32) := by
  funext q
  idx_vars q
  refine Eq.trans (b := V m c main_arg3 (ix2 q0 q1)) ?_ (by rw [h])
  blk_ext [iblk, idx t]

theorem b4 (c : Dev nD) (t : Fin cfg0.N) (x : Fin 1024 → Fin 1024 → EReal) (h : V m c main_v0 = (ea x : FVec Ideal S1024x1024 .bf16)) :
    iblk m c 4 t = (ea x : FVec Ideal S1024x1024 .bf16) := by
  funext q
  idx_vars q
  refine Eq.trans (b := V m c main_v0 (ix2 q0 q1)) ?_ (by rw [h])
  blk_ext [iblk, idx t]

theorem b5 (c : Dev nD) (t : Fin cfg0.N) (x : Fin 1024 → Fin 1024 → EReal) (h : V m c main_v1 = (ea x : FVec Ideal S1024x1024 .bf16)) :
    iblk m c 5 t = (ea x : FVec Ideal S1024x1024 .bf16) := by
  funext q
  idx_vars q
  refine Eq.trans (b := V m c main_v1 (ix2 q0 q1)) ?_ (by rw [h])
  blk_ext [iblk, idx t]

structure Entry (c : Dev nD) (x : Fin 256 → Fin 1024 → EReal) (g : Fin 1 → Fin 1024 → EReal) (dk dv : Fin 256 → Fin 1024 → EReal) (wk wv : Fin 1024 → Fin 1024 → EReal) : Prop where
  x : V m c main_arg0 = (ea x : FVec Ideal S256x1024 .f32)
  g : V m c main_arg1 = (ea g : FVec Ideal S1x1024 .f32)
  dk : V m c main_arg2 = (ea dk : FVec Ideal S256x1024 .f32)
  dv : V m c main_arg3 = (ea dv : FVec Ideal S256x1024 .f32)
  wk : V m c main_v0 = (ea wk : FVec Ideal S1024x1024 .bf16)
  wv : V m c main_v1 = (ea wv : FVec Ideal S1024x1024 .bf16)

theorem canon_a (X : FVec Ideal S256x1024 .bf16) : View.canon (Val := Elt Ideal) (e := .bf16) [⟨r0_0, X⟩] = X := by
  funext q
  canon_tiles q h
  refine congrArg X ?_
  funext a
  fin_cases a
  · exact Fin.ext h0.symm
  · exact Fin.ext h1.symm
theorem canon_g (X : FVec Ideal S1x1024 .f32) : View.canon (Val := Elt Ideal) (e := .f32) [⟨r0_2, X⟩] = X := by
  funext q
  canon_tiles q h
  refine congrArg X ?_
  funext a
  fin_cases a
  · exact Fin.ext h0.symm
  · exact Fin.ext h1.symm

variable {m} {c : Dev nD} {x : Fin 256 → Fin 1024 → EReal} {g : Fin 1 → Fin 1024 → EReal} {dk dv : Fin 256 → Fin 1024 → EReal} {wk wv : Fin 1024 → Fin 1024 → EReal}
  (h : Entry m c x g dk dv wk wv)
include h

theorem f6 : (dats m 0 c).arrAt 6 cfg0.N = (ea dk : FVec Ideal S256x1024 .bf16) := by
  refine (dats m 0 c).arrAt_eq_of_covers 6 _ (by decide +kernel) fun t hf y => ?_
  blk_simp
  rw [after0_6]
  unfold out0_6
  rw [canon_a, b2 m c t dk h.dk, ld_a, h_pay1]
  refine ea_at _ _ _ _ (congrArg₂ dk (Fin.ext ?_) (Fin.ext ?_)) <;> blk_simp [idx t]

theorem f7 : (dats m 0 c).arrAt 7 cfg0.N = (ea dv : FVec Ideal S256x1024 .bf16) := by
  refine (dats m 0 c).arrAt_eq_of_covers 7 _ (by decide +kernel) fun t hf y => ?_
  blk_simp
  rw [after0_7]
  unfold out0_7
  rw [canon_a, b3 m c t dv h.dv, ld_a, h_pay2]
  refine ea_at _ _ _ _ (congrArg₂ dv (Fin.ext ?_) (Fin.ext ?_)) <;> blk_simp [idx t]

theorem f8 : (dats m 0 c).arrAt 8 cfg0.N = (ea (dgE x dk dv wk wv) : FVec Ideal S1x1024 .f32) := by
  refine (dats m 0 c).arrAt_eq_of_covers 8 _ (by decide +kernel) fun t hf y => ?_
  blk_simp
  rw [after0_8]
  unfold out0_8
  rw [canon_g, b0 m c t x h.x, b2 m c t dk h.dk, b3 m c t dv h.dv, b4 m c t wk h.wk, b5 m c t wv h.wv, ld_a, ld_a, ld_a, ld_w, ld_w, h_pay3]
  refine ea_at _ _ _ _ (congrArg₂ (dgE x dk dv wk wv) (Fin.ext ?_) (Fin.ext ?_)) <;> blk_simp [idx t]

omit h
theorem entry (m : (ℓ : Loc nD τ sig) → Buf (Elt Ideal) ℓ) (c : Dev nD) :
    Entry m c (un (rd m c main_arg0)) (un (rd m c main_arg1)) (un (rd m c main_arg2)) (un (rd m c main_arg3)) (un (rd m c main_arg4)) (un (rd m c main_arg5)) := by
  constructor <;> (entry_read; exact (ea_un _).symm)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      rd r.2.mem c main_v2_0 = (ea (un (rd m c main_arg2)) : FVec Ideal S256x1024 .bf16)
      ∧ rd r.2.mem c main_v2_1 = (ea (un (rd m c main_arg3)) : FVec Ideal S256x1024 .bf16)
      ∧ rd r.2.mem c main_v2_2 = (ea (dgE (un (rd m c main_arg0)) (un (rd m c main_arg2)) (un (rd m c main_arg3)) (un (rd m c main_arg4)) (un (rd m c main_arg5))) : FVec Ideal S1x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5) := by
  refine (θ_run defs _ _).mono (fun r h c => ?_) (θ_run_and (run_main m ρ) (unchanged m ρ))
  have E := entry m c
  exact ⟨((h.1 c).1 6).trans (f6 E), ((h.1 c).1 7).trans (f7 E), ((h.1 c).1 8).trans (f8 E), h.2 c⟩
end Cert.Proof.MemKer
end
-- ==== Proof.MemRef.lean ====
/- The reference of the memory's gradient: what it ends holding, as formulas in the arguments' entries. -/
module
public import proofs.«01_k».proof.Proof.Gen.MemBwdRefIdeal.Run
public import proofs.«01_k».proof.Proof.MemKer
public import Idealize.ShloMosaic.Adequacy
@[expose] public section
set_option maxRecDepth 16384
noncomputable section
namespace Cert.Proof.MemRef
open Cert.MemBwdRefIdeal Cert.MemBwdRefIdeal.Gen Idealize.ShloMosaic Idealize.ShloMosaic.TcCoe Idealize.SL.Sem
open Cert.Proof.MemKer (dgE)

def v_n (x : FVec Ideal S256x1024 .f32) : FVec Ideal S256x1024 .f32 :=
  mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))
theorem h_n (x : Fin 256 → Fin 1024 → EReal) : v_n (ea x) = ea fun i l => x i l * nrm (x i) := by
  unfold v_n
  funext q; idx_vars q
  pointwise
  try simp only [zero_add, ea_ix]
  rfl

def v_d (dk dv : FVec Ideal S256x1024 .f32) (wk wv : FVec Ideal S1024x1024 .f32) : FVec Ideal S256x1024 .f32 :=
  addf (Host.dotGeneral dot_S256x1024_S1024x1024_S256x1024_1_1_0_0_n_n none dv wv) (Host.dotGeneral dot_S256x1024_S1024x1024_S256x1024_1_1_0_0_n_n none dk wk)
theorem h_d (dk dv : Fin 256 → Fin 1024 → EReal) (wk wv : Fin 1024 → Fin 1024 → EReal) : v_d (ea dk) (ea dv) (ea wk) (ea wv) = ea fun i l => ∑ k, dk i k * wk l k + ∑ k, dv i k * wv l k := by
  unfold v_d
  funext q; idx_vars q
  pointwise
  try simp only [ea_ix]
  exact add_comm _ _

def v_g (n d : FVec Ideal S256x1024 .f32) : FVec Ideal S1x1024 .f32 :=
  shapeCast S1x1024 (Host.reduceAdd (mulf n d) (constant S_ .f32 0x00000000#32) reducesTo_S256x1024_S1024_d0 h_S_) shapeCasts_S1024_S1x1024
theorem h_g (n d : Fin 256 → Fin 1024 → EReal) : v_g (ea n) (ea d) = ea fun _ l => ∑ i, d i l * n i l := by
  unfold v_g
  funext q; idx_vars q
  pointwise
  try simp only [zero_add, ea_ix]
  exact Finset.sum_congr rfl fun _ _ => mul_comm _ _

theorem c_0 (x dk dv : FVec Ideal S256x1024 .f32) (wk wv : FVec Ideal S1024x1024 .f32) : v_g (v_n x) (v_d dk dv wk wv) = ea (dgE (un x) (un dk) (un dv) (un wk) (un wv)) := by
  obtain ⟨x, rfl⟩ : ∃ f, x = ea f := ⟨un x, (ea_un x).symm⟩
  obtain ⟨dk, rfl⟩ : ∃ f, dk = ea f := ⟨un dk, (ea_un dk).symm⟩
  obtain ⟨dv, rfl⟩ : ∃ f, dv = ea f := ⟨un dv, (ea_un dv).symm⟩
  obtain ⟨wk, rfl⟩ : ∃ f, wk = ea f := ⟨un wk, (ea_un wk).symm⟩
  obtain ⟨wv, rfl⟩ : ∃ f, wv = ea f := ⟨un wv, (ea_un wv).symm⟩
  rw [h_n, h_d, h_g]
  rfl

theorem c_1 (d : FVec Ideal S256x1024 .f32) : (truncf .bf16 d bitsLt_bf16_f32 : FVec Ideal S256x1024 .bf16) = ea (un d) := by
  obtain ⟨d, rfl⟩ : ∃ f, d = ea f := ⟨un d, (ea_un d).symm⟩
  funext q; idx_vars q
  pointwise
  rfl

variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5) ∧ r.2.sem = fun _ => 0) :=
  (θ_run defs _ _).mono (fun r h => ⟨fun c => (h c).2.2.2, sem_eq_zero_of_no_sems (by decide) r.2⟩) (Cert.MemBwdRefIdeal.Value.run m ρ)

theorem run : θ_run (defs (F := Ideal)) (onTc (τ := τ) (main (F := Ideal))) ⟨m, fun _ => 0, ρ⟩ (fun r => ∀ c : Dev nD,
      rd r.2.mem c main_v20 = (ea (un (rd m c main_arg2)) : FVec Ideal S256x1024 .bf16)
      ∧ rd r.2.mem c main_v21 = (ea (un (rd m c main_arg3)) : FVec Ideal S256x1024 .bf16)
      ∧ rd r.2.mem c main_v19 = (ea (dgE (un (rd m c main_arg0)) (un (rd m c main_arg2)) (un (rd m c main_arg3)) (un (rd m c main_arg4)) (un (rd m c main_arg5))) : FVec Ideal S1x1024 .f32)
      ∧ rd r.2.mem c main_arg0 = rd m c main_arg0
      ∧ rd r.2.mem c main_arg1 = rd m c main_arg1
      ∧ rd r.2.mem c main_arg2 = rd m c main_arg2
      ∧ rd r.2.mem c main_arg3 = rd m c main_arg3
      ∧ rd r.2.mem c main_arg4 = rd m c main_arg4
      ∧ rd r.2.mem c main_arg5 = rd m c main_arg5) := by
  refine (θ_run defs _ _).mono (fun r h c => ⟨(h c).1.trans ?_, (h c).2.1.trans ?_, (h c).2.2.1.trans ?_, (h c).2.2.2⟩) (Cert.MemBwdRefIdeal.Value.run m ρ)
  · exact c_1 _
  · exact c_1 _
  · exact c_0 (rd m c main_arg0) (rd m c main_arg2) (rd m c main_arg3) (rd m c main_arg4) (rd m c main_arg5)
end Cert.Proof.MemRef
end
-- ==== Proof.MemDwK.lean ====
module
public import proofs.«01_k».proof.Proof.Gen.MemDwIdeal.Frame
public import proofs.«01_k».proof.Proof.EKit
public import Idealize.ShloMosaic.Lib.Pipeline.ReadBack
public import Idealize.ShloMosaic.Lib.Pipeline.ValueKit
public import Idealize.ShloMosaic.Adequacy
@[expose] public section
set_option maxRecDepth 16384
noncomputable section
/-! The product over the memory's rows: one block, added to zeros. -/
namespace Cert.Proof.MemDwK
open Cert.MemDwIdeal Cert.MemDwIdeal.Gen Idealize.ShloMosaic Idealize.ShloMosaic.TcCoe Idealize.SL.Sem

theorem pay2_at (o : FVec Ideal S1024x1024 .f32) (x y : FVec Ideal S256x1024 .bf16) (i j : Fin 1024) :
    k0_pay2 (F := Ideal) o x y (ix2 i j) = (o (ix2 i j) : EReal) + ∑ p : Fin 256, (x (ix2 p i) : EReal) * (y (ix2 p j) : EReal) := by
  unfold k0_pay2
  pointwise
  try simp only [zero_add]

theorem pay1_at (q : S1024x1024.Idx) : k0_pay1 (F := Ideal) q = (0 : EReal) := by
  unfold k0_pay1
  idx_vars q
  pointwise

variable (m : (ℓ : Loc nD τ sig) → Buf (Elt Ideal) ℓ) (c : Dev nD)

/-- The two arguments. -/
def aX : (⟨2, ![256, 1024]⟩ : Shape).Idx → EReal := rd m c main_arg0
def aY : (⟨2, ![256, 1024]⟩ : Shape).Idx → EReal := rd m c main_arg1

theorem idx : ∀ t : Fin cfg0.N, win0_0.index t = ![0, 0] ∧ win0_1.index t = ![0, 0] ∧ win0_2.index t = ![0, 0] :=
  (by decide +kernel : ∀ t : Fin grid0.N, _)

theorem b0 (t : Fin cfg0.N) (p : Fin 256) (i : Fin 1024) : iblk m c 0 t (ix2 p i : S256x1024.Idx) = aX m c (ix2 p i) := by
  refine Eq.trans (b := V m c main_arg0 (ix2 p i)) ?_ (by entry_read; rfl)
  blk_ext [iblk, idx t]

theorem b1 (t : Fin cfg0.N) (p : Fin 256) (i : Fin 1024) : iblk m c 1 t (ix2 p i : S256x1024.Idx) = aY m c (ix2 p i) := by
  refine Eq.trans (b := V m c main_arg1 (ix2 p i)) ?_ (by entry_read; rfl)
  blk_ext [iblk, idx t]

/-- The product of two columns, over the memory's rows. -/
def G (X Y : (⟨2, ![256, 1024]⟩ : Shape).Idx → EReal) (k j : Fin 1024) : EReal := ∑ s : Fin 256, X (ix2 s k) * Y (ix2 s j)

theorem oA (t : Fin cfg0.N) (q : S1024x1024.Idx) : outsAt0 m c t q = G (aX m c) (aY m c) (q 0) (q 1) := by
  unfold outsAt0
  idx_vars q
  frame_out
  try simp only [read_unread_whole]
  try simp only [View.read_whole, ReadAs.apply_same]
  refine (pay2_at _ _ _ _ _).trans ?_
  refine Eq.trans (congrArg₂ (fun u v : EReal => u + v) (pay1_at _) (Finset.sum_congr rfl fun p _ => congrArg₂ (fun u v : EReal => u * v) (b0 m c t p q0) (b1 m c t p q1))) ?_
  exact zero_add _

theorem fin : (dats m 0 c).arrAt 2 cfg0.N = (fun q => G (aX m c) (aY m c) (q 0) (q 1) : FVec Ideal S1024x1024 .f32) := by
  refine (dats m 0 c).arrAt_eq_of_covers 2 _ (by decide +kernel) fun t hf y => ?_
  blk_simp
  rw [after0_2]
  refine (oA m c t _).trans (congrArg₂ (G (aX m c) (aY m c)) (Fin.ext ?_) (Fin.ext ?_)) <;> blk_simp [idx t]

theorem run (ρ : Dev nD → PrngReg) : θ_run (defs (F := Ideal)) (onTc (τ := τ) (main (F := Ideal))) ⟨m, fun _ => 0, ρ⟩ (fun r => ∀ c : Dev nD,
      rd r.2.mem c main_v0 = (fun q => G (aX m c) (aY m c) (q 0) (q 1) : FVec Ideal S1024x1024 .f32)
      ∧ rd r.2.mem c main_arg0 = rd m c main_arg0
      ∧ rd r.2.mem c main_arg1 = rd m c main_arg1) := by
  refine (θ_run defs _ _).mono (fun r h c => ?_) (θ_run_and (run_main m ρ) (unchanged m ρ))
  exact ⟨((h.1 c).1 2).trans (fin m c), h.2 c⟩
end Cert.Proof.MemDwK
-- ==== Proof.MemDwR.lean ====
module
public import proofs.«01_k».proof.Proof.MemDwK
public import proofs.«01_k».proof.Proof.Gen.MemDwRefIdeal.Run
@[expose] public section
noncomputable section
/-! The reference of the product over the memory's rows: a linear map's gradient in its weight. -/
namespace Cert.Proof.MemDwR
open Idealize.ShloMosaic Idealize.ShloMosaic.TcCoe Idealize.SL.Sem
open Cert.Proof.MemDwK (G)
open Cert.MemDwRefIdeal
variable (m : (ℓ : Loc nD τ sig) → Buf (Elt Ideal) ℓ) (ρ : Dev nD → PrngReg)

theorem quiet : θ_run (defs (F := Ideal)) (onTc (τ := τ) (main (F := Ideal))) ⟨m, fun _ => 0, ρ⟩ (fun r => (∀ c : Dev nD,
      rd r.2.mem c main_arg0 = rd m c main_arg0
      ∧ rd r.2.mem c main_arg1 = rd m c main_arg1) ∧ r.2.sem = fun _ => 0) :=
  (θ_run defs _ _).mono (fun r h => ⟨fun c => (h c).2, sem_eq_zero_of_no_sems (by decide) r.2⟩) (Cert.MemDwRefIdeal.Value.run m ρ)

theorem run : θ_run (defs (F := Ideal)) (onTc (τ := τ) (main (F := Ideal))) ⟨m, fun _ => 0, ρ⟩ (fun r => ∀ c : Dev nD,
      rd r.2.mem c main_v5 = (fun q => G (rd m c main_arg0) (rd m c main_arg1) (q 0) (q 1) : FVec Ideal S1024x1024 .f32)
      ∧ rd r.2.mem c main_arg0 = rd m c main_arg0
      ∧ rd r.2.mem c main_arg1 = rd m c main_arg1) := by
  refine (θ_run defs _ _).mono (fun r h c => ⟨(h c).1.trans ?_, (h c).2⟩) (Cert.MemDwRefIdeal.Value.run m ρ)
  funext q
  idx_vars q
  pointwise
  exact Finset.sum_congr rfl fun s _ => mul_comm (G := EReal) _ _
end Cert.Proof.MemDwR
-- ==== Proof.AdamEq.lean ====
/- One step of the optimiser on one entry, over the extended reals. -/
module
public import proofs.«01_k».proof.Proof.EKit
public import Idealize.ShloMosaic.Lib.Pipeline.ReadBack
public import Idealize.ShloMosaic.Lib.Pipeline.ValueKit
public import Idealize.ShloMosaic.Adequacy
@[expose] public section
noncomputable section
namespace Cert.Proof.AdamEq
open Idealize.ShloMosaic Idealize.ShloMosaic.TcCoe Idealize.SL.Sem

section
variable {n k : ℕ} (w g m v : (⟨2, ![n, k]⟩ : Shape).Idx → EReal)
/-- The first moment. -/
def mE (i : Fin n) (j : Fin k) : EReal := Ideal.ofBits .f32 0x3F666666#32 * m (ix2 i j) + Ideal.ofBits .f32 0x3DCCCCCD#32 * g (ix2 i j)
/-- The second moment. -/
def vE (i : Fin n) (j : Fin k) : EReal := Ideal.ofBits .f32 0x3F7FBE77#32 * v (ix2 i j) + Ideal.ofBits .f32 0x3A83126F#32 * (g (ix2 i j) * g (ix2 i j))
/-- The change of the weight. -/
def dE (i : Fin n) (j : Fin k) : EReal := Ideal.ofBits .f32 0xBA83126F#32 * (Ideal.div (Ideal.div (mE g m i j) (Ideal.ofBits .f32 0x3F26BD02#32)) (Ideal.sqrt (Ideal.div (vE g v i j) (Ideal.ofBits .f32 0x3C231ACC#32)) + Ideal.ofBits .f32 0x322BCC77#32) + Ideal.ofBits .f32 0x3C23D70A#32 * w (ix2 i j))
end
end Cert.Proof.AdamEq
end
-- ==== Proof.MemFwd.lean ====
/- The memory's norm and its two projections: the kernel's run and the reference's. -/
module
public import proofs.«01_k».proof.Proof.Gen.MemFwdIdeal.Frame
public import proofs.«01_k».proof.Proof.Gen.MemFwdRefIdeal.Run
public import proofs.«01_k».proof.Proof.AdamEq
@[expose] public section
set_option maxRecDepth 16384
noncomputable section
namespace Cert.Proof.MemFwd
open Idealize.ShloMosaic Idealize.ShloMosaic.TcCoe Idealize.SL.Sem AdamEq

/-- The normalised row. -/
def hE (x : Fin 256 → Fin 1024 → EReal) (g : Fin 1 → Fin 1024 → EReal) (i : Fin 256) (l : Fin 1024) : EReal := x i l * nrm (x i) * g 0 l
/-- Its product with a weight. -/
def pE (x : Fin 256 → Fin 1024 → EReal) (g : Fin 1 → Fin 1024 → EReal) (w : Fin 1024 → Fin 1024 → EReal) (i : Fin 256) (j : Fin 1024) : EReal := ∑ k, hE x g i k * w k j

section
open Cert.MemFwdIdeal Gen
theorem ld_a (X : FVec Ideal S256x1024 .f32) : View.ld (Val := Elt Ideal) (e' := .f32) X r0_0 = X := by
  funext q; idx_vars q
  unfold r0_0
  pointwise
theorem ld_g (X : FVec Ideal S1x1024 .f32) : View.ld (Val := Elt Ideal) (e' := .f32) X r0_1 = X := by
  funext q; idx_vars q
  unfold r0_1
  pointwise
  rw [Subsingleton.elim q0 0]
theorem ld_w (X : FVec Ideal S1024x1024 .bf16) : View.ld (Val := Elt Ideal) (e' := .bf16) X r0_2 = X := by
  funext q; idx_vars q
  unfold r0_2
  pointwise
theorem canon_a (X : FVec Ideal S256x1024 .bf16) : View.canon (Val := Elt Ideal) (e := .bf16) [⟨r0_0, X⟩] = X := by
  funext q
  canon_tiles q h
  refine congrArg X (funext fun a => ?_)
  fin_cases a
  exacts [Fin.ext h0.symm, Fin.ext h1.symm]

theorem h_1 (x : Fin 256 → Fin 1024 → EReal) (g : Fin 1 → Fin 1024 → EReal) : k0_pay1 (F := Ideal) (ea x) (ea g) = ea (hE x g) := by
  unfold k0_pay1
  funext q; idx_vars q
  pointwise
  try simp only [zero_add, ea_ix]
  rfl
theorem h_2 (x : Fin 256 → Fin 1024 → EReal) (g : Fin 1 → Fin 1024 → EReal) (w : Fin 1024 → Fin 1024 → EReal) : k0_pay2 (F := Ideal) (ea x) (ea g) (ea w) = ea (pE x g w) := by
  unfold k0_pay2
  rw [h_1]
  funext q; idx_vars q
  pointwise
  try simp only [zero_add, ea_ix]
  rfl
theorem h_3 (x : Fin 256 → Fin 1024 → EReal) (g : Fin 1 → Fin 1024 → EReal) (w : Fin 1024 → Fin 1024 → EReal) : k0_pay3 (F := Ideal) (ea x) (ea g) (ea w) = ea (pE x g w) := h_2 x g w

variable (m : (ℓ : Loc nD τ sig) → Buf (Elt Ideal) ℓ) (ρ : Dev nD → PrngReg) (c : Dev nD) (t : Fin cfg0.N)
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)
theorem b0 : iblk m c 0 t = (ea (un (rd m c main_arg0)) : FVec Ideal S256x1024 .f32) := by
  funext q; idx_vars q
  refine Eq.trans (b := V m c main_arg0 (ix2 q0 q1)) ?_ (by entry_read; rfl)
  blk_ext [iblk, idx t]
theorem b1 : iblk m c 1 t = (ea (un (rd m c main_arg1)) : FVec Ideal S1x1024 .f32) := by
  funext q; idx_vars q
  refine Eq.trans (b := V m c main_arg1 (ix2 q0 q1)) ?_ (by entry_read; rfl)
  blk_ext [iblk, idx t]
theorem b2 : iblk m c 2 t = (ea (un (rd m c main_arg2)) : FVec Ideal S1024x1024 .bf16) := by
  funext q; idx_vars q
  refine Eq.trans (b := V m c main_v0 (ix2 q0 q1)) ?_ (by entry_read; rfl)
  blk_ext [iblk, idx t]
theorem b3 : iblk m c 3 t = (ea (un (rd m c main_arg3)) : FVec Ideal S1024x1024 .bf16) := by
  funext q; idx_vars q
  refine Eq.trans (b := V m c main_v1 (ix2 q0 q1)) ?_ (by entry_read; rfl)
  blk_ext [iblk, idx t]
theorem f4 : (dats m 0 c).arrAt 4 cfg0.N = (ea (hE (un (rd m c main_arg0)) (un (rd m c main_arg1))) : FVec Ideal S256x1024 .bf16) := by
  refine (dats m 0 c).arrAt_eq_of_covers 4 _ (by decide +kernel) fun t hf y => ?_
  blk_simp
  rw [after0_4]
  simp only [out0_4, canon_a, b0, b1, b2, b3, ld_a, ld_g, ld_w, h_1]
  refine ea_at _ _ _ _ (congrArg₂ _ (Fin.ext ?_) (Fin.ext ?_)) <;> blk_simp [idx t]
theorem f5 : (dats m 0 c).arrAt 5 cfg0.N = (ea (pE (un (rd m c main_arg0)) (un (rd m c main_arg1)) (un (rd m c main_arg2))) : FVec Ideal S256x1024 .bf16) := by
  refine (dats m 0 c).arrAt_eq_of_covers 5 _ (by decide +kernel) fun t hf y => ?_
  blk_simp
  rw [after0_5]
  simp only [out0_5, canon_a, b0, b1, b2, b3, ld_a, ld_g, ld_w, h_2]
  refine ea_at _ _ _ _ (congrArg₂ _ (Fin.ext ?_) (Fin.ext ?_)) <;> blk_simp [idx t]
theorem f6 : (dats m 0 c).arrAt 6 cfg0.N = (ea (pE (un (rd m c main_arg0)) (un (rd m c main_arg1)) (un (rd m c main_arg3))) : FVec Ideal S256x1024 .bf16) := by
  refine (dats m 0 c).arrAt_eq_of_covers 6 _ (by decide +kernel) fun t hf y => ?_
  blk_simp
  rw [after0_6]
  simp only [out0_6, canon_a, b0, b1, b2, b3, ld_a, ld_g, ld_w, h_3]
  refine ea_at _ _ _ _ (congrArg₂ _ (Fin.ext ?_) (Fin.ext ?_)) <;> blk_simp [idx t]
theorem run : θ_run (defs (F := Ideal)) (onTc (τ := τ) (main (F := Ideal))) ⟨m, fun _ => 0, ρ⟩ fun r => ∀ c : Dev nD,
    rd r.2.mem c main_v2_0 = (ea (hE (un (rd m c main_arg0)) (un (rd m c main_arg1))) : FVec Ideal S256x1024 .bf16) ∧ rd r.2.mem c main_v2_1 = (ea (pE (un (rd m c main_arg0)) (un (rd m c main_arg1)) (un (rd m c main_arg2))) : FVec Ideal S256x1024 .bf16)
    ∧ rd r.2.mem c main_v2_2 = (ea (pE (un (rd m c main_arg0)) (un (rd m c main_arg1)) (un (rd m c main_arg3))) : FVec Ideal S256x1024 .bf16)
    ∧ rd r.2.mem c main_arg0 = rd m c main_arg0 ∧ rd r.2.mem c main_arg1 = rd m c main_arg1 ∧ rd r.2.mem c main_arg2 = rd m c main_arg2 ∧ rd r.2.mem c main_arg3 = rd m c main_arg3 :=
  (θ_run defs _ _).mono (fun r h c => ⟨((h.1 c).1 4).trans (f4 m c), ((h.1 c).1 5).trans (f5 m c), ((h.1 c).1 6).trans (f6 m c), h.2 c⟩) (θ_run_and (run_main m ρ) (unchanged m ρ))
end

namespace Ref
open Cert.MemFwdRefIdeal Gen
def v_h (x : FVec Ideal S256x1024 .f32) (g : FVec Ideal S1x1024 .f32) : FVec Ideal S256x1024 .f32 :=
  mulf (mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 g)
theorem h_h (x : FVec Ideal S256x1024 .f32) (g : FVec Ideal S1x1024 .f32) : v_h x g = ea (hE (un x) (un g)) := by
  unfold v_h
  funext q; idx_vars q
  pointwise
  try simp only [zero_add, ea_ix]
  rfl
theorem h_t (x : FVec Ideal S256x1024 .f32) (g : FVec Ideal S1x1024 .f32) : (truncf .bf16 (v_h x g) bitsLt_bf16_f32 : FVec Ideal S256x1024 .bf16) = ea (hE (un x) (un g)) := by
  rw [h_h]
  funext q; idx_vars q
  pointwise
def v_p (h : FVec Ideal S256x1024 .f32) (w : FVec Ideal S1024x1024 .f32) : FVec Ideal S256x1024 .bf16 :=
  truncf .bf16 (Host.dotGeneral dot_S256x1024_S1024x1024_S256x1024_1_0_0_1_n_n none h w) bitsLt_bf16_f32
theorem h_p (x : FVec Ideal S256x1024 .f32) (g : FVec Ideal S1x1024 .f32) (w : FVec Ideal S1024x1024 .f32) : v_p (v_h x g) w = ea (pE (un x) (un g) (un w)) := by
  rw [h_h]
  unfold v_p
  funext q; idx_vars q
  pointwise
  try simp only [ea_ix]
  rfl
variable (m : (ℓ : Loc nD τ sig) → Buf (Elt Ideal) ℓ) (ρ : Dev nD → PrngReg)
theorem quiet : θ_run (defs (F := Ideal)) (onTc (τ := τ) (main (F := Ideal))) ⟨m, fun _ => 0, ρ⟩ fun r => (∀ c : Dev nD,
    rd r.2.mem c main_arg0 = rd m c main_arg0 ∧ rd r.2.mem c main_arg1 = rd m c main_arg1 ∧ rd r.2.mem c main_arg2 = rd m c main_arg2 ∧ rd r.2.mem c main_arg3 = rd m c main_arg3) ∧ r.2.sem = fun _ => 0 :=
  (θ_run defs _ _).mono (fun r h => ⟨fun c => (h c).2.2.2, sem_eq_zero_of_no_sems (by decide) r.2⟩) (Value.run m ρ)
theorem run : θ_run (defs (F := Ideal)) (onTc (τ := τ) (main (F := Ideal))) ⟨m, fun _ => 0, ρ⟩ fun r => ∀ c : Dev nD,
    rd r.2.mem c main_v12 = (ea (hE (un (rd m c main_arg0)) (un (rd m c main_arg1))) : FVec Ideal S256x1024 .bf16) ∧ rd r.2.mem c main_v14 = (ea (pE (un (rd m c main_arg0)) (un (rd m c main_arg1)) (un (rd m c main_arg2))) : FVec Ideal S256x1024 .bf16)
    ∧ rd r.2.mem c main_v16 = (ea (pE (un (rd m c main_arg0)) (un (rd m c main_arg1)) (un (rd m c main_arg3))) : FVec Ideal S256x1024 .bf16)
    ∧ rd r.2.mem c main_arg0 = rd m c main_arg0 ∧ rd r.2.mem c main_arg1 = rd m c main_arg1 ∧ rd r.2.mem c main_arg2 = rd m c main_arg2 ∧ rd r.2.mem c main_arg3 = rd m c main_arg3 :=
  (θ_run defs _ _).mono (fun r h c => ⟨(h c).1.trans (h_t _ _), (h c).2.1.trans (h_p _ _ _), (h c).2.2.1.trans (h_p _ _ _), (h c).2.2.2⟩) (Value.run m ρ)
end Ref
end Cert.Proof.MemFwd
end
-- ==== Proof.AdamUp.lean ====
/- The optimiser's step on 2048 rows of 704: the kernel's run and the reference's. -/
module
public import proofs.«01_k».proof.Proof.Gen.AdamUpIdeal.Frame
public import proofs.«01_k».proof.Proof.Gen.AdamUpRefIdeal.Run
public import proofs.«01_k».proof.Proof.AdamEq
@[expose] public section
noncomputable section
namespace Cert.Proof.AdamUp
open Idealize.ShloMosaic Idealize.ShloMosaic.TcCoe Idealize.SL.Sem AdamEq

section
open Cert.AdamUpIdeal Gen
theorem ld_a (X : FVec Ideal S128x704 .f32) : View.ld (Val := Elt Ideal) (e' := .f32) X r0_0 = X := by
  funext q; idx_vars q
  unfold r0_0
  pointwise
theorem canon_a (X : FVec Ideal S128x704 .f32) : View.canon (Val := Elt Ideal) (e := .f32) [⟨r0_0, X⟩] = X := by
  funext q
  canon_tiles q h
  refine congrArg X (funext fun a => ?_)
  fin_cases a
  exacts [Fin.ext h0.symm, Fin.ext h1.symm]

variable (m : (ℓ : Loc nD τ sig) → Buf (Elt Ideal) ℓ) (ρ : Dev nD → PrngReg) (c : Dev nD) (t : Fin cfg0.N)
def row (p : Fin 128) : Fin 2048 := ⟨t.val * 128 + p.val, by have := lt_of_lt_of_eq t.isLt (show cfg0.N = 16 from N_0); omega⟩
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)
theorem b0 : iblk m c 0 t = (ea fun p j => rd m c main_arg0 (ix2 (row t p) j) : FVec Ideal S128x704 .f32) := by
  funext q; idx_vars q
  refine Eq.trans (b := V m c main_arg0 (ix2 (row t q0) q1)) ?_ (by entry_read; rfl)
  blk_ext [iblk, idx t, row]
theorem b1 : iblk m c 1 t = (ea fun p j => rd m c main_arg1 (ix2 (row t p) j) : FVec Ideal S128x704 .f32) := by
  funext q; idx_vars q
  refine Eq.trans (b := V m c main_arg1 (ix2 (row t q0) q1)) ?_ (by entry_read; rfl)
  blk_ext [iblk, idx t, row]
theorem b2 : iblk m c 2 t = (ea fun p j => rd m c main_arg2 (ix2 (row t p) j) : FVec Ideal S128x704 .f32) := by
  funext q; idx_vars q
  refine Eq.trans (b := V m c main_arg2 (ix2 (row t q0) q1)) ?_ (by entry_read; rfl)
  blk_ext [iblk, idx t, row]
theorem b3 : iblk m c 3 t = (ea fun p j => rd m c main_arg3 (ix2 (row t p) j) : FVec Ideal S128x704 .f32) := by
  funext q; idx_vars q
  refine Eq.trans (b := V m c main_arg3 (ix2 (row t q0) q1)) ?_ (by entry_read; rfl)
  blk_ext [iblk, idx t, row]
theorem f4 : (dats m 0 c).arrAt 4 cfg0.N = (ea (dE (rd m c main_arg0) (rd m c main_arg1) (rd m c main_arg2) (rd m c main_arg3)) : FVec Ideal S2048x704 .f32) := by
  refine (dats m 0 c).arrAt_eq_of_covers 4 _ (by decide +kernel) fun t hf y => ?_
  blk_simp
  rw [after0_4]
  simp only [out0_4, canon_a, b0, b1, b2, b3, ld_a]
  refine Eq.trans (b := dE (rd m c main_arg0) (rd m c main_arg1) (rd m c main_arg2) (rd m c main_arg3) (row t (y 0)) (y 1)) rfl (congrArg₂ _ (Fin.ext ?_) (Fin.ext ?_)) <;> blk_simp [idx t, row]
theorem f5 : (dats m 0 c).arrAt 5 cfg0.N = (ea (mE (rd m c main_arg1) (rd m c main_arg2)) : FVec Ideal S2048x704 .f32) := by
  refine (dats m 0 c).arrAt_eq_of_covers 5 _ (by decide +kernel) fun t hf y => ?_
  blk_simp
  rw [after0_5]
  simp only [out0_5, canon_a, b0, b1, b2, b3, ld_a]
  refine Eq.trans (b := mE (rd m c main_arg1) (rd m c main_arg2) (row t (y 0)) (y 1)) rfl (congrArg₂ _ (Fin.ext ?_) (Fin.ext ?_)) <;> blk_simp [idx t, row]
theorem f6 : (dats m 0 c).arrAt 6 cfg0.N = (ea (vE (rd m c main_arg1) (rd m c main_arg3)) : FVec Ideal S2048x704 .f32) := by
  refine (dats m 0 c).arrAt_eq_of_covers 6 _ (by decide +kernel) fun t hf y => ?_
  blk_simp
  rw [after0_6]
  simp only [out0_6, canon_a, b0, b1, b2, b3, ld_a]
  refine Eq.trans (b := vE (rd m c main_arg1) (rd m c main_arg3) (row t (y 0)) (y 1)) rfl (congrArg₂ _ (Fin.ext ?_) (Fin.ext ?_)) <;> blk_simp [idx t, row]
theorem run : θ_run (defs (F := Ideal)) (onTc (τ := τ) (main (F := Ideal))) ⟨m, fun _ => 0, ρ⟩ fun r => ∀ c : Dev nD,
    rd r.2.mem c main_v0_0 = (ea (dE (rd m c main_arg0) (rd m c main_arg1) (rd m c main_arg2) (rd m c main_arg3)) : FVec Ideal S2048x704 .f32) ∧ rd r.2.mem c main_v0_1 = (ea (mE (rd m c main_arg1) (rd m c main_arg2)) : FVec Ideal S2048x704 .f32)
    ∧ rd r.2.mem c main_v0_2 = (ea (vE (rd m c main_arg1) (rd m c main_arg3)) : FVec Ideal S2048x704 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 :=
  (θ_run defs _ _).mono (fun r h c => ⟨((h.1 c).1 4).trans (f4 m c), ((h.1 c).1 5).trans (f5 m c), ((h.1 c).1 6).trans (f6 m c), h.2 c⟩) (θ_run_and (run_main m ρ) (unchanged m ρ))
end

namespace Ref
open Cert.AdamUpRefIdeal
variable (m : (ℓ : Loc nD τ sig) → Buf (Elt Ideal) ℓ) (ρ : Dev nD → PrngReg)
theorem quiet : θ_run (defs (F := Ideal)) (onTc (τ := τ) (main (F := Ideal))) ⟨m, fun _ => 0, ρ⟩ fun r => (∀ c : Dev nD,
    rd r.2.mem c main_arg0 = rd m c main_arg0 ∧ rd r.2.mem c main_arg1 = rd m c main_arg1 ∧ rd r.2.mem c main_arg2 = rd m c main_arg2 ∧ rd r.2.mem c main_arg3 = rd m c main_arg3) ∧ r.2.sem = fun _ => 0 :=
  (θ_run defs _ _).mono (fun r h => ⟨fun c => (h c).2.2.2, sem_eq_zero_of_no_sems (by decide) r.2⟩) (Value.run m ρ)
theorem run : θ_run (defs (F := Ideal)) (onTc (τ := τ) (main (F := Ideal))) ⟨m, fun _ => 0, ρ⟩ fun r => ∀ c : Dev nD,
    rd r.2.mem c main_v23 = (ea (dE (rd m c main_arg0) (rd m c main_arg1) (rd m c main_arg2) (rd m c main_arg3)) : FVec Ideal S2048x704 .f32) ∧ rd r.2.mem c main_v4 = (ea (mE (rd m c main_arg1) (rd m c main_arg2)) : FVec Ideal S2048x704 .f32)
    ∧ rd r.2.mem c main_v10 = (ea (vE (rd m c main_arg1) (rd m c main_arg3)) : FVec Ideal S2048x704 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 := by
  refine (θ_run defs _ _).mono (fun r h c => ⟨(h c).1.trans ?_, (h c).2.1.trans ?_, (h c).2.2.1.trans ?_, (h c).2.2.2⟩) (Value.run m ρ)
    <;> (funext q; idx_vars q; pointwise; rfl)
end Ref
end Cert.Proof.AdamUp
end
-- ==== Proof.AdamDown.lean ====
/- The optimiser's step on 1408 rows of 1024: the kernel's run and the reference's. -/
module
public import proofs.«01_k».proof.Proof.Gen.AdamDownIdeal.Frame
public import proofs.«01_k».proof.Proof.Gen.AdamDownRefIdeal.Run
public import proofs.«01_k».proof.Proof.AdamEq
@[expose] public section
noncomputable section
namespace Cert.Proof.AdamDown
open Idealize.ShloMosaic Idealize.ShloMosaic.TcCoe Idealize.SL.Sem AdamEq

section
open Cert.AdamDownIdeal Gen
theorem ld_a (X : FVec Ideal S128x1024 .f32) : View.ld (Val := Elt Ideal) (e' := .f32) X r0_0 = X := by
  funext q; idx_vars q
  unfold r0_0
  pointwise
theorem canon_a (X : FVec Ideal S128x1024 .f32) : View.canon (Val := Elt Ideal) (e := .f32) [⟨r0_0, X⟩] = X := by
  funext q
  canon_tiles q h
  refine congrArg X (funext fun a => ?_)
  fin_cases a
  exacts [Fin.ext h0.symm, Fin.ext h1.symm]

variable (m : (ℓ : Loc nD τ sig) → Buf (Elt Ideal) ℓ) (ρ : Dev nD → PrngReg) (c : Dev nD) (t : Fin cfg0.N)
def row (p : Fin 128) : Fin 1408 := ⟨t.val * 128 + p.val, by have := lt_of_lt_of_eq t.isLt (show cfg0.N = 11 from N_0); omega⟩
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)
theorem b0 : iblk m c 0 t = (ea fun p j => rd m c main_arg0 (ix2 (row t p) j) : FVec Ideal S128x1024 .f32) := by
  funext q; idx_vars q
  refine Eq.trans (b := V m c main_arg0 (ix2 (row t q0) q1)) ?_ (by entry_read; rfl)
  blk_ext [iblk, idx t, row]
theorem b1 : iblk m c 1 t = (ea fun p j => rd m c main_arg1 (ix2 (row t p) j) : FVec Ideal S128x1024 .f32) := by
  funext q; idx_vars q
  refine Eq.trans (b := V m c main_arg1 (ix2 (row t q0) q1)) ?_ (by entry_read; rfl)
  blk_ext [iblk, idx t, row]
theorem b2 : iblk m c 2 t = (ea fun p j => rd m c main_arg2 (ix2 (row t p) j) : FVec Ideal S128x1024 .f32) := by
  funext q; idx_vars q
  refine Eq.trans (b := V m c main_arg2 (ix2 (row t q0) q1)) ?_ (by entry_read; rfl)
  blk_ext [iblk, idx t, row]
theorem b3 : iblk m c 3 t = (ea fun p j => rd m c main_arg3 (ix2 (row t p) j) : FVec Ideal S128x1024 .f32) := by
  funext q; idx_vars q
  refine Eq.trans (b := V m c main_arg3 (ix2 (row t q0) q1)) ?_ (by entry_read; rfl)
  blk_ext [iblk, idx t, row]
theorem f4 : (dats m 0 c).arrAt 4 cfg0.N = (ea (dE (rd m c main_arg0) (rd m c main_arg1) (rd m c main_arg2) (rd m c main_arg3)) : FVec Ideal S1408x1024 .f32) := by
  refine (dats m 0 c).arrAt_eq_of_covers 4 _ (by decide +kernel) fun t hf y => ?_
  blk_simp
  rw [after0_4]
  simp only [out0_4, canon_a, b0, b1, b2, b3, ld_a]
  refine Eq.trans (b := dE (rd m c main_arg0) (rd m c main_arg1) (rd m c main_arg2) (rd m c main_arg3) (row t (y 0)) (y 1)) rfl (congrArg₂ _ (Fin.ext ?_) (Fin.ext ?_)) <;> blk_simp [idx t, row]
theorem f5 : (dats m 0 c).arrAt 5 cfg0.N = (ea (mE (rd m c main_arg1) (rd m c main_arg2)) : FVec Ideal S1408x1024 .f32) := by
  refine (dats m 0 c).arrAt_eq_of_covers 5 _ (by decide +kernel) fun t hf y => ?_
  blk_simp
  rw [after0_5]
  simp only [out0_5, canon_a, b0, b1, b2, b3, ld_a]
  refine Eq.trans (b := mE (rd m c main_arg1) (rd m c main_arg2) (row t (y 0)) (y 1)) rfl (congrArg₂ _ (Fin.ext ?_) (Fin.ext ?_)) <;> blk_simp [idx t, row]
theorem f6 : (dats m 0 c).arrAt 6 cfg0.N = (ea (vE (rd m c main_arg1) (rd m c main_arg3)) : FVec Ideal S1408x1024 .f32) := by
  refine (dats m 0 c).arrAt_eq_of_covers 6 _ (by decide +kernel) fun t hf y => ?_
  blk_simp
  rw [after0_6]
  simp only [out0_6, canon_a, b0, b1, b2, b3, ld_a]
  refine Eq.trans (b := vE (rd m c main_arg1) (rd m c main_arg3) (row t (y 0)) (y 1)) rfl (congrArg₂ _ (Fin.ext ?_) (Fin.ext ?_)) <;> blk_simp [idx t, row]
theorem run : θ_run (defs (F := Ideal)) (onTc (τ := τ) (main (F := Ideal))) ⟨m, fun _ => 0, ρ⟩ fun r => ∀ c : Dev nD,
    rd r.2.mem c main_v0_0 = (ea (dE (rd m c main_arg0) (rd m c main_arg1) (rd m c main_arg2) (rd m c main_arg3)) : FVec Ideal S1408x1024 .f32) ∧ rd r.2.mem c main_v0_1 = (ea (mE (rd m c main_arg1) (rd m c main_arg2)) : FVec Ideal S1408x1024 .f32)
    ∧ rd r.2.mem c main_v0_2 = (ea (vE (rd m c main_arg1) (rd m c main_arg3)) : FVec Ideal S1408x1024 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 :=
  (θ_run defs _ _).mono (fun r h c => ⟨((h.1 c).1 4).trans (f4 m c), ((h.1 c).1 5).trans (f5 m c), ((h.1 c).1 6).trans (f6 m c), h.2 c⟩) (θ_run_and (run_main m ρ) (unchanged m ρ))
end

namespace Ref
open Cert.AdamDownRefIdeal
variable (m : (ℓ : Loc nD τ sig) → Buf (Elt Ideal) ℓ) (ρ : Dev nD → PrngReg)
theorem quiet : θ_run (defs (F := Ideal)) (onTc (τ := τ) (main (F := Ideal))) ⟨m, fun _ => 0, ρ⟩ fun r => (∀ c : Dev nD,
    rd r.2.mem c main_arg0 = rd m c main_arg0 ∧ rd r.2.mem c main_arg1 = rd m c main_arg1 ∧ rd r.2.mem c main_arg2 = rd m c main_arg2 ∧ rd r.2.mem c main_arg3 = rd m c main_arg3) ∧ r.2.sem = fun _ => 0 :=
  (θ_run defs _ _).mono (fun r h => ⟨fun c => (h c).2.2.2, sem_eq_zero_of_no_sems (by decide) r.2⟩) (Value.run m ρ)
theorem run : θ_run (defs (F := Ideal)) (onTc (τ := τ) (main (F := Ideal))) ⟨m, fun _ => 0, ρ⟩ fun r => ∀ c : Dev nD,
    rd r.2.mem c main_v23 = (ea (dE (rd m c main_arg0) (rd m c main_arg1) (rd m c main_arg2) (rd m c main_arg3)) : FVec Ideal S1408x1024 .f32) ∧ rd r.2.mem c main_v4 = (ea (mE (rd m c main_arg1) (rd m c main_arg2)) : FVec Ideal S1408x1024 .f32)
    ∧ rd r.2.mem c main_v10 = (ea (vE (rd m c main_arg1) (rd m c main_arg3)) : FVec Ideal S1408x1024 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 := by
  refine (θ_run defs _ _).mono (fun r h c => ⟨(h c).1.trans ?_, (h c).2.1.trans ?_, (h c).2.2.1.trans ?_, (h c).2.2.2⟩) (Value.run m ρ)
    <;> (funext q; idx_vars q; pointwise; rfl)
end Ref
end Cert.Proof.AdamDown
end
-- ==== Proof.AdamIn.lean ====
/- The optimiser's step on 2048 rows of 1794: the kernel's run and the reference's. -/
module
public import proofs.«01_k».proof.Proof.Gen.AdamInIdeal.Frame
public import proofs.«01_k».proof.Proof.Gen.AdamInRefIdeal.Run
public import proofs.«01_k».proof.Proof.AdamEq
@[expose] public section
noncomputable section
namespace Cert.Proof.AdamIn
open Idealize.ShloMosaic Idealize.ShloMosaic.TcCoe Idealize.SL.Sem AdamEq

section
open Cert.AdamInIdeal Gen
theorem ld_a (X : FVec Ideal S128x1794 .f32) : View.ld (Val := Elt Ideal) (e' := .f32) X r0_0 = X := by
  funext q; idx_vars q
  unfold r0_0
  pointwise
theorem canon_a (X : FVec Ideal S128x1794 .f32) : View.canon (Val := Elt Ideal) (e := .f32) [⟨r0_0, X⟩] = X := by
  funext q
  canon_tiles q h
  refine congrArg X (funext fun a => ?_)
  fin_cases a
  exacts [Fin.ext h0.symm, Fin.ext h1.symm]

variable (m : (ℓ : Loc nD τ sig) → Buf (Elt Ideal) ℓ) (ρ : Dev nD → PrngReg) (c : Dev nD) (t : Fin cfg0.N)
def row (p : Fin 128) : Fin 2048 := ⟨t.val * 128 + p.val, by have := lt_of_lt_of_eq t.isLt (show cfg0.N = 16 from N_0); omega⟩
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)
theorem b0 : iblk m c 0 t = (ea fun p j => rd m c main_arg0 (ix2 (row t p) j) : FVec Ideal S128x1794 .f32) := by
  funext q; idx_vars q
  refine Eq.trans (b := V m c main_arg0 (ix2 (row t q0) q1)) ?_ (by entry_read; rfl)
  blk_ext [iblk, idx t, row]
theorem b1 : iblk m c 1 t = (ea fun p j => rd m c main_arg1 (ix2 (row t p) j) : FVec Ideal S128x1794 .f32) := by
  funext q; idx_vars q
  refine Eq.trans (b := V m c main_arg1 (ix2 (row t q0) q1)) ?_ (by entry_read; rfl)
  blk_ext [iblk, idx t, row]
theorem b2 : iblk m c 2 t = (ea fun p j => rd m c main_arg2 (ix2 (row t p) j) : FVec Ideal S128x1794 .f32) := by
  funext q; idx_vars q
  refine Eq.trans (b := V m c main_arg2 (ix2 (row t q0) q1)) ?_ (by entry_read; rfl)
  blk_ext [iblk, idx t, row]
theorem b3 : iblk m c 3 t = (ea fun p j => rd m c main_arg3 (ix2 (row t p) j) : FVec Ideal S128x1794 .f32) := by
  funext q; idx_vars q
  refine Eq.trans (b := V m c main_arg3 (ix2 (row t q0) q1)) ?_ (by entry_read; rfl)
  blk_ext [iblk, idx t, row]
theorem f4 : (dats m 0 c).arrAt 4 cfg0.N = (ea (dE (rd m c main_arg0) (rd m c main_arg1) (rd m c main_arg2) (rd m c main_arg3)) : FVec Ideal S2048x1794 .f32) := by
  refine (dats m 0 c).arrAt_eq_of_covers 4 _ (by decide +kernel) fun t hf y => ?_
  blk_simp
  rw [after0_4]
  simp only [out0_4, canon_a, b0, b1, b2, b3, ld_a]
  refine Eq.trans (b := dE (rd m c main_arg0) (rd m c main_arg1) (rd m c main_arg2) (rd m c main_arg3) (row t (y 0)) (y 1)) rfl (congrArg₂ _ (Fin.ext ?_) (Fin.ext ?_)) <;> blk_simp [idx t, row]
theorem f5 : (dats m 0 c).arrAt 5 cfg0.N = (ea (mE (rd m c main_arg1) (rd m c main_arg2)) : FVec Ideal S2048x1794 .f32) := by
  refine (dats m 0 c).arrAt_eq_of_covers 5 _ (by decide +kernel) fun t hf y => ?_
  blk_simp
  rw [after0_5]
  simp only [out0_5, canon_a, b0, b1, b2, b3, ld_a]
  refine Eq.trans (b := mE (rd m c main_arg1) (rd m c main_arg2) (row t (y 0)) (y 1)) rfl (congrArg₂ _ (Fin.ext ?_) (Fin.ext ?_)) <;> blk_simp [idx t, row]
theorem f6 : (dats m 0 c).arrAt 6 cfg0.N = (ea (vE (rd m c main_arg1) (rd m c main_arg3)) : FVec Ideal S2048x1794 .f32) := by
  refine (dats m 0 c).arrAt_eq_of_covers 6 _ (by decide +kernel) fun t hf y => ?_
  blk_simp
  rw [after0_6]
  simp only [out0_6, canon_a, b0, b1, b2, b3, ld_a]
  refine Eq.trans (b := vE (rd m c main_arg1) (rd m c main_arg3) (row t (y 0)) (y 1)) rfl (congrArg₂ _ (Fin.ext ?_) (Fin.ext ?_)) <;> blk_simp [idx t, row]
theorem run : θ_run (defs (F := Ideal)) (onTc (τ := τ) (main (F := Ideal))) ⟨m, fun _ => 0, ρ⟩ fun r => ∀ c : Dev nD,
    rd r.2.mem c main_v0_0 = (ea (dE (rd m c main_arg0) (rd m c main_arg1) (rd m c main_arg2) (rd m c main_arg3)) : FVec Ideal S2048x1794 .f32) ∧ rd r.2.mem c main_v0_1 = (ea (mE (rd m c main_arg1) (rd m c main_arg2)) : FVec Ideal S2048x1794 .f32)
    ∧ rd r.2.mem c main_v0_2 = (ea (vE (rd m c main_arg1) (rd m c main_arg3)) : FVec Ideal S2048x1794 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 :=
  (θ_run defs _ _).mono (fun r h c => ⟨((h.1 c).1 4).trans (f4 m c), ((h.1 c).1 5).trans (f5 m c), ((h.1 c).1 6).trans (f6 m c), h.2 c⟩) (θ_run_and (run_main m ρ) (unchanged m ρ))
end

namespace Ref
open Cert.AdamInRefIdeal
variable (m : (ℓ : Loc nD τ sig) → Buf (Elt Ideal) ℓ) (ρ : Dev nD → PrngReg)
theorem quiet : θ_run (defs (F := Ideal)) (onTc (τ := τ) (main (F := Ideal))) ⟨m, fun _ => 0, ρ⟩ fun r => (∀ c : Dev nD,
    rd r.2.mem c main_arg0 = rd m c main_arg0 ∧ rd r.2.mem c main_arg1 = rd m c main_arg1 ∧ rd r.2.mem c main_arg2 = rd m c main_arg2 ∧ rd r.2.mem c main_arg3 = rd m c main_arg3) ∧ r.2.sem = fun _ => 0 :=
  (θ_run defs _ _).mono (fun r h => ⟨fun c => (h c).2.2.2, sem_eq_zero_of_no_sems (by decide) r.2⟩) (Value.run m ρ)
theorem run : θ_run (defs (F := Ideal)) (onTc (τ := τ) (main (F := Ideal))) ⟨m, fun _ => 0, ρ⟩ fun r => ∀ c : Dev nD,
    rd r.2.mem c main_v23 = (ea (dE (rd m c main_arg0) (rd m c main_arg1) (rd m c main_arg2) (rd m c main_arg3)) : FVec Ideal S2048x1794 .f32) ∧ rd r.2.mem c main_v4 = (ea (mE (rd m c main_arg1) (rd m c main_arg2)) : FVec Ideal S2048x1794 .f32)
    ∧ rd r.2.mem c main_v10 = (ea (vE (rd m c main_arg1) (rd m c main_arg3)) : FVec Ideal S2048x1794 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 := by
  refine (θ_run defs _ _).mono (fun r h c => ⟨(h c).1.trans ?_, (h c).2.1.trans ?_, (h c).2.2.1.trans ?_, (h c).2.2.2⟩) (Value.run m ρ)
    <;> (funext q; idx_vars q; pointwise; rfl)
end Ref
end Cert.Proof.AdamIn
end
-- ==== Proof.AdamBranch.lean ====
/- The optimiser's step on 3072 rows of 256: the kernel's run and the reference's. -/
module
public import proofs.«01_k».proof.Proof.Gen.AdamBranchIdeal.Frame
public import proofs.«01_k».proof.Proof.Gen.AdamBranchRefIdeal.Run
public import proofs.«01_k».proof.Proof.AdamEq
@[expose] public section
noncomputable section
namespace Cert.Proof.AdamBranch
open Idealize.ShloMosaic Idealize.ShloMosaic.TcCoe Idealize.SL.Sem AdamEq

section
open Cert.AdamBranchIdeal Gen
theorem ld_a (X : FVec Ideal S128x256 .f32) : View.ld (Val := Elt Ideal) (e' := .f32) X r0_0 = X := by
  funext q; idx_vars q
  unfold r0_0
  pointwise
theorem canon_a (X : FVec Ideal S128x256 .f32) : View.canon (Val := Elt Ideal) (e := .f32) [⟨r0_0, X⟩] = X := by
  funext q
  canon_tiles q h
  refine congrArg X (funext fun a => ?_)
  fin_cases a
  exacts [Fin.ext h0.symm, Fin.ext h1.symm]

variable (m : (ℓ : Loc nD τ sig) → Buf (Elt Ideal) ℓ) (ρ : Dev nD → PrngReg) (c : Dev nD) (t : Fin cfg0.N)
def row (p : Fin 128) : Fin 3072 := ⟨t.val * 128 + p.val, by have := lt_of_lt_of_eq t.isLt (show cfg0.N = 24 from N_0); omega⟩
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)
theorem b0 : iblk m c 0 t = (ea fun p j => rd m c main_arg0 (ix2 (row t p) j) : FVec Ideal S128x256 .f32) := by
  funext q; idx_vars q
  refine Eq.trans (b := V m c main_arg0 (ix2 (row t q0) q1)) ?_ (by entry_read; rfl)
  blk_ext [iblk, idx t, row]
theorem b1 : iblk m c 1 t = (ea fun p j => rd m c main_arg1 (ix2 (row t p) j) : FVec Ideal S128x256 .f32) := by
  funext q; idx_vars q
  refine Eq.trans (b := V m c main_arg1 (ix2 (row t q0) q1)) ?_ (by entry_read; rfl)
  blk_ext [iblk, idx t, row]
theorem b2 : iblk m c 2 t = (ea fun p j => rd m c main_arg2 (ix2 (row t p) j) : FVec Ideal S128x256 .f32) := by
  funext q; idx_vars q
  refine Eq.trans (b := V m c main_arg2 (ix2 (row t q0) q1)) ?_ (by entry_read; rfl)
  blk_ext [iblk, idx t, row]
theorem b3 : iblk m c 3 t = (ea fun p j => rd m c main_arg3 (ix2 (row t p) j) : FVec Ideal S128x256 .f32) := by
  funext q; idx_vars q
  refine Eq.trans (b := V m c main_arg3 (ix2 (row t q0) q1)) ?_ (by entry_read; rfl)
  blk_ext [iblk, idx t, row]
theorem f4 : (dats m 0 c).arrAt 4 cfg0.N = (ea (dE (rd m c main_arg0) (rd m c main_arg1) (rd m c main_arg2) (rd m c main_arg3)) : FVec Ideal S3072x256 .f32) := by
  refine (dats m 0 c).arrAt_eq_of_covers 4 _ (by decide +kernel) fun t hf y => ?_
  blk_simp
  rw [after0_4]
  simp only [out0_4, canon_a, b0, b1, b2, b3, ld_a]
  refine Eq.trans (b := dE (rd m c main_arg0) (rd m c main_arg1) (rd m c main_arg2) (rd m c main_arg3) (row t (y 0)) (y 1)) rfl (congrArg₂ _ (Fin.ext ?_) (Fin.ext ?_)) <;> blk_simp [idx t, row]
theorem f5 : (dats m 0 c).arrAt 5 cfg0.N = (ea (mE (rd m c main_arg1) (rd m c main_arg2)) : FVec Ideal S3072x256 .f32) := by
  refine (dats m 0 c).arrAt_eq_of_covers 5 _ (by decide +kernel) fun t hf y => ?_
  blk_simp
  rw [after0_5]
  simp only [out0_5, canon_a, b0, b1, b2, b3, ld_a]
  refine Eq.trans (b := mE (rd m c main_arg1) (rd m c main_arg2) (row t (y 0)) (y 1)) rfl (congrArg₂ _ (Fin.ext ?_) (Fin.ext ?_)) <;> blk_simp [idx t, row]
theorem f6 : (dats m 0 c).arrAt 6 cfg0.N = (ea (vE (rd m c main_arg1) (rd m c main_arg3)) : FVec Ideal S3072x256 .f32) := by
  refine (dats m 0 c).arrAt_eq_of_covers 6 _ (by decide +kernel) fun t hf y => ?_
  blk_simp
  rw [after0_6]
  simp only [out0_6, canon_a, b0, b1, b2, b3, ld_a]
  refine Eq.trans (b := vE (rd m c main_arg1) (rd m c main_arg3) (row t (y 0)) (y 1)) rfl (congrArg₂ _ (Fin.ext ?_) (Fin.ext ?_)) <;> blk_simp [idx t, row]
theorem run : θ_run (defs (F := Ideal)) (onTc (τ := τ) (main (F := Ideal))) ⟨m, fun _ => 0, ρ⟩ fun r => ∀ c : Dev nD,
    rd r.2.mem c main_v0_0 = (ea (dE (rd m c main_arg0) (rd m c main_arg1) (rd m c main_arg2) (rd m c main_arg3)) : FVec Ideal S3072x256 .f32) ∧ rd r.2.mem c main_v0_1 = (ea (mE (rd m c main_arg1) (rd m c main_arg2)) : FVec Ideal S3072x256 .f32)
    ∧ rd r.2.mem c main_v0_2 = (ea (vE (rd m c main_arg1) (rd m c main_arg3)) : FVec Ideal S3072x256 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 :=
  (θ_run defs _ _).mono (fun r h c => ⟨((h.1 c).1 4).trans (f4 m c), ((h.1 c).1 5).trans (f5 m c), ((h.1 c).1 6).trans (f6 m c), h.2 c⟩) (θ_run_and (run_main m ρ) (unchanged m ρ))
end

namespace Ref
open Cert.AdamBranchRefIdeal
variable (m : (ℓ : Loc nD τ sig) → Buf (Elt Ideal) ℓ) (ρ : Dev nD → PrngReg)
theorem quiet : θ_run (defs (F := Ideal)) (onTc (τ := τ) (main (F := Ideal))) ⟨m, fun _ => 0, ρ⟩ fun r => (∀ c : Dev nD,
    rd r.2.mem c main_arg0 = rd m c main_arg0 ∧ rd r.2.mem c main_arg1 = rd m c main_arg1 ∧ rd r.2.mem c main_arg2 = rd m c main_arg2 ∧ rd r.2.mem c main_arg3 = rd m c main_arg3) ∧ r.2.sem = fun _ => 0 :=
  (θ_run defs _ _).mono (fun r h => ⟨fun c => (h c).2.2.2, sem_eq_zero_of_no_sems (by decide) r.2⟩) (Value.run m ρ)
theorem run : θ_run (defs (F := Ideal)) (onTc (τ := τ) (main (F := Ideal))) ⟨m, fun _ => 0, ρ⟩ fun r => ∀ c : Dev nD,
    rd r.2.mem c main_v23 = (ea (dE (rd m c main_arg0) (rd m c main_arg1) (rd m c main_arg2) (rd m c main_arg3)) : FVec Ideal S3072x256 .f32) ∧ rd r.2.mem c main_v4 = (ea (mE (rd m c main_arg1) (rd m c main_arg2)) : FVec Ideal S3072x256 .f32)
    ∧ rd r.2.mem c main_v10 = (ea (vE (rd m c main_arg1) (rd m c main_arg3)) : FVec Ideal S3072x256 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 := by
  refine (θ_run defs _ _).mono (fun r h c => ⟨(h c).1.trans ?_, (h c).2.1.trans ?_, (h c).2.2.1.trans ?_, (h c).2.2.2⟩) (Value.run m ρ)
    <;> (funext q; idx_vars q; pointwise; rfl)
end Ref
end Cert.Proof.AdamBranch
end
-- ==== Proof.AdamSquare.lean ====
/- The optimiser's step on 512 rows of 1024: the kernel's run and the reference's. -/
module
public import proofs.«01_k».proof.Proof.Gen.AdamSquareIdeal.Frame
public import proofs.«01_k».proof.Proof.Gen.AdamSquareRefIdeal.Run
public import proofs.«01_k».proof.Proof.AdamEq
@[expose] public section
noncomputable section
namespace Cert.Proof.AdamSquare
open Idealize.ShloMosaic Idealize.ShloMosaic.TcCoe Idealize.SL.Sem AdamEq

section
open Cert.AdamSquareIdeal Gen
theorem ld_a (X : FVec Ideal S128x1024 .f32) : View.ld (Val := Elt Ideal) (e' := .f32) X r0_0 = X := by
  funext q; idx_vars q
  unfold r0_0
  pointwise
theorem canon_a (X : FVec Ideal S128x1024 .f32) : View.canon (Val := Elt Ideal) (e := .f32) [⟨r0_0, X⟩] = X := by
  funext q
  canon_tiles q h
  refine congrArg X (funext fun a => ?_)
  fin_cases a
  exacts [Fin.ext h0.symm, Fin.ext h1.symm]

variable (m : (ℓ : Loc nD τ sig) → Buf (Elt Ideal) ℓ) (ρ : Dev nD → PrngReg) (c : Dev nD) (t : Fin cfg0.N)
def row (p : Fin 128) : Fin 512 := ⟨t.val * 128 + p.val, by have := lt_of_lt_of_eq t.isLt (show cfg0.N = 4 from N_0); omega⟩
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)
theorem b0 : iblk m c 0 t = (ea fun p j => rd m c main_arg0 (ix2 (row t p) j) : FVec Ideal S128x1024 .f32) := by
  funext q; idx_vars q
  refine Eq.trans (b := V m c main_arg0 (ix2 (row t q0) q1)) ?_ (by entry_read; rfl)
  blk_ext [iblk, idx t, row]
theorem b1 : iblk m c 1 t = (ea fun p j => rd m c main_arg1 (ix2 (row t p) j) : FVec Ideal S128x1024 .f32) := by
  funext q; idx_vars q
  refine Eq.trans (b := V m c main_arg1 (ix2 (row t q0) q1)) ?_ (by entry_read; rfl)
  blk_ext [iblk, idx t, row]
theorem b2 : iblk m c 2 t = (ea fun p j => rd m c main_arg2 (ix2 (row t p) j) : FVec Ideal S128x1024 .f32) := by
  funext q; idx_vars q
  refine Eq.trans (b := V m c main_arg2 (ix2 (row t q0) q1)) ?_ (by entry_read; rfl)
  blk_ext [iblk, idx t, row]
theorem b3 : iblk m c 3 t = (ea fun p j => rd m c main_arg3 (ix2 (row t p) j) : FVec Ideal S128x1024 .f32) := by
  funext q; idx_vars q
  refine Eq.trans (b := V m c main_arg3 (ix2 (row t q0) q1)) ?_ (by entry_read; rfl)
  blk_ext [iblk, idx t, row]
theorem f4 : (dats m 0 c).arrAt 4 cfg0.N = (ea (dE (rd m c main_arg0) (rd m c main_arg1) (rd m c main_arg2) (rd m c main_arg3)) : FVec Ideal S512x1024 .f32) := by
  refine (dats m 0 c).arrAt_eq_of_covers 4 _ (by decide +kernel) fun t hf y => ?_
  blk_simp
  rw [after0_4]
  simp only [out0_4, canon_a, b0, b1, b2, b3, ld_a]
  refine Eq.trans (b := dE (rd m c main_arg0) (rd m c main_arg1) (rd m c main_arg2) (rd m c main_arg3) (row t (y 0)) (y 1)) rfl (congrArg₂ _ (Fin.ext ?_) (Fin.ext ?_)) <;> blk_simp [idx t, row]
theorem f5 : (dats m 0 c).arrAt 5 cfg0.N = (ea (mE (rd m c main_arg1) (rd m c main_arg2)) : FVec Ideal S512x1024 .f32) := by
  refine (dats m 0 c).arrAt_eq_of_covers 5 _ (by decide +kernel) fun t hf y => ?_
  blk_simp
  rw [after0_5]
  simp only [out0_5, canon_a, b0, b1, b2, b3, ld_a]
  refine Eq.trans (b := mE (rd m c main_arg1) (rd m c main_arg2) (row t (y 0)) (y 1)) rfl (congrArg₂ _ (Fin.ext ?_) (Fin.ext ?_)) <;> blk_simp [idx t, row]
theorem f6 : (dats m 0 c).arrAt 6 cfg0.N = (ea (vE (rd m c main_arg1) (rd m c main_arg3)) : FVec Ideal S512x1024 .f32) := by
  refine (dats m 0 c).arrAt_eq_of_covers 6 _ (by decide +kernel) fun t hf y => ?_
  blk_simp
  rw [after0_6]
  simp only [out0_6, canon_a, b0, b1, b2, b3, ld_a]
  refine Eq.trans (b := vE (rd m c main_arg1) (rd m c main_arg3) (row t (y 0)) (y 1)) rfl (congrArg₂ _ (Fin.ext ?_) (Fin.ext ?_)) <;> blk_simp [idx t, row]
theorem run : θ_run (defs (F := Ideal)) (onTc (τ := τ) (main (F := Ideal))) ⟨m, fun _ => 0, ρ⟩ fun r => ∀ c : Dev nD,
    rd r.2.mem c main_v0_0 = (ea (dE (rd m c main_arg0) (rd m c main_arg1) (rd m c main_arg2) (rd m c main_arg3)) : FVec Ideal S512x1024 .f32) ∧ rd r.2.mem c main_v0_1 = (ea (mE (rd m c main_arg1) (rd m c main_arg2)) : FVec Ideal S512x1024 .f32)
    ∧ rd r.2.mem c main_v0_2 = (ea (vE (rd m c main_arg1) (rd m c main_arg3)) : FVec Ideal S512x1024 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 :=
  (θ_run defs _ _).mono (fun r h c => ⟨((h.1 c).1 4).trans (f4 m c), ((h.1 c).1 5).trans (f5 m c), ((h.1 c).1 6).trans (f6 m c), h.2 c⟩) (θ_run_and (run_main m ρ) (unchanged m ρ))
end

namespace Ref
open Cert.AdamSquareRefIdeal
variable (m : (ℓ : Loc nD τ sig) → Buf (Elt Ideal) ℓ) (ρ : Dev nD → PrngReg)
theorem quiet : θ_run (defs (F := Ideal)) (onTc (τ := τ) (main (F := Ideal))) ⟨m, fun _ => 0, ρ⟩ fun r => (∀ c : Dev nD,
    rd r.2.mem c main_arg0 = rd m c main_arg0 ∧ rd r.2.mem c main_arg1 = rd m c main_arg1 ∧ rd r.2.mem c main_arg2 = rd m c main_arg2 ∧ rd r.2.mem c main_arg3 = rd m c main_arg3) ∧ r.2.sem = fun _ => 0 :=
  (θ_run defs _ _).mono (fun r h => ⟨fun c => (h c).2.2.2, sem_eq_zero_of_no_sems (by decide) r.2⟩) (Value.run m ρ)
theorem run : θ_run (defs (F := Ideal)) (onTc (τ := τ) (main (F := Ideal))) ⟨m, fun _ => 0, ρ⟩ fun r => ∀ c : Dev nD,
    rd r.2.mem c main_v23 = (ea (dE (rd m c main_arg0) (rd m c main_arg1) (rd m c main_arg2) (rd m c main_arg3)) : FVec Ideal S512x1024 .f32) ∧ rd r.2.mem c main_v4 = (ea (mE (rd m c main_arg1) (rd m c main_arg2)) : FVec Ideal S512x1024 .f32)
    ∧ rd r.2.mem c main_v10 = (ea (vE (rd m c main_arg1) (rd m c main_arg3)) : FVec Ideal S512x1024 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 := by
  refine (θ_run defs _ _).mono (fun r h c => ⟨(h c).1.trans ?_, (h c).2.1.trans ?_, (h c).2.2.1.trans ?_, (h c).2.2.2⟩) (Value.run m ρ)
    <;> (funext q; idx_vars q; pointwise; rfl)
end Ref
end Cert.Proof.AdamSquare
end
-- ==== Proof.AdamSmall.lean ====
/- The optimiser's step on 1136 rows of 128: the kernel's run and the reference's. -/
module
public import proofs.«01_k».proof.Proof.Gen.AdamSmallIdeal.Frame
public import proofs.«01_k».proof.Proof.Gen.AdamSmallRefIdeal.Run
public import proofs.«01_k».proof.Proof.AdamEq
@[expose] public section
noncomputable section
namespace Cert.Proof.AdamSmall
open Idealize.ShloMosaic Idealize.ShloMosaic.TcCoe Idealize.SL.Sem AdamEq

section
open Cert.AdamSmallIdeal Gen
theorem ld_a (X : FVec Ideal S1136x128 .f32) : View.ld (Val := Elt Ideal) (e' := .f32) X r0_0 = X := by
  funext q; idx_vars q
  unfold r0_0
  pointwise
theorem canon_a (X : FVec Ideal S1136x128 .f32) : View.canon (Val := Elt Ideal) (e := .f32) [⟨r0_0, X⟩] = X := by
  funext q
  canon_tiles q h
  refine congrArg X (funext fun a => ?_)
  fin_cases a
  exacts [Fin.ext h0.symm, Fin.ext h1.symm]

variable (m : (ℓ : Loc nD τ sig) → Buf (Elt Ideal) ℓ) (ρ : Dev nD → PrngReg) (c : Dev nD) (t : Fin cfg0.N)
def row (p : Fin 1136) : Fin 1136 := ⟨t.val * 1136 + p.val, by have := lt_of_lt_of_eq t.isLt (show cfg0.N = 1 from N_0); omega⟩
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)
theorem b0 : iblk m c 0 t = (ea fun p j => rd m c main_arg0 (ix2 (row t p) j) : FVec Ideal S1136x128 .f32) := by
  funext q; idx_vars q
  refine Eq.trans (b := V m c main_arg0 (ix2 (row t q0) q1)) ?_ (by entry_read; rfl)
  blk_ext [iblk, idx t, row]
theorem b1 : iblk m c 1 t = (ea fun p j => rd m c main_arg1 (ix2 (row t p) j) : FVec Ideal S1136x128 .f32) := by
  funext q; idx_vars q
  refine Eq.trans (b := V m c main_arg1 (ix2 (row t q0) q1)) ?_ (by entry_read; rfl)
  blk_ext [iblk, idx t, row]
theorem b2 : iblk m c 2 t = (ea fun p j => rd m c main_arg2 (ix2 (row t p) j) : FVec Ideal S1136x128 .f32) := by
  funext q; idx_vars q
  refine Eq.trans (b := V m c main_arg2 (ix2 (row t q0) q1)) ?_ (by entry_read; rfl)
  blk_ext [iblk, idx t, row]
theorem b3 : iblk m c 3 t = (ea fun p j => rd m c main_arg3 (ix2 (row t p) j) : FVec Ideal S1136x128 .f32) := by
  funext q; idx_vars q
  refine Eq.trans (b := V m c main_arg3 (ix2 (row t q0) q1)) ?_ (by entry_read; rfl)
  blk_ext [iblk, idx t, row]
theorem f4 : (dats m 0 c).arrAt 4 cfg0.N = (ea (dE (rd m c main_arg0) (rd m c main_arg1) (rd m c main_arg2) (rd m c main_arg3)) : FVec Ideal S1136x128 .f32) := by
  refine (dats m 0 c).arrAt_eq_of_covers 4 _ (by decide +kernel) fun t hf y => ?_
  blk_simp
  rw [after0_4]
  simp only [out0_4, canon_a, b0, b1, b2, b3, ld_a]
  refine Eq.trans (b := dE (rd m c main_arg0) (rd m c main_arg1) (rd m c main_arg2) (rd m c main_arg3) (row t (y 0)) (y 1)) rfl (congrArg₂ _ (Fin.ext ?_) (Fin.ext ?_)) <;> blk_simp [idx t, row]
theorem f5 : (dats m 0 c).arrAt 5 cfg0.N = (ea (mE (rd m c main_arg1) (rd m c main_arg2)) : FVec Ideal S1136x128 .f32) := by
  refine (dats m 0 c).arrAt_eq_of_covers 5 _ (by decide +kernel) fun t hf y => ?_
  blk_simp
  rw [after0_5]
  simp only [out0_5, canon_a, b0, b1, b2, b3, ld_a]
  refine Eq.trans (b := mE (rd m c main_arg1) (rd m c main_arg2) (row t (y 0)) (y 1)) rfl (congrArg₂ _ (Fin.ext ?_) (Fin.ext ?_)) <;> blk_simp [idx t, row]
theorem f6 : (dats m 0 c).arrAt 6 cfg0.N = (ea (vE (rd m c main_arg1) (rd m c main_arg3)) : FVec Ideal S1136x128 .f32) := by
  refine (dats m 0 c).arrAt_eq_of_covers 6 _ (by decide +kernel) fun t hf y => ?_
  blk_simp
  rw [after0_6]
  simp only [out0_6, canon_a, b0, b1, b2, b3, ld_a]
  refine Eq.trans (b := vE (rd m c main_arg1) (rd m c main_arg3) (row t (y 0)) (y 1)) rfl (congrArg₂ _ (Fin.ext ?_) (Fin.ext ?_)) <;> blk_simp [idx t, row]
theorem run : θ_run (defs (F := Ideal)) (onTc (τ := τ) (main (F := Ideal))) ⟨m, fun _ => 0, ρ⟩ fun r => ∀ c : Dev nD,
    rd r.2.mem c main_v0_0 = (ea (dE (rd m c main_arg0) (rd m c main_arg1) (rd m c main_arg2) (rd m c main_arg3)) : FVec Ideal S1136x128 .f32) ∧ rd r.2.mem c main_v0_1 = (ea (mE (rd m c main_arg1) (rd m c main_arg2)) : FVec Ideal S1136x128 .f32)
    ∧ rd r.2.mem c main_v0_2 = (ea (vE (rd m c main_arg1) (rd m c main_arg3)) : FVec Ideal S1136x128 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 :=
  (θ_run defs _ _).mono (fun r h c => ⟨((h.1 c).1 4).trans (f4 m c), ((h.1 c).1 5).trans (f5 m c), ((h.1 c).1 6).trans (f6 m c), h.2 c⟩) (θ_run_and (run_main m ρ) (unchanged m ρ))
end

namespace Ref
open Cert.AdamSmallRefIdeal
variable (m : (ℓ : Loc nD τ sig) → Buf (Elt Ideal) ℓ) (ρ : Dev nD → PrngReg)
theorem quiet : θ_run (defs (F := Ideal)) (onTc (τ := τ) (main (F := Ideal))) ⟨m, fun _ => 0, ρ⟩ fun r => (∀ c : Dev nD,
    rd r.2.mem c main_arg0 = rd m c main_arg0 ∧ rd r.2.mem c main_arg1 = rd m c main_arg1 ∧ rd r.2.mem c main_arg2 = rd m c main_arg2 ∧ rd r.2.mem c main_arg3 = rd m c main_arg3) ∧ r.2.sem = fun _ => 0 :=
  (θ_run defs _ _).mono (fun r h => ⟨fun c => (h c).2.2.2, sem_eq_zero_of_no_sems (by decide) r.2⟩) (Value.run m ρ)
theorem run : θ_run (defs (F := Ideal)) (onTc (τ := τ) (main (F := Ideal))) ⟨m, fun _ => 0, ρ⟩ fun r => ∀ c : Dev nD,
    rd r.2.mem c main_v23 = (ea (dE (rd m c main_arg0) (rd m c main_arg1) (rd m c main_arg2) (rd m c main_arg3)) : FVec Ideal S1136x128 .f32) ∧ rd r.2.mem c main_v4 = (ea (mE (rd m c main_arg1) (rd m c main_arg2)) : FVec Ideal S1136x128 .f32)
    ∧ rd r.2.mem c main_v10 = (ea (vE (rd m c main_arg1) (rd m c main_arg3)) : FVec Ideal S1136x128 .f32)
    ∧ rd r.2.mem c main_arg0 = rd m c main_arg0 ∧ rd r.2.mem c main_arg1 = rd m c main_arg1 ∧ rd r.2.mem c main_arg2 = rd m c main_arg2 ∧ rd r.2.mem c main_arg3 = rd m c main_arg3 := by
  refine (θ_run defs _ _).mono (fun r h c => ⟨(h c).1.trans ?_, (h c).2.1.trans ?_, (h c).2.2.1.trans ?_, (h c).2.2.2⟩) (Value.run m ρ)
    <;> (funext q; idx_vars q; pointwise; rfl)
end Ref
end Cert.Proof.AdamSmall
end
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_finite
public import proofs.«01_k».proof.Proof.Gen.ReferenceIdeal.Run
public import proofs.«01_k».proof.Proof.Gen.FfnDw.Frame
public import proofs.«01_k».proof.Proof.Gen.FfnDwIdeal.Frame
public import proofs.«01_k».proof.Proof.Gen.DwRefIdeal.Run
public import proofs.«01_k».proof.Proof.Gen.DuRefIdeal.Run
public import proofs.«01_k».proof.Proof.Gen.Pre_finite_proj
public import proofs.«01_k».proof.Proof.Gen.Pre_finite_xa
public import proofs.«01_k».proof.Proof.Gen.Pre_finite_mb
public import proofs.«01_k».proof.Proof.Gen.MergeBwd.Frame
public import proofs.«01_k».proof.Proof.Gen.XaFwd.Frame
public import proofs.«01_k».proof.Proof.Gen.XaFwdIdeal.Frame
public import proofs.«01_k».proof.Proof.Gen.MemBwd.Frame
public import proofs.«01_k».proof.Proof.Gen.MemBwdIdeal.Frame
public import proofs.«01_k».proof.Proof.Gen.MemDw.Frame
public import proofs.«01_k».proof.Proof.Gen.MemDwIdeal.Frame
public import proofs.«01_k».proof.Proof.Gen.XaFwdRefIdeal.Run
public import proofs.«01_k».proof.Proof.Gen.MemBwdRefIdeal.Run
public import proofs.«01_k».proof.Proof.Gen.MemDwRefIdeal.Run
public import proofs.«01_k».proof.Proof.Gen.MergeBwdIdeal.Frame
public import proofs.«01_k».proof.Proof.Gen.MergeBwdRefIdeal.Run
public import proofs.«01_k».proof.Proof.Gen.MergeFwd.Frame
public import proofs.«01_k».proof.Proof.Gen.MergeFwdIdeal.Frame
public import proofs.«01_k».proof.Proof.Gen.MergeFwdRefIdeal.Run
public import proofs.«01_k».proof.Proof.Gen.FfnFwd.Frame
public import proofs.«01_k».proof.Proof.Gen.FfnFwdIdeal.Frame
public import proofs.«01_k».proof.Proof.Gen.ProjBwd.Frame
public import proofs.«01_k».proof.Proof.Gen.ProjBwdIdeal.Frame
public import proofs.«01_k».proof.Proof.Gen.XaBwd.Frame
public import proofs.«01_k».proof.Proof.Gen.XaBwdIdeal.Frame
public import proofs.«01_k».proof.Proof.Gen.FwdRefIdeal.Run
public import proofs.«01_k».proof.Proof.Gen.ProjRefIdeal.Run
public import proofs.«01_k».proof.Proof.Gen.XaRefIdeal.Run
public import proofs.«01_k».proof.Proof.Gen.ProjFwd.Frame
public import proofs.«01_k».proof.Proof.Gen.ProjFwdIdeal.Frame
public import proofs.«01_k».proof.Proof.Gen.JointDw.Frame
public import proofs.«01_k».proof.Proof.Gen.JointDwIdeal.Frame
public import proofs.«01_k».proof.Proof.Gen.SquareDw.Frame
public import proofs.«01_k».proof.Proof.Gen.SquareDwIdeal.Frame
public import proofs.«01_k».proof.Proof.Gen.GatesDw.Frame
public import proofs.«01_k».proof.Proof.Gen.GatesDwIdeal.Frame
public import proofs.«01_k».proof.Proof.Gen.ForgetDw.Frame
public import proofs.«01_k».proof.Proof.Gen.ForgetDwIdeal.Frame
public import proofs.«01_k».proof.Proof.Gen.BranchDwA.Frame
public import proofs.«01_k».proof.Proof.Gen.BranchDwAIdeal.Frame
public import proofs.«01_k».proof.Proof.Gen.BranchDwB.Frame
public import proofs.«01_k».proof.Proof.Gen.BranchDwBIdeal.Frame
public import proofs.«01_k».proof.Proof.Gen.BranchDwC.Frame
public import proofs.«01_k».proof.Proof.Gen.BranchDwCIdeal.Frame
public import proofs.«01_k».proof.Proof.Gen.ProjFwdRefIdeal.Run
public import proofs.«01_k».proof.Proof.Gen.JointRefIdeal.Run
public import proofs.«01_k».proof.Proof.Gen.SquareRefIdeal.Run
public import proofs.«01_k».proof.Proof.Gen.SquareTRefIdeal.Run
public import proofs.«01_k».proof.Proof.Gen.GatesRefIdeal.Run
public import proofs.«01_k».proof.Proof.Gen.ForgetRefIdeal.Run
public import proofs.«01_k».proof.Proof.Gen.BranchRefAIdeal.Run
public import proofs.«01_k».proof.Proof.Gen.BranchRefBIdeal.Run
public import proofs.«01_k».proof.Proof.Gen.BranchRefCIdeal.Run
public import proofs.«01_k».proof.Proof.Gen.MemFwd.Frame
public import proofs.«01_k».proof.Proof.Gen.MemFwdIdeal.Frame
public import proofs.«01_k».proof.Proof.Gen.MemFwdRefIdeal.Run
public import proofs.«01_k».proof.Proof.Gen.AdamUp.Frame
public import proofs.«01_k».proof.Proof.Gen.AdamUpIdeal.Frame
public import proofs.«01_k».proof.Proof.Gen.AdamUpRefIdeal.Run
public import proofs.«01_k».proof.Proof.Gen.AdamDown.Frame
public import proofs.«01_k».proof.Proof.Gen.AdamDownIdeal.Frame
public import proofs.«01_k».proof.Proof.Gen.AdamDownRefIdeal.Run
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamBranch.Frame
public import proofs.«01_k».proof.Proof.Gen.AdamBranchIdeal.Frame
public import proofs.«01_k».proof.Proof.Gen.AdamBranchRefIdeal.Run
public import proofs.«01_k».proof.Proof.Gen.AdamSquare.Frame
public import proofs.«01_k».proof.Proof.Gen.AdamSquareIdeal.Frame
public import proofs.«01_k».proof.Proof.Gen.AdamSquareRefIdeal.Run
public import proofs.«01_k».proof.Proof.Gen.AdamSmall.Frame
public import proofs.«01_k».proof.Proof.Gen.AdamSmallIdeal.Frame
public import proofs.«01_k».proof.Proof.Gen.AdamSmallRefIdeal.Run
public import proofs.«01_k».proof.Proof.DwRef
public import proofs.«01_k».proof.Proof.FwdBlk
public import proofs.«01_k».proof.Proof.FwdRef
public import proofs.«01_k».proof.Proof.ProjBlk
public import proofs.«01_k».proof.Proof.ProjRef
public import proofs.«01_k».proof.Proof.ProjPre
public import proofs.«01_k».proof.Proof.XaQuiet
public import proofs.«01_k».proof.Proof.MmJointDw
public import proofs.«01_k».proof.Proof.MmSquareDw
public import proofs.«01_k».proof.Proof.MmGatesDw
public import proofs.«01_k».proof.Proof.MmForgetDw
public import proofs.«01_k».proof.Proof.MmBranchDwA
public import proofs.«01_k».proof.Proof.MmBranchDwB
public import proofs.«01_k».proof.Proof.MmBranchDwC
public import proofs.«01_k».proof.Proof.PfBlk
public import proofs.«01_k».proof.Proof.PfRef
public import proofs.«01_k».proof.Proof.FfnRunK
public import proofs.«01_k».proof.Proof.FfnRunR
public import proofs.«01_k».proof.Proof.FfnPre
public import Idealize.ShloMosaic.Adequacy
public import Idealize.ShloMosaic.Init
public import proofs.«01_k».proof.Proof.XaBlk
public import proofs.«01_k».proof.Proof.XaRef
public import proofs.«01_k».proof.Proof.XaPre
public import proofs.«01_k».proof.Proof.MbBlk
public import proofs.«01_k».proof.Proof.MbRef
public import proofs.«01_k».proof.Proof.MbPre
public import proofs.«01_k».proof.Proof.MfBlk
public import proofs.«01_k».proof.Proof.MfRef
public import proofs.«01_k».proof.Proof.XfBlk
public import proofs.«01_k».proof.Proof.XfRef
public import proofs.«01_k».proof.Proof.MemKer
public import proofs.«01_k».proof.Proof.MemRef
public import proofs.«01_k».proof.Proof.MemDwK
public import proofs.«01_k».proof.Proof.MemDwR
public import proofs.«01_k».proof.Proof.MemFwd
public import proofs.«01_k».proof.Proof.AdamUp
public import proofs.«01_k».proof.Proof.AdamDown
public import proofs.«01_k».proof.Proof.AdamIn
public import proofs.«01_k».proof.Proof.AdamBranch
public import proofs.«01_k».proof.Proof.AdamSquare
public import proofs.«01_k».proof.Proof.AdamSmall

@[expose] public section

noncomputable section

namespace Cert.Proof

open Idealize.ShloMosaic Idealize.SL.Sem

theorem frame_K : Cert.quiescent_Kernel := fun m ρ _ => Cert.Kernel.Gen.frame m ρ
theorem frame_KI : Cert.quiescent_KernelIdeal := fun m ρ _ => Cert.KernelIdeal.Gen.frame m ρ
theorem frame_KI_finite : Cert.quiescent_KernelIdeal_pre_finite := fun m ρ _ => Cert.KernelIdeal.Gen.frame m ρ
theorem frame_RI : Cert.quiescent_ReferenceIdeal := fun m ρ _ => FfnRunR.quiet m ρ
theorem frame_RI_finite : Cert.quiescent_ReferenceIdeal_pre_finite := fun m ρ _ => FfnRunR.quiet m ρ

/-- Both runs on the same real arguments end with the same formulas over the reals. -/
theorem algebraic : Cert.algebraic_KernelIdeal_ReferenceIdeal_pre_finite := by
  intro m g m' g' hpre hag
  have F := fun c => FfnPre.finite_of _ _ _ _ _ _ (hpre c)
  have k0 := fun c => (F c).1.symm
  have k1 := fun c => (F c).2.1.symm
  have k2 := fun c => (F c).2.2.1.symm
  have k3 := fun c => (F c).2.2.2.1.symm
  have k4 := fun c => (F c).2.2.2.2.1.symm
  have k5 := fun c => (F c).2.2.2.2.2.symm
  have K := FfnRunK.runK m g _ _ _ _ _ _ k0 k1 k2 k3 k4 k5
  have R := FfnRunR.runR m' g' _ _ _ _ _ _ (fun c => (hag c).1.trans (k0 c)) (fun c => (hag c).2.1.trans (k1 c))
    (fun c => (hag c).2.2.1.trans (k2 c)) (fun c => (hag c).2.2.2.1.trans (k3 c)) (fun c => (hag c).2.2.2.2.1.trans (k4 c))
    (fun c => (hag c).2.2.2.2.2.trans (k5 c))
  exact ⟨_, _, _, _, _, _, _, K, R⟩

theorem frame_DW : Cert.quiescent_FfnDw := fun m ρ _ => Cert.FfnDw.Gen.frame m ρ
theorem frame_DWI : Cert.quiescent_FfnDwIdeal := fun m ρ _ => Cert.FfnDwIdeal.Gen.frame m ρ
theorem frame_RW : Cert.quiescent_DwRefIdeal := fun m ρ _ => DwRef.quietW m ρ
theorem frame_RU : Cert.quiescent_DuRefIdeal := fun m ρ _ => DwRef.quietU m ρ

theorem algebraic_DW : Cert.algebraic_FfnDwIdeal_DwRefIdeal := by
  intro m g m' g' _ hag
  refine ⟨_, DwKer.run m g, (θ_run _ _ _).mono (fun r h c => ⟨(h c).1.trans ?_, (h c).2⟩) (DwRef.runW m' g')⟩
  try dsimp only [rd]
  rw [(hag c).1, (hag c).2]; rfl

theorem algebraic_DU : Cert.algebraic_FfnDwIdeal_DuRefIdeal := by
  intro m g m' g' _ hag
  refine ⟨_, DwKer.run m g, (θ_run _ _ _).mono (fun r h c => ⟨(h c).1.trans ?_, (h c).2⟩) (DwRef.runU m' g')⟩
  try dsimp only [rd]
  rw [(hag c).1, (hag c).2]; rfl

theorem frame_FW : Cert.quiescent_FfnFwd := fun m ρ _ => Cert.FfnFwd.Gen.frame m ρ
theorem frame_FWI : Cert.quiescent_FfnFwdIdeal := fun m ρ _ => Cert.FfnFwdIdeal.Gen.frame m ρ
theorem frame_RF : Cert.quiescent_FwdRefIdeal := fun m ρ _ => FwdRef.quiet m ρ
theorem frame_PB : Cert.quiescent_ProjBwd := fun m ρ _ => Cert.ProjBwd.Gen.frame m ρ
theorem frame_PBI : Cert.quiescent_ProjBwdIdeal := fun m ρ _ => Cert.ProjBwdIdeal.Gen.frame m ρ
theorem frame_PBI_finite : Cert.quiescent_ProjBwdIdeal_pre_finite_proj := fun m ρ _ => Cert.ProjBwdIdeal.Gen.frame m ρ
theorem frame_RP : Cert.quiescent_ProjRefIdeal := fun m ρ _ => ProjRef.quiet m ρ
theorem frame_RP_finite : Cert.quiescent_ProjRefIdeal_pre_finite_proj := fun m ρ _ => ProjRef.quiet m ρ
theorem frame_XB : Cert.quiescent_XaBwd := fun m ρ _ => Cert.XaBwd.Gen.frame m ρ
theorem frame_XBI : Cert.quiescent_XaBwdIdeal := fun m ρ _ => Cert.XaBwdIdeal.Gen.frame m ρ
theorem frame_RX : Cert.quiescent_XaRefIdeal := fun m ρ _ => XaQuiet.quiet m ρ

theorem algebraic_FW : Cert.algebraic_FfnFwdIdeal_FwdRefIdeal := by
  intro m g m' g' _ hag
  refine ⟨_, _, _, FwdBlk.run m g, (θ_run _ _ _).mono (fun r h c => ⟨(h c).1.trans ?_, (h c).2.1.trans ?_, (h c).2.2.1.trans ?_, (h c).2.2.2⟩) (FwdRef.run m' g')⟩
  · try dsimp only [rd]
    rw [(hag c).1, (hag c).2.1, (hag c).2.2.1, (hag c).2.2.2.1, (hag c).2.2.2.2]
  · try dsimp only [rd]
    rw [(hag c).1, (hag c).2.1, (hag c).2.2.1]
  · try dsimp only [rd]
    rw [(hag c).1, (hag c).2.1, (hag c).2.2.2.1]

theorem algebraic_PB : Cert.algebraic_ProjBwdIdeal_ProjRefIdeal_pre_finite_proj := by
  intro m g m' g' hpre hag
  have F := fun c => ProjPre.finite_of _ _ _ _ _ _ _ _ _ _ _ (hpre c)
  have K := ProjBlk.run m g _ (fun c => ⟨(F c).x, (F c).d, (F c).c, (F c).s, (F c).q, (F c).k, (F c).v, (F c).f, (F c).e, (F c).g, (F c).w⟩)
  have R := ProjRef.run m' g' _ (fun c => ⟨(hag c).1.trans (F c).x, (hag c).2.1.trans (F c).d, (hag c).2.2.1.trans (F c).c, (hag c).2.2.2.1.trans (F c).s, (hag c).2.2.2.2.1.trans (F c).q, (hag c).2.2.2.2.2.1.trans (F c).k, (hag c).2.2.2.2.2.2.1.trans (F c).v, (hag c).2.2.2.2.2.2.2.1.trans (F c).f, (hag c).2.2.2.2.2.2.2.2.1.trans (F c).e, (hag c).2.2.2.2.2.2.2.2.2.1.trans (F c).g, (hag c).2.2.2.2.2.2.2.2.2.2.trans (F c).w⟩)
  exact ⟨_, _, _, _, _, K, R⟩

theorem frame_PF : Cert.quiescent_ProjFwd := fun m ρ _ => Cert.ProjFwd.Gen.frame m ρ
theorem frame_PFI : Cert.quiescent_ProjFwdIdeal := fun m ρ _ => Cert.ProjFwdIdeal.Gen.frame m ρ
theorem frame_RPF : Cert.quiescent_ProjFwdRefIdeal := fun m ρ _ => PfRef.quiet m ρ

theorem algebraic_PF : Cert.algebraic_ProjFwdIdeal_ProjFwdRefIdeal := by
  intro m g m' g' _ hag
  refine ⟨_, _, _, _, _, PfBlk.run m g, (θ_run _ _ _).mono (fun r h c => ⟨(h c).1.trans ?_, (h c).2.1.trans ?_, (h c).2.2.1.trans ?_, (h c).2.2.2.1.trans ?_, (h c).2.2.2.2.1.trans ?_, (h c).2.2.2.2.2⟩) (PfRef.run m' g')⟩
    <;> simp only [rd, (hag c).1, (hag c).2.1, (hag c).2.2]

theorem frame_JointDw : Cert.quiescent_JointDw := fun m ρ _ => Cert.JointDw.Gen.frame m ρ
theorem frame_JointDwI : Cert.quiescent_JointDwIdeal := fun m ρ _ => Cert.JointDwIdeal.Gen.frame m ρ
theorem frame_JointRef : Cert.quiescent_JointRefIdeal := fun m ρ _ => MmJointDw.JointRef.quiet m ρ
theorem algebraic_JointRef : Cert.algebraic_JointDwIdeal_JointRefIdeal := by
  intro m g m' g' _ hag
  refine ⟨_, MmJointDw.run m g, (θ_run _ _ _).mono (fun r h c => ⟨(h c).1.trans ?_, (h c).2⟩) (MmJointDw.JointRef.run m' g')⟩
  try dsimp only [rd]
  rw [(hag c).1, (hag c).2]; rfl

theorem frame_SquareDw : Cert.quiescent_SquareDw := fun m ρ _ => Cert.SquareDw.Gen.frame m ρ
theorem frame_SquareDwI : Cert.quiescent_SquareDwIdeal := fun m ρ _ => Cert.SquareDwIdeal.Gen.frame m ρ
theorem frame_SquareRef : Cert.quiescent_SquareRefIdeal := fun m ρ _ => MmSquareDw.SquareRef.quiet m ρ
theorem algebraic_SquareRef : Cert.algebraic_SquareDwIdeal_SquareRefIdeal := by
  intro m g m' g' _ hag
  refine ⟨_, MmSquareDw.run m g, (θ_run _ _ _).mono (fun r h c => ⟨(h c).1.trans ?_, (h c).2⟩) (MmSquareDw.SquareRef.run m' g')⟩
  try dsimp only [rd]
  rw [(hag c).1, (hag c).2]; rfl
theorem frame_SquareTRef : Cert.quiescent_SquareTRefIdeal := fun m ρ _ => MmSquareDw.SquareTRef.quiet m ρ
theorem algebraic_SquareTRef : Cert.algebraic_SquareDwIdeal_SquareTRefIdeal := by
  intro m g m' g' _ hag
  refine ⟨_, MmSquareDw.run m g, (θ_run _ _ _).mono (fun r h c => ⟨(h c).1.trans ?_, (h c).2⟩) (MmSquareDw.SquareTRef.run m' g')⟩
  try dsimp only [rd]
  rw [(hag c).1, (hag c).2]; rfl

theorem frame_GatesDw : Cert.quiescent_GatesDw := fun m ρ _ => Cert.GatesDw.Gen.frame m ρ
theorem frame_GatesDwI : Cert.quiescent_GatesDwIdeal := fun m ρ _ => Cert.GatesDwIdeal.Gen.frame m ρ
theorem frame_GatesRef : Cert.quiescent_GatesRefIdeal := fun m ρ _ => MmGatesDw.GatesRef.quiet m ρ
theorem algebraic_GatesRef : Cert.algebraic_GatesDwIdeal_GatesRefIdeal := by
  intro m g m' g' _ hag
  refine ⟨_, MmGatesDw.run m g, (θ_run _ _ _).mono (fun r h c => ⟨(h c).1.trans ?_, (h c).2⟩) (MmGatesDw.GatesRef.run m' g')⟩
  try dsimp only [rd]
  rw [(hag c).1, (hag c).2]; rfl

theorem frame_ForgetDw : Cert.quiescent_ForgetDw := fun m ρ _ => Cert.ForgetDw.Gen.frame m ρ
theorem frame_ForgetDwI : Cert.quiescent_ForgetDwIdeal := fun m ρ _ => Cert.ForgetDwIdeal.Gen.frame m ρ
theorem frame_ForgetRef : Cert.quiescent_ForgetRefIdeal := fun m ρ _ => MmForgetDw.ForgetRef.quiet m ρ
theorem algebraic_ForgetRef : Cert.algebraic_ForgetDwIdeal_ForgetRefIdeal := by
  intro m g m' g' _ hag
  refine ⟨_, MmForgetDw.run m g, (θ_run _ _ _).mono (fun r h c => ⟨(h c).1.trans ?_, (h c).2⟩) (MmForgetDw.ForgetRef.run m' g')⟩
  try dsimp only [rd]
  rw [(hag c).1, (hag c).2]; rfl

theorem frame_BranchDwA : Cert.quiescent_BranchDwA := fun m ρ _ => Cert.BranchDwA.Gen.frame m ρ
theorem frame_BranchDwAI : Cert.quiescent_BranchDwAIdeal := fun m ρ _ => Cert.BranchDwAIdeal.Gen.frame m ρ
theorem frame_BranchRefA : Cert.quiescent_BranchRefAIdeal := fun m ρ _ => MmBranchDwA.BranchRefA.quiet m ρ
theorem algebraic_BranchRefA : Cert.algebraic_BranchDwAIdeal_BranchRefAIdeal := by
  intro m g m' g' _ hag
  refine ⟨_, MmBranchDwA.run m g, (θ_run _ _ _).mono (fun r h c => ⟨(h c).1.trans ?_, (h c).2⟩) (MmBranchDwA.BranchRefA.run m' g')⟩
  try dsimp only [rd]
  rw [(hag c).1, (hag c).2]; rfl

theorem frame_BranchDwB : Cert.quiescent_BranchDwB := fun m ρ _ => Cert.BranchDwB.Gen.frame m ρ
theorem frame_BranchDwBI : Cert.quiescent_BranchDwBIdeal := fun m ρ _ => Cert.BranchDwBIdeal.Gen.frame m ρ
theorem frame_BranchRefB : Cert.quiescent_BranchRefBIdeal := fun m ρ _ => MmBranchDwB.BranchRefB.quiet m ρ
theorem algebraic_BranchRefB : Cert.algebraic_BranchDwBIdeal_BranchRefBIdeal := by
  intro m g m' g' _ hag
  refine ⟨_, MmBranchDwB.run m g, (θ_run _ _ _).mono (fun r h c => ⟨(h c).1.trans ?_, (h c).2⟩) (MmBranchDwB.BranchRefB.run m' g')⟩
  try dsimp only [rd]
  rw [(hag c).1, (hag c).2]; rfl

theorem frame_BranchDwC : Cert.quiescent_BranchDwC := fun m ρ _ => Cert.BranchDwC.Gen.frame m ρ
theorem frame_BranchDwCI : Cert.quiescent_BranchDwCIdeal := fun m ρ _ => Cert.BranchDwCIdeal.Gen.frame m ρ
theorem frame_BranchRefC : Cert.quiescent_BranchRefCIdeal := fun m ρ _ => MmBranchDwC.BranchRefC.quiet m ρ
theorem algebraic_BranchRefC : Cert.algebraic_BranchDwCIdeal_BranchRefCIdeal := by
  intro m g m' g' _ hag
  refine ⟨_, MmBranchDwC.run m g, (θ_run _ _ _).mono (fun r h c => ⟨(h c).1.trans ?_, (h c).2⟩) (MmBranchDwC.BranchRefC.run m' g')⟩
  try dsimp only [rd]
  rw [(hag c).1, (hag c).2]; rfl

theorem frame_XBI_finite : Cert.quiescent_XaBwdIdeal_pre_finite_xa := fun m ρ _ => Cert.XaBwdIdeal.Gen.frame m ρ
theorem frame_RX_finite : Cert.quiescent_XaRefIdeal_pre_finite_xa := fun m ρ _ => XaQuiet.quiet m ρ

theorem algebraic_XB : Cert.algebraic_XaBwdIdeal_XaRefIdeal_pre_finite_xa := by
  intro m g m' g' hpre hag
  have F := fun c => XaPre.finite_of _ _ _ _ _ _ _ (hpre c)
  have K := XaBlk.run m g _ (fun c => ⟨(F c).x, (F c).d, (F c).g, (F c).k, (F c).v, (F c).wq, (F c).wo⟩)
  have R := XaRef.run m' g' _ (fun c => ⟨(hag c).1.trans (F c).x, (hag c).2.1.trans (F c).d, (hag c).2.2.1.trans (F c).g, (hag c).2.2.2.1.trans (F c).k, (hag c).2.2.2.2.1.trans (F c).v, (hag c).2.2.2.2.2.1.trans (F c).wq, (hag c).2.2.2.2.2.2.trans (F c).wo⟩)
  exact ⟨_, _, _, _, _, _, _, _, K, R⟩

theorem frame_MB : Cert.quiescent_MergeBwd := fun m ρ _ => Cert.MergeBwd.Gen.frame m ρ
theorem frame_MBI : Cert.quiescent_MergeBwdIdeal := fun m ρ _ => Cert.MergeBwdIdeal.Gen.frame m ρ
theorem frame_MBI_finite : Cert.quiescent_MergeBwdIdeal_pre_finite_mb := fun m ρ _ => Cert.MergeBwdIdeal.Gen.frame m ρ
theorem frame_RMB : Cert.quiescent_MergeBwdRefIdeal := fun m ρ _ => MbRef.quiet m ρ
theorem frame_RMB_finite : Cert.quiescent_MergeBwdRefIdeal_pre_finite_mb := fun m ρ _ => MbRef.quiet m ρ
theorem algebraic_MB : Cert.algebraic_MergeBwdIdeal_MergeBwdRefIdeal_pre_finite_mb := by
  intro m g m' g' hpre hag
  refine ⟨_, _, _, _, _, _, _, _, MbBlk.run m g (fun c => MbPre.finite_of _ _ _ _ _ _ _ (hpre c)), (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (MbRef.run m' g')⟩
    <;> simp only [rd, (hag c).1, (hag c).2.1, (hag c).2.2.1, (hag c).2.2.2.1, (hag c).2.2.2.2.1, (hag c).2.2.2.2.2.1, (hag c).2.2.2.2.2.2]

theorem frame_MF : Cert.quiescent_MergeFwd := fun m ρ _ => Cert.MergeFwd.Gen.frame m ρ
theorem frame_MFI : Cert.quiescent_MergeFwdIdeal := fun m ρ _ => Cert.MergeFwdIdeal.Gen.frame m ρ
theorem frame_RMF : Cert.quiescent_MergeFwdRefIdeal := fun m ρ _ => MfRef.quiet m ρ
theorem algebraic_MF : Cert.algebraic_MergeFwdIdeal_MergeFwdRefIdeal := by
  intro m g m' g' _ hag
  refine ⟨_, MfBlk.run m g, (θ_run _ _ _).mono (fun r h c => ⟨(h c).1.trans ?_, (h c).2⟩) (MfRef.run m' g')⟩
  try dsimp only [rd]
  rw [(hag c).1, (hag c).2.1, (hag c).2.2.1, (hag c).2.2.2.1, (hag c).2.2.2.2.1, (hag c).2.2.2.2.2.1, (hag c).2.2.2.2.2.2]

theorem frame_XF : Cert.quiescent_XaFwd := fun m ρ _ => Cert.XaFwd.Gen.frame m ρ
theorem frame_XFI : Cert.quiescent_XaFwdIdeal := fun m ρ _ => Cert.XaFwdIdeal.Gen.frame m ρ
theorem frame_RXF : Cert.quiescent_XaFwdRefIdeal := fun m ρ _ => XfRef.quiet m ρ
theorem algebraic_XF : Cert.algebraic_XaFwdIdeal_XaFwdRefIdeal := by
  intro m g m' g' _ hag
  refine ⟨_, XfBlk.run m g, (θ_run _ _ _).mono (fun r h c => ⟨(h c).1.trans ?_, (h c).2⟩) (XfRef.run m' g')⟩
  try dsimp only [rd]
  rw [(hag c).1, (hag c).2.1, (hag c).2.2.1, (hag c).2.2.2.1, (hag c).2.2.2.2.1, (hag c).2.2.2.2.2]

theorem frame_MEM : Cert.quiescent_MemBwd := fun m ρ _ => Cert.MemBwd.Gen.frame m ρ
theorem frame_MEMI : Cert.quiescent_MemBwdIdeal := fun m ρ _ => Cert.MemBwdIdeal.Gen.frame m ρ
theorem frame_RMEM : Cert.quiescent_MemBwdRefIdeal := fun m ρ _ => MemRef.quiet m ρ
theorem algebraic_MEM : Cert.algebraic_MemBwdIdeal_MemBwdRefIdeal := by
  intro m g m' g' _ hag
  refine ⟨_, _, _, MemKer.run m g, (θ_run _ _ _).mono (fun r h c => ⟨(h c).1.trans ?_, (h c).2.1.trans ?_, (h c).2.2.1.trans ?_, (h c).2.2.2⟩) (MemRef.run m' g')⟩
    <;> simp only [rd, (hag c).1, (hag c).2.2.1, (hag c).2.2.2.1, (hag c).2.2.2.2.1, (hag c).2.2.2.2.2]

theorem frame_MD : Cert.quiescent_MemDw := fun m ρ _ => Cert.MemDw.Gen.frame m ρ
theorem frame_MDI : Cert.quiescent_MemDwIdeal := fun m ρ _ => Cert.MemDwIdeal.Gen.frame m ρ
theorem frame_RMD : Cert.quiescent_MemDwRefIdeal := fun m ρ _ => MemDwR.quiet m ρ
theorem algebraic_MD : Cert.algebraic_MemDwIdeal_MemDwRefIdeal := by
  intro m g m' g' _ hag
  refine ⟨_, MemDwK.run m g, (θ_run _ _ _).mono (fun r h c => ⟨(h c).1.trans ?_, (h c).2⟩) (MemDwR.run m' g')⟩
  try dsimp only [rd]
  rw [(hag c).1, (hag c).2]; rfl

theorem frame_MemFwd : Cert.quiescent_MemFwd := fun m ρ _ => Cert.MemFwd.Gen.frame m ρ
theorem frame_MemFwdI : Cert.quiescent_MemFwdIdeal := fun m ρ _ => Cert.MemFwdIdeal.Gen.frame m ρ
theorem frame_RMemFwd : Cert.quiescent_MemFwdRefIdeal := fun m ρ _ => MemFwd.Ref.quiet m ρ
theorem algebraic_MemFwd : Cert.algebraic_MemFwdIdeal_MemFwdRefIdeal := by
  intro m g m' g' _ hag
  refine ⟨_, _, _, MemFwd.run m g, (θ_run _ _ _).mono (fun r h c => ⟨(h c).1.trans ?_, (h c).2.1.trans ?_, (h c).2.2.1.trans ?_, (h c).2.2.2⟩) (MemFwd.Ref.run m' g')⟩
    <;> simp only [rd, (hag c).1, (hag c).2.1, (hag c).2.2.1, (hag c).2.2.2]

theorem frame_AdamUp : Cert.quiescent_AdamUp := fun m ρ _ => Cert.AdamUp.Gen.frame m ρ
theorem frame_AdamUpI : Cert.quiescent_AdamUpIdeal := fun m ρ _ => Cert.AdamUpIdeal.Gen.frame m ρ
theorem frame_RAdamUp : Cert.quiescent_AdamUpRefIdeal := fun m ρ _ => AdamUp.Ref.quiet m ρ
theorem algebraic_AdamUp : Cert.algebraic_AdamUpIdeal_AdamUpRefIdeal := by
  intro m g m' g' _ hag
  refine ⟨_, _, _, AdamUp.run m g, (θ_run _ _ _).mono (fun r h c => ⟨(h c).1.trans ?_, (h c).2.1.trans ?_, (h c).2.2.1.trans ?_, (h c).2.2.2⟩) (AdamUp.Ref.run m' g')⟩
    <;> simp only [rd, (hag c).1, (hag c).2.1, (hag c).2.2.1, (hag c).2.2.2]

theorem frame_AdamDown : Cert.quiescent_AdamDown := fun m ρ _ => Cert.AdamDown.Gen.frame m ρ
theorem frame_AdamDownI : Cert.quiescent_AdamDownIdeal := fun m ρ _ => Cert.AdamDownIdeal.Gen.frame m ρ
theorem frame_RAdamDown : Cert.quiescent_AdamDownRefIdeal := fun m ρ _ => AdamDown.Ref.quiet m ρ
theorem algebraic_AdamDown : Cert.algebraic_AdamDownIdeal_AdamDownRefIdeal := by
  intro m g m' g' _ hag
  refine ⟨_, _, _, AdamDown.run m g, (θ_run _ _ _).mono (fun r h c => ⟨(h c).1.trans ?_, (h c).2.1.trans ?_, (h c).2.2.1.trans ?_, (h c).2.2.2⟩) (AdamDown.Ref.run m' g')⟩
    <;> simp only [rd, (hag c).1, (hag c).2.1, (hag c).2.2.1, (hag c).2.2.2]

theorem frame_AdamIn : Cert.quiescent_AdamIn := fun m ρ _ => Cert.AdamIn.Gen.frame m ρ
theorem frame_AdamInI : Cert.quiescent_AdamInIdeal := fun m ρ _ => Cert.AdamInIdeal.Gen.frame m ρ
theorem frame_RAdamIn : Cert.quiescent_AdamInRefIdeal := fun m ρ _ => AdamIn.Ref.quiet m ρ
theorem algebraic_AdamIn : Cert.algebraic_AdamInIdeal_AdamInRefIdeal := by
  intro m g m' g' _ hag
  refine ⟨_, _, _, AdamIn.run m g, (θ_run _ _ _).mono (fun r h c => ⟨(h c).1.trans ?_, (h c).2.1.trans ?_, (h c).2.2.1.trans ?_, (h c).2.2.2⟩) (AdamIn.Ref.run m' g')⟩
    <;> simp only [rd, (hag c).1, (hag c).2.1, (hag c).2.2.1, (hag c).2.2.2]

theorem frame_AdamBranch : Cert.quiescent_AdamBranch := fun m ρ _ => Cert.AdamBranch.Gen.frame m ρ
theorem frame_AdamBranchI : Cert.quiescent_AdamBranchIdeal := fun m ρ _ => Cert.AdamBranchIdeal.Gen.frame m ρ
theorem frame_RAdamBranch : Cert.quiescent_AdamBranchRefIdeal := fun m ρ _ => AdamBranch.Ref.quiet m ρ
theorem algebraic_AdamBranch : Cert.algebraic_AdamBranchIdeal_AdamBranchRefIdeal := by
  intro m g m' g' _ hag
  refine ⟨_, _, _, AdamBranch.run m g, (θ_run _ _ _).mono (fun r h c => ⟨(h c).1.trans ?_, (h c).2.1.trans ?_, (h c).2.2.1.trans ?_, (h c).2.2.2⟩) (AdamBranch.Ref.run m' g')⟩
    <;> simp only [rd, (hag c).1, (hag c).2.1, (hag c).2.2.1, (hag c).2.2.2]

theorem frame_AdamSquare : Cert.quiescent_AdamSquare := fun m ρ _ => Cert.AdamSquare.Gen.frame m ρ
theorem frame_AdamSquareI : Cert.quiescent_AdamSquareIdeal := fun m ρ _ => Cert.AdamSquareIdeal.Gen.frame m ρ
theorem frame_RAdamSquare : Cert.quiescent_AdamSquareRefIdeal := fun m ρ _ => AdamSquare.Ref.quiet m ρ
theorem algebraic_AdamSquare : Cert.algebraic_AdamSquareIdeal_AdamSquareRefIdeal := by
  intro m g m' g' _ hag
  refine ⟨_, _, _, AdamSquare.run m g, (θ_run _ _ _).mono (fun r h c => ⟨(h c).1.trans ?_, (h c).2.1.trans ?_, (h c).2.2.1.trans ?_, (h c).2.2.2⟩) (AdamSquare.Ref.run m' g')⟩
    <;> simp only [rd, (hag c).1, (hag c).2.1, (hag c).2.2.1, (hag c).2.2.2]

theorem frame_AdamSmall : Cert.quiescent_AdamSmall := fun m ρ _ => Cert.AdamSmall.Gen.frame m ρ
theorem frame_AdamSmallI : Cert.quiescent_AdamSmallIdeal := fun m ρ _ => Cert.AdamSmallIdeal.Gen.frame m ρ
theorem frame_RAdamSmall : Cert.quiescent_AdamSmallRefIdeal := fun m ρ _ => AdamSmall.Ref.quiet m ρ
theorem algebraic_AdamSmall : Cert.algebraic_AdamSmallIdeal_AdamSmallRefIdeal := by
  intro m g m' g' _ hag
  refine ⟨_, _, _, AdamSmall.run m g, (θ_run _ _ _).mono (fun r h c => ⟨(h c).1.trans ?_, (h c).2.1.trans ?_, (h c).2.2.1.trans ?_, (h c).2.2.2⟩) (AdamSmall.Ref.run m' g')⟩
    <;> simp only [rd, (hag c).1, (hag c).2.1, (hag c).2.2.1, (hag c).2.2.2]

theorem claim : Cert.Claim := ⟨Cert.Kernel.Gen.facts, Cert.KernelIdeal.Gen.facts, Cert.ReferenceIdeal.Gen.facts,
  Cert.FfnDw.Gen.facts, Cert.FfnDwIdeal.Gen.facts, Cert.DwRefIdeal.Gen.facts, Cert.DuRefIdeal.Gen.facts,
  Cert.FfnFwd.Gen.facts, Cert.FfnFwdIdeal.Gen.facts, Cert.FwdRefIdeal.Gen.facts, Cert.ProjBwd.Gen.facts, Cert.ProjBwdIdeal.Gen.facts, Cert.ProjRefIdeal.Gen.facts,
  Cert.XaBwd.Gen.facts, Cert.XaBwdIdeal.Gen.facts, Cert.XaRefIdeal.Gen.facts,
  Cert.ProjFwd.Gen.facts, Cert.ProjFwdIdeal.Gen.facts, Cert.ProjFwdRefIdeal.Gen.facts, Cert.JointDw.Gen.facts, Cert.JointDwIdeal.Gen.facts,
  Cert.JointRefIdeal.Gen.facts, Cert.SquareDw.Gen.facts, Cert.SquareDwIdeal.Gen.facts, Cert.SquareRefIdeal.Gen.facts, Cert.SquareTRefIdeal.Gen.facts,
  Cert.GatesDw.Gen.facts, Cert.GatesDwIdeal.Gen.facts, Cert.GatesRefIdeal.Gen.facts, Cert.ForgetDw.Gen.facts, Cert.ForgetDwIdeal.Gen.facts,
  Cert.ForgetRefIdeal.Gen.facts, Cert.BranchDwA.Gen.facts, Cert.BranchDwAIdeal.Gen.facts, Cert.BranchRefAIdeal.Gen.facts, Cert.BranchDwB.Gen.facts,
  Cert.BranchDwBIdeal.Gen.facts, Cert.BranchRefBIdeal.Gen.facts, Cert.BranchDwC.Gen.facts, Cert.BranchDwCIdeal.Gen.facts, Cert.BranchRefCIdeal.Gen.facts,
  Cert.MergeBwd.Gen.facts, Cert.MergeBwdIdeal.Gen.facts, Cert.MergeBwdRefIdeal.Gen.facts, Cert.MergeFwd.Gen.facts, Cert.MergeFwdIdeal.Gen.facts, Cert.MergeFwdRefIdeal.Gen.facts,
  Cert.XaFwd.Gen.facts, Cert.XaFwdIdeal.Gen.facts, Cert.XaFwdRefIdeal.Gen.facts,
  Cert.MemBwd.Gen.facts, Cert.MemBwdIdeal.Gen.facts, Cert.MemBwdRefIdeal.Gen.facts,
  Cert.MemDw.Gen.facts, Cert.MemDwIdeal.Gen.facts, Cert.MemDwRefIdeal.Gen.facts,
  Cert.MemFwd.Gen.facts, Cert.MemFwdIdeal.Gen.facts, Cert.MemFwdRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamIn.Gen.facts, Cert.AdamInIdeal.Gen.facts, Cert.AdamInRefIdeal.Gen.facts,
  Cert.AdamBranch.Gen.facts, Cert.AdamBranchIdeal.Gen.facts, Cert.AdamBranchRefIdeal.Gen.facts,
  Cert.AdamSquare.Gen.facts, Cert.AdamSquareIdeal.Gen.facts, Cert.AdamSquareRefIdeal.Gen.facts,
  Cert.AdamSmall.Gen.facts, Cert.AdamSmallIdeal.Gen.facts, Cert.AdamSmallRefIdeal.Gen.facts,
  Cert.Pre_finite.Gen.facts, Cert.Pre_finite_proj.Gen.facts, Cert.Pre_finite_xa.Gen.facts, Cert.Pre_finite_mb.Gen.facts,
  frame_K, frame_KI, frame_KI_finite, frame_RI, frame_RI_finite, frame_DW, frame_DWI, frame_RW, frame_RU,
  frame_FW, frame_FWI, frame_RF, frame_PB, frame_PBI, frame_PBI_finite, frame_RP, frame_RP_finite,
  frame_XB, frame_XBI, frame_XBI_finite, frame_RX, frame_RX_finite,
  frame_PF, frame_PFI, frame_RPF, frame_JointDw, frame_JointDwI, frame_JointRef, frame_SquareDw, frame_SquareDwI,
  frame_SquareRef, frame_SquareTRef, frame_GatesDw, frame_GatesDwI, frame_GatesRef, frame_ForgetDw, frame_ForgetDwI, frame_ForgetRef,
  frame_BranchDwA, frame_BranchDwAI, frame_BranchRefA, frame_BranchDwB, frame_BranchDwBI, frame_BranchRefB, frame_BranchDwC, frame_BranchDwCI,
  frame_BranchRefC,
  frame_MB, frame_MBI, frame_MBI_finite, frame_RMB, frame_RMB_finite, frame_MF, frame_MFI, frame_RMF,
  frame_XF, frame_XFI, frame_RXF, frame_MEM, frame_MEMI, frame_RMEM, frame_MD, frame_MDI, frame_RMD,
  frame_MemFwd, frame_MemFwdI, frame_RMemFwd,
  frame_AdamUp, frame_AdamUpI, frame_RAdamUp,
  frame_AdamDown, frame_AdamDownI, frame_RAdamDown,
  frame_AdamIn, frame_AdamInI, frame_RAdamIn,
  frame_AdamBranch, frame_AdamBranchI, frame_RAdamBranch,
  frame_AdamSquare, frame_AdamSquareI, frame_RAdamSquare,
  frame_AdamSmall, frame_AdamSmallI, frame_RAdamSmall,
  trivial, algebraic, trivial, algebraic_DW, algebraic_DU, trivial, algebraic_FW, trivial, algebraic_PB, trivial, algebraic_XB,
  trivial, algebraic_PF, trivial, algebraic_JointRef, trivial, algebraic_SquareRef, algebraic_SquareTRef, trivial,
  algebraic_GatesRef, trivial, algebraic_ForgetRef, trivial, algebraic_BranchRefA, trivial, algebraic_BranchRefB, trivial,
  algebraic_BranchRefC, trivial, algebraic_MB, trivial, algebraic_MF, trivial, algebraic_XF, trivial, algebraic_MEM, trivial, algebraic_MD,
  trivial, algebraic_MemFwd, trivial, algebraic_AdamUp, trivial, algebraic_AdamDown, trivial, algebraic_AdamIn, trivial, algebraic_AdamBranch, trivial, algebraic_AdamSquare, trivial, algebraic_AdamSmall⟩

end Cert.Proof

end
